-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_KernelProjW (m : (ℓ : Loc Cert.KernelProjW.nD Cert.KernelProjW.τ Cert.KernelProjW.sig) → Buf (Elt Bits) ℓ) : Prop :=
  True

def Pre_KernelProjWIdeal (m : (ℓ : Loc Cert.KernelProjWIdeal.nD Cert.KernelProjWIdeal.τ Cert.KernelProjWIdeal.sig) → Buf (Elt Ideal) ℓ) : Prop :=
  True

def Pre_ReferenceProjWIdeal (m : (ℓ : Loc Cert.ReferenceProjWIdeal.nD Cert.ReferenceProjWIdeal.τ Cert.ReferenceProjWIdeal.sig) → Buf (Elt Ideal) ℓ) : Prop :=
  True

def Pre_KernelProjBottom (m : (ℓ : Loc Cert.KernelProjBottom.nD Cert.KernelProjBottom.τ Cert.KernelProjBottom.sig) → Buf (Elt Bits) ℓ) : Prop :=
  True

def Pre_KernelProjBottomIdeal (m : (ℓ : Loc Cert.KernelProjBottomIdeal.nD Cert.KernelProjBottomIdeal.τ Cert.KernelProjBottomIdeal.sig) → Buf (Elt Ideal) ℓ) : Prop :=
  True

def Pre_ReferenceProjBottomIdeal (m : (ℓ : Loc Cert.ReferenceProjBottomIdeal.nD Cert.ReferenceProjBottomIdeal.τ Cert.ReferenceProjBottomIdeal.sig) → Buf (Elt Ideal) ℓ) : Prop :=
  True

def Pre_KernelProjTop (m : (ℓ : Loc Cert.KernelProjTop.nD Cert.KernelProjTop.τ Cert.KernelProjTop.sig) → Buf (Elt Bits) ℓ) : Prop :=
  True

def Pre_KernelProjTopIdeal (m : (ℓ : Loc Cert.KernelProjTopIdeal.nD Cert.KernelProjTopIdeal.τ Cert.KernelProjTopIdeal.sig) → Buf (Elt Ideal) ℓ) : Prop :=
  True

def Pre_ReferenceProjTopIdeal (m : (ℓ : Loc Cert.ReferenceProjTopIdeal.nD Cert.ReferenceProjTopIdeal.τ Cert.ReferenceProjTopIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelFfnInAct (m : (ℓ : Loc Cert.KernelFfnInAct.nD Cert.KernelFfnInAct.τ Cert.KernelFfnInAct.sig) → Buf (Elt Bits) ℓ) : Prop :=
  True

def Pre_KernelFfnInActIdeal (m : (ℓ : Loc Cert.KernelFfnInActIdeal.nD Cert.KernelFfnInActIdeal.τ Cert.KernelFfnInActIdeal.sig) → Buf (Elt Ideal) ℓ) : Prop :=
  True

def Pre_ReferenceFfnInActIdeal (m : (ℓ : Loc Cert.ReferenceFfnInActIdeal.nD Cert.ReferenceFfnInActIdeal.τ Cert.ReferenceFfnInActIdeal.sig) → Buf (Elt Ideal) ℓ) : Prop :=
  True

def Pre_KernelFfnInW (m : (ℓ : Loc Cert.KernelFfnInW.nD Cert.KernelFfnInW.τ Cert.KernelFfnInW.sig) → Buf (Elt Bits) ℓ) : Prop :=
  True

def Pre_KernelFfnInWIdeal (m : (ℓ : Loc Cert.KernelFfnInWIdeal.nD Cert.KernelFfnInWIdeal.τ Cert.KernelFfnInWIdeal.sig) → Buf (Elt Ideal) ℓ) : Prop :=
  True

def Pre_ReferenceFfnInWIdeal (m : (ℓ : Loc Cert.ReferenceFfnInWIdeal.nD Cert.ReferenceFfnInWIdeal.τ Cert.ReferenceFfnInWIdeal.sig) → Buf (Elt Ideal) ℓ) : Prop :=
  True

def Pre_KernelFfnIn (m : (ℓ : Loc Cert.KernelFfnIn.nD Cert.KernelFfnIn.τ Cert.KernelFfnIn.sig) → Buf (Elt Bits) ℓ) : Prop :=
  True

def Pre_KernelFfnInIdeal (m : (ℓ : Loc Cert.KernelFfnInIdeal.nD Cert.KernelFfnInIdeal.τ Cert.KernelFfnInIdeal.sig) → Buf (Elt Ideal) ℓ) : Prop :=
  True

def Pre_ReferenceFfnInIdeal (m : (ℓ : Loc Cert.ReferenceFfnInIdeal.nD Cert.ReferenceFfnInIdeal.τ Cert.ReferenceFfnInIdeal.sig) → Buf (Elt Ideal) ℓ) : Prop :=
  True

def Pre_KernelFfnOutW (m : (ℓ : Loc Cert.KernelFfnOutW.nD Cert.KernelFfnOutW.τ Cert.KernelFfnOutW.sig) → Buf (Elt Bits) ℓ) : Prop :=
  True

def Pre_KernelFfnOutWIdeal (m : (ℓ : Loc Cert.KernelFfnOutWIdeal.nD Cert.KernelFfnOutWIdeal.τ Cert.KernelFfnOutWIdeal.sig) → Buf (Elt Ideal) ℓ) : Prop :=
  True

def Pre_ReferenceFfnOutWIdeal (m : (ℓ : Loc Cert.ReferenceFfnOutWIdeal.nD Cert.ReferenceFfnOutWIdeal.τ Cert.ReferenceFfnOutWIdeal.sig) → Buf (Elt Ideal) ℓ) : Prop :=
  True

def Pre_KernelOutW (m : (ℓ : Loc Cert.KernelOutW.nD Cert.KernelOutW.τ Cert.KernelOutW.sig) → Buf (Elt Bits) ℓ) : Prop :=
  True

def Pre_KernelOutWIdeal (m : (ℓ : Loc Cert.KernelOutWIdeal.nD Cert.KernelOutWIdeal.τ Cert.KernelOutWIdeal.sig) → Buf (Elt Ideal) ℓ) : Prop :=
  True

def Pre_ReferenceOutWIdeal (m : (ℓ : Loc Cert.ReferenceOutWIdeal.nD Cert.ReferenceOutWIdeal.τ Cert.ReferenceOutWIdeal.sig) → Buf (Elt Ideal) ℓ) : Prop :=
  True

def Pre_KernelProjHgW (m : (ℓ : Loc Cert.KernelProjHgW.nD Cert.KernelProjHgW.τ Cert.KernelProjHgW.sig) → Buf (Elt Bits) ℓ) : Prop :=
  True

def Pre_KernelProjHgWIdeal (m : (ℓ : Loc Cert.KernelProjHgWIdeal.nD Cert.KernelProjHgWIdeal.τ Cert.KernelProjHgWIdeal.sig) → Buf (Elt Ideal) ℓ) : Prop :=
  True

def Pre_ReferenceProjHgWIdeal (m : (ℓ : Loc Cert.ReferenceProjHgWIdeal.nD Cert.ReferenceProjHgWIdeal.τ Cert.ReferenceProjHgWIdeal.sig) → Buf (Elt Ideal) ℓ) : Prop :=
  True

def Pre_KernelProjDaW (m : (ℓ : Loc Cert.KernelProjDaW.nD Cert.KernelProjDaW.τ Cert.KernelProjDaW.sig) → Buf (Elt Bits) ℓ) : Prop :=
  True

def Pre_KernelProjDaWIdeal (m : (ℓ : Loc Cert.KernelProjDaWIdeal.nD Cert.KernelProjDaWIdeal.τ Cert.KernelProjDaWIdeal.sig) → Buf (Elt Ideal) ℓ) : Prop :=
  True

def Pre_ReferenceProjDaWIdeal (m : (ℓ : Loc Cert.ReferenceProjDaWIdeal.nD Cert.ReferenceProjDaWIdeal.τ Cert.ReferenceProjDaWIdeal.sig) → Buf (Elt Ideal) ℓ) : Prop :=
  True

def Pre_KernelProjMemW (m : (ℓ : Loc Cert.KernelProjMemW.nD Cert.KernelProjMemW.τ Cert.KernelProjMemW.sig) → Buf (Elt Bits) ℓ) : Prop :=
  True

def Pre_KernelProjMemWIdeal (m : (ℓ : Loc Cert.KernelProjMemWIdeal.nD Cert.KernelProjMemWIdeal.τ Cert.KernelProjMemWIdeal.sig) → Buf (Elt Ideal) ℓ) : Prop :=
  True

def Pre_ReferenceProjMemWIdeal (m : (ℓ : Loc Cert.ReferenceProjMemWIdeal.nD Cert.ReferenceProjMemWIdeal.τ Cert.ReferenceProjMemWIdeal.sig) → Buf (Elt Ideal) ℓ) : Prop :=
  True

def Pre_KernelMemKvW (m : (ℓ : Loc Cert.KernelMemKvW.nD Cert.KernelMemKvW.τ Cert.KernelMemKvW.sig) → Buf (Elt Bits) ℓ) : Prop :=
  True

def Pre_KernelMemKvWIdeal (m : (ℓ : Loc Cert.KernelMemKvWIdeal.nD Cert.KernelMemKvWIdeal.τ Cert.KernelMemKvWIdeal.sig) → Buf (Elt Ideal) ℓ) : Prop :=
  True

def Pre_ReferenceMemKvWIdeal (m : (ℓ : Loc Cert.ReferenceMemKvWIdeal.nD Cert.ReferenceMemKvWIdeal.τ Cert.ReferenceMemKvWIdeal.sig) → Buf (Elt Ideal) ℓ) : Prop :=
  True

def Pre_KernelMemKvAct (m : (ℓ : Loc Cert.KernelMemKvAct.nD Cert.KernelMemKvAct.τ Cert.KernelMemKvAct.sig) → Buf (Elt Bits) ℓ) : Prop :=
  True

def Pre_KernelMemKvActIdeal (m : (ℓ : Loc Cert.KernelMemKvActIdeal.nD Cert.KernelMemKvActIdeal.τ Cert.KernelMemKvActIdeal.sig) → Buf (Elt Ideal) ℓ) : Prop :=
  True

def Pre_ReferenceMemKvActIdeal (m : (ℓ : Loc Cert.ReferenceMemKvActIdeal.nD Cert.ReferenceMemKvActIdeal.τ Cert.ReferenceMemKvActIdeal.sig) → Buf (Elt Ideal) ℓ) : Prop :=
  True

def Pre_KernelNormMem (m : (ℓ : Loc Cert.KernelNormMem.nD Cert.KernelNormMem.τ Cert.KernelNormMem.sig) → Buf (Elt Bits) ℓ) : Prop :=
  True

def Pre_KernelNormMemIdeal (m : (ℓ : Loc Cert.KernelNormMemIdeal.nD Cert.KernelNormMemIdeal.τ Cert.KernelNormMemIdeal.sig) → Buf (Elt Ideal) ℓ) : Prop :=
  True

def Pre_ReferenceNormMemIdeal (m : (ℓ : Loc Cert.ReferenceNormMemIdeal.nD Cert.ReferenceNormMemIdeal.τ Cert.ReferenceNormMemIdeal.sig) → Buf (Elt Ideal) ℓ) : Prop :=
  True

def Pre_KernelAdamwWIn (m : (ℓ : Loc Cert.KernelAdamwWIn.nD Cert.KernelAdamwWIn.τ Cert.KernelAdamwWIn.sig) → Buf (Elt Bits) ℓ) : Prop :=
  True

def Pre_KernelAdamwWInIdeal (m : (ℓ : Loc Cert.KernelAdamwWInIdeal.nD Cert.KernelAdamwWInIdeal.τ Cert.KernelAdamwWInIdeal.sig) → Buf (Elt Ideal) ℓ) : Prop :=
  True

def Pre_ReferenceAdamwWInIdeal (m : (ℓ : Loc Cert.ReferenceAdamwWInIdeal.nD Cert.ReferenceAdamwWInIdeal.τ Cert.ReferenceAdamwWInIdeal.sig) → Buf (Elt Ideal) ℓ) : Prop :=
  True

def Pre_KernelAdamwSquare (m : (ℓ : Loc Cert.KernelAdamwSquare.nD Cert.KernelAdamwSquare.τ Cert.KernelAdamwSquare.sig) → Buf (Elt Bits) ℓ) : Prop :=
  True

def Pre_KernelAdamwSquareIdeal (m : (ℓ : Loc Cert.KernelAdamwSquareIdeal.nD Cert.KernelAdamwSquareIdeal.τ Cert.KernelAdamwSquareIdeal.sig) → Buf (Elt Ideal) ℓ) : Prop :=
  True

def Pre_ReferenceAdamwSquareIdeal (m : (ℓ : Loc Cert.ReferenceAdamwSquareIdeal.nD Cert.ReferenceAdamwSquareIdeal.τ Cert.ReferenceAdamwSquareIdeal.sig) → Buf (Elt Ideal) ℓ) : Prop :=
  True

def Pre_KernelAdamwBranch (m : (ℓ : Loc Cert.KernelAdamwBranch.nD Cert.KernelAdamwBranch.τ Cert.KernelAdamwBranch.sig) → Buf (Elt Bits) ℓ) : Prop :=
  True

def Pre_KernelAdamwBranchIdeal (m : (ℓ : Loc Cert.KernelAdamwBranchIdeal.nD Cert.KernelAdamwBranchIdeal.τ Cert.KernelAdamwBranchIdeal.sig) → Buf (Elt Ideal) ℓ) : Prop :=
  True

def Pre_ReferenceAdamwBranchIdeal (m : (ℓ : Loc Cert.ReferenceAdamwBranchIdeal.nD Cert.ReferenceAdamwBranchIdeal.τ Cert.ReferenceAdamwBranchIdeal.sig) → Buf (Elt Ideal) ℓ) : Prop :=
  True

def Pre_KernelAdamwFfnIn (m : (ℓ : Loc Cert.KernelAdamwFfnIn.nD Cert.KernelAdamwFfnIn.τ Cert.KernelAdamwFfnIn.sig) → Buf (Elt Bits) ℓ) : Prop :=
  True

def Pre_KernelAdamwFfnInIdeal (m : (ℓ : Loc Cert.KernelAdamwFfnInIdeal.nD Cert.KernelAdamwFfnInIdeal.τ Cert.KernelAdamwFfnInIdeal.sig) → Buf (Elt Ideal) ℓ) : Prop :=
  True

def Pre_ReferenceAdamwFfnInIdeal (m : (ℓ : Loc Cert.ReferenceAdamwFfnInIdeal.nD Cert.ReferenceAdamwFfnInIdeal.τ Cert.ReferenceAdamwFfnInIdeal.sig) → Buf (Elt Ideal) ℓ) : Prop :=
  True

def Pre_KernelAdamwFfnOut (m : (ℓ : Loc Cert.KernelAdamwFfnOut.nD Cert.KernelAdamwFfnOut.τ Cert.KernelAdamwFfnOut.sig) → Buf (Elt Bits) ℓ) : Prop :=
  True

def Pre_KernelAdamwFfnOutIdeal (m : (ℓ : Loc Cert.KernelAdamwFfnOutIdeal.nD Cert.KernelAdamwFfnOutIdeal.τ Cert.KernelAdamwFfnOutIdeal.sig) → Buf (Elt Ideal) ℓ) : Prop :=
  True

def Pre_ReferenceAdamwFfnOutIdeal (m : (ℓ : Loc Cert.ReferenceAdamwFfnOutIdeal.nD Cert.ReferenceAdamwFfnOutIdeal.τ Cert.ReferenceAdamwFfnOutIdeal.sig) → Buf (Elt Ideal) ℓ) : Prop :=
  True

def Pre_KernelFfnOut (m : (ℓ : Loc Cert.KernelFfnOut.nD Cert.KernelFfnOut.τ Cert.KernelFfnOut.sig) → Buf (Elt Bits) ℓ) : Prop :=
  True

def Pre_KernelFfnOutIdeal (m : (ℓ : Loc Cert.KernelFfnOutIdeal.nD Cert.KernelFfnOutIdeal.τ Cert.KernelFfnOutIdeal.sig) → Buf (Elt Ideal) ℓ) : Prop :=
  True

def Pre_ReferenceFfnOutIdeal (m : (ℓ : Loc Cert.ReferenceFfnOutIdeal.nD Cert.ReferenceFfnOutIdeal.τ Cert.ReferenceFfnOutIdeal.sig) → Buf (Elt Ideal) ℓ) : Prop :=
  True

def Pre_KernelFfnOutAct (m : (ℓ : Loc Cert.KernelFfnOutAct.nD Cert.KernelFfnOutAct.τ Cert.KernelFfnOutAct.sig) → Buf (Elt Bits) ℓ) : Prop :=
  True

def Pre_KernelFfnOutActIdeal (m : (ℓ : Loc Cert.KernelFfnOutActIdeal.nD Cert.KernelFfnOutActIdeal.τ Cert.KernelFfnOutActIdeal.sig) → Buf (Elt Ideal) ℓ) : Prop :=
  True

def Pre_KernelFfnOutActIdeal_gates_finite [hPre_gates_finite : Cert.Pre_gates_finite.Facts] (m : (ℓ : Loc Cert.KernelFfnOutActIdeal.nD Cert.KernelFfnOutActIdeal.τ Cert.KernelFfnOutActIdeal.sig) → Buf (Elt Ideal) ℓ) : Prop :=
  ∀ c : Dev Cert.KernelFfnOutActIdeal.nD,
    (Cert.Pre_gates_finite.fn (F := Ideal) (m ((c.tc : Thread Cert.KernelFfnOutActIdeal.nD Cert.KernelFfnOutActIdeal.τ).loc Cert.KernelFfnOutActIdeal.main_arg0)) (m ((c.tc : Thread Cert.KernelFfnOutActIdeal.nD Cert.KernelFfnOutActIdeal.τ).loc Cert.KernelFfnOutActIdeal.main_arg1)) (m ((c.tc : Thread Cert.KernelFfnOutActIdeal.nD Cert.KernelFfnOutActIdeal.τ).loc Cert.KernelFfnOutActIdeal.main_arg2)) (m ((c.tc : Thread Cert.KernelFfnOutActIdeal.nD Cert.KernelFfnOutActIdeal.τ).loc Cert.KernelFfnOutActIdeal.main_arg3))).1 = (fun _ => 1#1)
    ∧ (Cert.Pre_gates_finite.fn (F := Ideal) (m ((c.tc : Thread Cert.KernelFfnOutActIdeal.nD Cert.KernelFfnOutActIdeal.τ).loc Cert.KernelFfnOutActIdeal.main_arg0)) (m ((c.tc : Thread Cert.KernelFfnOutActIdeal.nD Cert.KernelFfnOutActIdeal.τ).loc Cert.KernelFfnOutActIdeal.main_arg1)) (m ((c.tc : Thread Cert.KernelFfnOutActIdeal.nD Cert.KernelFfnOutActIdeal.τ).loc Cert.KernelFfnOutActIdeal.main_arg2)) (m ((c.tc : Thread Cert.KernelFfnOutActIdeal.nD Cert.KernelFfnOutActIdeal.τ).loc Cert.KernelFfnOutActIdeal.main_arg3))).2.1 = (fun _ => 1#1)
    ∧ (Cert.Pre_gates_finite.fn (F := Ideal) (m ((c.tc : Thread Cert.KernelFfnOutActIdeal.nD Cert.KernelFfnOutActIdeal.τ).loc Cert.KernelFfnOutActIdeal.main_arg0)) (m ((c.tc : Thread Cert.KernelFfnOutActIdeal.nD Cert.KernelFfnOutActIdeal.τ).loc Cert.KernelFfnOutActIdeal.main_arg1)) (m ((c.tc : Thread Cert.KernelFfnOutActIdeal.nD Cert.KernelFfnOutActIdeal.τ).loc Cert.KernelFfnOutActIdeal.main_arg2)) (m ((c.tc : Thread Cert.KernelFfnOutActIdeal.nD Cert.KernelFfnOutActIdeal.τ).loc Cert.KernelFfnOutActIdeal.main_arg3))).2.2 = (fun _ => 1#1)

def Pre_ReferenceFfnOutActIdeal (m : (ℓ : Loc Cert.ReferenceFfnOutActIdeal.nD Cert.ReferenceFfnOutActIdeal.τ Cert.ReferenceFfnOutActIdeal.sig) → Buf (Elt Ideal) ℓ) : Prop :=
  True

def Pre_ReferenceFfnOutActIdeal_gates_finite [hPre_gates_finite : Cert.Pre_gates_finite.Facts] (m : (ℓ : Loc Cert.ReferenceFfnOutActIdeal.nD Cert.ReferenceFfnOutActIdeal.τ Cert.ReferenceFfnOutActIdeal.sig) → Buf (Elt Ideal) ℓ) : Prop :=
  ∀ c : Dev Cert.ReferenceFfnOutActIdeal.nD,
    (Cert.Pre_gates_finite.fn (F := Ideal) (m ((c.tc : Thread Cert.ReferenceFfnOutActIdeal.nD Cert.ReferenceFfnOutActIdeal.τ).loc Cert.ReferenceFfnOutActIdeal.main_arg0)) (m ((c.tc : Thread Cert.ReferenceFfnOutActIdeal.nD Cert.ReferenceFfnOutActIdeal.τ).loc Cert.ReferenceFfnOutActIdeal.main_arg1)) (m ((c.tc : Thread Cert.ReferenceFfnOutActIdeal.nD Cert.ReferenceFfnOutActIdeal.τ).loc Cert.ReferenceFfnOutActIdeal.main_arg2)) (m ((c.tc : Thread Cert.ReferenceFfnOutActIdeal.nD Cert.ReferenceFfnOutActIdeal.τ).loc Cert.ReferenceFfnOutActIdeal.main_arg3))).1 = (fun _ => 1#1)
    ∧ (Cert.Pre_gates_finite.fn (F := Ideal) (m ((c.tc : Thread Cert.ReferenceFfnOutActIdeal.nD Cert.ReferenceFfnOutActIdeal.τ).loc Cert.ReferenceFfnOutActIdeal.main_arg0)) (m ((c.tc : Thread Cert.ReferenceFfnOutActIdeal.nD Cert.ReferenceFfnOutActIdeal.τ).loc Cert.ReferenceFfnOutActIdeal.main_arg1)) (m ((c.tc : Thread Cert.ReferenceFfnOutActIdeal.nD Cert.ReferenceFfnOutActIdeal.τ).loc Cert.ReferenceFfnOutActIdeal.main_arg2)) (m ((c.tc : Thread Cert.ReferenceFfnOutActIdeal.nD Cert.ReferenceFfnOutActIdeal.τ).loc Cert.ReferenceFfnOutActIdeal.main_arg3))).2.1 = (fun _ => 1#1)
    ∧ (Cert.Pre_gates_finite.fn (F := Ideal) (m ((c.tc : Thread Cert.ReferenceFfnOutActIdeal.nD Cert.ReferenceFfnOutActIdeal.τ).loc Cert.ReferenceFfnOutActIdeal.main_arg0)) (m ((c.tc : Thread Cert.ReferenceFfnOutActIdeal.nD Cert.ReferenceFfnOutActIdeal.τ).loc Cert.ReferenceFfnOutActIdeal.main_arg1)) (m ((c.tc : Thread Cert.ReferenceFfnOutActIdeal.nD Cert.ReferenceFfnOutActIdeal.τ).loc Cert.ReferenceFfnOutActIdeal.main_arg2)) (m ((c.tc : Thread Cert.ReferenceFfnOutActIdeal.nD Cert.ReferenceFfnOutActIdeal.τ).loc Cert.ReferenceFfnOutActIdeal.main_arg3))).2.2 = (fun _ => 1#1)

def Pre_KernelNormMix (m : (ℓ : Loc Cert.KernelNormMix.nD Cert.KernelNormMix.τ Cert.KernelNormMix.sig) → Buf (Elt Bits) ℓ) : Prop :=
  True

def Pre_KernelNormMixIdeal (m : (ℓ : Loc Cert.KernelNormMixIdeal.nD Cert.KernelNormMixIdeal.τ Cert.KernelNormMixIdeal.sig) → Buf (Elt Ideal) ℓ) : Prop :=
  True

def Pre_ReferenceNormMixIdeal (m : (ℓ : Loc Cert.ReferenceNormMixIdeal.nD Cert.ReferenceNormMixIdeal.τ Cert.ReferenceNormMixIdeal.sig) → Buf (Elt Ideal) ℓ) : Prop :=
  True

def Pre_KernelNormMemFwd (m : (ℓ : Loc Cert.KernelNormMemFwd.nD Cert.KernelNormMemFwd.τ Cert.KernelNormMemFwd.sig) → Buf (Elt Bits) ℓ) : Prop :=
  True

def Pre_KernelNormMemFwdIdeal (m : (ℓ : Loc Cert.KernelNormMemFwdIdeal.nD Cert.KernelNormMemFwdIdeal.τ Cert.KernelNormMemFwdIdeal.sig) → Buf (Elt Ideal) ℓ) : Prop :=
  True

def Pre_ReferenceNormMemFwdIdeal (m : (ℓ : Loc Cert.ReferenceNormMemFwdIdeal.nD Cert.ReferenceNormMemFwdIdeal.τ Cert.ReferenceNormMemFwdIdeal.sig) → Buf (Elt Ideal) ℓ) : Prop :=
  True

def Pre_KernelMemKv (m : (ℓ : Loc Cert.KernelMemKv.nD Cert.KernelMemKv.τ Cert.KernelMemKv.sig) → Buf (Elt Bits) ℓ) : Prop :=
  True

def Pre_KernelMemKvIdeal (m : (ℓ : Loc Cert.KernelMemKvIdeal.nD Cert.KernelMemKvIdeal.τ Cert.KernelMemKvIdeal.sig) → Buf (Elt Ideal) ℓ) : Prop :=
  True

def Pre_ReferenceMemKvIdeal (m : (ℓ : Loc Cert.ReferenceMemKvIdeal.nD Cert.ReferenceMemKvIdeal.τ Cert.ReferenceMemKvIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelOutNorm (m : (ℓ : Loc Cert.KernelOutNorm.nD Cert.KernelOutNorm.τ Cert.KernelOutNorm.sig) → Buf (Elt Bits) ℓ) : Prop :=
  True

def Pre_KernelOutNormIdeal (m : (ℓ : Loc Cert.KernelOutNormIdeal.nD Cert.KernelOutNormIdeal.τ Cert.KernelOutNormIdeal.sig) → Buf (Elt Ideal) ℓ) : Prop :=
  True

def Pre_ReferenceOutNormIdeal (m : (ℓ : Loc Cert.ReferenceOutNormIdeal.nD Cert.ReferenceOutNormIdeal.τ Cert.ReferenceOutNormIdeal.sig) → Buf (Elt Ideal) ℓ) : Prop :=
  True

def Pre_KernelMemFwd (m : (ℓ : Loc Cert.KernelMemFwd.nD Cert.KernelMemFwd.τ Cert.KernelMemFwd.sig) → Buf (Elt Bits) ℓ) : Prop :=
  True

def Pre_KernelMemFwdIdeal (m : (ℓ : Loc Cert.KernelMemFwdIdeal.nD Cert.KernelMemFwdIdeal.τ Cert.KernelMemFwdIdeal.sig) → Buf (Elt Ideal) ℓ) : Prop :=
  True

def Pre_ReferenceMemFwdIdeal (m : (ℓ : Loc Cert.ReferenceMemFwdIdeal.nD Cert.ReferenceMemFwdIdeal.τ Cert.ReferenceMemFwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelProjW [hKernelProjW : Cert.KernelProjW.Facts] : Prop :=
  ∀ (m : (ℓ : Loc Cert.KernelProjW.nD Cert.KernelProjW.τ Cert.KernelProjW.sig) → Buf (Elt Bits) ℓ) (g : Dev Cert.KernelProjW.nD → PrngReg), Pre_KernelProjW m →
    θ_run (Cert.KernelProjW.defs (F := Bits)) (onTc (τ := Cert.KernelProjW.τ) (Cert.KernelProjW.main (F := Bits))) ⟨m, fun _ => 0, g⟩ (fun r => (∀ c : Dev Cert.KernelProjW.nD,
      r.2.mem ((c.tc : Thread Cert.KernelProjW.nD Cert.KernelProjW.τ).loc Cert.KernelProjW.main_arg0) = m ((c.tc : Thread Cert.KernelProjW.nD Cert.KernelProjW.τ).loc Cert.KernelProjW.main_arg0)
      ∧ r.2.mem ((c.tc : Thread Cert.KernelProjW.nD Cert.KernelProjW.τ).loc Cert.KernelProjW.main_arg1) = m ((c.tc : Thread Cert.KernelProjW.nD Cert.KernelProjW.τ).loc Cert.KernelProjW.main_arg1)
      ∧ r.2.mem ((c.tc : Thread Cert.KernelProjW.nD Cert.KernelProjW.τ).loc Cert.KernelProjW.main_arg2) = m ((c.tc : Thread Cert.KernelProjW.nD Cert.KernelProjW.τ).loc Cert.KernelProjW.main_arg2)
      ∧ r.2.mem ((c.tc : Thread Cert.KernelProjW.nD Cert.KernelProjW.τ).loc Cert.KernelProjW.main_arg3) = m ((c.tc : Thread Cert.KernelProjW.nD Cert.KernelProjW.τ).loc Cert.KernelProjW.main_arg3))
      ∧ r.2.sem = fun _ => 0)

def quiescent_KernelProjWIdeal [hKernelProjWIdeal : Cert.KernelProjWIdeal.Facts] : Prop :=
  ∀ (m : (ℓ : Loc Cert.KernelProjWIdeal.nD Cert.KernelProjWIdeal.τ Cert.KernelProjWIdeal.sig) → Buf (Elt Ideal) ℓ) (g : Dev Cert.KernelProjWIdeal.nD → PrngReg), Pre_KernelProjWIdeal m →
    θ_run (Cert.KernelProjWIdeal.defs (F := Ideal)) (onTc (τ := Cert.KernelProjWIdeal.τ) (Cert.KernelProjWIdeal.main (F := Ideal))) ⟨m, fun _ => 0, g⟩ (fun r => (∀ c : Dev Cert.KernelProjWIdeal.nD,
      r.2.mem ((c.tc : Thread Cert.KernelProjWIdeal.nD Cert.KernelProjWIdeal.τ).loc Cert.KernelProjWIdeal.main_arg0) = m ((c.tc : Thread Cert.KernelProjWIdeal.nD Cert.KernelProjWIdeal.τ).loc Cert.KernelProjWIdeal.main_arg0)
      ∧ r.2.mem ((c.tc : Thread Cert.KernelProjWIdeal.nD Cert.KernelProjWIdeal.τ).loc Cert.KernelProjWIdeal.main_arg1) = m ((c.tc : Thread Cert.KernelProjWIdeal.nD Cert.KernelProjWIdeal.τ).loc Cert.KernelProjWIdeal.main_arg1)
      ∧ r.2.mem ((c.tc : Thread Cert.KernelProjWIdeal.nD Cert.KernelProjWIdeal.τ).loc Cert.KernelProjWIdeal.main_arg2) = m ((c.tc : Thread Cert.KernelProjWIdeal.nD Cert.KernelProjWIdeal.τ).loc Cert.KernelProjWIdeal.main_arg2)
      ∧ r.2.mem ((c.tc : Thread Cert.KernelProjWIdeal.nD Cert.KernelProjWIdeal.τ).loc Cert.KernelProjWIdeal.main_arg3) = m ((c.tc : Thread Cert.KernelProjWIdeal.nD Cert.KernelProjWIdeal.τ).loc Cert.KernelProjWIdeal.main_arg3))
      ∧ r.2.sem = fun _ => 0)

def quiescent_ReferenceProjWIdeal [hReferenceProjWIdeal : Cert.ReferenceProjWIdeal.Facts] : Prop :=
  ∀ (m : (ℓ : Loc Cert.ReferenceProjWIdeal.nD Cert.ReferenceProjWIdeal.τ Cert.ReferenceProjWIdeal.sig) → Buf (Elt Ideal) ℓ) (g : Dev Cert.ReferenceProjWIdeal.nD → PrngReg), Pre_ReferenceProjWIdeal m →
    θ_run (Cert.ReferenceProjWIdeal.defs (F := Ideal)) (onTc (τ := Cert.ReferenceProjWIdeal.τ) (Cert.ReferenceProjWIdeal.main (F := Ideal))) ⟨m, fun _ => 0, g⟩ (fun r => (∀ c : Dev Cert.ReferenceProjWIdeal.nD,
      r.2.mem ((c.tc : Thread Cert.ReferenceProjWIdeal.nD Cert.ReferenceProjWIdeal.τ).loc Cert.ReferenceProjWIdeal.main_arg0) = m ((c.tc : Thread Cert.ReferenceProjWIdeal.nD Cert.ReferenceProjWIdeal.τ).loc Cert.ReferenceProjWIdeal.main_arg0)
      ∧ r.2.mem ((c.tc : Thread Cert.ReferenceProjWIdeal.nD Cert.ReferenceProjWIdeal.τ).loc Cert.ReferenceProjWIdeal.main_arg1) = m ((c.tc : Thread Cert.ReferenceProjWIdeal.nD Cert.ReferenceProjWIdeal.τ).loc Cert.ReferenceProjWIdeal.main_arg1)
      ∧ r.2.mem ((c.tc : Thread Cert.ReferenceProjWIdeal.nD Cert.ReferenceProjWIdeal.τ).loc Cert.ReferenceProjWIdeal.main_arg2) = m ((c.tc : Thread Cert.ReferenceProjWIdeal.nD Cert.ReferenceProjWIdeal.τ).loc Cert.ReferenceProjWIdeal.main_arg2)
      ∧ r.2.mem ((c.tc : Thread Cert.ReferenceProjWIdeal.nD Cert.ReferenceProjWIdeal.τ).loc Cert.ReferenceProjWIdeal.main_arg3) = m ((c.tc : Thread Cert.ReferenceProjWIdeal.nD Cert.ReferenceProjWIdeal.τ).loc Cert.ReferenceProjWIdeal.main_arg3))
      ∧ r.2.sem = fun _ => 0)

def quiescent_KernelProjBottom [hKernelProjBottom : Cert.KernelProjBottom.Facts] : Prop :=
  ∀ (m : (ℓ : Loc Cert.KernelProjBottom.nD Cert.KernelProjBottom.τ Cert.KernelProjBottom.sig) → Buf (Elt Bits) ℓ) (g : Dev Cert.KernelProjBottom.nD → PrngReg), Pre_KernelProjBottom m →
    θ_run (Cert.KernelProjBottom.defs (F := Bits)) (onTc (τ := Cert.KernelProjBottom.τ) (Cert.KernelProjBottom.main (F := Bits))) ⟨m, fun _ => 0, g⟩ (fun r => (∀ c : Dev Cert.KernelProjBottom.nD,
      r.2.mem ((c.tc : Thread Cert.KernelProjBottom.nD Cert.KernelProjBottom.τ).loc Cert.KernelProjBottom.main_arg0) = m ((c.tc : Thread Cert.KernelProjBottom.nD Cert.KernelProjBottom.τ).loc Cert.KernelProjBottom.main_arg0)
      ∧ r.2.mem ((c.tc : Thread Cert.KernelProjBottom.nD Cert.KernelProjBottom.τ).loc Cert.KernelProjBottom.main_arg1) = m ((c.tc : Thread Cert.KernelProjBottom.nD Cert.KernelProjBottom.τ).loc Cert.KernelProjBottom.main_arg1)
      ∧ r.2.mem ((c.tc : Thread Cert.KernelProjBottom.nD Cert.KernelProjBottom.τ).loc Cert.KernelProjBottom.main_arg2) = m ((c.tc : Thread Cert.KernelProjBottom.nD Cert.KernelProjBottom.τ).loc Cert.KernelProjBottom.main_arg2)
      ∧ r.2.mem ((c.tc : Thread Cert.KernelProjBottom.nD Cert.KernelProjBottom.τ).loc Cert.KernelProjBottom.main_arg3) = m ((c.tc : Thread Cert.KernelProjBottom.nD Cert.KernelProjBottom.τ).loc Cert.KernelProjBottom.main_arg3)
      ∧ r.2.mem ((c.tc : Thread Cert.KernelProjBottom.nD Cert.KernelProjBottom.τ).loc Cert.KernelProjBottom.main_arg4) = m ((c.tc : Thread Cert.KernelProjBottom.nD Cert.KernelProjBottom.τ).loc Cert.KernelProjBottom.main_arg4)
      ∧ r.2.mem ((c.tc : Thread Cert.KernelProjBottom.nD Cert.KernelProjBottom.τ).loc Cert.KernelProjBottom.main_arg5) = m ((c.tc : Thread Cert.KernelProjBottom.nD Cert.KernelProjBottom.τ).loc Cert.KernelProjBottom.main_arg5))
      ∧ r.2.sem = fun _ => 0)

def quiescent_KernelProjBottomIdeal [hKernelProjBottomIdeal : Cert.KernelProjBottomIdeal.Facts] : Prop :=
  ∀ (m : (ℓ : Loc Cert.KernelProjBottomIdeal.nD Cert.KernelProjBottomIdeal.τ Cert.KernelProjBottomIdeal.sig) → Buf (Elt Ideal) ℓ) (g : Dev Cert.KernelProjBottomIdeal.nD → PrngReg), Pre_KernelProjBottomIdeal m →
    θ_run (Cert.KernelProjBottomIdeal.defs (F := Ideal)) (onTc (τ := Cert.KernelProjBottomIdeal.τ) (Cert.KernelProjBottomIdeal.main (F := Ideal))) ⟨m, fun _ => 0, g⟩ (fun r => (∀ c : Dev Cert.KernelProjBottomIdeal.nD,
      r.2.mem ((c.tc : Thread Cert.KernelProjBottomIdeal.nD Cert.KernelProjBottomIdeal.τ).loc Cert.KernelProjBottomIdeal.main_arg0) = m ((c.tc : Thread Cert.KernelProjBottomIdeal.nD Cert.KernelProjBottomIdeal.τ).loc Cert.KernelProjBottomIdeal.main_arg0)
      ∧ r.2.mem ((c.tc : Thread Cert.KernelProjBottomIdeal.nD Cert.KernelProjBottomIdeal.τ).loc Cert.KernelProjBottomIdeal.main_arg1) = m ((c.tc : Thread Cert.KernelProjBottomIdeal.nD Cert.KernelProjBottomIdeal.τ).loc Cert.KernelProjBottomIdeal.main_arg1)
      ∧ r.2.mem ((c.tc : Thread Cert.KernelProjBottomIdeal.nD Cert.KernelProjBottomIdeal.τ).loc Cert.KernelProjBottomIdeal.main_arg2) = m ((c.tc : Thread Cert.KernelProjBottomIdeal.nD Cert.KernelProjBottomIdeal.τ).loc Cert.KernelProjBottomIdeal.main_arg2)
      ∧ r.2.mem ((c.tc : Thread Cert.KernelProjBottomIdeal.nD Cert.KernelProjBottomIdeal.τ).loc Cert.KernelProjBottomIdeal.main_arg3) = m ((c.tc : Thread Cert.KernelProjBottomIdeal.nD Cert.KernelProjBottomIdeal.τ).loc Cert.KernelProjBottomIdeal.main_arg3)
      ∧ r.2.mem ((c.tc : Thread Cert.KernelProjBottomIdeal.nD Cert.KernelProjBottomIdeal.τ).loc Cert.KernelProjBottomIdeal.main_arg4) = m ((c.tc : Thread Cert.KernelProjBottomIdeal.nD Cert.KernelProjBottomIdeal.τ).loc Cert.KernelProjBottomIdeal.main_arg4)
      ∧ r.2.mem ((c.tc : Thread Cert.KernelProjBottomIdeal.nD Cert.KernelProjBottomIdeal.τ).loc Cert.KernelProjBottomIdeal.main_arg5) = m ((c.tc : Thread Cert.KernelProjBottomIdeal.nD Cert.KernelProjBottomIdeal.τ).loc Cert.KernelProjBottomIdeal.main_arg5))
      ∧ r.2.sem = fun _ => 0)

def quiescent_ReferenceProjBottomIdeal [hReferenceProjBottomIdeal : Cert.ReferenceProjBottomIdeal.Facts] : Prop :=
  ∀ (m : (ℓ : Loc Cert.ReferenceProjBottomIdeal.nD Cert.ReferenceProjBottomIdeal.τ Cert.ReferenceProjBottomIdeal.sig) → Buf (Elt Ideal) ℓ) (g : Dev Cert.ReferenceProjBottomIdeal.nD → PrngReg), Pre_ReferenceProjBottomIdeal m →
    θ_run (Cert.ReferenceProjBottomIdeal.defs (F := Ideal)) (onTc (τ := Cert.ReferenceProjBottomIdeal.τ) (Cert.ReferenceProjBottomIdeal.main (F := Ideal))) ⟨m, fun _ => 0, g⟩ (fun r => (∀ c : Dev Cert.ReferenceProjBottomIdeal.nD,
      r.2.mem ((c.tc : Thread Cert.ReferenceProjBottomIdeal.nD Cert.ReferenceProjBottomIdeal.τ).loc Cert.ReferenceProjBottomIdeal.main_arg0) = m ((c.tc : Thread Cert.ReferenceProjBottomIdeal.nD Cert.ReferenceProjBottomIdeal.τ).loc Cert.ReferenceProjBottomIdeal.main_arg0)
      ∧ r.2.mem ((c.tc : Thread Cert.ReferenceProjBottomIdeal.nD Cert.ReferenceProjBottomIdeal.τ).loc Cert.ReferenceProjBottomIdeal.main_arg1) = m ((c.tc : Thread Cert.ReferenceProjBottomIdeal.nD Cert.ReferenceProjBottomIdeal.τ).loc Cert.ReferenceProjBottomIdeal.main_arg1)
      ∧ r.2.mem ((c.tc : Thread Cert.ReferenceProjBottomIdeal.nD Cert.ReferenceProjBottomIdeal.τ).loc Cert.ReferenceProjBottomIdeal.main_arg2) = m ((c.tc : Thread Cert.ReferenceProjBottomIdeal.nD Cert.ReferenceProjBottomIdeal.τ).loc Cert.ReferenceProjBottomIdeal.main_arg2)
      ∧ r.2.mem ((c.tc : Thread Cert.ReferenceProjBottomIdeal.nD Cert.ReferenceProjBottomIdeal.τ).loc Cert.ReferenceProjBottomIdeal.main_arg3) = m ((c.tc : Thread Cert.ReferenceProjBottomIdeal.nD Cert.ReferenceProjBottomIdeal.τ).loc Cert.ReferenceProjBottomIdeal.main_arg3)
      ∧ r.2.mem ((c.tc : Thread Cert.ReferenceProjBottomIdeal.nD Cert.ReferenceProjBottomIdeal.τ).loc Cert.ReferenceProjBottomIdeal.main_arg4) = m ((c.tc : Thread Cert.ReferenceProjBottomIdeal.nD Cert.ReferenceProjBottomIdeal.τ).loc Cert.ReferenceProjBottomIdeal.main_arg4)
      ∧ r.2.mem ((c.tc : Thread Cert.ReferenceProjBottomIdeal.nD Cert.ReferenceProjBottomIdeal.τ).loc Cert.ReferenceProjBottomIdeal.main_arg5) = m ((c.tc : Thread Cert.ReferenceProjBottomIdeal.nD Cert.ReferenceProjBottomIdeal.τ).loc Cert.ReferenceProjBottomIdeal.main_arg5))
      ∧ r.2.sem = fun _ => 0)

def quiescent_KernelProjTop [hKernelProjTop : Cert.KernelProjTop.Facts] : Prop :=
  ∀ (m : (ℓ : Loc Cert.KernelProjTop.nD Cert.KernelProjTop.τ Cert.KernelProjTop.sig) → Buf (Elt Bits) ℓ) (g : Dev Cert.KernelProjTop.nD → PrngReg), Pre_KernelProjTop m →
    θ_run (Cert.KernelProjTop.defs (F := Bits)) (onTc (τ := Cert.KernelProjTop.τ) (Cert.KernelProjTop.main (F := Bits))) ⟨m, fun _ => 0, g⟩ (fun r => (∀ c : Dev Cert.KernelProjTop.nD,
      r.2.mem ((c.tc : Thread Cert.KernelProjTop.nD Cert.KernelProjTop.τ).loc Cert.KernelProjTop.main_arg0) = m ((c.tc : Thread Cert.KernelProjTop.nD Cert.KernelProjTop.τ).loc Cert.KernelProjTop.main_arg0)
      ∧ r.2.mem ((c.tc : Thread Cert.KernelProjTop.nD Cert.KernelProjTop.τ).loc Cert.KernelProjTop.main_arg1) = m ((c.tc : Thread Cert.KernelProjTop.nD Cert.KernelProjTop.τ).loc Cert.KernelProjTop.main_arg1)
      ∧ r.2.mem ((c.tc : Thread Cert.KernelProjTop.nD Cert.KernelProjTop.τ).loc Cert.KernelProjTop.main_arg2) = m ((c.tc : Thread Cert.KernelProjTop.nD Cert.KernelProjTop.τ).loc Cert.KernelProjTop.main_arg2)
      ∧ r.2.mem ((c.tc : Thread Cert.KernelProjTop.nD Cert.KernelProjTop.τ).loc Cert.KernelProjTop.main_arg3) = m ((c.tc : Thread Cert.KernelProjTop.nD Cert.KernelProjTop.τ).loc Cert.KernelProjTop.main_arg3)
      ∧ r.2.mem ((c.tc : Thread Cert.KernelProjTop.nD Cert.KernelProjTop.τ).loc Cert.KernelProjTop.main_arg4) = m ((c.tc : Thread Cert.KernelProjTop.nD Cert.KernelProjTop.τ).loc Cert.KernelProjTop.main_arg4))
      ∧ r.2.sem = fun _ => 0)

def quiescent_KernelProjTopIdeal [hKernelProjTopIdeal : Cert.KernelProjTopIdeal.Facts] : Prop :=
  ∀ (m : (ℓ : Loc Cert.KernelProjTopIdeal.nD Cert.KernelProjTopIdeal.τ Cert.KernelProjTopIdeal.sig) → Buf (Elt Ideal) ℓ) (g : Dev Cert.KernelProjTopIdeal.nD → PrngReg), Pre_KernelProjTopIdeal m →
    θ_run (Cert.KernelProjTopIdeal.defs (F := Ideal)) (onTc (τ := Cert.KernelProjTopIdeal.τ) (Cert.KernelProjTopIdeal.main (F := Ideal))) ⟨m, fun _ => 0, g⟩ (fun r => (∀ c : Dev Cert.KernelProjTopIdeal.nD,
      r.2.mem ((c.tc : Thread Cert.KernelProjTopIdeal.nD Cert.KernelProjTopIdeal.τ).loc Cert.KernelProjTopIdeal.main_arg0) = m ((c.tc : Thread Cert.KernelProjTopIdeal.nD Cert.KernelProjTopIdeal.τ).loc Cert.KernelProjTopIdeal.main_arg0)
      ∧ r.2.mem ((c.tc : Thread Cert.KernelProjTopIdeal.nD Cert.KernelProjTopIdeal.τ).loc Cert.KernelProjTopIdeal.main_arg1) = m ((c.tc : Thread Cert.KernelProjTopIdeal.nD Cert.KernelProjTopIdeal.τ).loc Cert.KernelProjTopIdeal.main_arg1)
      ∧ r.2.mem ((c.tc : Thread Cert.KernelProjTopIdeal.nD Cert.KernelProjTopIdeal.τ).loc Cert.KernelProjTopIdeal.main_arg2) = m ((c.tc : Thread Cert.KernelProjTopIdeal.nD Cert.KernelProjTopIdeal.τ).loc Cert.KernelProjTopIdeal.main_arg2)
      ∧ r.2.mem ((c.tc : Thread Cert.KernelProjTopIdeal.nD Cert.KernelProjTopIdeal.τ).loc Cert.KernelProjTopIdeal.main_arg3) = m ((c.tc : Thread Cert.KernelProjTopIdeal.nD Cert.KernelProjTopIdeal.τ).loc Cert.KernelProjTopIdeal.main_arg3)
      ∧ r.2.mem ((c.tc : Thread Cert.KernelProjTopIdeal.nD Cert.KernelProjTopIdeal.τ).loc Cert.KernelProjTopIdeal.main_arg4) = m ((c.tc : Thread Cert.KernelProjTopIdeal.nD Cert.KernelProjTopIdeal.τ).loc Cert.KernelProjTopIdeal.main_arg4))
      ∧ r.2.sem = fun _ => 0)

def quiescent_ReferenceProjTopIdeal [hReferenceProjTopIdeal : Cert.ReferenceProjTopIdeal.Facts] : Prop :=
  ∀ (m : (ℓ : Loc Cert.ReferenceProjTopIdeal.nD Cert.ReferenceProjTopIdeal.τ Cert.ReferenceProjTopIdeal.sig) → Buf (Elt Ideal) ℓ) (g : Dev Cert.ReferenceProjTopIdeal.nD → PrngReg), Pre_ReferenceProjTopIdeal m →
    θ_run (Cert.ReferenceProjTopIdeal.defs (F := Ideal)) (onTc (τ := Cert.ReferenceProjTopIdeal.τ) (Cert.ReferenceProjTopIdeal.main (F := Ideal))) ⟨m, fun _ => 0, g⟩ (fun r => (∀ c : Dev Cert.ReferenceProjTopIdeal.nD,
      r.2.mem ((c.tc : Thread Cert.ReferenceProjTopIdeal.nD Cert.ReferenceProjTopIdeal.τ).loc Cert.ReferenceProjTopIdeal.main_arg0) = m ((c.tc : Thread Cert.ReferenceProjTopIdeal.nD Cert.ReferenceProjTopIdeal.τ).loc Cert.ReferenceProjTopIdeal.main_arg0)
      ∧ r.2.mem ((c.tc : Thread Cert.ReferenceProjTopIdeal.nD Cert.ReferenceProjTopIdeal.τ).loc Cert.ReferenceProjTopIdeal.main_arg1) = m ((c.tc : Thread Cert.ReferenceProjTopIdeal.nD Cert.ReferenceProjTopIdeal.τ).loc Cert.ReferenceProjTopIdeal.main_arg1)
      ∧ r.2.mem ((c.tc : Thread Cert.ReferenceProjTopIdeal.nD Cert.ReferenceProjTopIdeal.τ).loc Cert.ReferenceProjTopIdeal.main_arg2) = m ((c.tc : Thread Cert.ReferenceProjTopIdeal.nD Cert.ReferenceProjTopIdeal.τ).loc Cert.ReferenceProjTopIdeal.main_arg2)
      ∧ r.2.mem ((c.tc : Thread Cert.ReferenceProjTopIdeal.nD Cert.ReferenceProjTopIdeal.τ).loc Cert.ReferenceProjTopIdeal.main_arg3) = m ((c.tc : Thread Cert.ReferenceProjTopIdeal.nD Cert.ReferenceProjTopIdeal.τ).loc Cert.ReferenceProjTopIdeal.main_arg3)
      ∧ r.2.mem ((c.tc : Thread Cert.ReferenceProjTopIdeal.nD Cert.ReferenceProjTopIdeal.τ).loc Cert.ReferenceProjTopIdeal.main_arg4) = m ((c.tc : Thread Cert.ReferenceProjTopIdeal.nD Cert.ReferenceProjTopIdeal.τ).loc Cert.ReferenceProjTopIdeal.main_arg4))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_KernelFfnInAct [hKernelFfnInAct : Cert.KernelFfnInAct.Facts] : Prop :=
  ∀ (m : (ℓ : Loc Cert.KernelFfnInAct.nD Cert.KernelFfnInAct.τ Cert.KernelFfnInAct.sig) → Buf (Elt Bits) ℓ) (g : Dev Cert.KernelFfnInAct.nD → PrngReg), Pre_KernelFfnInAct m →
    θ_run (Cert.KernelFfnInAct.defs (F := Bits)) (onTc (τ := Cert.KernelFfnInAct.τ) (Cert.KernelFfnInAct.main (F := Bits))) ⟨m, fun _ => 0, g⟩ (fun r => (∀ c : Dev Cert.KernelFfnInAct.nD,
      r.2.mem ((c.tc : Thread Cert.KernelFfnInAct.nD Cert.KernelFfnInAct.τ).loc Cert.KernelFfnInAct.main_arg0) = m ((c.tc : Thread Cert.KernelFfnInAct.nD Cert.KernelFfnInAct.τ).loc Cert.KernelFfnInAct.main_arg0)
      ∧ r.2.mem ((c.tc : Thread Cert.KernelFfnInAct.nD Cert.KernelFfnInAct.τ).loc Cert.KernelFfnInAct.main_arg1) = m ((c.tc : Thread Cert.KernelFfnInAct.nD Cert.KernelFfnInAct.τ).loc Cert.KernelFfnInAct.main_arg1)
      ∧ r.2.mem ((c.tc : Thread Cert.KernelFfnInAct.nD Cert.KernelFfnInAct.τ).loc Cert.KernelFfnInAct.main_arg2) = m ((c.tc : Thread Cert.KernelFfnInAct.nD Cert.KernelFfnInAct.τ).loc Cert.KernelFfnInAct.main_arg2)
      ∧ r.2.mem ((c.tc : Thread Cert.KernelFfnInAct.nD Cert.KernelFfnInAct.τ).loc Cert.KernelFfnInAct.main_arg3) = m ((c.tc : Thread Cert.KernelFfnInAct.nD Cert.KernelFfnInAct.τ).loc Cert.KernelFfnInAct.main_arg3)
      ∧ r.2.mem ((c.tc : Thread Cert.KernelFfnInAct.nD Cert.KernelFfnInAct.τ).loc Cert.KernelFfnInAct.main_arg4) = m ((c.tc : Thread Cert.KernelFfnInAct.nD Cert.KernelFfnInAct.τ).loc Cert.KernelFfnInAct.main_arg4))
      ∧ r.2.sem = fun _ => 0)

def quiescent_KernelFfnInActIdeal [hKernelFfnInActIdeal : Cert.KernelFfnInActIdeal.Facts] : Prop :=
  ∀ (m : (ℓ : Loc Cert.KernelFfnInActIdeal.nD Cert.KernelFfnInActIdeal.τ Cert.KernelFfnInActIdeal.sig) → Buf (Elt Ideal) ℓ) (g : Dev Cert.KernelFfnInActIdeal.nD → PrngReg), Pre_KernelFfnInActIdeal m →
    θ_run (Cert.KernelFfnInActIdeal.defs (F := Ideal)) (onTc (τ := Cert.KernelFfnInActIdeal.τ) (Cert.KernelFfnInActIdeal.main (F := Ideal))) ⟨m, fun _ => 0, g⟩ (fun r => (∀ c : Dev Cert.KernelFfnInActIdeal.nD,
      r.2.mem ((c.tc : Thread Cert.KernelFfnInActIdeal.nD Cert.KernelFfnInActIdeal.τ).loc Cert.KernelFfnInActIdeal.main_arg0) = m ((c.tc : Thread Cert.KernelFfnInActIdeal.nD Cert.KernelFfnInActIdeal.τ).loc Cert.KernelFfnInActIdeal.main_arg0)
      ∧ r.2.mem ((c.tc : Thread Cert.KernelFfnInActIdeal.nD Cert.KernelFfnInActIdeal.τ).loc Cert.KernelFfnInActIdeal.main_arg1) = m ((c.tc : Thread Cert.KernelFfnInActIdeal.nD Cert.KernelFfnInActIdeal.τ).loc Cert.KernelFfnInActIdeal.main_arg1)
      ∧ r.2.mem ((c.tc : Thread Cert.KernelFfnInActIdeal.nD Cert.KernelFfnInActIdeal.τ).loc Cert.KernelFfnInActIdeal.main_arg2) = m ((c.tc : Thread Cert.KernelFfnInActIdeal.nD Cert.KernelFfnInActIdeal.τ).loc Cert.KernelFfnInActIdeal.main_arg2)
      ∧ r.2.mem ((c.tc : Thread Cert.KernelFfnInActIdeal.nD Cert.KernelFfnInActIdeal.τ).loc Cert.KernelFfnInActIdeal.main_arg3) = m ((c.tc : Thread Cert.KernelFfnInActIdeal.nD Cert.KernelFfnInActIdeal.τ).loc Cert.KernelFfnInActIdeal.main_arg3)
      ∧ r.2.mem ((c.tc : Thread Cert.KernelFfnInActIdeal.nD Cert.KernelFfnInActIdeal.τ).loc Cert.KernelFfnInActIdeal.main_arg4) = m ((c.tc : Thread Cert.KernelFfnInActIdeal.nD Cert.KernelFfnInActIdeal.τ).loc Cert.KernelFfnInActIdeal.main_arg4))
      ∧ r.2.sem = fun _ => 0)

def quiescent_ReferenceFfnInActIdeal [hReferenceFfnInActIdeal : Cert.ReferenceFfnInActIdeal.Facts] : Prop :=
  ∀ (m : (ℓ : Loc Cert.ReferenceFfnInActIdeal.nD Cert.ReferenceFfnInActIdeal.τ Cert.ReferenceFfnInActIdeal.sig) → Buf (Elt Ideal) ℓ) (g : Dev Cert.ReferenceFfnInActIdeal.nD → PrngReg), Pre_ReferenceFfnInActIdeal m →
    θ_run (Cert.ReferenceFfnInActIdeal.defs (F := Ideal)) (onTc (τ := Cert.ReferenceFfnInActIdeal.τ) (Cert.ReferenceFfnInActIdeal.main (F := Ideal))) ⟨m, fun _ => 0, g⟩ (fun r => (∀ c : Dev Cert.ReferenceFfnInActIdeal.nD,
      r.2.mem ((c.tc : Thread Cert.ReferenceFfnInActIdeal.nD Cert.ReferenceFfnInActIdeal.τ).loc Cert.ReferenceFfnInActIdeal.main_arg0) = m ((c.tc : Thread Cert.ReferenceFfnInActIdeal.nD Cert.ReferenceFfnInActIdeal.τ).loc Cert.ReferenceFfnInActIdeal.main_arg0)
      ∧ r.2.mem ((c.tc : Thread Cert.ReferenceFfnInActIdeal.nD Cert.ReferenceFfnInActIdeal.τ).loc Cert.ReferenceFfnInActIdeal.main_arg1) = m ((c.tc : Thread Cert.ReferenceFfnInActIdeal.nD Cert.ReferenceFfnInActIdeal.τ).loc Cert.ReferenceFfnInActIdeal.main_arg1)
      ∧ r.2.mem ((c.tc : Thread Cert.ReferenceFfnInActIdeal.nD Cert.ReferenceFfnInActIdeal.τ).loc Cert.ReferenceFfnInActIdeal.main_arg2) = m ((c.tc : Thread Cert.ReferenceFfnInActIdeal.nD Cert.ReferenceFfnInActIdeal.τ).loc Cert.ReferenceFfnInActIdeal.main_arg2)
      ∧ r.2.mem ((c.tc : Thread Cert.ReferenceFfnInActIdeal.nD Cert.ReferenceFfnInActIdeal.τ).loc Cert.ReferenceFfnInActIdeal.main_arg3) = m ((c.tc : Thread Cert.ReferenceFfnInActIdeal.nD Cert.ReferenceFfnInActIdeal.τ).loc Cert.ReferenceFfnInActIdeal.main_arg3)
      ∧ r.2.mem ((c.tc : Thread Cert.ReferenceFfnInActIdeal.nD Cert.ReferenceFfnInActIdeal.τ).loc Cert.ReferenceFfnInActIdeal.main_arg4) = m ((c.tc : Thread Cert.ReferenceFfnInActIdeal.nD Cert.ReferenceFfnInActIdeal.τ).loc Cert.ReferenceFfnInActIdeal.main_arg4))
      ∧ r.2.sem = fun _ => 0)

def quiescent_KernelFfnInW [hKernelFfnInW : Cert.KernelFfnInW.Facts] : Prop :=
  ∀ (m : (ℓ : Loc Cert.KernelFfnInW.nD Cert.KernelFfnInW.τ Cert.KernelFfnInW.sig) → Buf (Elt Bits) ℓ) (g : Dev Cert.KernelFfnInW.nD → PrngReg), Pre_KernelFfnInW m →
    θ_run (Cert.KernelFfnInW.defs (F := Bits)) (onTc (τ := Cert.KernelFfnInW.τ) (Cert.KernelFfnInW.main (F := Bits))) ⟨m, fun _ => 0, g⟩ (fun r => (∀ c : Dev Cert.KernelFfnInW.nD,
      r.2.mem ((c.tc : Thread Cert.KernelFfnInW.nD Cert.KernelFfnInW.τ).loc Cert.KernelFfnInW.main_arg0) = m ((c.tc : Thread Cert.KernelFfnInW.nD Cert.KernelFfnInW.τ).loc Cert.KernelFfnInW.main_arg0)
      ∧ r.2.mem ((c.tc : Thread Cert.KernelFfnInW.nD Cert.KernelFfnInW.τ).loc Cert.KernelFfnInW.main_arg1) = m ((c.tc : Thread Cert.KernelFfnInW.nD Cert.KernelFfnInW.τ).loc Cert.KernelFfnInW.main_arg1)
      ∧ r.2.mem ((c.tc : Thread Cert.KernelFfnInW.nD Cert.KernelFfnInW.τ).loc Cert.KernelFfnInW.main_arg2) = m ((c.tc : Thread Cert.KernelFfnInW.nD Cert.KernelFfnInW.τ).loc Cert.KernelFfnInW.main_arg2)
      ∧ r.2.mem ((c.tc : Thread Cert.KernelFfnInW.nD Cert.KernelFfnInW.τ).loc Cert.KernelFfnInW.main_arg3) = m ((c.tc : Thread Cert.KernelFfnInW.nD Cert.KernelFfnInW.τ).loc Cert.KernelFfnInW.main_arg3))
      ∧ r.2.sem = fun _ => 0)

def quiescent_KernelFfnInWIdeal [hKernelFfnInWIdeal : Cert.KernelFfnInWIdeal.Facts] : Prop :=
  ∀ (m : (ℓ : Loc Cert.KernelFfnInWIdeal.nD Cert.KernelFfnInWIdeal.τ Cert.KernelFfnInWIdeal.sig) → Buf (Elt Ideal) ℓ) (g : Dev Cert.KernelFfnInWIdeal.nD → PrngReg), Pre_KernelFfnInWIdeal m →
    θ_run (Cert.KernelFfnInWIdeal.defs (F := Ideal)) (onTc (τ := Cert.KernelFfnInWIdeal.τ) (Cert.KernelFfnInWIdeal.main (F := Ideal))) ⟨m, fun _ => 0, g⟩ (fun r => (∀ c : Dev Cert.KernelFfnInWIdeal.nD,
      r.2.mem ((c.tc : Thread Cert.KernelFfnInWIdeal.nD Cert.KernelFfnInWIdeal.τ).loc Cert.KernelFfnInWIdeal.main_arg0) = m ((c.tc : Thread Cert.KernelFfnInWIdeal.nD Cert.KernelFfnInWIdeal.τ).loc Cert.KernelFfnInWIdeal.main_arg0)
      ∧ r.2.mem ((c.tc : Thread Cert.KernelFfnInWIdeal.nD Cert.KernelFfnInWIdeal.τ).loc Cert.KernelFfnInWIdeal.main_arg1) = m ((c.tc : Thread Cert.KernelFfnInWIdeal.nD Cert.KernelFfnInWIdeal.τ).loc Cert.KernelFfnInWIdeal.main_arg1)
      ∧ r.2.mem ((c.tc : Thread Cert.KernelFfnInWIdeal.nD Cert.KernelFfnInWIdeal.τ).loc Cert.KernelFfnInWIdeal.main_arg2) = m ((c.tc : Thread Cert.KernelFfnInWIdeal.nD Cert.KernelFfnInWIdeal.τ).loc Cert.KernelFfnInWIdeal.main_arg2)
      ∧ r.2.mem ((c.tc : Thread Cert.KernelFfnInWIdeal.nD Cert.KernelFfnInWIdeal.τ).loc Cert.KernelFfnInWIdeal.main_arg3) = m ((c.tc : Thread Cert.KernelFfnInWIdeal.nD Cert.KernelFfnInWIdeal.τ).loc Cert.KernelFfnInWIdeal.main_arg3))
      ∧ r.2.sem = fun _ => 0)

def quiescent_ReferenceFfnInWIdeal [hReferenceFfnInWIdeal : Cert.ReferenceFfnInWIdeal.Facts] : Prop :=
  ∀ (m : (ℓ : Loc Cert.ReferenceFfnInWIdeal.nD Cert.ReferenceFfnInWIdeal.τ Cert.ReferenceFfnInWIdeal.sig) → Buf (Elt Ideal) ℓ) (g : Dev Cert.ReferenceFfnInWIdeal.nD → PrngReg), Pre_ReferenceFfnInWIdeal m →
    θ_run (Cert.ReferenceFfnInWIdeal.defs (F := Ideal)) (onTc (τ := Cert.ReferenceFfnInWIdeal.τ) (Cert.ReferenceFfnInWIdeal.main (F := Ideal))) ⟨m, fun _ => 0, g⟩ (fun r => (∀ c : Dev Cert.ReferenceFfnInWIdeal.nD,
      r.2.mem ((c.tc : Thread Cert.ReferenceFfnInWIdeal.nD Cert.ReferenceFfnInWIdeal.τ).loc Cert.ReferenceFfnInWIdeal.main_arg0) = m ((c.tc : Thread Cert.ReferenceFfnInWIdeal.nD Cert.ReferenceFfnInWIdeal.τ).loc Cert.ReferenceFfnInWIdeal.main_arg0)
      ∧ r.2.mem ((c.tc : Thread Cert.ReferenceFfnInWIdeal.nD Cert.ReferenceFfnInWIdeal.τ).loc Cert.ReferenceFfnInWIdeal.main_arg1) = m ((c.tc : Thread Cert.ReferenceFfnInWIdeal.nD Cert.ReferenceFfnInWIdeal.τ).loc Cert.ReferenceFfnInWIdeal.main_arg1)
      ∧ r.2.mem ((c.tc : Thread Cert.ReferenceFfnInWIdeal.nD Cert.ReferenceFfnInWIdeal.τ).loc Cert.ReferenceFfnInWIdeal.main_arg2) = m ((c.tc : Thread Cert.ReferenceFfnInWIdeal.nD Cert.ReferenceFfnInWIdeal.τ).loc Cert.ReferenceFfnInWIdeal.main_arg2)
      ∧ r.2.mem ((c.tc : Thread Cert.ReferenceFfnInWIdeal.nD Cert.ReferenceFfnInWIdeal.τ).loc Cert.ReferenceFfnInWIdeal.main_arg3) = m ((c.tc : Thread Cert.ReferenceFfnInWIdeal.nD Cert.ReferenceFfnInWIdeal.τ).loc Cert.ReferenceFfnInWIdeal.main_arg3))
      ∧ r.2.sem = fun _ => 0)

def quiescent_KernelFfnIn [hKernelFfnIn : Cert.KernelFfnIn.Facts] : Prop :=
  ∀ (m : (ℓ : Loc Cert.KernelFfnIn.nD Cert.KernelFfnIn.τ Cert.KernelFfnIn.sig) → Buf (Elt Bits) ℓ) (g : Dev Cert.KernelFfnIn.nD → PrngReg), Pre_KernelFfnIn m →
    θ_run (Cert.KernelFfnIn.defs (F := Bits)) (onTc (τ := Cert.KernelFfnIn.τ) (Cert.KernelFfnIn.main (F := Bits))) ⟨m, fun _ => 0, g⟩ (fun r => (∀ c : Dev Cert.KernelFfnIn.nD,
      r.2.mem ((c.tc : Thread Cert.KernelFfnIn.nD Cert.KernelFfnIn.τ).loc Cert.KernelFfnIn.main_arg0) = m ((c.tc : Thread Cert.KernelFfnIn.nD Cert.KernelFfnIn.τ).loc Cert.KernelFfnIn.main_arg0)
      ∧ r.2.mem ((c.tc : Thread Cert.KernelFfnIn.nD Cert.KernelFfnIn.τ).loc Cert.KernelFfnIn.main_arg1) = m ((c.tc : Thread Cert.KernelFfnIn.nD Cert.KernelFfnIn.τ).loc Cert.KernelFfnIn.main_arg1)
      ∧ r.2.mem ((c.tc : Thread Cert.KernelFfnIn.nD Cert.KernelFfnIn.τ).loc Cert.KernelFfnIn.main_arg2) = m ((c.tc : Thread Cert.KernelFfnIn.nD Cert.KernelFfnIn.τ).loc Cert.KernelFfnIn.main_arg2))
      ∧ r.2.sem = fun _ => 0)

def quiescent_KernelFfnInIdeal [hKernelFfnInIdeal : Cert.KernelFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg), Pre_KernelFfnInIdeal m →
    θ_run (Cert.KernelFfnInIdeal.defs (F := Ideal)) (onTc (τ := Cert.KernelFfnInIdeal.τ) (Cert.KernelFfnInIdeal.main (F := Ideal))) ⟨m, fun _ => 0, g⟩ (fun r => (∀ c : Dev Cert.KernelFfnInIdeal.nD,
      r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
      ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
      ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2))
      ∧ r.2.sem = fun _ => 0)

def quiescent_ReferenceFfnInIdeal [hReferenceFfnInIdeal : Cert.ReferenceFfnInIdeal.Facts] : Prop :=
  ∀ (m : (ℓ : Loc Cert.ReferenceFfnInIdeal.nD Cert.ReferenceFfnInIdeal.τ Cert.ReferenceFfnInIdeal.sig) → Buf (Elt Ideal) ℓ) (g : Dev Cert.ReferenceFfnInIdeal.nD → PrngReg), Pre_ReferenceFfnInIdeal m →
    θ_run (Cert.ReferenceFfnInIdeal.defs (F := Ideal)) (onTc (τ := Cert.ReferenceFfnInIdeal.τ) (Cert.ReferenceFfnInIdeal.main (F := Ideal))) ⟨m, fun _ => 0, g⟩ (fun r => (∀ c : Dev Cert.ReferenceFfnInIdeal.nD,
      r.2.mem ((c.tc : Thread Cert.ReferenceFfnInIdeal.nD Cert.ReferenceFfnInIdeal.τ).loc Cert.ReferenceFfnInIdeal.main_arg0) = m ((c.tc : Thread Cert.ReferenceFfnInIdeal.nD Cert.ReferenceFfnInIdeal.τ).loc Cert.ReferenceFfnInIdeal.main_arg0)
      ∧ r.2.mem ((c.tc : Thread Cert.ReferenceFfnInIdeal.nD Cert.ReferenceFfnInIdeal.τ).loc Cert.ReferenceFfnInIdeal.main_arg1) = m ((c.tc : Thread Cert.ReferenceFfnInIdeal.nD Cert.ReferenceFfnInIdeal.τ).loc Cert.ReferenceFfnInIdeal.main_arg1)
      ∧ r.2.mem ((c.tc : Thread Cert.ReferenceFfnInIdeal.nD Cert.ReferenceFfnInIdeal.τ).loc Cert.ReferenceFfnInIdeal.main_arg2) = m ((c.tc : Thread Cert.ReferenceFfnInIdeal.nD Cert.ReferenceFfnInIdeal.τ).loc Cert.ReferenceFfnInIdeal.main_arg2))
      ∧ r.2.sem = fun _ => 0)

def quiescent_KernelFfnOutW [hKernelFfnOutW : Cert.KernelFfnOutW.Facts] : Prop :=
  ∀ (m : (ℓ : Loc Cert.KernelFfnOutW.nD Cert.KernelFfnOutW.τ Cert.KernelFfnOutW.sig) → Buf (Elt Bits) ℓ) (g : Dev Cert.KernelFfnOutW.nD → PrngReg), Pre_KernelFfnOutW m →
    θ_run (Cert.KernelFfnOutW.defs (F := Bits)) (onTc (τ := Cert.KernelFfnOutW.τ) (Cert.KernelFfnOutW.main (F := Bits))) ⟨m, fun _ => 0, g⟩ (fun r => (∀ c : Dev Cert.KernelFfnOutW.nD,
      r.2.mem ((c.tc : Thread Cert.KernelFfnOutW.nD Cert.KernelFfnOutW.τ).loc Cert.KernelFfnOutW.main_arg0) = m ((c.tc : Thread Cert.KernelFfnOutW.nD Cert.KernelFfnOutW.τ).loc Cert.KernelFfnOutW.main_arg0)
      ∧ r.2.mem ((c.tc : Thread Cert.KernelFfnOutW.nD Cert.KernelFfnOutW.τ).loc Cert.KernelFfnOutW.main_arg1) = m ((c.tc : Thread Cert.KernelFfnOutW.nD Cert.KernelFfnOutW.τ).loc Cert.KernelFfnOutW.main_arg1)
      ∧ r.2.mem ((c.tc : Thread Cert.KernelFfnOutW.nD Cert.KernelFfnOutW.τ).loc Cert.KernelFfnOutW.main_arg2) = m ((c.tc : Thread Cert.KernelFfnOutW.nD Cert.KernelFfnOutW.τ).loc Cert.KernelFfnOutW.main_arg2)
      ∧ r.2.mem ((c.tc : Thread Cert.KernelFfnOutW.nD Cert.KernelFfnOutW.τ).loc Cert.KernelFfnOutW.main_arg3) = m ((c.tc : Thread Cert.KernelFfnOutW.nD Cert.KernelFfnOutW.τ).loc Cert.KernelFfnOutW.main_arg3))
      ∧ r.2.sem = fun _ => 0)

def quiescent_KernelFfnOutWIdeal [hKernelFfnOutWIdeal : Cert.KernelFfnOutWIdeal.Facts] : Prop :=
  ∀ (m : (ℓ : Loc Cert.KernelFfnOutWIdeal.nD Cert.KernelFfnOutWIdeal.τ Cert.KernelFfnOutWIdeal.sig) → Buf (Elt Ideal) ℓ) (g : Dev Cert.KernelFfnOutWIdeal.nD → PrngReg), Pre_KernelFfnOutWIdeal m →
    θ_run (Cert.KernelFfnOutWIdeal.defs (F := Ideal)) (onTc (τ := Cert.KernelFfnOutWIdeal.τ) (Cert.KernelFfnOutWIdeal.main (F := Ideal))) ⟨m, fun _ => 0, g⟩ (fun r => (∀ c : Dev Cert.KernelFfnOutWIdeal.nD,
      r.2.mem ((c.tc : Thread Cert.KernelFfnOutWIdeal.nD Cert.KernelFfnOutWIdeal.τ).loc Cert.KernelFfnOutWIdeal.main_arg0) = m ((c.tc : Thread Cert.KernelFfnOutWIdeal.nD Cert.KernelFfnOutWIdeal.τ).loc Cert.KernelFfnOutWIdeal.main_arg0)
      ∧ r.2.mem ((c.tc : Thread Cert.KernelFfnOutWIdeal.nD Cert.KernelFfnOutWIdeal.τ).loc Cert.KernelFfnOutWIdeal.main_arg1) = m ((c.tc : Thread Cert.KernelFfnOutWIdeal.nD Cert.KernelFfnOutWIdeal.τ).loc Cert.KernelFfnOutWIdeal.main_arg1)
      ∧ r.2.mem ((c.tc : Thread Cert.KernelFfnOutWIdeal.nD Cert.KernelFfnOutWIdeal.τ).loc Cert.KernelFfnOutWIdeal.main_arg2) = m ((c.tc : Thread Cert.KernelFfnOutWIdeal.nD Cert.KernelFfnOutWIdeal.τ).loc Cert.KernelFfnOutWIdeal.main_arg2)
      ∧ r.2.mem ((c.tc : Thread Cert.KernelFfnOutWIdeal.nD Cert.KernelFfnOutWIdeal.τ).loc Cert.KernelFfnOutWIdeal.main_arg3) = m ((c.tc : Thread Cert.KernelFfnOutWIdeal.nD Cert.KernelFfnOutWIdeal.τ).loc Cert.KernelFfnOutWIdeal.main_arg3))
      ∧ r.2.sem = fun _ => 0)

def quiescent_ReferenceFfnOutWIdeal [hReferenceFfnOutWIdeal : Cert.ReferenceFfnOutWIdeal.Facts] : Prop :=
  ∀ (m : (ℓ : Loc Cert.ReferenceFfnOutWIdeal.nD Cert.ReferenceFfnOutWIdeal.τ Cert.ReferenceFfnOutWIdeal.sig) → Buf (Elt Ideal) ℓ) (g : Dev Cert.ReferenceFfnOutWIdeal.nD → PrngReg), Pre_ReferenceFfnOutWIdeal m →
    θ_run (Cert.ReferenceFfnOutWIdeal.defs (F := Ideal)) (onTc (τ := Cert.ReferenceFfnOutWIdeal.τ) (Cert.ReferenceFfnOutWIdeal.main (F := Ideal))) ⟨m, fun _ => 0, g⟩ (fun r => (∀ c : Dev Cert.ReferenceFfnOutWIdeal.nD,
      r.2.mem ((c.tc : Thread Cert.ReferenceFfnOutWIdeal.nD Cert.ReferenceFfnOutWIdeal.τ).loc Cert.ReferenceFfnOutWIdeal.main_arg0) = m ((c.tc : Thread Cert.ReferenceFfnOutWIdeal.nD Cert.ReferenceFfnOutWIdeal.τ).loc Cert.ReferenceFfnOutWIdeal.main_arg0)
      ∧ r.2.mem ((c.tc : Thread Cert.ReferenceFfnOutWIdeal.nD Cert.ReferenceFfnOutWIdeal.τ).loc Cert.ReferenceFfnOutWIdeal.main_arg1) = m ((c.tc : Thread Cert.ReferenceFfnOutWIdeal.nD Cert.ReferenceFfnOutWIdeal.τ).loc Cert.ReferenceFfnOutWIdeal.main_arg1)
      ∧ r.2.mem ((c.tc : Thread Cert.ReferenceFfnOutWIdeal.nD Cert.ReferenceFfnOutWIdeal.τ).loc Cert.ReferenceFfnOutWIdeal.main_arg2) = m ((c.tc : Thread Cert.ReferenceFfnOutWIdeal.nD Cert.ReferenceFfnOutWIdeal.τ).loc Cert.ReferenceFfnOutWIdeal.main_arg2)
      ∧ r.2.mem ((c.tc : Thread Cert.ReferenceFfnOutWIdeal.nD Cert.ReferenceFfnOutWIdeal.τ).loc Cert.ReferenceFfnOutWIdeal.main_arg3) = m ((c.tc : Thread Cert.ReferenceFfnOutWIdeal.nD Cert.ReferenceFfnOutWIdeal.τ).loc Cert.ReferenceFfnOutWIdeal.main_arg3))
      ∧ r.2.sem = fun _ => 0)

def quiescent_KernelOutW [hKernelOutW : Cert.KernelOutW.Facts] : Prop :=
  ∀ (m : (ℓ : Loc Cert.KernelOutW.nD Cert.KernelOutW.τ Cert.KernelOutW.sig) → Buf (Elt Bits) ℓ) (g : Dev Cert.KernelOutW.nD → PrngReg), Pre_KernelOutW m →
    θ_run (Cert.KernelOutW.defs (F := Bits)) (onTc (τ := Cert.KernelOutW.τ) (Cert.KernelOutW.main (F := Bits))) ⟨m, fun _ => 0, g⟩ (fun r => (∀ c : Dev Cert.KernelOutW.nD,
      r.2.mem ((c.tc : Thread Cert.KernelOutW.nD Cert.KernelOutW.τ).loc Cert.KernelOutW.main_arg0) = m ((c.tc : Thread Cert.KernelOutW.nD Cert.KernelOutW.τ).loc Cert.KernelOutW.main_arg0)
      ∧ r.2.mem ((c.tc : Thread Cert.KernelOutW.nD Cert.KernelOutW.τ).loc Cert.KernelOutW.main_arg1) = m ((c.tc : Thread Cert.KernelOutW.nD Cert.KernelOutW.τ).loc Cert.KernelOutW.main_arg1)
      ∧ r.2.mem ((c.tc : Thread Cert.KernelOutW.nD Cert.KernelOutW.τ).loc Cert.KernelOutW.main_arg2) = m ((c.tc : Thread Cert.KernelOutW.nD Cert.KernelOutW.τ).loc Cert.KernelOutW.main_arg2))
      ∧ r.2.sem = fun _ => 0)

def quiescent_KernelOutWIdeal [hKernelOutWIdeal : Cert.KernelOutWIdeal.Facts] : Prop :=
  ∀ (m : (ℓ : Loc Cert.KernelOutWIdeal.nD Cert.KernelOutWIdeal.τ Cert.KernelOutWIdeal.sig) → Buf (Elt Ideal) ℓ) (g : Dev Cert.KernelOutWIdeal.nD → PrngReg), Pre_KernelOutWIdeal m →
    θ_run (Cert.KernelOutWIdeal.defs (F := Ideal)) (onTc (τ := Cert.KernelOutWIdeal.τ) (Cert.KernelOutWIdeal.main (F := Ideal))) ⟨m, fun _ => 0, g⟩ (fun r => (∀ c : Dev Cert.KernelOutWIdeal.nD,
      r.2.mem ((c.tc : Thread Cert.KernelOutWIdeal.nD Cert.KernelOutWIdeal.τ).loc Cert.KernelOutWIdeal.main_arg0) = m ((c.tc : Thread Cert.KernelOutWIdeal.nD Cert.KernelOutWIdeal.τ).loc Cert.KernelOutWIdeal.main_arg0)
      ∧ r.2.mem ((c.tc : Thread Cert.KernelOutWIdeal.nD Cert.KernelOutWIdeal.τ).loc Cert.KernelOutWIdeal.main_arg1) = m ((c.tc : Thread Cert.KernelOutWIdeal.nD Cert.KernelOutWIdeal.τ).loc Cert.KernelOutWIdeal.main_arg1)
      ∧ r.2.mem ((c.tc : Thread Cert.KernelOutWIdeal.nD Cert.KernelOutWIdeal.τ).loc Cert.KernelOutWIdeal.main_arg2) = m ((c.tc : Thread Cert.KernelOutWIdeal.nD Cert.KernelOutWIdeal.τ).loc Cert.KernelOutWIdeal.main_arg2))
      ∧ r.2.sem = fun _ => 0)

def quiescent_ReferenceOutWIdeal [hReferenceOutWIdeal : Cert.ReferenceOutWIdeal.Facts] : Prop :=
  ∀ (m : (ℓ : Loc Cert.ReferenceOutWIdeal.nD Cert.ReferenceOutWIdeal.τ Cert.ReferenceOutWIdeal.sig) → Buf (Elt Ideal) ℓ) (g : Dev Cert.ReferenceOutWIdeal.nD → PrngReg), Pre_ReferenceOutWIdeal m →
    θ_run (Cert.ReferenceOutWIdeal.defs (F := Ideal)) (onTc (τ := Cert.ReferenceOutWIdeal.τ) (Cert.ReferenceOutWIdeal.main (F := Ideal))) ⟨m, fun _ => 0, g⟩ (fun r => (∀ c : Dev Cert.ReferenceOutWIdeal.nD,
      r.2.mem ((c.tc : Thread Cert.ReferenceOutWIdeal.nD Cert.ReferenceOutWIdeal.τ).loc Cert.ReferenceOutWIdeal.main_arg0) = m ((c.tc : Thread Cert.ReferenceOutWIdeal.nD Cert.ReferenceOutWIdeal.τ).loc Cert.ReferenceOutWIdeal.main_arg0)
      ∧ r.2.mem ((c.tc : Thread Cert.ReferenceOutWIdeal.nD Cert.ReferenceOutWIdeal.τ).loc Cert.ReferenceOutWIdeal.main_arg1) = m ((c.tc : Thread Cert.ReferenceOutWIdeal.nD Cert.ReferenceOutWIdeal.τ).loc Cert.ReferenceOutWIdeal.main_arg1)
      ∧ r.2.mem ((c.tc : Thread Cert.ReferenceOutWIdeal.nD Cert.ReferenceOutWIdeal.τ).loc Cert.ReferenceOutWIdeal.main_arg2) = m ((c.tc : Thread Cert.ReferenceOutWIdeal.nD Cert.ReferenceOutWIdeal.τ).loc Cert.ReferenceOutWIdeal.main_arg2))
      ∧ r.2.sem = fun _ => 0)

def quiescent_KernelProjHgW [hKernelProjHgW : Cert.KernelProjHgW.Facts] : Prop :=
  ∀ (m : (ℓ : Loc Cert.KernelProjHgW.nD Cert.KernelProjHgW.τ Cert.KernelProjHgW.sig) → Buf (Elt Bits) ℓ) (g : Dev Cert.KernelProjHgW.nD → PrngReg), Pre_KernelProjHgW m →
    θ_run (Cert.KernelProjHgW.defs (F := Bits)) (onTc (τ := Cert.KernelProjHgW.τ) (Cert.KernelProjHgW.main (F := Bits))) ⟨m, fun _ => 0, g⟩ (fun r => (∀ c : Dev Cert.KernelProjHgW.nD,
      r.2.mem ((c.tc : Thread Cert.KernelProjHgW.nD Cert.KernelProjHgW.τ).loc Cert.KernelProjHgW.main_arg0) = m ((c.tc : Thread Cert.KernelProjHgW.nD Cert.KernelProjHgW.τ).loc Cert.KernelProjHgW.main_arg0)
      ∧ r.2.mem ((c.tc : Thread Cert.KernelProjHgW.nD Cert.KernelProjHgW.τ).loc Cert.KernelProjHgW.main_arg1) = m ((c.tc : Thread Cert.KernelProjHgW.nD Cert.KernelProjHgW.τ).loc Cert.KernelProjHgW.main_arg1)
      ∧ r.2.mem ((c.tc : Thread Cert.KernelProjHgW.nD Cert.KernelProjHgW.τ).loc Cert.KernelProjHgW.main_arg2) = m ((c.tc : Thread Cert.KernelProjHgW.nD Cert.KernelProjHgW.τ).loc Cert.KernelProjHgW.main_arg2))
      ∧ r.2.sem = fun _ => 0)

def quiescent_KernelProjHgWIdeal [hKernelProjHgWIdeal : Cert.KernelProjHgWIdeal.Facts] : Prop :=
  ∀ (m : (ℓ : Loc Cert.KernelProjHgWIdeal.nD Cert.KernelProjHgWIdeal.τ Cert.KernelProjHgWIdeal.sig) → Buf (Elt Ideal) ℓ) (g : Dev Cert.KernelProjHgWIdeal.nD → PrngReg), Pre_KernelProjHgWIdeal m →
    θ_run (Cert.KernelProjHgWIdeal.defs (F := Ideal)) (onTc (τ := Cert.KernelProjHgWIdeal.τ) (Cert.KernelProjHgWIdeal.main (F := Ideal))) ⟨m, fun _ => 0, g⟩ (fun r => (∀ c : Dev Cert.KernelProjHgWIdeal.nD,
      r.2.mem ((c.tc : Thread Cert.KernelProjHgWIdeal.nD Cert.KernelProjHgWIdeal.τ).loc Cert.KernelProjHgWIdeal.main_arg0) = m ((c.tc : Thread Cert.KernelProjHgWIdeal.nD Cert.KernelProjHgWIdeal.τ).loc Cert.KernelProjHgWIdeal.main_arg0)
      ∧ r.2.mem ((c.tc : Thread Cert.KernelProjHgWIdeal.nD Cert.KernelProjHgWIdeal.τ).loc Cert.KernelProjHgWIdeal.main_arg1) = m ((c.tc : Thread Cert.KernelProjHgWIdeal.nD Cert.KernelProjHgWIdeal.τ).loc Cert.KernelProjHgWIdeal.main_arg1)
      ∧ r.2.mem ((c.tc : Thread Cert.KernelProjHgWIdeal.nD Cert.KernelProjHgWIdeal.τ).loc Cert.KernelProjHgWIdeal.main_arg2) = m ((c.tc : Thread Cert.KernelProjHgWIdeal.nD Cert.KernelProjHgWIdeal.τ).loc Cert.KernelProjHgWIdeal.main_arg2))
      ∧ r.2.sem = fun _ => 0)

def quiescent_ReferenceProjHgWIdeal [hReferenceProjHgWIdeal : Cert.ReferenceProjHgWIdeal.Facts] : Prop :=
  ∀ (m : (ℓ : Loc Cert.ReferenceProjHgWIdeal.nD Cert.ReferenceProjHgWIdeal.τ Cert.ReferenceProjHgWIdeal.sig) → Buf (Elt Ideal) ℓ) (g : Dev Cert.ReferenceProjHgWIdeal.nD → PrngReg), Pre_ReferenceProjHgWIdeal m →
    θ_run (Cert.ReferenceProjHgWIdeal.defs (F := Ideal)) (onTc (τ := Cert.ReferenceProjHgWIdeal.τ) (Cert.ReferenceProjHgWIdeal.main (F := Ideal))) ⟨m, fun _ => 0, g⟩ (fun r => (∀ c : Dev Cert.ReferenceProjHgWIdeal.nD,
      r.2.mem ((c.tc : Thread Cert.ReferenceProjHgWIdeal.nD Cert.ReferenceProjHgWIdeal.τ).loc Cert.ReferenceProjHgWIdeal.main_arg0) = m ((c.tc : Thread Cert.ReferenceProjHgWIdeal.nD Cert.ReferenceProjHgWIdeal.τ).loc Cert.ReferenceProjHgWIdeal.main_arg0)
      ∧ r.2.mem ((c.tc : Thread Cert.ReferenceProjHgWIdeal.nD Cert.ReferenceProjHgWIdeal.τ).loc Cert.ReferenceProjHgWIdeal.main_arg1) = m ((c.tc : Thread Cert.ReferenceProjHgWIdeal.nD Cert.ReferenceProjHgWIdeal.τ).loc Cert.ReferenceProjHgWIdeal.main_arg1)
      ∧ r.2.mem ((c.tc : Thread Cert.ReferenceProjHgWIdeal.nD Cert.ReferenceProjHgWIdeal.τ).loc Cert.ReferenceProjHgWIdeal.main_arg2) = m ((c.tc : Thread Cert.ReferenceProjHgWIdeal.nD Cert.ReferenceProjHgWIdeal.τ).loc Cert.ReferenceProjHgWIdeal.main_arg2))
      ∧ r.2.sem = fun _ => 0)

def quiescent_KernelProjDaW [hKernelProjDaW : Cert.KernelProjDaW.Facts] : Prop :=
  ∀ (m : (ℓ : Loc Cert.KernelProjDaW.nD Cert.KernelProjDaW.τ Cert.KernelProjDaW.sig) → Buf (Elt Bits) ℓ) (g : Dev Cert.KernelProjDaW.nD → PrngReg), Pre_KernelProjDaW m →
    θ_run (Cert.KernelProjDaW.defs (F := Bits)) (onTc (τ := Cert.KernelProjDaW.τ) (Cert.KernelProjDaW.main (F := Bits))) ⟨m, fun _ => 0, g⟩ (fun r => (∀ c : Dev Cert.KernelProjDaW.nD,
      r.2.mem ((c.tc : Thread Cert.KernelProjDaW.nD Cert.KernelProjDaW.τ).loc Cert.KernelProjDaW.main_arg0) = m ((c.tc : Thread Cert.KernelProjDaW.nD Cert.KernelProjDaW.τ).loc Cert.KernelProjDaW.main_arg0)
      ∧ r.2.mem ((c.tc : Thread Cert.KernelProjDaW.nD Cert.KernelProjDaW.τ).loc Cert.KernelProjDaW.main_arg1) = m ((c.tc : Thread Cert.KernelProjDaW.nD Cert.KernelProjDaW.τ).loc Cert.KernelProjDaW.main_arg1)
      ∧ r.2.mem ((c.tc : Thread Cert.KernelProjDaW.nD Cert.KernelProjDaW.τ).loc Cert.KernelProjDaW.main_arg2) = m ((c.tc : Thread Cert.KernelProjDaW.nD Cert.KernelProjDaW.τ).loc Cert.KernelProjDaW.main_arg2))
      ∧ r.2.sem = fun _ => 0)

def quiescent_KernelProjDaWIdeal [hKernelProjDaWIdeal : Cert.KernelProjDaWIdeal.Facts] : Prop :=
  ∀ (m : (ℓ : Loc Cert.KernelProjDaWIdeal.nD Cert.KernelProjDaWIdeal.τ Cert.KernelProjDaWIdeal.sig) → Buf (Elt Ideal) ℓ) (g : Dev Cert.KernelProjDaWIdeal.nD → PrngReg), Pre_KernelProjDaWIdeal m →
    θ_run (Cert.KernelProjDaWIdeal.defs (F := Ideal)) (onTc (τ := Cert.KernelProjDaWIdeal.τ) (Cert.KernelProjDaWIdeal.main (F := Ideal))) ⟨m, fun _ => 0, g⟩ (fun r => (∀ c : Dev Cert.KernelProjDaWIdeal.nD,
      r.2.mem ((c.tc : Thread Cert.KernelProjDaWIdeal.nD Cert.KernelProjDaWIdeal.τ).loc Cert.KernelProjDaWIdeal.main_arg0) = m ((c.tc : Thread Cert.KernelProjDaWIdeal.nD Cert.KernelProjDaWIdeal.τ).loc Cert.KernelProjDaWIdeal.main_arg0)
      ∧ r.2.mem ((c.tc : Thread Cert.KernelProjDaWIdeal.nD Cert.KernelProjDaWIdeal.τ).loc Cert.KernelProjDaWIdeal.main_arg1) = m ((c.tc : Thread Cert.KernelProjDaWIdeal.nD Cert.KernelProjDaWIdeal.τ).loc Cert.KernelProjDaWIdeal.main_arg1)
      ∧ r.2.mem ((c.tc : Thread Cert.KernelProjDaWIdeal.nD Cert.KernelProjDaWIdeal.τ).loc Cert.KernelProjDaWIdeal.main_arg2) = m ((c.tc : Thread Cert.KernelProjDaWIdeal.nD Cert.KernelProjDaWIdeal.τ).loc Cert.KernelProjDaWIdeal.main_arg2))
      ∧ r.2.sem = fun _ => 0)

def quiescent_ReferenceProjDaWIdeal [hReferenceProjDaWIdeal : Cert.ReferenceProjDaWIdeal.Facts] : Prop :=
  ∀ (m : (ℓ : Loc Cert.ReferenceProjDaWIdeal.nD Cert.ReferenceProjDaWIdeal.τ Cert.ReferenceProjDaWIdeal.sig) → Buf (Elt Ideal) ℓ) (g : Dev Cert.ReferenceProjDaWIdeal.nD → PrngReg), Pre_ReferenceProjDaWIdeal m →
    θ_run (Cert.ReferenceProjDaWIdeal.defs (F := Ideal)) (onTc (τ := Cert.ReferenceProjDaWIdeal.τ) (Cert.ReferenceProjDaWIdeal.main (F := Ideal))) ⟨m, fun _ => 0, g⟩ (fun r => (∀ c : Dev Cert.ReferenceProjDaWIdeal.nD,
      r.2.mem ((c.tc : Thread Cert.ReferenceProjDaWIdeal.nD Cert.ReferenceProjDaWIdeal.τ).loc Cert.ReferenceProjDaWIdeal.main_arg0) = m ((c.tc : Thread Cert.ReferenceProjDaWIdeal.nD Cert.ReferenceProjDaWIdeal.τ).loc Cert.ReferenceProjDaWIdeal.main_arg0)
      ∧ r.2.mem ((c.tc : Thread Cert.ReferenceProjDaWIdeal.nD Cert.ReferenceProjDaWIdeal.τ).loc Cert.ReferenceProjDaWIdeal.main_arg1) = m ((c.tc : Thread Cert.ReferenceProjDaWIdeal.nD Cert.ReferenceProjDaWIdeal.τ).loc Cert.ReferenceProjDaWIdeal.main_arg1)
      ∧ r.2.mem ((c.tc : Thread Cert.ReferenceProjDaWIdeal.nD Cert.ReferenceProjDaWIdeal.τ).loc Cert.ReferenceProjDaWIdeal.main_arg2) = m ((c.tc : Thread Cert.ReferenceProjDaWIdeal.nD Cert.ReferenceProjDaWIdeal.τ).loc Cert.ReferenceProjDaWIdeal.main_arg2))
      ∧ r.2.sem = fun _ => 0)

def quiescent_KernelProjMemW [hKernelProjMemW : Cert.KernelProjMemW.Facts] : Prop :=
  ∀ (m : (ℓ : Loc Cert.KernelProjMemW.nD Cert.KernelProjMemW.τ Cert.KernelProjMemW.sig) → Buf (Elt Bits) ℓ) (g : Dev Cert.KernelProjMemW.nD → PrngReg), Pre_KernelProjMemW m →
    θ_run (Cert.KernelProjMemW.defs (F := Bits)) (onTc (τ := Cert.KernelProjMemW.τ) (Cert.KernelProjMemW.main (F := Bits))) ⟨m, fun _ => 0, g⟩ (fun r => (∀ c : Dev Cert.KernelProjMemW.nD,
      r.2.mem ((c.tc : Thread Cert.KernelProjMemW.nD Cert.KernelProjMemW.τ).loc Cert.KernelProjMemW.main_arg0) = m ((c.tc : Thread Cert.KernelProjMemW.nD Cert.KernelProjMemW.τ).loc Cert.KernelProjMemW.main_arg0)
      ∧ r.2.mem ((c.tc : Thread Cert.KernelProjMemW.nD Cert.KernelProjMemW.τ).loc Cert.KernelProjMemW.main_arg1) = m ((c.tc : Thread Cert.KernelProjMemW.nD Cert.KernelProjMemW.τ).loc Cert.KernelProjMemW.main_arg1)
      ∧ r.2.mem ((c.tc : Thread Cert.KernelProjMemW.nD Cert.KernelProjMemW.τ).loc Cert.KernelProjMemW.main_arg2) = m ((c.tc : Thread Cert.KernelProjMemW.nD Cert.KernelProjMemW.τ).loc Cert.KernelProjMemW.main_arg2))
      ∧ r.2.sem = fun _ => 0)

def quiescent_KernelProjMemWIdeal [hKernelProjMemWIdeal : Cert.KernelProjMemWIdeal.Facts] : Prop :=
  ∀ (m : (ℓ : Loc Cert.KernelProjMemWIdeal.nD Cert.KernelProjMemWIdeal.τ Cert.KernelProjMemWIdeal.sig) → Buf (Elt Ideal) ℓ) (g : Dev Cert.KernelProjMemWIdeal.nD → PrngReg), Pre_KernelProjMemWIdeal m →
    θ_run (Cert.KernelProjMemWIdeal.defs (F := Ideal)) (onTc (τ := Cert.KernelProjMemWIdeal.τ) (Cert.KernelProjMemWIdeal.main (F := Ideal))) ⟨m, fun _ => 0, g⟩ (fun r => (∀ c : Dev Cert.KernelProjMemWIdeal.nD,
      r.2.mem ((c.tc : Thread Cert.KernelProjMemWIdeal.nD Cert.KernelProjMemWIdeal.τ).loc Cert.KernelProjMemWIdeal.main_arg0) = m ((c.tc : Thread Cert.KernelProjMemWIdeal.nD Cert.KernelProjMemWIdeal.τ).loc Cert.KernelProjMemWIdeal.main_arg0)
      ∧ r.2.mem ((c.tc : Thread Cert.KernelProjMemWIdeal.nD Cert.KernelProjMemWIdeal.τ).loc Cert.KernelProjMemWIdeal.main_arg1) = m ((c.tc : Thread Cert.KernelProjMemWIdeal.nD Cert.KernelProjMemWIdeal.τ).loc Cert.KernelProjMemWIdeal.main_arg1)
      ∧ r.2.mem ((c.tc : Thread Cert.KernelProjMemWIdeal.nD Cert.KernelProjMemWIdeal.τ).loc Cert.KernelProjMemWIdeal.main_arg2) = m ((c.tc : Thread Cert.KernelProjMemWIdeal.nD Cert.KernelProjMemWIdeal.τ).loc Cert.KernelProjMemWIdeal.main_arg2))
      ∧ r.2.sem = fun _ => 0)

def quiescent_ReferenceProjMemWIdeal [hReferenceProjMemWIdeal : Cert.ReferenceProjMemWIdeal.Facts] : Prop :=
  ∀ (m : (ℓ : Loc Cert.ReferenceProjMemWIdeal.nD Cert.ReferenceProjMemWIdeal.τ Cert.ReferenceProjMemWIdeal.sig) → Buf (Elt Ideal) ℓ) (g : Dev Cert.ReferenceProjMemWIdeal.nD → PrngReg), Pre_ReferenceProjMemWIdeal m →
    θ_run (Cert.ReferenceProjMemWIdeal.defs (F := Ideal)) (onTc (τ := Cert.ReferenceProjMemWIdeal.τ) (Cert.ReferenceProjMemWIdeal.main (F := Ideal))) ⟨m, fun _ => 0, g⟩ (fun r => (∀ c : Dev Cert.ReferenceProjMemWIdeal.nD,
      r.2.mem ((c.tc : Thread Cert.ReferenceProjMemWIdeal.nD Cert.ReferenceProjMemWIdeal.τ).loc Cert.ReferenceProjMemWIdeal.main_arg0) = m ((c.tc : Thread Cert.ReferenceProjMemWIdeal.nD Cert.ReferenceProjMemWIdeal.τ).loc Cert.ReferenceProjMemWIdeal.main_arg0)
      ∧ r.2.mem ((c.tc : Thread Cert.ReferenceProjMemWIdeal.nD Cert.ReferenceProjMemWIdeal.τ).loc Cert.ReferenceProjMemWIdeal.main_arg1) = m ((c.tc : Thread Cert.ReferenceProjMemWIdeal.nD Cert.ReferenceProjMemWIdeal.τ).loc Cert.ReferenceProjMemWIdeal.main_arg1)
      ∧ r.2.mem ((c.tc : Thread Cert.ReferenceProjMemWIdeal.nD Cert.ReferenceProjMemWIdeal.τ).loc Cert.ReferenceProjMemWIdeal.main_arg2) = m ((c.tc : Thread Cert.ReferenceProjMemWIdeal.nD Cert.ReferenceProjMemWIdeal.τ).loc Cert.ReferenceProjMemWIdeal.main_arg2))
      ∧ r.2.sem = fun _ => 0)

def quiescent_KernelMemKvW [hKernelMemKvW : Cert.KernelMemKvW.Facts] : Prop :=
  ∀ (m : (ℓ : Loc Cert.KernelMemKvW.nD Cert.KernelMemKvW.τ Cert.KernelMemKvW.sig) → Buf (Elt Bits) ℓ) (g : Dev Cert.KernelMemKvW.nD → PrngReg), Pre_KernelMemKvW m →
    θ_run (Cert.KernelMemKvW.defs (F := Bits)) (onTc (τ := Cert.KernelMemKvW.τ) (Cert.KernelMemKvW.main (F := Bits))) ⟨m, fun _ => 0, g⟩ (fun r => (∀ c : Dev Cert.KernelMemKvW.nD,
      r.2.mem ((c.tc : Thread Cert.KernelMemKvW.nD Cert.KernelMemKvW.τ).loc Cert.KernelMemKvW.main_arg0) = m ((c.tc : Thread Cert.KernelMemKvW.nD Cert.KernelMemKvW.τ).loc Cert.KernelMemKvW.main_arg0)
      ∧ r.2.mem ((c.tc : Thread Cert.KernelMemKvW.nD Cert.KernelMemKvW.τ).loc Cert.KernelMemKvW.main_arg1) = m ((c.tc : Thread Cert.KernelMemKvW.nD Cert.KernelMemKvW.τ).loc Cert.KernelMemKvW.main_arg1)
      ∧ r.2.mem ((c.tc : Thread Cert.KernelMemKvW.nD Cert.KernelMemKvW.τ).loc Cert.KernelMemKvW.main_arg2) = m ((c.tc : Thread Cert.KernelMemKvW.nD Cert.KernelMemKvW.τ).loc Cert.KernelMemKvW.main_arg2))
      ∧ r.2.sem = fun _ => 0)

def quiescent_KernelMemKvWIdeal [hKernelMemKvWIdeal : Cert.KernelMemKvWIdeal.Facts] : Prop :=
  ∀ (m : (ℓ : Loc Cert.KernelMemKvWIdeal.nD Cert.KernelMemKvWIdeal.τ Cert.KernelMemKvWIdeal.sig) → Buf (Elt Ideal) ℓ) (g : Dev Cert.KernelMemKvWIdeal.nD → PrngReg), Pre_KernelMemKvWIdeal m →
    θ_run (Cert.KernelMemKvWIdeal.defs (F := Ideal)) (onTc (τ := Cert.KernelMemKvWIdeal.τ) (Cert.KernelMemKvWIdeal.main (F := Ideal))) ⟨m, fun _ => 0, g⟩ (fun r => (∀ c : Dev Cert.KernelMemKvWIdeal.nD,
      r.2.mem ((c.tc : Thread Cert.KernelMemKvWIdeal.nD Cert.KernelMemKvWIdeal.τ).loc Cert.KernelMemKvWIdeal.main_arg0) = m ((c.tc : Thread Cert.KernelMemKvWIdeal.nD Cert.KernelMemKvWIdeal.τ).loc Cert.KernelMemKvWIdeal.main_arg0)
      ∧ r.2.mem ((c.tc : Thread Cert.KernelMemKvWIdeal.nD Cert.KernelMemKvWIdeal.τ).loc Cert.KernelMemKvWIdeal.main_arg1) = m ((c.tc : Thread Cert.KernelMemKvWIdeal.nD Cert.KernelMemKvWIdeal.τ).loc Cert.KernelMemKvWIdeal.main_arg1)
      ∧ r.2.mem ((c.tc : Thread Cert.KernelMemKvWIdeal.nD Cert.KernelMemKvWIdeal.τ).loc Cert.KernelMemKvWIdeal.main_arg2) = m ((c.tc : Thread Cert.KernelMemKvWIdeal.nD Cert.KernelMemKvWIdeal.τ).loc Cert.KernelMemKvWIdeal.main_arg2))
      ∧ r.2.sem = fun _ => 0)

def quiescent_ReferenceMemKvWIdeal [hReferenceMemKvWIdeal : Cert.ReferenceMemKvWIdeal.Facts] : Prop :=
  ∀ (m : (ℓ : Loc Cert.ReferenceMemKvWIdeal.nD Cert.ReferenceMemKvWIdeal.τ Cert.ReferenceMemKvWIdeal.sig) → Buf (Elt Ideal) ℓ) (g : Dev Cert.ReferenceMemKvWIdeal.nD → PrngReg), Pre_ReferenceMemKvWIdeal m →
    θ_run (Cert.ReferenceMemKvWIdeal.defs (F := Ideal)) (onTc (τ := Cert.ReferenceMemKvWIdeal.τ) (Cert.ReferenceMemKvWIdeal.main (F := Ideal))) ⟨m, fun _ => 0, g⟩ (fun r => (∀ c : Dev Cert.ReferenceMemKvWIdeal.nD,
      r.2.mem ((c.tc : Thread Cert.ReferenceMemKvWIdeal.nD Cert.ReferenceMemKvWIdeal.τ).loc Cert.ReferenceMemKvWIdeal.main_arg0) = m ((c.tc : Thread Cert.ReferenceMemKvWIdeal.nD Cert.ReferenceMemKvWIdeal.τ).loc Cert.ReferenceMemKvWIdeal.main_arg0)
      ∧ r.2.mem ((c.tc : Thread Cert.ReferenceMemKvWIdeal.nD Cert.ReferenceMemKvWIdeal.τ).loc Cert.ReferenceMemKvWIdeal.main_arg1) = m ((c.tc : Thread Cert.ReferenceMemKvWIdeal.nD Cert.ReferenceMemKvWIdeal.τ).loc Cert.ReferenceMemKvWIdeal.main_arg1)
      ∧ r.2.mem ((c.tc : Thread Cert.ReferenceMemKvWIdeal.nD Cert.ReferenceMemKvWIdeal.τ).loc Cert.ReferenceMemKvWIdeal.main_arg2) = m ((c.tc : Thread Cert.ReferenceMemKvWIdeal.nD Cert.ReferenceMemKvWIdeal.τ).loc Cert.ReferenceMemKvWIdeal.main_arg2))
      ∧ r.2.sem = fun _ => 0)

def quiescent_KernelMemKvAct [hKernelMemKvAct : Cert.KernelMemKvAct.Facts] : Prop :=
  ∀ (m : (ℓ : Loc Cert.KernelMemKvAct.nD Cert.KernelMemKvAct.τ Cert.KernelMemKvAct.sig) → Buf (Elt Bits) ℓ) (g : Dev Cert.KernelMemKvAct.nD → PrngReg), Pre_KernelMemKvAct m →
    θ_run (Cert.KernelMemKvAct.defs (F := Bits)) (onTc (τ := Cert.KernelMemKvAct.τ) (Cert.KernelMemKvAct.main (F := Bits))) ⟨m, fun _ => 0, g⟩ (fun r => (∀ c : Dev Cert.KernelMemKvAct.nD,
      r.2.mem ((c.tc : Thread Cert.KernelMemKvAct.nD Cert.KernelMemKvAct.τ).loc Cert.KernelMemKvAct.main_arg0) = m ((c.tc : Thread Cert.KernelMemKvAct.nD Cert.KernelMemKvAct.τ).loc Cert.KernelMemKvAct.main_arg0)
      ∧ r.2.mem ((c.tc : Thread Cert.KernelMemKvAct.nD Cert.KernelMemKvAct.τ).loc Cert.KernelMemKvAct.main_arg1) = m ((c.tc : Thread Cert.KernelMemKvAct.nD Cert.KernelMemKvAct.τ).loc Cert.KernelMemKvAct.main_arg1)
      ∧ r.2.mem ((c.tc : Thread Cert.KernelMemKvAct.nD Cert.KernelMemKvAct.τ).loc Cert.KernelMemKvAct.main_arg2) = m ((c.tc : Thread Cert.KernelMemKvAct.nD Cert.KernelMemKvAct.τ).loc Cert.KernelMemKvAct.main_arg2))
      ∧ r.2.sem = fun _ => 0)

def quiescent_KernelMemKvActIdeal [hKernelMemKvActIdeal : Cert.KernelMemKvActIdeal.Facts] : Prop :=
  ∀ (m : (ℓ : Loc Cert.KernelMemKvActIdeal.nD Cert.KernelMemKvActIdeal.τ Cert.KernelMemKvActIdeal.sig) → Buf (Elt Ideal) ℓ) (g : Dev Cert.KernelMemKvActIdeal.nD → PrngReg), Pre_KernelMemKvActIdeal m →
    θ_run (Cert.KernelMemKvActIdeal.defs (F := Ideal)) (onTc (τ := Cert.KernelMemKvActIdeal.τ) (Cert.KernelMemKvActIdeal.main (F := Ideal))) ⟨m, fun _ => 0, g⟩ (fun r => (∀ c : Dev Cert.KernelMemKvActIdeal.nD,
      r.2.mem ((c.tc : Thread Cert.KernelMemKvActIdeal.nD Cert.KernelMemKvActIdeal.τ).loc Cert.KernelMemKvActIdeal.main_arg0) = m ((c.tc : Thread Cert.KernelMemKvActIdeal.nD Cert.KernelMemKvActIdeal.τ).loc Cert.KernelMemKvActIdeal.main_arg0)
      ∧ r.2.mem ((c.tc : Thread Cert.KernelMemKvActIdeal.nD Cert.KernelMemKvActIdeal.τ).loc Cert.KernelMemKvActIdeal.main_arg1) = m ((c.tc : Thread Cert.KernelMemKvActIdeal.nD Cert.KernelMemKvActIdeal.τ).loc Cert.KernelMemKvActIdeal.main_arg1)
      ∧ r.2.mem ((c.tc : Thread Cert.KernelMemKvActIdeal.nD Cert.KernelMemKvActIdeal.τ).loc Cert.KernelMemKvActIdeal.main_arg2) = m ((c.tc : Thread Cert.KernelMemKvActIdeal.nD Cert.KernelMemKvActIdeal.τ).loc Cert.KernelMemKvActIdeal.main_arg2))
      ∧ r.2.sem = fun _ => 0)

def quiescent_ReferenceMemKvActIdeal [hReferenceMemKvActIdeal : Cert.ReferenceMemKvActIdeal.Facts] : Prop :=
  ∀ (m : (ℓ : Loc Cert.ReferenceMemKvActIdeal.nD Cert.ReferenceMemKvActIdeal.τ Cert.ReferenceMemKvActIdeal.sig) → Buf (Elt Ideal) ℓ) (g : Dev Cert.ReferenceMemKvActIdeal.nD → PrngReg), Pre_ReferenceMemKvActIdeal m →
    θ_run (Cert.ReferenceMemKvActIdeal.defs (F := Ideal)) (onTc (τ := Cert.ReferenceMemKvActIdeal.τ) (Cert.ReferenceMemKvActIdeal.main (F := Ideal))) ⟨m, fun _ => 0, g⟩ (fun r => (∀ c : Dev Cert.ReferenceMemKvActIdeal.nD,
      r.2.mem ((c.tc : Thread Cert.ReferenceMemKvActIdeal.nD Cert.ReferenceMemKvActIdeal.τ).loc Cert.ReferenceMemKvActIdeal.main_arg0) = m ((c.tc : Thread Cert.ReferenceMemKvActIdeal.nD Cert.ReferenceMemKvActIdeal.τ).loc Cert.ReferenceMemKvActIdeal.main_arg0)
      ∧ r.2.mem ((c.tc : Thread Cert.ReferenceMemKvActIdeal.nD Cert.ReferenceMemKvActIdeal.τ).loc Cert.ReferenceMemKvActIdeal.main_arg1) = m ((c.tc : Thread Cert.ReferenceMemKvActIdeal.nD Cert.ReferenceMemKvActIdeal.τ).loc Cert.ReferenceMemKvActIdeal.main_arg1)
      ∧ r.2.mem ((c.tc : Thread Cert.ReferenceMemKvActIdeal.nD Cert.ReferenceMemKvActIdeal.τ).loc Cert.ReferenceMemKvActIdeal.main_arg2) = m ((c.tc : Thread Cert.ReferenceMemKvActIdeal.nD Cert.ReferenceMemKvActIdeal.τ).loc Cert.ReferenceMemKvActIdeal.main_arg2))
      ∧ r.2.sem = fun _ => 0)

def quiescent_KernelNormMem [hKernelNormMem : Cert.KernelNormMem.Facts] : Prop :=
  ∀ (m : (ℓ : Loc Cert.KernelNormMem.nD Cert.KernelNormMem.τ Cert.KernelNormMem.sig) → Buf (Elt Bits) ℓ) (g : Dev Cert.KernelNormMem.nD → PrngReg), Pre_KernelNormMem m →
    θ_run (Cert.KernelNormMem.defs (F := Bits)) (onTc (τ := Cert.KernelNormMem.τ) (Cert.KernelNormMem.main (F := Bits))) ⟨m, fun _ => 0, g⟩ (fun r => (∀ c : Dev Cert.KernelNormMem.nD,
      r.2.mem ((c.tc : Thread Cert.KernelNormMem.nD Cert.KernelNormMem.τ).loc Cert.KernelNormMem.main_arg0) = m ((c.tc : Thread Cert.KernelNormMem.nD Cert.KernelNormMem.τ).loc Cert.KernelNormMem.main_arg0)
      ∧ r.2.mem ((c.tc : Thread Cert.KernelNormMem.nD Cert.KernelNormMem.τ).loc Cert.KernelNormMem.main_arg1) = m ((c.tc : Thread Cert.KernelNormMem.nD Cert.KernelNormMem.τ).loc Cert.KernelNormMem.main_arg1)
      ∧ r.2.mem ((c.tc : Thread Cert.KernelNormMem.nD Cert.KernelNormMem.τ).loc Cert.KernelNormMem.main_arg2) = m ((c.tc : Thread Cert.KernelNormMem.nD Cert.KernelNormMem.τ).loc Cert.KernelNormMem.main_arg2))
      ∧ r.2.sem = fun _ => 0)

def quiescent_KernelNormMemIdeal [hKernelNormMemIdeal : Cert.KernelNormMemIdeal.Facts] : Prop :=
  ∀ (m : (ℓ : Loc Cert.KernelNormMemIdeal.nD Cert.KernelNormMemIdeal.τ Cert.KernelNormMemIdeal.sig) → Buf (Elt Ideal) ℓ) (g : Dev Cert.KernelNormMemIdeal.nD → PrngReg), Pre_KernelNormMemIdeal m →
    θ_run (Cert.KernelNormMemIdeal.defs (F := Ideal)) (onTc (τ := Cert.KernelNormMemIdeal.τ) (Cert.KernelNormMemIdeal.main (F := Ideal))) ⟨m, fun _ => 0, g⟩ (fun r => (∀ c : Dev Cert.KernelNormMemIdeal.nD,
      r.2.mem ((c.tc : Thread Cert.KernelNormMemIdeal.nD Cert.KernelNormMemIdeal.τ).loc Cert.KernelNormMemIdeal.main_arg0) = m ((c.tc : Thread Cert.KernelNormMemIdeal.nD Cert.KernelNormMemIdeal.τ).loc Cert.KernelNormMemIdeal.main_arg0)
      ∧ r.2.mem ((c.tc : Thread Cert.KernelNormMemIdeal.nD Cert.KernelNormMemIdeal.τ).loc Cert.KernelNormMemIdeal.main_arg1) = m ((c.tc : Thread Cert.KernelNormMemIdeal.nD Cert.KernelNormMemIdeal.τ).loc Cert.KernelNormMemIdeal.main_arg1)
      ∧ r.2.mem ((c.tc : Thread Cert.KernelNormMemIdeal.nD Cert.KernelNormMemIdeal.τ).loc Cert.KernelNormMemIdeal.main_arg2) = m ((c.tc : Thread Cert.KernelNormMemIdeal.nD Cert.KernelNormMemIdeal.τ).loc Cert.KernelNormMemIdeal.main_arg2))
      ∧ r.2.sem = fun _ => 0)

def quiescent_ReferenceNormMemIdeal [hReferenceNormMemIdeal : Cert.ReferenceNormMemIdeal.Facts] : Prop :=
  ∀ (m : (ℓ : Loc Cert.ReferenceNormMemIdeal.nD Cert.ReferenceNormMemIdeal.τ Cert.ReferenceNormMemIdeal.sig) → Buf (Elt Ideal) ℓ) (g : Dev Cert.ReferenceNormMemIdeal.nD → PrngReg), Pre_ReferenceNormMemIdeal m →
    θ_run (Cert.ReferenceNormMemIdeal.defs (F := Ideal)) (onTc (τ := Cert.ReferenceNormMemIdeal.τ) (Cert.ReferenceNormMemIdeal.main (F := Ideal))) ⟨m, fun _ => 0, g⟩ (fun r => (∀ c : Dev Cert.ReferenceNormMemIdeal.nD,
      r.2.mem ((c.tc : Thread Cert.ReferenceNormMemIdeal.nD Cert.ReferenceNormMemIdeal.τ).loc Cert.ReferenceNormMemIdeal.main_arg0) = m ((c.tc : Thread Cert.ReferenceNormMemIdeal.nD Cert.ReferenceNormMemIdeal.τ).loc Cert.ReferenceNormMemIdeal.main_arg0)
      ∧ r.2.mem ((c.tc : Thread Cert.ReferenceNormMemIdeal.nD Cert.ReferenceNormMemIdeal.τ).loc Cert.ReferenceNormMemIdeal.main_arg1) = m ((c.tc : Thread Cert.ReferenceNormMemIdeal.nD Cert.ReferenceNormMemIdeal.τ).loc Cert.ReferenceNormMemIdeal.main_arg1)
      ∧ r.2.mem ((c.tc : Thread Cert.ReferenceNormMemIdeal.nD Cert.ReferenceNormMemIdeal.τ).loc Cert.ReferenceNormMemIdeal.main_arg2) = m ((c.tc : Thread Cert.ReferenceNormMemIdeal.nD Cert.ReferenceNormMemIdeal.τ).loc Cert.ReferenceNormMemIdeal.main_arg2))
      ∧ r.2.sem = fun _ => 0)

def quiescent_KernelAdamwWIn [hKernelAdamwWIn : Cert.KernelAdamwWIn.Facts] : Prop :=
  ∀ (m : (ℓ : Loc Cert.KernelAdamwWIn.nD Cert.KernelAdamwWIn.τ Cert.KernelAdamwWIn.sig) → Buf (Elt Bits) ℓ) (g : Dev Cert.KernelAdamwWIn.nD → PrngReg), Pre_KernelAdamwWIn m →
    θ_run (Cert.KernelAdamwWIn.defs (F := Bits)) (onTc (τ := Cert.KernelAdamwWIn.τ) (Cert.KernelAdamwWIn.main (F := Bits))) ⟨m, fun _ => 0, g⟩ (fun r => (∀ c : Dev Cert.KernelAdamwWIn.nD,
      r.2.mem ((c.tc : Thread Cert.KernelAdamwWIn.nD Cert.KernelAdamwWIn.τ).loc Cert.KernelAdamwWIn.main_arg0) = m ((c.tc : Thread Cert.KernelAdamwWIn.nD Cert.KernelAdamwWIn.τ).loc Cert.KernelAdamwWIn.main_arg0)
      ∧ r.2.mem ((c.tc : Thread Cert.KernelAdamwWIn.nD Cert.KernelAdamwWIn.τ).loc Cert.KernelAdamwWIn.main_arg1) = m ((c.tc : Thread Cert.KernelAdamwWIn.nD Cert.KernelAdamwWIn.τ).loc Cert.KernelAdamwWIn.main_arg1)
      ∧ r.2.mem ((c.tc : Thread Cert.KernelAdamwWIn.nD Cert.KernelAdamwWIn.τ).loc Cert.KernelAdamwWIn.main_arg2) = m ((c.tc : Thread Cert.KernelAdamwWIn.nD Cert.KernelAdamwWIn.τ).loc Cert.KernelAdamwWIn.main_arg2)
      ∧ r.2.mem ((c.tc : Thread Cert.KernelAdamwWIn.nD Cert.KernelAdamwWIn.τ).loc Cert.KernelAdamwWIn.main_arg3) = m ((c.tc : Thread Cert.KernelAdamwWIn.nD Cert.KernelAdamwWIn.τ).loc Cert.KernelAdamwWIn.main_arg3)
      ∧ r.2.mem ((c.tc : Thread Cert.KernelAdamwWIn.nD Cert.KernelAdamwWIn.τ).loc Cert.KernelAdamwWIn.main_arg4) = m ((c.tc : Thread Cert.KernelAdamwWIn.nD Cert.KernelAdamwWIn.τ).loc Cert.KernelAdamwWIn.main_arg4))
      ∧ r.2.sem = fun _ => 0)

def quiescent_KernelAdamwWInIdeal [hKernelAdamwWInIdeal : Cert.KernelAdamwWInIdeal.Facts] : Prop :=
  ∀ (m : (ℓ : Loc Cert.KernelAdamwWInIdeal.nD Cert.KernelAdamwWInIdeal.τ Cert.KernelAdamwWInIdeal.sig) → Buf (Elt Ideal) ℓ) (g : Dev Cert.KernelAdamwWInIdeal.nD → PrngReg), Pre_KernelAdamwWInIdeal m →
    θ_run (Cert.KernelAdamwWInIdeal.defs (F := Ideal)) (onTc (τ := Cert.KernelAdamwWInIdeal.τ) (Cert.KernelAdamwWInIdeal.main (F := Ideal))) ⟨m, fun _ => 0, g⟩ (fun r => (∀ c : Dev Cert.KernelAdamwWInIdeal.nD,
      r.2.mem ((c.tc : Thread Cert.KernelAdamwWInIdeal.nD Cert.KernelAdamwWInIdeal.τ).loc Cert.KernelAdamwWInIdeal.main_arg0) = m ((c.tc : Thread Cert.KernelAdamwWInIdeal.nD Cert.KernelAdamwWInIdeal.τ).loc Cert.KernelAdamwWInIdeal.main_arg0)
      ∧ r.2.mem ((c.tc : Thread Cert.KernelAdamwWInIdeal.nD Cert.KernelAdamwWInIdeal.τ).loc Cert.KernelAdamwWInIdeal.main_arg1) = m ((c.tc : Thread Cert.KernelAdamwWInIdeal.nD Cert.KernelAdamwWInIdeal.τ).loc Cert.KernelAdamwWInIdeal.main_arg1)
      ∧ r.2.mem ((c.tc : Thread Cert.KernelAdamwWInIdeal.nD Cert.KernelAdamwWInIdeal.τ).loc Cert.KernelAdamwWInIdeal.main_arg2) = m ((c.tc : Thread Cert.KernelAdamwWInIdeal.nD Cert.KernelAdamwWInIdeal.τ).loc Cert.KernelAdamwWInIdeal.main_arg2)
      ∧ r.2.mem ((c.tc : Thread Cert.KernelAdamwWInIdeal.nD Cert.KernelAdamwWInIdeal.τ).loc Cert.KernelAdamwWInIdeal.main_arg3) = m ((c.tc : Thread Cert.KernelAdamwWInIdeal.nD Cert.KernelAdamwWInIdeal.τ).loc Cert.KernelAdamwWInIdeal.main_arg3)
      ∧ r.2.mem ((c.tc : Thread Cert.KernelAdamwWInIdeal.nD Cert.KernelAdamwWInIdeal.τ).loc Cert.KernelAdamwWInIdeal.main_arg4) = m ((c.tc : Thread Cert.KernelAdamwWInIdeal.nD Cert.KernelAdamwWInIdeal.τ).loc Cert.KernelAdamwWInIdeal.main_arg4))
      ∧ r.2.sem = fun _ => 0)

def quiescent_ReferenceAdamwWInIdeal [hReferenceAdamwWInIdeal : Cert.ReferenceAdamwWInIdeal.Facts] : Prop :=
  ∀ (m : (ℓ : Loc Cert.ReferenceAdamwWInIdeal.nD Cert.ReferenceAdamwWInIdeal.τ Cert.ReferenceAdamwWInIdeal.sig) → Buf (Elt Ideal) ℓ) (g : Dev Cert.ReferenceAdamwWInIdeal.nD → PrngReg), Pre_ReferenceAdamwWInIdeal m →
    θ_run (Cert.ReferenceAdamwWInIdeal.defs (F := Ideal)) (onTc (τ := Cert.ReferenceAdamwWInIdeal.τ) (Cert.ReferenceAdamwWInIdeal.main (F := Ideal))) ⟨m, fun _ => 0, g⟩ (fun r => (∀ c : Dev Cert.ReferenceAdamwWInIdeal.nD,
      r.2.mem ((c.tc : Thread Cert.ReferenceAdamwWInIdeal.nD Cert.ReferenceAdamwWInIdeal.τ).loc Cert.ReferenceAdamwWInIdeal.main_arg0) = m ((c.tc : Thread Cert.ReferenceAdamwWInIdeal.nD Cert.ReferenceAdamwWInIdeal.τ).loc Cert.ReferenceAdamwWInIdeal.main_arg0)
      ∧ r.2.mem ((c.tc : Thread Cert.ReferenceAdamwWInIdeal.nD Cert.ReferenceAdamwWInIdeal.τ).loc Cert.ReferenceAdamwWInIdeal.main_arg1) = m ((c.tc : Thread Cert.ReferenceAdamwWInIdeal.nD Cert.ReferenceAdamwWInIdeal.τ).loc Cert.ReferenceAdamwWInIdeal.main_arg1)
      ∧ r.2.mem ((c.tc : Thread Cert.ReferenceAdamwWInIdeal.nD Cert.ReferenceAdamwWInIdeal.τ).loc Cert.ReferenceAdamwWInIdeal.main_arg2) = m ((c.tc : Thread Cert.ReferenceAdamwWInIdeal.nD Cert.ReferenceAdamwWInIdeal.τ).loc Cert.ReferenceAdamwWInIdeal.main_arg2)
      ∧ r.2.mem ((c.tc : Thread Cert.ReferenceAdamwWInIdeal.nD Cert.ReferenceAdamwWInIdeal.τ).loc Cert.ReferenceAdamwWInIdeal.main_arg3) = m ((c.tc : Thread Cert.ReferenceAdamwWInIdeal.nD Cert.ReferenceAdamwWInIdeal.τ).loc Cert.ReferenceAdamwWInIdeal.main_arg3)
      ∧ r.2.mem ((c.tc : Thread Cert.ReferenceAdamwWInIdeal.nD Cert.ReferenceAdamwWInIdeal.τ).loc Cert.ReferenceAdamwWInIdeal.main_arg4) = m ((c.tc : Thread Cert.ReferenceAdamwWInIdeal.nD Cert.ReferenceAdamwWInIdeal.τ).loc Cert.ReferenceAdamwWInIdeal.main_arg4))
      ∧ r.2.sem = fun _ => 0)

def quiescent_KernelAdamwSquare [hKernelAdamwSquare : Cert.KernelAdamwSquare.Facts] : Prop :=
  ∀ (m : (ℓ : Loc Cert.KernelAdamwSquare.nD Cert.KernelAdamwSquare.τ Cert.KernelAdamwSquare.sig) → Buf (Elt Bits) ℓ) (g : Dev Cert.KernelAdamwSquare.nD → PrngReg), Pre_KernelAdamwSquare m →
    θ_run (Cert.KernelAdamwSquare.defs (F := Bits)) (onTc (τ := Cert.KernelAdamwSquare.τ) (Cert.KernelAdamwSquare.main (F := Bits))) ⟨m, fun _ => 0, g⟩ (fun r => (∀ c : Dev Cert.KernelAdamwSquare.nD,
      r.2.mem ((c.tc : Thread Cert.KernelAdamwSquare.nD Cert.KernelAdamwSquare.τ).loc Cert.KernelAdamwSquare.main_arg0) = m ((c.tc : Thread Cert.KernelAdamwSquare.nD Cert.KernelAdamwSquare.τ).loc Cert.KernelAdamwSquare.main_arg0)
      ∧ r.2.mem ((c.tc : Thread Cert.KernelAdamwSquare.nD Cert.KernelAdamwSquare.τ).loc Cert.KernelAdamwSquare.main_arg1) = m ((c.tc : Thread Cert.KernelAdamwSquare.nD Cert.KernelAdamwSquare.τ).loc Cert.KernelAdamwSquare.main_arg1)
      ∧ r.2.mem ((c.tc : Thread Cert.KernelAdamwSquare.nD Cert.KernelAdamwSquare.τ).loc Cert.KernelAdamwSquare.main_arg2) = m ((c.tc : Thread Cert.KernelAdamwSquare.nD Cert.KernelAdamwSquare.τ).loc Cert.KernelAdamwSquare.main_arg2)
      ∧ r.2.mem ((c.tc : Thread Cert.KernelAdamwSquare.nD Cert.KernelAdamwSquare.τ).loc Cert.KernelAdamwSquare.main_arg3) = m ((c.tc : Thread Cert.KernelAdamwSquare.nD Cert.KernelAdamwSquare.τ).loc Cert.KernelAdamwSquare.main_arg3)
      ∧ r.2.mem ((c.tc : Thread Cert.KernelAdamwSquare.nD Cert.KernelAdamwSquare.τ).loc Cert.KernelAdamwSquare.main_arg4) = m ((c.tc : Thread Cert.KernelAdamwSquare.nD Cert.KernelAdamwSquare.τ).loc Cert.KernelAdamwSquare.main_arg4))
      ∧ r.2.sem = fun _ => 0)

def quiescent_KernelAdamwSquareIdeal [hKernelAdamwSquareIdeal : Cert.KernelAdamwSquareIdeal.Facts] : Prop :=
  ∀ (m : (ℓ : Loc Cert.KernelAdamwSquareIdeal.nD Cert.KernelAdamwSquareIdeal.τ Cert.KernelAdamwSquareIdeal.sig) → Buf (Elt Ideal) ℓ) (g : Dev Cert.KernelAdamwSquareIdeal.nD → PrngReg), Pre_KernelAdamwSquareIdeal m →
    θ_run (Cert.KernelAdamwSquareIdeal.defs (F := Ideal)) (onTc (τ := Cert.KernelAdamwSquareIdeal.τ) (Cert.KernelAdamwSquareIdeal.main (F := Ideal))) ⟨m, fun _ => 0, g⟩ (fun r => (∀ c : Dev Cert.KernelAdamwSquareIdeal.nD,
      r.2.mem ((c.tc : Thread Cert.KernelAdamwSquareIdeal.nD Cert.KernelAdamwSquareIdeal.τ).loc Cert.KernelAdamwSquareIdeal.main_arg0) = m ((c.tc : Thread Cert.KernelAdamwSquareIdeal.nD Cert.KernelAdamwSquareIdeal.τ).loc Cert.KernelAdamwSquareIdeal.main_arg0)
      ∧ r.2.mem ((c.tc : Thread Cert.KernelAdamwSquareIdeal.nD Cert.KernelAdamwSquareIdeal.τ).loc Cert.KernelAdamwSquareIdeal.main_arg1) = m ((c.tc : Thread Cert.KernelAdamwSquareIdeal.nD Cert.KernelAdamwSquareIdeal.τ).loc Cert.KernelAdamwSquareIdeal.main_arg1)
      ∧ r.2.mem ((c.tc : Thread Cert.KernelAdamwSquareIdeal.nD Cert.KernelAdamwSquareIdeal.τ).loc Cert.KernelAdamwSquareIdeal.main_arg2) = m ((c.tc : Thread Cert.KernelAdamwSquareIdeal.nD Cert.KernelAdamwSquareIdeal.τ).loc Cert.KernelAdamwSquareIdeal.main_arg2)
      ∧ r.2.mem ((c.tc : Thread Cert.KernelAdamwSquareIdeal.nD Cert.KernelAdamwSquareIdeal.τ).loc Cert.KernelAdamwSquareIdeal.main_arg3) = m ((c.tc : Thread Cert.KernelAdamwSquareIdeal.nD Cert.KernelAdamwSquareIdeal.τ).loc Cert.KernelAdamwSquareIdeal.main_arg3)
      ∧ r.2.mem ((c.tc : Thread Cert.KernelAdamwSquareIdeal.nD Cert.KernelAdamwSquareIdeal.τ).loc Cert.KernelAdamwSquareIdeal.main_arg4) = m ((c.tc : Thread Cert.KernelAdamwSquareIdeal.nD Cert.KernelAdamwSquareIdeal.τ).loc Cert.KernelAdamwSquareIdeal.main_arg4))
      ∧ r.2.sem = fun _ => 0)

def quiescent_ReferenceAdamwSquareIdeal [hReferenceAdamwSquareIdeal : Cert.ReferenceAdamwSquareIdeal.Facts] : Prop :=
  ∀ (m : (ℓ : Loc Cert.ReferenceAdamwSquareIdeal.nD Cert.ReferenceAdamwSquareIdeal.τ Cert.ReferenceAdamwSquareIdeal.sig) → Buf (Elt Ideal) ℓ) (g : Dev Cert.ReferenceAdamwSquareIdeal.nD → PrngReg), Pre_ReferenceAdamwSquareIdeal m →
    θ_run (Cert.ReferenceAdamwSquareIdeal.defs (F := Ideal)) (onTc (τ := Cert.ReferenceAdamwSquareIdeal.τ) (Cert.ReferenceAdamwSquareIdeal.main (F := Ideal))) ⟨m, fun _ => 0, g⟩ (fun r => (∀ c : Dev Cert.ReferenceAdamwSquareIdeal.nD,
      r.2.mem ((c.tc : Thread Cert.ReferenceAdamwSquareIdeal.nD Cert.ReferenceAdamwSquareIdeal.τ).loc Cert.ReferenceAdamwSquareIdeal.main_arg0) = m ((c.tc : Thread Cert.ReferenceAdamwSquareIdeal.nD Cert.ReferenceAdamwSquareIdeal.τ).loc Cert.ReferenceAdamwSquareIdeal.main_arg0)
      ∧ r.2.mem ((c.tc : Thread Cert.ReferenceAdamwSquareIdeal.nD Cert.ReferenceAdamwSquareIdeal.τ).loc Cert.ReferenceAdamwSquareIdeal.main_arg1) = m ((c.tc : Thread Cert.ReferenceAdamwSquareIdeal.nD Cert.ReferenceAdamwSquareIdeal.τ).loc Cert.ReferenceAdamwSquareIdeal.main_arg1)
      ∧ r.2.mem ((c.tc : Thread Cert.ReferenceAdamwSquareIdeal.nD Cert.ReferenceAdamwSquareIdeal.τ).loc Cert.ReferenceAdamwSquareIdeal.main_arg2) = m ((c.tc : Thread Cert.ReferenceAdamwSquareIdeal.nD Cert.ReferenceAdamwSquareIdeal.τ).loc Cert.ReferenceAdamwSquareIdeal.main_arg2)
      ∧ r.2.mem ((c.tc : Thread Cert.ReferenceAdamwSquareIdeal.nD Cert.ReferenceAdamwSquareIdeal.τ).loc Cert.ReferenceAdamwSquareIdeal.main_arg3) = m ((c.tc : Thread Cert.ReferenceAdamwSquareIdeal.nD Cert.ReferenceAdamwSquareIdeal.τ).loc Cert.ReferenceAdamwSquareIdeal.main_arg3)
      ∧ r.2.mem ((c.tc : Thread Cert.ReferenceAdamwSquareIdeal.nD Cert.ReferenceAdamwSquareIdeal.τ).loc Cert.ReferenceAdamwSquareIdeal.main_arg4) = m ((c.tc : Thread Cert.ReferenceAdamwSquareIdeal.nD Cert.ReferenceAdamwSquareIdeal.τ).loc Cert.ReferenceAdamwSquareIdeal.main_arg4))
      ∧ r.2.sem = fun _ => 0)

def quiescent_KernelAdamwBranch [hKernelAdamwBranch : Cert.KernelAdamwBranch.Facts] : Prop :=
  ∀ (m : (ℓ : Loc Cert.KernelAdamwBranch.nD Cert.KernelAdamwBranch.τ Cert.KernelAdamwBranch.sig) → Buf (Elt Bits) ℓ) (g : Dev Cert.KernelAdamwBranch.nD → PrngReg), Pre_KernelAdamwBranch m →
    θ_run (Cert.KernelAdamwBranch.defs (F := Bits)) (onTc (τ := Cert.KernelAdamwBranch.τ) (Cert.KernelAdamwBranch.main (F := Bits))) ⟨m, fun _ => 0, g⟩ (fun r => (∀ c : Dev Cert.KernelAdamwBranch.nD,
      r.2.mem ((c.tc : Thread Cert.KernelAdamwBranch.nD Cert.KernelAdamwBranch.τ).loc Cert.KernelAdamwBranch.main_arg0) = m ((c.tc : Thread Cert.KernelAdamwBranch.nD Cert.KernelAdamwBranch.τ).loc Cert.KernelAdamwBranch.main_arg0)
      ∧ r.2.mem ((c.tc : Thread Cert.KernelAdamwBranch.nD Cert.KernelAdamwBranch.τ).loc Cert.KernelAdamwBranch.main_arg1) = m ((c.tc : Thread Cert.KernelAdamwBranch.nD Cert.KernelAdamwBranch.τ).loc Cert.KernelAdamwBranch.main_arg1)
      ∧ r.2.mem ((c.tc : Thread Cert.KernelAdamwBranch.nD Cert.KernelAdamwBranch.τ).loc Cert.KernelAdamwBranch.main_arg2) = m ((c.tc : Thread Cert.KernelAdamwBranch.nD Cert.KernelAdamwBranch.τ).loc Cert.KernelAdamwBranch.main_arg2)
      ∧ r.2.mem ((c.tc : Thread Cert.KernelAdamwBranch.nD Cert.KernelAdamwBranch.τ).loc Cert.KernelAdamwBranch.main_arg3) = m ((c.tc : Thread Cert.KernelAdamwBranch.nD Cert.KernelAdamwBranch.τ).loc Cert.KernelAdamwBranch.main_arg3)
      ∧ r.2.mem ((c.tc : Thread Cert.KernelAdamwBranch.nD Cert.KernelAdamwBranch.τ).loc Cert.KernelAdamwBranch.main_arg4) = m ((c.tc : Thread Cert.KernelAdamwBranch.nD Cert.KernelAdamwBranch.τ).loc Cert.KernelAdamwBranch.main_arg4))
      ∧ r.2.sem = fun _ => 0)

def quiescent_KernelAdamwBranchIdeal [hKernelAdamwBranchIdeal : Cert.KernelAdamwBranchIdeal.Facts] : Prop :=
  ∀ (m : (ℓ : Loc Cert.KernelAdamwBranchIdeal.nD Cert.KernelAdamwBranchIdeal.τ Cert.KernelAdamwBranchIdeal.sig) → Buf (Elt Ideal) ℓ) (g : Dev Cert.KernelAdamwBranchIdeal.nD → PrngReg), Pre_KernelAdamwBranchIdeal m →
    θ_run (Cert.KernelAdamwBranchIdeal.defs (F := Ideal)) (onTc (τ := Cert.KernelAdamwBranchIdeal.τ) (Cert.KernelAdamwBranchIdeal.main (F := Ideal))) ⟨m, fun _ => 0, g⟩ (fun r => (∀ c : Dev Cert.KernelAdamwBranchIdeal.nD,
      r.2.mem ((c.tc : Thread Cert.KernelAdamwBranchIdeal.nD Cert.KernelAdamwBranchIdeal.τ).loc Cert.KernelAdamwBranchIdeal.main_arg0) = m ((c.tc : Thread Cert.KernelAdamwBranchIdeal.nD Cert.KernelAdamwBranchIdeal.τ).loc Cert.KernelAdamwBranchIdeal.main_arg0)
      ∧ r.2.mem ((c.tc : Thread Cert.KernelAdamwBranchIdeal.nD Cert.KernelAdamwBranchIdeal.τ).loc Cert.KernelAdamwBranchIdeal.main_arg1) = m ((c.tc : Thread Cert.KernelAdamwBranchIdeal.nD Cert.KernelAdamwBranchIdeal.τ).loc Cert.KernelAdamwBranchIdeal.main_arg1)
      ∧ r.2.mem ((c.tc : Thread Cert.KernelAdamwBranchIdeal.nD Cert.KernelAdamwBranchIdeal.τ).loc Cert.KernelAdamwBranchIdeal.main_arg2) = m ((c.tc : Thread Cert.KernelAdamwBranchIdeal.nD Cert.KernelAdamwBranchIdeal.τ).loc Cert.KernelAdamwBranchIdeal.main_arg2)
      ∧ r.2.mem ((c.tc : Thread Cert.KernelAdamwBranchIdeal.nD Cert.KernelAdamwBranchIdeal.τ).loc Cert.KernelAdamwBranchIdeal.main_arg3) = m ((c.tc : Thread Cert.KernelAdamwBranchIdeal.nD Cert.KernelAdamwBranchIdeal.τ).loc Cert.KernelAdamwBranchIdeal.main_arg3)
      ∧ r.2.mem ((c.tc : Thread Cert.KernelAdamwBranchIdeal.nD Cert.KernelAdamwBranchIdeal.τ).loc Cert.KernelAdamwBranchIdeal.main_arg4) = m ((c.tc : Thread Cert.KernelAdamwBranchIdeal.nD Cert.KernelAdamwBranchIdeal.τ).loc Cert.KernelAdamwBranchIdeal.main_arg4))
      ∧ r.2.sem = fun _ => 0)

def quiescent_ReferenceAdamwBranchIdeal [hReferenceAdamwBranchIdeal : Cert.ReferenceAdamwBranchIdeal.Facts] : Prop :=
  ∀ (m : (ℓ : Loc Cert.ReferenceAdamwBranchIdeal.nD Cert.ReferenceAdamwBranchIdeal.τ Cert.ReferenceAdamwBranchIdeal.sig) → Buf (Elt Ideal) ℓ) (g : Dev Cert.ReferenceAdamwBranchIdeal.nD → PrngReg), Pre_ReferenceAdamwBranchIdeal m →
    θ_run (Cert.ReferenceAdamwBranchIdeal.defs (F := Ideal)) (onTc (τ := Cert.ReferenceAdamwBranchIdeal.τ) (Cert.ReferenceAdamwBranchIdeal.main (F := Ideal))) ⟨m, fun _ => 0, g⟩ (fun r => (∀ c : Dev Cert.ReferenceAdamwBranchIdeal.nD,
      r.2.mem ((c.tc : Thread Cert.ReferenceAdamwBranchIdeal.nD Cert.ReferenceAdamwBranchIdeal.τ).loc Cert.ReferenceAdamwBranchIdeal.main_arg0) = m ((c.tc : Thread Cert.ReferenceAdamwBranchIdeal.nD Cert.ReferenceAdamwBranchIdeal.τ).loc Cert.ReferenceAdamwBranchIdeal.main_arg0)
      ∧ r.2.mem ((c.tc : Thread Cert.ReferenceAdamwBranchIdeal.nD Cert.ReferenceAdamwBranchIdeal.τ).loc Cert.ReferenceAdamwBranchIdeal.main_arg1) = m ((c.tc : Thread Cert.ReferenceAdamwBranchIdeal.nD Cert.ReferenceAdamwBranchIdeal.τ).loc Cert.ReferenceAdamwBranchIdeal.main_arg1)
      ∧ r.2.mem ((c.tc : Thread Cert.ReferenceAdamwBranchIdeal.nD Cert.ReferenceAdamwBranchIdeal.τ).loc Cert.ReferenceAdamwBranchIdeal.main_arg2) = m ((c.tc : Thread Cert.ReferenceAdamwBranchIdeal.nD Cert.ReferenceAdamwBranchIdeal.τ).loc Cert.ReferenceAdamwBranchIdeal.main_arg2)
      ∧ r.2.mem ((c.tc : Thread Cert.ReferenceAdamwBranchIdeal.nD Cert.ReferenceAdamwBranchIdeal.τ).loc Cert.ReferenceAdamwBranchIdeal.main_arg3) = m ((c.tc : Thread Cert.ReferenceAdamwBranchIdeal.nD Cert.ReferenceAdamwBranchIdeal.τ).loc Cert.ReferenceAdamwBranchIdeal.main_arg3)
      ∧ r.2.mem ((c.tc : Thread Cert.ReferenceAdamwBranchIdeal.nD Cert.ReferenceAdamwBranchIdeal.τ).loc Cert.ReferenceAdamwBranchIdeal.main_arg4) = m ((c.tc : Thread Cert.ReferenceAdamwBranchIdeal.nD Cert.ReferenceAdamwBranchIdeal.τ).loc Cert.ReferenceAdamwBranchIdeal.main_arg4))
      ∧ r.2.sem = fun _ => 0)

def quiescent_KernelAdamwFfnIn [hKernelAdamwFfnIn : Cert.KernelAdamwFfnIn.Facts] : Prop :=
  ∀ (m : (ℓ : Loc Cert.KernelAdamwFfnIn.nD Cert.KernelAdamwFfnIn.τ Cert.KernelAdamwFfnIn.sig) → Buf (Elt Bits) ℓ) (g : Dev Cert.KernelAdamwFfnIn.nD → PrngReg), Pre_KernelAdamwFfnIn m →
    θ_run (Cert.KernelAdamwFfnIn.defs (F := Bits)) (onTc (τ := Cert.KernelAdamwFfnIn.τ) (Cert.KernelAdamwFfnIn.main (F := Bits))) ⟨m, fun _ => 0, g⟩ (fun r => (∀ c : Dev Cert.KernelAdamwFfnIn.nD,
      r.2.mem ((c.tc : Thread Cert.KernelAdamwFfnIn.nD Cert.KernelAdamwFfnIn.τ).loc Cert.KernelAdamwFfnIn.main_arg0) = m ((c.tc : Thread Cert.KernelAdamwFfnIn.nD Cert.KernelAdamwFfnIn.τ).loc Cert.KernelAdamwFfnIn.main_arg0)
      ∧ r.2.mem ((c.tc : Thread Cert.KernelAdamwFfnIn.nD Cert.KernelAdamwFfnIn.τ).loc Cert.KernelAdamwFfnIn.main_arg1) = m ((c.tc : Thread Cert.KernelAdamwFfnIn.nD Cert.KernelAdamwFfnIn.τ).loc Cert.KernelAdamwFfnIn.main_arg1)
      ∧ r.2.mem ((c.tc : Thread Cert.KernelAdamwFfnIn.nD Cert.KernelAdamwFfnIn.τ).loc Cert.KernelAdamwFfnIn.main_arg2) = m ((c.tc : Thread Cert.KernelAdamwFfnIn.nD Cert.KernelAdamwFfnIn.τ).loc Cert.KernelAdamwFfnIn.main_arg2)
      ∧ r.2.mem ((c.tc : Thread Cert.KernelAdamwFfnIn.nD Cert.KernelAdamwFfnIn.τ).loc Cert.KernelAdamwFfnIn.main_arg3) = m ((c.tc : Thread Cert.KernelAdamwFfnIn.nD Cert.KernelAdamwFfnIn.τ).loc Cert.KernelAdamwFfnIn.main_arg3)
      ∧ r.2.mem ((c.tc : Thread Cert.KernelAdamwFfnIn.nD Cert.KernelAdamwFfnIn.τ).loc Cert.KernelAdamwFfnIn.main_arg4) = m ((c.tc : Thread Cert.KernelAdamwFfnIn.nD Cert.KernelAdamwFfnIn.τ).loc Cert.KernelAdamwFfnIn.main_arg4))
      ∧ r.2.sem = fun _ => 0)

def quiescent_KernelAdamwFfnInIdeal [hKernelAdamwFfnInIdeal : Cert.KernelAdamwFfnInIdeal.Facts] : Prop :=
  ∀ (m : (ℓ : Loc Cert.KernelAdamwFfnInIdeal.nD Cert.KernelAdamwFfnInIdeal.τ Cert.KernelAdamwFfnInIdeal.sig) → Buf (Elt Ideal) ℓ) (g : Dev Cert.KernelAdamwFfnInIdeal.nD → PrngReg), Pre_KernelAdamwFfnInIdeal m →
    θ_run (Cert.KernelAdamwFfnInIdeal.defs (F := Ideal)) (onTc (τ := Cert.KernelAdamwFfnInIdeal.τ) (Cert.KernelAdamwFfnInIdeal.main (F := Ideal))) ⟨m, fun _ => 0, g⟩ (fun r => (∀ c : Dev Cert.KernelAdamwFfnInIdeal.nD,
      r.2.mem ((c.tc : Thread Cert.KernelAdamwFfnInIdeal.nD Cert.KernelAdamwFfnInIdeal.τ).loc Cert.KernelAdamwFfnInIdeal.main_arg0) = m ((c.tc : Thread Cert.KernelAdamwFfnInIdeal.nD Cert.KernelAdamwFfnInIdeal.τ).loc Cert.KernelAdamwFfnInIdeal.main_arg0)
      ∧ r.2.mem ((c.tc : Thread Cert.KernelAdamwFfnInIdeal.nD Cert.KernelAdamwFfnInIdeal.τ).loc Cert.KernelAdamwFfnInIdeal.main_arg1) = m ((c.tc : Thread Cert.KernelAdamwFfnInIdeal.nD Cert.KernelAdamwFfnInIdeal.τ).loc Cert.KernelAdamwFfnInIdeal.main_arg1)
      ∧ r.2.mem ((c.tc : Thread Cert.KernelAdamwFfnInIdeal.nD Cert.KernelAdamwFfnInIdeal.τ).loc Cert.KernelAdamwFfnInIdeal.main_arg2) = m ((c.tc : Thread Cert.KernelAdamwFfnInIdeal.nD Cert.KernelAdamwFfnInIdeal.τ).loc Cert.KernelAdamwFfnInIdeal.main_arg2)
      ∧ r.2.mem ((c.tc : Thread Cert.KernelAdamwFfnInIdeal.nD Cert.KernelAdamwFfnInIdeal.τ).loc Cert.KernelAdamwFfnInIdeal.main_arg3) = m ((c.tc : Thread Cert.KernelAdamwFfnInIdeal.nD Cert.KernelAdamwFfnInIdeal.τ).loc Cert.KernelAdamwFfnInIdeal.main_arg3)
      ∧ r.2.mem ((c.tc : Thread Cert.KernelAdamwFfnInIdeal.nD Cert.KernelAdamwFfnInIdeal.τ).loc Cert.KernelAdamwFfnInIdeal.main_arg4) = m ((c.tc : Thread Cert.KernelAdamwFfnInIdeal.nD Cert.KernelAdamwFfnInIdeal.τ).loc Cert.KernelAdamwFfnInIdeal.main_arg4))
      ∧ r.2.sem = fun _ => 0)

def quiescent_ReferenceAdamwFfnInIdeal [hReferenceAdamwFfnInIdeal : Cert.ReferenceAdamwFfnInIdeal.Facts] : Prop :=
  ∀ (m : (ℓ : Loc Cert.ReferenceAdamwFfnInIdeal.nD Cert.ReferenceAdamwFfnInIdeal.τ Cert.ReferenceAdamwFfnInIdeal.sig) → Buf (Elt Ideal) ℓ) (g : Dev Cert.ReferenceAdamwFfnInIdeal.nD → PrngReg), Pre_ReferenceAdamwFfnInIdeal m →
    θ_run (Cert.ReferenceAdamwFfnInIdeal.defs (F := Ideal)) (onTc (τ := Cert.ReferenceAdamwFfnInIdeal.τ) (Cert.ReferenceAdamwFfnInIdeal.main (F := Ideal))) ⟨m, fun _ => 0, g⟩ (fun r => (∀ c : Dev Cert.ReferenceAdamwFfnInIdeal.nD,
      r.2.mem ((c.tc : Thread Cert.ReferenceAdamwFfnInIdeal.nD Cert.ReferenceAdamwFfnInIdeal.τ).loc Cert.ReferenceAdamwFfnInIdeal.main_arg0) = m ((c.tc : Thread Cert.ReferenceAdamwFfnInIdeal.nD Cert.ReferenceAdamwFfnInIdeal.τ).loc Cert.ReferenceAdamwFfnInIdeal.main_arg0)
      ∧ r.2.mem ((c.tc : Thread Cert.ReferenceAdamwFfnInIdeal.nD Cert.ReferenceAdamwFfnInIdeal.τ).loc Cert.ReferenceAdamwFfnInIdeal.main_arg1) = m ((c.tc : Thread Cert.ReferenceAdamwFfnInIdeal.nD Cert.ReferenceAdamwFfnInIdeal.τ).loc Cert.ReferenceAdamwFfnInIdeal.main_arg1)
      ∧ r.2.mem ((c.tc : Thread Cert.ReferenceAdamwFfnInIdeal.nD Cert.ReferenceAdamwFfnInIdeal.τ).loc Cert.ReferenceAdamwFfnInIdeal.main_arg2) = m ((c.tc : Thread Cert.ReferenceAdamwFfnInIdeal.nD Cert.ReferenceAdamwFfnInIdeal.τ).loc Cert.ReferenceAdamwFfnInIdeal.main_arg2)
      ∧ r.2.mem ((c.tc : Thread Cert.ReferenceAdamwFfnInIdeal.nD Cert.ReferenceAdamwFfnInIdeal.τ).loc Cert.ReferenceAdamwFfnInIdeal.main_arg3) = m ((c.tc : Thread Cert.ReferenceAdamwFfnInIdeal.nD Cert.ReferenceAdamwFfnInIdeal.τ).loc Cert.ReferenceAdamwFfnInIdeal.main_arg3)
      ∧ r.2.mem ((c.tc : Thread Cert.ReferenceAdamwFfnInIdeal.nD Cert.ReferenceAdamwFfnInIdeal.τ).loc Cert.ReferenceAdamwFfnInIdeal.main_arg4) = m ((c.tc : Thread Cert.ReferenceAdamwFfnInIdeal.nD Cert.ReferenceAdamwFfnInIdeal.τ).loc Cert.ReferenceAdamwFfnInIdeal.main_arg4))
      ∧ r.2.sem = fun _ => 0)

def quiescent_KernelAdamwFfnOut [hKernelAdamwFfnOut : Cert.KernelAdamwFfnOut.Facts] : Prop :=
  ∀ (m : (ℓ : Loc Cert.KernelAdamwFfnOut.nD Cert.KernelAdamwFfnOut.τ Cert.KernelAdamwFfnOut.sig) → Buf (Elt Bits) ℓ) (g : Dev Cert.KernelAdamwFfnOut.nD → PrngReg), Pre_KernelAdamwFfnOut m →
    θ_run (Cert.KernelAdamwFfnOut.defs (F := Bits)) (onTc (τ := Cert.KernelAdamwFfnOut.τ) (Cert.KernelAdamwFfnOut.main (F := Bits))) ⟨m, fun _ => 0, g⟩ (fun r => (∀ c : Dev Cert.KernelAdamwFfnOut.nD,
      r.2.mem ((c.tc : Thread Cert.KernelAdamwFfnOut.nD Cert.KernelAdamwFfnOut.τ).loc Cert.KernelAdamwFfnOut.main_arg0) = m ((c.tc : Thread Cert.KernelAdamwFfnOut.nD Cert.KernelAdamwFfnOut.τ).loc Cert.KernelAdamwFfnOut.main_arg0)
      ∧ r.2.mem ((c.tc : Thread Cert.KernelAdamwFfnOut.nD Cert.KernelAdamwFfnOut.τ).loc Cert.KernelAdamwFfnOut.main_arg1) = m ((c.tc : Thread Cert.KernelAdamwFfnOut.nD Cert.KernelAdamwFfnOut.τ).loc Cert.KernelAdamwFfnOut.main_arg1)
      ∧ r.2.mem ((c.tc : Thread Cert.KernelAdamwFfnOut.nD Cert.KernelAdamwFfnOut.τ).loc Cert.KernelAdamwFfnOut.main_arg2) = m ((c.tc : Thread Cert.KernelAdamwFfnOut.nD Cert.KernelAdamwFfnOut.τ).loc Cert.KernelAdamwFfnOut.main_arg2)
      ∧ r.2.mem ((c.tc : Thread Cert.KernelAdamwFfnOut.nD Cert.KernelAdamwFfnOut.τ).loc Cert.KernelAdamwFfnOut.main_arg3) = m ((c.tc : Thread Cert.KernelAdamwFfnOut.nD Cert.KernelAdamwFfnOut.τ).loc Cert.KernelAdamwFfnOut.main_arg3)
      ∧ r.2.mem ((c.tc : Thread Cert.KernelAdamwFfnOut.nD Cert.KernelAdamwFfnOut.τ).loc Cert.KernelAdamwFfnOut.main_arg4) = m ((c.tc : Thread Cert.KernelAdamwFfnOut.nD Cert.KernelAdamwFfnOut.τ).loc Cert.KernelAdamwFfnOut.main_arg4))
      ∧ r.2.sem = fun _ => 0)

def quiescent_KernelAdamwFfnOutIdeal [hKernelAdamwFfnOutIdeal : Cert.KernelAdamwFfnOutIdeal.Facts] : Prop :=
  ∀ (m : (ℓ : Loc Cert.KernelAdamwFfnOutIdeal.nD Cert.KernelAdamwFfnOutIdeal.τ Cert.KernelAdamwFfnOutIdeal.sig) → Buf (Elt Ideal) ℓ) (g : Dev Cert.KernelAdamwFfnOutIdeal.nD → PrngReg), Pre_KernelAdamwFfnOutIdeal m →
    θ_run (Cert.KernelAdamwFfnOutIdeal.defs (F := Ideal)) (onTc (τ := Cert.KernelAdamwFfnOutIdeal.τ) (Cert.KernelAdamwFfnOutIdeal.main (F := Ideal))) ⟨m, fun _ => 0, g⟩ (fun r => (∀ c : Dev Cert.KernelAdamwFfnOutIdeal.nD,
      r.2.mem ((c.tc : Thread Cert.KernelAdamwFfnOutIdeal.nD Cert.KernelAdamwFfnOutIdeal.τ).loc Cert.KernelAdamwFfnOutIdeal.main_arg0) = m ((c.tc : Thread Cert.KernelAdamwFfnOutIdeal.nD Cert.KernelAdamwFfnOutIdeal.τ).loc Cert.KernelAdamwFfnOutIdeal.main_arg0)
      ∧ r.2.mem ((c.tc : Thread Cert.KernelAdamwFfnOutIdeal.nD Cert.KernelAdamwFfnOutIdeal.τ).loc Cert.KernelAdamwFfnOutIdeal.main_arg1) = m ((c.tc : Thread Cert.KernelAdamwFfnOutIdeal.nD Cert.KernelAdamwFfnOutIdeal.τ).loc Cert.KernelAdamwFfnOutIdeal.main_arg1)
      ∧ r.2.mem ((c.tc : Thread Cert.KernelAdamwFfnOutIdeal.nD Cert.KernelAdamwFfnOutIdeal.τ).loc Cert.KernelAdamwFfnOutIdeal.main_arg2) = m ((c.tc : Thread Cert.KernelAdamwFfnOutIdeal.nD Cert.KernelAdamwFfnOutIdeal.τ).loc Cert.KernelAdamwFfnOutIdeal.main_arg2)
      ∧ r.2.mem ((c.tc : Thread Cert.KernelAdamwFfnOutIdeal.nD Cert.KernelAdamwFfnOutIdeal.τ).loc Cert.KernelAdamwFfnOutIdeal.main_arg3) = m ((c.tc : Thread Cert.KernelAdamwFfnOutIdeal.nD Cert.KernelAdamwFfnOutIdeal.τ).loc Cert.KernelAdamwFfnOutIdeal.main_arg3)
      ∧ r.2.mem ((c.tc : Thread Cert.KernelAdamwFfnOutIdeal.nD Cert.KernelAdamwFfnOutIdeal.τ).loc Cert.KernelAdamwFfnOutIdeal.main_arg4) = m ((c.tc : Thread Cert.KernelAdamwFfnOutIdeal.nD Cert.KernelAdamwFfnOutIdeal.τ).loc Cert.KernelAdamwFfnOutIdeal.main_arg4))
      ∧ r.2.sem = fun _ => 0)

def quiescent_ReferenceAdamwFfnOutIdeal [hReferenceAdamwFfnOutIdeal : Cert.ReferenceAdamwFfnOutIdeal.Facts] : Prop :=
  ∀ (m : (ℓ : Loc Cert.ReferenceAdamwFfnOutIdeal.nD Cert.ReferenceAdamwFfnOutIdeal.τ Cert.ReferenceAdamwFfnOutIdeal.sig) → Buf (Elt Ideal) ℓ) (g : Dev Cert.ReferenceAdamwFfnOutIdeal.nD → PrngReg), Pre_ReferenceAdamwFfnOutIdeal m →
    θ_run (Cert.ReferenceAdamwFfnOutIdeal.defs (F := Ideal)) (onTc (τ := Cert.ReferenceAdamwFfnOutIdeal.τ) (Cert.ReferenceAdamwFfnOutIdeal.main (F := Ideal))) ⟨m, fun _ => 0, g⟩ (fun r => (∀ c : Dev Cert.ReferenceAdamwFfnOutIdeal.nD,
      r.2.mem ((c.tc : Thread Cert.ReferenceAdamwFfnOutIdeal.nD Cert.ReferenceAdamwFfnOutIdeal.τ).loc Cert.ReferenceAdamwFfnOutIdeal.main_arg0) = m ((c.tc : Thread Cert.ReferenceAdamwFfnOutIdeal.nD Cert.ReferenceAdamwFfnOutIdeal.τ).loc Cert.ReferenceAdamwFfnOutIdeal.main_arg0)
      ∧ r.2.mem ((c.tc : Thread Cert.ReferenceAdamwFfnOutIdeal.nD Cert.ReferenceAdamwFfnOutIdeal.τ).loc Cert.ReferenceAdamwFfnOutIdeal.main_arg1) = m ((c.tc : Thread Cert.ReferenceAdamwFfnOutIdeal.nD Cert.ReferenceAdamwFfnOutIdeal.τ).loc Cert.ReferenceAdamwFfnOutIdeal.main_arg1)
      ∧ r.2.mem ((c.tc : Thread Cert.ReferenceAdamwFfnOutIdeal.nD Cert.ReferenceAdamwFfnOutIdeal.τ).loc Cert.ReferenceAdamwFfnOutIdeal.main_arg2) = m ((c.tc : Thread Cert.ReferenceAdamwFfnOutIdeal.nD Cert.ReferenceAdamwFfnOutIdeal.τ).loc Cert.ReferenceAdamwFfnOutIdeal.main_arg2)
      ∧ r.2.mem ((c.tc : Thread Cert.ReferenceAdamwFfnOutIdeal.nD Cert.ReferenceAdamwFfnOutIdeal.τ).loc Cert.ReferenceAdamwFfnOutIdeal.main_arg3) = m ((c.tc : Thread Cert.ReferenceAdamwFfnOutIdeal.nD Cert.ReferenceAdamwFfnOutIdeal.τ).loc Cert.ReferenceAdamwFfnOutIdeal.main_arg3)
      ∧ r.2.mem ((c.tc : Thread Cert.ReferenceAdamwFfnOutIdeal.nD Cert.ReferenceAdamwFfnOutIdeal.τ).loc Cert.ReferenceAdamwFfnOutIdeal.main_arg4) = m ((c.tc : Thread Cert.ReferenceAdamwFfnOutIdeal.nD Cert.ReferenceAdamwFfnOutIdeal.τ).loc Cert.ReferenceAdamwFfnOutIdeal.main_arg4))
      ∧ r.2.sem = fun _ => 0)

def quiescent_KernelFfnOut [hKernelFfnOut : Cert.KernelFfnOut.Facts] : Prop :=
  ∀ (m : (ℓ : Loc Cert.KernelFfnOut.nD Cert.KernelFfnOut.τ Cert.KernelFfnOut.sig) → Buf (Elt Bits) ℓ) (g : Dev Cert.KernelFfnOut.nD → PrngReg), Pre_KernelFfnOut m →
    θ_run (Cert.KernelFfnOut.defs (F := Bits)) (onTc (τ := Cert.KernelFfnOut.τ) (Cert.KernelFfnOut.main (F := Bits))) ⟨m, fun _ => 0, g⟩ (fun r => (∀ c : Dev Cert.KernelFfnOut.nD,
      r.2.mem ((c.tc : Thread Cert.KernelFfnOut.nD Cert.KernelFfnOut.τ).loc Cert.KernelFfnOut.main_arg0) = m ((c.tc : Thread Cert.KernelFfnOut.nD Cert.KernelFfnOut.τ).loc Cert.KernelFfnOut.main_arg0)
      ∧ r.2.mem ((c.tc : Thread Cert.KernelFfnOut.nD Cert.KernelFfnOut.τ).loc Cert.KernelFfnOut.main_arg1) = m ((c.tc : Thread Cert.KernelFfnOut.nD Cert.KernelFfnOut.τ).loc Cert.KernelFfnOut.main_arg1)
      ∧ r.2.mem ((c.tc : Thread Cert.KernelFfnOut.nD Cert.KernelFfnOut.τ).loc Cert.KernelFfnOut.main_arg2) = m ((c.tc : Thread Cert.KernelFfnOut.nD Cert.KernelFfnOut.τ).loc Cert.KernelFfnOut.main_arg2)
      ∧ r.2.mem ((c.tc : Thread Cert.KernelFfnOut.nD Cert.KernelFfnOut.τ).loc Cert.KernelFfnOut.main_arg3) = m ((c.tc : Thread Cert.KernelFfnOut.nD Cert.KernelFfnOut.τ).loc Cert.KernelFfnOut.main_arg3)
      ∧ r.2.mem ((c.tc : Thread Cert.KernelFfnOut.nD Cert.KernelFfnOut.τ).loc Cert.KernelFfnOut.main_arg4) = m ((c.tc : Thread Cert.KernelFfnOut.nD Cert.KernelFfnOut.τ).loc Cert.KernelFfnOut.main_arg4))
      ∧ r.2.sem = fun _ => 0)

def quiescent_KernelFfnOutIdeal [hKernelFfnOutIdeal : Cert.KernelFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg), Pre_KernelFfnOutIdeal m →
    θ_run (Cert.KernelFfnOutIdeal.defs (F := Ideal)) (onTc (τ := Cert.KernelFfnOutIdeal.τ) (Cert.KernelFfnOutIdeal.main (F := Ideal))) ⟨m, fun _ => 0, g⟩ (fun r => (∀ c : Dev Cert.KernelFfnOutIdeal.nD,
      r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
      ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
      ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2)
      ∧ r.2.mem ((c.tc : Thread Cert.KernelFfnOutIdeal.nD Cert.KernelFfnOutIdeal.τ).loc Cert.KernelFfnOutIdeal.main_arg3) = m ((c.tc : Thread Cert.KernelFfnOutIdeal.nD Cert.KernelFfnOutIdeal.τ).loc Cert.KernelFfnOutIdeal.main_arg3)
      ∧ r.2.mem ((c.tc : Thread Cert.KernelFfnOutIdeal.nD Cert.KernelFfnOutIdeal.τ).loc Cert.KernelFfnOutIdeal.main_arg4) = m ((c.tc : Thread Cert.KernelFfnOutIdeal.nD Cert.KernelFfnOutIdeal.τ).loc Cert.KernelFfnOutIdeal.main_arg4))
      ∧ r.2.sem = fun _ => 0)

def quiescent_ReferenceFfnOutIdeal [hReferenceFfnOutIdeal : Cert.ReferenceFfnOutIdeal.Facts] : Prop :=
  ∀ (m : (ℓ : Loc Cert.ReferenceFfnOutIdeal.nD Cert.ReferenceFfnOutIdeal.τ Cert.ReferenceFfnOutIdeal.sig) → Buf (Elt Ideal) ℓ) (g : Dev Cert.ReferenceFfnOutIdeal.nD → PrngReg), Pre_ReferenceFfnOutIdeal m →
    θ_run (Cert.ReferenceFfnOutIdeal.defs (F := Ideal)) (onTc (τ := Cert.ReferenceFfnOutIdeal.τ) (Cert.ReferenceFfnOutIdeal.main (F := Ideal))) ⟨m, fun _ => 0, g⟩ (fun r => (∀ c : Dev Cert.ReferenceFfnOutIdeal.nD,
      r.2.mem ((c.tc : Thread Cert.ReferenceFfnOutIdeal.nD Cert.ReferenceFfnOutIdeal.τ).loc Cert.ReferenceFfnOutIdeal.main_arg0) = m ((c.tc : Thread Cert.ReferenceFfnOutIdeal.nD Cert.ReferenceFfnOutIdeal.τ).loc Cert.ReferenceFfnOutIdeal.main_arg0)
      ∧ r.2.mem ((c.tc : Thread Cert.ReferenceFfnOutIdeal.nD Cert.ReferenceFfnOutIdeal.τ).loc Cert.ReferenceFfnOutIdeal.main_arg1) = m ((c.tc : Thread Cert.ReferenceFfnOutIdeal.nD Cert.ReferenceFfnOutIdeal.τ).loc Cert.ReferenceFfnOutIdeal.main_arg1)
      ∧ r.2.mem ((c.tc : Thread Cert.ReferenceFfnOutIdeal.nD Cert.ReferenceFfnOutIdeal.τ).loc Cert.ReferenceFfnOutIdeal.main_arg2) = m ((c.tc : Thread Cert.ReferenceFfnOutIdeal.nD Cert.ReferenceFfnOutIdeal.τ).loc Cert.ReferenceFfnOutIdeal.main_arg2)
      ∧ r.2.mem ((c.tc : Thread Cert.ReferenceFfnOutIdeal.nD Cert.ReferenceFfnOutIdeal.τ).loc Cert.ReferenceFfnOutIdeal.main_arg3) = m ((c.tc : Thread Cert.ReferenceFfnOutIdeal.nD Cert.ReferenceFfnOutIdeal.τ).loc Cert.ReferenceFfnOutIdeal.main_arg3)
      ∧ r.2.mem ((c.tc : Thread Cert.ReferenceFfnOutIdeal.nD Cert.ReferenceFfnOutIdeal.τ).loc Cert.ReferenceFfnOutIdeal.main_arg4) = m ((c.tc : Thread Cert.ReferenceFfnOutIdeal.nD Cert.ReferenceFfnOutIdeal.τ).loc Cert.ReferenceFfnOutIdeal.main_arg4))
      ∧ r.2.sem = fun _ => 0)

def quiescent_KernelFfnOutAct [hKernelFfnOutAct : Cert.KernelFfnOutAct.Facts] : Prop :=
  ∀ (m : (ℓ : Loc Cert.KernelFfnOutAct.nD Cert.KernelFfnOutAct.τ Cert.KernelFfnOutAct.sig) → Buf (Elt Bits) ℓ) (g : Dev Cert.KernelFfnOutAct.nD → PrngReg), Pre_KernelFfnOutAct m →
    θ_run (Cert.KernelFfnOutAct.defs (F := Bits)) (onTc (τ := Cert.KernelFfnOutAct.τ) (Cert.KernelFfnOutAct.main (F := Bits))) ⟨m, fun _ => 0, g⟩ (fun r => (∀ c : Dev Cert.KernelFfnOutAct.nD,
      r.2.mem ((c.tc : Thread Cert.KernelFfnOutAct.nD Cert.KernelFfnOutAct.τ).loc Cert.KernelFfnOutAct.main_arg0) = m ((c.tc : Thread Cert.KernelFfnOutAct.nD Cert.KernelFfnOutAct.τ).loc Cert.KernelFfnOutAct.main_arg0)
      ∧ r.2.mem ((c.tc : Thread Cert.KernelFfnOutAct.nD Cert.KernelFfnOutAct.τ).loc Cert.KernelFfnOutAct.main_arg1) = m ((c.tc : Thread Cert.KernelFfnOutAct.nD Cert.KernelFfnOutAct.τ).loc Cert.KernelFfnOutAct.main_arg1)
      ∧ r.2.mem ((c.tc : Thread Cert.KernelFfnOutAct.nD Cert.KernelFfnOutAct.τ).loc Cert.KernelFfnOutAct.main_arg2) = m ((c.tc : Thread Cert.KernelFfnOutAct.nD Cert.KernelFfnOutAct.τ).loc Cert.KernelFfnOutAct.main_arg2)
      ∧ r.2.mem ((c.tc : Thread Cert.KernelFfnOutAct.nD Cert.KernelFfnOutAct.τ).loc Cert.KernelFfnOutAct.main_arg3) = m ((c.tc : Thread Cert.KernelFfnOutAct.nD Cert.KernelFfnOutAct.τ).loc Cert.KernelFfnOutAct.main_arg3))
      ∧ r.2.sem = fun _ => 0)

def quiescent_KernelFfnOutActIdeal [hKernelFfnOutActIdeal : Cert.KernelFfnOutActIdeal.Facts] : Prop :=
  ∀ (m : (ℓ : Loc Cert.KernelFfnOutActIdeal.nD Cert.KernelFfnOutActIdeal.τ Cert.KernelFfnOutActIdeal.sig) → Buf (Elt Ideal) ℓ) (g : Dev Cert.KernelFfnOutActIdeal.nD → PrngReg), Pre_KernelFfnOutActIdeal m →
    θ_run (Cert.KernelFfnOutActIdeal.defs (F := Ideal)) (onTc (τ := Cert.KernelFfnOutActIdeal.τ) (Cert.KernelFfnOutActIdeal.main (F := Ideal))) ⟨m, fun _ => 0, g⟩ (fun r => (∀ c : Dev Cert.KernelFfnOutActIdeal.nD,
      r.2.mem ((c.tc : Thread Cert.KernelFfnOutActIdeal.nD Cert.KernelFfnOutActIdeal.τ).loc Cert.KernelFfnOutActIdeal.main_arg0) = m ((c.tc : Thread Cert.KernelFfnOutActIdeal.nD Cert.KernelFfnOutActIdeal.τ).loc Cert.KernelFfnOutActIdeal.main_arg0)
      ∧ r.2.mem ((c.tc : Thread Cert.KernelFfnOutActIdeal.nD Cert.KernelFfnOutActIdeal.τ).loc Cert.KernelFfnOutActIdeal.main_arg1) = m ((c.tc : Thread Cert.KernelFfnOutActIdeal.nD Cert.KernelFfnOutActIdeal.τ).loc Cert.KernelFfnOutActIdeal.main_arg1)
      ∧ r.2.mem ((c.tc : Thread Cert.KernelFfnOutActIdeal.nD Cert.KernelFfnOutActIdeal.τ).loc Cert.KernelFfnOutActIdeal.main_arg2) = m ((c.tc : Thread Cert.KernelFfnOutActIdeal.nD Cert.KernelFfnOutActIdeal.τ).loc Cert.KernelFfnOutActIdeal.main_arg2)
      ∧ r.2.mem ((c.tc : Thread Cert.KernelFfnOutActIdeal.nD Cert.KernelFfnOutActIdeal.τ).loc Cert.KernelFfnOutActIdeal.main_arg3) = m ((c.tc : Thread Cert.KernelFfnOutActIdeal.nD Cert.KernelFfnOutActIdeal.τ).loc Cert.KernelFfnOutActIdeal.main_arg3))
      ∧ r.2.sem = fun _ => 0)

def quiescent_KernelFfnOutActIdeal_pre_gates_finite [hKernelFfnOutActIdeal : Cert.KernelFfnOutActIdeal.Facts] [hPre_gates_finite : Cert.Pre_gates_finite.Facts] : Prop :=
  ∀ (m : (ℓ : Loc Cert.KernelFfnOutActIdeal.nD Cert.KernelFfnOutActIdeal.τ Cert.KernelFfnOutActIdeal.sig) → Buf (Elt Ideal) ℓ) (g : Dev Cert.KernelFfnOutActIdeal.nD → PrngReg), Pre_KernelFfnOutActIdeal_gates_finite m →
    θ_run (Cert.KernelFfnOutActIdeal.defs (F := Ideal)) (onTc (τ := Cert.KernelFfnOutActIdeal.τ) (Cert.KernelFfnOutActIdeal.main (F := Ideal))) ⟨m, fun _ => 0, g⟩ (fun r => (∀ c : Dev Cert.KernelFfnOutActIdeal.nD,
      r.2.mem ((c.tc : Thread Cert.KernelFfnOutActIdeal.nD Cert.KernelFfnOutActIdeal.τ).loc Cert.KernelFfnOutActIdeal.main_arg0) = m ((c.tc : Thread Cert.KernelFfnOutActIdeal.nD Cert.KernelFfnOutActIdeal.τ).loc Cert.KernelFfnOutActIdeal.main_arg0)
      ∧ r.2.mem ((c.tc : Thread Cert.KernelFfnOutActIdeal.nD Cert.KernelFfnOutActIdeal.τ).loc Cert.KernelFfnOutActIdeal.main_arg1) = m ((c.tc : Thread Cert.KernelFfnOutActIdeal.nD Cert.KernelFfnOutActIdeal.τ).loc Cert.KernelFfnOutActIdeal.main_arg1)
      ∧ r.2.mem ((c.tc : Thread Cert.KernelFfnOutActIdeal.nD Cert.KernelFfnOutActIdeal.τ).loc Cert.KernelFfnOutActIdeal.main_arg2) = m ((c.tc : Thread Cert.KernelFfnOutActIdeal.nD Cert.KernelFfnOutActIdeal.τ).loc Cert.KernelFfnOutActIdeal.main_arg2)
      ∧ r.2.mem ((c.tc : Thread Cert.KernelFfnOutActIdeal.nD Cert.KernelFfnOutActIdeal.τ).loc Cert.KernelFfnOutActIdeal.main_arg3) = m ((c.tc : Thread Cert.KernelFfnOutActIdeal.nD Cert.KernelFfnOutActIdeal.τ).loc Cert.KernelFfnOutActIdeal.main_arg3))
      ∧ r.2.sem = fun _ => 0)

def quiescent_ReferenceFfnOutActIdeal [hReferenceFfnOutActIdeal : Cert.ReferenceFfnOutActIdeal.Facts] : Prop :=
  ∀ (m : (ℓ : Loc Cert.ReferenceFfnOutActIdeal.nD Cert.ReferenceFfnOutActIdeal.τ Cert.ReferenceFfnOutActIdeal.sig) → Buf (Elt Ideal) ℓ) (g : Dev Cert.ReferenceFfnOutActIdeal.nD → PrngReg), Pre_ReferenceFfnOutActIdeal m →
    θ_run (Cert.ReferenceFfnOutActIdeal.defs (F := Ideal)) (onTc (τ := Cert.ReferenceFfnOutActIdeal.τ) (Cert.ReferenceFfnOutActIdeal.main (F := Ideal))) ⟨m, fun _ => 0, g⟩ (fun r => (∀ c : Dev Cert.ReferenceFfnOutActIdeal.nD,
      r.2.mem ((c.tc : Thread Cert.ReferenceFfnOutActIdeal.nD Cert.ReferenceFfnOutActIdeal.τ).loc Cert.ReferenceFfnOutActIdeal.main_arg0) = m ((c.tc : Thread Cert.ReferenceFfnOutActIdeal.nD Cert.ReferenceFfnOutActIdeal.τ).loc Cert.ReferenceFfnOutActIdeal.main_arg0)
      ∧ r.2.mem ((c.tc : Thread Cert.ReferenceFfnOutActIdeal.nD Cert.ReferenceFfnOutActIdeal.τ).loc Cert.ReferenceFfnOutActIdeal.main_arg1) = m ((c.tc : Thread Cert.ReferenceFfnOutActIdeal.nD Cert.ReferenceFfnOutActIdeal.τ).loc Cert.ReferenceFfnOutActIdeal.main_arg1)
      ∧ r.2.mem ((c.tc : Thread Cert.ReferenceFfnOutActIdeal.nD Cert.ReferenceFfnOutActIdeal.τ).loc Cert.ReferenceFfnOutActIdeal.main_arg2) = m ((c.tc : Thread Cert.ReferenceFfnOutActIdeal.nD Cert.ReferenceFfnOutActIdeal.τ).loc Cert.ReferenceFfnOutActIdeal.main_arg2)
      ∧ r.2.mem ((c.tc : Thread Cert.ReferenceFfnOutActIdeal.nD Cert.ReferenceFfnOutActIdeal.τ).loc Cert.ReferenceFfnOutActIdeal.main_arg3) = m ((c.tc : Thread Cert.ReferenceFfnOutActIdeal.nD Cert.ReferenceFfnOutActIdeal.τ).loc Cert.ReferenceFfnOutActIdeal.main_arg3))
      ∧ r.2.sem = fun _ => 0)

def quiescent_ReferenceFfnOutActIdeal_pre_gates_finite [hReferenceFfnOutActIdeal : Cert.ReferenceFfnOutActIdeal.Facts] [hPre_gates_finite : Cert.Pre_gates_finite.Facts] : Prop :=
  ∀ (m : (ℓ : Loc Cert.ReferenceFfnOutActIdeal.nD Cert.ReferenceFfnOutActIdeal.τ Cert.ReferenceFfnOutActIdeal.sig) → Buf (Elt Ideal) ℓ) (g : Dev Cert.ReferenceFfnOutActIdeal.nD → PrngReg), Pre_ReferenceFfnOutActIdeal_gates_finite m →
    θ_run (Cert.ReferenceFfnOutActIdeal.defs (F := Ideal)) (onTc (τ := Cert.ReferenceFfnOutActIdeal.τ) (Cert.ReferenceFfnOutActIdeal.main (F := Ideal))) ⟨m, fun _ => 0, g⟩ (fun r => (∀ c : Dev Cert.ReferenceFfnOutActIdeal.nD,
      r.2.mem ((c.tc : Thread Cert.ReferenceFfnOutActIdeal.nD Cert.ReferenceFfnOutActIdeal.τ).loc Cert.ReferenceFfnOutActIdeal.main_arg0) = m ((c.tc : Thread Cert.ReferenceFfnOutActIdeal.nD Cert.ReferenceFfnOutActIdeal.τ).loc Cert.ReferenceFfnOutActIdeal.main_arg0)
      ∧ r.2.mem ((c.tc : Thread Cert.ReferenceFfnOutActIdeal.nD Cert.ReferenceFfnOutActIdeal.τ).loc Cert.ReferenceFfnOutActIdeal.main_arg1) = m ((c.tc : Thread Cert.ReferenceFfnOutActIdeal.nD Cert.ReferenceFfnOutActIdeal.τ).loc Cert.ReferenceFfnOutActIdeal.main_arg1)
      ∧ r.2.mem ((c.tc : Thread Cert.ReferenceFfnOutActIdeal.nD Cert.ReferenceFfnOutActIdeal.τ).loc Cert.ReferenceFfnOutActIdeal.main_arg2) = m ((c.tc : Thread Cert.ReferenceFfnOutActIdeal.nD Cert.ReferenceFfnOutActIdeal.τ).loc Cert.ReferenceFfnOutActIdeal.main_arg2)
      ∧ r.2.mem ((c.tc : Thread Cert.ReferenceFfnOutActIdeal.nD Cert.ReferenceFfnOutActIdeal.τ).loc Cert.ReferenceFfnOutActIdeal.main_arg3) = m ((c.tc : Thread Cert.ReferenceFfnOutActIdeal.nD Cert.ReferenceFfnOutActIdeal.τ).loc Cert.ReferenceFfnOutActIdeal.main_arg3))
      ∧ r.2.sem = fun _ => 0)

def quiescent_KernelNormMix [hKernelNormMix : Cert.KernelNormMix.Facts] : Prop :=
  ∀ (m : (ℓ : Loc Cert.KernelNormMix.nD Cert.KernelNormMix.τ Cert.KernelNormMix.sig) → Buf (Elt Bits) ℓ) (g : Dev Cert.KernelNormMix.nD → PrngReg), Pre_KernelNormMix m →
    θ_run (Cert.KernelNormMix.defs (F := Bits)) (onTc (τ := Cert.KernelNormMix.τ) (Cert.KernelNormMix.main (F := Bits))) ⟨m, fun _ => 0, g⟩ (fun r => (∀ c : Dev Cert.KernelNormMix.nD,
      r.2.mem ((c.tc : Thread Cert.KernelNormMix.nD Cert.KernelNormMix.τ).loc Cert.KernelNormMix.main_arg0) = m ((c.tc : Thread Cert.KernelNormMix.nD Cert.KernelNormMix.τ).loc Cert.KernelNormMix.main_arg0)
      ∧ r.2.mem ((c.tc : Thread Cert.KernelNormMix.nD Cert.KernelNormMix.τ).loc Cert.KernelNormMix.main_arg1) = m ((c.tc : Thread Cert.KernelNormMix.nD Cert.KernelNormMix.τ).loc Cert.KernelNormMix.main_arg1))
      ∧ r.2.sem = fun _ => 0)

def quiescent_KernelNormMixIdeal [hKernelNormMixIdeal : Cert.KernelNormMixIdeal.Facts] : Prop :=
  ∀ (m : (ℓ : Loc Cert.KernelNormMixIdeal.nD Cert.KernelNormMixIdeal.τ Cert.KernelNormMixIdeal.sig) → Buf (Elt Ideal) ℓ) (g : Dev Cert.KernelNormMixIdeal.nD → PrngReg), Pre_KernelNormMixIdeal m →
    θ_run (Cert.KernelNormMixIdeal.defs (F := Ideal)) (onTc (τ := Cert.KernelNormMixIdeal.τ) (Cert.KernelNormMixIdeal.main (F := Ideal))) ⟨m, fun _ => 0, g⟩ (fun r => (∀ c : Dev Cert.KernelNormMixIdeal.nD,
      r.2.mem ((c.tc : Thread Cert.KernelNormMixIdeal.nD Cert.KernelNormMixIdeal.τ).loc Cert.KernelNormMixIdeal.main_arg0) = m ((c.tc : Thread Cert.KernelNormMixIdeal.nD Cert.KernelNormMixIdeal.τ).loc Cert.KernelNormMixIdeal.main_arg0)
      ∧ r.2.mem ((c.tc : Thread Cert.KernelNormMixIdeal.nD Cert.KernelNormMixIdeal.τ).loc Cert.KernelNormMixIdeal.main_arg1) = m ((c.tc : Thread Cert.KernelNormMixIdeal.nD Cert.KernelNormMixIdeal.τ).loc Cert.KernelNormMixIdeal.main_arg1))
      ∧ r.2.sem = fun _ => 0)

def quiescent_ReferenceNormMixIdeal [hReferenceNormMixIdeal : Cert.ReferenceNormMixIdeal.Facts] : Prop :=
  ∀ (m : (ℓ : Loc Cert.ReferenceNormMixIdeal.nD Cert.ReferenceNormMixIdeal.τ Cert.ReferenceNormMixIdeal.sig) → Buf (Elt Ideal) ℓ) (g : Dev Cert.ReferenceNormMixIdeal.nD → PrngReg), Pre_ReferenceNormMixIdeal m →
    θ_run (Cert.ReferenceNormMixIdeal.defs (F := Ideal)) (onTc (τ := Cert.ReferenceNormMixIdeal.τ) (Cert.ReferenceNormMixIdeal.main (F := Ideal))) ⟨m, fun _ => 0, g⟩ (fun r => (∀ c : Dev Cert.ReferenceNormMixIdeal.nD,
      r.2.mem ((c.tc : Thread Cert.ReferenceNormMixIdeal.nD Cert.ReferenceNormMixIdeal.τ).loc Cert.ReferenceNormMixIdeal.main_arg0) = m ((c.tc : Thread Cert.ReferenceNormMixIdeal.nD Cert.ReferenceNormMixIdeal.τ).loc Cert.ReferenceNormMixIdeal.main_arg0)
      ∧ r.2.mem ((c.tc : Thread Cert.ReferenceNormMixIdeal.nD Cert.ReferenceNormMixIdeal.τ).loc Cert.ReferenceNormMixIdeal.main_arg1) = m ((c.tc : Thread Cert.ReferenceNormMixIdeal.nD Cert.ReferenceNormMixIdeal.τ).loc Cert.ReferenceNormMixIdeal.main_arg1))
      ∧ r.2.sem = fun _ => 0)

def quiescent_KernelNormMemFwd [hKernelNormMemFwd : Cert.KernelNormMemFwd.Facts] : Prop :=
  ∀ (m : (ℓ : Loc Cert.KernelNormMemFwd.nD Cert.KernelNormMemFwd.τ Cert.KernelNormMemFwd.sig) → Buf (Elt Bits) ℓ) (g : Dev Cert.KernelNormMemFwd.nD → PrngReg), Pre_KernelNormMemFwd m →
    θ_run (Cert.KernelNormMemFwd.defs (F := Bits)) (onTc (τ := Cert.KernelNormMemFwd.τ) (Cert.KernelNormMemFwd.main (F := Bits))) ⟨m, fun _ => 0, g⟩ (fun r => (∀ c : Dev Cert.KernelNormMemFwd.nD,
      r.2.mem ((c.tc : Thread Cert.KernelNormMemFwd.nD Cert.KernelNormMemFwd.τ).loc Cert.KernelNormMemFwd.main_arg0) = m ((c.tc : Thread Cert.KernelNormMemFwd.nD Cert.KernelNormMemFwd.τ).loc Cert.KernelNormMemFwd.main_arg0)
      ∧ r.2.mem ((c.tc : Thread Cert.KernelNormMemFwd.nD Cert.KernelNormMemFwd.τ).loc Cert.KernelNormMemFwd.main_arg1) = m ((c.tc : Thread Cert.KernelNormMemFwd.nD Cert.KernelNormMemFwd.τ).loc Cert.KernelNormMemFwd.main_arg1))
      ∧ r.2.sem = fun _ => 0)

def quiescent_KernelNormMemFwdIdeal [hKernelNormMemFwdIdeal : Cert.KernelNormMemFwdIdeal.Facts] : Prop :=
  ∀ (m : (ℓ : Loc Cert.KernelNormMemFwdIdeal.nD Cert.KernelNormMemFwdIdeal.τ Cert.KernelNormMemFwdIdeal.sig) → Buf (Elt Ideal) ℓ) (g : Dev Cert.KernelNormMemFwdIdeal.nD → PrngReg), Pre_KernelNormMemFwdIdeal m →
    θ_run (Cert.KernelNormMemFwdIdeal.defs (F := Ideal)) (onTc (τ := Cert.KernelNormMemFwdIdeal.τ) (Cert.KernelNormMemFwdIdeal.main (F := Ideal))) ⟨m, fun _ => 0, g⟩ (fun r => (∀ c : Dev Cert.KernelNormMemFwdIdeal.nD,
      r.2.mem ((c.tc : Thread Cert.KernelNormMemFwdIdeal.nD Cert.KernelNormMemFwdIdeal.τ).loc Cert.KernelNormMemFwdIdeal.main_arg0) = m ((c.tc : Thread Cert.KernelNormMemFwdIdeal.nD Cert.KernelNormMemFwdIdeal.τ).loc Cert.KernelNormMemFwdIdeal.main_arg0)
      ∧ r.2.mem ((c.tc : Thread Cert.KernelNormMemFwdIdeal.nD Cert.KernelNormMemFwdIdeal.τ).loc Cert.KernelNormMemFwdIdeal.main_arg1) = m ((c.tc : Thread Cert.KernelNormMemFwdIdeal.nD Cert.KernelNormMemFwdIdeal.τ).loc Cert.KernelNormMemFwdIdeal.main_arg1))
      ∧ r.2.sem = fun _ => 0)

def quiescent_ReferenceNormMemFwdIdeal [hReferenceNormMemFwdIdeal : Cert.ReferenceNormMemFwdIdeal.Facts] : Prop :=
  ∀ (m : (ℓ : Loc Cert.ReferenceNormMemFwdIdeal.nD Cert.ReferenceNormMemFwdIdeal.τ Cert.ReferenceNormMemFwdIdeal.sig) → Buf (Elt Ideal) ℓ) (g : Dev Cert.ReferenceNormMemFwdIdeal.nD → PrngReg), Pre_ReferenceNormMemFwdIdeal m →
    θ_run (Cert.ReferenceNormMemFwdIdeal.defs (F := Ideal)) (onTc (τ := Cert.ReferenceNormMemFwdIdeal.τ) (Cert.ReferenceNormMemFwdIdeal.main (F := Ideal))) ⟨m, fun _ => 0, g⟩ (fun r => (∀ c : Dev Cert.ReferenceNormMemFwdIdeal.nD,
      r.2.mem ((c.tc : Thread Cert.ReferenceNormMemFwdIdeal.nD Cert.ReferenceNormMemFwdIdeal.τ).loc Cert.ReferenceNormMemFwdIdeal.main_arg0) = m ((c.tc : Thread Cert.ReferenceNormMemFwdIdeal.nD Cert.ReferenceNormMemFwdIdeal.τ).loc Cert.ReferenceNormMemFwdIdeal.main_arg0)
      ∧ r.2.mem ((c.tc : Thread Cert.ReferenceNormMemFwdIdeal.nD Cert.ReferenceNormMemFwdIdeal.τ).loc Cert.ReferenceNormMemFwdIdeal.main_arg1) = m ((c.tc : Thread Cert.ReferenceNormMemFwdIdeal.nD Cert.ReferenceNormMemFwdIdeal.τ).loc Cert.ReferenceNormMemFwdIdeal.main_arg1))
      ∧ r.2.sem = fun _ => 0)

def quiescent_KernelMemKv [hKernelMemKv : Cert.KernelMemKv.Facts] : Prop :=
  ∀ (m : (ℓ : Loc Cert.KernelMemKv.nD Cert.KernelMemKv.τ Cert.KernelMemKv.sig) → Buf (Elt Bits) ℓ) (g : Dev Cert.KernelMemKv.nD → PrngReg), Pre_KernelMemKv m →
    θ_run (Cert.KernelMemKv.defs (F := Bits)) (onTc (τ := Cert.KernelMemKv.τ) (Cert.KernelMemKv.main (F := Bits))) ⟨m, fun _ => 0, g⟩ (fun r => (∀ c : Dev Cert.KernelMemKv.nD,
      r.2.mem ((c.tc : Thread Cert.KernelMemKv.nD Cert.KernelMemKv.τ).loc Cert.KernelMemKv.main_arg0) = m ((c.tc : Thread Cert.KernelMemKv.nD Cert.KernelMemKv.τ).loc Cert.KernelMemKv.main_arg0)
      ∧ r.2.mem ((c.tc : Thread Cert.KernelMemKv.nD Cert.KernelMemKv.τ).loc Cert.KernelMemKv.main_arg1) = m ((c.tc : Thread Cert.KernelMemKv.nD Cert.KernelMemKv.τ).loc Cert.KernelMemKv.main_arg1))
      ∧ r.2.sem = fun _ => 0)

def quiescent_KernelMemKvIdeal [hKernelMemKvIdeal : Cert.KernelMemKvIdeal.Facts] : Prop :=
  ∀ (m : (ℓ : Loc Cert.KernelMemKvIdeal.nD Cert.KernelMemKvIdeal.τ Cert.KernelMemKvIdeal.sig) → Buf (Elt Ideal) ℓ) (g : Dev Cert.KernelMemKvIdeal.nD → PrngReg), Pre_KernelMemKvIdeal m →
    θ_run (Cert.KernelMemKvIdeal.defs (F := Ideal)) (onTc (τ := Cert.KernelMemKvIdeal.τ) (Cert.KernelMemKvIdeal.main (F := Ideal))) ⟨m, fun _ => 0, g⟩ (fun r => (∀ c : Dev Cert.KernelMemKvIdeal.nD,
      r.2.mem ((c.tc : Thread Cert.KernelMemKvIdeal.nD Cert.KernelMemKvIdeal.τ).loc Cert.KernelMemKvIdeal.main_arg0) = m ((c.tc : Thread Cert.KernelMemKvIdeal.nD Cert.KernelMemKvIdeal.τ).loc Cert.KernelMemKvIdeal.main_arg0)
      ∧ r.2.mem ((c.tc : Thread Cert.KernelMemKvIdeal.nD Cert.KernelMemKvIdeal.τ).loc Cert.KernelMemKvIdeal.main_arg1) = m ((c.tc : Thread Cert.KernelMemKvIdeal.nD Cert.KernelMemKvIdeal.τ).loc Cert.KernelMemKvIdeal.main_arg1))
      ∧ r.2.sem = fun _ => 0)

def quiescent_ReferenceMemKvIdeal [hReferenceMemKvIdeal : Cert.ReferenceMemKvIdeal.Facts] : Prop :=
  ∀ (m : (ℓ : Loc Cert.ReferenceMemKvIdeal.nD Cert.ReferenceMemKvIdeal.τ Cert.ReferenceMemKvIdeal.sig) → Buf (Elt Ideal) ℓ) (g : Dev Cert.ReferenceMemKvIdeal.nD → PrngReg), Pre_ReferenceMemKvIdeal m →
    θ_run (Cert.ReferenceMemKvIdeal.defs (F := Ideal)) (onTc (τ := Cert.ReferenceMemKvIdeal.τ) (Cert.ReferenceMemKvIdeal.main (F := Ideal))) ⟨m, fun _ => 0, g⟩ (fun r => (∀ c : Dev Cert.ReferenceMemKvIdeal.nD,
      r.2.mem ((c.tc : Thread Cert.ReferenceMemKvIdeal.nD Cert.ReferenceMemKvIdeal.τ).loc Cert.ReferenceMemKvIdeal.main_arg0) = m ((c.tc : Thread Cert.ReferenceMemKvIdeal.nD Cert.ReferenceMemKvIdeal.τ).loc Cert.ReferenceMemKvIdeal.main_arg0)
      ∧ r.2.mem ((c.tc : Thread Cert.ReferenceMemKvIdeal.nD Cert.ReferenceMemKvIdeal.τ).loc Cert.ReferenceMemKvIdeal.main_arg1) = m ((c.tc : Thread Cert.ReferenceMemKvIdeal.nD Cert.ReferenceMemKvIdeal.τ).loc Cert.ReferenceMemKvIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6))
      ∧ r.2.sem = fun _ => 0)

def quiescent_KernelOutNorm [hKernelOutNorm : Cert.KernelOutNorm.Facts] : Prop :=
  ∀ (m : (ℓ : Loc Cert.KernelOutNorm.nD Cert.KernelOutNorm.τ Cert.KernelOutNorm.sig) → Buf (Elt Bits) ℓ) (g : Dev Cert.KernelOutNorm.nD → PrngReg), Pre_KernelOutNorm m →
    θ_run (Cert.KernelOutNorm.defs (F := Bits)) (onTc (τ := Cert.KernelOutNorm.τ) (Cert.KernelOutNorm.main (F := Bits))) ⟨m, fun _ => 0, g⟩ (fun r => (∀ c : Dev Cert.KernelOutNorm.nD,
      r.2.mem ((c.tc : Thread Cert.KernelOutNorm.nD Cert.KernelOutNorm.τ).loc Cert.KernelOutNorm.main_arg0) = m ((c.tc : Thread Cert.KernelOutNorm.nD Cert.KernelOutNorm.τ).loc Cert.KernelOutNorm.main_arg0)
      ∧ r.2.mem ((c.tc : Thread Cert.KernelOutNorm.nD Cert.KernelOutNorm.τ).loc Cert.KernelOutNorm.main_arg1) = m ((c.tc : Thread Cert.KernelOutNorm.nD Cert.KernelOutNorm.τ).loc Cert.KernelOutNorm.main_arg1)
      ∧ r.2.mem ((c.tc : Thread Cert.KernelOutNorm.nD Cert.KernelOutNorm.τ).loc Cert.KernelOutNorm.main_arg2) = m ((c.tc : Thread Cert.KernelOutNorm.nD Cert.KernelOutNorm.τ).loc Cert.KernelOutNorm.main_arg2)
      ∧ r.2.mem ((c.tc : Thread Cert.KernelOutNorm.nD Cert.KernelOutNorm.τ).loc Cert.KernelOutNorm.main_arg3) = m ((c.tc : Thread Cert.KernelOutNorm.nD Cert.KernelOutNorm.τ).loc Cert.KernelOutNorm.main_arg3))
      ∧ r.2.sem = fun _ => 0)

def quiescent_KernelOutNormIdeal [hKernelOutNormIdeal : Cert.KernelOutNormIdeal.Facts] : Prop :=
  ∀ (m : (ℓ : Loc Cert.KernelOutNormIdeal.nD Cert.KernelOutNormIdeal.τ Cert.KernelOutNormIdeal.sig) → Buf (Elt Ideal) ℓ) (g : Dev Cert.KernelOutNormIdeal.nD → PrngReg), Pre_KernelOutNormIdeal m →
    θ_run (Cert.KernelOutNormIdeal.defs (F := Ideal)) (onTc (τ := Cert.KernelOutNormIdeal.τ) (Cert.KernelOutNormIdeal.main (F := Ideal))) ⟨m, fun _ => 0, g⟩ (fun r => (∀ c : Dev Cert.KernelOutNormIdeal.nD,
      r.2.mem ((c.tc : Thread Cert.KernelOutNormIdeal.nD Cert.KernelOutNormIdeal.τ).loc Cert.KernelOutNormIdeal.main_arg0) = m ((c.tc : Thread Cert.KernelOutNormIdeal.nD Cert.KernelOutNormIdeal.τ).loc Cert.KernelOutNormIdeal.main_arg0)
      ∧ r.2.mem ((c.tc : Thread Cert.KernelOutNormIdeal.nD Cert.KernelOutNormIdeal.τ).loc Cert.KernelOutNormIdeal.main_arg1) = m ((c.tc : Thread Cert.KernelOutNormIdeal.nD Cert.KernelOutNormIdeal.τ).loc Cert.KernelOutNormIdeal.main_arg1)
      ∧ r.2.mem ((c.tc : Thread Cert.KernelOutNormIdeal.nD Cert.KernelOutNormIdeal.τ).loc Cert.KernelOutNormIdeal.main_arg2) = m ((c.tc : Thread Cert.KernelOutNormIdeal.nD Cert.KernelOutNormIdeal.τ).loc Cert.KernelOutNormIdeal.main_arg2)
      ∧ r.2.mem ((c.tc : Thread Cert.KernelOutNormIdeal.nD Cert.KernelOutNormIdeal.τ).loc Cert.KernelOutNormIdeal.main_arg3) = m ((c.tc : Thread Cert.KernelOutNormIdeal.nD Cert.KernelOutNormIdeal.τ).loc Cert.KernelOutNormIdeal.main_arg3))
      ∧ r.2.sem = fun _ => 0)

def quiescent_ReferenceOutNormIdeal [hReferenceOutNormIdeal : Cert.ReferenceOutNormIdeal.Facts] : Prop :=
  ∀ (m : (ℓ : Loc Cert.ReferenceOutNormIdeal.nD Cert.ReferenceOutNormIdeal.τ Cert.ReferenceOutNormIdeal.sig) → Buf (Elt Ideal) ℓ) (g : Dev Cert.ReferenceOutNormIdeal.nD → PrngReg), Pre_ReferenceOutNormIdeal m →
    θ_run (Cert.ReferenceOutNormIdeal.defs (F := Ideal)) (onTc (τ := Cert.ReferenceOutNormIdeal.τ) (Cert.ReferenceOutNormIdeal.main (F := Ideal))) ⟨m, fun _ => 0, g⟩ (fun r => (∀ c : Dev Cert.ReferenceOutNormIdeal.nD,
      r.2.mem ((c.tc : Thread Cert.ReferenceOutNormIdeal.nD Cert.ReferenceOutNormIdeal.τ).loc Cert.ReferenceOutNormIdeal.main_arg0) = m ((c.tc : Thread Cert.ReferenceOutNormIdeal.nD Cert.ReferenceOutNormIdeal.τ).loc Cert.ReferenceOutNormIdeal.main_arg0)
      ∧ r.2.mem ((c.tc : Thread Cert.ReferenceOutNormIdeal.nD Cert.ReferenceOutNormIdeal.τ).loc Cert.ReferenceOutNormIdeal.main_arg1) = m ((c.tc : Thread Cert.ReferenceOutNormIdeal.nD Cert.ReferenceOutNormIdeal.τ).loc Cert.ReferenceOutNormIdeal.main_arg1)
      ∧ r.2.mem ((c.tc : Thread Cert.ReferenceOutNormIdeal.nD Cert.ReferenceOutNormIdeal.τ).loc Cert.ReferenceOutNormIdeal.main_arg2) = m ((c.tc : Thread Cert.ReferenceOutNormIdeal.nD Cert.ReferenceOutNormIdeal.τ).loc Cert.ReferenceOutNormIdeal.main_arg2)
      ∧ r.2.mem ((c.tc : Thread Cert.ReferenceOutNormIdeal.nD Cert.ReferenceOutNormIdeal.τ).loc Cert.ReferenceOutNormIdeal.main_arg3) = m ((c.tc : Thread Cert.ReferenceOutNormIdeal.nD Cert.ReferenceOutNormIdeal.τ).loc Cert.ReferenceOutNormIdeal.main_arg3))
      ∧ r.2.sem = fun _ => 0)

def quiescent_KernelMemFwd [hKernelMemFwd : Cert.KernelMemFwd.Facts] : Prop :=
  ∀ (m : (ℓ : Loc Cert.KernelMemFwd.nD Cert.KernelMemFwd.τ Cert.KernelMemFwd.sig) → Buf (Elt Bits) ℓ) (g : Dev Cert.KernelMemFwd.nD → PrngReg), Pre_KernelMemFwd m →
    θ_run (Cert.KernelMemFwd.defs (F := Bits)) (onTc (τ := Cert.KernelMemFwd.τ) (Cert.KernelMemFwd.main (F := Bits))) ⟨m, fun _ => 0, g⟩ (fun r => (∀ c : Dev Cert.KernelMemFwd.nD,
      r.2.mem ((c.tc : Thread Cert.KernelMemFwd.nD Cert.KernelMemFwd.τ).loc Cert.KernelMemFwd.main_arg0) = m ((c.tc : Thread Cert.KernelMemFwd.nD Cert.KernelMemFwd.τ).loc Cert.KernelMemFwd.main_arg0)
      ∧ r.2.mem ((c.tc : Thread Cert.KernelMemFwd.nD Cert.KernelMemFwd.τ).loc Cert.KernelMemFwd.main_arg1) = m ((c.tc : Thread Cert.KernelMemFwd.nD Cert.KernelMemFwd.τ).loc Cert.KernelMemFwd.main_arg1)
      ∧ r.2.mem ((c.tc : Thread Cert.KernelMemFwd.nD Cert.KernelMemFwd.τ).loc Cert.KernelMemFwd.main_arg2) = m ((c.tc : Thread Cert.KernelMemFwd.nD Cert.KernelMemFwd.τ).loc Cert.KernelMemFwd.main_arg2)
      ∧ r.2.mem ((c.tc : Thread Cert.KernelMemFwd.nD Cert.KernelMemFwd.τ).loc Cert.KernelMemFwd.main_arg3) = m ((c.tc : Thread Cert.KernelMemFwd.nD Cert.KernelMemFwd.τ).loc Cert.KernelMemFwd.main_arg3))
      ∧ r.2.sem = fun _ => 0)

def quiescent_KernelMemFwdIdeal [hKernelMemFwdIdeal : Cert.KernelMemFwdIdeal.Facts] : Prop :=
  ∀ (m : (ℓ : Loc Cert.KernelMemFwdIdeal.nD Cert.KernelMemFwdIdeal.τ Cert.KernelMemFwdIdeal.sig) → Buf (Elt Ideal) ℓ) (g : Dev Cert.KernelMemFwdIdeal.nD → PrngReg), Pre_KernelMemFwdIdeal m →
    θ_run (Cert.KernelMemFwdIdeal.defs (F := Ideal)) (onTc (τ := Cert.KernelMemFwdIdeal.τ) (Cert.KernelMemFwdIdeal.main (F := Ideal))) ⟨m, fun _ => 0, g⟩ (fun r => (∀ c : Dev Cert.KernelMemFwdIdeal.nD,
      r.2.mem ((c.tc : Thread Cert.KernelMemFwdIdeal.nD Cert.KernelMemFwdIdeal.τ).loc Cert.KernelMemFwdIdeal.main_arg0) = m ((c.tc : Thread Cert.KernelMemFwdIdeal.nD Cert.KernelMemFwdIdeal.τ).loc Cert.KernelMemFwdIdeal.main_arg0)
      ∧ r.2.mem ((c.tc : Thread Cert.KernelMemFwdIdeal.nD Cert.KernelMemFwdIdeal.τ).loc Cert.KernelMemFwdIdeal.main_arg1) = m ((c.tc : Thread Cert.KernelMemFwdIdeal.nD Cert.KernelMemFwdIdeal.τ).loc Cert.KernelMemFwdIdeal.main_arg1)
      ∧ r.2.mem ((c.tc : Thread Cert.KernelMemFwdIdeal.nD Cert.KernelMemFwdIdeal.τ).loc Cert.KernelMemFwdIdeal.main_arg2) = m ((c.tc : Thread Cert.KernelMemFwdIdeal.nD Cert.KernelMemFwdIdeal.τ).loc Cert.KernelMemFwdIdeal.main_arg2)
      ∧ r.2.mem ((c.tc : Thread Cert.KernelMemFwdIdeal.nD Cert.KernelMemFwdIdeal.τ).loc Cert.KernelMemFwdIdeal.main_arg3) = m ((c.tc : Thread Cert.KernelMemFwdIdeal.nD Cert.KernelMemFwdIdeal.τ).loc Cert.KernelMemFwdIdeal.main_arg3))
      ∧ r.2.sem = fun _ => 0)

def quiescent_ReferenceMemFwdIdeal [hReferenceMemFwdIdeal : Cert.ReferenceMemFwdIdeal.Facts] : Prop :=
  ∀ (m : (ℓ : Loc Cert.ReferenceMemFwdIdeal.nD Cert.ReferenceMemFwdIdeal.τ Cert.ReferenceMemFwdIdeal.sig) → Buf (Elt Ideal) ℓ) (g : Dev Cert.ReferenceMemFwdIdeal.nD → PrngReg), Pre_ReferenceMemFwdIdeal m →
    θ_run (Cert.ReferenceMemFwdIdeal.defs (F := Ideal)) (onTc (τ := Cert.ReferenceMemFwdIdeal.τ) (Cert.ReferenceMemFwdIdeal.main (F := Ideal))) ⟨m, fun _ => 0, g⟩ (fun r => (∀ c : Dev Cert.ReferenceMemFwdIdeal.nD,
      r.2.mem ((c.tc : Thread Cert.ReferenceMemFwdIdeal.nD Cert.ReferenceMemFwdIdeal.τ).loc Cert.ReferenceMemFwdIdeal.main_arg0) = m ((c.tc : Thread Cert.ReferenceMemFwdIdeal.nD Cert.ReferenceMemFwdIdeal.τ).loc Cert.ReferenceMemFwdIdeal.main_arg0)
      ∧ r.2.mem ((c.tc : Thread Cert.ReferenceMemFwdIdeal.nD Cert.ReferenceMemFwdIdeal.τ).loc Cert.ReferenceMemFwdIdeal.main_arg1) = m ((c.tc : Thread Cert.ReferenceMemFwdIdeal.nD Cert.ReferenceMemFwdIdeal.τ).loc Cert.ReferenceMemFwdIdeal.main_arg1)
      ∧ r.2.mem ((c.tc : Thread Cert.ReferenceMemFwdIdeal.nD Cert.ReferenceMemFwdIdeal.τ).loc Cert.ReferenceMemFwdIdeal.main_arg2) = m ((c.tc : Thread Cert.ReferenceMemFwdIdeal.nD Cert.ReferenceMemFwdIdeal.τ).loc Cert.ReferenceMemFwdIdeal.main_arg2)
      ∧ r.2.mem ((c.tc : Thread Cert.ReferenceMemFwdIdeal.nD Cert.ReferenceMemFwdIdeal.τ).loc Cert.ReferenceMemFwdIdeal.main_arg3) = m ((c.tc : Thread Cert.ReferenceMemFwdIdeal.nD Cert.ReferenceMemFwdIdeal.τ).loc Cert.ReferenceMemFwdIdeal.main_arg3))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v142) = v3 c
          ∧ r.2.mem ((c.tc : Thread Cert.ReferenceIdeal.nD Cert.ReferenceIdeal.τ).loc Cert.ReferenceIdeal.main_v143) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelProjW_KernelProjWIdeal : Prop :=
  True

def algebraic_KernelProjWIdeal_ReferenceProjWIdeal [hKernelProjWIdeal : Cert.KernelProjWIdeal.Facts] [hReferenceProjWIdeal : Cert.ReferenceProjWIdeal.Facts] : Prop :=
  ∀ (m : (ℓ : Loc Cert.KernelProjWIdeal.nD Cert.KernelProjWIdeal.τ Cert.KernelProjWIdeal.sig) → Buf (Elt Ideal) ℓ) (g : Dev Cert.KernelProjWIdeal.nD → PrngReg)
    (m' : (ℓ : Loc Cert.ReferenceProjWIdeal.nD Cert.ReferenceProjWIdeal.τ Cert.ReferenceProjWIdeal.sig) → Buf (Elt Ideal) ℓ) (g' : Dev Cert.ReferenceProjWIdeal.nD → PrngReg), Pre_KernelProjWIdeal m →
    (∀ c : Dev Cert.KernelProjWIdeal.nD,
      m' ((c.tc : Thread Cert.ReferenceProjWIdeal.nD Cert.ReferenceProjWIdeal.τ).loc Cert.ReferenceProjWIdeal.main_arg0) = m ((c.tc : Thread Cert.KernelProjWIdeal.nD Cert.KernelProjWIdeal.τ).loc Cert.KernelProjWIdeal.main_arg0)
      ∧ m' ((c.tc : Thread Cert.ReferenceProjWIdeal.nD Cert.ReferenceProjWIdeal.τ).loc Cert.ReferenceProjWIdeal.main_arg1) = m ((c.tc : Thread Cert.KernelProjWIdeal.nD Cert.KernelProjWIdeal.τ).loc Cert.KernelProjWIdeal.main_arg1)
      ∧ m' ((c.tc : Thread Cert.ReferenceProjWIdeal.nD Cert.ReferenceProjWIdeal.τ).loc Cert.ReferenceProjWIdeal.main_arg2) = m ((c.tc : Thread Cert.KernelProjWIdeal.nD Cert.KernelProjWIdeal.τ).loc Cert.KernelProjWIdeal.main_arg2)
      ∧ m' ((c.tc : Thread Cert.ReferenceProjWIdeal.nD Cert.ReferenceProjWIdeal.τ).loc Cert.ReferenceProjWIdeal.main_arg3) = m ((c.tc : Thread Cert.KernelProjWIdeal.nD Cert.KernelProjWIdeal.τ).loc Cert.KernelProjWIdeal.main_arg3)) →
    ∃ (v0 : (c : Dev Cert.KernelProjWIdeal.nD) → Buf (Elt Ideal) ((c.tc : Thread Cert.KernelProjWIdeal.nD Cert.KernelProjWIdeal.τ).loc Cert.KernelProjWIdeal.main_v16)),
      θ_run (Cert.KernelProjWIdeal.defs (F := Ideal)) (onTc (τ := Cert.KernelProjWIdeal.τ) (Cert.KernelProjWIdeal.main (F := Ideal))) ⟨m, fun _ => 0, g⟩ (fun r => ∀ c : Dev Cert.KernelProjWIdeal.nD,
          r.2.mem ((c.tc : Thread Cert.KernelProjWIdeal.nD Cert.KernelProjWIdeal.τ).loc Cert.KernelProjWIdeal.main_v16) = v0 c
          ∧ r.2.mem ((c.tc : Thread Cert.KernelProjWIdeal.nD Cert.KernelProjWIdeal.τ).loc Cert.KernelProjWIdeal.main_arg0) = m ((c.tc : Thread Cert.KernelProjWIdeal.nD Cert.KernelProjWIdeal.τ).loc Cert.KernelProjWIdeal.main_arg0)
          ∧ r.2.mem ((c.tc : Thread Cert.KernelProjWIdeal.nD Cert.KernelProjWIdeal.τ).loc Cert.KernelProjWIdeal.main_arg1) = m ((c.tc : Thread Cert.KernelProjWIdeal.nD Cert.KernelProjWIdeal.τ).loc Cert.KernelProjWIdeal.main_arg1)
          ∧ r.2.mem ((c.tc : Thread Cert.KernelProjWIdeal.nD Cert.KernelProjWIdeal.τ).loc Cert.KernelProjWIdeal.main_arg2) = m ((c.tc : Thread Cert.KernelProjWIdeal.nD Cert.KernelProjWIdeal.τ).loc Cert.KernelProjWIdeal.main_arg2)
          ∧ r.2.mem ((c.tc : Thread Cert.KernelProjWIdeal.nD Cert.KernelProjWIdeal.τ).loc Cert.KernelProjWIdeal.main_arg3) = m ((c.tc : Thread Cert.KernelProjWIdeal.nD Cert.KernelProjWIdeal.τ).loc Cert.KernelProjWIdeal.main_arg3))
      ∧ θ_run (Cert.ReferenceProjWIdeal.defs (F := Ideal)) (onTc (τ := Cert.ReferenceProjWIdeal.τ) (Cert.ReferenceProjWIdeal.main (F := Ideal))) ⟨m', fun _ => 0, g'⟩ (fun r => ∀ c : Dev Cert.ReferenceProjWIdeal.nD,
          r.2.mem ((c.tc : Thread Cert.ReferenceProjWIdeal.nD Cert.ReferenceProjWIdeal.τ).loc Cert.ReferenceProjWIdeal.main_v20) = v0 c
          ∧ r.2.mem ((c.tc : Thread Cert.ReferenceProjWIdeal.nD Cert.ReferenceProjWIdeal.τ).loc Cert.ReferenceProjWIdeal.main_arg0) = m' ((c.tc : Thread Cert.ReferenceProjWIdeal.nD Cert.ReferenceProjWIdeal.τ).loc Cert.ReferenceProjWIdeal.main_arg0)
          ∧ r.2.mem ((c.tc : Thread Cert.ReferenceProjWIdeal.nD Cert.ReferenceProjWIdeal.τ).loc Cert.ReferenceProjWIdeal.main_arg1) = m' ((c.tc : Thread Cert.ReferenceProjWIdeal.nD Cert.ReferenceProjWIdeal.τ).loc Cert.ReferenceProjWIdeal.main_arg1)
          ∧ r.2.mem ((c.tc : Thread Cert.ReferenceProjWIdeal.nD Cert.ReferenceProjWIdeal.τ).loc Cert.ReferenceProjWIdeal.main_arg2) = m' ((c.tc : Thread Cert.ReferenceProjWIdeal.nD Cert.ReferenceProjWIdeal.τ).loc Cert.ReferenceProjWIdeal.main_arg2)
          ∧ r.2.mem ((c.tc : Thread Cert.ReferenceProjWIdeal.nD Cert.ReferenceProjWIdeal.τ).loc Cert.ReferenceProjWIdeal.main_arg3) = m' ((c.tc : Thread Cert.ReferenceProjWIdeal.nD Cert.ReferenceProjWIdeal.τ).loc Cert.ReferenceProjWIdeal.main_arg3))

def preserves_KernelProjBottom_KernelProjBottomIdeal : Prop :=
  True

def algebraic_KernelProjBottomIdeal_ReferenceProjBottomIdeal [hKernelProjBottomIdeal : Cert.KernelProjBottomIdeal.Facts] [hReferenceProjBottomIdeal : Cert.ReferenceProjBottomIdeal.Facts] : Prop :=
  ∀ (m : (ℓ : Loc Cert.KernelProjBottomIdeal.nD Cert.KernelProjBottomIdeal.τ Cert.KernelProjBottomIdeal.sig) → Buf (Elt Ideal) ℓ) (g : Dev Cert.KernelProjBottomIdeal.nD → PrngReg)
    (m' : (ℓ : Loc Cert.ReferenceProjBottomIdeal.nD Cert.ReferenceProjBottomIdeal.τ Cert.ReferenceProjBottomIdeal.sig) → Buf (Elt Ideal) ℓ) (g' : Dev Cert.ReferenceProjBottomIdeal.nD → PrngReg), Pre_KernelProjBottomIdeal m →
    (∀ c : Dev Cert.KernelProjBottomIdeal.nD,
      m' ((c.tc : Thread Cert.ReferenceProjBottomIdeal.nD Cert.ReferenceProjBottomIdeal.τ).loc Cert.ReferenceProjBottomIdeal.main_arg0) = m ((c.tc : Thread Cert.KernelProjBottomIdeal.nD Cert.KernelProjBottomIdeal.τ).loc Cert.KernelProjBottomIdeal.main_arg0)
      ∧ m' ((c.tc : Thread Cert.ReferenceProjBottomIdeal.nD Cert.ReferenceProjBottomIdeal.τ).loc Cert.ReferenceProjBottomIdeal.main_arg1) = m ((c.tc : Thread Cert.KernelProjBottomIdeal.nD Cert.KernelProjBottomIdeal.τ).loc Cert.KernelProjBottomIdeal.main_arg1)
      ∧ m' ((c.tc : Thread Cert.ReferenceProjBottomIdeal.nD Cert.ReferenceProjBottomIdeal.τ).loc Cert.ReferenceProjBottomIdeal.main_arg2) = m ((c.tc : Thread Cert.KernelProjBottomIdeal.nD Cert.KernelProjBottomIdeal.τ).loc Cert.KernelProjBottomIdeal.main_arg2)
      ∧ m' ((c.tc : Thread Cert.ReferenceProjBottomIdeal.nD Cert.ReferenceProjBottomIdeal.τ).loc Cert.ReferenceProjBottomIdeal.main_arg3) = m ((c.tc : Thread Cert.KernelProjBottomIdeal.nD Cert.KernelProjBottomIdeal.τ).loc Cert.KernelProjBottomIdeal.main_arg3)
      ∧ m' ((c.tc : Thread Cert.ReferenceProjBottomIdeal.nD Cert.ReferenceProjBottomIdeal.τ).loc Cert.ReferenceProjBottomIdeal.main_arg4) = m ((c.tc : Thread Cert.KernelProjBottomIdeal.nD Cert.KernelProjBottomIdeal.τ).loc Cert.KernelProjBottomIdeal.main_arg4)
      ∧ m' ((c.tc : Thread Cert.ReferenceProjBottomIdeal.nD Cert.ReferenceProjBottomIdeal.τ).loc Cert.ReferenceProjBottomIdeal.main_arg5) = m ((c.tc : Thread Cert.KernelProjBottomIdeal.nD Cert.KernelProjBottomIdeal.τ).loc Cert.KernelProjBottomIdeal.main_arg5)) →
    ∃ (v0 : (c : Dev Cert.KernelProjBottomIdeal.nD) → Buf (Elt Ideal) ((c.tc : Thread Cert.KernelProjBottomIdeal.nD Cert.KernelProjBottomIdeal.τ).loc Cert.KernelProjBottomIdeal.main_v3_0)) (v1 : (c : Dev Cert.KernelProjBottomIdeal.nD) → Buf (Elt Ideal) ((c.tc : Thread Cert.KernelProjBottomIdeal.nD Cert.KernelProjBottomIdeal.τ).loc Cert.KernelProjBottomIdeal.main_v3_1)),
      θ_run (Cert.KernelProjBottomIdeal.defs (F := Ideal)) (onTc (τ := Cert.KernelProjBottomIdeal.τ) (Cert.KernelProjBottomIdeal.main (F := Ideal))) ⟨m, fun _ => 0, g⟩ (fun r => ∀ c : Dev Cert.KernelProjBottomIdeal.nD,
          r.2.mem ((c.tc : Thread Cert.KernelProjBottomIdeal.nD Cert.KernelProjBottomIdeal.τ).loc Cert.KernelProjBottomIdeal.main_v3_0) = v0 c
          ∧ r.2.mem ((c.tc : Thread Cert.KernelProjBottomIdeal.nD Cert.KernelProjBottomIdeal.τ).loc Cert.KernelProjBottomIdeal.main_v3_1) = v1 c
          ∧ r.2.mem ((c.tc : Thread Cert.KernelProjBottomIdeal.nD Cert.KernelProjBottomIdeal.τ).loc Cert.KernelProjBottomIdeal.main_arg0) = m ((c.tc : Thread Cert.KernelProjBottomIdeal.nD Cert.KernelProjBottomIdeal.τ).loc Cert.KernelProjBottomIdeal.main_arg0)
          ∧ r.2.mem ((c.tc : Thread Cert.KernelProjBottomIdeal.nD Cert.KernelProjBottomIdeal.τ).loc Cert.KernelProjBottomIdeal.main_arg1) = m ((c.tc : Thread Cert.KernelProjBottomIdeal.nD Cert.KernelProjBottomIdeal.τ).loc Cert.KernelProjBottomIdeal.main_arg1)
          ∧ r.2.mem ((c.tc : Thread Cert.KernelProjBottomIdeal.nD Cert.KernelProjBottomIdeal.τ).loc Cert.KernelProjBottomIdeal.main_arg2) = m ((c.tc : Thread Cert.KernelProjBottomIdeal.nD Cert.KernelProjBottomIdeal.τ).loc Cert.KernelProjBottomIdeal.main_arg2)
          ∧ r.2.mem ((c.tc : Thread Cert.KernelProjBottomIdeal.nD Cert.KernelProjBottomIdeal.τ).loc Cert.KernelProjBottomIdeal.main_arg3) = m ((c.tc : Thread Cert.KernelProjBottomIdeal.nD Cert.KernelProjBottomIdeal.τ).loc Cert.KernelProjBottomIdeal.main_arg3)
          ∧ r.2.mem ((c.tc : Thread Cert.KernelProjBottomIdeal.nD Cert.KernelProjBottomIdeal.τ).loc Cert.KernelProjBottomIdeal.main_arg4) = m ((c.tc : Thread Cert.KernelProjBottomIdeal.nD Cert.KernelProjBottomIdeal.τ).loc Cert.KernelProjBottomIdeal.main_arg4)
          ∧ r.2.mem ((c.tc : Thread Cert.KernelProjBottomIdeal.nD Cert.KernelProjBottomIdeal.τ).loc Cert.KernelProjBottomIdeal.main_arg5) = m ((c.tc : Thread Cert.KernelProjBottomIdeal.nD Cert.KernelProjBottomIdeal.τ).loc Cert.KernelProjBottomIdeal.main_arg5))
      ∧ θ_run (Cert.ReferenceProjBottomIdeal.defs (F := Ideal)) (onTc (τ := Cert.ReferenceProjBottomIdeal.τ) (Cert.ReferenceProjBottomIdeal.main (F := Ideal))) ⟨m', fun _ => 0, g'⟩ (fun r => ∀ c : Dev Cert.ReferenceProjBottomIdeal.nD,
          r.2.mem ((c.tc : Thread Cert.ReferenceProjBottomIdeal.nD Cert.ReferenceProjBottomIdeal.τ).loc Cert.ReferenceProjBottomIdeal.main_v46) = v0 c
          ∧ r.2.mem ((c.tc : Thread Cert.ReferenceProjBottomIdeal.nD Cert.ReferenceProjBottomIdeal.τ).loc Cert.ReferenceProjBottomIdeal.main_v47) = v1 c
          ∧ r.2.mem ((c.tc : Thread Cert.ReferenceProjBottomIdeal.nD Cert.ReferenceProjBottomIdeal.τ).loc Cert.ReferenceProjBottomIdeal.main_arg0) = m' ((c.tc : Thread Cert.ReferenceProjBottomIdeal.nD Cert.ReferenceProjBottomIdeal.τ).loc Cert.ReferenceProjBottomIdeal.main_arg0)
          ∧ r.2.mem ((c.tc : Thread Cert.ReferenceProjBottomIdeal.nD Cert.ReferenceProjBottomIdeal.τ).loc Cert.ReferenceProjBottomIdeal.main_arg1) = m' ((c.tc : Thread Cert.ReferenceProjBottomIdeal.nD Cert.ReferenceProjBottomIdeal.τ).loc Cert.ReferenceProjBottomIdeal.main_arg1)
          ∧ r.2.mem ((c.tc : Thread Cert.ReferenceProjBottomIdeal.nD Cert.ReferenceProjBottomIdeal.τ).loc Cert.ReferenceProjBottomIdeal.main_arg2) = m' ((c.tc : Thread Cert.ReferenceProjBottomIdeal.nD Cert.ReferenceProjBottomIdeal.τ).loc Cert.ReferenceProjBottomIdeal.main_arg2)
          ∧ r.2.mem ((c.tc : Thread Cert.ReferenceProjBottomIdeal.nD Cert.ReferenceProjBottomIdeal.τ).loc Cert.ReferenceProjBottomIdeal.main_arg3) = m' ((c.tc : Thread Cert.ReferenceProjBottomIdeal.nD Cert.ReferenceProjBottomIdeal.τ).loc Cert.ReferenceProjBottomIdeal.main_arg3)
          ∧ r.2.mem ((c.tc : Thread Cert.ReferenceProjBottomIdeal.nD Cert.ReferenceProjBottomIdeal.τ).loc Cert.ReferenceProjBottomIdeal.main_arg4) = m' ((c.tc : Thread Cert.ReferenceProjBottomIdeal.nD Cert.ReferenceProjBottomIdeal.τ).loc Cert.ReferenceProjBottomIdeal.main_arg4)
          ∧ r.2.mem ((c.tc : Thread Cert.ReferenceProjBottomIdeal.nD Cert.ReferenceProjBottomIdeal.τ).loc Cert.ReferenceProjBottomIdeal.main_arg5) = m' ((c.tc : Thread Cert.ReferenceProjBottomIdeal.nD Cert.ReferenceProjBottomIdeal.τ).loc Cert.ReferenceProjBottomIdeal.main_arg5))

def preserves_KernelProjTop_KernelProjTopIdeal : Prop :=
  True

def algebraic_KernelProjTopIdeal_ReferenceProjTopIdeal_on_top_rows [hKernelProjTopIdeal : Cert.KernelProjTopIdeal.Facts] [hReferenceProjTopIdeal : Cert.ReferenceProjTopIdeal.Facts] [hOn_top_rows : Cert.On_top_rows.Facts] : Prop :=
  ∀ (m : (ℓ : Loc Cert.KernelProjTopIdeal.nD Cert.KernelProjTopIdeal.τ Cert.KernelProjTopIdeal.sig) → Buf (Elt Ideal) ℓ) (g : Dev Cert.KernelProjTopIdeal.nD → PrngReg)
    (m' : (ℓ : Loc Cert.ReferenceProjTopIdeal.nD Cert.ReferenceProjTopIdeal.τ Cert.ReferenceProjTopIdeal.sig) → Buf (Elt Ideal) ℓ) (g' : Dev Cert.ReferenceProjTopIdeal.nD → PrngReg), Pre_KernelProjTopIdeal m →
    (∀ c : Dev Cert.KernelProjTopIdeal.nD,
      m' ((c.tc : Thread Cert.ReferenceProjTopIdeal.nD Cert.ReferenceProjTopIdeal.τ).loc Cert.ReferenceProjTopIdeal.main_arg0) = m ((c.tc : Thread Cert.KernelProjTopIdeal.nD Cert.KernelProjTopIdeal.τ).loc Cert.KernelProjTopIdeal.main_arg0)
      ∧ m' ((c.tc : Thread Cert.ReferenceProjTopIdeal.nD Cert.ReferenceProjTopIdeal.τ).loc Cert.ReferenceProjTopIdeal.main_arg1) = m ((c.tc : Thread Cert.KernelProjTopIdeal.nD Cert.KernelProjTopIdeal.τ).loc Cert.KernelProjTopIdeal.main_arg1)
      ∧ m' ((c.tc : Thread Cert.ReferenceProjTopIdeal.nD Cert.ReferenceProjTopIdeal.τ).loc Cert.ReferenceProjTopIdeal.main_arg2) = m ((c.tc : Thread Cert.KernelProjTopIdeal.nD Cert.KernelProjTopIdeal.τ).loc Cert.KernelProjTopIdeal.main_arg2)
      ∧ m' ((c.tc : Thread Cert.ReferenceProjTopIdeal.nD Cert.ReferenceProjTopIdeal.τ).loc Cert.ReferenceProjTopIdeal.main_arg3) = m ((c.tc : Thread Cert.KernelProjTopIdeal.nD Cert.KernelProjTopIdeal.τ).loc Cert.KernelProjTopIdeal.main_arg3)
      ∧ m' ((c.tc : Thread Cert.ReferenceProjTopIdeal.nD Cert.ReferenceProjTopIdeal.τ).loc Cert.ReferenceProjTopIdeal.main_arg4) = m ((c.tc : Thread Cert.KernelProjTopIdeal.nD Cert.KernelProjTopIdeal.τ).loc Cert.KernelProjTopIdeal.main_arg4)) →
    ∃ (v0 : (c : Dev Cert.KernelProjTopIdeal.nD) → Buf (Elt Ideal) ((c.tc : Thread Cert.KernelProjTopIdeal.nD Cert.KernelProjTopIdeal.τ).loc Cert.KernelProjTopIdeal.main_v3_0)) (v1 : (c : Dev Cert.KernelProjTopIdeal.nD) → Buf (Elt Ideal) ((c.tc : Thread Cert.KernelProjTopIdeal.nD Cert.KernelProjTopIdeal.τ).loc Cert.KernelProjTopIdeal.main_v3_1)),
      θ_run (Cert.KernelProjTopIdeal.defs (F := Ideal)) (onTc (τ := Cert.KernelProjTopIdeal.τ) (Cert.KernelProjTopIdeal.main (F := Ideal))) ⟨m, fun _ => 0, g⟩ (fun r => ∀ c : Dev Cert.KernelProjTopIdeal.nD,
          (∀ i : (⟨2, ![4096, 1024]⟩ : Shape).Idx, (Cert.On_top_rows.fn (F := Ideal) (m ((c.tc : Thread Cert.KernelProjTopIdeal.nD Cert.KernelProjTopIdeal.τ).loc Cert.KernelProjTopIdeal.main_arg0)) (m ((c.tc : Thread Cert.KernelProjTopIdeal.nD Cert.KernelProjTopIdeal.τ).loc Cert.KernelProjTopIdeal.main_arg1)) (m ((c.tc : Thread Cert.KernelProjTopIdeal.nD Cert.KernelProjTopIdeal.τ).loc Cert.KernelProjTopIdeal.main_arg2)) (m ((c.tc : Thread Cert.KernelProjTopIdeal.nD Cert.KernelProjTopIdeal.τ).loc Cert.KernelProjTopIdeal.main_arg3)) (m ((c.tc : Thread Cert.KernelProjTopIdeal.nD Cert.KernelProjTopIdeal.τ).loc Cert.KernelProjTopIdeal.main_arg4))).1 i = 1#1 → r.2.mem ((c.tc : Thread Cert.KernelProjTopIdeal.nD Cert.KernelProjTopIdeal.τ).loc Cert.KernelProjTopIdeal.main_v3_0) i = v0 c i)
          ∧ (∀ i : (⟨2, ![1, 1024]⟩ : Shape).Idx, (Cert.On_top_rows.fn (F := Ideal) (m ((c.tc : Thread Cert.KernelProjTopIdeal.nD Cert.KernelProjTopIdeal.τ).loc Cert.KernelProjTopIdeal.main_arg0)) (m ((c.tc : Thread Cert.KernelProjTopIdeal.nD Cert.KernelProjTopIdeal.τ).loc Cert.KernelProjTopIdeal.main_arg1)) (m ((c.tc : Thread Cert.KernelProjTopIdeal.nD Cert.KernelProjTopIdeal.τ).loc Cert.KernelProjTopIdeal.main_arg2)) (m ((c.tc : Thread Cert.KernelProjTopIdeal.nD Cert.KernelProjTopIdeal.τ).loc Cert.KernelProjTopIdeal.main_arg3)) (m ((c.tc : Thread Cert.KernelProjTopIdeal.nD Cert.KernelProjTopIdeal.τ).loc Cert.KernelProjTopIdeal.main_arg4))).2 i = 1#1 → r.2.mem ((c.tc : Thread Cert.KernelProjTopIdeal.nD Cert.KernelProjTopIdeal.τ).loc Cert.KernelProjTopIdeal.main_v3_1) i = v1 c i)
          ∧ r.2.mem ((c.tc : Thread Cert.KernelProjTopIdeal.nD Cert.KernelProjTopIdeal.τ).loc Cert.KernelProjTopIdeal.main_arg0) = m ((c.tc : Thread Cert.KernelProjTopIdeal.nD Cert.KernelProjTopIdeal.τ).loc Cert.KernelProjTopIdeal.main_arg0)
          ∧ r.2.mem ((c.tc : Thread Cert.KernelProjTopIdeal.nD Cert.KernelProjTopIdeal.τ).loc Cert.KernelProjTopIdeal.main_arg1) = m ((c.tc : Thread Cert.KernelProjTopIdeal.nD Cert.KernelProjTopIdeal.τ).loc Cert.KernelProjTopIdeal.main_arg1)
          ∧ r.2.mem ((c.tc : Thread Cert.KernelProjTopIdeal.nD Cert.KernelProjTopIdeal.τ).loc Cert.KernelProjTopIdeal.main_arg2) = m ((c.tc : Thread Cert.KernelProjTopIdeal.nD Cert.KernelProjTopIdeal.τ).loc Cert.KernelProjTopIdeal.main_arg2)
          ∧ r.2.mem ((c.tc : Thread Cert.KernelProjTopIdeal.nD Cert.KernelProjTopIdeal.τ).loc Cert.KernelProjTopIdeal.main_arg3) = m ((c.tc : Thread Cert.KernelProjTopIdeal.nD Cert.KernelProjTopIdeal.τ).loc Cert.KernelProjTopIdeal.main_arg3)
          ∧ r.2.mem ((c.tc : Thread Cert.KernelProjTopIdeal.nD Cert.KernelProjTopIdeal.τ).loc Cert.KernelProjTopIdeal.main_arg4) = m ((c.tc : Thread Cert.KernelProjTopIdeal.nD Cert.KernelProjTopIdeal.τ).loc Cert.KernelProjTopIdeal.main_arg4))
      ∧ θ_run (Cert.ReferenceProjTopIdeal.defs (F := Ideal)) (onTc (τ := Cert.ReferenceProjTopIdeal.τ) (Cert.ReferenceProjTopIdeal.main (F := Ideal))) ⟨m', fun _ => 0, g'⟩ (fun r => ∀ c : Dev Cert.ReferenceProjTopIdeal.nD,
          (∀ i : (⟨2, ![4096, 1024]⟩ : Shape).Idx, (Cert.On_top_rows.fn (F := Ideal) (m ((c.tc : Thread Cert.KernelProjTopIdeal.nD Cert.KernelProjTopIdeal.τ).loc Cert.KernelProjTopIdeal.main_arg0)) (m ((c.tc : Thread Cert.KernelProjTopIdeal.nD Cert.KernelProjTopIdeal.τ).loc Cert.KernelProjTopIdeal.main_arg1)) (m ((c.tc : Thread Cert.KernelProjTopIdeal.nD Cert.KernelProjTopIdeal.τ).loc Cert.KernelProjTopIdeal.main_arg2)) (m ((c.tc : Thread Cert.KernelProjTopIdeal.nD Cert.KernelProjTopIdeal.τ).loc Cert.KernelProjTopIdeal.main_arg3)) (m ((c.tc : Thread Cert.KernelProjTopIdeal.nD Cert.KernelProjTopIdeal.τ).loc Cert.KernelProjTopIdeal.main_arg4))).1 i = 1#1 → r.2.mem ((c.tc : Thread Cert.ReferenceProjTopIdeal.nD Cert.ReferenceProjTopIdeal.τ).loc Cert.ReferenceProjTopIdeal.main_v47) i = v0 c i)
          ∧ (∀ i : (⟨2, ![1, 1024]⟩ : Shape).Idx, (Cert.On_top_rows.fn (F := Ideal) (m ((c.tc : Thread Cert.KernelProjTopIdeal.nD Cert.KernelProjTopIdeal.τ).loc Cert.KernelProjTopIdeal.main_arg0)) (m ((c.tc : Thread Cert.KernelProjTopIdeal.nD Cert.KernelProjTopIdeal.τ).loc Cert.KernelProjTopIdeal.main_arg1)) (m ((c.tc : Thread Cert.KernelProjTopIdeal.nD Cert.KernelProjTopIdeal.τ).loc Cert.KernelProjTopIdeal.main_arg2)) (m ((c.tc : Thread Cert.KernelProjTopIdeal.nD Cert.KernelProjTopIdeal.τ).loc Cert.KernelProjTopIdeal.main_arg3)) (m ((c.tc : Thread Cert.KernelProjTopIdeal.nD Cert.KernelProjTopIdeal.τ).loc Cert.KernelProjTopIdeal.main_arg4))).2 i = 1#1 → r.2.mem ((c.tc : Thread Cert.ReferenceProjTopIdeal.nD Cert.ReferenceProjTopIdeal.τ).loc Cert.ReferenceProjTopIdeal.main_v48) i = v1 c i)
          ∧ r.2.mem ((c.tc : Thread Cert.ReferenceProjTopIdeal.nD Cert.ReferenceProjTopIdeal.τ).loc Cert.ReferenceProjTopIdeal.main_arg0) = m' ((c.tc : Thread Cert.ReferenceProjTopIdeal.nD Cert.ReferenceProjTopIdeal.τ).loc Cert.ReferenceProjTopIdeal.main_arg0)
          ∧ r.2.mem ((c.tc : Thread Cert.ReferenceProjTopIdeal.nD Cert.ReferenceProjTopIdeal.τ).loc Cert.ReferenceProjTopIdeal.main_arg1) = m' ((c.tc : Thread Cert.ReferenceProjTopIdeal.nD Cert.ReferenceProjTopIdeal.τ).loc Cert.ReferenceProjTopIdeal.main_arg1)
          ∧ r.2.mem ((c.tc : Thread Cert.ReferenceProjTopIdeal.nD Cert.ReferenceProjTopIdeal.τ).loc Cert.ReferenceProjTopIdeal.main_arg2) = m' ((c.tc : Thread Cert.ReferenceProjTopIdeal.nD Cert.ReferenceProjTopIdeal.τ).loc Cert.ReferenceProjTopIdeal.main_arg2)
          ∧ r.2.mem ((c.tc : Thread Cert.ReferenceProjTopIdeal.nD Cert.ReferenceProjTopIdeal.τ).loc Cert.ReferenceProjTopIdeal.main_arg3) = m' ((c.tc : Thread Cert.ReferenceProjTopIdeal.nD Cert.ReferenceProjTopIdeal.τ).loc Cert.ReferenceProjTopIdeal.main_arg3)
          ∧ r.2.mem ((c.tc : Thread Cert.ReferenceProjTopIdeal.nD Cert.ReferenceProjTopIdeal.τ).loc Cert.ReferenceProjTopIdeal.main_arg4) = m' ((c.tc : Thread Cert.ReferenceProjTopIdeal.nD Cert.ReferenceProjTopIdeal.τ).loc Cert.ReferenceProjTopIdeal.main_arg4))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v18)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v18) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v14) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def preserves_KernelFfnInAct_KernelFfnInActIdeal : Prop :=
  True

def algebraic_KernelFfnInActIdeal_ReferenceFfnInActIdeal [hKernelFfnInActIdeal : Cert.KernelFfnInActIdeal.Facts] [hReferenceFfnInActIdeal : Cert.ReferenceFfnInActIdeal.Facts] : Prop :=
  ∀ (m : (ℓ : Loc Cert.KernelFfnInActIdeal.nD Cert.KernelFfnInActIdeal.τ Cert.KernelFfnInActIdeal.sig) → Buf (Elt Ideal) ℓ) (g : Dev Cert.KernelFfnInActIdeal.nD → PrngReg)
    (m' : (ℓ : Loc Cert.ReferenceFfnInActIdeal.nD Cert.ReferenceFfnInActIdeal.τ Cert.ReferenceFfnInActIdeal.sig) → Buf (Elt Ideal) ℓ) (g' : Dev Cert.ReferenceFfnInActIdeal.nD → PrngReg), Pre_KernelFfnInActIdeal m →
    (∀ c : Dev Cert.KernelFfnInActIdeal.nD,
      m' ((c.tc : Thread Cert.ReferenceFfnInActIdeal.nD Cert.ReferenceFfnInActIdeal.τ).loc Cert.ReferenceFfnInActIdeal.main_arg0) = m ((c.tc : Thread Cert.KernelFfnInActIdeal.nD Cert.KernelFfnInActIdeal.τ).loc Cert.KernelFfnInActIdeal.main_arg0)
      ∧ m' ((c.tc : Thread Cert.ReferenceFfnInActIdeal.nD Cert.ReferenceFfnInActIdeal.τ).loc Cert.ReferenceFfnInActIdeal.main_arg1) = m ((c.tc : Thread Cert.KernelFfnInActIdeal.nD Cert.KernelFfnInActIdeal.τ).loc Cert.KernelFfnInActIdeal.main_arg1)
      ∧ m' ((c.tc : Thread Cert.ReferenceFfnInActIdeal.nD Cert.ReferenceFfnInActIdeal.τ).loc Cert.ReferenceFfnInActIdeal.main_arg2) = m ((c.tc : Thread Cert.KernelFfnInActIdeal.nD Cert.KernelFfnInActIdeal.τ).loc Cert.KernelFfnInActIdeal.main_arg2)
      ∧ m' ((c.tc : Thread Cert.ReferenceFfnInActIdeal.nD Cert.ReferenceFfnInActIdeal.τ).loc Cert.ReferenceFfnInActIdeal.main_arg3) = m ((c.tc : Thread Cert.KernelFfnInActIdeal.nD Cert.KernelFfnInActIdeal.τ).loc Cert.KernelFfnInActIdeal.main_arg3)
      ∧ m' ((c.tc : Thread Cert.ReferenceFfnInActIdeal.nD Cert.ReferenceFfnInActIdeal.τ).loc Cert.ReferenceFfnInActIdeal.main_arg4) = m ((c.tc : Thread Cert.KernelFfnInActIdeal.nD Cert.KernelFfnInActIdeal.τ).loc Cert.KernelFfnInActIdeal.main_arg4)) →
    ∃ (v0 : (c : Dev Cert.KernelFfnInActIdeal.nD) → Buf (Elt Ideal) ((c.tc : Thread Cert.KernelFfnInActIdeal.nD Cert.KernelFfnInActIdeal.τ).loc Cert.KernelFfnInActIdeal.main_v1_0)) (v1 : (c : Dev Cert.KernelFfnInActIdeal.nD) → Buf (Elt Ideal) ((c.tc : Thread Cert.KernelFfnInActIdeal.nD Cert.KernelFfnInActIdeal.τ).loc Cert.KernelFfnInActIdeal.main_v1_1)) (v2 : (c : Dev Cert.KernelFfnInActIdeal.nD) → Buf (Elt Ideal) ((c.tc : Thread Cert.KernelFfnInActIdeal.nD Cert.KernelFfnInActIdeal.τ).loc Cert.KernelFfnInActIdeal.main_v1_2)),
      θ_run (Cert.KernelFfnInActIdeal.defs (F := Ideal)) (onTc (τ := Cert.KernelFfnInActIdeal.τ) (Cert.KernelFfnInActIdeal.main (F := Ideal))) ⟨m, fun _ => 0, g⟩ (fun r => ∀ c : Dev Cert.KernelFfnInActIdeal.nD,
          r.2.mem ((c.tc : Thread Cert.KernelFfnInActIdeal.nD Cert.KernelFfnInActIdeal.τ).loc Cert.KernelFfnInActIdeal.main_v1_0) = v0 c
          ∧ r.2.mem ((c.tc : Thread Cert.KernelFfnInActIdeal.nD Cert.KernelFfnInActIdeal.τ).loc Cert.KernelFfnInActIdeal.main_v1_1) = v1 c
          ∧ r.2.mem ((c.tc : Thread Cert.KernelFfnInActIdeal.nD Cert.KernelFfnInActIdeal.τ).loc Cert.KernelFfnInActIdeal.main_v1_2) = v2 c
          ∧ r.2.mem ((c.tc : Thread Cert.KernelFfnInActIdeal.nD Cert.KernelFfnInActIdeal.τ).loc Cert.KernelFfnInActIdeal.main_arg0) = m ((c.tc : Thread Cert.KernelFfnInActIdeal.nD Cert.KernelFfnInActIdeal.τ).loc Cert.KernelFfnInActIdeal.main_arg0)
          ∧ r.2.mem ((c.tc : Thread Cert.KernelFfnInActIdeal.nD Cert.KernelFfnInActIdeal.τ).loc Cert.KernelFfnInActIdeal.main_arg1) = m ((c.tc : Thread Cert.KernelFfnInActIdeal.nD Cert.KernelFfnInActIdeal.τ).loc Cert.KernelFfnInActIdeal.main_arg1)
          ∧ r.2.mem ((c.tc : Thread Cert.KernelFfnInActIdeal.nD Cert.KernelFfnInActIdeal.τ).loc Cert.KernelFfnInActIdeal.main_arg2) = m ((c.tc : Thread Cert.KernelFfnInActIdeal.nD Cert.KernelFfnInActIdeal.τ).loc Cert.KernelFfnInActIdeal.main_arg2)
          ∧ r.2.mem ((c.tc : Thread Cert.KernelFfnInActIdeal.nD Cert.KernelFfnInActIdeal.τ).loc Cert.KernelFfnInActIdeal.main_arg3) = m ((c.tc : Thread Cert.KernelFfnInActIdeal.nD Cert.KernelFfnInActIdeal.τ).loc Cert.KernelFfnInActIdeal.main_arg3)
          ∧ r.2.mem ((c.tc : Thread Cert.KernelFfnInActIdeal.nD Cert.KernelFfnInActIdeal.τ).loc Cert.KernelFfnInActIdeal.main_arg4) = m ((c.tc : Thread Cert.KernelFfnInActIdeal.nD Cert.KernelFfnInActIdeal.τ).loc Cert.KernelFfnInActIdeal.main_arg4))
      ∧ θ_run (Cert.ReferenceFfnInActIdeal.defs (F := Ideal)) (onTc (τ := Cert.ReferenceFfnInActIdeal.τ) (Cert.ReferenceFfnInActIdeal.main (F := Ideal))) ⟨m', fun _ => 0, g'⟩ (fun r => ∀ c : Dev Cert.ReferenceFfnInActIdeal.nD,
          r.2.mem ((c.tc : Thread Cert.ReferenceFfnInActIdeal.nD Cert.ReferenceFfnInActIdeal.τ).loc Cert.ReferenceFfnInActIdeal.main_v50) = v0 c
          ∧ r.2.mem ((c.tc : Thread Cert.ReferenceFfnInActIdeal.nD Cert.ReferenceFfnInActIdeal.τ).loc Cert.ReferenceFfnInActIdeal.main_v52) = v1 c
          ∧ r.2.mem ((c.tc : Thread Cert.ReferenceFfnInActIdeal.nD Cert.ReferenceFfnInActIdeal.τ).loc Cert.ReferenceFfnInActIdeal.main_v53) = v2 c
          ∧ r.2.mem ((c.tc : Thread Cert.ReferenceFfnInActIdeal.nD Cert.ReferenceFfnInActIdeal.τ).loc Cert.ReferenceFfnInActIdeal.main_arg0) = m' ((c.tc : Thread Cert.ReferenceFfnInActIdeal.nD Cert.ReferenceFfnInActIdeal.τ).loc Cert.ReferenceFfnInActIdeal.main_arg0)
          ∧ r.2.mem ((c.tc : Thread Cert.ReferenceFfnInActIdeal.nD Cert.ReferenceFfnInActIdeal.τ).loc Cert.ReferenceFfnInActIdeal.main_arg1) = m' ((c.tc : Thread Cert.ReferenceFfnInActIdeal.nD Cert.ReferenceFfnInActIdeal.τ).loc Cert.ReferenceFfnInActIdeal.main_arg1)
          ∧ r.2.mem ((c.tc : Thread Cert.ReferenceFfnInActIdeal.nD Cert.ReferenceFfnInActIdeal.τ).loc Cert.ReferenceFfnInActIdeal.main_arg2) = m' ((c.tc : Thread Cert.ReferenceFfnInActIdeal.nD Cert.ReferenceFfnInActIdeal.τ).loc Cert.ReferenceFfnInActIdeal.main_arg2)
          ∧ r.2.mem ((c.tc : Thread Cert.ReferenceFfnInActIdeal.nD Cert.ReferenceFfnInActIdeal.τ).loc Cert.ReferenceFfnInActIdeal.main_arg3) = m' ((c.tc : Thread Cert.ReferenceFfnInActIdeal.nD Cert.ReferenceFfnInActIdeal.τ).loc Cert.ReferenceFfnInActIdeal.main_arg3)
          ∧ r.2.mem ((c.tc : Thread Cert.ReferenceFfnInActIdeal.nD Cert.ReferenceFfnInActIdeal.τ).loc Cert.ReferenceFfnInActIdeal.main_arg4) = m' ((c.tc : Thread Cert.ReferenceFfnInActIdeal.nD Cert.ReferenceFfnInActIdeal.τ).loc Cert.ReferenceFfnInActIdeal.main_arg4))

def preserves_KernelFfnInW_KernelFfnInWIdeal : Prop :=
  True

def algebraic_KernelFfnInWIdeal_ReferenceFfnInWIdeal [hKernelFfnInWIdeal : Cert.KernelFfnInWIdeal.Facts] [hReferenceFfnInWIdeal : Cert.ReferenceFfnInWIdeal.Facts] : Prop :=
  ∀ (m : (ℓ : Loc Cert.KernelFfnInWIdeal.nD Cert.KernelFfnInWIdeal.τ Cert.KernelFfnInWIdeal.sig) → Buf (Elt Ideal) ℓ) (g : Dev Cert.KernelFfnInWIdeal.nD → PrngReg)
    (m' : (ℓ : Loc Cert.ReferenceFfnInWIdeal.nD Cert.ReferenceFfnInWIdeal.τ Cert.ReferenceFfnInWIdeal.sig) → Buf (Elt Ideal) ℓ) (g' : Dev Cert.ReferenceFfnInWIdeal.nD → PrngReg), Pre_KernelFfnInWIdeal m →
    (∀ c : Dev Cert.KernelFfnInWIdeal.nD,
      m' ((c.tc : Thread Cert.ReferenceFfnInWIdeal.nD Cert.ReferenceFfnInWIdeal.τ).loc Cert.ReferenceFfnInWIdeal.main_arg0) = m ((c.tc : Thread Cert.KernelFfnInWIdeal.nD Cert.KernelFfnInWIdeal.τ).loc Cert.KernelFfnInWIdeal.main_arg0)
      ∧ m' ((c.tc : Thread Cert.ReferenceFfnInWIdeal.nD Cert.ReferenceFfnInWIdeal.τ).loc Cert.ReferenceFfnInWIdeal.main_arg1) = m ((c.tc : Thread Cert.KernelFfnInWIdeal.nD Cert.KernelFfnInWIdeal.τ).loc Cert.KernelFfnInWIdeal.main_arg1)
      ∧ m' ((c.tc : Thread Cert.ReferenceFfnInWIdeal.nD Cert.ReferenceFfnInWIdeal.τ).loc Cert.ReferenceFfnInWIdeal.main_arg2) = m ((c.tc : Thread Cert.KernelFfnInWIdeal.nD Cert.KernelFfnInWIdeal.τ).loc Cert.KernelFfnInWIdeal.main_arg2)
      ∧ m' ((c.tc : Thread Cert.ReferenceFfnInWIdeal.nD Cert.ReferenceFfnInWIdeal.τ).loc Cert.ReferenceFfnInWIdeal.main_arg3) = m ((c.tc : Thread Cert.KernelFfnInWIdeal.nD Cert.KernelFfnInWIdeal.τ).loc Cert.KernelFfnInWIdeal.main_arg3)) →
    ∃ (v0 : (c : Dev Cert.KernelFfnInWIdeal.nD) → Buf (Elt Ideal) ((c.tc : Thread Cert.KernelFfnInWIdeal.nD Cert.KernelFfnInWIdeal.τ).loc Cert.KernelFfnInWIdeal.main_v16)),
      θ_run (Cert.KernelFfnInWIdeal.defs (F := Ideal)) (onTc (τ := Cert.KernelFfnInWIdeal.τ) (Cert.KernelFfnInWIdeal.main (F := Ideal))) ⟨m, fun _ => 0, g⟩ (fun r => ∀ c : Dev Cert.KernelFfnInWIdeal.nD,
          r.2.mem ((c.tc : Thread Cert.KernelFfnInWIdeal.nD Cert.KernelFfnInWIdeal.τ).loc Cert.KernelFfnInWIdeal.main_v16) = v0 c
          ∧ r.2.mem ((c.tc : Thread Cert.KernelFfnInWIdeal.nD Cert.KernelFfnInWIdeal.τ).loc Cert.KernelFfnInWIdeal.main_arg0) = m ((c.tc : Thread Cert.KernelFfnInWIdeal.nD Cert.KernelFfnInWIdeal.τ).loc Cert.KernelFfnInWIdeal.main_arg0)
          ∧ r.2.mem ((c.tc : Thread Cert.KernelFfnInWIdeal.nD Cert.KernelFfnInWIdeal.τ).loc Cert.KernelFfnInWIdeal.main_arg1) = m ((c.tc : Thread Cert.KernelFfnInWIdeal.nD Cert.KernelFfnInWIdeal.τ).loc Cert.KernelFfnInWIdeal.main_arg1)
          ∧ r.2.mem ((c.tc : Thread Cert.KernelFfnInWIdeal.nD Cert.KernelFfnInWIdeal.τ).loc Cert.KernelFfnInWIdeal.main_arg2) = m ((c.tc : Thread Cert.KernelFfnInWIdeal.nD Cert.KernelFfnInWIdeal.τ).loc Cert.KernelFfnInWIdeal.main_arg2)
          ∧ r.2.mem ((c.tc : Thread Cert.KernelFfnInWIdeal.nD Cert.KernelFfnInWIdeal.τ).loc Cert.KernelFfnInWIdeal.main_arg3) = m ((c.tc : Thread Cert.KernelFfnInWIdeal.nD Cert.KernelFfnInWIdeal.τ).loc Cert.KernelFfnInWIdeal.main_arg3))
      ∧ θ_run (Cert.ReferenceFfnInWIdeal.defs (F := Ideal)) (onTc (τ := Cert.ReferenceFfnInWIdeal.τ) (Cert.ReferenceFfnInWIdeal.main (F := Ideal))) ⟨m', fun _ => 0, g'⟩ (fun r => ∀ c : Dev Cert.ReferenceFfnInWIdeal.nD,
          r.2.mem ((c.tc : Thread Cert.ReferenceFfnInWIdeal.nD Cert.ReferenceFfnInWIdeal.τ).loc Cert.ReferenceFfnInWIdeal.main_v26) = v0 c
          ∧ r.2.mem ((c.tc : Thread Cert.ReferenceFfnInWIdeal.nD Cert.ReferenceFfnInWIdeal.τ).loc Cert.ReferenceFfnInWIdeal.main_arg0) = m' ((c.tc : Thread Cert.ReferenceFfnInWIdeal.nD Cert.ReferenceFfnInWIdeal.τ).loc Cert.ReferenceFfnInWIdeal.main_arg0)
          ∧ r.2.mem ((c.tc : Thread Cert.ReferenceFfnInWIdeal.nD Cert.ReferenceFfnInWIdeal.τ).loc Cert.ReferenceFfnInWIdeal.main_arg1) = m' ((c.tc : Thread Cert.ReferenceFfnInWIdeal.nD Cert.ReferenceFfnInWIdeal.τ).loc Cert.ReferenceFfnInWIdeal.main_arg1)
          ∧ r.2.mem ((c.tc : Thread Cert.ReferenceFfnInWIdeal.nD Cert.ReferenceFfnInWIdeal.τ).loc Cert.ReferenceFfnInWIdeal.main_arg2) = m' ((c.tc : Thread Cert.ReferenceFfnInWIdeal.nD Cert.ReferenceFfnInWIdeal.τ).loc Cert.ReferenceFfnInWIdeal.main_arg2)
          ∧ r.2.mem ((c.tc : Thread Cert.ReferenceFfnInWIdeal.nD Cert.ReferenceFfnInWIdeal.τ).loc Cert.ReferenceFfnInWIdeal.main_arg3) = m' ((c.tc : Thread Cert.ReferenceFfnInWIdeal.nD Cert.ReferenceFfnInWIdeal.τ).loc Cert.ReferenceFfnInWIdeal.main_arg3))

def preserves_KernelFfnIn_KernelFfnInIdeal : Prop :=
  True

def algebraic_KernelFfnInIdeal_ReferenceFfnInIdeal [hKernelFfnInIdeal : Cert.KernelFfnInIdeal.Facts] [hReferenceFfnInIdeal : Cert.ReferenceFfnInIdeal.Facts] : Prop :=
  ∀ (m : (ℓ : Loc Cert.KernelFfnInIdeal.nD Cert.KernelFfnInIdeal.τ Cert.KernelFfnInIdeal.sig) → Buf (Elt Ideal) ℓ) (g : Dev Cert.KernelFfnInIdeal.nD → PrngReg)
    (m' : (ℓ : Loc Cert.ReferenceFfnInIdeal.nD Cert.ReferenceFfnInIdeal.τ Cert.ReferenceFfnInIdeal.sig) → Buf (Elt Ideal) ℓ) (g' : Dev Cert.ReferenceFfnInIdeal.nD → PrngReg), Pre_KernelFfnInIdeal m →
    (∀ c : Dev Cert.KernelFfnInIdeal.nD,
      m' ((c.tc : Thread Cert.ReferenceFfnInIdeal.nD Cert.ReferenceFfnInIdeal.τ).loc Cert.ReferenceFfnInIdeal.main_arg0) = m ((c.tc : Thread Cert.KernelFfnInIdeal.nD Cert.KernelFfnInIdeal.τ).loc Cert.KernelFfnInIdeal.main_arg0)
      ∧ m' ((c.tc : Thread Cert.ReferenceFfnInIdeal.nD Cert.ReferenceFfnInIdeal.τ).loc Cert.ReferenceFfnInIdeal.main_arg1) = m ((c.tc : Thread Cert.KernelFfnInIdeal.nD Cert.KernelFfnInIdeal.τ).loc Cert.KernelFfnInIdeal.main_arg1)
      ∧ m' ((c.tc : Thread Cert.ReferenceFfnInIdeal.nD Cert.ReferenceFfnInIdeal.τ).loc Cert.ReferenceFfnInIdeal.main_arg2) = m ((c.tc : Thread Cert.KernelFfnInIdeal.nD Cert.KernelFfnInIdeal.τ).loc Cert.KernelFfnInIdeal.main_arg2)) →
    ∃ (v0 : (c : Dev Cert.KernelFfnInIdeal.nD) → Buf (Elt Ideal) ((c.tc : Thread Cert.KernelFfnInIdeal.nD Cert.KernelFfnInIdeal.τ).loc Cert.KernelFfnInIdeal.main_v16_0)) (v1 : (c : Dev Cert.KernelFfnInIdeal.nD) → Buf (Elt Ideal) ((c.tc : Thread Cert.KernelFfnInIdeal.nD Cert.KernelFfnInIdeal.τ).loc Cert.KernelFfnInIdeal.main_v16_1)) (v2 : (c : Dev Cert.KernelFfnInIdeal.nD) → Buf (Elt Ideal) ((c.tc : Thread Cert.KernelFfnInIdeal.nD Cert.KernelFfnInIdeal.τ).loc Cert.KernelFfnInIdeal.main_v16_2)) (v3 : (c : Dev Cert.KernelFfnInIdeal.nD) → Buf (Elt Ideal) ((c.tc : Thread Cert.KernelFfnInIdeal.nD Cert.KernelFfnInIdeal.τ).loc Cert.KernelFfnInIdeal.main_v16_3)),
      θ_run (Cert.KernelFfnInIdeal.defs (F := Ideal)) (onTc (τ := Cert.KernelFfnInIdeal.τ) (Cert.KernelFfnInIdeal.main (F := Ideal))) ⟨m, fun _ => 0, g⟩ (fun r => ∀ c : Dev Cert.KernelFfnInIdeal.nD,
          r.2.mem ((c.tc : Thread Cert.KernelFfnInIdeal.nD Cert.KernelFfnInIdeal.τ).loc Cert.KernelFfnInIdeal.main_v16_0) = v0 c
          ∧ r.2.mem ((c.tc : Thread Cert.KernelFfnInIdeal.nD Cert.KernelFfnInIdeal.τ).loc Cert.KernelFfnInIdeal.main_v16_1) = v1 c
          ∧ r.2.mem ((c.tc : Thread Cert.KernelFfnInIdeal.nD Cert.KernelFfnInIdeal.τ).loc Cert.KernelFfnInIdeal.main_v16_2) = v2 c
          ∧ r.2.mem ((c.tc : Thread Cert.KernelFfnInIdeal.nD Cert.KernelFfnInIdeal.τ).loc Cert.KernelFfnInIdeal.main_v16_3) = v3 c
          ∧ r.2.mem ((c.tc : Thread Cert.KernelFfnInIdeal.nD Cert.KernelFfnInIdeal.τ).loc Cert.KernelFfnInIdeal.main_arg0) = m ((c.tc : Thread Cert.KernelFfnInIdeal.nD Cert.KernelFfnInIdeal.τ).loc Cert.KernelFfnInIdeal.main_arg0)
          ∧ r.2.mem ((c.tc : Thread Cert.KernelFfnInIdeal.nD Cert.KernelFfnInIdeal.τ).loc Cert.KernelFfnInIdeal.main_arg1) = m ((c.tc : Thread Cert.KernelFfnInIdeal.nD Cert.KernelFfnInIdeal.τ).loc Cert.KernelFfnInIdeal.main_arg1)
          ∧ r.2.mem ((c.tc : Thread Cert.KernelFfnInIdeal.nD Cert.KernelFfnInIdeal.τ).loc Cert.KernelFfnInIdeal.main_arg2) = m ((c.tc : Thread Cert.KernelFfnInIdeal.nD Cert.KernelFfnInIdeal.τ).loc Cert.KernelFfnInIdeal.main_arg2))
      ∧ θ_run (Cert.ReferenceFfnInIdeal.defs (F := Ideal)) (onTc (τ := Cert.ReferenceFfnInIdeal.τ) (Cert.ReferenceFfnInIdeal.main (F := Ideal))) ⟨m', fun _ => 0, g'⟩ (fun r => ∀ c : Dev Cert.ReferenceFfnInIdeal.nD,
          r.2.mem ((c.tc : Thread Cert.ReferenceFfnInIdeal.nD Cert.ReferenceFfnInIdeal.τ).loc Cert.ReferenceFfnInIdeal.main_v19) = v0 c
          ∧ r.2.mem ((c.tc : Thread Cert.ReferenceFfnInIdeal.nD Cert.ReferenceFfnInIdeal.τ).loc Cert.ReferenceFfnInIdeal.main_v20) = v1 c
          ∧ r.2.mem ((c.tc : Thread Cert.ReferenceFfnInIdeal.nD Cert.ReferenceFfnInIdeal.τ).loc Cert.ReferenceFfnInIdeal.main_v21) = v2 c
          ∧ r.2.mem ((c.tc : Thread Cert.ReferenceFfnInIdeal.nD Cert.ReferenceFfnInIdeal.τ).loc Cert.ReferenceFfnInIdeal.main_v23) = v3 c
          ∧ r.2.mem ((c.tc : Thread Cert.ReferenceFfnInIdeal.nD Cert.ReferenceFfnInIdeal.τ).loc Cert.ReferenceFfnInIdeal.main_arg0) = m' ((c.tc : Thread Cert.ReferenceFfnInIdeal.nD Cert.ReferenceFfnInIdeal.τ).loc Cert.ReferenceFfnInIdeal.main_arg0)
          ∧ r.2.mem ((c.tc : Thread Cert.ReferenceFfnInIdeal.nD Cert.ReferenceFfnInIdeal.τ).loc Cert.ReferenceFfnInIdeal.main_arg1) = m' ((c.tc : Thread Cert.ReferenceFfnInIdeal.nD Cert.ReferenceFfnInIdeal.τ).loc Cert.ReferenceFfnInIdeal.main_arg1)
          ∧ r.2.mem ((c.tc : Thread Cert.ReferenceFfnInIdeal.nD Cert.ReferenceFfnInIdeal.τ).loc Cert.ReferenceFfnInIdeal.main_arg2) = m' ((c.tc : Thread Cert.ReferenceFfnInIdeal.nD Cert.ReferenceFfnInIdeal.τ).loc Cert.ReferenceFfnInIdeal.main_arg2))

def preserves_KernelFfnOutW_KernelFfnOutWIdeal : Prop :=
  True

def algebraic_KernelFfnOutWIdeal_ReferenceFfnOutWIdeal [hKernelFfnOutWIdeal : Cert.KernelFfnOutWIdeal.Facts] [hReferenceFfnOutWIdeal : Cert.ReferenceFfnOutWIdeal.Facts] : Prop :=
  ∀ (m : (ℓ : Loc Cert.KernelFfnOutWIdeal.nD Cert.KernelFfnOutWIdeal.τ Cert.KernelFfnOutWIdeal.sig) → Buf (Elt Ideal) ℓ) (g : Dev Cert.KernelFfnOutWIdeal.nD → PrngReg)
    (m' : (ℓ : Loc Cert.ReferenceFfnOutWIdeal.nD Cert.ReferenceFfnOutWIdeal.τ Cert.ReferenceFfnOutWIdeal.sig) → Buf (Elt Ideal) ℓ) (g' : Dev Cert.ReferenceFfnOutWIdeal.nD → PrngReg), Pre_KernelFfnOutWIdeal m →
    (∀ c : Dev Cert.KernelFfnOutWIdeal.nD,
      m' ((c.tc : Thread Cert.ReferenceFfnOutWIdeal.nD Cert.ReferenceFfnOutWIdeal.τ).loc Cert.ReferenceFfnOutWIdeal.main_arg0) = m ((c.tc : Thread Cert.KernelFfnOutWIdeal.nD Cert.KernelFfnOutWIdeal.τ).loc Cert.KernelFfnOutWIdeal.main_arg0)
      ∧ m' ((c.tc : Thread Cert.ReferenceFfnOutWIdeal.nD Cert.ReferenceFfnOutWIdeal.τ).loc Cert.ReferenceFfnOutWIdeal.main_arg1) = m ((c.tc : Thread Cert.KernelFfnOutWIdeal.nD Cert.KernelFfnOutWIdeal.τ).loc Cert.KernelFfnOutWIdeal.main_arg1)
      ∧ m' ((c.tc : Thread Cert.ReferenceFfnOutWIdeal.nD Cert.ReferenceFfnOutWIdeal.τ).loc Cert.ReferenceFfnOutWIdeal.main_arg2) = m ((c.tc : Thread Cert.KernelFfnOutWIdeal.nD Cert.KernelFfnOutWIdeal.τ).loc Cert.KernelFfnOutWIdeal.main_arg2)
      ∧ m' ((c.tc : Thread Cert.ReferenceFfnOutWIdeal.nD Cert.ReferenceFfnOutWIdeal.τ).loc Cert.ReferenceFfnOutWIdeal.main_arg3) = m ((c.tc : Thread Cert.KernelFfnOutWIdeal.nD Cert.KernelFfnOutWIdeal.τ).loc Cert.KernelFfnOutWIdeal.main_arg3)) →
    ∃ (v0 : (c : Dev Cert.KernelFfnOutWIdeal.nD) → Buf (Elt Ideal) ((c.tc : Thread Cert.KernelFfnOutWIdeal.nD Cert.KernelFfnOutWIdeal.τ).loc Cert.KernelFfnOutWIdeal.main_v6)),
      θ_run (Cert.KernelFfnOutWIdeal.defs (F := Ideal)) (onTc (τ := Cert.KernelFfnOutWIdeal.τ) (Cert.KernelFfnOutWIdeal.main (F := Ideal))) ⟨m, fun _ => 0, g⟩ (fun r => ∀ c : Dev Cert.KernelFfnOutWIdeal.nD,
          r.2.mem ((c.tc : Thread Cert.KernelFfnOutWIdeal.nD Cert.KernelFfnOutWIdeal.τ).loc Cert.KernelFfnOutWIdeal.main_v6) = v0 c
          ∧ r.2.mem ((c.tc : Thread Cert.KernelFfnOutWIdeal.nD Cert.KernelFfnOutWIdeal.τ).loc Cert.KernelFfnOutWIdeal.main_arg0) = m ((c.tc : Thread Cert.KernelFfnOutWIdeal.nD Cert.KernelFfnOutWIdeal.τ).loc Cert.KernelFfnOutWIdeal.main_arg0)
          ∧ r.2.mem ((c.tc : Thread Cert.KernelFfnOutWIdeal.nD Cert.KernelFfnOutWIdeal.τ).loc Cert.KernelFfnOutWIdeal.main_arg1) = m ((c.tc : Thread Cert.KernelFfnOutWIdeal.nD Cert.KernelFfnOutWIdeal.τ).loc Cert.KernelFfnOutWIdeal.main_arg1)
          ∧ r.2.mem ((c.tc : Thread Cert.KernelFfnOutWIdeal.nD Cert.KernelFfnOutWIdeal.τ).loc Cert.KernelFfnOutWIdeal.main_arg2) = m ((c.tc : Thread Cert.KernelFfnOutWIdeal.nD Cert.KernelFfnOutWIdeal.τ).loc Cert.KernelFfnOutWIdeal.main_arg2)
          ∧ r.2.mem ((c.tc : Thread Cert.KernelFfnOutWIdeal.nD Cert.KernelFfnOutWIdeal.τ).loc Cert.KernelFfnOutWIdeal.main_arg3) = m ((c.tc : Thread Cert.KernelFfnOutWIdeal.nD Cert.KernelFfnOutWIdeal.τ).loc Cert.KernelFfnOutWIdeal.main_arg3))
      ∧ θ_run (Cert.ReferenceFfnOutWIdeal.defs (F := Ideal)) (onTc (τ := Cert.ReferenceFfnOutWIdeal.τ) (Cert.ReferenceFfnOutWIdeal.main (F := Ideal))) ⟨m', fun _ => 0, g'⟩ (fun r => ∀ c : Dev Cert.ReferenceFfnOutWIdeal.nD,
          r.2.mem ((c.tc : Thread Cert.ReferenceFfnOutWIdeal.nD Cert.ReferenceFfnOutWIdeal.τ).loc Cert.ReferenceFfnOutWIdeal.main_v8) = v0 c
          ∧ r.2.mem ((c.tc : Thread Cert.ReferenceFfnOutWIdeal.nD Cert.ReferenceFfnOutWIdeal.τ).loc Cert.ReferenceFfnOutWIdeal.main_arg0) = m' ((c.tc : Thread Cert.ReferenceFfnOutWIdeal.nD Cert.ReferenceFfnOutWIdeal.τ).loc Cert.ReferenceFfnOutWIdeal.main_arg0)
          ∧ r.2.mem ((c.tc : Thread Cert.ReferenceFfnOutWIdeal.nD Cert.ReferenceFfnOutWIdeal.τ).loc Cert.ReferenceFfnOutWIdeal.main_arg1) = m' ((c.tc : Thread Cert.ReferenceFfnOutWIdeal.nD Cert.ReferenceFfnOutWIdeal.τ).loc Cert.ReferenceFfnOutWIdeal.main_arg1)
          ∧ r.2.mem ((c.tc : Thread Cert.ReferenceFfnOutWIdeal.nD Cert.ReferenceFfnOutWIdeal.τ).loc Cert.ReferenceFfnOutWIdeal.main_arg2) = m' ((c.tc : Thread Cert.ReferenceFfnOutWIdeal.nD Cert.ReferenceFfnOutWIdeal.τ).loc Cert.ReferenceFfnOutWIdeal.main_arg2)
          ∧ r.2.mem ((c.tc : Thread Cert.ReferenceFfnOutWIdeal.nD Cert.ReferenceFfnOutWIdeal.τ).loc Cert.ReferenceFfnOutWIdeal.main_arg3) = m' ((c.tc : Thread Cert.ReferenceFfnOutWIdeal.nD Cert.ReferenceFfnOutWIdeal.τ).loc Cert.ReferenceFfnOutWIdeal.main_arg3))

def preserves_KernelOutW_KernelOutWIdeal : Prop :=
  True

def algebraic_KernelOutWIdeal_ReferenceOutWIdeal [hKernelOutWIdeal : Cert.KernelOutWIdeal.Facts] [hReferenceOutWIdeal : Cert.ReferenceOutWIdeal.Facts] : Prop :=
  ∀ (m : (ℓ : Loc Cert.KernelOutWIdeal.nD Cert.KernelOutWIdeal.τ Cert.KernelOutWIdeal.sig) → Buf (Elt Ideal) ℓ) (g : Dev Cert.KernelOutWIdeal.nD → PrngReg)
    (m' : (ℓ : Loc Cert.ReferenceOutWIdeal.nD Cert.ReferenceOutWIdeal.τ Cert.ReferenceOutWIdeal.sig) → Buf (Elt Ideal) ℓ) (g' : Dev Cert.ReferenceOutWIdeal.nD → PrngReg), Pre_KernelOutWIdeal m →
    (∀ c : Dev Cert.KernelOutWIdeal.nD,
      m' ((c.tc : Thread Cert.ReferenceOutWIdeal.nD Cert.ReferenceOutWIdeal.τ).loc Cert.ReferenceOutWIdeal.main_arg0) = m ((c.tc : Thread Cert.KernelOutWIdeal.nD Cert.KernelOutWIdeal.τ).loc Cert.KernelOutWIdeal.main_arg0)
      ∧ m' ((c.tc : Thread Cert.ReferenceOutWIdeal.nD Cert.ReferenceOutWIdeal.τ).loc Cert.ReferenceOutWIdeal.main_arg1) = m ((c.tc : Thread Cert.KernelOutWIdeal.nD Cert.KernelOutWIdeal.τ).loc Cert.KernelOutWIdeal.main_arg1)
      ∧ m' ((c.tc : Thread Cert.ReferenceOutWIdeal.nD Cert.ReferenceOutWIdeal.τ).loc Cert.ReferenceOutWIdeal.main_arg2) = m ((c.tc : Thread Cert.KernelOutWIdeal.nD Cert.KernelOutWIdeal.τ).loc Cert.KernelOutWIdeal.main_arg2)) →
    ∃ (v0 : (c : Dev Cert.KernelOutWIdeal.nD) → Buf (Elt Ideal) ((c.tc : Thread Cert.KernelOutWIdeal.nD Cert.KernelOutWIdeal.τ).loc Cert.KernelOutWIdeal.main_v0)),
      θ_run (Cert.KernelOutWIdeal.defs (F := Ideal)) (onTc (τ := Cert.KernelOutWIdeal.τ) (Cert.KernelOutWIdeal.main (F := Ideal))) ⟨m, fun _ => 0, g⟩ (fun r => ∀ c : Dev Cert.KernelOutWIdeal.nD,
          r.2.mem ((c.tc : Thread Cert.KernelOutWIdeal.nD Cert.KernelOutWIdeal.τ).loc Cert.KernelOutWIdeal.main_v0) = v0 c
          ∧ r.2.mem ((c.tc : Thread Cert.KernelOutWIdeal.nD Cert.KernelOutWIdeal.τ).loc Cert.KernelOutWIdeal.main_arg0) = m ((c.tc : Thread Cert.KernelOutWIdeal.nD Cert.KernelOutWIdeal.τ).loc Cert.KernelOutWIdeal.main_arg0)
          ∧ r.2.mem ((c.tc : Thread Cert.KernelOutWIdeal.nD Cert.KernelOutWIdeal.τ).loc Cert.KernelOutWIdeal.main_arg1) = m ((c.tc : Thread Cert.KernelOutWIdeal.nD Cert.KernelOutWIdeal.τ).loc Cert.KernelOutWIdeal.main_arg1)
          ∧ r.2.mem ((c.tc : Thread Cert.KernelOutWIdeal.nD Cert.KernelOutWIdeal.τ).loc Cert.KernelOutWIdeal.main_arg2) = m ((c.tc : Thread Cert.KernelOutWIdeal.nD Cert.KernelOutWIdeal.τ).loc Cert.KernelOutWIdeal.main_arg2))
      ∧ θ_run (Cert.ReferenceOutWIdeal.defs (F := Ideal)) (onTc (τ := Cert.ReferenceOutWIdeal.τ) (Cert.ReferenceOutWIdeal.main (F := Ideal))) ⟨m', fun _ => 0, g'⟩ (fun r => ∀ c : Dev Cert.ReferenceOutWIdeal.nD,
          r.2.mem ((c.tc : Thread Cert.ReferenceOutWIdeal.nD Cert.ReferenceOutWIdeal.τ).loc Cert.ReferenceOutWIdeal.main_v5) = v0 c
          ∧ r.2.mem ((c.tc : Thread Cert.ReferenceOutWIdeal.nD Cert.ReferenceOutWIdeal.τ).loc Cert.ReferenceOutWIdeal.main_arg0) = m' ((c.tc : Thread Cert.ReferenceOutWIdeal.nD Cert.ReferenceOutWIdeal.τ).loc Cert.ReferenceOutWIdeal.main_arg0)
          ∧ r.2.mem ((c.tc : Thread Cert.ReferenceOutWIdeal.nD Cert.ReferenceOutWIdeal.τ).loc Cert.ReferenceOutWIdeal.main_arg1) = m' ((c.tc : Thread Cert.ReferenceOutWIdeal.nD Cert.ReferenceOutWIdeal.τ).loc Cert.ReferenceOutWIdeal.main_arg1)
          ∧ r.2.mem ((c.tc : Thread Cert.ReferenceOutWIdeal.nD Cert.ReferenceOutWIdeal.τ).loc Cert.ReferenceOutWIdeal.main_arg2) = m' ((c.tc : Thread Cert.ReferenceOutWIdeal.nD Cert.ReferenceOutWIdeal.τ).loc Cert.ReferenceOutWIdeal.main_arg2))

def preserves_KernelProjHgW_KernelProjHgWIdeal : Prop :=
  True

def algebraic_KernelProjHgWIdeal_ReferenceProjHgWIdeal [hKernelProjHgWIdeal : Cert.KernelProjHgWIdeal.Facts] [hReferenceProjHgWIdeal : Cert.ReferenceProjHgWIdeal.Facts] : Prop :=
  ∀ (m : (ℓ : Loc Cert.KernelProjHgWIdeal.nD Cert.KernelProjHgWIdeal.τ Cert.KernelProjHgWIdeal.sig) → Buf (Elt Ideal) ℓ) (g : Dev Cert.KernelProjHgWIdeal.nD → PrngReg)
    (m' : (ℓ : Loc Cert.ReferenceProjHgWIdeal.nD Cert.ReferenceProjHgWIdeal.τ Cert.ReferenceProjHgWIdeal.sig) → Buf (Elt Ideal) ℓ) (g' : Dev Cert.ReferenceProjHgWIdeal.nD → PrngReg), Pre_KernelProjHgWIdeal m →
    (∀ c : Dev Cert.KernelProjHgWIdeal.nD,
      m' ((c.tc : Thread Cert.ReferenceProjHgWIdeal.nD Cert.ReferenceProjHgWIdeal.τ).loc Cert.ReferenceProjHgWIdeal.main_arg0) = m ((c.tc : Thread Cert.KernelProjHgWIdeal.nD Cert.KernelProjHgWIdeal.τ).loc Cert.KernelProjHgWIdeal.main_arg0)
      ∧ m' ((c.tc : Thread Cert.ReferenceProjHgWIdeal.nD Cert.ReferenceProjHgWIdeal.τ).loc Cert.ReferenceProjHgWIdeal.main_arg1) = m ((c.tc : Thread Cert.KernelProjHgWIdeal.nD Cert.KernelProjHgWIdeal.τ).loc Cert.KernelProjHgWIdeal.main_arg1)
      ∧ m' ((c.tc : Thread Cert.ReferenceProjHgWIdeal.nD Cert.ReferenceProjHgWIdeal.τ).loc Cert.ReferenceProjHgWIdeal.main_arg2) = m ((c.tc : Thread Cert.KernelProjHgWIdeal.nD Cert.KernelProjHgWIdeal.τ).loc Cert.KernelProjHgWIdeal.main_arg2)) →
    ∃ (v0 : (c : Dev Cert.KernelProjHgWIdeal.nD) → Buf (Elt Ideal) ((c.tc : Thread Cert.KernelProjHgWIdeal.nD Cert.KernelProjHgWIdeal.τ).loc Cert.KernelProjHgWIdeal.main_v0)),
      θ_run (Cert.KernelProjHgWIdeal.defs (F := Ideal)) (onTc (τ := Cert.KernelProjHgWIdeal.τ) (Cert.KernelProjHgWIdeal.main (F := Ideal))) ⟨m, fun _ => 0, g⟩ (fun r => ∀ c : Dev Cert.KernelProjHgWIdeal.nD,
          r.2.mem ((c.tc : Thread Cert.KernelProjHgWIdeal.nD Cert.KernelProjHgWIdeal.τ).loc Cert.KernelProjHgWIdeal.main_v0) = v0 c
          ∧ r.2.mem ((c.tc : Thread Cert.KernelProjHgWIdeal.nD Cert.KernelProjHgWIdeal.τ).loc Cert.KernelProjHgWIdeal.main_arg0) = m ((c.tc : Thread Cert.KernelProjHgWIdeal.nD Cert.KernelProjHgWIdeal.τ).loc Cert.KernelProjHgWIdeal.main_arg0)
          ∧ r.2.mem ((c.tc : Thread Cert.KernelProjHgWIdeal.nD Cert.KernelProjHgWIdeal.τ).loc Cert.KernelProjHgWIdeal.main_arg1) = m ((c.tc : Thread Cert.KernelProjHgWIdeal.nD Cert.KernelProjHgWIdeal.τ).loc Cert.KernelProjHgWIdeal.main_arg1)
          ∧ r.2.mem ((c.tc : Thread Cert.KernelProjHgWIdeal.nD Cert.KernelProjHgWIdeal.τ).loc Cert.KernelProjHgWIdeal.main_arg2) = m ((c.tc : Thread Cert.KernelProjHgWIdeal.nD Cert.KernelProjHgWIdeal.τ).loc Cert.KernelProjHgWIdeal.main_arg2))
      ∧ θ_run (Cert.ReferenceProjHgWIdeal.defs (F := Ideal)) (onTc (τ := Cert.ReferenceProjHgWIdeal.τ) (Cert.ReferenceProjHgWIdeal.main (F := Ideal))) ⟨m', fun _ => 0, g'⟩ (fun r => ∀ c : Dev Cert.ReferenceProjHgWIdeal.nD,
          r.2.mem ((c.tc : Thread Cert.ReferenceProjHgWIdeal.nD Cert.ReferenceProjHgWIdeal.τ).loc Cert.ReferenceProjHgWIdeal.main_v5) = v0 c
          ∧ r.2.mem ((c.tc : Thread Cert.ReferenceProjHgWIdeal.nD Cert.ReferenceProjHgWIdeal.τ).loc Cert.ReferenceProjHgWIdeal.main_arg0) = m' ((c.tc : Thread Cert.ReferenceProjHgWIdeal.nD Cert.ReferenceProjHgWIdeal.τ).loc Cert.ReferenceProjHgWIdeal.main_arg0)
          ∧ r.2.mem ((c.tc : Thread Cert.ReferenceProjHgWIdeal.nD Cert.ReferenceProjHgWIdeal.τ).loc Cert.ReferenceProjHgWIdeal.main_arg1) = m' ((c.tc : Thread Cert.ReferenceProjHgWIdeal.nD Cert.ReferenceProjHgWIdeal.τ).loc Cert.ReferenceProjHgWIdeal.main_arg1)
          ∧ r.2.mem ((c.tc : Thread Cert.ReferenceProjHgWIdeal.nD Cert.ReferenceProjHgWIdeal.τ).loc Cert.ReferenceProjHgWIdeal.main_arg2) = m' ((c.tc : Thread Cert.ReferenceProjHgWIdeal.nD Cert.ReferenceProjHgWIdeal.τ).loc Cert.ReferenceProjHgWIdeal.main_arg2))

def preserves_KernelProjDaW_KernelProjDaWIdeal : Prop :=
  True

def algebraic_KernelProjDaWIdeal_ReferenceProjDaWIdeal [hKernelProjDaWIdeal : Cert.KernelProjDaWIdeal.Facts] [hReferenceProjDaWIdeal : Cert.ReferenceProjDaWIdeal.Facts] : Prop :=
  ∀ (m : (ℓ : Loc Cert.KernelProjDaWIdeal.nD Cert.KernelProjDaWIdeal.τ Cert.KernelProjDaWIdeal.sig) → Buf (Elt Ideal) ℓ) (g : Dev Cert.KernelProjDaWIdeal.nD → PrngReg)
    (m' : (ℓ : Loc Cert.ReferenceProjDaWIdeal.nD Cert.ReferenceProjDaWIdeal.τ Cert.ReferenceProjDaWIdeal.sig) → Buf (Elt Ideal) ℓ) (g' : Dev Cert.ReferenceProjDaWIdeal.nD → PrngReg), Pre_KernelProjDaWIdeal m →
    (∀ c : Dev Cert.KernelProjDaWIdeal.nD,
      m' ((c.tc : Thread Cert.ReferenceProjDaWIdeal.nD Cert.ReferenceProjDaWIdeal.τ).loc Cert.ReferenceProjDaWIdeal.main_arg0) = m ((c.tc : Thread Cert.KernelProjDaWIdeal.nD Cert.KernelProjDaWIdeal.τ).loc Cert.KernelProjDaWIdeal.main_arg0)
      ∧ m' ((c.tc : Thread Cert.ReferenceProjDaWIdeal.nD Cert.ReferenceProjDaWIdeal.τ).loc Cert.ReferenceProjDaWIdeal.main_arg1) = m ((c.tc : Thread Cert.KernelProjDaWIdeal.nD Cert.KernelProjDaWIdeal.τ).loc Cert.KernelProjDaWIdeal.main_arg1)
      ∧ m' ((c.tc : Thread Cert.ReferenceProjDaWIdeal.nD Cert.ReferenceProjDaWIdeal.τ).loc Cert.ReferenceProjDaWIdeal.main_arg2) = m ((c.tc : Thread Cert.KernelProjDaWIdeal.nD Cert.KernelProjDaWIdeal.τ).loc Cert.KernelProjDaWIdeal.main_arg2)) →
    ∃ (v0 : (c : Dev Cert.KernelProjDaWIdeal.nD) → Buf (Elt Ideal) ((c.tc : Thread Cert.KernelProjDaWIdeal.nD Cert.KernelProjDaWIdeal.τ).loc Cert.KernelProjDaWIdeal.main_v0)),
      θ_run (Cert.KernelProjDaWIdeal.defs (F := Ideal)) (onTc (τ := Cert.KernelProjDaWIdeal.τ) (Cert.KernelProjDaWIdeal.main (F := Ideal))) ⟨m, fun _ => 0, g⟩ (fun r => ∀ c : Dev Cert.KernelProjDaWIdeal.nD,
          r.2.mem ((c.tc : Thread Cert.KernelProjDaWIdeal.nD Cert.KernelProjDaWIdeal.τ).loc Cert.KernelProjDaWIdeal.main_v0) = v0 c
          ∧ r.2.mem ((c.tc : Thread Cert.KernelProjDaWIdeal.nD Cert.KernelProjDaWIdeal.τ).loc Cert.KernelProjDaWIdeal.main_arg0) = m ((c.tc : Thread Cert.KernelProjDaWIdeal.nD Cert.KernelProjDaWIdeal.τ).loc Cert.KernelProjDaWIdeal.main_arg0)
          ∧ r.2.mem ((c.tc : Thread Cert.KernelProjDaWIdeal.nD Cert.KernelProjDaWIdeal.τ).loc Cert.KernelProjDaWIdeal.main_arg1) = m ((c.tc : Thread Cert.KernelProjDaWIdeal.nD Cert.KernelProjDaWIdeal.τ).loc Cert.KernelProjDaWIdeal.main_arg1)
          ∧ r.2.mem ((c.tc : Thread Cert.KernelProjDaWIdeal.nD Cert.KernelProjDaWIdeal.τ).loc Cert.KernelProjDaWIdeal.main_arg2) = m ((c.tc : Thread Cert.KernelProjDaWIdeal.nD Cert.KernelProjDaWIdeal.τ).loc Cert.KernelProjDaWIdeal.main_arg2))
      ∧ θ_run (Cert.ReferenceProjDaWIdeal.defs (F := Ideal)) (onTc (τ := Cert.ReferenceProjDaWIdeal.τ) (Cert.ReferenceProjDaWIdeal.main (F := Ideal))) ⟨m', fun _ => 0, g'⟩ (fun r => ∀ c : Dev Cert.ReferenceProjDaWIdeal.nD,
          r.2.mem ((c.tc : Thread Cert.ReferenceProjDaWIdeal.nD Cert.ReferenceProjDaWIdeal.τ).loc Cert.ReferenceProjDaWIdeal.main_v5) = v0 c
          ∧ r.2.mem ((c.tc : Thread Cert.ReferenceProjDaWIdeal.nD Cert.ReferenceProjDaWIdeal.τ).loc Cert.ReferenceProjDaWIdeal.main_arg0) = m' ((c.tc : Thread Cert.ReferenceProjDaWIdeal.nD Cert.ReferenceProjDaWIdeal.τ).loc Cert.ReferenceProjDaWIdeal.main_arg0)
          ∧ r.2.mem ((c.tc : Thread Cert.ReferenceProjDaWIdeal.nD Cert.ReferenceProjDaWIdeal.τ).loc Cert.ReferenceProjDaWIdeal.main_arg1) = m' ((c.tc : Thread Cert.ReferenceProjDaWIdeal.nD Cert.ReferenceProjDaWIdeal.τ).loc Cert.ReferenceProjDaWIdeal.main_arg1)
          ∧ r.2.mem ((c.tc : Thread Cert.ReferenceProjDaWIdeal.nD Cert.ReferenceProjDaWIdeal.τ).loc Cert.ReferenceProjDaWIdeal.main_arg2) = m' ((c.tc : Thread Cert.ReferenceProjDaWIdeal.nD Cert.ReferenceProjDaWIdeal.τ).loc Cert.ReferenceProjDaWIdeal.main_arg2))

def preserves_KernelProjMemW_KernelProjMemWIdeal : Prop :=
  True

def algebraic_KernelProjMemWIdeal_ReferenceProjMemWIdeal [hKernelProjMemWIdeal : Cert.KernelProjMemWIdeal.Facts] [hReferenceProjMemWIdeal : Cert.ReferenceProjMemWIdeal.Facts] : Prop :=
  ∀ (m : (ℓ : Loc Cert.KernelProjMemWIdeal.nD Cert.KernelProjMemWIdeal.τ Cert.KernelProjMemWIdeal.sig) → Buf (Elt Ideal) ℓ) (g : Dev Cert.KernelProjMemWIdeal.nD → PrngReg)
    (m' : (ℓ : Loc Cert.ReferenceProjMemWIdeal.nD Cert.ReferenceProjMemWIdeal.τ Cert.ReferenceProjMemWIdeal.sig) → Buf (Elt Ideal) ℓ) (g' : Dev Cert.ReferenceProjMemWIdeal.nD → PrngReg), Pre_KernelProjMemWIdeal m →
    (∀ c : Dev Cert.KernelProjMemWIdeal.nD,
      m' ((c.tc : Thread Cert.ReferenceProjMemWIdeal.nD Cert.ReferenceProjMemWIdeal.τ).loc Cert.ReferenceProjMemWIdeal.main_arg0) = m ((c.tc : Thread Cert.KernelProjMemWIdeal.nD Cert.KernelProjMemWIdeal.τ).loc Cert.KernelProjMemWIdeal.main_arg0)
      ∧ m' ((c.tc : Thread Cert.ReferenceProjMemWIdeal.nD Cert.ReferenceProjMemWIdeal.τ).loc Cert.ReferenceProjMemWIdeal.main_arg1) = m ((c.tc : Thread Cert.KernelProjMemWIdeal.nD Cert.KernelProjMemWIdeal.τ).loc Cert.KernelProjMemWIdeal.main_arg1)
      ∧ m' ((c.tc : Thread Cert.ReferenceProjMemWIdeal.nD Cert.ReferenceProjMemWIdeal.τ).loc Cert.ReferenceProjMemWIdeal.main_arg2) = m ((c.tc : Thread Cert.KernelProjMemWIdeal.nD Cert.KernelProjMemWIdeal.τ).loc Cert.KernelProjMemWIdeal.main_arg2)) →
    ∃ (v0 : (c : Dev Cert.KernelProjMemWIdeal.nD) → Buf (Elt Ideal) ((c.tc : Thread Cert.KernelProjMemWIdeal.nD Cert.KernelProjMemWIdeal.τ).loc Cert.KernelProjMemWIdeal.main_v0)),
      θ_run (Cert.KernelProjMemWIdeal.defs (F := Ideal)) (onTc (τ := Cert.KernelProjMemWIdeal.τ) (Cert.KernelProjMemWIdeal.main (F := Ideal))) ⟨m, fun _ => 0, g⟩ (fun r => ∀ c : Dev Cert.KernelProjMemWIdeal.nD,
          r.2.mem ((c.tc : Thread Cert.KernelProjMemWIdeal.nD Cert.KernelProjMemWIdeal.τ).loc Cert.KernelProjMemWIdeal.main_v0) = v0 c
          ∧ r.2.mem ((c.tc : Thread Cert.KernelProjMemWIdeal.nD Cert.KernelProjMemWIdeal.τ).loc Cert.KernelProjMemWIdeal.main_arg0) = m ((c.tc : Thread Cert.KernelProjMemWIdeal.nD Cert.KernelProjMemWIdeal.τ).loc Cert.KernelProjMemWIdeal.main_arg0)
          ∧ r.2.mem ((c.tc : Thread Cert.KernelProjMemWIdeal.nD Cert.KernelProjMemWIdeal.τ).loc Cert.KernelProjMemWIdeal.main_arg1) = m ((c.tc : Thread Cert.KernelProjMemWIdeal.nD Cert.KernelProjMemWIdeal.τ).loc Cert.KernelProjMemWIdeal.main_arg1)
          ∧ r.2.mem ((c.tc : Thread Cert.KernelProjMemWIdeal.nD Cert.KernelProjMemWIdeal.τ).loc Cert.KernelProjMemWIdeal.main_arg2) = m ((c.tc : Thread Cert.KernelProjMemWIdeal.nD Cert.KernelProjMemWIdeal.τ).loc Cert.KernelProjMemWIdeal.main_arg2))
      ∧ θ_run (Cert.ReferenceProjMemWIdeal.defs (F := Ideal)) (onTc (τ := Cert.ReferenceProjMemWIdeal.τ) (Cert.ReferenceProjMemWIdeal.main (F := Ideal))) ⟨m', fun _ => 0, g'⟩ (fun r => ∀ c : Dev Cert.ReferenceProjMemWIdeal.nD,
          r.2.mem ((c.tc : Thread Cert.ReferenceProjMemWIdeal.nD Cert.ReferenceProjMemWIdeal.τ).loc Cert.ReferenceProjMemWIdeal.main_v5) = v0 c
          ∧ r.2.mem ((c.tc : Thread Cert.ReferenceProjMemWIdeal.nD Cert.ReferenceProjMemWIdeal.τ).loc Cert.ReferenceProjMemWIdeal.main_arg0) = m' ((c.tc : Thread Cert.ReferenceProjMemWIdeal.nD Cert.ReferenceProjMemWIdeal.τ).loc Cert.ReferenceProjMemWIdeal.main_arg0)
          ∧ r.2.mem ((c.tc : Thread Cert.ReferenceProjMemWIdeal.nD Cert.ReferenceProjMemWIdeal.τ).loc Cert.ReferenceProjMemWIdeal.main_arg1) = m' ((c.tc : Thread Cert.ReferenceProjMemWIdeal.nD Cert.ReferenceProjMemWIdeal.τ).loc Cert.ReferenceProjMemWIdeal.main_arg1)
          ∧ r.2.mem ((c.tc : Thread Cert.ReferenceProjMemWIdeal.nD Cert.ReferenceProjMemWIdeal.τ).loc Cert.ReferenceProjMemWIdeal.main_arg2) = m' ((c.tc : Thread Cert.ReferenceProjMemWIdeal.nD Cert.ReferenceProjMemWIdeal.τ).loc Cert.ReferenceProjMemWIdeal.main_arg2))

def preserves_KernelMemKvW_KernelMemKvWIdeal : Prop :=
  True

def algebraic_KernelMemKvWIdeal_ReferenceMemKvWIdeal [hKernelMemKvWIdeal : Cert.KernelMemKvWIdeal.Facts] [hReferenceMemKvWIdeal : Cert.ReferenceMemKvWIdeal.Facts] : Prop :=
  ∀ (m : (ℓ : Loc Cert.KernelMemKvWIdeal.nD Cert.KernelMemKvWIdeal.τ Cert.KernelMemKvWIdeal.sig) → Buf (Elt Ideal) ℓ) (g : Dev Cert.KernelMemKvWIdeal.nD → PrngReg)
    (m' : (ℓ : Loc Cert.ReferenceMemKvWIdeal.nD Cert.ReferenceMemKvWIdeal.τ Cert.ReferenceMemKvWIdeal.sig) → Buf (Elt Ideal) ℓ) (g' : Dev Cert.ReferenceMemKvWIdeal.nD → PrngReg), Pre_KernelMemKvWIdeal m →
    (∀ c : Dev Cert.KernelMemKvWIdeal.nD,
      m' ((c.tc : Thread Cert.ReferenceMemKvWIdeal.nD Cert.ReferenceMemKvWIdeal.τ).loc Cert.ReferenceMemKvWIdeal.main_arg0) = m ((c.tc : Thread Cert.KernelMemKvWIdeal.nD Cert.KernelMemKvWIdeal.τ).loc Cert.KernelMemKvWIdeal.main_arg0)
      ∧ m' ((c.tc : Thread Cert.ReferenceMemKvWIdeal.nD Cert.ReferenceMemKvWIdeal.τ).loc Cert.ReferenceMemKvWIdeal.main_arg1) = m ((c.tc : Thread Cert.KernelMemKvWIdeal.nD Cert.KernelMemKvWIdeal.τ).loc Cert.KernelMemKvWIdeal.main_arg1)
      ∧ m' ((c.tc : Thread Cert.ReferenceMemKvWIdeal.nD Cert.ReferenceMemKvWIdeal.τ).loc Cert.ReferenceMemKvWIdeal.main_arg2) = m ((c.tc : Thread Cert.KernelMemKvWIdeal.nD Cert.KernelMemKvWIdeal.τ).loc Cert.KernelMemKvWIdeal.main_arg2)) →
    ∃ (v0 : (c : Dev Cert.KernelMemKvWIdeal.nD) → Buf (Elt Ideal) ((c.tc : Thread Cert.KernelMemKvWIdeal.nD Cert.KernelMemKvWIdeal.τ).loc Cert.KernelMemKvWIdeal.main_v0)),
      θ_run (Cert.KernelMemKvWIdeal.defs (F := Ideal)) (onTc (τ := Cert.KernelMemKvWIdeal.τ) (Cert.KernelMemKvWIdeal.main (F := Ideal))) ⟨m, fun _ => 0, g⟩ (fun r => ∀ c : Dev Cert.KernelMemKvWIdeal.nD,
          r.2.mem ((c.tc : Thread Cert.KernelMemKvWIdeal.nD Cert.KernelMemKvWIdeal.τ).loc Cert.KernelMemKvWIdeal.main_v0) = v0 c
          ∧ r.2.mem ((c.tc : Thread Cert.KernelMemKvWIdeal.nD Cert.KernelMemKvWIdeal.τ).loc Cert.KernelMemKvWIdeal.main_arg0) = m ((c.tc : Thread Cert.KernelMemKvWIdeal.nD Cert.KernelMemKvWIdeal.τ).loc Cert.KernelMemKvWIdeal.main_arg0)
          ∧ r.2.mem ((c.tc : Thread Cert.KernelMemKvWIdeal.nD Cert.KernelMemKvWIdeal.τ).loc Cert.KernelMemKvWIdeal.main_arg1) = m ((c.tc : Thread Cert.KernelMemKvWIdeal.nD Cert.KernelMemKvWIdeal.τ).loc Cert.KernelMemKvWIdeal.main_arg1)
          ∧ r.2.mem ((c.tc : Thread Cert.KernelMemKvWIdeal.nD Cert.KernelMemKvWIdeal.τ).loc Cert.KernelMemKvWIdeal.main_arg2) = m ((c.tc : Thread Cert.KernelMemKvWIdeal.nD Cert.KernelMemKvWIdeal.τ).loc Cert.KernelMemKvWIdeal.main_arg2))
      ∧ θ_run (Cert.ReferenceMemKvWIdeal.defs (F := Ideal)) (onTc (τ := Cert.ReferenceMemKvWIdeal.τ) (Cert.ReferenceMemKvWIdeal.main (F := Ideal))) ⟨m', fun _ => 0, g'⟩ (fun r => ∀ c : Dev Cert.ReferenceMemKvWIdeal.nD,
          r.2.mem ((c.tc : Thread Cert.ReferenceMemKvWIdeal.nD Cert.ReferenceMemKvWIdeal.τ).loc Cert.ReferenceMemKvWIdeal.main_v5) = v0 c
          ∧ r.2.mem ((c.tc : Thread Cert.ReferenceMemKvWIdeal.nD Cert.ReferenceMemKvWIdeal.τ).loc Cert.ReferenceMemKvWIdeal.main_arg0) = m' ((c.tc : Thread Cert.ReferenceMemKvWIdeal.nD Cert.ReferenceMemKvWIdeal.τ).loc Cert.ReferenceMemKvWIdeal.main_arg0)
          ∧ r.2.mem ((c.tc : Thread Cert.ReferenceMemKvWIdeal.nD Cert.ReferenceMemKvWIdeal.τ).loc Cert.ReferenceMemKvWIdeal.main_arg1) = m' ((c.tc : Thread Cert.ReferenceMemKvWIdeal.nD Cert.ReferenceMemKvWIdeal.τ).loc Cert.ReferenceMemKvWIdeal.main_arg1)
          ∧ r.2.mem ((c.tc : Thread Cert.ReferenceMemKvWIdeal.nD Cert.ReferenceMemKvWIdeal.τ).loc Cert.ReferenceMemKvWIdeal.main_arg2) = m' ((c.tc : Thread Cert.ReferenceMemKvWIdeal.nD Cert.ReferenceMemKvWIdeal.τ).loc Cert.ReferenceMemKvWIdeal.main_arg2))

def preserves_KernelMemKvAct_KernelMemKvActIdeal : Prop :=
  True

def algebraic_KernelMemKvActIdeal_ReferenceMemKvActIdeal [hKernelMemKvActIdeal : Cert.KernelMemKvActIdeal.Facts] [hReferenceMemKvActIdeal : Cert.ReferenceMemKvActIdeal.Facts] : Prop :=
  ∀ (m : (ℓ : Loc Cert.KernelMemKvActIdeal.nD Cert.KernelMemKvActIdeal.τ Cert.KernelMemKvActIdeal.sig) → Buf (Elt Ideal) ℓ) (g : Dev Cert.KernelMemKvActIdeal.nD → PrngReg)
    (m' : (ℓ : Loc Cert.ReferenceMemKvActIdeal.nD Cert.ReferenceMemKvActIdeal.τ Cert.ReferenceMemKvActIdeal.sig) → Buf (Elt Ideal) ℓ) (g' : Dev Cert.ReferenceMemKvActIdeal.nD → PrngReg), Pre_KernelMemKvActIdeal m →
    (∀ c : Dev Cert.KernelMemKvActIdeal.nD,
      m' ((c.tc : Thread Cert.ReferenceMemKvActIdeal.nD Cert.ReferenceMemKvActIdeal.τ).loc Cert.ReferenceMemKvActIdeal.main_arg0) = m ((c.tc : Thread Cert.KernelMemKvActIdeal.nD Cert.KernelMemKvActIdeal.τ).loc Cert.KernelMemKvActIdeal.main_arg0)
      ∧ m' ((c.tc : Thread Cert.ReferenceMemKvActIdeal.nD Cert.ReferenceMemKvActIdeal.τ).loc Cert.ReferenceMemKvActIdeal.main_arg1) = m ((c.tc : Thread Cert.KernelMemKvActIdeal.nD Cert.KernelMemKvActIdeal.τ).loc Cert.KernelMemKvActIdeal.main_arg1)
      ∧ m' ((c.tc : Thread Cert.ReferenceMemKvActIdeal.nD Cert.ReferenceMemKvActIdeal.τ).loc Cert.ReferenceMemKvActIdeal.main_arg2) = m ((c.tc : Thread Cert.KernelMemKvActIdeal.nD Cert.KernelMemKvActIdeal.τ).loc Cert.KernelMemKvActIdeal.main_arg2)) →
    ∃ (v0 : (c : Dev Cert.KernelMemKvActIdeal.nD) → Buf (Elt Ideal) ((c.tc : Thread Cert.KernelMemKvActIdeal.nD Cert.KernelMemKvActIdeal.τ).loc Cert.KernelMemKvActIdeal.main_v1)),
      θ_run (Cert.KernelMemKvActIdeal.defs (F := Ideal)) (onTc (τ := Cert.KernelMemKvActIdeal.τ) (Cert.KernelMemKvActIdeal.main (F := Ideal))) ⟨m, fun _ => 0, g⟩ (fun r => ∀ c : Dev Cert.KernelMemKvActIdeal.nD,
          r.2.mem ((c.tc : Thread Cert.KernelMemKvActIdeal.nD Cert.KernelMemKvActIdeal.τ).loc Cert.KernelMemKvActIdeal.main_v1) = v0 c
          ∧ r.2.mem ((c.tc : Thread Cert.KernelMemKvActIdeal.nD Cert.KernelMemKvActIdeal.τ).loc Cert.KernelMemKvActIdeal.main_arg0) = m ((c.tc : Thread Cert.KernelMemKvActIdeal.nD Cert.KernelMemKvActIdeal.τ).loc Cert.KernelMemKvActIdeal.main_arg0)
          ∧ r.2.mem ((c.tc : Thread Cert.KernelMemKvActIdeal.nD Cert.KernelMemKvActIdeal.τ).loc Cert.KernelMemKvActIdeal.main_arg1) = m ((c.tc : Thread Cert.KernelMemKvActIdeal.nD Cert.KernelMemKvActIdeal.τ).loc Cert.KernelMemKvActIdeal.main_arg1)
          ∧ r.2.mem ((c.tc : Thread Cert.KernelMemKvActIdeal.nD Cert.KernelMemKvActIdeal.τ).loc Cert.KernelMemKvActIdeal.main_arg2) = m ((c.tc : Thread Cert.KernelMemKvActIdeal.nD Cert.KernelMemKvActIdeal.τ).loc Cert.KernelMemKvActIdeal.main_arg2))
      ∧ θ_run (Cert.ReferenceMemKvActIdeal.defs (F := Ideal)) (onTc (τ := Cert.ReferenceMemKvActIdeal.τ) (Cert.ReferenceMemKvActIdeal.main (F := Ideal))) ⟨m', fun _ => 0, g'⟩ (fun r => ∀ c : Dev Cert.ReferenceMemKvActIdeal.nD,
          r.2.mem ((c.tc : Thread Cert.ReferenceMemKvActIdeal.nD Cert.ReferenceMemKvActIdeal.τ).loc Cert.ReferenceMemKvActIdeal.main_v3) = v0 c
          ∧ r.2.mem ((c.tc : Thread Cert.ReferenceMemKvActIdeal.nD Cert.ReferenceMemKvActIdeal.τ).loc Cert.ReferenceMemKvActIdeal.main_arg0) = m' ((c.tc : Thread Cert.ReferenceMemKvActIdeal.nD Cert.ReferenceMemKvActIdeal.τ).loc Cert.ReferenceMemKvActIdeal.main_arg0)
          ∧ r.2.mem ((c.tc : Thread Cert.ReferenceMemKvActIdeal.nD Cert.ReferenceMemKvActIdeal.τ).loc Cert.ReferenceMemKvActIdeal.main_arg1) = m' ((c.tc : Thread Cert.ReferenceMemKvActIdeal.nD Cert.ReferenceMemKvActIdeal.τ).loc Cert.ReferenceMemKvActIdeal.main_arg1)
          ∧ r.2.mem ((c.tc : Thread Cert.ReferenceMemKvActIdeal.nD Cert.ReferenceMemKvActIdeal.τ).loc Cert.ReferenceMemKvActIdeal.main_arg2) = m' ((c.tc : Thread Cert.ReferenceMemKvActIdeal.nD Cert.ReferenceMemKvActIdeal.τ).loc Cert.ReferenceMemKvActIdeal.main_arg2))

def preserves_KernelNormMem_KernelNormMemIdeal : Prop :=
  True

def algebraic_KernelNormMemIdeal_ReferenceNormMemIdeal [hKernelNormMemIdeal : Cert.KernelNormMemIdeal.Facts] [hReferenceNormMemIdeal : Cert.ReferenceNormMemIdeal.Facts] : Prop :=
  ∀ (m : (ℓ : Loc Cert.KernelNormMemIdeal.nD Cert.KernelNormMemIdeal.τ Cert.KernelNormMemIdeal.sig) → Buf (Elt Ideal) ℓ) (g : Dev Cert.KernelNormMemIdeal.nD → PrngReg)
    (m' : (ℓ : Loc Cert.ReferenceNormMemIdeal.nD Cert.ReferenceNormMemIdeal.τ Cert.ReferenceNormMemIdeal.sig) → Buf (Elt Ideal) ℓ) (g' : Dev Cert.ReferenceNormMemIdeal.nD → PrngReg), Pre_KernelNormMemIdeal m →
    (∀ c : Dev Cert.KernelNormMemIdeal.nD,
      m' ((c.tc : Thread Cert.ReferenceNormMemIdeal.nD Cert.ReferenceNormMemIdeal.τ).loc Cert.ReferenceNormMemIdeal.main_arg0) = m ((c.tc : Thread Cert.KernelNormMemIdeal.nD Cert.KernelNormMemIdeal.τ).loc Cert.KernelNormMemIdeal.main_arg0)
      ∧ m' ((c.tc : Thread Cert.ReferenceNormMemIdeal.nD Cert.ReferenceNormMemIdeal.τ).loc Cert.ReferenceNormMemIdeal.main_arg1) = m ((c.tc : Thread Cert.KernelNormMemIdeal.nD Cert.KernelNormMemIdeal.τ).loc Cert.KernelNormMemIdeal.main_arg1)
      ∧ m' ((c.tc : Thread Cert.ReferenceNormMemIdeal.nD Cert.ReferenceNormMemIdeal.τ).loc Cert.ReferenceNormMemIdeal.main_arg2) = m ((c.tc : Thread Cert.KernelNormMemIdeal.nD Cert.KernelNormMemIdeal.τ).loc Cert.KernelNormMemIdeal.main_arg2)) →
    ∃ (v0 : (c : Dev Cert.KernelNormMemIdeal.nD) → Buf (Elt Ideal) ((c.tc : Thread Cert.KernelNormMemIdeal.nD Cert.KernelNormMemIdeal.τ).loc Cert.KernelNormMemIdeal.main_v0)),
      θ_run (Cert.KernelNormMemIdeal.defs (F := Ideal)) (onTc (τ := Cert.KernelNormMemIdeal.τ) (Cert.KernelNormMemIdeal.main (F := Ideal))) ⟨m, fun _ => 0, g⟩ (fun r => ∀ c : Dev Cert.KernelNormMemIdeal.nD,
          r.2.mem ((c.tc : Thread Cert.KernelNormMemIdeal.nD Cert.KernelNormMemIdeal.τ).loc Cert.KernelNormMemIdeal.main_v0) = v0 c
          ∧ r.2.mem ((c.tc : Thread Cert.KernelNormMemIdeal.nD Cert.KernelNormMemIdeal.τ).loc Cert.KernelNormMemIdeal.main_arg0) = m ((c.tc : Thread Cert.KernelNormMemIdeal.nD Cert.KernelNormMemIdeal.τ).loc Cert.KernelNormMemIdeal.main_arg0)
          ∧ r.2.mem ((c.tc : Thread Cert.KernelNormMemIdeal.nD Cert.KernelNormMemIdeal.τ).loc Cert.KernelNormMemIdeal.main_arg1) = m ((c.tc : Thread Cert.KernelNormMemIdeal.nD Cert.KernelNormMemIdeal.τ).loc Cert.KernelNormMemIdeal.main_arg1)
          ∧ r.2.mem ((c.tc : Thread Cert.KernelNormMemIdeal.nD Cert.KernelNormMemIdeal.τ).loc Cert.KernelNormMemIdeal.main_arg2) = m ((c.tc : Thread Cert.KernelNormMemIdeal.nD Cert.KernelNormMemIdeal.τ).loc Cert.KernelNormMemIdeal.main_arg2))
      ∧ θ_run (Cert.ReferenceNormMemIdeal.defs (F := Ideal)) (onTc (τ := Cert.ReferenceNormMemIdeal.τ) (Cert.ReferenceNormMemIdeal.main (F := Ideal))) ⟨m', fun _ => 0, g'⟩ (fun r => ∀ c : Dev Cert.ReferenceNormMemIdeal.nD,
          r.2.mem ((c.tc : Thread Cert.ReferenceNormMemIdeal.nD Cert.ReferenceNormMemIdeal.τ).loc Cert.ReferenceNormMemIdeal.main_v18) = v0 c
          ∧ r.2.mem ((c.tc : Thread Cert.ReferenceNormMemIdeal.nD Cert.ReferenceNormMemIdeal.τ).loc Cert.ReferenceNormMemIdeal.main_arg0) = m' ((c.tc : Thread Cert.ReferenceNormMemIdeal.nD Cert.ReferenceNormMemIdeal.τ).loc Cert.ReferenceNormMemIdeal.main_arg0)
          ∧ r.2.mem ((c.tc : Thread Cert.ReferenceNormMemIdeal.nD Cert.ReferenceNormMemIdeal.τ).loc Cert.ReferenceNormMemIdeal.main_arg1) = m' ((c.tc : Thread Cert.ReferenceNormMemIdeal.nD Cert.ReferenceNormMemIdeal.τ).loc Cert.ReferenceNormMemIdeal.main_arg1)
          ∧ r.2.mem ((c.tc : Thread Cert.ReferenceNormMemIdeal.nD Cert.ReferenceNormMemIdeal.τ).loc Cert.ReferenceNormMemIdeal.main_arg2) = m' ((c.tc : Thread Cert.ReferenceNormMemIdeal.nD Cert.ReferenceNormMemIdeal.τ).loc Cert.ReferenceNormMemIdeal.main_arg2))

def preserves_KernelAdamwWIn_KernelAdamwWInIdeal : Prop :=
  True

def algebraic_KernelAdamwWInIdeal_ReferenceAdamwWInIdeal [hKernelAdamwWInIdeal : Cert.KernelAdamwWInIdeal.Facts] [hReferenceAdamwWInIdeal : Cert.ReferenceAdamwWInIdeal.Facts] : Prop :=
  ∀ (m : (ℓ : Loc Cert.KernelAdamwWInIdeal.nD Cert.KernelAdamwWInIdeal.τ Cert.KernelAdamwWInIdeal.sig) → Buf (Elt Ideal) ℓ) (g : Dev Cert.KernelAdamwWInIdeal.nD → PrngReg)
    (m' : (ℓ : Loc Cert.ReferenceAdamwWInIdeal.nD Cert.ReferenceAdamwWInIdeal.τ Cert.ReferenceAdamwWInIdeal.sig) → Buf (Elt Ideal) ℓ) (g' : Dev Cert.ReferenceAdamwWInIdeal.nD → PrngReg), Pre_KernelAdamwWInIdeal m →
    (∀ c : Dev Cert.KernelAdamwWInIdeal.nD,
      m' ((c.tc : Thread Cert.ReferenceAdamwWInIdeal.nD Cert.ReferenceAdamwWInIdeal.τ).loc Cert.ReferenceAdamwWInIdeal.main_arg0) = m ((c.tc : Thread Cert.KernelAdamwWInIdeal.nD Cert.KernelAdamwWInIdeal.τ).loc Cert.KernelAdamwWInIdeal.main_arg0)
      ∧ m' ((c.tc : Thread Cert.ReferenceAdamwWInIdeal.nD Cert.ReferenceAdamwWInIdeal.τ).loc Cert.ReferenceAdamwWInIdeal.main_arg1) = m ((c.tc : Thread Cert.KernelAdamwWInIdeal.nD Cert.KernelAdamwWInIdeal.τ).loc Cert.KernelAdamwWInIdeal.main_arg1)
      ∧ m' ((c.tc : Thread Cert.ReferenceAdamwWInIdeal.nD Cert.ReferenceAdamwWInIdeal.τ).loc Cert.ReferenceAdamwWInIdeal.main_arg2) = m ((c.tc : Thread Cert.KernelAdamwWInIdeal.nD Cert.KernelAdamwWInIdeal.τ).loc Cert.KernelAdamwWInIdeal.main_arg2)
      ∧ m' ((c.tc : Thread Cert.ReferenceAdamwWInIdeal.nD Cert.ReferenceAdamwWInIdeal.τ).loc Cert.ReferenceAdamwWInIdeal.main_arg3) = m ((c.tc : Thread Cert.KernelAdamwWInIdeal.nD Cert.KernelAdamwWInIdeal.τ).loc Cert.KernelAdamwWInIdeal.main_arg3)
      ∧ m' ((c.tc : Thread Cert.ReferenceAdamwWInIdeal.nD Cert.ReferenceAdamwWInIdeal.τ).loc Cert.ReferenceAdamwWInIdeal.main_arg4) = m ((c.tc : Thread Cert.KernelAdamwWInIdeal.nD Cert.KernelAdamwWInIdeal.τ).loc Cert.KernelAdamwWInIdeal.main_arg4)) →
    ∃ (v0 : (c : Dev Cert.KernelAdamwWInIdeal.nD) → Buf (Elt Ideal) ((c.tc : Thread Cert.KernelAdamwWInIdeal.nD Cert.KernelAdamwWInIdeal.τ).loc Cert.KernelAdamwWInIdeal.main_v0_0)) (v1 : (c : Dev Cert.KernelAdamwWInIdeal.nD) → Buf (Elt Ideal) ((c.tc : Thread Cert.KernelAdamwWInIdeal.nD Cert.KernelAdamwWInIdeal.τ).loc Cert.KernelAdamwWInIdeal.main_v0_1)) (v2 : (c : Dev Cert.KernelAdamwWInIdeal.nD) → Buf (Elt Ideal) ((c.tc : Thread Cert.KernelAdamwWInIdeal.nD Cert.KernelAdamwWInIdeal.τ).loc Cert.KernelAdamwWInIdeal.main_v0_2)) (v3 : (c : Dev Cert.KernelAdamwWInIdeal.nD) → Buf (Elt Ideal) ((c.tc : Thread Cert.KernelAdamwWInIdeal.nD Cert.KernelAdamwWInIdeal.τ).loc Cert.KernelAdamwWInIdeal.main_v0_3)),
      θ_run (Cert.KernelAdamwWInIdeal.defs (F := Ideal)) (onTc (τ := Cert.KernelAdamwWInIdeal.τ) (Cert.KernelAdamwWInIdeal.main (F := Ideal))) ⟨m, fun _ => 0, g⟩ (fun r => ∀ c : Dev Cert.KernelAdamwWInIdeal.nD,
          r.2.mem ((c.tc : Thread Cert.KernelAdamwWInIdeal.nD Cert.KernelAdamwWInIdeal.τ).loc Cert.KernelAdamwWInIdeal.main_v0_0) = v0 c
          ∧ r.2.mem ((c.tc : Thread Cert.KernelAdamwWInIdeal.nD Cert.KernelAdamwWInIdeal.τ).loc Cert.KernelAdamwWInIdeal.main_v0_1) = v1 c
          ∧ r.2.mem ((c.tc : Thread Cert.KernelAdamwWInIdeal.nD Cert.KernelAdamwWInIdeal.τ).loc Cert.KernelAdamwWInIdeal.main_v0_2) = v2 c
          ∧ r.2.mem ((c.tc : Thread Cert.KernelAdamwWInIdeal.nD Cert.KernelAdamwWInIdeal.τ).loc Cert.KernelAdamwWInIdeal.main_v0_3) = v3 c
          ∧ r.2.mem ((c.tc : Thread Cert.KernelAdamwWInIdeal.nD Cert.KernelAdamwWInIdeal.τ).loc Cert.KernelAdamwWInIdeal.main_arg0) = m ((c.tc : Thread Cert.KernelAdamwWInIdeal.nD Cert.KernelAdamwWInIdeal.τ).loc Cert.KernelAdamwWInIdeal.main_arg0)
          ∧ r.2.mem ((c.tc : Thread Cert.KernelAdamwWInIdeal.nD Cert.KernelAdamwWInIdeal.τ).loc Cert.KernelAdamwWInIdeal.main_arg1) = m ((c.tc : Thread Cert.KernelAdamwWInIdeal.nD Cert.KernelAdamwWInIdeal.τ).loc Cert.KernelAdamwWInIdeal.main_arg1)
          ∧ r.2.mem ((c.tc : Thread Cert.KernelAdamwWInIdeal.nD Cert.KernelAdamwWInIdeal.τ).loc Cert.KernelAdamwWInIdeal.main_arg2) = m ((c.tc : Thread Cert.KernelAdamwWInIdeal.nD Cert.KernelAdamwWInIdeal.τ).loc Cert.KernelAdamwWInIdeal.main_arg2)
          ∧ r.2.mem ((c.tc : Thread Cert.KernelAdamwWInIdeal.nD Cert.KernelAdamwWInIdeal.τ).loc Cert.KernelAdamwWInIdeal.main_arg3) = m ((c.tc : Thread Cert.KernelAdamwWInIdeal.nD Cert.KernelAdamwWInIdeal.τ).loc Cert.KernelAdamwWInIdeal.main_arg3)
          ∧ r.2.mem ((c.tc : Thread Cert.KernelAdamwWInIdeal.nD Cert.KernelAdamwWInIdeal.τ).loc Cert.KernelAdamwWInIdeal.main_arg4) = m ((c.tc : Thread Cert.KernelAdamwWInIdeal.nD Cert.KernelAdamwWInIdeal.τ).loc Cert.KernelAdamwWInIdeal.main_arg4))
      ∧ θ_run (Cert.ReferenceAdamwWInIdeal.defs (F := Ideal)) (onTc (τ := Cert.ReferenceAdamwWInIdeal.τ) (Cert.ReferenceAdamwWInIdeal.main (F := Ideal))) ⟨m', fun _ => 0, g'⟩ (fun r => ∀ c : Dev Cert.ReferenceAdamwWInIdeal.nD,
          r.2.mem ((c.tc : Thread Cert.ReferenceAdamwWInIdeal.nD Cert.ReferenceAdamwWInIdeal.τ).loc Cert.ReferenceAdamwWInIdeal.main_v2) = v0 c
          ∧ r.2.mem ((c.tc : Thread Cert.ReferenceAdamwWInIdeal.nD Cert.ReferenceAdamwWInIdeal.τ).loc Cert.ReferenceAdamwWInIdeal.main_v26) = v1 c
          ∧ r.2.mem ((c.tc : Thread Cert.ReferenceAdamwWInIdeal.nD Cert.ReferenceAdamwWInIdeal.τ).loc Cert.ReferenceAdamwWInIdeal.main_v7) = v2 c
          ∧ r.2.mem ((c.tc : Thread Cert.ReferenceAdamwWInIdeal.nD Cert.ReferenceAdamwWInIdeal.τ).loc Cert.ReferenceAdamwWInIdeal.main_v13) = v3 c
          ∧ r.2.mem ((c.tc : Thread Cert.ReferenceAdamwWInIdeal.nD Cert.ReferenceAdamwWInIdeal.τ).loc Cert.ReferenceAdamwWInIdeal.main_arg0) = m' ((c.tc : Thread Cert.ReferenceAdamwWInIdeal.nD Cert.ReferenceAdamwWInIdeal.τ).loc Cert.ReferenceAdamwWInIdeal.main_arg0)
          ∧ r.2.mem ((c.tc : Thread Cert.ReferenceAdamwWInIdeal.nD Cert.ReferenceAdamwWInIdeal.τ).loc Cert.ReferenceAdamwWInIdeal.main_arg1) = m' ((c.tc : Thread Cert.ReferenceAdamwWInIdeal.nD Cert.ReferenceAdamwWInIdeal.τ).loc Cert.ReferenceAdamwWInIdeal.main_arg1)
          ∧ r.2.mem ((c.tc : Thread Cert.ReferenceAdamwWInIdeal.nD Cert.ReferenceAdamwWInIdeal.τ).loc Cert.ReferenceAdamwWInIdeal.main_arg2) = m' ((c.tc : Thread Cert.ReferenceAdamwWInIdeal.nD Cert.ReferenceAdamwWInIdeal.τ).loc Cert.ReferenceAdamwWInIdeal.main_arg2)
          ∧ r.2.mem ((c.tc : Thread Cert.ReferenceAdamwWInIdeal.nD Cert.ReferenceAdamwWInIdeal.τ).loc Cert.ReferenceAdamwWInIdeal.main_arg3) = m' ((c.tc : Thread Cert.ReferenceAdamwWInIdeal.nD Cert.ReferenceAdamwWInIdeal.τ).loc Cert.ReferenceAdamwWInIdeal.main_arg3)
          ∧ r.2.mem ((c.tc : Thread Cert.ReferenceAdamwWInIdeal.nD Cert.ReferenceAdamwWInIdeal.τ).loc Cert.ReferenceAdamwWInIdeal.main_arg4) = m' ((c.tc : Thread Cert.ReferenceAdamwWInIdeal.nD Cert.ReferenceAdamwWInIdeal.τ).loc Cert.ReferenceAdamwWInIdeal.main_arg4))

def preserves_KernelAdamwSquare_KernelAdamwSquareIdeal : Prop :=
  True

def algebraic_KernelAdamwSquareIdeal_ReferenceAdamwSquareIdeal [hKernelAdamwSquareIdeal : Cert.KernelAdamwSquareIdeal.Facts] [hReferenceAdamwSquareIdeal : Cert.ReferenceAdamwSquareIdeal.Facts] : Prop :=
  ∀ (m : (ℓ : Loc Cert.KernelAdamwSquareIdeal.nD Cert.KernelAdamwSquareIdeal.τ Cert.KernelAdamwSquareIdeal.sig) → Buf (Elt Ideal) ℓ) (g : Dev Cert.KernelAdamwSquareIdeal.nD → PrngReg)
    (m' : (ℓ : Loc Cert.ReferenceAdamwSquareIdeal.nD Cert.ReferenceAdamwSquareIdeal.τ Cert.ReferenceAdamwSquareIdeal.sig) → Buf (Elt Ideal) ℓ) (g' : Dev Cert.ReferenceAdamwSquareIdeal.nD → PrngReg), Pre_KernelAdamwSquareIdeal m →
    (∀ c : Dev Cert.KernelAdamwSquareIdeal.nD,
      m' ((c.tc : Thread Cert.ReferenceAdamwSquareIdeal.nD Cert.ReferenceAdamwSquareIdeal.τ).loc Cert.ReferenceAdamwSquareIdeal.main_arg0) = m ((c.tc : Thread Cert.KernelAdamwSquareIdeal.nD Cert.KernelAdamwSquareIdeal.τ).loc Cert.KernelAdamwSquareIdeal.main_arg0)
      ∧ m' ((c.tc : Thread Cert.ReferenceAdamwSquareIdeal.nD Cert.ReferenceAdamwSquareIdeal.τ).loc Cert.ReferenceAdamwSquareIdeal.main_arg1) = m ((c.tc : Thread Cert.KernelAdamwSquareIdeal.nD Cert.KernelAdamwSquareIdeal.τ).loc Cert.KernelAdamwSquareIdeal.main_arg1)
      ∧ m' ((c.tc : Thread Cert.ReferenceAdamwSquareIdeal.nD Cert.ReferenceAdamwSquareIdeal.τ).loc Cert.ReferenceAdamwSquareIdeal.main_arg2) = m ((c.tc : Thread Cert.KernelAdamwSquareIdeal.nD Cert.KernelAdamwSquareIdeal.τ).loc Cert.KernelAdamwSquareIdeal.main_arg2)
      ∧ m' ((c.tc : Thread Cert.ReferenceAdamwSquareIdeal.nD Cert.ReferenceAdamwSquareIdeal.τ).loc Cert.ReferenceAdamwSquareIdeal.main_arg3) = m ((c.tc : Thread Cert.KernelAdamwSquareIdeal.nD Cert.KernelAdamwSquareIdeal.τ).loc Cert.KernelAdamwSquareIdeal.main_arg3)
      ∧ m' ((c.tc : Thread Cert.ReferenceAdamwSquareIdeal.nD Cert.ReferenceAdamwSquareIdeal.τ).loc Cert.ReferenceAdamwSquareIdeal.main_arg4) = m ((c.tc : Thread Cert.KernelAdamwSquareIdeal.nD Cert.KernelAdamwSquareIdeal.τ).loc Cert.KernelAdamwSquareIdeal.main_arg4)) →
    ∃ (v0 : (c : Dev Cert.KernelAdamwSquareIdeal.nD) → Buf (Elt Ideal) ((c.tc : Thread Cert.KernelAdamwSquareIdeal.nD Cert.KernelAdamwSquareIdeal.τ).loc Cert.KernelAdamwSquareIdeal.main_v0_0)) (v1 : (c : Dev Cert.KernelAdamwSquareIdeal.nD) → Buf (Elt Ideal) ((c.tc : Thread Cert.KernelAdamwSquareIdeal.nD Cert.KernelAdamwSquareIdeal.τ).loc Cert.KernelAdamwSquareIdeal.main_v0_1)) (v2 : (c : Dev Cert.KernelAdamwSquareIdeal.nD) → Buf (Elt Ideal) ((c.tc : Thread Cert.KernelAdamwSquareIdeal.nD Cert.KernelAdamwSquareIdeal.τ).loc Cert.KernelAdamwSquareIdeal.main_v0_2)) (v3 : (c : Dev Cert.KernelAdamwSquareIdeal.nD) → Buf (Elt Ideal) ((c.tc : Thread Cert.KernelAdamwSquareIdeal.nD Cert.KernelAdamwSquareIdeal.τ).loc Cert.KernelAdamwSquareIdeal.main_v0_3)),
      θ_run (Cert.KernelAdamwSquareIdeal.defs (F := Ideal)) (onTc (τ := Cert.KernelAdamwSquareIdeal.τ) (Cert.KernelAdamwSquareIdeal.main (F := Ideal))) ⟨m, fun _ => 0, g⟩ (fun r => ∀ c : Dev Cert.KernelAdamwSquareIdeal.nD,
          r.2.mem ((c.tc : Thread Cert.KernelAdamwSquareIdeal.nD Cert.KernelAdamwSquareIdeal.τ).loc Cert.KernelAdamwSquareIdeal.main_v0_0) = v0 c
          ∧ r.2.mem ((c.tc : Thread Cert.KernelAdamwSquareIdeal.nD Cert.KernelAdamwSquareIdeal.τ).loc Cert.KernelAdamwSquareIdeal.main_v0_1) = v1 c
          ∧ r.2.mem ((c.tc : Thread Cert.KernelAdamwSquareIdeal.nD Cert.KernelAdamwSquareIdeal.τ).loc Cert.KernelAdamwSquareIdeal.main_v0_2) = v2 c
          ∧ r.2.mem ((c.tc : Thread Cert.KernelAdamwSquareIdeal.nD Cert.KernelAdamwSquareIdeal.τ).loc Cert.KernelAdamwSquareIdeal.main_v0_3) = v3 c
          ∧ r.2.mem ((c.tc : Thread Cert.KernelAdamwSquareIdeal.nD Cert.KernelAdamwSquareIdeal.τ).loc Cert.KernelAdamwSquareIdeal.main_arg0) = m ((c.tc : Thread Cert.KernelAdamwSquareIdeal.nD Cert.KernelAdamwSquareIdeal.τ).loc Cert.KernelAdamwSquareIdeal.main_arg0)
          ∧ r.2.mem ((c.tc : Thread Cert.KernelAdamwSquareIdeal.nD Cert.KernelAdamwSquareIdeal.τ).loc Cert.KernelAdamwSquareIdeal.main_arg1) = m ((c.tc : Thread Cert.KernelAdamwSquareIdeal.nD Cert.KernelAdamwSquareIdeal.τ).loc Cert.KernelAdamwSquareIdeal.main_arg1)
          ∧ r.2.mem ((c.tc : Thread Cert.KernelAdamwSquareIdeal.nD Cert.KernelAdamwSquareIdeal.τ).loc Cert.KernelAdamwSquareIdeal.main_arg2) = m ((c.tc : Thread Cert.KernelAdamwSquareIdeal.nD Cert.KernelAdamwSquareIdeal.τ).loc Cert.KernelAdamwSquareIdeal.main_arg2)
          ∧ r.2.mem ((c.tc : Thread Cert.KernelAdamwSquareIdeal.nD Cert.KernelAdamwSquareIdeal.τ).loc Cert.KernelAdamwSquareIdeal.main_arg3) = m ((c.tc : Thread Cert.KernelAdamwSquareIdeal.nD Cert.KernelAdamwSquareIdeal.τ).loc Cert.KernelAdamwSquareIdeal.main_arg3)
          ∧ r.2.mem ((c.tc : Thread Cert.KernelAdamwSquareIdeal.nD Cert.KernelAdamwSquareIdeal.τ).loc Cert.KernelAdamwSquareIdeal.main_arg4) = m ((c.tc : Thread Cert.KernelAdamwSquareIdeal.nD Cert.KernelAdamwSquareIdeal.τ).loc Cert.KernelAdamwSquareIdeal.main_arg4))
      ∧ θ_run (Cert.ReferenceAdamwSquareIdeal.defs (F := Ideal)) (onTc (τ := Cert.ReferenceAdamwSquareIdeal.τ) (Cert.ReferenceAdamwSquareIdeal.main (F := Ideal))) ⟨m', fun _ => 0, g'⟩ (fun r => ∀ c : Dev Cert.ReferenceAdamwSquareIdeal.nD,
          r.2.mem ((c.tc : Thread Cert.ReferenceAdamwSquareIdeal.nD Cert.ReferenceAdamwSquareIdeal.τ).loc Cert.ReferenceAdamwSquareIdeal.main_v2) = v0 c
          ∧ r.2.mem ((c.tc : Thread Cert.ReferenceAdamwSquareIdeal.nD Cert.ReferenceAdamwSquareIdeal.τ).loc Cert.ReferenceAdamwSquareIdeal.main_v26) = v1 c
          ∧ r.2.mem ((c.tc : Thread Cert.ReferenceAdamwSquareIdeal.nD Cert.ReferenceAdamwSquareIdeal.τ).loc Cert.ReferenceAdamwSquareIdeal.main_v7) = v2 c
          ∧ r.2.mem ((c.tc : Thread Cert.ReferenceAdamwSquareIdeal.nD Cert.ReferenceAdamwSquareIdeal.τ).loc Cert.ReferenceAdamwSquareIdeal.main_v13) = v3 c
          ∧ r.2.mem ((c.tc : Thread Cert.ReferenceAdamwSquareIdeal.nD Cert.ReferenceAdamwSquareIdeal.τ).loc Cert.ReferenceAdamwSquareIdeal.main_arg0) = m' ((c.tc : Thread Cert.ReferenceAdamwSquareIdeal.nD Cert.ReferenceAdamwSquareIdeal.τ).loc Cert.ReferenceAdamwSquareIdeal.main_arg0)
          ∧ r.2.mem ((c.tc : Thread Cert.ReferenceAdamwSquareIdeal.nD Cert.ReferenceAdamwSquareIdeal.τ).loc Cert.ReferenceAdamwSquareIdeal.main_arg1) = m' ((c.tc : Thread Cert.ReferenceAdamwSquareIdeal.nD Cert.ReferenceAdamwSquareIdeal.τ).loc Cert.ReferenceAdamwSquareIdeal.main_arg1)
          ∧ r.2.mem ((c.tc : Thread Cert.ReferenceAdamwSquareIdeal.nD Cert.ReferenceAdamwSquareIdeal.τ).loc Cert.ReferenceAdamwSquareIdeal.main_arg2) = m' ((c.tc : Thread Cert.ReferenceAdamwSquareIdeal.nD Cert.ReferenceAdamwSquareIdeal.τ).loc Cert.ReferenceAdamwSquareIdeal.main_arg2)
          ∧ r.2.mem ((c.tc : Thread Cert.ReferenceAdamwSquareIdeal.nD Cert.ReferenceAdamwSquareIdeal.τ).loc Cert.ReferenceAdamwSquareIdeal.main_arg3) = m' ((c.tc : Thread Cert.ReferenceAdamwSquareIdeal.nD Cert.ReferenceAdamwSquareIdeal.τ).loc Cert.ReferenceAdamwSquareIdeal.main_arg3)
          ∧ r.2.mem ((c.tc : Thread Cert.ReferenceAdamwSquareIdeal.nD Cert.ReferenceAdamwSquareIdeal.τ).loc Cert.ReferenceAdamwSquareIdeal.main_arg4) = m' ((c.tc : Thread Cert.ReferenceAdamwSquareIdeal.nD Cert.ReferenceAdamwSquareIdeal.τ).loc Cert.ReferenceAdamwSquareIdeal.main_arg4))

def preserves_KernelAdamwBranch_KernelAdamwBranchIdeal : Prop :=
  True

def algebraic_KernelAdamwBranchIdeal_ReferenceAdamwBranchIdeal [hKernelAdamwBranchIdeal : Cert.KernelAdamwBranchIdeal.Facts] [hReferenceAdamwBranchIdeal : Cert.ReferenceAdamwBranchIdeal.Facts] : Prop :=
  ∀ (m : (ℓ : Loc Cert.KernelAdamwBranchIdeal.nD Cert.KernelAdamwBranchIdeal.τ Cert.KernelAdamwBranchIdeal.sig) → Buf (Elt Ideal) ℓ) (g : Dev Cert.KernelAdamwBranchIdeal.nD → PrngReg)
    (m' : (ℓ : Loc Cert.ReferenceAdamwBranchIdeal.nD Cert.ReferenceAdamwBranchIdeal.τ Cert.ReferenceAdamwBranchIdeal.sig) → Buf (Elt Ideal) ℓ) (g' : Dev Cert.ReferenceAdamwBranchIdeal.nD → PrngReg), Pre_KernelAdamwBranchIdeal m →
    (∀ c : Dev Cert.KernelAdamwBranchIdeal.nD,
      m' ((c.tc : Thread Cert.ReferenceAdamwBranchIdeal.nD Cert.ReferenceAdamwBranchIdeal.τ).loc Cert.ReferenceAdamwBranchIdeal.main_arg0) = m ((c.tc : Thread Cert.KernelAdamwBranchIdeal.nD Cert.KernelAdamwBranchIdeal.τ).loc Cert.KernelAdamwBranchIdeal.main_arg0)
      ∧ m' ((c.tc : Thread Cert.ReferenceAdamwBranchIdeal.nD Cert.ReferenceAdamwBranchIdeal.τ).loc Cert.ReferenceAdamwBranchIdeal.main_arg1) = m ((c.tc : Thread Cert.KernelAdamwBranchIdeal.nD Cert.KernelAdamwBranchIdeal.τ).loc Cert.KernelAdamwBranchIdeal.main_arg1)
      ∧ m' ((c.tc : Thread Cert.ReferenceAdamwBranchIdeal.nD Cert.ReferenceAdamwBranchIdeal.τ).loc Cert.ReferenceAdamwBranchIdeal.main_arg2) = m ((c.tc : Thread Cert.KernelAdamwBranchIdeal.nD Cert.KernelAdamwBranchIdeal.τ).loc Cert.KernelAdamwBranchIdeal.main_arg2)
      ∧ m' ((c.tc : Thread Cert.ReferenceAdamwBranchIdeal.nD Cert.ReferenceAdamwBranchIdeal.τ).loc Cert.ReferenceAdamwBranchIdeal.main_arg3) = m ((c.tc : Thread Cert.KernelAdamwBranchIdeal.nD Cert.KernelAdamwBranchIdeal.τ).loc Cert.KernelAdamwBranchIdeal.main_arg3)
      ∧ m' ((c.tc : Thread Cert.ReferenceAdamwBranchIdeal.nD Cert.ReferenceAdamwBranchIdeal.τ).loc Cert.ReferenceAdamwBranchIdeal.main_arg4) = m ((c.tc : Thread Cert.KernelAdamwBranchIdeal.nD Cert.KernelAdamwBranchIdeal.τ).loc Cert.KernelAdamwBranchIdeal.main_arg4)) →
    ∃ (v0 : (c : Dev Cert.KernelAdamwBranchIdeal.nD) → Buf (Elt Ideal) ((c.tc : Thread Cert.KernelAdamwBranchIdeal.nD Cert.KernelAdamwBranchIdeal.τ).loc Cert.KernelAdamwBranchIdeal.main_v0_0)) (v1 : (c : Dev Cert.KernelAdamwBranchIdeal.nD) → Buf (Elt Ideal) ((c.tc : Thread Cert.KernelAdamwBranchIdeal.nD Cert.KernelAdamwBranchIdeal.τ).loc Cert.KernelAdamwBranchIdeal.main_v0_1)) (v2 : (c : Dev Cert.KernelAdamwBranchIdeal.nD) → Buf (Elt Ideal) ((c.tc : Thread Cert.KernelAdamwBranchIdeal.nD Cert.KernelAdamwBranchIdeal.τ).loc Cert.KernelAdamwBranchIdeal.main_v0_2)) (v3 : (c : Dev Cert.KernelAdamwBranchIdeal.nD) → Buf (Elt Ideal) ((c.tc : Thread Cert.KernelAdamwBranchIdeal.nD Cert.KernelAdamwBranchIdeal.τ).loc Cert.KernelAdamwBranchIdeal.main_v0_3)),
      θ_run (Cert.KernelAdamwBranchIdeal.defs (F := Ideal)) (onTc (τ := Cert.KernelAdamwBranchIdeal.τ) (Cert.KernelAdamwBranchIdeal.main (F := Ideal))) ⟨m, fun _ => 0, g⟩ (fun r => ∀ c : Dev Cert.KernelAdamwBranchIdeal.nD,
          r.2.mem ((c.tc : Thread Cert.KernelAdamwBranchIdeal.nD Cert.KernelAdamwBranchIdeal.τ).loc Cert.KernelAdamwBranchIdeal.main_v0_0) = v0 c
          ∧ r.2.mem ((c.tc : Thread Cert.KernelAdamwBranchIdeal.nD Cert.KernelAdamwBranchIdeal.τ).loc Cert.KernelAdamwBranchIdeal.main_v0_1) = v1 c
          ∧ r.2.mem ((c.tc : Thread Cert.KernelAdamwBranchIdeal.nD Cert.KernelAdamwBranchIdeal.τ).loc Cert.KernelAdamwBranchIdeal.main_v0_2) = v2 c
          ∧ r.2.mem ((c.tc : Thread Cert.KernelAdamwBranchIdeal.nD Cert.KernelAdamwBranchIdeal.τ).loc Cert.KernelAdamwBranchIdeal.main_v0_3) = v3 c
          ∧ r.2.mem ((c.tc : Thread Cert.KernelAdamwBranchIdeal.nD Cert.KernelAdamwBranchIdeal.τ).loc Cert.KernelAdamwBranchIdeal.main_arg0) = m ((c.tc : Thread Cert.KernelAdamwBranchIdeal.nD Cert.KernelAdamwBranchIdeal.τ).loc Cert.KernelAdamwBranchIdeal.main_arg0)
          ∧ r.2.mem ((c.tc : Thread Cert.KernelAdamwBranchIdeal.nD Cert.KernelAdamwBranchIdeal.τ).loc Cert.KernelAdamwBranchIdeal.main_arg1) = m ((c.tc : Thread Cert.KernelAdamwBranchIdeal.nD Cert.KernelAdamwBranchIdeal.τ).loc Cert.KernelAdamwBranchIdeal.main_arg1)
          ∧ r.2.mem ((c.tc : Thread Cert.KernelAdamwBranchIdeal.nD Cert.KernelAdamwBranchIdeal.τ).loc Cert.KernelAdamwBranchIdeal.main_arg2) = m ((c.tc : Thread Cert.KernelAdamwBranchIdeal.nD Cert.KernelAdamwBranchIdeal.τ).loc Cert.KernelAdamwBranchIdeal.main_arg2)
          ∧ r.2.mem ((c.tc : Thread Cert.KernelAdamwBranchIdeal.nD Cert.KernelAdamwBranchIdeal.τ).loc Cert.KernelAdamwBranchIdeal.main_arg3) = m ((c.tc : Thread Cert.KernelAdamwBranchIdeal.nD Cert.KernelAdamwBranchIdeal.τ).loc Cert.KernelAdamwBranchIdeal.main_arg3)
          ∧ r.2.mem ((c.tc : Thread Cert.KernelAdamwBranchIdeal.nD Cert.KernelAdamwBranchIdeal.τ).loc Cert.KernelAdamwBranchIdeal.main_arg4) = m ((c.tc : Thread Cert.KernelAdamwBranchIdeal.nD Cert.KernelAdamwBranchIdeal.τ).loc Cert.KernelAdamwBranchIdeal.main_arg4))
      ∧ θ_run (Cert.ReferenceAdamwBranchIdeal.defs (F := Ideal)) (onTc (τ := Cert.ReferenceAdamwBranchIdeal.τ) (Cert.ReferenceAdamwBranchIdeal.main (F := Ideal))) ⟨m', fun _ => 0, g'⟩ (fun r => ∀ c : Dev Cert.ReferenceAdamwBranchIdeal.nD,
          r.2.mem ((c.tc : Thread Cert.ReferenceAdamwBranchIdeal.nD Cert.ReferenceAdamwBranchIdeal.τ).loc Cert.ReferenceAdamwBranchIdeal.main_v2) = v0 c
          ∧ r.2.mem ((c.tc : Thread Cert.ReferenceAdamwBranchIdeal.nD Cert.ReferenceAdamwBranchIdeal.τ).loc Cert.ReferenceAdamwBranchIdeal.main_v26) = v1 c
          ∧ r.2.mem ((c.tc : Thread Cert.ReferenceAdamwBranchIdeal.nD Cert.ReferenceAdamwBranchIdeal.τ).loc Cert.ReferenceAdamwBranchIdeal.main_v7) = v2 c
          ∧ r.2.mem ((c.tc : Thread Cert.ReferenceAdamwBranchIdeal.nD Cert.ReferenceAdamwBranchIdeal.τ).loc Cert.ReferenceAdamwBranchIdeal.main_v13) = v3 c
          ∧ r.2.mem ((c.tc : Thread Cert.ReferenceAdamwBranchIdeal.nD Cert.ReferenceAdamwBranchIdeal.τ).loc Cert.ReferenceAdamwBranchIdeal.main_arg0) = m' ((c.tc : Thread Cert.ReferenceAdamwBranchIdeal.nD Cert.ReferenceAdamwBranchIdeal.τ).loc Cert.ReferenceAdamwBranchIdeal.main_arg0)
          ∧ r.2.mem ((c.tc : Thread Cert.ReferenceAdamwBranchIdeal.nD Cert.ReferenceAdamwBranchIdeal.τ).loc Cert.ReferenceAdamwBranchIdeal.main_arg1) = m' ((c.tc : Thread Cert.ReferenceAdamwBranchIdeal.nD Cert.ReferenceAdamwBranchIdeal.τ).loc Cert.ReferenceAdamwBranchIdeal.main_arg1)
          ∧ r.2.mem ((c.tc : Thread Cert.ReferenceAdamwBranchIdeal.nD Cert.ReferenceAdamwBranchIdeal.τ).loc Cert.ReferenceAdamwBranchIdeal.main_arg2) = m' ((c.tc : Thread Cert.ReferenceAdamwBranchIdeal.nD Cert.ReferenceAdamwBranchIdeal.τ).loc Cert.ReferenceAdamwBranchIdeal.main_arg2)
          ∧ r.2.mem ((c.tc : Thread Cert.ReferenceAdamwBranchIdeal.nD Cert.ReferenceAdamwBranchIdeal.τ).loc Cert.ReferenceAdamwBranchIdeal.main_arg3) = m' ((c.tc : Thread Cert.ReferenceAdamwBranchIdeal.nD Cert.ReferenceAdamwBranchIdeal.τ).loc Cert.ReferenceAdamwBranchIdeal.main_arg3)
          ∧ r.2.mem ((c.tc : Thread Cert.ReferenceAdamwBranchIdeal.nD Cert.ReferenceAdamwBranchIdeal.τ).loc Cert.ReferenceAdamwBranchIdeal.main_arg4) = m' ((c.tc : Thread Cert.ReferenceAdamwBranchIdeal.nD Cert.ReferenceAdamwBranchIdeal.τ).loc Cert.ReferenceAdamwBranchIdeal.main_arg4))

def preserves_KernelAdamwFfnIn_KernelAdamwFfnInIdeal : Prop :=
  True

def algebraic_KernelAdamwFfnInIdeal_ReferenceAdamwFfnInIdeal [hKernelAdamwFfnInIdeal : Cert.KernelAdamwFfnInIdeal.Facts] [hReferenceAdamwFfnInIdeal : Cert.ReferenceAdamwFfnInIdeal.Facts] : Prop :=
  ∀ (m : (ℓ : Loc Cert.KernelAdamwFfnInIdeal.nD Cert.KernelAdamwFfnInIdeal.τ Cert.KernelAdamwFfnInIdeal.sig) → Buf (Elt Ideal) ℓ) (g : Dev Cert.KernelAdamwFfnInIdeal.nD → PrngReg)
    (m' : (ℓ : Loc Cert.ReferenceAdamwFfnInIdeal.nD Cert.ReferenceAdamwFfnInIdeal.τ Cert.ReferenceAdamwFfnInIdeal.sig) → Buf (Elt Ideal) ℓ) (g' : Dev Cert.ReferenceAdamwFfnInIdeal.nD → PrngReg), Pre_KernelAdamwFfnInIdeal m →
    (∀ c : Dev Cert.KernelAdamwFfnInIdeal.nD,
      m' ((c.tc : Thread Cert.ReferenceAdamwFfnInIdeal.nD Cert.ReferenceAdamwFfnInIdeal.τ).loc Cert.ReferenceAdamwFfnInIdeal.main_arg0) = m ((c.tc : Thread Cert.KernelAdamwFfnInIdeal.nD Cert.KernelAdamwFfnInIdeal.τ).loc Cert.KernelAdamwFfnInIdeal.main_arg0)
      ∧ m' ((c.tc : Thread Cert.ReferenceAdamwFfnInIdeal.nD Cert.ReferenceAdamwFfnInIdeal.τ).loc Cert.ReferenceAdamwFfnInIdeal.main_arg1) = m ((c.tc : Thread Cert.KernelAdamwFfnInIdeal.nD Cert.KernelAdamwFfnInIdeal.τ).loc Cert.KernelAdamwFfnInIdeal.main_arg1)
      ∧ m' ((c.tc : Thread Cert.ReferenceAdamwFfnInIdeal.nD Cert.ReferenceAdamwFfnInIdeal.τ).loc Cert.ReferenceAdamwFfnInIdeal.main_arg2) = m ((c.tc : Thread Cert.KernelAdamwFfnInIdeal.nD Cert.KernelAdamwFfnInIdeal.τ).loc Cert.KernelAdamwFfnInIdeal.main_arg2)
      ∧ m' ((c.tc : Thread Cert.ReferenceAdamwFfnInIdeal.nD Cert.ReferenceAdamwFfnInIdeal.τ).loc Cert.ReferenceAdamwFfnInIdeal.main_arg3) = m ((c.tc : Thread Cert.KernelAdamwFfnInIdeal.nD Cert.KernelAdamwFfnInIdeal.τ).loc Cert.KernelAdamwFfnInIdeal.main_arg3)
      ∧ m' ((c.tc : Thread Cert.ReferenceAdamwFfnInIdeal.nD Cert.ReferenceAdamwFfnInIdeal.τ).loc Cert.ReferenceAdamwFfnInIdeal.main_arg4) = m ((c.tc : Thread Cert.KernelAdamwFfnInIdeal.nD Cert.KernelAdamwFfnInIdeal.τ).loc Cert.KernelAdamwFfnInIdeal.main_arg4)) →
    ∃ (v0 : (c : Dev Cert.KernelAdamwFfnInIdeal.nD) → Buf (Elt Ideal) ((c.tc : Thread Cert.KernelAdamwFfnInIdeal.nD Cert.KernelAdamwFfnInIdeal.τ).loc Cert.KernelAdamwFfnInIdeal.main_v0_0)) (v1 : (c : Dev Cert.KernelAdamwFfnInIdeal.nD) → Buf (Elt Ideal) ((c.tc : Thread Cert.KernelAdamwFfnInIdeal.nD Cert.KernelAdamwFfnInIdeal.τ).loc Cert.KernelAdamwFfnInIdeal.main_v0_1)) (v2 : (c : Dev Cert.KernelAdamwFfnInIdeal.nD) → Buf (Elt Ideal) ((c.tc : Thread Cert.KernelAdamwFfnInIdeal.nD Cert.KernelAdamwFfnInIdeal.τ).loc Cert.KernelAdamwFfnInIdeal.main_v0_2)) (v3 : (c : Dev Cert.KernelAdamwFfnInIdeal.nD) → Buf (Elt Ideal) ((c.tc : Thread Cert.KernelAdamwFfnInIdeal.nD Cert.KernelAdamwFfnInIdeal.τ).loc Cert.KernelAdamwFfnInIdeal.main_v0_3)),
      θ_run (Cert.KernelAdamwFfnInIdeal.defs (F := Ideal)) (onTc (τ := Cert.KernelAdamwFfnInIdeal.τ) (Cert.KernelAdamwFfnInIdeal.main (F := Ideal))) ⟨m, fun _ => 0, g⟩ (fun r => ∀ c : Dev Cert.KernelAdamwFfnInIdeal.nD,
          r.2.mem ((c.tc : Thread Cert.KernelAdamwFfnInIdeal.nD Cert.KernelAdamwFfnInIdeal.τ).loc Cert.KernelAdamwFfnInIdeal.main_v0_0) = v0 c
          ∧ r.2.mem ((c.tc : Thread Cert.KernelAdamwFfnInIdeal.nD Cert.KernelAdamwFfnInIdeal.τ).loc Cert.KernelAdamwFfnInIdeal.main_v0_1) = v1 c
          ∧ r.2.mem ((c.tc : Thread Cert.KernelAdamwFfnInIdeal.nD Cert.KernelAdamwFfnInIdeal.τ).loc Cert.KernelAdamwFfnInIdeal.main_v0_2) = v2 c
          ∧ r.2.mem ((c.tc : Thread Cert.KernelAdamwFfnInIdeal.nD Cert.KernelAdamwFfnInIdeal.τ).loc Cert.KernelAdamwFfnInIdeal.main_v0_3) = v3 c
          ∧ r.2.mem ((c.tc : Thread Cert.KernelAdamwFfnInIdeal.nD Cert.KernelAdamwFfnInIdeal.τ).loc Cert.KernelAdamwFfnInIdeal.main_arg0) = m ((c.tc : Thread Cert.KernelAdamwFfnInIdeal.nD Cert.KernelAdamwFfnInIdeal.τ).loc Cert.KernelAdamwFfnInIdeal.main_arg0)
          ∧ r.2.mem ((c.tc : Thread Cert.KernelAdamwFfnInIdeal.nD Cert.KernelAdamwFfnInIdeal.τ).loc Cert.KernelAdamwFfnInIdeal.main_arg1) = m ((c.tc : Thread Cert.KernelAdamwFfnInIdeal.nD Cert.KernelAdamwFfnInIdeal.τ).loc Cert.KernelAdamwFfnInIdeal.main_arg1)
          ∧ r.2.mem ((c.tc : Thread Cert.KernelAdamwFfnInIdeal.nD Cert.KernelAdamwFfnInIdeal.τ).loc Cert.KernelAdamwFfnInIdeal.main_arg2) = m ((c.tc : Thread Cert.KernelAdamwFfnInIdeal.nD Cert.KernelAdamwFfnInIdeal.τ).loc Cert.KernelAdamwFfnInIdeal.main_arg2)
          ∧ r.2.mem ((c.tc : Thread Cert.KernelAdamwFfnInIdeal.nD Cert.KernelAdamwFfnInIdeal.τ).loc Cert.KernelAdamwFfnInIdeal.main_arg3) = m ((c.tc : Thread Cert.KernelAdamwFfnInIdeal.nD Cert.KernelAdamwFfnInIdeal.τ).loc Cert.KernelAdamwFfnInIdeal.main_arg3)
          ∧ r.2.mem ((c.tc : Thread Cert.KernelAdamwFfnInIdeal.nD Cert.KernelAdamwFfnInIdeal.τ).loc Cert.KernelAdamwFfnInIdeal.main_arg4) = m ((c.tc : Thread Cert.KernelAdamwFfnInIdeal.nD Cert.KernelAdamwFfnInIdeal.τ).loc Cert.KernelAdamwFfnInIdeal.main_arg4))
      ∧ θ_run (Cert.ReferenceAdamwFfnInIdeal.defs (F := Ideal)) (onTc (τ := Cert.ReferenceAdamwFfnInIdeal.τ) (Cert.ReferenceAdamwFfnInIdeal.main (F := Ideal))) ⟨m', fun _ => 0, g'⟩ (fun r => ∀ c : Dev Cert.ReferenceAdamwFfnInIdeal.nD,
          r.2.mem ((c.tc : Thread Cert.ReferenceAdamwFfnInIdeal.nD Cert.ReferenceAdamwFfnInIdeal.τ).loc Cert.ReferenceAdamwFfnInIdeal.main_v2) = v0 c
          ∧ r.2.mem ((c.tc : Thread Cert.ReferenceAdamwFfnInIdeal.nD Cert.ReferenceAdamwFfnInIdeal.τ).loc Cert.ReferenceAdamwFfnInIdeal.main_v26) = v1 c
          ∧ r.2.mem ((c.tc : Thread Cert.ReferenceAdamwFfnInIdeal.nD Cert.ReferenceAdamwFfnInIdeal.τ).loc Cert.ReferenceAdamwFfnInIdeal.main_v7) = v2 c
          ∧ r.2.mem ((c.tc : Thread Cert.ReferenceAdamwFfnInIdeal.nD Cert.ReferenceAdamwFfnInIdeal.τ).loc Cert.ReferenceAdamwFfnInIdeal.main_v13) = v3 c
          ∧ r.2.mem ((c.tc : Thread Cert.ReferenceAdamwFfnInIdeal.nD Cert.ReferenceAdamwFfnInIdeal.τ).loc Cert.ReferenceAdamwFfnInIdeal.main_arg0) = m' ((c.tc : Thread Cert.ReferenceAdamwFfnInIdeal.nD Cert.ReferenceAdamwFfnInIdeal.τ).loc Cert.ReferenceAdamwFfnInIdeal.main_arg0)
          ∧ r.2.mem ((c.tc : Thread Cert.ReferenceAdamwFfnInIdeal.nD Cert.ReferenceAdamwFfnInIdeal.τ).loc Cert.ReferenceAdamwFfnInIdeal.main_arg1) = m' ((c.tc : Thread Cert.ReferenceAdamwFfnInIdeal.nD Cert.ReferenceAdamwFfnInIdeal.τ).loc Cert.ReferenceAdamwFfnInIdeal.main_arg1)
          ∧ r.2.mem ((c.tc : Thread Cert.ReferenceAdamwFfnInIdeal.nD Cert.ReferenceAdamwFfnInIdeal.τ).loc Cert.ReferenceAdamwFfnInIdeal.main_arg2) = m' ((c.tc : Thread Cert.ReferenceAdamwFfnInIdeal.nD Cert.ReferenceAdamwFfnInIdeal.τ).loc Cert.ReferenceAdamwFfnInIdeal.main_arg2)
          ∧ r.2.mem ((c.tc : Thread Cert.ReferenceAdamwFfnInIdeal.nD Cert.ReferenceAdamwFfnInIdeal.τ).loc Cert.ReferenceAdamwFfnInIdeal.main_arg3) = m' ((c.tc : Thread Cert.ReferenceAdamwFfnInIdeal.nD Cert.ReferenceAdamwFfnInIdeal.τ).loc Cert.ReferenceAdamwFfnInIdeal.main_arg3)
          ∧ r.2.mem ((c.tc : Thread Cert.ReferenceAdamwFfnInIdeal.nD Cert.ReferenceAdamwFfnInIdeal.τ).loc Cert.ReferenceAdamwFfnInIdeal.main_arg4) = m' ((c.tc : Thread Cert.ReferenceAdamwFfnInIdeal.nD Cert.ReferenceAdamwFfnInIdeal.τ).loc Cert.ReferenceAdamwFfnInIdeal.main_arg4))

def preserves_KernelAdamwFfnOut_KernelAdamwFfnOutIdeal : Prop :=
  True

def algebraic_KernelAdamwFfnOutIdeal_ReferenceAdamwFfnOutIdeal [hKernelAdamwFfnOutIdeal : Cert.KernelAdamwFfnOutIdeal.Facts] [hReferenceAdamwFfnOutIdeal : Cert.ReferenceAdamwFfnOutIdeal.Facts] : Prop :=
  ∀ (m : (ℓ : Loc Cert.KernelAdamwFfnOutIdeal.nD Cert.KernelAdamwFfnOutIdeal.τ Cert.KernelAdamwFfnOutIdeal.sig) → Buf (Elt Ideal) ℓ) (g : Dev Cert.KernelAdamwFfnOutIdeal.nD → PrngReg)
    (m' : (ℓ : Loc Cert.ReferenceAdamwFfnOutIdeal.nD Cert.ReferenceAdamwFfnOutIdeal.τ Cert.ReferenceAdamwFfnOutIdeal.sig) → Buf (Elt Ideal) ℓ) (g' : Dev Cert.ReferenceAdamwFfnOutIdeal.nD → PrngReg), Pre_KernelAdamwFfnOutIdeal m →
    (∀ c : Dev Cert.KernelAdamwFfnOutIdeal.nD,
      m' ((c.tc : Thread Cert.ReferenceAdamwFfnOutIdeal.nD Cert.ReferenceAdamwFfnOutIdeal.τ).loc Cert.ReferenceAdamwFfnOutIdeal.main_arg0) = m ((c.tc : Thread Cert.KernelAdamwFfnOutIdeal.nD Cert.KernelAdamwFfnOutIdeal.τ).loc Cert.KernelAdamwFfnOutIdeal.main_arg0)
      ∧ m' ((c.tc : Thread Cert.ReferenceAdamwFfnOutIdeal.nD Cert.ReferenceAdamwFfnOutIdeal.τ).loc Cert.ReferenceAdamwFfnOutIdeal.main_arg1) = m ((c.tc : Thread Cert.KernelAdamwFfnOutIdeal.nD Cert.KernelAdamwFfnOutIdeal.τ).loc Cert.KernelAdamwFfnOutIdeal.main_arg1)
      ∧ m' ((c.tc : Thread Cert.ReferenceAdamwFfnOutIdeal.nD Cert.ReferenceAdamwFfnOutIdeal.τ).loc Cert.ReferenceAdamwFfnOutIdeal.main_arg2) = m ((c.tc : Thread Cert.KernelAdamwFfnOutIdeal.nD Cert.KernelAdamwFfnOutIdeal.τ).loc Cert.KernelAdamwFfnOutIdeal.main_arg2)
      ∧ m' ((c.tc : Thread Cert.ReferenceAdamwFfnOutIdeal.nD Cert.ReferenceAdamwFfnOutIdeal.τ).loc Cert.ReferenceAdamwFfnOutIdeal.main_arg3) = m ((c.tc : Thread Cert.KernelAdamwFfnOutIdeal.nD Cert.KernelAdamwFfnOutIdeal.τ).loc Cert.KernelAdamwFfnOutIdeal.main_arg3)
      ∧ m' ((c.tc : Thread Cert.ReferenceAdamwFfnOutIdeal.nD Cert.ReferenceAdamwFfnOutIdeal.τ).loc Cert.ReferenceAdamwFfnOutIdeal.main_arg4) = m ((c.tc : Thread Cert.KernelAdamwFfnOutIdeal.nD Cert.KernelAdamwFfnOutIdeal.τ).loc Cert.KernelAdamwFfnOutIdeal.main_arg4)) →
    ∃ (v0 : (c : Dev Cert.KernelAdamwFfnOutIdeal.nD) → Buf (Elt Ideal) ((c.tc : Thread Cert.KernelAdamwFfnOutIdeal.nD Cert.KernelAdamwFfnOutIdeal.τ).loc Cert.KernelAdamwFfnOutIdeal.main_v0_0)) (v1 : (c : Dev Cert.KernelAdamwFfnOutIdeal.nD) → Buf (Elt Ideal) ((c.tc : Thread Cert.KernelAdamwFfnOutIdeal.nD Cert.KernelAdamwFfnOutIdeal.τ).loc Cert.KernelAdamwFfnOutIdeal.main_v0_1)) (v2 : (c : Dev Cert.KernelAdamwFfnOutIdeal.nD) → Buf (Elt Ideal) ((c.tc : Thread Cert.KernelAdamwFfnOutIdeal.nD Cert.KernelAdamwFfnOutIdeal.τ).loc Cert.KernelAdamwFfnOutIdeal.main_v0_2)) (v3 : (c : Dev Cert.KernelAdamwFfnOutIdeal.nD) → Buf (Elt Ideal) ((c.tc : Thread Cert.KernelAdamwFfnOutIdeal.nD Cert.KernelAdamwFfnOutIdeal.τ).loc Cert.KernelAdamwFfnOutIdeal.main_v0_3)),
      θ_run (Cert.KernelAdamwFfnOutIdeal.defs (F := Ideal)) (onTc (τ := Cert.KernelAdamwFfnOutIdeal.τ) (Cert.KernelAdamwFfnOutIdeal.main (F := Ideal))) ⟨m, fun _ => 0, g⟩ (fun r => ∀ c : Dev Cert.KernelAdamwFfnOutIdeal.nD,
          r.2.mem ((c.tc : Thread Cert.KernelAdamwFfnOutIdeal.nD Cert.KernelAdamwFfnOutIdeal.τ).loc Cert.KernelAdamwFfnOutIdeal.main_v0_0) = v0 c
          ∧ r.2.mem ((c.tc : Thread Cert.KernelAdamwFfnOutIdeal.nD Cert.KernelAdamwFfnOutIdeal.τ).loc Cert.KernelAdamwFfnOutIdeal.main_v0_1) = v1 c
          ∧ r.2.mem ((c.tc : Thread Cert.KernelAdamwFfnOutIdeal.nD Cert.KernelAdamwFfnOutIdeal.τ).loc Cert.KernelAdamwFfnOutIdeal.main_v0_2) = v2 c
          ∧ r.2.mem ((c.tc : Thread Cert.KernelAdamwFfnOutIdeal.nD Cert.KernelAdamwFfnOutIdeal.τ).loc Cert.KernelAdamwFfnOutIdeal.main_v0_3) = v3 c
          ∧ r.2.mem ((c.tc : Thread Cert.KernelAdamwFfnOutIdeal.nD Cert.KernelAdamwFfnOutIdeal.τ).loc Cert.KernelAdamwFfnOutIdeal.main_arg0) = m ((c.tc : Thread Cert.KernelAdamwFfnOutIdeal.nD Cert.KernelAdamwFfnOutIdeal.τ).loc Cert.KernelAdamwFfnOutIdeal.main_arg0)
          ∧ r.2.mem ((c.tc : Thread Cert.KernelAdamwFfnOutIdeal.nD Cert.KernelAdamwFfnOutIdeal.τ).loc Cert.KernelAdamwFfnOutIdeal.main_arg1) = m ((c.tc : Thread Cert.KernelAdamwFfnOutIdeal.nD Cert.KernelAdamwFfnOutIdeal.τ).loc Cert.KernelAdamwFfnOutIdeal.main_arg1)
          ∧ r.2.mem ((c.tc : Thread Cert.KernelAdamwFfnOutIdeal.nD Cert.KernelAdamwFfnOutIdeal.τ).loc Cert.KernelAdamwFfnOutIdeal.main_arg2) = m ((c.tc : Thread Cert.KernelAdamwFfnOutIdeal.nD Cert.KernelAdamwFfnOutIdeal.τ).loc Cert.KernelAdamwFfnOutIdeal.main_arg2)
          ∧ r.2.mem ((c.tc : Thread Cert.KernelAdamwFfnOutIdeal.nD Cert.KernelAdamwFfnOutIdeal.τ).loc Cert.KernelAdamwFfnOutIdeal.main_arg3) = m ((c.tc : Thread Cert.KernelAdamwFfnOutIdeal.nD Cert.KernelAdamwFfnOutIdeal.τ).loc Cert.KernelAdamwFfnOutIdeal.main_arg3)
          ∧ r.2.mem ((c.tc : Thread Cert.KernelAdamwFfnOutIdeal.nD Cert.KernelAdamwFfnOutIdeal.τ).loc Cert.KernelAdamwFfnOutIdeal.main_arg4) = m ((c.tc : Thread Cert.KernelAdamwFfnOutIdeal.nD Cert.KernelAdamwFfnOutIdeal.τ).loc Cert.KernelAdamwFfnOutIdeal.main_arg4))
      ∧ θ_run (Cert.ReferenceAdamwFfnOutIdeal.defs (F := Ideal)) (onTc (τ := Cert.ReferenceAdamwFfnOutIdeal.τ) (Cert.ReferenceAdamwFfnOutIdeal.main (F := Ideal))) ⟨m', fun _ => 0, g'⟩ (fun r => ∀ c : Dev Cert.ReferenceAdamwFfnOutIdeal.nD,
          r.2.mem ((c.tc : Thread Cert.ReferenceAdamwFfnOutIdeal.nD Cert.ReferenceAdamwFfnOutIdeal.τ).loc Cert.ReferenceAdamwFfnOutIdeal.main_v2) = v0 c
          ∧ r.2.mem ((c.tc : Thread Cert.ReferenceAdamwFfnOutIdeal.nD Cert.ReferenceAdamwFfnOutIdeal.τ).loc Cert.ReferenceAdamwFfnOutIdeal.main_v26) = v1 c
          ∧ r.2.mem ((c.tc : Thread Cert.ReferenceAdamwFfnOutIdeal.nD Cert.ReferenceAdamwFfnOutIdeal.τ).loc Cert.ReferenceAdamwFfnOutIdeal.main_v7) = v2 c
          ∧ r.2.mem ((c.tc : Thread Cert.ReferenceAdamwFfnOutIdeal.nD Cert.ReferenceAdamwFfnOutIdeal.τ).loc Cert.ReferenceAdamwFfnOutIdeal.main_v13) = v3 c
          ∧ r.2.mem ((c.tc : Thread Cert.ReferenceAdamwFfnOutIdeal.nD Cert.ReferenceAdamwFfnOutIdeal.τ).loc Cert.ReferenceAdamwFfnOutIdeal.main_arg0) = m' ((c.tc : Thread Cert.ReferenceAdamwFfnOutIdeal.nD Cert.ReferenceAdamwFfnOutIdeal.τ).loc Cert.ReferenceAdamwFfnOutIdeal.main_arg0)
          ∧ r.2.mem ((c.tc : Thread Cert.ReferenceAdamwFfnOutIdeal.nD Cert.ReferenceAdamwFfnOutIdeal.τ).loc Cert.ReferenceAdamwFfnOutIdeal.main_arg1) = m' ((c.tc : Thread Cert.ReferenceAdamwFfnOutIdeal.nD Cert.ReferenceAdamwFfnOutIdeal.τ).loc Cert.ReferenceAdamwFfnOutIdeal.main_arg1)
          ∧ r.2.mem ((c.tc : Thread Cert.ReferenceAdamwFfnOutIdeal.nD Cert.ReferenceAdamwFfnOutIdeal.τ).loc Cert.ReferenceAdamwFfnOutIdeal.main_arg2) = m' ((c.tc : Thread Cert.ReferenceAdamwFfnOutIdeal.nD Cert.ReferenceAdamwFfnOutIdeal.τ).loc Cert.ReferenceAdamwFfnOutIdeal.main_arg2)
          ∧ r.2.mem ((c.tc : Thread Cert.ReferenceAdamwFfnOutIdeal.nD Cert.ReferenceAdamwFfnOutIdeal.τ).loc Cert.ReferenceAdamwFfnOutIdeal.main_arg3) = m' ((c.tc : Thread Cert.ReferenceAdamwFfnOutIdeal.nD Cert.ReferenceAdamwFfnOutIdeal.τ).loc Cert.ReferenceAdamwFfnOutIdeal.main_arg3)
          ∧ r.2.mem ((c.tc : Thread Cert.ReferenceAdamwFfnOutIdeal.nD Cert.ReferenceAdamwFfnOutIdeal.τ).loc Cert.ReferenceAdamwFfnOutIdeal.main_arg4) = m' ((c.tc : Thread Cert.ReferenceAdamwFfnOutIdeal.nD Cert.ReferenceAdamwFfnOutIdeal.τ).loc Cert.ReferenceAdamwFfnOutIdeal.main_arg4))

def preserves_KernelFfnOut_KernelFfnOutIdeal : Prop :=
  True

def algebraic_KernelFfnOutIdeal_ReferenceFfnOutIdeal [hKernelFfnOutIdeal : Cert.KernelFfnOutIdeal.Facts] [hReferenceFfnOutIdeal : Cert.ReferenceFfnOutIdeal.Facts] : Prop :=
  ∀ (m : (ℓ : Loc Cert.KernelFfnOutIdeal.nD Cert.KernelFfnOutIdeal.τ Cert.KernelFfnOutIdeal.sig) → Buf (Elt Ideal) ℓ) (g : Dev Cert.KernelFfnOutIdeal.nD → PrngReg)
    (m' : (ℓ : Loc Cert.ReferenceFfnOutIdeal.nD Cert.ReferenceFfnOutIdeal.τ Cert.ReferenceFfnOutIdeal.sig) → Buf (Elt Ideal) ℓ) (g' : Dev Cert.ReferenceFfnOutIdeal.nD → PrngReg), Pre_KernelFfnOutIdeal m →
    (∀ c : Dev Cert.KernelFfnOutIdeal.nD,
      m' ((c.tc : Thread Cert.ReferenceFfnOutIdeal.nD Cert.ReferenceFfnOutIdeal.τ).loc Cert.ReferenceFfnOutIdeal.main_arg0) = m ((c.tc : Thread Cert.KernelFfnOutIdeal.nD Cert.KernelFfnOutIdeal.τ).loc Cert.KernelFfnOutIdeal.main_arg0)
      ∧ m' ((c.tc : Thread Cert.ReferenceFfnOutIdeal.nD Cert.ReferenceFfnOutIdeal.τ).loc Cert.ReferenceFfnOutIdeal.main_arg1) = m ((c.tc : Thread Cert.KernelFfnOutIdeal.nD Cert.KernelFfnOutIdeal.τ).loc Cert.KernelFfnOutIdeal.main_arg1)
      ∧ m' ((c.tc : Thread Cert.ReferenceFfnOutIdeal.nD Cert.ReferenceFfnOutIdeal.τ).loc Cert.ReferenceFfnOutIdeal.main_arg2) = m ((c.tc : Thread Cert.KernelFfnOutIdeal.nD Cert.KernelFfnOutIdeal.τ).loc Cert.KernelFfnOutIdeal.main_arg2)
      ∧ m' ((c.tc : Thread Cert.ReferenceFfnOutIdeal.nD Cert.ReferenceFfnOutIdeal.τ).loc Cert.ReferenceFfnOutIdeal.main_arg3) = m ((c.tc : Thread Cert.KernelFfnOutIdeal.nD Cert.KernelFfnOutIdeal.τ).loc Cert.KernelFfnOutIdeal.main_arg3)
      ∧ m' ((c.tc : Thread Cert.ReferenceFfnOutIdeal.nD Cert.ReferenceFfnOutIdeal.τ).loc Cert.ReferenceFfnOutIdeal.main_arg4) = m ((c.tc : Thread Cert.KernelFfnOutIdeal.nD Cert.KernelFfnOutIdeal.τ).loc Cert.KernelFfnOutIdeal.main_arg4)) →
    ∃ (v0 : (c : Dev Cert.KernelFfnOutIdeal.nD) → Buf (Elt Ideal) ((c.tc : Thread Cert.KernelFfnOutIdeal.nD Cert.KernelFfnOutIdeal.τ).loc Cert.KernelFfnOutIdeal.main_v6_0)) (v1 : (c : Dev Cert.KernelFfnOutIdeal.nD) → Buf (Elt Ideal) ((c.tc : Thread Cert.KernelFfnOutIdeal.nD Cert.KernelFfnOutIdeal.τ).loc Cert.KernelFfnOutIdeal.main_v6_1)) (v2 : (c : Dev Cert.KernelFfnOutIdeal.nD) → Buf (Elt Ideal) ((c.tc : Thread Cert.KernelFfnOutIdeal.nD Cert.KernelFfnOutIdeal.τ).loc Cert.KernelFfnOutIdeal.main_v6_2)),
      θ_run (Cert.KernelFfnOutIdeal.defs (F := Ideal)) (onTc (τ := Cert.KernelFfnOutIdeal.τ) (Cert.KernelFfnOutIdeal.main (F := Ideal))) ⟨m, fun _ => 0, g⟩ (fun r => ∀ c : Dev Cert.KernelFfnOutIdeal.nD,
          r.2.mem ((c.tc : Thread Cert.KernelFfnOutIdeal.nD Cert.KernelFfnOutIdeal.τ).loc Cert.KernelFfnOutIdeal.main_v6_0) = v0 c
          ∧ r.2.mem ((c.tc : Thread Cert.KernelFfnOutIdeal.nD Cert.KernelFfnOutIdeal.τ).loc Cert.KernelFfnOutIdeal.main_v6_1) = v1 c
          ∧ r.2.mem ((c.tc : Thread Cert.KernelFfnOutIdeal.nD Cert.KernelFfnOutIdeal.τ).loc Cert.KernelFfnOutIdeal.main_v6_2) = v2 c
          ∧ r.2.mem ((c.tc : Thread Cert.KernelFfnOutIdeal.nD Cert.KernelFfnOutIdeal.τ).loc Cert.KernelFfnOutIdeal.main_arg0) = m ((c.tc : Thread Cert.KernelFfnOutIdeal.nD Cert.KernelFfnOutIdeal.τ).loc Cert.KernelFfnOutIdeal.main_arg0)
          ∧ r.2.mem ((c.tc : Thread Cert.KernelFfnOutIdeal.nD Cert.KernelFfnOutIdeal.τ).loc Cert.KernelFfnOutIdeal.main_arg1) = m ((c.tc : Thread Cert.KernelFfnOutIdeal.nD Cert.KernelFfnOutIdeal.τ).loc Cert.KernelFfnOutIdeal.main_arg1)
          ∧ r.2.mem ((c.tc : Thread Cert.KernelFfnOutIdeal.nD Cert.KernelFfnOutIdeal.τ).loc Cert.KernelFfnOutIdeal.main_arg2) = m ((c.tc : Thread Cert.KernelFfnOutIdeal.nD Cert.KernelFfnOutIdeal.τ).loc Cert.KernelFfnOutIdeal.main_arg2)
          ∧ r.2.mem ((c.tc : Thread Cert.KernelFfnOutIdeal.nD Cert.KernelFfnOutIdeal.τ).loc Cert.KernelFfnOutIdeal.main_arg3) = m ((c.tc : Thread Cert.KernelFfnOutIdeal.nD Cert.KernelFfnOutIdeal.τ).loc Cert.KernelFfnOutIdeal.main_arg3)
          ∧ r.2.mem ((c.tc : Thread Cert.KernelFfnOutIdeal.nD Cert.KernelFfnOutIdeal.τ).loc Cert.KernelFfnOutIdeal.main_arg4) = m ((c.tc : Thread Cert.KernelFfnOutIdeal.nD Cert.KernelFfnOutIdeal.τ).loc Cert.KernelFfnOutIdeal.main_arg4))
      ∧ θ_run (Cert.ReferenceFfnOutIdeal.defs (F := Ideal)) (onTc (τ := Cert.ReferenceFfnOutIdeal.τ) (Cert.ReferenceFfnOutIdeal.main (F := Ideal))) ⟨m', fun _ => 0, g'⟩ (fun r => ∀ c : Dev Cert.ReferenceFfnOutIdeal.nD,
          r.2.mem ((c.tc : Thread Cert.ReferenceFfnOutIdeal.nD Cert.ReferenceFfnOutIdeal.τ).loc Cert.ReferenceFfnOutIdeal.main_v20) = v0 c
          ∧ r.2.mem ((c.tc : Thread Cert.ReferenceFfnOutIdeal.nD Cert.ReferenceFfnOutIdeal.τ).loc Cert.ReferenceFfnOutIdeal.main_v21) = v1 c
          ∧ r.2.mem ((c.tc : Thread Cert.ReferenceFfnOutIdeal.nD Cert.ReferenceFfnOutIdeal.τ).loc Cert.ReferenceFfnOutIdeal.main_v22) = v2 c
          ∧ r.2.mem ((c.tc : Thread Cert.ReferenceFfnOutIdeal.nD Cert.ReferenceFfnOutIdeal.τ).loc Cert.ReferenceFfnOutIdeal.main_arg0) = m' ((c.tc : Thread Cert.ReferenceFfnOutIdeal.nD Cert.ReferenceFfnOutIdeal.τ).loc Cert.ReferenceFfnOutIdeal.main_arg0)
          ∧ r.2.mem ((c.tc : Thread Cert.ReferenceFfnOutIdeal.nD Cert.ReferenceFfnOutIdeal.τ).loc Cert.ReferenceFfnOutIdeal.main_arg1) = m' ((c.tc : Thread Cert.ReferenceFfnOutIdeal.nD Cert.ReferenceFfnOutIdeal.τ).loc Cert.ReferenceFfnOutIdeal.main_arg1)
          ∧ r.2.mem ((c.tc : Thread Cert.ReferenceFfnOutIdeal.nD Cert.ReferenceFfnOutIdeal.τ).loc Cert.ReferenceFfnOutIdeal.main_arg2) = m' ((c.tc : Thread Cert.ReferenceFfnOutIdeal.nD Cert.ReferenceFfnOutIdeal.τ).loc Cert.ReferenceFfnOutIdeal.main_arg2)
          ∧ r.2.mem ((c.tc : Thread Cert.ReferenceFfnOutIdeal.nD Cert.ReferenceFfnOutIdeal.τ).loc Cert.ReferenceFfnOutIdeal.main_arg3) = m' ((c.tc : Thread Cert.ReferenceFfnOutIdeal.nD Cert.ReferenceFfnOutIdeal.τ).loc Cert.ReferenceFfnOutIdeal.main_arg3)
          ∧ r.2.mem ((c.tc : Thread Cert.ReferenceFfnOutIdeal.nD Cert.ReferenceFfnOutIdeal.τ).loc Cert.ReferenceFfnOutIdeal.main_arg4) = m' ((c.tc : Thread Cert.ReferenceFfnOutIdeal.nD Cert.ReferenceFfnOutIdeal.τ).loc Cert.ReferenceFfnOutIdeal.main_arg4))

def preserves_KernelFfnOutAct_KernelFfnOutActIdeal : Prop :=
  True

def algebraic_KernelFfnOutActIdeal_ReferenceFfnOutActIdeal_pre_gates_finite [hKernelFfnOutActIdeal : Cert.KernelFfnOutActIdeal.Facts] [hReferenceFfnOutActIdeal : Cert.ReferenceFfnOutActIdeal.Facts] [hPre_gates_finite : Cert.Pre_gates_finite.Facts] : Prop :=
  ∀ (m : (ℓ : Loc Cert.KernelFfnOutActIdeal.nD Cert.KernelFfnOutActIdeal.τ Cert.KernelFfnOutActIdeal.sig) → Buf (Elt Ideal) ℓ) (g : Dev Cert.KernelFfnOutActIdeal.nD → PrngReg)
    (m' : (ℓ : Loc Cert.ReferenceFfnOutActIdeal.nD Cert.ReferenceFfnOutActIdeal.τ Cert.ReferenceFfnOutActIdeal.sig) → Buf (Elt Ideal) ℓ) (g' : Dev Cert.ReferenceFfnOutActIdeal.nD → PrngReg), Pre_KernelFfnOutActIdeal_gates_finite m →
    (∀ c : Dev Cert.KernelFfnOutActIdeal.nD,
      m' ((c.tc : Thread Cert.ReferenceFfnOutActIdeal.nD Cert.ReferenceFfnOutActIdeal.τ).loc Cert.ReferenceFfnOutActIdeal.main_arg0) = m ((c.tc : Thread Cert.KernelFfnOutActIdeal.nD Cert.KernelFfnOutActIdeal.τ).loc Cert.KernelFfnOutActIdeal.main_arg0)
      ∧ m' ((c.tc : Thread Cert.ReferenceFfnOutActIdeal.nD Cert.ReferenceFfnOutActIdeal.τ).loc Cert.ReferenceFfnOutActIdeal.main_arg1) = m ((c.tc : Thread Cert.KernelFfnOutActIdeal.nD Cert.KernelFfnOutActIdeal.τ).loc Cert.KernelFfnOutActIdeal.main_arg1)
      ∧ m' ((c.tc : Thread Cert.ReferenceFfnOutActIdeal.nD Cert.ReferenceFfnOutActIdeal.τ).loc Cert.ReferenceFfnOutActIdeal.main_arg2) = m ((c.tc : Thread Cert.KernelFfnOutActIdeal.nD Cert.KernelFfnOutActIdeal.τ).loc Cert.KernelFfnOutActIdeal.main_arg2)
      ∧ m' ((c.tc : Thread Cert.ReferenceFfnOutActIdeal.nD Cert.ReferenceFfnOutActIdeal.τ).loc Cert.ReferenceFfnOutActIdeal.main_arg3) = m ((c.tc : Thread Cert.KernelFfnOutActIdeal.nD Cert.KernelFfnOutActIdeal.τ).loc Cert.KernelFfnOutActIdeal.main_arg3)) →
    ∃ (v0 : (c : Dev Cert.KernelFfnOutActIdeal.nD) → Buf (Elt Ideal) ((c.tc : Thread Cert.KernelFfnOutActIdeal.nD Cert.KernelFfnOutActIdeal.τ).loc Cert.KernelFfnOutActIdeal.main_v1)),
      θ_run (Cert.KernelFfnOutActIdeal.defs (F := Ideal)) (onTc (τ := Cert.KernelFfnOutActIdeal.τ) (Cert.KernelFfnOutActIdeal.main (F := Ideal))) ⟨m, fun _ => 0, g⟩ (fun r => ∀ c : Dev Cert.KernelFfnOutActIdeal.nD,
          r.2.mem ((c.tc : Thread Cert.KernelFfnOutActIdeal.nD Cert.KernelFfnOutActIdeal.τ).loc Cert.KernelFfnOutActIdeal.main_v1) = v0 c
          ∧ r.2.mem ((c.tc : Thread Cert.KernelFfnOutActIdeal.nD Cert.KernelFfnOutActIdeal.τ).loc Cert.KernelFfnOutActIdeal.main_arg0) = m ((c.tc : Thread Cert.KernelFfnOutActIdeal.nD Cert.KernelFfnOutActIdeal.τ).loc Cert.KernelFfnOutActIdeal.main_arg0)
          ∧ r.2.mem ((c.tc : Thread Cert.KernelFfnOutActIdeal.nD Cert.KernelFfnOutActIdeal.τ).loc Cert.KernelFfnOutActIdeal.main_arg1) = m ((c.tc : Thread Cert.KernelFfnOutActIdeal.nD Cert.KernelFfnOutActIdeal.τ).loc Cert.KernelFfnOutActIdeal.main_arg1)
          ∧ r.2.mem ((c.tc : Thread Cert.KernelFfnOutActIdeal.nD Cert.KernelFfnOutActIdeal.τ).loc Cert.KernelFfnOutActIdeal.main_arg2) = m ((c.tc : Thread Cert.KernelFfnOutActIdeal.nD Cert.KernelFfnOutActIdeal.τ).loc Cert.KernelFfnOutActIdeal.main_arg2)
          ∧ r.2.mem ((c.tc : Thread Cert.KernelFfnOutActIdeal.nD Cert.KernelFfnOutActIdeal.τ).loc Cert.KernelFfnOutActIdeal.main_arg3) = m ((c.tc : Thread Cert.KernelFfnOutActIdeal.nD Cert.KernelFfnOutActIdeal.τ).loc Cert.KernelFfnOutActIdeal.main_arg3))
      ∧ θ_run (Cert.ReferenceFfnOutActIdeal.defs (F := Ideal)) (onTc (τ := Cert.ReferenceFfnOutActIdeal.τ) (Cert.ReferenceFfnOutActIdeal.main (F := Ideal))) ⟨m', fun _ => 0, g'⟩ (fun r => ∀ c : Dev Cert.ReferenceFfnOutActIdeal.nD,
          r.2.mem ((c.tc : Thread Cert.ReferenceFfnOutActIdeal.nD Cert.ReferenceFfnOutActIdeal.τ).loc Cert.ReferenceFfnOutActIdeal.main_v15) = v0 c
          ∧ r.2.mem ((c.tc : Thread Cert.ReferenceFfnOutActIdeal.nD Cert.ReferenceFfnOutActIdeal.τ).loc Cert.ReferenceFfnOutActIdeal.main_arg0) = m' ((c.tc : Thread Cert.ReferenceFfnOutActIdeal.nD Cert.ReferenceFfnOutActIdeal.τ).loc Cert.ReferenceFfnOutActIdeal.main_arg0)
          ∧ r.2.mem ((c.tc : Thread Cert.ReferenceFfnOutActIdeal.nD Cert.ReferenceFfnOutActIdeal.τ).loc Cert.ReferenceFfnOutActIdeal.main_arg1) = m' ((c.tc : Thread Cert.ReferenceFfnOutActIdeal.nD Cert.ReferenceFfnOutActIdeal.τ).loc Cert.ReferenceFfnOutActIdeal.main_arg1)
          ∧ r.2.mem ((c.tc : Thread Cert.ReferenceFfnOutActIdeal.nD Cert.ReferenceFfnOutActIdeal.τ).loc Cert.ReferenceFfnOutActIdeal.main_arg2) = m' ((c.tc : Thread Cert.ReferenceFfnOutActIdeal.nD Cert.ReferenceFfnOutActIdeal.τ).loc Cert.ReferenceFfnOutActIdeal.main_arg2)
          ∧ r.2.mem ((c.tc : Thread Cert.ReferenceFfnOutActIdeal.nD Cert.ReferenceFfnOutActIdeal.τ).loc Cert.ReferenceFfnOutActIdeal.main_arg3) = m' ((c.tc : Thread Cert.ReferenceFfnOutActIdeal.nD Cert.ReferenceFfnOutActIdeal.τ).loc Cert.ReferenceFfnOutActIdeal.main_arg3))

def preserves_KernelNormMix_KernelNormMixIdeal : Prop :=
  True

def algebraic_KernelNormMixIdeal_ReferenceNormMixIdeal [hKernelNormMixIdeal : Cert.KernelNormMixIdeal.Facts] [hReferenceNormMixIdeal : Cert.ReferenceNormMixIdeal.Facts] : Prop :=
  ∀ (m : (ℓ : Loc Cert.KernelNormMixIdeal.nD Cert.KernelNormMixIdeal.τ Cert.KernelNormMixIdeal.sig) → Buf (Elt Ideal) ℓ) (g : Dev Cert.KernelNormMixIdeal.nD → PrngReg)
    (m' : (ℓ : Loc Cert.ReferenceNormMixIdeal.nD Cert.ReferenceNormMixIdeal.τ Cert.ReferenceNormMixIdeal.sig) → Buf (Elt Ideal) ℓ) (g' : Dev Cert.ReferenceNormMixIdeal.nD → PrngReg), Pre_KernelNormMixIdeal m →
    (∀ c : Dev Cert.KernelNormMixIdeal.nD,
      m' ((c.tc : Thread Cert.ReferenceNormMixIdeal.nD Cert.ReferenceNormMixIdeal.τ).loc Cert.ReferenceNormMixIdeal.main_arg0) = m ((c.tc : Thread Cert.KernelNormMixIdeal.nD Cert.KernelNormMixIdeal.τ).loc Cert.KernelNormMixIdeal.main_arg0)
      ∧ m' ((c.tc : Thread Cert.ReferenceNormMixIdeal.nD Cert.ReferenceNormMixIdeal.τ).loc Cert.ReferenceNormMixIdeal.main_arg1) = m ((c.tc : Thread Cert.KernelNormMixIdeal.nD Cert.KernelNormMixIdeal.τ).loc Cert.KernelNormMixIdeal.main_arg1)) →
    ∃ (v0 : (c : Dev Cert.KernelNormMixIdeal.nD) → Buf (Elt Ideal) ((c.tc : Thread Cert.KernelNormMixIdeal.nD Cert.KernelNormMixIdeal.τ).loc Cert.KernelNormMixIdeal.main_v0_0)) (v1 : (c : Dev Cert.KernelNormMixIdeal.nD) → Buf (Elt Ideal) ((c.tc : Thread Cert.KernelNormMixIdeal.nD Cert.KernelNormMixIdeal.τ).loc Cert.KernelNormMixIdeal.main_v0_1)),
      θ_run (Cert.KernelNormMixIdeal.defs (F := Ideal)) (onTc (τ := Cert.KernelNormMixIdeal.τ) (Cert.KernelNormMixIdeal.main (F := Ideal))) ⟨m, fun _ => 0, g⟩ (fun r => ∀ c : Dev Cert.KernelNormMixIdeal.nD,
          r.2.mem ((c.tc : Thread Cert.KernelNormMixIdeal.nD Cert.KernelNormMixIdeal.τ).loc Cert.KernelNormMixIdeal.main_v0_0) = v0 c
          ∧ r.2.mem ((c.tc : Thread Cert.KernelNormMixIdeal.nD Cert.KernelNormMixIdeal.τ).loc Cert.KernelNormMixIdeal.main_v0_1) = v1 c
          ∧ r.2.mem ((c.tc : Thread Cert.KernelNormMixIdeal.nD Cert.KernelNormMixIdeal.τ).loc Cert.KernelNormMixIdeal.main_arg0) = m ((c.tc : Thread Cert.KernelNormMixIdeal.nD Cert.KernelNormMixIdeal.τ).loc Cert.KernelNormMixIdeal.main_arg0)
          ∧ r.2.mem ((c.tc : Thread Cert.KernelNormMixIdeal.nD Cert.KernelNormMixIdeal.τ).loc Cert.KernelNormMixIdeal.main_arg1) = m ((c.tc : Thread Cert.KernelNormMixIdeal.nD Cert.KernelNormMixIdeal.τ).loc Cert.KernelNormMixIdeal.main_arg1))
      ∧ θ_run (Cert.ReferenceNormMixIdeal.defs (F := Ideal)) (onTc (τ := Cert.ReferenceNormMixIdeal.τ) (Cert.ReferenceNormMixIdeal.main (F := Ideal))) ⟨m', fun _ => 0, g'⟩ (fun r => ∀ c : Dev Cert.ReferenceNormMixIdeal.nD,
          r.2.mem ((c.tc : Thread Cert.ReferenceNormMixIdeal.nD Cert.ReferenceNormMixIdeal.τ).loc Cert.ReferenceNormMixIdeal.main_v14) = v0 c
          ∧ r.2.mem ((c.tc : Thread Cert.ReferenceNormMixIdeal.nD Cert.ReferenceNormMixIdeal.τ).loc Cert.ReferenceNormMixIdeal.main_v16) = v1 c
          ∧ r.2.mem ((c.tc : Thread Cert.ReferenceNormMixIdeal.nD Cert.ReferenceNormMixIdeal.τ).loc Cert.ReferenceNormMixIdeal.main_arg0) = m' ((c.tc : Thread Cert.ReferenceNormMixIdeal.nD Cert.ReferenceNormMixIdeal.τ).loc Cert.ReferenceNormMixIdeal.main_arg0)
          ∧ r.2.mem ((c.tc : Thread Cert.ReferenceNormMixIdeal.nD Cert.ReferenceNormMixIdeal.τ).loc Cert.ReferenceNormMixIdeal.main_arg1) = m' ((c.tc : Thread Cert.ReferenceNormMixIdeal.nD Cert.ReferenceNormMixIdeal.τ).loc Cert.ReferenceNormMixIdeal.main_arg1))

def preserves_KernelNormMemFwd_KernelNormMemFwdIdeal : Prop :=
  True

def algebraic_KernelNormMemFwdIdeal_ReferenceNormMemFwdIdeal [hKernelNormMemFwdIdeal : Cert.KernelNormMemFwdIdeal.Facts] [hReferenceNormMemFwdIdeal : Cert.ReferenceNormMemFwdIdeal.Facts] : Prop :=
  ∀ (m : (ℓ : Loc Cert.KernelNormMemFwdIdeal.nD Cert.KernelNormMemFwdIdeal.τ Cert.KernelNormMemFwdIdeal.sig) → Buf (Elt Ideal) ℓ) (g : Dev Cert.KernelNormMemFwdIdeal.nD → PrngReg)
    (m' : (ℓ : Loc Cert.ReferenceNormMemFwdIdeal.nD Cert.ReferenceNormMemFwdIdeal.τ Cert.ReferenceNormMemFwdIdeal.sig) → Buf (Elt Ideal) ℓ) (g' : Dev Cert.ReferenceNormMemFwdIdeal.nD → PrngReg), Pre_KernelNormMemFwdIdeal m →
    (∀ c : Dev Cert.KernelNormMemFwdIdeal.nD,
      m' ((c.tc : Thread Cert.ReferenceNormMemFwdIdeal.nD Cert.ReferenceNormMemFwdIdeal.τ).loc Cert.ReferenceNormMemFwdIdeal.main_arg0) = m ((c.tc : Thread Cert.KernelNormMemFwdIdeal.nD Cert.KernelNormMemFwdIdeal.τ).loc Cert.KernelNormMemFwdIdeal.main_arg0)
      ∧ m' ((c.tc : Thread Cert.ReferenceNormMemFwdIdeal.nD Cert.ReferenceNormMemFwdIdeal.τ).loc Cert.ReferenceNormMemFwdIdeal.main_arg1) = m ((c.tc : Thread Cert.KernelNormMemFwdIdeal.nD Cert.KernelNormMemFwdIdeal.τ).loc Cert.KernelNormMemFwdIdeal.main_arg1)) →
    ∃ (v0 : (c : Dev Cert.KernelNormMemFwdIdeal.nD) → Buf (Elt Ideal) ((c.tc : Thread Cert.KernelNormMemFwdIdeal.nD Cert.KernelNormMemFwdIdeal.τ).loc Cert.KernelNormMemFwdIdeal.main_v0)),
      θ_run (Cert.KernelNormMemFwdIdeal.defs (F := Ideal)) (onTc (τ := Cert.KernelNormMemFwdIdeal.τ) (Cert.KernelNormMemFwdIdeal.main (F := Ideal))) ⟨m, fun _ => 0, g⟩ (fun r => ∀ c : Dev Cert.KernelNormMemFwdIdeal.nD,
          r.2.mem ((c.tc : Thread Cert.KernelNormMemFwdIdeal.nD Cert.KernelNormMemFwdIdeal.τ).loc Cert.KernelNormMemFwdIdeal.main_v0) = v0 c
          ∧ r.2.mem ((c.tc : Thread Cert.KernelNormMemFwdIdeal.nD Cert.KernelNormMemFwdIdeal.τ).loc Cert.KernelNormMemFwdIdeal.main_arg0) = m ((c.tc : Thread Cert.KernelNormMemFwdIdeal.nD Cert.KernelNormMemFwdIdeal.τ).loc Cert.KernelNormMemFwdIdeal.main_arg0)
          ∧ r.2.mem ((c.tc : Thread Cert.KernelNormMemFwdIdeal.nD Cert.KernelNormMemFwdIdeal.τ).loc Cert.KernelNormMemFwdIdeal.main_arg1) = m ((c.tc : Thread Cert.KernelNormMemFwdIdeal.nD Cert.KernelNormMemFwdIdeal.τ).loc Cert.KernelNormMemFwdIdeal.main_arg1))
      ∧ θ_run (Cert.ReferenceNormMemFwdIdeal.defs (F := Ideal)) (onTc (τ := Cert.ReferenceNormMemFwdIdeal.τ) (Cert.ReferenceNormMemFwdIdeal.main (F := Ideal))) ⟨m', fun _ => 0, g'⟩ (fun r => ∀ c : Dev Cert.ReferenceNormMemFwdIdeal.nD,
          r.2.mem ((c.tc : Thread Cert.ReferenceNormMemFwdIdeal.nD Cert.ReferenceNormMemFwdIdeal.τ).loc Cert.ReferenceNormMemFwdIdeal.main_v14) = v0 c
          ∧ r.2.mem ((c.tc : Thread Cert.ReferenceNormMemFwdIdeal.nD Cert.ReferenceNormMemFwdIdeal.τ).loc Cert.ReferenceNormMemFwdIdeal.main_arg0) = m' ((c.tc : Thread Cert.ReferenceNormMemFwdIdeal.nD Cert.ReferenceNormMemFwdIdeal.τ).loc Cert.ReferenceNormMemFwdIdeal.main_arg0)
          ∧ r.2.mem ((c.tc : Thread Cert.ReferenceNormMemFwdIdeal.nD Cert.ReferenceNormMemFwdIdeal.τ).loc Cert.ReferenceNormMemFwdIdeal.main_arg1) = m' ((c.tc : Thread Cert.ReferenceNormMemFwdIdeal.nD Cert.ReferenceNormMemFwdIdeal.τ).loc Cert.ReferenceNormMemFwdIdeal.main_arg1))

def preserves_KernelMemKv_KernelMemKvIdeal : Prop :=
  True

def algebraic_KernelMemKvIdeal_ReferenceMemKvIdeal [hKernelMemKvIdeal : Cert.KernelMemKvIdeal.Facts] [hReferenceMemKvIdeal : Cert.ReferenceMemKvIdeal.Facts] : Prop :=
  ∀ (m : (ℓ : Loc Cert.KernelMemKvIdeal.nD Cert.KernelMemKvIdeal.τ Cert.KernelMemKvIdeal.sig) → Buf (Elt Ideal) ℓ) (g : Dev Cert.KernelMemKvIdeal.nD → PrngReg)
    (m' : (ℓ : Loc Cert.ReferenceMemKvIdeal.nD Cert.ReferenceMemKvIdeal.τ Cert.ReferenceMemKvIdeal.sig) → Buf (Elt Ideal) ℓ) (g' : Dev Cert.ReferenceMemKvIdeal.nD → PrngReg), Pre_KernelMemKvIdeal m →
    (∀ c : Dev Cert.KernelMemKvIdeal.nD,
      m' ((c.tc : Thread Cert.ReferenceMemKvIdeal.nD Cert.ReferenceMemKvIdeal.τ).loc Cert.ReferenceMemKvIdeal.main_arg0) = m ((c.tc : Thread Cert.KernelMemKvIdeal.nD Cert.KernelMemKvIdeal.τ).loc Cert.KernelMemKvIdeal.main_arg0)
      ∧ m' ((c.tc : Thread Cert.ReferenceMemKvIdeal.nD Cert.ReferenceMemKvIdeal.τ).loc Cert.ReferenceMemKvIdeal.main_arg1) = m ((c.tc : Thread Cert.KernelMemKvIdeal.nD Cert.KernelMemKvIdeal.τ).loc Cert.KernelMemKvIdeal.main_arg1)) →
    ∃ (v0 : (c : Dev Cert.KernelMemKvIdeal.nD) → Buf (Elt Ideal) ((c.tc : Thread Cert.KernelMemKvIdeal.nD Cert.KernelMemKvIdeal.τ).loc Cert.KernelMemKvIdeal.main_v1)),
      θ_run (Cert.KernelMemKvIdeal.defs (F := Ideal)) (onTc (τ := Cert.KernelMemKvIdeal.τ) (Cert.KernelMemKvIdeal.main (F := Ideal))) ⟨m, fun _ => 0, g⟩ (fun r => ∀ c : Dev Cert.KernelMemKvIdeal.nD,
          r.2.mem ((c.tc : Thread Cert.KernelMemKvIdeal.nD Cert.KernelMemKvIdeal.τ).loc Cert.KernelMemKvIdeal.main_v1) = v0 c
          ∧ r.2.mem ((c.tc : Thread Cert.KernelMemKvIdeal.nD Cert.KernelMemKvIdeal.τ).loc Cert.KernelMemKvIdeal.main_arg0) = m ((c.tc : Thread Cert.KernelMemKvIdeal.nD Cert.KernelMemKvIdeal.τ).loc Cert.KernelMemKvIdeal.main_arg0)
          ∧ r.2.mem ((c.tc : Thread Cert.KernelMemKvIdeal.nD Cert.KernelMemKvIdeal.τ).loc Cert.KernelMemKvIdeal.main_arg1) = m ((c.tc : Thread Cert.KernelMemKvIdeal.nD Cert.KernelMemKvIdeal.τ).loc Cert.KernelMemKvIdeal.main_arg1))
      ∧ θ_run (Cert.ReferenceMemKvIdeal.defs (F := Ideal)) (onTc (τ := Cert.ReferenceMemKvIdeal.τ) (Cert.ReferenceMemKvIdeal.main (F := Ideal))) ⟨m', fun _ => 0, g'⟩ (fun r => ∀ c : Dev Cert.ReferenceMemKvIdeal.nD,
          r.2.mem ((c.tc : Thread Cert.ReferenceMemKvIdeal.nD Cert.ReferenceMemKvIdeal.τ).loc Cert.ReferenceMemKvIdeal.main_v1) = v0 c
          ∧ r.2.mem ((c.tc : Thread Cert.ReferenceMemKvIdeal.nD Cert.ReferenceMemKvIdeal.τ).loc Cert.ReferenceMemKvIdeal.main_arg0) = m' ((c.tc : Thread Cert.ReferenceMemKvIdeal.nD Cert.ReferenceMemKvIdeal.τ).loc Cert.ReferenceMemKvIdeal.main_arg0)
          ∧ r.2.mem ((c.tc : Thread Cert.ReferenceMemKvIdeal.nD Cert.ReferenceMemKvIdeal.τ).loc Cert.ReferenceMemKvIdeal.main_arg1) = m' ((c.tc : Thread Cert.ReferenceMemKvIdeal.nD Cert.ReferenceMemKvIdeal.τ).loc Cert.ReferenceMemKvIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)) →
    ∃ (v0 : (c : Dev Cert.KernelMergeIdeal.nD) → Buf (Elt Ideal) ((c.tc : Thread Cert.KernelMergeIdeal.nD Cert.KernelMergeIdeal.τ).loc Cert.KernelMergeIdeal.main_v3_0)) (v1 : (c : Dev Cert.KernelMergeIdeal.nD) → Buf (Elt Ideal) ((c.tc : Thread Cert.KernelMergeIdeal.nD Cert.KernelMergeIdeal.τ).loc Cert.KernelMergeIdeal.main_v3_1)) (v2 : (c : Dev Cert.KernelMergeIdeal.nD) → Buf (Elt Ideal) ((c.tc : Thread Cert.KernelMergeIdeal.nD Cert.KernelMergeIdeal.τ).loc Cert.KernelMergeIdeal.main_v3_2)) (v3 : (c : Dev Cert.KernelMergeIdeal.nD) → Buf (Elt Ideal) ((c.tc : Thread Cert.KernelMergeIdeal.nD Cert.KernelMergeIdeal.τ).loc Cert.KernelMergeIdeal.main_v3_3)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v3_0) = v0 c
          ∧ r.2.mem ((c.tc : Thread Cert.KernelMergeIdeal.nD Cert.KernelMergeIdeal.τ).loc Cert.KernelMergeIdeal.main_v3_1) = v1 c
          ∧ r.2.mem ((c.tc : Thread Cert.KernelMergeIdeal.nD Cert.KernelMergeIdeal.τ).loc Cert.KernelMergeIdeal.main_v3_2) = v2 c
          ∧ r.2.mem ((c.tc : Thread Cert.KernelMergeIdeal.nD Cert.KernelMergeIdeal.τ).loc Cert.KernelMergeIdeal.main_v3_3) = v3 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v33) = v0 c
          ∧ r.2.mem ((c.tc : Thread Cert.ReferenceMergeIdeal.nD Cert.ReferenceMergeIdeal.τ).loc Cert.ReferenceMergeIdeal.main_v34) = v1 c
          ∧ r.2.mem ((c.tc : Thread Cert.ReferenceMergeIdeal.nD Cert.ReferenceMergeIdeal.τ).loc Cert.ReferenceMergeIdeal.main_v35) = v2 c
          ∧ r.2.mem ((c.tc : Thread Cert.ReferenceMergeIdeal.nD Cert.ReferenceMergeIdeal.τ).loc Cert.ReferenceMergeIdeal.main_v36) = v3 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6))

def preserves_KernelOutNorm_KernelOutNormIdeal : Prop :=
  True

def algebraic_KernelOutNormIdeal_ReferenceOutNormIdeal [hKernelOutNormIdeal : Cert.KernelOutNormIdeal.Facts] [hReferenceOutNormIdeal : Cert.ReferenceOutNormIdeal.Facts] : Prop :=
  ∀ (m : (ℓ : Loc Cert.KernelOutNormIdeal.nD Cert.KernelOutNormIdeal.τ Cert.KernelOutNormIdeal.sig) → Buf (Elt Ideal) ℓ) (g : Dev Cert.KernelOutNormIdeal.nD → PrngReg)
    (m' : (ℓ : Loc Cert.ReferenceOutNormIdeal.nD Cert.ReferenceOutNormIdeal.τ Cert.ReferenceOutNormIdeal.sig) → Buf (Elt Ideal) ℓ) (g' : Dev Cert.ReferenceOutNormIdeal.nD → PrngReg), Pre_KernelOutNormIdeal m →
    (∀ c : Dev Cert.KernelOutNormIdeal.nD,
      m' ((c.tc : Thread Cert.ReferenceOutNormIdeal.nD Cert.ReferenceOutNormIdeal.τ).loc Cert.ReferenceOutNormIdeal.main_arg0) = m ((c.tc : Thread Cert.KernelOutNormIdeal.nD Cert.KernelOutNormIdeal.τ).loc Cert.KernelOutNormIdeal.main_arg0)
      ∧ m' ((c.tc : Thread Cert.ReferenceOutNormIdeal.nD Cert.ReferenceOutNormIdeal.τ).loc Cert.ReferenceOutNormIdeal.main_arg1) = m ((c.tc : Thread Cert.KernelOutNormIdeal.nD Cert.KernelOutNormIdeal.τ).loc Cert.KernelOutNormIdeal.main_arg1)
      ∧ m' ((c.tc : Thread Cert.ReferenceOutNormIdeal.nD Cert.ReferenceOutNormIdeal.τ).loc Cert.ReferenceOutNormIdeal.main_arg2) = m ((c.tc : Thread Cert.KernelOutNormIdeal.nD Cert.KernelOutNormIdeal.τ).loc Cert.KernelOutNormIdeal.main_arg2)
      ∧ m' ((c.tc : Thread Cert.ReferenceOutNormIdeal.nD Cert.ReferenceOutNormIdeal.τ).loc Cert.ReferenceOutNormIdeal.main_arg3) = m ((c.tc : Thread Cert.KernelOutNormIdeal.nD Cert.KernelOutNormIdeal.τ).loc Cert.KernelOutNormIdeal.main_arg3)) →
    ∃ (v0 : (c : Dev Cert.KernelOutNormIdeal.nD) → Buf (Elt Ideal) ((c.tc : Thread Cert.KernelOutNormIdeal.nD Cert.KernelOutNormIdeal.τ).loc Cert.KernelOutNormIdeal.main_v1_0)) (v1 : (c : Dev Cert.KernelOutNormIdeal.nD) → Buf (Elt Ideal) ((c.tc : Thread Cert.KernelOutNormIdeal.nD Cert.KernelOutNormIdeal.τ).loc Cert.KernelOutNormIdeal.main_v1_1)) (v2 : (c : Dev Cert.KernelOutNormIdeal.nD) → Buf (Elt Ideal) ((c.tc : Thread Cert.KernelOutNormIdeal.nD Cert.KernelOutNormIdeal.τ).loc Cert.KernelOutNormIdeal.main_v1_2)),
      θ_run (Cert.KernelOutNormIdeal.defs (F := Ideal)) (onTc (τ := Cert.KernelOutNormIdeal.τ) (Cert.KernelOutNormIdeal.main (F := Ideal))) ⟨m, fun _ => 0, g⟩ (fun r => ∀ c : Dev Cert.KernelOutNormIdeal.nD,
          r.2.mem ((c.tc : Thread Cert.KernelOutNormIdeal.nD Cert.KernelOutNormIdeal.τ).loc Cert.KernelOutNormIdeal.main_v1_0) = v0 c
          ∧ r.2.mem ((c.tc : Thread Cert.KernelOutNormIdeal.nD Cert.KernelOutNormIdeal.τ).loc Cert.KernelOutNormIdeal.main_v1_1) = v1 c
          ∧ r.2.mem ((c.tc : Thread Cert.KernelOutNormIdeal.nD Cert.KernelOutNormIdeal.τ).loc Cert.KernelOutNormIdeal.main_v1_2) = v2 c
          ∧ r.2.mem ((c.tc : Thread Cert.KernelOutNormIdeal.nD Cert.KernelOutNormIdeal.τ).loc Cert.KernelOutNormIdeal.main_arg0) = m ((c.tc : Thread Cert.KernelOutNormIdeal.nD Cert.KernelOutNormIdeal.τ).loc Cert.KernelOutNormIdeal.main_arg0)
          ∧ r.2.mem ((c.tc : Thread Cert.KernelOutNormIdeal.nD Cert.KernelOutNormIdeal.τ).loc Cert.KernelOutNormIdeal.main_arg1) = m ((c.tc : Thread Cert.KernelOutNormIdeal.nD Cert.KernelOutNormIdeal.τ).loc Cert.KernelOutNormIdeal.main_arg1)
          ∧ r.2.mem ((c.tc : Thread Cert.KernelOutNormIdeal.nD Cert.KernelOutNormIdeal.τ).loc Cert.KernelOutNormIdeal.main_arg2) = m ((c.tc : Thread Cert.KernelOutNormIdeal.nD Cert.KernelOutNormIdeal.τ).loc Cert.KernelOutNormIdeal.main_arg2)
          ∧ r.2.mem ((c.tc : Thread Cert.KernelOutNormIdeal.nD Cert.KernelOutNormIdeal.τ).loc Cert.KernelOutNormIdeal.main_arg3) = m ((c.tc : Thread Cert.KernelOutNormIdeal.nD Cert.KernelOutNormIdeal.τ).loc Cert.KernelOutNormIdeal.main_arg3))
      ∧ θ_run (Cert.ReferenceOutNormIdeal.defs (F := Ideal)) (onTc (τ := Cert.ReferenceOutNormIdeal.τ) (Cert.ReferenceOutNormIdeal.main (F := Ideal))) ⟨m', fun _ => 0, g'⟩ (fun r => ∀ c : Dev Cert.ReferenceOutNormIdeal.nD,
          r.2.mem ((c.tc : Thread Cert.ReferenceOutNormIdeal.nD Cert.ReferenceOutNormIdeal.τ).loc Cert.ReferenceOutNormIdeal.main_v2) = v0 c
          ∧ r.2.mem ((c.tc : Thread Cert.ReferenceOutNormIdeal.nD Cert.ReferenceOutNormIdeal.τ).loc Cert.ReferenceOutNormIdeal.main_v17) = v1 c
          ∧ r.2.mem ((c.tc : Thread Cert.ReferenceOutNormIdeal.nD Cert.ReferenceOutNormIdeal.τ).loc Cert.ReferenceOutNormIdeal.main_v19) = v2 c
          ∧ r.2.mem ((c.tc : Thread Cert.ReferenceOutNormIdeal.nD Cert.ReferenceOutNormIdeal.τ).loc Cert.ReferenceOutNormIdeal.main_arg0) = m' ((c.tc : Thread Cert.ReferenceOutNormIdeal.nD Cert.ReferenceOutNormIdeal.τ).loc Cert.ReferenceOutNormIdeal.main_arg0)
          ∧ r.2.mem ((c.tc : Thread Cert.ReferenceOutNormIdeal.nD Cert.ReferenceOutNormIdeal.τ).loc Cert.ReferenceOutNormIdeal.main_arg1) = m' ((c.tc : Thread Cert.ReferenceOutNormIdeal.nD Cert.ReferenceOutNormIdeal.τ).loc Cert.ReferenceOutNormIdeal.main_arg1)
          ∧ r.2.mem ((c.tc : Thread Cert.ReferenceOutNormIdeal.nD Cert.ReferenceOutNormIdeal.τ).loc Cert.ReferenceOutNormIdeal.main_arg2) = m' ((c.tc : Thread Cert.ReferenceOutNormIdeal.nD Cert.ReferenceOutNormIdeal.τ).loc Cert.ReferenceOutNormIdeal.main_arg2)
          ∧ r.2.mem ((c.tc : Thread Cert.ReferenceOutNormIdeal.nD Cert.ReferenceOutNormIdeal.τ).loc Cert.ReferenceOutNormIdeal.main_arg3) = m' ((c.tc : Thread Cert.ReferenceOutNormIdeal.nD Cert.ReferenceOutNormIdeal.τ).loc Cert.ReferenceOutNormIdeal.main_arg3))

def preserves_KernelMemFwd_KernelMemFwdIdeal : Prop :=
  True

def algebraic_KernelMemFwdIdeal_ReferenceMemFwdIdeal [hKernelMemFwdIdeal : Cert.KernelMemFwdIdeal.Facts] [hReferenceMemFwdIdeal : Cert.ReferenceMemFwdIdeal.Facts] : Prop :=
  ∀ (m : (ℓ : Loc Cert.KernelMemFwdIdeal.nD Cert.KernelMemFwdIdeal.τ Cert.KernelMemFwdIdeal.sig) → Buf (Elt Ideal) ℓ) (g : Dev Cert.KernelMemFwdIdeal.nD → PrngReg)
    (m' : (ℓ : Loc Cert.ReferenceMemFwdIdeal.nD Cert.ReferenceMemFwdIdeal.τ Cert.ReferenceMemFwdIdeal.sig) → Buf (Elt Ideal) ℓ) (g' : Dev Cert.ReferenceMemFwdIdeal.nD → PrngReg), Pre_KernelMemFwdIdeal m →
    (∀ c : Dev Cert.KernelMemFwdIdeal.nD,
      m' ((c.tc : Thread Cert.ReferenceMemFwdIdeal.nD Cert.ReferenceMemFwdIdeal.τ).loc Cert.ReferenceMemFwdIdeal.main_arg0) = m ((c.tc : Thread Cert.KernelMemFwdIdeal.nD Cert.KernelMemFwdIdeal.τ).loc Cert.KernelMemFwdIdeal.main_arg0)
      ∧ m' ((c.tc : Thread Cert.ReferenceMemFwdIdeal.nD Cert.ReferenceMemFwdIdeal.τ).loc Cert.ReferenceMemFwdIdeal.main_arg1) = m ((c.tc : Thread Cert.KernelMemFwdIdeal.nD Cert.KernelMemFwdIdeal.τ).loc Cert.KernelMemFwdIdeal.main_arg1)
      ∧ m' ((c.tc : Thread Cert.ReferenceMemFwdIdeal.nD Cert.ReferenceMemFwdIdeal.τ).loc Cert.ReferenceMemFwdIdeal.main_arg2) = m ((c.tc : Thread Cert.KernelMemFwdIdeal.nD Cert.KernelMemFwdIdeal.τ).loc Cert.KernelMemFwdIdeal.main_arg2)
      ∧ m' ((c.tc : Thread Cert.ReferenceMemFwdIdeal.nD Cert.ReferenceMemFwdIdeal.τ).loc Cert.ReferenceMemFwdIdeal.main_arg3) = m ((c.tc : Thread Cert.KernelMemFwdIdeal.nD Cert.KernelMemFwdIdeal.τ).loc Cert.KernelMemFwdIdeal.main_arg3)) →
    ∃ (v0 : (c : Dev Cert.KernelMemFwdIdeal.nD) → Buf (Elt Ideal) ((c.tc : Thread Cert.KernelMemFwdIdeal.nD Cert.KernelMemFwdIdeal.τ).loc Cert.KernelMemFwdIdeal.main_v0)),
      θ_run (Cert.KernelMemFwdIdeal.defs (F := Ideal)) (onTc (τ := Cert.KernelMemFwdIdeal.τ) (Cert.KernelMemFwdIdeal.main (F := Ideal))) ⟨m, fun _ => 0, g⟩ (fun r => ∀ c : Dev Cert.KernelMemFwdIdeal.nD,
          r.2.mem ((c.tc : Thread Cert.KernelMemFwdIdeal.nD Cert.KernelMemFwdIdeal.τ).loc Cert.KernelMemFwdIdeal.main_v0) = v0 c
          ∧ r.2.mem ((c.tc : Thread Cert.KernelMemFwdIdeal.nD Cert.KernelMemFwdIdeal.τ).loc Cert.KernelMemFwdIdeal.main_arg0) = m ((c.tc : Thread Cert.KernelMemFwdIdeal.nD Cert.KernelMemFwdIdeal.τ).loc Cert.KernelMemFwdIdeal.main_arg0)
          ∧ r.2.mem ((c.tc : Thread Cert.KernelMemFwdIdeal.nD Cert.KernelMemFwdIdeal.τ).loc Cert.KernelMemFwdIdeal.main_arg1) = m ((c.tc : Thread Cert.KernelMemFwdIdeal.nD Cert.KernelMemFwdIdeal.τ).loc Cert.KernelMemFwdIdeal.main_arg1)
          ∧ r.2.mem ((c.tc : Thread Cert.KernelMemFwdIdeal.nD Cert.KernelMemFwdIdeal.τ).loc Cert.KernelMemFwdIdeal.main_arg2) = m ((c.tc : Thread Cert.KernelMemFwdIdeal.nD Cert.KernelMemFwdIdeal.τ).loc Cert.KernelMemFwdIdeal.main_arg2)
          ∧ r.2.mem ((c.tc : Thread Cert.KernelMemFwdIdeal.nD Cert.KernelMemFwdIdeal.τ).loc Cert.KernelMemFwdIdeal.main_arg3) = m ((c.tc : Thread Cert.KernelMemFwdIdeal.nD Cert.KernelMemFwdIdeal.τ).loc Cert.KernelMemFwdIdeal.main_arg3))
      ∧ θ_run (Cert.ReferenceMemFwdIdeal.defs (F := Ideal)) (onTc (τ := Cert.ReferenceMemFwdIdeal.τ) (Cert.ReferenceMemFwdIdeal.main (F := Ideal))) ⟨m', fun _ => 0, g'⟩ (fun r => ∀ c : Dev Cert.ReferenceMemFwdIdeal.nD,
          r.2.mem ((c.tc : Thread Cert.ReferenceMemFwdIdeal.nD Cert.ReferenceMemFwdIdeal.τ).loc Cert.ReferenceMemFwdIdeal.main_v51) = v0 c
          ∧ r.2.mem ((c.tc : Thread Cert.ReferenceMemFwdIdeal.nD Cert.ReferenceMemFwdIdeal.τ).loc Cert.ReferenceMemFwdIdeal.main_arg0) = m' ((c.tc : Thread Cert.ReferenceMemFwdIdeal.nD Cert.ReferenceMemFwdIdeal.τ).loc Cert.ReferenceMemFwdIdeal.main_arg0)
          ∧ r.2.mem ((c.tc : Thread Cert.ReferenceMemFwdIdeal.nD Cert.ReferenceMemFwdIdeal.τ).loc Cert.ReferenceMemFwdIdeal.main_arg1) = m' ((c.tc : Thread Cert.ReferenceMemFwdIdeal.nD Cert.ReferenceMemFwdIdeal.τ).loc Cert.ReferenceMemFwdIdeal.main_arg1)
          ∧ r.2.mem ((c.tc : Thread Cert.ReferenceMemFwdIdeal.nD Cert.ReferenceMemFwdIdeal.τ).loc Cert.ReferenceMemFwdIdeal.main_arg2) = m' ((c.tc : Thread Cert.ReferenceMemFwdIdeal.nD Cert.ReferenceMemFwdIdeal.τ).loc Cert.ReferenceMemFwdIdeal.main_arg2)
          ∧ r.2.mem ((c.tc : Thread Cert.ReferenceMemFwdIdeal.nD Cert.ReferenceMemFwdIdeal.τ).loc Cert.ReferenceMemFwdIdeal.main_arg3) = m' ((c.tc : Thread Cert.ReferenceMemFwdIdeal.nD Cert.ReferenceMemFwdIdeal.τ).loc Cert.ReferenceMemFwdIdeal.main_arg3))

def Claim : Prop :=
  ∃ (hKernel : Cert.Kernel.Facts) (hKernelIdeal : Cert.KernelIdeal.Facts) (hReferenceIdeal : Cert.ReferenceIdeal.Facts) (hKernelProjW : Cert.KernelProjW.Facts) (hKernelProjWIdeal : Cert.KernelProjWIdeal.Facts) (hReferenceProjWIdeal : Cert.ReferenceProjWIdeal.Facts) (hKernelProjBottom : Cert.KernelProjBottom.Facts) (hKernelProjBottomIdeal : Cert.KernelProjBottomIdeal.Facts) (hReferenceProjBottomIdeal : Cert.ReferenceProjBottomIdeal.Facts) (hKernelProjTop : Cert.KernelProjTop.Facts) (hKernelProjTopIdeal : Cert.KernelProjTopIdeal.Facts) (hReferenceProjTopIdeal : Cert.ReferenceProjTopIdeal.Facts) (hKernelProj : Cert.KernelProj.Facts) (hKernelProjIdeal : Cert.KernelProjIdeal.Facts) (hReferenceProjIdeal : Cert.ReferenceProjIdeal.Facts) (hKernelFfnInAct : Cert.KernelFfnInAct.Facts) (hKernelFfnInActIdeal : Cert.KernelFfnInActIdeal.Facts) (hReferenceFfnInActIdeal : Cert.ReferenceFfnInActIdeal.Facts) (hKernelFfnInW : Cert.KernelFfnInW.Facts) (hKernelFfnInWIdeal : Cert.KernelFfnInWIdeal.Facts) (hReferenceFfnInWIdeal : Cert.ReferenceFfnInWIdeal.Facts) (hKernelFfnIn : Cert.KernelFfnIn.Facts) (hKernelFfnInIdeal : Cert.KernelFfnInIdeal.Facts) (hReferenceFfnInIdeal : Cert.ReferenceFfnInIdeal.Facts) (hKernelFfnOutW : Cert.KernelFfnOutW.Facts) (hKernelFfnOutWIdeal : Cert.KernelFfnOutWIdeal.Facts) (hReferenceFfnOutWIdeal : Cert.ReferenceFfnOutWIdeal.Facts) (hKernelOutW : Cert.KernelOutW.Facts) (hKernelOutWIdeal : Cert.KernelOutWIdeal.Facts) (hReferenceOutWIdeal : Cert.ReferenceOutWIdeal.Facts) (hKernelProjHgW : Cert.KernelProjHgW.Facts) (hKernelProjHgWIdeal : Cert.KernelProjHgWIdeal.Facts) (hReferenceProjHgWIdeal : Cert.ReferenceProjHgWIdeal.Facts) (hKernelProjDaW : Cert.KernelProjDaW.Facts) (hKernelProjDaWIdeal : Cert.KernelProjDaWIdeal.Facts) (hReferenceProjDaWIdeal : Cert.ReferenceProjDaWIdeal.Facts) (hKernelProjMemW : Cert.KernelProjMemW.Facts) (hKernelProjMemWIdeal : Cert.KernelProjMemWIdeal.Facts) (hReferenceProjMemWIdeal : Cert.ReferenceProjMemWIdeal.Facts) (hKernelMemKvW : Cert.KernelMemKvW.Facts) (hKernelMemKvWIdeal : Cert.KernelMemKvWIdeal.Facts) (hReferenceMemKvWIdeal : Cert.ReferenceMemKvWIdeal.Facts) (hKernelMemKvAct : Cert.KernelMemKvAct.Facts) (hKernelMemKvActIdeal : Cert.KernelMemKvActIdeal.Facts) (hReferenceMemKvActIdeal : Cert.ReferenceMemKvActIdeal.Facts) (hKernelNormMem : Cert.KernelNormMem.Facts) (hKernelNormMemIdeal : Cert.KernelNormMemIdeal.Facts) (hReferenceNormMemIdeal : Cert.ReferenceNormMemIdeal.Facts) (hKernelAdamwWIn : Cert.KernelAdamwWIn.Facts) (hKernelAdamwWInIdeal : Cert.KernelAdamwWInIdeal.Facts) (hReferenceAdamwWInIdeal : Cert.ReferenceAdamwWInIdeal.Facts) (hKernelAdamwSquare : Cert.KernelAdamwSquare.Facts) (hKernelAdamwSquareIdeal : Cert.KernelAdamwSquareIdeal.Facts) (hReferenceAdamwSquareIdeal : Cert.ReferenceAdamwSquareIdeal.Facts) (hKernelAdamwBranch : Cert.KernelAdamwBranch.Facts) (hKernelAdamwBranchIdeal : Cert.KernelAdamwBranchIdeal.Facts) (hReferenceAdamwBranchIdeal : Cert.ReferenceAdamwBranchIdeal.Facts) (hKernelAdamwFfnIn : Cert.KernelAdamwFfnIn.Facts) (hKernelAdamwFfnInIdeal : Cert.KernelAdamwFfnInIdeal.Facts) (hReferenceAdamwFfnInIdeal : Cert.ReferenceAdamwFfnInIdeal.Facts) (hKernelAdamwFfnOut : Cert.KernelAdamwFfnOut.Facts) (hKernelAdamwFfnOutIdeal : Cert.KernelAdamwFfnOutIdeal.Facts) (hReferenceAdamwFfnOutIdeal : Cert.ReferenceAdamwFfnOutIdeal.Facts) (hKernelFfnOut : Cert.KernelFfnOut.Facts) (hKernelFfnOutIdeal : Cert.KernelFfnOutIdeal.Facts) (hReferenceFfnOutIdeal : Cert.ReferenceFfnOutIdeal.Facts) (hKernelFfnOutAct : Cert.KernelFfnOutAct.Facts) (hKernelFfnOutActIdeal : Cert.KernelFfnOutActIdeal.Facts) (hReferenceFfnOutActIdeal : Cert.ReferenceFfnOutActIdeal.Facts) (hKernelNormMix : Cert.KernelNormMix.Facts) (hKernelNormMixIdeal : Cert.KernelNormMixIdeal.Facts) (hReferenceNormMixIdeal : Cert.ReferenceNormMixIdeal.Facts) (hKernelNormMemFwd : Cert.KernelNormMemFwd.Facts) (hKernelNormMemFwdIdeal : Cert.KernelNormMemFwdIdeal.Facts) (hReferenceNormMemFwdIdeal : Cert.ReferenceNormMemFwdIdeal.Facts) (hKernelMemKv : Cert.KernelMemKv.Facts) (hKernelMemKvIdeal : Cert.KernelMemKvIdeal.Facts) (hReferenceMemKvIdeal : Cert.ReferenceMemKvIdeal.Facts) (hKernelMerge : Cert.KernelMerge.Facts) (hKernelMergeIdeal : Cert.KernelMergeIdeal.Facts) (hReferenceMergeIdeal : Cert.ReferenceMergeIdeal.Facts) (hKernelOutNorm : Cert.KernelOutNorm.Facts) (hKernelOutNormIdeal : Cert.KernelOutNormIdeal.Facts) (hReferenceOutNormIdeal : Cert.ReferenceOutNormIdeal.Facts) (hKernelMemFwd : Cert.KernelMemFwd.Facts) (hKernelMemFwdIdeal : Cert.KernelMemFwdIdeal.Facts) (hReferenceMemFwdIdeal : Cert.ReferenceMemFwdIdeal.Facts) (hPre_scores_finite : Cert.Pre_scores_finite.Facts) (hPre_gates_finite : Cert.Pre_gates_finite.Facts) (hOn_top_rows : Cert.On_top_rows.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_KernelProjW (hKernelProjW := hKernelProjW)
    ∧ quiescent_KernelProjWIdeal (hKernelProjWIdeal := hKernelProjWIdeal)
    ∧ quiescent_ReferenceProjWIdeal (hReferenceProjWIdeal := hReferenceProjWIdeal)
    ∧ quiescent_KernelProjBottom (hKernelProjBottom := hKernelProjBottom)
    ∧ quiescent_KernelProjBottomIdeal (hKernelProjBottomIdeal := hKernelProjBottomIdeal)
    ∧ quiescent_ReferenceProjBottomIdeal (hReferenceProjBottomIdeal := hReferenceProjBottomIdeal)
    ∧ quiescent_KernelProjTop (hKernelProjTop := hKernelProjTop)
    ∧ quiescent_KernelProjTopIdeal (hKernelProjTopIdeal := hKernelProjTopIdeal)
    ∧ quiescent_ReferenceProjTopIdeal (hReferenceProjTopIdeal := hReferenceProjTopIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelFfnInAct (hKernelFfnInAct := hKernelFfnInAct)
    ∧ quiescent_KernelFfnInActIdeal (hKernelFfnInActIdeal := hKernelFfnInActIdeal)
    ∧ quiescent_ReferenceFfnInActIdeal (hReferenceFfnInActIdeal := hReferenceFfnInActIdeal)
    ∧ quiescent_KernelFfnInW (hKernelFfnInW := hKernelFfnInW)
    ∧ quiescent_KernelFfnInWIdeal (hKernelFfnInWIdeal := hKernelFfnInWIdeal)
    ∧ quiescent_ReferenceFfnInWIdeal (hReferenceFfnInWIdeal := hReferenceFfnInWIdeal)
    ∧ quiescent_KernelFfnIn (hKernelFfnIn := hKernelFfnIn)
    ∧ quiescent_KernelFfnInIdeal (hKernelFfnInIdeal := hKernelFfnInIdeal)
    ∧ quiescent_ReferenceFfnInIdeal (hReferenceFfnInIdeal := hReferenceFfnInIdeal)
    ∧ quiescent_KernelFfnOutW (hKernelFfnOutW := hKernelFfnOutW)
    ∧ quiescent_KernelFfnOutWIdeal (hKernelFfnOutWIdeal := hKernelFfnOutWIdeal)
    ∧ quiescent_ReferenceFfnOutWIdeal (hReferenceFfnOutWIdeal := hReferenceFfnOutWIdeal)
    ∧ quiescent_KernelOutW (hKernelOutW := hKernelOutW)
    ∧ quiescent_KernelOutWIdeal (hKernelOutWIdeal := hKernelOutWIdeal)
    ∧ quiescent_ReferenceOutWIdeal (hReferenceOutWIdeal := hReferenceOutWIdeal)
    ∧ quiescent_KernelProjHgW (hKernelProjHgW := hKernelProjHgW)
    ∧ quiescent_KernelProjHgWIdeal (hKernelProjHgWIdeal := hKernelProjHgWIdeal)
    ∧ quiescent_ReferenceProjHgWIdeal (hReferenceProjHgWIdeal := hReferenceProjHgWIdeal)
    ∧ quiescent_KernelProjDaW (hKernelProjDaW := hKernelProjDaW)
    ∧ quiescent_KernelProjDaWIdeal (hKernelProjDaWIdeal := hKernelProjDaWIdeal)
    ∧ quiescent_ReferenceProjDaWIdeal (hReferenceProjDaWIdeal := hReferenceProjDaWIdeal)
    ∧ quiescent_KernelProjMemW (hKernelProjMemW := hKernelProjMemW)
    ∧ quiescent_KernelProjMemWIdeal (hKernelProjMemWIdeal := hKernelProjMemWIdeal)
    ∧ quiescent_ReferenceProjMemWIdeal (hReferenceProjMemWIdeal := hReferenceProjMemWIdeal)
    ∧ quiescent_KernelMemKvW (hKernelMemKvW := hKernelMemKvW)
    ∧ quiescent_KernelMemKvWIdeal (hKernelMemKvWIdeal := hKernelMemKvWIdeal)
    ∧ quiescent_ReferenceMemKvWIdeal (hReferenceMemKvWIdeal := hReferenceMemKvWIdeal)
    ∧ quiescent_KernelMemKvAct (hKernelMemKvAct := hKernelMemKvAct)
    ∧ quiescent_KernelMemKvActIdeal (hKernelMemKvActIdeal := hKernelMemKvActIdeal)
    ∧ quiescent_ReferenceMemKvActIdeal (hReferenceMemKvActIdeal := hReferenceMemKvActIdeal)
    ∧ quiescent_KernelNormMem (hKernelNormMem := hKernelNormMem)
    ∧ quiescent_KernelNormMemIdeal (hKernelNormMemIdeal := hKernelNormMemIdeal)
    ∧ quiescent_ReferenceNormMemIdeal (hReferenceNormMemIdeal := hReferenceNormMemIdeal)
    ∧ quiescent_KernelAdamwWIn (hKernelAdamwWIn := hKernelAdamwWIn)
    ∧ quiescent_KernelAdamwWInIdeal (hKernelAdamwWInIdeal := hKernelAdamwWInIdeal)
    ∧ quiescent_ReferenceAdamwWInIdeal (hReferenceAdamwWInIdeal := hReferenceAdamwWInIdeal)
    ∧ quiescent_KernelAdamwSquare (hKernelAdamwSquare := hKernelAdamwSquare)
    ∧ quiescent_KernelAdamwSquareIdeal (hKernelAdamwSquareIdeal := hKernelAdamwSquareIdeal)
    ∧ quiescent_ReferenceAdamwSquareIdeal (hReferenceAdamwSquareIdeal := hReferenceAdamwSquareIdeal)
    ∧ quiescent_KernelAdamwBranch (hKernelAdamwBranch := hKernelAdamwBranch)
    ∧ quiescent_KernelAdamwBranchIdeal (hKernelAdamwBranchIdeal := hKernelAdamwBranchIdeal)
    ∧ quiescent_ReferenceAdamwBranchIdeal (hReferenceAdamwBranchIdeal := hReferenceAdamwBranchIdeal)
    ∧ quiescent_KernelAdamwFfnIn (hKernelAdamwFfnIn := hKernelAdamwFfnIn)
    ∧ quiescent_KernelAdamwFfnInIdeal (hKernelAdamwFfnInIdeal := hKernelAdamwFfnInIdeal)
    ∧ quiescent_ReferenceAdamwFfnInIdeal (hReferenceAdamwFfnInIdeal := hReferenceAdamwFfnInIdeal)
    ∧ quiescent_KernelAdamwFfnOut (hKernelAdamwFfnOut := hKernelAdamwFfnOut)
    ∧ quiescent_KernelAdamwFfnOutIdeal (hKernelAdamwFfnOutIdeal := hKernelAdamwFfnOutIdeal)
    ∧ quiescent_ReferenceAdamwFfnOutIdeal (hReferenceAdamwFfnOutIdeal := hReferenceAdamwFfnOutIdeal)
    ∧ quiescent_KernelFfnOut (hKernelFfnOut := hKernelFfnOut)
    ∧ quiescent_KernelFfnOutIdeal (hKernelFfnOutIdeal := hKernelFfnOutIdeal)
    ∧ quiescent_ReferenceFfnOutIdeal (hReferenceFfnOutIdeal := hReferenceFfnOutIdeal)
    ∧ quiescent_KernelFfnOutAct (hKernelFfnOutAct := hKernelFfnOutAct)
    ∧ quiescent_KernelFfnOutActIdeal (hKernelFfnOutActIdeal := hKernelFfnOutActIdeal)
    ∧ quiescent_KernelFfnOutActIdeal_pre_gates_finite (hKernelFfnOutActIdeal := hKernelFfnOutActIdeal) (hPre_gates_finite := hPre_gates_finite)
    ∧ quiescent_ReferenceFfnOutActIdeal (hReferenceFfnOutActIdeal := hReferenceFfnOutActIdeal)
    ∧ quiescent_ReferenceFfnOutActIdeal_pre_gates_finite (hReferenceFfnOutActIdeal := hReferenceFfnOutActIdeal) (hPre_gates_finite := hPre_gates_finite)
    ∧ quiescent_KernelNormMix (hKernelNormMix := hKernelNormMix)
    ∧ quiescent_KernelNormMixIdeal (hKernelNormMixIdeal := hKernelNormMixIdeal)
    ∧ quiescent_ReferenceNormMixIdeal (hReferenceNormMixIdeal := hReferenceNormMixIdeal)
    ∧ quiescent_KernelNormMemFwd (hKernelNormMemFwd := hKernelNormMemFwd)
    ∧ quiescent_KernelNormMemFwdIdeal (hKernelNormMemFwdIdeal := hKernelNormMemFwdIdeal)
    ∧ quiescent_ReferenceNormMemFwdIdeal (hReferenceNormMemFwdIdeal := hReferenceNormMemFwdIdeal)
    ∧ quiescent_KernelMemKv (hKernelMemKv := hKernelMemKv)
    ∧ quiescent_KernelMemKvIdeal (hKernelMemKvIdeal := hKernelMemKvIdeal)
    ∧ quiescent_ReferenceMemKvIdeal (hReferenceMemKvIdeal := hReferenceMemKvIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelOutNorm (hKernelOutNorm := hKernelOutNorm)
    ∧ quiescent_KernelOutNormIdeal (hKernelOutNormIdeal := hKernelOutNormIdeal)
    ∧ quiescent_ReferenceOutNormIdeal (hReferenceOutNormIdeal := hReferenceOutNormIdeal)
    ∧ quiescent_KernelMemFwd (hKernelMemFwd := hKernelMemFwd)
    ∧ quiescent_KernelMemFwdIdeal (hKernelMemFwdIdeal := hKernelMemFwdIdeal)
    ∧ quiescent_ReferenceMemFwdIdeal (hReferenceMemFwdIdeal := hReferenceMemFwdIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_KernelProjW_KernelProjWIdeal
    ∧ algebraic_KernelProjWIdeal_ReferenceProjWIdeal (hKernelProjWIdeal := hKernelProjWIdeal) (hReferenceProjWIdeal := hReferenceProjWIdeal)
    ∧ preserves_KernelProjBottom_KernelProjBottomIdeal
    ∧ algebraic_KernelProjBottomIdeal_ReferenceProjBottomIdeal (hKernelProjBottomIdeal := hKernelProjBottomIdeal) (hReferenceProjBottomIdeal := hReferenceProjBottomIdeal)
    ∧ preserves_KernelProjTop_KernelProjTopIdeal
    ∧ algebraic_KernelProjTopIdeal_ReferenceProjTopIdeal_on_top_rows (hKernelProjTopIdeal := hKernelProjTopIdeal) (hReferenceProjTopIdeal := hReferenceProjTopIdeal) (hOn_top_rows := hOn_top_rows)
    ∧ preserves_KernelProj_KernelProjIdeal
    ∧ algebraic_KernelProjIdeal_ReferenceProjIdeal (hKernelProjIdeal := hKernelProjIdeal) (hReferenceProjIdeal := hReferenceProjIdeal)
    ∧ preserves_KernelFfnInAct_KernelFfnInActIdeal
    ∧ algebraic_KernelFfnInActIdeal_ReferenceFfnInActIdeal (hKernelFfnInActIdeal := hKernelFfnInActIdeal) (hReferenceFfnInActIdeal := hReferenceFfnInActIdeal)
    ∧ preserves_KernelFfnInW_KernelFfnInWIdeal
    ∧ algebraic_KernelFfnInWIdeal_ReferenceFfnInWIdeal (hKernelFfnInWIdeal := hKernelFfnInWIdeal) (hReferenceFfnInWIdeal := hReferenceFfnInWIdeal)
    ∧ preserves_KernelFfnIn_KernelFfnInIdeal
    ∧ algebraic_KernelFfnInIdeal_ReferenceFfnInIdeal (hKernelFfnInIdeal := hKernelFfnInIdeal) (hReferenceFfnInIdeal := hReferenceFfnInIdeal)
    ∧ preserves_KernelFfnOutW_KernelFfnOutWIdeal
    ∧ algebraic_KernelFfnOutWIdeal_ReferenceFfnOutWIdeal (hKernelFfnOutWIdeal := hKernelFfnOutWIdeal) (hReferenceFfnOutWIdeal := hReferenceFfnOutWIdeal)
    ∧ preserves_KernelOutW_KernelOutWIdeal
    ∧ algebraic_KernelOutWIdeal_ReferenceOutWIdeal (hKernelOutWIdeal := hKernelOutWIdeal) (hReferenceOutWIdeal := hReferenceOutWIdeal)
    ∧ preserves_KernelProjHgW_KernelProjHgWIdeal
    ∧ algebraic_KernelProjHgWIdeal_ReferenceProjHgWIdeal (hKernelProjHgWIdeal := hKernelProjHgWIdeal) (hReferenceProjHgWIdeal := hReferenceProjHgWIdeal)
    ∧ preserves_KernelProjDaW_KernelProjDaWIdeal
    ∧ algebraic_KernelProjDaWIdeal_ReferenceProjDaWIdeal (hKernelProjDaWIdeal := hKernelProjDaWIdeal) (hReferenceProjDaWIdeal := hReferenceProjDaWIdeal)
    ∧ preserves_KernelProjMemW_KernelProjMemWIdeal
    ∧ algebraic_KernelProjMemWIdeal_ReferenceProjMemWIdeal (hKernelProjMemWIdeal := hKernelProjMemWIdeal) (hReferenceProjMemWIdeal := hReferenceProjMemWIdeal)
    ∧ preserves_KernelMemKvW_KernelMemKvWIdeal
    ∧ algebraic_KernelMemKvWIdeal_ReferenceMemKvWIdeal (hKernelMemKvWIdeal := hKernelMemKvWIdeal) (hReferenceMemKvWIdeal := hReferenceMemKvWIdeal)
    ∧ preserves_KernelMemKvAct_KernelMemKvActIdeal
    ∧ algebraic_KernelMemKvActIdeal_ReferenceMemKvActIdeal (hKernelMemKvActIdeal := hKernelMemKvActIdeal) (hReferenceMemKvActIdeal := hReferenceMemKvActIdeal)
    ∧ preserves_KernelNormMem_KernelNormMemIdeal
    ∧ algebraic_KernelNormMemIdeal_ReferenceNormMemIdeal (hKernelNormMemIdeal := hKernelNormMemIdeal) (hReferenceNormMemIdeal := hReferenceNormMemIdeal)
    ∧ preserves_KernelAdamwWIn_KernelAdamwWInIdeal
    ∧ algebraic_KernelAdamwWInIdeal_ReferenceAdamwWInIdeal (hKernelAdamwWInIdeal := hKernelAdamwWInIdeal) (hReferenceAdamwWInIdeal := hReferenceAdamwWInIdeal)
    ∧ preserves_KernelAdamwSquare_KernelAdamwSquareIdeal
    ∧ algebraic_KernelAdamwSquareIdeal_ReferenceAdamwSquareIdeal (hKernelAdamwSquareIdeal := hKernelAdamwSquareIdeal) (hReferenceAdamwSquareIdeal := hReferenceAdamwSquareIdeal)
    ∧ preserves_KernelAdamwBranch_KernelAdamwBranchIdeal
    ∧ algebraic_KernelAdamwBranchIdeal_ReferenceAdamwBranchIdeal (hKernelAdamwBranchIdeal := hKernelAdamwBranchIdeal) (hReferenceAdamwBranchIdeal := hReferenceAdamwBranchIdeal)
    ∧ preserves_KernelAdamwFfnIn_KernelAdamwFfnInIdeal
    ∧ algebraic_KernelAdamwFfnInIdeal_ReferenceAdamwFfnInIdeal (hKernelAdamwFfnInIdeal := hKernelAdamwFfnInIdeal) (hReferenceAdamwFfnInIdeal := hReferenceAdamwFfnInIdeal)
    ∧ preserves_KernelAdamwFfnOut_KernelAdamwFfnOutIdeal
    ∧ algebraic_KernelAdamwFfnOutIdeal_ReferenceAdamwFfnOutIdeal (hKernelAdamwFfnOutIdeal := hKernelAdamwFfnOutIdeal) (hReferenceAdamwFfnOutIdeal := hReferenceAdamwFfnOutIdeal)
    ∧ preserves_KernelFfnOut_KernelFfnOutIdeal
    ∧ algebraic_KernelFfnOutIdeal_ReferenceFfnOutIdeal (hKernelFfnOutIdeal := hKernelFfnOutIdeal) (hReferenceFfnOutIdeal := hReferenceFfnOutIdeal)
    ∧ preserves_KernelFfnOutAct_KernelFfnOutActIdeal
    ∧ algebraic_KernelFfnOutActIdeal_ReferenceFfnOutActIdeal_pre_gates_finite (hKernelFfnOutActIdeal := hKernelFfnOutActIdeal) (hReferenceFfnOutActIdeal := hReferenceFfnOutActIdeal) (hPre_gates_finite := hPre_gates_finite)
    ∧ preserves_KernelNormMix_KernelNormMixIdeal
    ∧ algebraic_KernelNormMixIdeal_ReferenceNormMixIdeal (hKernelNormMixIdeal := hKernelNormMixIdeal) (hReferenceNormMixIdeal := hReferenceNormMixIdeal)
    ∧ preserves_KernelNormMemFwd_KernelNormMemFwdIdeal
    ∧ algebraic_KernelNormMemFwdIdeal_ReferenceNormMemFwdIdeal (hKernelNormMemFwdIdeal := hKernelNormMemFwdIdeal) (hReferenceNormMemFwdIdeal := hReferenceNormMemFwdIdeal)
    ∧ preserves_KernelMemKv_KernelMemKvIdeal
    ∧ algebraic_KernelMemKvIdeal_ReferenceMemKvIdeal (hKernelMemKvIdeal := hKernelMemKvIdeal) (hReferenceMemKvIdeal := hReferenceMemKvIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelOutNorm_KernelOutNormIdeal
    ∧ algebraic_KernelOutNormIdeal_ReferenceOutNormIdeal (hKernelOutNormIdeal := hKernelOutNormIdeal) (hReferenceOutNormIdeal := hReferenceOutNormIdeal)
    ∧ preserves_KernelMemFwd_KernelMemFwdIdeal
    ∧ algebraic_KernelMemFwdIdeal_ReferenceMemFwdIdeal (hKernelMemFwdIdeal := hKernelMemFwdIdeal) (hReferenceMemFwdIdeal := hReferenceMemFwdIdeal)
-- ==== On_top_rows.lean ====
abbrev S4096x1024 : Shape := ⟨2, ![4096, 1024]⟩
abbrev S1x1024 : Shape := ⟨2, ![1, 1024]⟩
abbrev S1024x13312 : Shape := ⟨2, ![1024, 13312]⟩
abbrev S4096x13312 : Shape := ⟨2, ![4096, 13312]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S1x1024 .f32) (main_arg2 : FVec F S1024x13312 .f32) (main_arg3 : FVec F S4096x13312 .bf16) (main_arg4 : FVec F S4096x1024 .f32) : IVec S4096x1024 1 × IVec S1x1024 1 :=
  let main_v0 : IVec S4096x1024 32 := iotaInDim S4096x1024 32 0
  let main_c : IVec S_ 32 := constantI S_ 32 1024#32
  let main_v1 : IVec S4096x1024 32 := broadcastInDim S4096x1024 ![] bcast_S_S4096x1024 main_c
  let main_v2 : IVec S4096x1024 1 := cmpi .slt main_v0 main_v1
  let main_c_0 : IVec S_ 1 := constantI S_ 1 1#1
  let main_v3 : IVec S1x1024 1 := broadcastInDim S1x1024 ![] bcast_S_S1x1024 main_c_0
  (main_v2, main_v3)
-- ==== Pre_gates_finite.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x2816 .bf16) (main_arg1 : FVec F S4096x2816 .bf16) (main_arg2 : FVec F S2816x1024 .f32) (main_arg3 : FVec F S4096x1024 .bf16) : IVec S4096x2816 1 × IVec S2816x1024 1 × IVec S4096x1024 1 :=
  let main_v0 : FVec F S4096x2816 .f32 := (extf .f32 · bitsLt_bf16_f32) main_arg1
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S2816x1024 .f32 := Host.absf main_arg2
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S4096x1024 .f32 := (extf .f32 · bitsLt_bf16_f32) main_arg3
  let main_v8 : FVec F S4096x1024 .f32 := Host.absf main_v7
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  (main_v3, main_v6, main_v10)
-- ==== Pre_scores_finite.lean ====
abbrev S4096x13312 : Shape := ⟨2, ![4096, 13312]⟩
abbrev S256x1024 : Shape := ⟨2, ![256, 1024]⟩
abbrev S1x128 : Shape := ⟨2, ![1, 128]⟩
abbrev S4096x512 : Shape := ⟨2, ![4096, 512]⟩
abbrev S256x512 : Shape := ⟨2, ![256, 512]⟩
abbrev S_ : Shape := ⟨0, ![]⟩

class Facts : Prop where
  slices_S4096x13312_S4096x512_0_9728 : S4096x13312.Slices ![0, 9728] S4096x512
  slices_S256x1024_S256x512_0_0 : S256x1024.Slices ![0, 0] S256x512
  bcast_S_S4096x512 : S_.BroadcastsInDim S4096x512 (![] : Fin 0 → Fin S4096x512.rank)
  bcast_S_S256x512 : S_.BroadcastsInDim S256x512 (![] : Fin 0 → Fin S256x512.rank)
  bcast_S_S1x128 : S_.BroadcastsInDim S1x128 (![] : Fin 0 → Fin S1x128.rank)

variable [Facts]

def fn {F : FTy → Type} [FloatOps F] (main_arg0 : FVec F S4096x13312 .f32) (main_arg1 : FVec F S256x1024 .f32) (main_arg2 : FVec F S1x128 .f32) (main_arg3 : FVec F S1x128 .f32) (main_arg4 : FVec F S4096x512 .f32) (main_arg5 : FVec F S4096x13312 .bf16) : IVec S4096x512 1 × IVec S256x512 1 × IVec S1x128 1 × IVec S1x128 1 :=
  let main_v0 : FVec F S4096x512 .f32 := (extractStridedSlice S4096x512 ![0, 9728] · slices_S4096x13312_S4096x512_0_9728) main_arg0
  let main_v1 : FVec F S256x512 .f32 := (extractStridedSlice S256x512 ![0, 0] · slices_S256x1024_S256x512_0_0) main_arg1
  let main_v2 : FVec F S4096x512 .f32 := Host.absf main_v0
  let main_cst : FVec F S_ .f32 := constant S_ .f32 0x7F800000#32
  let main_v3 : FVec F S4096x512 .f32 := broadcastInDim S4096x512 ![] bcast_S_S4096x512 main_cst
  let main_v4 : IVec S4096x512 1 := cmpf .olt main_v2 main_v3
  let main_v5 : FVec F S256x512 .f32 := Host.absf main_v1
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  let main_v8 : FVec F S1x128 .f32 := Host.absf main_arg2
  let main_cst_1 : FVec F S_ .f32 := constant S_ .f32 0x7F800000#32
  let main_v9 : FVec F S1x128 .f32 := broadcastInDim S1x128 ![] bcast_S_S1x128 main_cst_1
  let main_v10 : IVec S1x128 1 := cmpf .olt main_v8 main_v9
  let main_v11 : FVec F S1x128 .f32 := Host.absf main_arg3
  let main_cst_2 : FVec F S_ .f32 := constant S_ .f32 0x7F800000#32
  let main_v12 : FVec F S1x128 .f32 := broadcastInDim S1x128 ![] bcast_S_S1x128 main_cst_2
  let main_v13 : IVec S1x128 1 := cmpf .olt main_v11 main_v12
  (main_v4, main_v7, main_v10, main_v13)
-- ==== Kernel.lean ====
abbrev S4096x13312 : Shape := ⟨2, ![4096, 13312]⟩
abbrev S256x1024 : Shape := ⟨2, ![256, 1024]⟩
abbrev S1x128 : Shape := ⟨2, ![1, 128]⟩
abbrev S4096x512 : Shape := ⟨2, ![4096, 512]⟩
abbrev S256x512 : Shape := ⟨2, ![256, 512]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S128 : Shape := ⟨1, ![128]⟩

abbrev nBuf : Space → Nat
  | .hbm => 11
  | .vmem => 19
  | .smem => 0
  | _ => 0

abbrev bufTy : (tb : Table) → Fin (tcTables nBuf tb) → BufTy
  | .hbm, ⟨0, _⟩ => ⟨S4096x13312, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S4096x512, .f32⟩
  | .hbm, ⟨5, _⟩ => ⟨S4096x13312, .bf16⟩
  | .hbm, ⟨6, _⟩ => ⟨S4096x13312, .bf16⟩
  | .hbm, ⟨7, _⟩ => ⟨S256x512, .f32⟩
  | .hbm, ⟨8, _⟩ => ⟨S256x512, .f32⟩
  | .hbm, ⟨9, _⟩ => ⟨S1x128, .f32⟩
  | .hbm, ⟨10, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x128, .f32⟩
  | .local _ .vmem, ⟨17, _⟩ => ⟨S1x128, .f32⟩
  | .local _ .vmem, ⟨18, _⟩ => ⟨S256x128, .f32⟩
  | _, _ => ⟨S4096x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![4, 4], ![false, false]⟩

def k0_cond5 (i : grid0.Coords) : BitVec 1 :=
  let arg1 : BitVec 32 := BitVec.ofNat 32 (i 1).val
  let c3_i32 : BitVec 32 := 3#32
  let v309 : BitVec 1 := Scalar.cmpi .eq arg1 c3_i32
  let v310 : BitVec 32 := Scalar.extui v309
  let c0_i32_101 : BitVec 32 := 0#32
  let v311 : BitVec 1 := Scalar.cmpi .ne v310 c0_i32_101
  v311

def k0_cond3 (i : grid0.Coords) : BitVec 1 :=
  let arg1 : BitVec 32 := BitVec.ofNat 32 (i 1).val
  let c0_i32_97 : BitVec 32 := 0#32
  let v303 : BitVec 1 := Scalar.cmpi .eq arg1 c0_i32_97
  let v304 : BitVec 32 := Scalar.extui v303
  let c0_i32_98 : BitVec 32 := 0#32
  let v305 : BitVec 1 := Scalar.cmpi .ne v304 c0_i32_98
  v305

def k0_cond4 (i : grid0.Coords) : BitVec 1 :=
  let arg1 : BitVec 32 := BitVec.ofNat 32 (i 1).val
  let c0_i32_99 : BitVec 32 := 0#32
  let v306 : BitVec 1 := Scalar.cmpi .sgt arg1 c0_i32_99
  let v307 : BitVec 32 := Scalar.extui v306
  let c0_i32_100 : BitVec 32 := 0#32
  let v308 : BitVec 1 := Scalar.cmpi .ne v307 c0_i32_100
  v308

def k0_cond1 (i : grid0.Coords) : BitVec 1 :=
  let arg0 : BitVec 32 := BitVec.ofNat 32 (i 0).val
  let c0_i32 : BitVec 32 := 0#32
  let v295 : BitVec 1 := Scalar.cmpi .eq arg0 c0_i32
  let arg1 : BitVec 32 := BitVec.ofNat 32 (i 1).val
  let c0_i32_94 : BitVec 32 := 0#32
  let v296 : BitVec 1 := Scalar.cmpi .eq arg1 c0_i32_94
  let v297 : BitVec 1 := Scalar.andi v295 v296
  let v298 : BitVec 32 := Scalar.extui v297
  let c0_i32_95 : BitVec 32 := 0#32
  let v299 : BitVec 1 := Scalar.cmpi .ne v298 c0_i32_95
  v299

def k0_cond2 (i : grid0.Coords) : BitVec 1 :=
  let arg0 : BitVec 32 := BitVec.ofNat 32 (i 0).val
  let c0_i32 : BitVec 32 := 0#32
  let v295 : BitVec 1 := Scalar.cmpi .eq arg0 c0_i32
  let arg1 : BitVec 32 := BitVec.ofNat 32 (i 1).val
  let c0_i32_94 : BitVec 32 := 0#32
  let v296 : BitVec 1 := Scalar.cmpi .eq arg1 c0_i32_94
  let v297 : BitVec 1 := Scalar.andi v295 v296
  let v_true : BitVec 1 := 1#1
  let v300 : BitVec 1 := Scalar.xori v297 v_true
  let v301 : BitVec 32 := Scalar.extui v300
  let c0_i32_96 : BitVec 32 := 0#32
  let v302 : BitVec 1 := Scalar.cmpi .ne v301 c0_i32_96
  v302

def k0_cond6 (i : grid0.Coords) : BitVec 1 :=
  let arg0 : BitVec 32 := BitVec.ofNat 32 (i 0).val
  let c0_i32_109 : BitVec 32 := 0#32
  let v329 : BitVec 1 := Scalar.cmpi .eq arg0 c0_i32_109
  let v330 : BitVec 32 := Scalar.extui v329
  let c0_i32_110 : BitVec 32 := 0#32
  let v331 : BitVec 1 := Scalar.cmpi .ne v330 c0_i32_110
  v331

def k0_cond7 (i : grid0.Coords) : BitVec 1 :=
  let arg0 : BitVec 32 := BitVec.ofNat 32 (i 0).val
  let c0_i32_111 : BitVec 32 := 0#32
  let v332 : BitVec 1 := Scalar.cmpi .sgt arg0 c0_i32_111
  let v333 : BitVec 32 := Scalar.extui v332
  let c0_i32_112 : BitVec 32 := 0#32
  let v334 : BitVec 1 := Scalar.cmpi .ne v333 c0_i32_112
  v334

def cc0_transform_0 (i : grid0.Coords) : Fin 2 → Nat :=
  let arg0 : BitVec 32 := BitVec.ofNat 32 (i 0).val
  let arg1 : BitVec 32 := BitVec.ofNat 32 (i 1).val
  let c76_i32 : BitVec 32 := 76#32
  let v0 : BitVec 32 := Scalar.addi c76_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c76_i32 : BitVec 32 := 76#32
  let v0 : BitVec 32 := Scalar.addi c76_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S4096x13312 : Shape := ⟨2, ![4096, 13312]⟩
abbrev S256x1024 : Shape := ⟨2, ![256, 1024]⟩
abbrev S1x128 : Shape := ⟨2, ![1, 128]⟩
abbrev S4096x512 : Shape := ⟨2, ![4096, 512]⟩
abbrev S256x512 : Shape := ⟨2, ![256, 512]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S256x4x128 : Shape := ⟨3, ![256, 4, 128]⟩
abbrev S256x4 : Shape := ⟨2, ![256, 4]⟩
abbrev S256x4x1 : Shape := ⟨3, ![256, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩

abbrev nBuf : Space → Nat
  | .hbm => 184
  | .vmem => 0
  | .smem => 0
  | _ => 0

abbrev hbmTy0_0 (i : Nat) : BufTy := match i % 128 with
  | 0 => ⟨S4096x13312, .f32⟩
  | 1 => ⟨S256x1024, .f32⟩
  | 2 => ⟨S1x128, .f32⟩
  | 3 => ⟨S1x128, .f32⟩
  | 4 => ⟨S4096x512, .f32⟩
  | 5 => ⟨S4096x13312, .bf16⟩
  | 6 => ⟨S4096x512, .f32⟩
  | 7 => ⟨S256x512, .f32⟩
  | 8 => ⟨S256x512, .f32⟩
  | 9 => ⟨S128, .f32⟩
  | 10 => ⟨S128, .f32⟩
  | 11 => ⟨S4096x4x128, .f32⟩
  | 12 => ⟨S4096x4x128, .f32⟩
  | 13 => ⟨S_, .f32⟩
  | 14 => ⟨S4096x4, .f32⟩
  | 15 => ⟨S4096x4x1, .f32⟩
  | 16 => ⟨S_, .f32⟩
  | 17 => ⟨S4096x4x1, .f32⟩
  | 18 => ⟨S4096x4x1, .f32⟩
  | 19 => ⟨S_, .f32⟩
  | 20 => ⟨S4096x4x1, .f32⟩
  | 21 => ⟨S4096x4x1, .f32⟩
  | 22 => ⟨S4096x4x1, .f32⟩
  | 23 => ⟨S4096x4x1, .f32⟩
  | 24 => ⟨S_, .f32⟩
  | 25 => ⟨S4096x4x1, .f32⟩
  | 26 => ⟨S4096x4x1, .f32⟩
  | 27 => ⟨S4096x4x128, .f32⟩
  | 28 => ⟨S4096x4x128, .f32⟩
  | 29 => ⟨S1x1x128, .f32⟩
  | 30 => ⟨S4096x4x128, .f32⟩
  | 31 => ⟨S4096x4x128, .f32⟩
  | 32 => ⟨S256x4x128, .f32⟩
  | 33 => ⟨S256x4x128, .f32⟩
  | 34 => ⟨S_, .f32⟩
  | 35 => ⟨S256x4, .f32⟩
  | 36 => ⟨S256x4x1, .f32⟩
  | 37 => ⟨S_, .f32⟩
  | 38 => ⟨S256x4x1, .f32⟩
  | 39 => ⟨S256x4x1, .f32⟩
  | 40 => ⟨S_, .f32⟩
  | 41 => ⟨S256x4x1, .f32⟩
  | 42 => ⟨S256x4x1, .f32⟩
  | 43 => ⟨S256x4x1, .f32⟩
  | 44 => ⟨S256x4x1, .f32⟩
  | 45 => ⟨S_, .f32⟩
  | 46 => ⟨S256x4x1, .f32⟩
  | 47 => ⟨S256x4x1, .f32⟩
  | 48 => ⟨S256x4x128, .f32⟩
  | 49 => ⟨S256x4x128, .f32⟩
  | 50 => ⟨S1x1x128, .f32⟩
  | 51 => ⟨S256x4x128, .f32⟩
  | 52 => ⟨S256x4x128, .f32⟩
  | 53 => ⟨S256x4x128, .f32⟩
  | 54 => ⟨S4x4096x256, .f32⟩
  | 55 => ⟨S_, .f32⟩
  | 56 => ⟨S4x4096x256, .f32⟩
  | 57 => ⟨S4x4096x256, .f32⟩
  | 58 => ⟨S_, .f32⟩
  | 59 => ⟨S4x4096, .f32⟩
  | 60 => ⟨S4x4096x1, .f32⟩
  | 61 => ⟨S4x4096x256, .f32⟩
  | 62 => ⟨S4x4096x256, .i1⟩
  | 63 => ⟨S4x4096x256, .f32⟩
  | 64 => ⟨S_, .f32⟩
  | 65 => ⟨S4x4096, .f32⟩
  | 66 => ⟨S_, .f32⟩
  | 67 => ⟨S4x4096, .f32⟩
  | 68 => ⟨S4x4096, .f32⟩
  | 69 => ⟨S_, .f32⟩
  | 70 => ⟨S4x4096, .f32⟩
  | 71 => ⟨S4x4096, .i1⟩
  | 72 => ⟨S_, .f32⟩
  | 73 => ⟨S4x4096, .f32⟩
  | 74 => ⟨S4x4096, .i1⟩
  | 75 => ⟨S_, .f32⟩
  | 76 => ⟨S4x4096, .f32⟩
  | 77 => ⟨S_, .f32⟩
  | 78 => ⟨S4x4096, .f32⟩
  | 79 => ⟨S_, .f32⟩
  | 80 => ⟨S4x4096, .f32⟩
  | 81 => ⟨S4x4096, .f32⟩
  | 82 => ⟨S4x4096, .f32⟩
  | 83 => ⟨S4x4096x1, .f32⟩
  | 84 => ⟨S4x4096x256, .f32⟩
  | 85 => ⟨S4x4096x256, .f32⟩
  | 86 => ⟨S4x4096x256, .f32⟩
  | 87 => ⟨S_, .f32⟩
  | 88 => ⟨S4x4096, .f32⟩
  | 89 => ⟨S4x4096x1, .f32⟩
  | 90 => ⟨S4x4096x256, .f32⟩
  | 91 => ⟨S4x4096x256, .f32⟩
  | 92 => ⟨S4x4096x1, .f32⟩
  | 93 => ⟨S_, .f32⟩
  | 94 => ⟨S4x4096x1, .f32⟩
  | 95 => ⟨S4x4096x1, .f32⟩
  | 96 => ⟨S4x128x4096, .f32⟩
  | 97 => ⟨S4096x4x128, .f32⟩
  | 98 => ⟨S4096x512, .f32⟩
  | 99 => ⟨S4096x4x128, .f32⟩
  | 100 => ⟨S4x128x4096, .f32⟩
  | 101 => ⟨S4x4096x256, .f32⟩
  | 102 => ⟨S4x128x256, .f32⟩
  | 103 => ⟨S256x4x128, .f32⟩
  | 104 => ⟨S4x4096x256, .f32⟩
  | 105 => ⟨S4x4096x256, .f32⟩
  | 106 => ⟨S4x4096x256, .f32⟩
  | 107 => ⟨S_, .f32⟩
  | 108 => ⟨S4x4096, .f32⟩
  | 109 => ⟨S4x4096x1, .f32⟩
  | 110 => ⟨S4x4096x1, .f32⟩
  | 111 => ⟨S4x4096x256, .f32⟩
  | 112 => ⟨S4x4096x256, .f32⟩
  | 113 => ⟨S_, .f32⟩
  | 114 => ⟨S4x4096, .f32⟩
  | 115 => ⟨S4x4096x256, .f32⟩
  | 116 => ⟨S4x4096x256, .f32⟩
  | 117 => ⟨S4x4096x256, .f32⟩
  | 118 => ⟨S_, .f32⟩
  | 119 => ⟨S4x4096x256, .f32⟩
  | 120 => ⟨S4x4096x256, .f32⟩
  | 121 => ⟨S4x256x128, .f32⟩
  | 122 => ⟨S256x4x128, .f32⟩
  | 123 => ⟨S4x4096x128, .f32⟩
  | 124 => ⟨S4096x4x128, .f32⟩
  | 125 => ⟨S256x512, .f32⟩
  | 126 => ⟨S256x4x128, .f32⟩
  | 127 => ⟨S_, .f32⟩
  | _ => ⟨S4096x13312, .f32⟩

abbrev hbmTy0_1 (i : Nat) : BufTy := match i % 128 with
  | 0 => ⟨S128, .f32⟩
  | 1 => ⟨S1x1x128, .f32⟩
  | 2 => ⟨S256x4x128, .f32⟩
  | 3 => ⟨S256x4x128, .f32⟩
  | 4 => ⟨S_, .f32⟩
  | 5 => ⟨S128, .f32⟩
  | 6 => ⟨S256x4x128, .f32⟩
  | 7 => ⟨S_, .f32⟩
  | 8 => ⟨S256x4, .f32⟩
  | 9 => ⟨S256x4x1, .f32⟩
  | 10 => ⟨S256x4x128, .f32⟩
  | 11 => ⟨S256x4x128, .f32⟩
  | 12 => ⟨S256x4x1, .f32⟩
  | 13 => ⟨S_, .f32⟩
  | 14 => ⟨S256x4x1, .f32⟩
  | 15 => ⟨S256x4x1, .f32⟩
  | 16 => ⟨S_, .f32⟩
  | 17 => ⟨S256x4, .f32⟩
  | 18 => ⟨S256x4x128, .f32⟩
  | 19 => ⟨S256x4x128, .f32⟩
  | 20 => ⟨S256x4x128, .f32⟩
  | 21 => ⟨S256x4x128, .f32⟩
  | 22 => ⟨S256x4x128, .f32⟩
  | 23 => ⟨S256x512, .f32⟩
  | 24 => ⟨S4096x4x128, .f32⟩
  | 25 => ⟨S_, .f32⟩
  | 26 => ⟨S128, .f32⟩
  | 27 => ⟨S1x1x128, .f32⟩
  | 28 => ⟨S4096x4x128, .f32⟩
  | 29 => ⟨S4096x4x128, .f32⟩
  | 30 => ⟨S_, .f32⟩
  | 31 => ⟨S128, .f32⟩
  | 32 => ⟨S4096x4x128, .f32⟩
  | 33 => ⟨S_, .f32⟩
  | 34 => ⟨S4096x4, .f32⟩
  | 35 => ⟨S4096x4x1, .f32⟩
  | 36 => ⟨S4096x4x128, .f32⟩
  | 37 => ⟨S4096x4x128, .f32⟩
  | 38 => ⟨S4096x4x1, .f32⟩
  | 39 => ⟨S_, .f32⟩
  | 40 => ⟨S4096x4x1, .f32⟩
  | 41 => ⟨S4096x4x1, .f32⟩
  | 42 => ⟨S_, .f32⟩
  | 43 => ⟨S4096x4, .f32⟩
  | 44 => ⟨S4096x4x128, .f32⟩
  | 45 => ⟨S4096x4x128, .f32⟩
  | 46 => ⟨S4096x4x128, .f32⟩
  | 47 => ⟨S4096x4x128, .f32⟩
  | 48 => ⟨S4096x4x128, .f32⟩
  | 49 => ⟨S4096x512, .f32⟩
  | 50 => ⟨S4096x512, .bf16⟩
  | 51 => ⟨S_, .i32⟩
  | 52 => ⟨S_, .i32⟩
  | 53 => ⟨S4096x13312, .bf16⟩
  | 54 => ⟨S1x128, .f32⟩
  | 55 => ⟨S1x128, .f32⟩
  | _ => ⟨S4096x13312, .f32⟩

abbrev hbmTy (i : Nat) : BufTy := match i / 128 with
  | 0 => hbmTy0_0 i
  | 1 => hbmTy0_1 i
  | _ => ⟨S4096x13312, .f32⟩

abbrev bufTy : (tb : Table) → Fin (tcTables nBuf tb) → BufTy
  | .hbm, ⟨i, _⟩ => hbmTy i
  | _, _ => ⟨S4096x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_17 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_18 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_19 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_20 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_21 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_22 : Ref sig .tc := ⟨.hbm, 132, rfl⟩
abbrev main_v103 : Ref sig .tc := ⟨.hbm, 133, rfl⟩
abbrev main_v104 : Ref sig .tc := ⟨.hbm, 134, rfl⟩
abbrev main_cst_23 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_24 : Ref sig .tc := ⟨.hbm, 141, rfl⟩
abbrev main_v110 : Ref sig .tc := ⟨.hbm, 142, rfl⟩
abbrev main_v111 : Ref sig .tc := ⟨.hbm, 143, rfl⟩
abbrev main_cst_25 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_26 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_27 : Ref sig .tc := ⟨.hbm, 158, rfl⟩
abbrev main_v124 : Ref sig .tc := ⟨.hbm, 159, rfl⟩
abbrev main_v125 : Ref sig .tc := ⟨.hbm, 160, rfl⟩
abbrev main_cst_28 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_cst_29 : Ref sig .tc := ⟨.hbm, 167, rfl⟩
abbrev main_v131 : Ref sig .tc := ⟨.hbm, 168, rfl⟩
abbrev main_v132 : Ref sig .tc := ⟨.hbm, 169, rfl⟩
abbrev main_cst_30 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_c : Ref sig .tc := ⟨.hbm, 179, rfl⟩
abbrev main_c_31 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩

abbrev nD : Nat := 1
abbrev τ : Topo := Topo.v7x

variable {F : FTy → Type} [FloatOps F]
-- ==== KernelProjW.lean ====
abbrev S4096x1024 : Shape := ⟨2, ![4096, 1024]⟩
abbrev S1x1024 : Shape := ⟨2, ![1, 1024]⟩
abbrev S1024x13312 : Shape := ⟨2, ![1024, 13312]⟩
abbrev S4096x13312 : Shape := ⟨2, ![4096, 13312]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S8x1024x1664 : Shape := ⟨3, ![8, 1024, 1664]⟩
abbrev S1024x2048 : Shape := ⟨2, ![1024, 2048]⟩
abbrev S2048x1664 : Shape := ⟨2, ![2048, 1664]⟩
abbrev S1x1024x1664 : Shape := ⟨3, ![1, 1024, 1664]⟩
abbrev S1024x1664 : Shape := ⟨2, ![1024, 1664]⟩

abbrev nBuf : Space → Nat
  | .hbm => 24
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x13312, .f32⟩
  | .hbm, ⟨3, _⟩ => ⟨S4096x13312, .bf16⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x4096, .f32⟩
  | .hbm, ⟨22, _⟩ => ⟨S1024x4096, .bf16⟩
  | .hbm, ⟨23, _⟩ => ⟨S8x1024x1664, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1664, .bf16⟩
  | .local _ .vmem, ⟨3, _⟩ => ⟨S2048x1664, .bf16⟩
  | .local _ .vmem, ⟨4, _⟩ => ⟨S1x1024x1664, .bf16⟩
  | .local _ .vmem, ⟨5, _⟩ => ⟨S1x1024x1664, .bf16⟩
  | .local _ .vmem, ⟨6, _⟩ => ⟨S1024x1664, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![arg1.toNat, v0.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjWIdeal.lean ====
abbrev S4096x1024 : Shape := ⟨2, ![4096, 1024]⟩
abbrev S1x1024 : Shape := ⟨2, ![1, 1024]⟩
abbrev S1024x13312 : Shape := ⟨2, ![1024, 13312]⟩
abbrev S4096x13312 : Shape := ⟨2, ![4096, 13312]⟩
abbrev S1024 : Shape := ⟨1, ![1024]⟩
abbrev S_ : Shape := ⟨0, ![]⟩
abbrev S4096 : Shape := ⟨1, ![4096]⟩
abbrev S4096x1 : Shape := ⟨2, ![4096, 1]⟩
abbrev S13312x1024 : Shape := ⟨2, ![13312, 1024]⟩
abbrev S1024x8x1664 : Shape := ⟨3, ![1024, 8, 1664]⟩
abbrev S8x1024x1664 : Shape := ⟨3, ![8, 1024, 1664]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x13312, .f32⟩
  | .hbm, ⟨3, _⟩ => ⟨S4096x13312, .bf16⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x13312, .f32⟩
  | .hbm, ⟨22, _⟩ => ⟨S4096x13312, .f32⟩
  | .hbm, ⟨23, _⟩ => ⟨S13312x1024, .f32⟩
  | .hbm, ⟨24, _⟩ => ⟨S1024x13312, .f32⟩
  | .hbm, ⟨25, _⟩ => ⟨S1024x8x1664, .f32⟩
  | .hbm, ⟨26, _⟩ => ⟨S8x1024x1664, .f32⟩
  | .hbm, ⟨27, _⟩ => ⟨S8x1024x1664, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== KernelProjBottom.lean ====
abbrev S4096x1024 : Shape := ⟨2, ![4096, 1024]⟩
abbrev S1x1024 : Shape := ⟨2, ![1, 1024]⟩
abbrev S1024x13312 : Shape := ⟨2, ![1024, 13312]⟩
abbrev S4096x13312 : Shape := ⟨2, ![4096, 13312]⟩
abbrev S1024x8x1664 : Shape := ⟨3, ![1024, 8, 1664]⟩
abbrev S8x1024x1664 : Shape := ⟨3, ![8, 1024, 1664]⟩
abbrev S1024x1664 : Shape := ⟨2, ![1024, 1664]⟩
abbrev S1x1024x1664 : Shape := ⟨3, ![1, 1024, 1664]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x13312, .f32⟩
  | .hbm, ⟨3, _⟩ => ⟨S4096x13312, .bf16⟩
  | .hbm, ⟨4, _⟩ => ⟨S4096x1024, .f32⟩
  | .hbm, ⟨5, _⟩ => ⟨S4096x1024, .f32⟩
  | .hbm, ⟨6, _⟩ => ⟨S1024x13312, .bf16⟩
  | .hbm, ⟨7, _⟩ => ⟨S1024x8x1664, .bf16⟩
  | .hbm, ⟨8, _⟩ => ⟨S8x1024x1664, .bf16⟩
  | .hbm, ⟨9, _⟩ => ⟨S4096x1024, .f32⟩
  | .hbm, ⟨10, _⟩ => ⟨S1x1024, .f32⟩
  | .local _ .vmem, ⟨0, _⟩ => ⟨S1024x1664, .bf16⟩
  | .local _ .vmem, ⟨1, _⟩ => ⟨S1024x1664, .bf16⟩
  | .local _ .vmem, ⟨2, _⟩ => ⟨S1x1024x1664, .bf16⟩
  | .local _ .vmem, ⟨3, _⟩ => ⟨S1x1024x1664, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![3, 8], ![false, false]⟩

def k0_cond3 (i : grid0.Coords) : BitVec 1 :=
  let arg1 : BitVec 32 := BitVec.ofNat 32 (i 1).val
  let c7_i32_7 : BitVec 32 := 7#32
  let v12 : BitVec 1 := Scalar.cmpi .eq arg1 c7_i32_7
  let v13 : BitVec 32 := Scalar.extui v12
  let c0_i32_8 : BitVec 32 := 0#32
  let v14 : BitVec 1 := Scalar.cmpi .ne v13 c0_i32_8
  v14

def k0_cond4 (i : grid0.Coords) : BitVec 1 :=
  let arg0 : BitVec 32 := BitVec.ofNat 32 (i 0).val
  let c0_i32_25 : BitVec 32 := 0#32
  let v47 : BitVec 1 := Scalar.cmpi .eq arg0 c0_i32_25
  let v48 : BitVec 32 := Scalar.extui v47
  let c0_i32_26 : BitVec 32 := 0#32
  let v49 : BitVec 1 := Scalar.cmpi .ne v48 c0_i32_26
  v49

def k0_cond5 (i : grid0.Coords) : BitVec 1 :=
  let arg0 : BitVec 32 := BitVec.ofNat 32 (i 0).val
  let c0_i32_27 : BitVec 32 := 0#32
  let v50 : BitVec 1 := Scalar.cmpi .sgt arg0 c0_i32_27
  let v51 : BitVec 32 := Scalar.extui v50
  let c0_i32_28 : BitVec 32 := 0#32
  let v52 : BitVec 1 := Scalar.cmpi .ne v51 c0_i32_28
  v52

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceProjBottomIdeal.lean ====
abbrev S4096x1024 : Shape := ⟨2, ![4096, 1024]⟩
abbrev S1x1024 : Shape := ⟨2, ![1, 1024]⟩
abbrev S1024x13312 : Shape := ⟨2, ![1024, 13312]⟩
abbrev S4096x13312 : Shape := ⟨2, ![4096, 13312]⟩
abbrev S3072x1024 : Shape := ⟨2, ![3072, 1024]⟩
abbrev S1024 : Shape := ⟨1, ![1024]⟩
abbrev S_ : Shape := ⟨0, ![]⟩
abbrev S3072 : Shape := ⟨1, ![3072]⟩
abbrev S3072x1 : Shape := ⟨2, ![3072, 1]⟩
abbrev S3072x13312 : Shape := ⟨2, ![3072, 13312]⟩
abbrev S13312x1024 : Shape := ⟨2, ![13312, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x13312, .f32⟩
  | .hbm, ⟨3, _⟩ => ⟨S4096x13312, .bf16⟩
  | .hbm, ⟨4, _⟩ => ⟨S4096x1024, .f32⟩
  | .hbm, ⟨5, _⟩ => ⟨S4096x1024, .f32⟩
  | .hbm, ⟨6, _⟩ => ⟨S3072x1024, .f32⟩
  | .hbm, ⟨7, _⟩ => ⟨S1024, .f32⟩
  | .hbm, ⟨8, _⟩ => ⟨S3072x1024, .f32⟩
  | .hbm, ⟨9, _⟩ => ⟨S_, .f32⟩
  | .hbm, ⟨10, _⟩ => ⟨S3072, .f32⟩
  | .hbm, ⟨11, _⟩ => ⟨S3072x1, .f32⟩
  | .hbm, ⟨12, _⟩ => ⟨S_, .f32⟩
  | .hbm, ⟨13, _⟩ => ⟨S3072x1, .f32⟩
  | .hbm, ⟨14, _⟩ => ⟨S3072x1, .f32⟩
  | .hbm, ⟨15, _⟩ => ⟨S_, .f32⟩
  | .hbm, ⟨16, _⟩ => ⟨S3072x1, .f32⟩
  | .hbm, ⟨17, _⟩ => ⟨S3072x1, .f32⟩
  | .hbm, ⟨18, _⟩ => ⟨S3072x1, .f32⟩
  | .hbm, ⟨19, _⟩ => ⟨S3072x1, .f32⟩
  | .hbm, ⟨20, _⟩ => ⟨S_, .f32⟩
  | .hbm, ⟨21, _⟩ => ⟨S3072x1, .f32⟩
  | .hbm, ⟨22, _⟩ => ⟨S3072x1, .f32⟩
  | .hbm, ⟨23, _⟩ => ⟨S3072x1024, .f32⟩
  | .hbm, ⟨24, _⟩ => ⟨S3072x1024, .f32⟩
  | .hbm, ⟨25, _⟩ => ⟨S1x1024, .f32⟩
  | .hbm, ⟨26, _⟩ => ⟨S3072x1024, .f32⟩
  | .hbm, ⟨27, _⟩ => ⟨S3072x1024, .f32⟩
  | .hbm, ⟨28, _⟩ => ⟨S3072x13312, .f32⟩
  | .hbm, ⟨29, _⟩ => ⟨S3072x13312, .bf16⟩
  | .hbm, ⟨30, _⟩ => ⟨S3072x13312, .f32⟩
  | .hbm, ⟨31, _⟩ => ⟨S13312x1024, .f32⟩
  | .hbm, ⟨32, _⟩ => ⟨S1024x13312, .f32⟩
  | .hbm, ⟨33, _⟩ => ⟨S3072x1024, .f32⟩
  | .hbm, ⟨34, _⟩ => ⟨S3072x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S3072x1024, .f32⟩
  | .hbm, ⟨39, _⟩ => ⟨S3072x1024, .f32⟩
  | .hbm, ⟨40, _⟩ => ⟨S_, .f32⟩
  | .hbm, ⟨41, _⟩ => ⟨S1024, .f32⟩
  | .hbm, ⟨42, _⟩ => ⟨S3072x1024, .f32⟩
  | .hbm, ⟨43, _⟩ => ⟨S_, .f32⟩
  | .hbm, ⟨44, _⟩ => ⟨S3072, .f32⟩
  | .hbm, ⟨45, _⟩ => ⟨S3072x1, .f32⟩
  | .hbm, ⟨46, _⟩ => ⟨S3072x1024, .f32⟩
  | .hbm, ⟨47, _⟩ => ⟨S3072x1024, .f32⟩
  | .hbm, ⟨48, _⟩ => ⟨S3072x1, .f32⟩
  | .hbm, ⟨49, _⟩ => ⟨S_, .f32⟩
  | .hbm, ⟨50, _⟩ => ⟨S3072x1, .f32⟩
  | .hbm, ⟨51, _⟩ => ⟨S3072x1, .f32⟩
  | .hbm, ⟨52, _⟩ => ⟨S_, .f32⟩
  | .hbm, ⟨53, _⟩ => ⟨S3072, .f32⟩
  | .hbm, ⟨54, _⟩ => ⟨S3072x1024, .f32⟩
  | .hbm, ⟨55, _⟩ => ⟨S3072x1024, .f32⟩
  | .hbm, ⟨56, _⟩ => ⟨S3072x1024, .f32⟩
  | .hbm, ⟨57, _⟩ => ⟨S3072x1024, .f32⟩
  | .hbm, ⟨58, _⟩ => ⟨S3072x1024, .f32⟩
  | .hbm, ⟨59, _⟩ => ⟨S3072x1024, .f32⟩
  | .hbm, ⟨60, _⟩ => ⟨S3072x1024, .f32⟩
  | .hbm, ⟨61, _⟩ => ⟨S_, .i32⟩
  | .hbm, ⟨62, _⟩ => ⟨S_, .i32⟩
  | .hbm, ⟨63, _⟩ => ⟨S4096x1024, .f32⟩
  | .hbm, ⟨64, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== KernelProjTop.lean ====
abbrev S4096x1024 : Shape := ⟨2, ![4096, 1024]⟩
abbrev S1x1024 : Shape := ⟨2, ![1, 1024]⟩
abbrev S1024x13312 : Shape := ⟨2, ![1024, 13312]⟩
abbrev S4096x13312 : Shape := ⟨2, ![4096, 13312]⟩
abbrev S1024x8x1664 : Shape := ⟨3, ![1024, 8, 1664]⟩
abbrev S8x1024x1664 : Shape := ⟨3, ![8, 1024, 1664]⟩
abbrev S1024x1664 : Shape := ⟨2, ![1024, 1664]⟩
abbrev S1x1024x1664 : Shape := ⟨3, ![1, 1024, 1664]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x13312, .f32⟩
  | .hbm, ⟨3, _⟩ => ⟨S4096x13312, .bf16⟩
  | .hbm, ⟨4, _⟩ => ⟨S4096x1024, .f32⟩
  | .hbm, ⟨5, _⟩ => ⟨S1024x13312, .bf16⟩
  | .hbm, ⟨6, _⟩ => ⟨S1024x8x1664, .bf16⟩
  | .hbm, ⟨7, _⟩ => ⟨S8x1024x1664, .bf16⟩
  | .hbm, ⟨8, _⟩ => ⟨S4096x1024, .f32⟩
  | .hbm, ⟨9, _⟩ => ⟨S1x1024, .f32⟩
  | .local _ .vmem, ⟨0, _⟩ => ⟨S1024x1664, .bf16⟩
  | .local _ .vmem, ⟨1, _⟩ => ⟨S1024x1664, .bf16⟩
  | .local _ .vmem, ⟨2, _⟩ => ⟨S1x1024x1664, .bf16⟩
  | .local _ .vmem, ⟨3, _⟩ => ⟨S1x1024x1664, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 8], ![false, false]⟩

def k0_cond3 (i : grid0.Coords) : BitVec 1 :=
  let arg1 : BitVec 32 := BitVec.ofNat 32 (i 1).val
  let c7_i32_7 : BitVec 32 := 7#32
  let v12 : BitVec 1 := Scalar.cmpi .eq arg1 c7_i32_7
  let v13 : BitVec 32 := Scalar.extui v12
  let c0_i32_8 : BitVec 32 := 0#32
  let v14 : BitVec 1 := Scalar.cmpi .ne v13 c0_i32_8
  v14

def k0_cond4 (i : grid0.Coords) : BitVec 1 :=
  let arg0 : BitVec 32 := BitVec.ofNat 32 (i 0).val
  let c0_i32_25 : BitVec 32 := 0#32
  let v47 : BitVec 1 := Scalar.cmpi .eq arg0 c0_i32_25
  let v48 : BitVec 32 := Scalar.extui v47
  let c0_i32_26 : BitVec 32 := 0#32
  let v49 : BitVec 1 := Scalar.cmpi .ne v48 c0_i32_26
  v49

def k0_cond5 (i : grid0.Coords) : BitVec 1 :=
  let arg0 : BitVec 32 := BitVec.ofNat 32 (i 0).val
  let c0_i32_27 : BitVec 32 := 0#32
  let v50 : BitVec 1 := Scalar.cmpi .sgt arg0 c0_i32_27
  let v51 : BitVec 32 := Scalar.extui v50
  let c0_i32_28 : BitVec 32 := 0#32
  let v52 : BitVec 1 := Scalar.cmpi .ne v51 c0_i32_28
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceProjTopIdeal.lean ====
abbrev S4096x1024 : Shape := ⟨2, ![4096, 1024]⟩
abbrev S1x1024 : Shape := ⟨2, ![1, 1024]⟩
abbrev S1024x13312 : Shape := ⟨2, ![1024, 13312]⟩
abbrev S4096x13312 : Shape := ⟨2, ![4096, 13312]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S13312x1024 : Shape := ⟨2, ![13312, 1024]⟩
abbrev S3072x1024 : Shape := ⟨2, ![3072, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x13312, .f32⟩
  | .hbm, ⟨3, _⟩ => ⟨S4096x13312, .bf16⟩
  | .hbm, ⟨4, _⟩ => ⟨S4096x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x1024, .f32⟩
  | .hbm, ⟨23, _⟩ => ⟨S1024x1024, .f32⟩
  | .hbm, ⟨24, _⟩ => ⟨S1x1024, .f32⟩
  | .hbm, ⟨25, _⟩ => ⟨S1024x1024, .f32⟩
  | .hbm, ⟨26, _⟩ => ⟨S1024x1024, .f32⟩
  | .hbm, ⟨27, _⟩ => ⟨S1024x13312, .f32⟩
  | .hbm, ⟨28, _⟩ => ⟨S1024x13312, .bf16⟩
  | .hbm, ⟨29, _⟩ => ⟨S1024x13312, .f32⟩
  | .hbm, ⟨30, _⟩ => ⟨S13312x1024, .f32⟩
  | .hbm, ⟨31, _⟩ => ⟨S1024x13312, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024, .f32⟩
  | .hbm, ⟨41, _⟩ => ⟨S1024x1024, .f32⟩
  | .hbm, ⟨42, _⟩ => ⟨S_, .f32⟩
  | .hbm, ⟨43, _⟩ => ⟨S1024, .f32⟩
  | .hbm, ⟨44, _⟩ => ⟨S1024x1, .f32⟩
  | .hbm, ⟨45, _⟩ => ⟨S1024x1024, .f32⟩
  | .hbm, ⟨46, _⟩ => ⟨S1024x1024, .f32⟩
  | .hbm, ⟨47, _⟩ => ⟨S1024x1, .f32⟩
  | .hbm, ⟨48, _⟩ => ⟨S_, .f32⟩
  | .hbm, ⟨49, _⟩ => ⟨S1024x1, .f32⟩
  | .hbm, ⟨50, _⟩ => ⟨S1024x1, .f32⟩
  | .hbm, ⟨51, _⟩ => ⟨S_, .f32⟩
  | .hbm, ⟨52, _⟩ => ⟨S1024, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S1024x1024, .f32⟩
  | .hbm, ⟨58, _⟩ => ⟨S1024x1024, .f32⟩
  | .hbm, ⟨59, _⟩ => ⟨S1024x1024, .f32⟩
  | .hbm, ⟨60, _⟩ => ⟨S_, .f32⟩
  | .hbm, ⟨61, _⟩ => ⟨S3072x1024, .f32⟩
  | .hbm, ⟨62, _⟩ => ⟨S4096x1024, .f32⟩
  | .hbm, ⟨63, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== KernelProj.lean ====
abbrev S4096x1024 : Shape := ⟨2, ![4096, 1024]⟩
abbrev S1x1024 : Shape := ⟨2, ![1, 1024]⟩
abbrev S1024x13312 : Shape := ⟨2, ![1024, 13312]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x8x1664 : Shape := ⟨3, ![1024, 8, 1664]⟩
abbrev S8x1024x1664 : Shape := ⟨3, ![8, 1024, 1664]⟩
abbrev S4096x13312 : Shape := ⟨2, ![4096, 13312]⟩
abbrev S2048x1024 : Shape := ⟨2, ![2048, 1024]⟩
abbrev S1x1024x1664 : Shape := ⟨3, ![1, 1024, 1664]⟩
abbrev S2048x1664 : Shape := ⟨2, ![2048, 1664]⟩
abbrev S1024x1664 : Shape := ⟨2, ![1024, 1664]⟩

abbrev nBuf : Space → Nat
  | .hbm => 25
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x13312, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x13312, .bf16⟩
  | .hbm, ⟨22, _⟩ => ⟨S1024x8x1664, .bf16⟩
  | .hbm, ⟨23, _⟩ => ⟨S8x1024x1664, .bf16⟩
  | .hbm, ⟨24, _⟩ => ⟨S4096x13312, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1664, .bf16⟩
  | .local _ .vmem, ⟨3, _⟩ => ⟨S1x1024x1664, .bf16⟩
  | .local _ .vmem, ⟨4, _⟩ => ⟨S2048x1664, .f32⟩
  | .local _ .vmem, ⟨5, _⟩ => ⟨S2048x1664, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjIdeal.lean ====
abbrev S4096x1024 : Shape := ⟨2, ![4096, 1024]⟩
abbrev S1x1024 : Shape := ⟨2, ![1, 1024]⟩
abbrev S1024x13312 : Shape := ⟨2, ![1024, 13312]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x13312 : Shape := ⟨2, ![4096, 13312]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x13312, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x13312, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KernelFfnInAct.lean ====
abbrev S4096x1024 : Shape := ⟨2, ![4096, 1024]⟩
abbrev S1x1024 : Shape := ⟨2, ![1, 1024]⟩
abbrev S1024x5632 : Shape := ⟨2, ![1024, 5632]⟩
abbrev S2x4096x2816 : Shape := ⟨3, ![2, 4096, 2816]⟩
abbrev S1x512x2816 : Shape := ⟨3, ![1, 512, 2816]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2x4096x2816, .bf16⟩
  | .hbm, ⟨4, _⟩ => ⟨S4096x1024, .f32⟩
  | .hbm, ⟨5, _⟩ => ⟨S1024x5632, .bf16⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32_7 : BitVec 32 := 1#32
  let v13 : BitVec 1 := Scalar.cmpi .eq arg1 c1_i32_7
  let v14 : BitVec 32 := Scalar.extui v13
  let c0_i32_8 : BitVec 32 := 0#32
  let v15 : BitVec 1 := Scalar.cmpi .ne v14 c0_i32_8
  v15

def k0_cond4 (i : grid0.Coords) : BitVec 1 :=
  let arg0 : BitVec 32 := BitVec.ofNat 32 (i 0).val
  let c0_i32_27 : BitVec 32 := 0#32
  let v50 : BitVec 1 := Scalar.cmpi .eq arg0 c0_i32_27
  let v51 : BitVec 32 := Scalar.extui v50
  let c0_i32_28 : BitVec 32 := 0#32
  let v52 : BitVec 1 := Scalar.cmpi .ne v51 c0_i32_28
  v52

def k0_cond5 (i : grid0.Coords) : BitVec 1 :=
  let arg0 : BitVec 32 := BitVec.ofNat 32 (i 0).val
  let c0_i32_29 : BitVec 32 := 0#32
  let v53 : BitVec 1 := Scalar.cmpi .sgt arg0 c0_i32_29
  let v54 : BitVec 32 := Scalar.extui v53
  let c0_i32_30 : BitVec 32 := 0#32
  let v55 : BitVec 1 := Scalar.cmpi .ne v54 c0_i32_30
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![arg1.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceFfnInActIdeal.lean ====
abbrev S4096x1024 : Shape := ⟨2, ![4096, 1024]⟩
abbrev S1x1024 : Shape := ⟨2, ![1, 1024]⟩
abbrev S1024x5632 : Shape := ⟨2, ![1024, 5632]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S5632x1024 : Shape := ⟨2, ![5632, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2x4096x2816, .bf16⟩
  | .hbm, ⟨4, _⟩ => ⟨S4096x1024, .f32⟩
  | .hbm, ⟨5, _⟩ => ⟨S1x4096x2816, .bf16⟩
  | .hbm, ⟨6, _⟩ => ⟨S4096x2816, .bf16⟩
  | .hbm, ⟨7, _⟩ => ⟨S4096x2816, .f32⟩
  | .hbm, ⟨8, _⟩ => ⟨S1x4096x2816, .bf16⟩
  | .hbm, ⟨9, _⟩ => ⟨S4096x2816, .bf16⟩
  | .hbm, ⟨10, _⟩ => ⟨S4096x2816, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x5632, .f32⟩
  | .hbm, ⟨33, _⟩ => ⟨S4096x2816, .f32⟩
  | .hbm, ⟨34, _⟩ => ⟨S4096x2816, .f32⟩
  | .hbm, ⟨35, _⟩ => ⟨S4096x5632, .f32⟩
  | .hbm, ⟨36, _⟩ => ⟨S5632x1024, .f32⟩
  | .hbm, ⟨37, _⟩ => ⟨S1024x5632, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .bf16⟩
  | .hbm, ⟨67, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== KernelFfnInW.lean ====
abbrev S4096x1024 : Shape := ⟨2, ![4096, 1024]⟩
abbrev S1x1024 : Shape := ⟨2, ![1, 1024]⟩
abbrev S1024x5632 : Shape := ⟨2, ![1024, 5632]⟩
abbrev S2x4096x2816 : Shape := ⟨3, ![2, 4096, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 24
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2x4096x2816, .bf16⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x4096, .f32⟩
  | .hbm, ⟨22, _⟩ => ⟨S1024x4096, .bf16⟩
  | .hbm, ⟨23, _⟩ => ⟨S1024x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_7 : BitVec 32 := 1#32
  let v13 : BitVec 1 := Scalar.cmpi .eq arg2 c1_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.divsi arg1 c2_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi arg1 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg2.toNat, v27.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfnInWIdeal.lean ====
abbrev S4096x1024 : Shape := ⟨2, ![4096, 1024]⟩
abbrev S1x1024 : Shape := ⟨2, ![1, 1024]⟩
abbrev S1024x5632 : Shape := ⟨2, ![1024, 5632]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S5632x1024 : Shape := ⟨2, ![5632, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S2x4096x2816, .bf16⟩
  | .hbm, ⟨4, _⟩ => ⟨S1x4096x2816, .bf16⟩
  | .hbm, ⟨5, _⟩ => ⟨S4096x2816, .bf16⟩
  | .hbm, ⟨6, _⟩ => ⟨S4096x2816, .f32⟩
  | .hbm, ⟨7, _⟩ => ⟨S1x4096x2816, .bf16⟩
  | .hbm, ⟨8, _⟩ => ⟨S4096x2816, .bf16⟩
  | .hbm, ⟨9, _⟩ => ⟨S4096x2816, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S4096x5632, .f32⟩
  | .hbm, ⟨31, _⟩ => ⟨S5632x1024, .f32⟩
  | .hbm, ⟨32, _⟩ => ⟨S1024x5632, .f32⟩
  | .hbm, ⟨33, _⟩ => ⟨S1024x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== KernelFfnIn.lean ====
abbrev S4096x1024 : Shape := ⟨2, ![4096, 1024]⟩
abbrev S1x1024 : Shape := ⟨2, ![1, 1024]⟩
abbrev S1024x5632 : Shape := ⟨2, ![1024, 5632]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S2816x4096 : Shape := ⟨2, ![2816, 4096]⟩
abbrev S1024x1024 : Shape := ⟨2, ![1024, 1024]⟩
abbrev S1024x1408 : Shape := ⟨2, ![1024, 1408]⟩
abbrev S1408x1024 : Shape := ⟨2, ![1408, 1024]⟩

abbrev nBuf : Space → Nat
  | .hbm => 26
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x5632, .bf16⟩
  | .hbm, ⟨22, _⟩ => ⟨S4096x2816, .bf16⟩
  | .hbm, ⟨23, _⟩ => ⟨S4096x2816, .bf16⟩
  | .hbm, ⟨24, _⟩ => ⟨S4096x2816, .bf16⟩
  | .hbm, ⟨25, _⟩ => ⟨S2816x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1408x1024, .bf16⟩
  | .local _ .vmem, ⟨13, _⟩ => ⟨S1408x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceFfnInIdeal.lean ====
abbrev S4096x1024 : Shape := ⟨2, ![4096, 1024]⟩
abbrev S1x1024 : Shape := ⟨2, ![1, 1024]⟩
abbrev S1024x5632 : Shape := ⟨2, ![1024, 5632]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S2816x4096 : Shape := ⟨2, ![2816, 4096]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .bf16⟩
  | .hbm, ⟨34, _⟩ => ⟨S4096x2816, .bf16⟩
  | .hbm, ⟨35, _⟩ => ⟨S4096x2816, .bf16⟩
  | .hbm, ⟨36, _⟩ => ⟨S2816x4096, .f32⟩
  | .hbm, ⟨37, _⟩ => ⟨S2816x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== KernelFfnOutW.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S2816x4096 : Shape := ⟨2, ![2816, 4096]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 19
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .f32⟩
  | .hbm, ⟨3, _⟩ => ⟨S4096x1024, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S2816x4096, .f32⟩
  | .hbm, ⟨17, _⟩ => ⟨S2816x4096, .bf16⟩
  | .hbm, ⟨18, _⟩ => ⟨S2816x1024, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFfnOutWIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1024x2816 : Shape := ⟨2, ![1024, 2816]⟩

abbrev nBuf : Space → Nat
  | .hbm => 21
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .f32⟩
  | .hbm, ⟨3, _⟩ => ⟨S4096x1024, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x1024, .f32⟩
  | .hbm, ⟨17, _⟩ => ⟨S4096x1024, .f32⟩
  | .hbm, ⟨18, _⟩ => ⟨S1024x2816, .f32⟩
  | .hbm, ⟨19, _⟩ => ⟨S2816x1024, .f32⟩
  | .hbm, ⟨20, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== KernelOutW.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceOutWIdeal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelProjHgW.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceProjHgWIdeal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelProjDaW.lean ====
abbrev S4096x512 : Shape := ⟨2, ![4096, 512]⟩
abbrev S512x1024 : Shape := ⟨2, ![512, 1024]⟩
abbrev S4096x1024 : Shape := ⟨2, ![4096, 1024]⟩
abbrev S2048x512 : Shape := ⟨2, ![2048, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x1024, .bf16⟩
  | .hbm, ⟨3, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceProjDaWIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x1024, .bf16⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelProjMemW.lean ====
abbrev S4096x512 : Shape := ⟨2, ![4096, 512]⟩
abbrev S512x1024 : Shape := ⟨2, ![512, 1024]⟩
abbrev S4096x1024 : Shape := ⟨2, ![4096, 1024]⟩
abbrev S2048x512 : Shape := ⟨2, ![2048, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x1024, .bf16⟩
  | .hbm, ⟨3, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceProjMemWIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .f32⟩
  | .hbm, ⟨2, _⟩ => ⟨S4096x1024, .bf16⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelMemKvW.lean ====
abbrev S256x1024 : Shape := ⟨2, ![256, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S256x1024, .bf16⟩
  | .hbm, ⟨3, _⟩ => ⟨S1024x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceMemKvWIdeal.lean ====
abbrev S256x1024 : Shape := ⟨2, ![256, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S256x1024, .bf16⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelMemKvAct.lean ====
abbrev S256x1024 : Shape := ⟨2, ![256, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S256x1024, .bf16⟩
  | .hbm, ⟨3, _⟩ => ⟨S1024x1024, .bf16⟩
  | .hbm, ⟨4, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceMemKvActIdeal.lean ====
abbrev S256x1024 : Shape := ⟨2, ![256, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S256x1024, .bf16⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelNormMem.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceNormMemIdeal.lean ====
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 27
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S_, .f32⟩
  | .hbm, ⟨25, _⟩ => ⟨S1024, .f32⟩
  | .hbm, ⟨26, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== KernelAdamwWIn.lean ====
abbrev S1024x1664 : Shape := ⟨2, ![1024, 1664]⟩
abbrev S3x1024x1664 : Shape := ⟨3, ![3, 1024, 1664]⟩
abbrev S128x1664 : Shape := ⟨2, ![128, 1664]⟩
abbrev S3x128x1664 : Shape := ⟨3, ![3, 128, 1664]⟩
abbrev S1x128x1664 : Shape := ⟨3, ![1, 128, 1664]⟩

abbrev nBuf : Space → Nat
  | .hbm => 9
  | .vmem => 18
  | .smem => 0
  | _ => 0

abbrev bufTy : (tb : Table) → Fin (tcTables nBuf tb) → BufTy
  | .hbm, ⟨0, _⟩ => ⟨S1024x1664, .f32⟩
  | .hbm, ⟨1, _⟩ => ⟨S3x1024x1664, .bf16⟩
  | .hbm, ⟨2, _⟩ => ⟨S1024x1664, .f32⟩
  | .hbm, ⟨3, _⟩ => ⟨S1024x1664, .f32⟩
  | .hbm, ⟨4, _⟩ => ⟨S1024x1664, .f32⟩
  | .hbm, ⟨5, _⟩ => ⟨S1024x1664, .f32⟩
  | .hbm, ⟨6, _⟩ => ⟨S1024x1664, .f32⟩
  | .hbm, ⟨7, _⟩ => ⟨S1024x1664, .f32⟩
  | .hbm, ⟨8, _⟩ => ⟨S1024x1664, .f32⟩
  | .local _ .vmem, ⟨0, _⟩ => ⟨S128x1664, .f32⟩
  | .local _ .vmem, ⟨1, _⟩ => ⟨S128x1664, .f32⟩
  | .local _ .vmem, ⟨2, _⟩ => ⟨S3x128x1664, .bf16⟩
  | .local _ .vmem, ⟨3, _⟩ => ⟨S3x128x1664, .bf16⟩
  | .local _ .vmem, ⟨4, _⟩ => ⟨S128x1664, .f32⟩
  | .local _ .vmem, ⟨5, _⟩ => ⟨S128x1664, .f32⟩
  | .local _ .vmem, ⟨6, _⟩ => ⟨S128x1664, .f32⟩
  | .local _ .vmem, ⟨7, _⟩ => ⟨S128x1664, .f32⟩
  | .local _ .vmem, ⟨8, _⟩ => ⟨S128x1664, .f32⟩
  | .local _ .vmem, ⟨9, _⟩ => ⟨S128x1664, .f32⟩
  | .local _ .vmem, ⟨10, _⟩ => ⟨S128x1664, .f32⟩
  | .local _ .vmem, ⟨11, _⟩ => ⟨S128x1664, .f32⟩
  | .local _ .vmem, ⟨12, _⟩ => ⟨S128x1664, .f32⟩
  | .local _ .vmem, ⟨13, _⟩ => ⟨S128x1664, .f32⟩
  | .local _ .vmem, ⟨14, _⟩ => ⟨S128x1664, .f32⟩
  | .local _ .vmem, ⟨15, _⟩ => ⟨S128x1664, .f32⟩
  | .local _ .vmem, ⟨16, _⟩ => ⟨S128x1664, .f32⟩
  | .local _ .vmem, ⟨17, _⟩ => ⟨S128x1664, .f32⟩
  | _, _ => ⟨S1024x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1664 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdamwWInIdeal.lean ====
abbrev S1024x1664 : Shape := ⟨2, ![1024, 1664]⟩
abbrev S3x1024x1664 : Shape := ⟨3, ![3, 1024, 1664]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1024x1664, .f32⟩
  | .hbm, ⟨1, _⟩ => ⟨S3x1024x1664, .bf16⟩
  | .hbm, ⟨2, _⟩ => ⟨S1024x1664, .f32⟩
  | .hbm, ⟨3, _⟩ => ⟨S1024x1664, .f32⟩
  | .hbm, ⟨4, _⟩ => ⟨S1024x1664, .f32⟩
  | .hbm, ⟨5, _⟩ => ⟨S3x1024x1664, .f32⟩
  | .hbm, ⟨6, _⟩ => ⟨S_, .f32⟩
  | .hbm, ⟨7, _⟩ => ⟨S1024x1664, .f32⟩
  | .hbm, ⟨8, _⟩ => ⟨S1024x1664, .f32⟩
  | .hbm, ⟨9, _⟩ => ⟨S_, .f32⟩
  | .hbm, ⟨10, _⟩ => ⟨S1024x1664, .f32⟩
  | .hbm, ⟨11, _⟩ => ⟨S1024x1664, .f32⟩
  | .hbm, ⟨12, _⟩ => ⟨S_, .f32⟩
  | .hbm, ⟨13, _⟩ => ⟨S1024x1664, .f32⟩
  | .hbm, ⟨14, _⟩ => ⟨S1024x1664, .f32⟩
  | .hbm, ⟨15, _⟩ => ⟨S1024x1664, .f32⟩
  | .hbm, ⟨16, _⟩ => ⟨S_, .f32⟩
  | .hbm, ⟨17, _⟩ => ⟨S1024x1664, .f32⟩
  | .hbm, ⟨18, _⟩ => ⟨S1024x1664, .f32⟩
  | .hbm, ⟨19, _⟩ => ⟨S1024x1664, .f32⟩
  | .hbm, ⟨20, _⟩ => ⟨S_, .f32⟩
  | .hbm, ⟨21, _⟩ => ⟨S1024x1664, .f32⟩
  | .hbm, ⟨22, _⟩ => ⟨S1024x1664, .f32⟩
  | .hbm, ⟨23, _⟩ => ⟨S1024x1664, .f32⟩
  | .hbm, ⟨24, _⟩ => ⟨S_, .f32⟩
  | .hbm, ⟨25, _⟩ => ⟨S1024x1664, .f32⟩
  | .hbm, ⟨26, _⟩ => ⟨S1024x1664, .f32⟩
  | .hbm, ⟨27, _⟩ => ⟨S_, .f32⟩
  | .hbm, ⟨28, _⟩ => ⟨S1024x1664, .f32⟩
  | .hbm, ⟨29, _⟩ => ⟨S1024x1664, .f32⟩
  | .hbm, ⟨30, _⟩ => ⟨S1024x1664, .f32⟩
  | .hbm, ⟨31, _⟩ => ⟨S_, .f32⟩
  | .hbm, ⟨32, _⟩ => ⟨S1024x1664, .f32⟩
  | .hbm, ⟨33, _⟩ => ⟨S1024x1664, .f32⟩
  | .hbm, ⟨34, _⟩ => ⟨S1024x1664, .f32⟩
  | .hbm, ⟨35, _⟩ => ⟨S_, .f32⟩
  | .hbm, ⟨36, _⟩ => ⟨S1024x1664, .f32⟩
  | .hbm, ⟨37, _⟩ => ⟨S1024x1664, .f32⟩
  | .hbm, ⟨38, _⟩ => ⟨S1024x1664, .f32⟩
  | .hbm, ⟨39, _⟩ => ⟨S_, .f32⟩
  | .hbm, ⟨40, _⟩ => ⟨S1024x1664, .f32⟩
  | .hbm, ⟨41, _⟩ => ⟨S1024x1664, .f32⟩
  | _, _ => ⟨S1024x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== KernelAdamwSquare.lean ====
abbrev S128x1024 : Shape := ⟨2, ![128, 1024]⟩
abbrev S3x128x1024 : Shape := ⟨3, ![3, 128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S3x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ReferenceAdamwSquareIdeal.lean ====
abbrev S128x1024 : Shape := ⟨2, ![128, 1024]⟩
abbrev S3x128x1024 : Shape := ⟨3, ![3, 128, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S3x128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== KernelAdamwBranch.lean ====
abbrev S512x128 : Shape := ⟨2, ![512, 128]⟩
abbrev S3x512x128 : Shape := ⟨3, ![3, 512, 128]⟩
abbrev S1x512x128 : Shape := ⟨3, ![1, 512, 128]⟩

abbrev nBuf : Space → Nat
  | .hbm => 9
  | .vmem => 9
  | .smem => 0
  | _ => 0

abbrev bufTy : (tb : Table) → Fin (tcTables nBuf tb) → BufTy
  | .hbm, ⟨0, _⟩ => ⟨S512x128, .f32⟩
  | .hbm, ⟨1, _⟩ => ⟨S3x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .local _ .vmem, ⟨0, _⟩ => ⟨S512x128, .f32⟩
  | .local _ .vmem, ⟨1, _⟩ => ⟨S3x512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ReferenceAdamwBranchIdeal.lean ====
abbrev S512x128 : Shape := ⟨2, ![512, 128]⟩
abbrev S3x512x128 : Shape := ⟨3, ![3, 512, 128]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S3x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S3x512x128, .f32⟩
  | .hbm, ⟨6, _⟩ => ⟨S_, .f32⟩
  | .hbm, ⟨7, _⟩ => ⟨S512x128, .f32⟩
  | .hbm, ⟨8, _⟩ => ⟨S512x128, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S512x128, .f32⟩
  | .hbm, ⟨14, _⟩ => ⟨S512x128, .f32⟩
  | .hbm, ⟨15, _⟩ => ⟨S512x128, .f32⟩
  | .hbm, ⟨16, _⟩ => ⟨S_, .f32⟩
  | .hbm, ⟨17, _⟩ => ⟨S512x128, .f32⟩
  | .hbm, ⟨18, _⟩ => ⟨S512x128, .f32⟩
  | .hbm, ⟨19, _⟩ => ⟨S512x128, .f32⟩
  | .hbm, ⟨20, _⟩ => ⟨S_, .f32⟩
  | .hbm, ⟨21, _⟩ => ⟨S512x128, .f32⟩
  | .hbm, ⟨22, _⟩ => ⟨S512x128, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S512x128, .f32⟩
  | .hbm, ⟨31, _⟩ => ⟨S_, .f32⟩
  | .hbm, ⟨32, _⟩ => ⟨S512x128, .f32⟩
  | .hbm, ⟨33, _⟩ => ⟨S512x128, .f32⟩
  | .hbm, ⟨34, _⟩ => ⟨S512x128, .f32⟩
  | .hbm, ⟨35, _⟩ => ⟨S_, .f32⟩
  | .hbm, ⟨36, _⟩ => ⟨S512x128, .f32⟩
  | .hbm, ⟨37, _⟩ => ⟨S512x128, .f32⟩
  | .hbm, ⟨38, _⟩ => ⟨S512x128, .f32⟩
  | .hbm, ⟨39, _⟩ => ⟨S_, .f32⟩
  | .hbm, ⟨40, _⟩ => ⟨S512x128, .f32⟩
  | .hbm, ⟨41, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== KernelAdamwFfnIn.lean ====
abbrev S1024x704 : Shape := ⟨2, ![1024, 704]⟩
abbrev S3x1024x704 : Shape := ⟨3, ![3, 1024, 704]⟩
abbrev S128x704 : Shape := ⟨2, ![128, 704]⟩
abbrev S3x128x704 : Shape := ⟨3, ![3, 128, 704]⟩
abbrev S1x128x704 : Shape := ⟨3, ![1, 128, 704]⟩

abbrev nBuf : Space → Nat
  | .hbm => 9
  | .vmem => 18
  | .smem => 0
  | _ => 0

abbrev bufTy : (tb : Table) → Fin (tcTables nBuf tb) → BufTy
  | .hbm, ⟨0, _⟩ => ⟨S1024x704, .f32⟩
  | .hbm, ⟨1, _⟩ => ⟨S3x1024x704, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1024x704, .f32⟩
  | .local _ .vmem, ⟨0, _⟩ => ⟨S128x704, .f32⟩
  | .local _ .vmem, ⟨1, _⟩ => ⟨S128x704, .f32⟩
  | .local _ .vmem, ⟨2, _⟩ => ⟨S3x128x704, .bf16⟩
  | .local _ .vmem, ⟨3, _⟩ => ⟨S3x128x704, .bf16⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | .local _ .vmem, ⟨16, _⟩ => ⟨S128x704, .f32⟩
  | .local _ .vmem, ⟨17, _⟩ => ⟨S128x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdamwFfnInIdeal.lean ====
abbrev S1024x704 : Shape := ⟨2, ![1024, 704]⟩
abbrev S3x1024x704 : Shape := ⟨3, ![3, 1024, 704]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S3x1024x704, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S3x1024x704, .f32⟩
  | .hbm, ⟨6, _⟩ => ⟨S_, .f32⟩
  | .hbm, ⟨7, _⟩ => ⟨S1024x704, .f32⟩
  | .hbm, ⟨8, _⟩ => ⟨S1024x704, .f32⟩
  | .hbm, ⟨9, _⟩ => ⟨S_, .f32⟩
  | .hbm, ⟨10, _⟩ => ⟨S1024x704, .f32⟩
  | .hbm, ⟨11, _⟩ => ⟨S1024x704, .f32⟩
  | .hbm, ⟨12, _⟩ => ⟨S_, .f32⟩
  | .hbm, ⟨13, _⟩ => ⟨S1024x704, .f32⟩
  | .hbm, ⟨14, _⟩ => ⟨S1024x704, .f32⟩
  | .hbm, ⟨15, _⟩ => ⟨S1024x704, .f32⟩
  | .hbm, ⟨16, _⟩ => ⟨S_, .f32⟩
  | .hbm, ⟨17, _⟩ => ⟨S1024x704, .f32⟩
  | .hbm, ⟨18, _⟩ => ⟨S1024x704, .f32⟩
  | .hbm, ⟨19, _⟩ => ⟨S1024x704, .f32⟩
  | .hbm, ⟨20, _⟩ => ⟨S_, .f32⟩
  | .hbm, ⟨21, _⟩ => ⟨S1024x704, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S_, .f32⟩
  | .hbm, ⟨28, _⟩ => ⟨S1024x704, .f32⟩
  | .hbm, ⟨29, _⟩ => ⟨S1024x704, .f32⟩
  | .hbm, ⟨30, _⟩ => ⟨S1024x704, .f32⟩
  | .hbm, ⟨31, _⟩ => ⟨S_, .f32⟩
  | .hbm, ⟨32, _⟩ => ⟨S1024x704, .f32⟩
  | .hbm, ⟨33, _⟩ => ⟨S1024x704, .f32⟩
  | .hbm, ⟨34, _⟩ => ⟨S1024x704, .f32⟩
  | .hbm, ⟨35, _⟩ => ⟨S_, .f32⟩
  | .hbm, ⟨36, _⟩ => ⟨S1024x704, .f32⟩
  | .hbm, ⟨37, _⟩ => ⟨S1024x704, .f32⟩
  | .hbm, ⟨38, _⟩ => ⟨S1024x704, .f32⟩
  | .hbm, ⟨39, _⟩ => ⟨S_, .f32⟩
  | .hbm, ⟨40, _⟩ => ⟨S1024x704, .f32⟩
  | .hbm, ⟨41, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== KernelAdamwFfnOut.lean ====
abbrev S352x1024 : Shape := ⟨2, ![352, 1024]⟩
abbrev S3x352x1024 : Shape := ⟨3, ![3, 352, 1024]⟩
abbrev S1x352x1024 : Shape := ⟨3, ![1, 352, 1024]⟩

abbrev nBuf : Space → Nat
  | .hbm => 9
  | .vmem => 9
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S352x1024, .f32⟩
  | .local _ .vmem, ⟨1, _⟩ => ⟨S3x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ReferenceAdamwFfnOutIdeal.lean ====
abbrev S352x1024 : Shape := ⟨2, ![352, 1024]⟩
abbrev S3x352x1024 : Shape := ⟨3, ![3, 352, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S3x352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== KernelFfnOut.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1x128 : Shape := ⟨2, ![1, 128]⟩
abbrev S512x1024 : Shape := ⟨2, ![512, 1024]⟩
abbrev S512x2816 : Shape := ⟨2, ![512, 2816]⟩
abbrev S1x1024 : Shape := ⟨2, ![1, 1024]⟩
abbrev S1024 : Shape := ⟨1, ![1024]⟩
abbrev S1 : Shape := ⟨1, ![1]⟩
abbrev S1x1 : Shape := ⟨2, ![1, 1]⟩

abbrev nBuf : Space → Nat
  | .hbm => 22
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .f32⟩
  | .hbm, ⟨3, _⟩ => ⟨S4096x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .bf16⟩
  | .hbm, ⟨18, _⟩ => ⟨S2816x1024, .bf16⟩
  | .hbm, ⟨19, _⟩ => ⟨S4096x1024, .f32⟩
  | .hbm, ⟨20, _⟩ => ⟨S4096x1024, .bf16⟩
  | .hbm, ⟨21, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | .local _ .vmem, ⟨12, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceFfnOutIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .f32⟩
  | .hbm, ⟨3, _⟩ => ⟨S4096x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_cst_4 : Ref sig .tc := ⟨.hbm, 33, rfl⟩
abbrev main_cst_5 : Ref sig .tc := ⟨.hbm, 34, rfl⟩
abbrev main_v15 : Ref sig .tc := ⟨.hbm, 35, rfl⟩
abbrev main_v16 : Ref sig .tc := ⟨.hbm, 36, rfl⟩
abbrev main_cst_6 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]
-- ==== KernelFfnOutAct.lean ====
abbrev S4096x2816 : Shape := ⟨2, ![4096, 2816]⟩
abbrev S2816x1024 : Shape := ⟨2, ![2816, 1024]⟩
abbrev S4096x1024 : Shape := ⟨2, ![4096, 1024]⟩
abbrev S2x4096x2816 : Shape := ⟨3, ![2, 4096, 2816]⟩
abbrev S1024x1024 : Shape := ⟨2, ![1024, 1024]⟩
abbrev S1408x1024 : Shape := ⟨2, ![1408, 1024]⟩
abbrev S1024x1408 : Shape := ⟨2, ![1024, 1408]⟩
abbrev S2x1024x1408 : Shape := ⟨3, ![2, 1024, 1408]⟩
abbrev S1x1024x1408 : Shape := ⟨3, ![1, 1024, 1408]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .f32⟩
  | .hbm, ⟨3, _⟩ => ⟨S4096x1024, .bf16⟩
  | .hbm, ⟨4, _⟩ => ⟨S2816x1024, .bf16⟩
  | .hbm, ⟨5, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S2x1024x1408, .bf16⟩
  | .local _ .vmem, ⟨9, _⟩ => ⟨S2x1024x1408, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceFfnOutActIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1024x2816 : Shape := ⟨2, ![1024, 2816]⟩
abbrev S1x4096x2816 : Shape := ⟨3, ![1, 4096, 2816]⟩
abbrev S2x4096x2816 : Shape := ⟨3, ![2, 4096, 2816]⟩

abbrev nBuf : Space → Nat
  | .hbm => 35
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .f32⟩
  | .hbm, ⟨3, _⟩ => ⟨S4096x1024, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x1024, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S1x4096x2816, .f32⟩
  | .hbm, ⟨32, _⟩ => ⟨S1x4096x2816, .f32⟩
  | .hbm, ⟨33, _⟩ => ⟨S2x4096x2816, .f32⟩
  | .hbm, ⟨34, _⟩ => ⟨S2x4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== KernelNormMix.lean ====
abbrev S4096x1024 : Shape := ⟨2, ![4096, 1024]⟩
abbrev S1x1024 : Shape := ⟨2, ![1, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x512, .bf16⟩
  | .local _ .vmem, ⟨6, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceNormMixIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1024x4096, .f32⟩
  | .hbm, ⟨21, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== KernelNormMemFwd.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceNormMemFwdIdeal.lean ====
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 20
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelMemKv.lean ====
abbrev S256x1024 : Shape := ⟨2, ![256, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S1024x1024, .bf16⟩
  | .hbm, ⟨3, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceMemKvIdeal.lean ====
abbrev S256x1024 : Shape := ⟨2, ![256, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x1024, .f32⟩
  | .hbm, ⟨2, _⟩ => ⟨S256x1024, .f32⟩
  | .hbm, ⟨3, _⟩ => ⟨S256x1024, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelMerge.lean ====
abbrev S4096x13312 : Shape := ⟨2, ![4096, 13312]⟩
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 14
  | .vmem => 23
  | .smem => 0
  | _ => 0

abbrev bufTy : (tb : Table) → Fin (tcTables nBuf tb) → BufTy
  | .hbm, ⟨0, _⟩ => ⟨S4096x13312, .f32⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S1024x1024, .bf16⟩
  | .hbm, ⟨8, _⟩ => ⟨S512x1024, .bf16⟩
  | .hbm, ⟨9, _⟩ => ⟨S512x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S4096x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_1 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceMergeIdeal.lean ====
abbrev S4096x13312 : Shape := ⟨2, ![4096, 13312]⟩
abbrev S4096x1024 : Shape := ⟨2, ![4096, 1024]⟩
abbrev S4096x512 : Shape := ⟨2, ![4096, 512]⟩
abbrev S1024x1024 : Shape := ⟨2, ![1024, 1024]⟩
abbrev S512x1024 : Shape := ⟨2, ![512, 1024]⟩
abbrev S4096x3072 : Shape := ⟨2, ![4096, 3072]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x13312, .f32⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S4096x3072, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x512, .f32⟩
  | .hbm, ⟨14, _⟩ => ⟨S4096x1024, .f32⟩
  | .hbm, ⟨15, _⟩ => ⟨S4096x512, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | .hbm, ⟨47, _⟩ => ⟨S4096x1024, .bf16⟩
  | .hbm, ⟨48, _⟩ => ⟨S4096x1024, .bf16⟩
  | .hbm, ⟨49, _⟩ => ⟨S4096x1024, .bf16⟩
  | _, _ => ⟨S4096x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== KernelOutNorm.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S4096x1024, .f32⟩
  | .hbm, ⟨6, _⟩ => ⟨S4096x1024, .bf16⟩
  | .hbm, ⟨7, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceOutNormIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S1024x4096, .f32⟩
  | .hbm, ⟨26, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelMemFwd.lean ====
abbrev S4096x13312 : Shape := ⟨2, ![4096, 13312]⟩
abbrev S256x1024 : Shape := ⟨2, ![256, 1024]⟩
abbrev S1x128 : Shape := ⟨2, ![1, 128]⟩
abbrev S4096x512 : Shape := ⟨2, ![4096, 512]⟩
abbrev S1024x128 : Shape := ⟨2, ![1024, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 5
  | .vmem => 10
  | .smem => 0
  | _ => 0

abbrev bufTy : (tb : Table) → Fin (tcTables nBuf tb) → BufTy
  | .hbm, ⟨0, _⟩ => ⟨S4096x13312, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S4096x512, .bf16⟩
  | .local _ .vmem, ⟨0, _⟩ => ⟨S1024x128, .f32⟩
  | .local _ .vmem, ⟨1, _⟩ => ⟨S1024x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | _, _ => ⟨S4096x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c76_i32 : BitVec 32 := 76#32
  let v0 : BitVec 32 := Scalar.addi c76_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceMemFwdIdeal.lean ====
abbrev S4096x13312 : Shape := ⟨2, ![4096, 13312]⟩
abbrev S256x1024 : Shape := ⟨2, ![256, 1024]⟩
abbrev S1x128 : Shape := ⟨2, ![1, 128]⟩
abbrev S256x512 : Shape := ⟨2, ![256, 512]⟩
abbrev S4096x512 : Shape := ⟨2, ![4096, 512]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S256x4x128 : Shape := ⟨3, ![256, 4, 128]⟩
abbrev S256x4 : Shape := ⟨2, ![256, 4]⟩
abbrev S256x4x1 : Shape := ⟨3, ![256, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 66
  | .vmem => 0
  | .smem => 0
  | _ => 0

abbrev bufTy : (tb : Table) → Fin (tcTables nBuf tb) → BufTy
  | .hbm, ⟨0, _⟩ => ⟨S4096x13312, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S256x512, .f32⟩
  | .hbm, ⟨5, _⟩ => ⟨S256x512, .f32⟩
  | .hbm, ⟨6, _⟩ => ⟨S4096x512, .f32⟩
  | .hbm, ⟨7, _⟩ => ⟨S128, .f32⟩
  | .hbm, ⟨8, _⟩ => ⟨S128, .f32⟩
  | .hbm, ⟨9, _⟩ => ⟨S4096x4x128, .f32⟩
  | .hbm, ⟨10, _⟩ => ⟨S4096x4x128, .f32⟩
  | .hbm, ⟨11, _⟩ => ⟨S_, .f32⟩
  | .hbm, ⟨12, _⟩ => ⟨S4096x4, .f32⟩
  | .hbm, ⟨13, _⟩ => ⟨S4096x4x1, .f32⟩
  | .hbm, ⟨14, _⟩ => ⟨S_, .f32⟩
  | .hbm, ⟨15, _⟩ => ⟨S4096x4x1, .f32⟩
  | .hbm, ⟨16, _⟩ => ⟨S4096x4x1, .f32⟩
  | .hbm, ⟨17, _⟩ => ⟨S_, .f32⟩
  | .hbm, ⟨18, _⟩ => ⟨S4096x4x1, .f32⟩
  | .hbm, ⟨19, _⟩ => ⟨S4096x4x1, .f32⟩
  | .hbm, ⟨20, _⟩ => ⟨S4096x4x1, .f32⟩
  | .hbm, ⟨21, _⟩ => ⟨S4096x4x128, .f32⟩
  | .hbm, ⟨22, _⟩ => ⟨S4096x4x128, .f32⟩
  | .hbm, ⟨23, _⟩ => ⟨S1x1x128, .f32⟩
  | .hbm, ⟨24, _⟩ => ⟨S4096x4x128, .f32⟩
  | .hbm, ⟨25, _⟩ => ⟨S4096x4x128, .f32⟩
  | .hbm, ⟨26, _⟩ => ⟨S256x4x128, .f32⟩
  | .hbm, ⟨27, _⟩ => ⟨S256x4x128, .f32⟩
  | .hbm, ⟨28, _⟩ => ⟨S_, .f32⟩
  | .hbm, ⟨29, _⟩ => ⟨S256x4, .f32⟩
  | .hbm, ⟨30, _⟩ => ⟨S256x4x1, .f32⟩
  | .hbm, ⟨31, _⟩ => ⟨S_, .f32⟩
  | .hbm, ⟨32, _⟩ => ⟨S256x4x1, .f32⟩
  | .hbm, ⟨33, _⟩ => ⟨S256x4x1, .f32⟩
  | .hbm, ⟨34, _⟩ => ⟨S_, .f32⟩
  | .hbm, ⟨35, _⟩ => ⟨S256x4x1, .f32⟩
  | .hbm, ⟨36, _⟩ => ⟨S256x4x1, .f32⟩
  | .hbm, ⟨37, _⟩ => ⟨S256x4x1, .f32⟩
  | .hbm, ⟨38, _⟩ => ⟨S256x4x128, .f32⟩
  | .hbm, ⟨39, _⟩ => ⟨S256x4x128, .f32⟩
  | .hbm, ⟨40, _⟩ => ⟨S1x1x128, .f32⟩
  | .hbm, ⟨41, _⟩ => ⟨S256x4x128, .f32⟩
  | .hbm, ⟨42, _⟩ => ⟨S256x4x128, .f32⟩
  | .hbm, ⟨43, _⟩ => ⟨S256x4x128, .f32⟩
  | .hbm, ⟨44, _⟩ => ⟨S4x4096x256, .f32⟩
  | .hbm, ⟨45, _⟩ => ⟨S_, .f32⟩
  | .hbm, ⟨46, _⟩ => ⟨S4x4096x256, .f32⟩
  | .hbm, ⟨47, _⟩ => ⟨S4x4096x256, .f32⟩
  | .hbm, ⟨48, _⟩ => ⟨S_, .f32⟩
  | .hbm, ⟨49, _⟩ => ⟨S4x4096, .f32⟩
  | .hbm, ⟨50, _⟩ => ⟨S_, .f32⟩
  | .hbm, ⟨51, _⟩ => ⟨S4x4096, .f32⟩
  | .hbm, ⟨52, _⟩ => ⟨S4x4096, .f32⟩
  | .hbm, ⟨53, _⟩ => ⟨S4x4096x1, .f32⟩
  | .hbm, ⟨54, _⟩ => ⟨S4x4096x256, .f32⟩
  | .hbm, ⟨55, _⟩ => ⟨S4x4096x256, .f32⟩
  | .hbm, ⟨56, _⟩ => ⟨S4x4096x256, .f32⟩
  | .hbm, ⟨57, _⟩ => ⟨S_, .f32⟩
  | .hbm, ⟨58, _⟩ => ⟨S4x4096, .f32⟩
  | .hbm, ⟨59, _⟩ => ⟨S4x4096x1, .f32⟩
  | .hbm, ⟨60, _⟩ => ⟨S4x4096x256, .f32⟩
  | .hbm, ⟨61, _⟩ => ⟨S4x4096x256, .f32⟩
  | .hbm, ⟨62, _⟩ => ⟨S4x128x4096, .f32⟩
  | .hbm, ⟨63, _⟩ => ⟨S4096x4x128, .f32⟩
  | .hbm, ⟨64, _⟩ => ⟨S4096x512, .f32⟩
  | .hbm, ⟨65, _⟩ => ⟨S4096x512, .bf16⟩
  | _, _ => ⟨S4096x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Proof.RealFacts.lean ====
/- Facts on extended reals that the two sides of the equation meet by: scaling a sum, the softmax gradient and the
   gradient of the root-mean-square norm. Nothing here mentions a program. -/
module

public import Idealize.ShloMosaic.PureOps.Ideal
public import Idealize.ShloMosaic.Lib.ValueIdx

@[expose] public section

noncomputable section

namespace Cert.RealFacts

open Idealize.ShloMosaic

/-- A nonnegative real factor goes into a sum of extended reals. -/
theorem mul_sum {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-- A nonnegative real factor goes into a difference. -/
theorem mul_sub (a : ℝ) (ha : 0 ≤ a) (x y : EReal) : (a : EReal) * (x - y) = a * x - a * y := by
  rw [sub_eq_add_neg, EReal.left_distrib_of_nonneg_of_ne_top (by exact_mod_cast ha) (EReal.coe_ne_top a), mul_neg,
    ← sub_eq_add_neg]

/-- Twice a real multiple. -/
theorem add_self_mul (c : ℝ) (s : EReal) : (c : EReal) * s + c * s = ((c + c : ℝ) : EReal) * s := by
  induction s using EReal.rec with
  | coe r => norm_cast; ring
  | top =>
    rcases lt_trichotomy c 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy c 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

/-- The gradient of a softmax, through the normaliser and through the numerator, is the probability times the
    difference from the mean: `e` the numerators, `l` their sum, `g` the gradient of the probabilities. -/
theorem softmax_grad {n : ℕ} (e : Fin n → ℝ) (he : ∀ c, 0 ≤ e c) (l : ℝ) (hl : 0 < l) (g : Fin n → EReal) (k : EReal)
    (c : Fin n) :
    (Ideal.div (g c) l + -(∑ c', g c' * Ideal.div 1 ((l : EReal) * l) * (e c' : EReal))) * (e c : EReal) * k
      = Ideal.div (e c) l * (g c - ∑ c', Ideal.div (e c') l * g c') * k := by
  have h2 : ((l : EReal) * l) = ((l * l : ℝ) : EReal) := by norm_cast
  have hll : l * l ≠ 0 := by positivity
  simp only [h2, Ideal.div_coe hl.ne', Ideal.div_coe hll, one_mul]
  have hs : (∑ c', g c' * ((1 / (l * l) : ℝ) : EReal) * (e c' : EReal))
      = ((1 / l : ℝ) : EReal) * ∑ c', (e c' : EReal) * ((1 / l : ℝ) : EReal) * g c' := by
    rw [mul_sum _ _ (by positivity)]
    refine Finset.sum_congr rfl fun c' _ => ?_
    have : ((1 / (l * l) : ℝ) : EReal) = ((1 / l : ℝ) : EReal) * ((1 / l : ℝ) : EReal) := by
      rw [← EReal.coe_mul]; congr 1; field_simp
    rw [this]; ac_rfl
  rw [hs, ← sub_eq_add_neg, mul_comm (g c), ← mul_sub _ (by positivity)]
  ac_rfl

/-- The gradient through the root-mean-square norm: `x` the row, `r` the reciprocal root of `u`, `y` the gradient of the
    normalised row. One form scales a difference, the other adds the two halves of the square's gradient. -/
theorem norm_grad {n : ℕ} (x : Fin n → ℝ) (r u : ℝ) (hu : 0 < u) (hr : r = (Real.sqrt u)⁻¹) (y : Fin n → EReal) (N : ℝ)
    (hN : N ≠ 0) (d : Fin n) :
    (r : EReal) * (y d - (x d : EReal) * r * Ideal.div (∑ i, y i * ((x i : EReal) * r)) N)
      = y d * r + ((x d : EReal) * Ideal.div ((∑ i, (x i : EReal) * y i) * (((-(1 / 2) : ℝ) : EReal) * Ideal.div r u)) N
          + (x d : EReal) * Ideal.div ((∑ i, (x i : EReal) * y i) * (((-(1 / 2) : ℝ) : EReal) * Ideal.div r u)) N) := by
  have hr0 : 0 < r := by rw [hr]; positivity
  have hru : r * (1 / u) = r * r * r := by
    have : 1 / u = r * r := by
      rw [hr, ← mul_inv, Real.mul_self_sqrt hu.le, one_div]
    rw [this]; ring
  have hs : ∑ i, y i * ((x i : EReal) * r) = (r : EReal) * ∑ i, (x i : EReal) * y i := by
    rw [mul_sum _ _ hr0.le]
    exact Finset.sum_congr rfl fun i _ => by ac_rfl
  rw [hs]
  generalize (∑ i, (x i : EReal) * y i) = S
  simp only [Ideal.div_coe hu.ne', Ideal.div_coe hN]
  rw [mul_sub _ hr0.le, sub_eq_add_neg, mul_comm (y d)]
  congr 1
  have e1 : (x d : EReal) * (S * (((-(1 / 2) : ℝ) : EReal) * ((r : EReal) * ((1 / u : ℝ) : EReal))) * ((1 / N : ℝ) : EReal))
      = ((-(x d * (1 / 2) * (r * (1 / u)) * (1 / N)) : ℝ) : EReal) * S := by
    have : ((-(x d * (1 / 2) * (r * (1 / u)) * (1 / N)) : ℝ) : EReal)
        = (x d : EReal) * ((-(1 / 2) : ℝ) : EReal) * ((r : EReal) * ((1 / u : ℝ) : EReal)) * ((1 / N : ℝ) : EReal) := by
      simp only [← EReal.coe_mul]; congr 1; ring
    rw [this]; ac_rfl
  have e2 : -((r : EReal) * ((x d : EReal) * r * ((r : EReal) * S * ((1 / N : ℝ) : EReal))))
      = ((-(x d * (r * (1 / u)) * (1 / N)) : ℝ) : EReal) * S := by
    have : ((-(x d * (r * (1 / u)) * (1 / N)) : ℝ) : EReal)
        = -((r : EReal) * ((x d : EReal) * r * ((r : EReal) * ((1 / N : ℝ) : EReal)))) := by
      rw [hru]; simp only [← EReal.coe_mul, ← EReal.coe_neg]; congr 1; ring
    rw [this, neg_mul]; congr 1; ac_rfl
  rw [e1, e2, add_self_mul]
  congr 2; ring

end Cert.RealFacts

end
-- ==== Proof.Spec.lean ====
module

public import proofs.«01_k».proof.Proof.RealFacts
public import Idealize.ShloMosaic.Lib.Pointwise

@[expose] public section

noncomputable section

/-! The gradient of the memory attention, one head at a time, as functions over the extended reals: `gq`, `gk` the two
    gains, `K` and `V` the head's 256 keys and values, `q` one row of queries, `o` the output's gradient at that row. -/

namespace Cert.MemGrad

open Idealize.ShloMosaic

/-- A row of one head. -/
abbrev Row := Fin 128 → EReal

def width : EReal := Ideal.ofBits .f32 0x43000000#32
def eps : EReal := Ideal.ofBits .f32 0x358637BD#32
def scale : EReal := Ideal.ofBits .f32 0x3DB504F3#32
def low : EReal := Ideal.ofBits .f32 0xFF800000#32

/-- One over the root mean square of a row. -/
def rinv (x : Row) : EReal := Ideal.rsqrt (Ideal.div (∑ d, x d * x d) width + eps)
/-- The row normalized, without its gain. -/
def hat (x : Row) (d : Fin 128) : EReal := x d * rinv x
/-- The row normalized, with its gain. -/
def nrm (x g : Row) (d : Fin 128) : EReal := x d * rinv x * g d
/-- The scaled scores of a row of queries. -/
def score (gq gk : Row) (K : Fin 256 → Row) (q : Row) (c : Fin 256) : EReal := (∑ d, nrm q gq d * nrm (K c) gk d) * scale
/-- The greatest score of a row. -/
def top (s : Fin 256 → EReal) : EReal := Finset.univ.fold max low s
/-- The numerators of the softmax. -/
def num (s : Fin 256 → EReal) (c : Fin 256) : EReal := Ideal.exp (s c - top s)
/-- The softmax of a row. -/
def prob (s : Fin 256 → EReal) (c : Fin 256) : EReal := Ideal.div (num s c) (∑ c', num s c')
/-- The gradient of the softmax's results at one row. -/
def dprob (V : Fin 256 → Row) (o : Row) (c : Fin 256) : EReal := ∑ d, o d * V c d
/-- The gradient of the scores before their scale. -/
def dscore (s g : Fin 256 → EReal) (c : Fin 256) : EReal := prob s c * (g c - ∑ c', prob s c' * g c') * scale
/-- The gradient of a row under its norm and gain, from the gradient `y` of the normalized row. -/
def unnorm (x g y : Row) (d : Fin 128) : EReal :=
  rinv x * (y d * g d - hat x d * Ideal.div (∑ e, y e * g e * hat x e) width)

variable (gq gk : Row) (K V : Fin 256 → Row) (q o : Row)

/-- The gradient of the scores of a row of queries. -/
def dS (c : Fin 256) : EReal := dscore (score gq gk K q) (dprob V o) c
/-- The gradient of a row of normalized queries. -/
def dQn (d : Fin 128) : EReal := ∑ c, dS gq gk K V q o c * nrm (K c) gk d
/-- The gradient of a row of queries. -/
def dQ (d : Fin 128) : EReal := unnorm q gq (dQn gq gk K V q o) d

/-! ## The whole call: its five results as functions of its six arguments -/

/-- A matrix of extended reals. -/
abbrev Mat (R C : ℕ) := (⟨2, ![R, C]⟩ : Shape).Idx → EReal

/-- Row `l` of head `h` of the queries: they begin at column 9728 of the projections. -/
def Qh (A0 : Mat 4096 13312) (h : Fin 4) (l : Fin 4096) : Row := fun d => A0 (ix2 l ⟨9728 + (128 * h.val + d.val), by omega⟩)
/-- The keys of head `h`. -/
def Kh (A1 : Mat 256 1024) (h : Fin 4) (c : Fin 256) : Row := fun d => A1 (ix2 c ⟨128 * h.val + d.val, by omega⟩)
/-- The values of head `h`. -/
def Vh (A1 : Mat 256 1024) (h : Fin 4) (c : Fin 256) : Row := fun d => A1 (ix2 c ⟨512 + (128 * h.val + d.val), by omega⟩)
/-- Row `l` of head `h` of the output's gradient. -/
def Oh (A4 : Mat 4096 512) (h : Fin 4) (l : Fin 4096) : Row := fun d => A4 (ix2 l ⟨128 * h.val + d.val, by omega⟩)
/-- A gain. -/
def gain (A : Mat 1 128) : Row := fun d => A (ix2 0 d)

variable (A0 : Mat 4096 13312) (A1 : Mat 256 1024) (A2 A3 : Mat 1 128) (A4 : Mat 4096 512) (A5 : Mat 4096 13312)

/-- The scores of row `l` of head `h`. -/
def Sc (h : Fin 4) (l : Fin 4096) : Fin 256 → EReal := score (gain A2) (gain A3) (Kh A1 h) (Qh A0 h l)
/-- The gradient of the scores of row `l` of head `h`. -/
def dSc (h : Fin 4) (l : Fin 4096) : Fin 256 → EReal := dS (gain A2) (gain A3) (Kh A1 h) (Vh A1 h) (Qh A0 h l) (Oh A4 h l)
/-- The gradient of the normalized queries. -/
def dQnh (h : Fin 4) (l : Fin 4096) : Row := dQn (gain A2) (gain A3) (Kh A1 h) (Vh A1 h) (Qh A0 h l) (Oh A4 h l)
/-- The gradient of the queries. -/
def dQh (h : Fin 4) (l : Fin 4096) : Row := dQ (gain A2) (gain A3) (Kh A1 h) (Vh A1 h) (Qh A0 h l) (Oh A4 h l)
/-- The gradient of the values. -/
def dVh (h : Fin 4) (c : Fin 256) : Row := fun d => ∑ l, prob (Sc A0 A1 A2 A3 h l) c * Oh A4 h l d
/-- The gradient of the normalized keys. -/
def dKnh (h : Fin 4) (c : Fin 256) : Row := fun d => ∑ l, dSc A0 A1 A2 A3 A4 h l c * nrm (Qh A0 h l) (gain A2) d
/-- The gradient of the keys. -/
def dKh (h : Fin 4) (c : Fin 256) : Row := unnorm (Kh A1 h c) (gain A3) (dKnh A0 A1 A2 A3 A4 h c)

/-- The head and the lane of a column of 512. -/
def hd (n : Fin 512) : Fin 4 := ⟨n.val / 128, by omega⟩
def ln (n : Fin 512) : Fin 128 := ⟨n.val % 128, by omega⟩

/-- The first result: the projections' gradient, its 512 columns of queries replaced. -/
def R0 : Mat 4096 13312 := fun j =>
  if h : 9728 ≤ (j 1).val ∧ (j 1).val < 10240 then
    dQh A0 A1 A2 A3 A4 (hd ⟨(j 1).val - 9728, by omega⟩) (j 0) (ln ⟨(j 1).val - 9728, by omega⟩)
  else A5 j
/-- The second: the gradient of the keys. -/
def R1 : Mat 256 512 := fun j => dKh A0 A1 A2 A3 A4 (hd (j 1)) (j 0) (ln (j 1))
/-- The third: the gradient of the values. -/
def R2 : Mat 256 512 := fun j => dVh A0 A1 A2 A3 A4 (hd (j 1)) (j 0) (ln (j 1))
/-- The fourth: the gradient of the queries' gain. -/
def R3 : Mat 1 128 := fun j => ∑ h, ∑ l, dQnh A0 A1 A2 A3 A4 h l (j 1) * hat (Qh A0 h l) (j 1)
/-- The fifth: the gradient of the keys' gain. -/
def R4 : Mat 1 128 := fun j => ∑ h, ∑ c, dKnh A0 A1 A2 A3 A4 h c (j 1) * hat (Kh A1 h c) (j 1)

end Cert.MemGrad

end
-- ==== Proof.Ref.lean ====
module

public import proofs.«01_k».proof.Proof.Gen.ReferenceIdeal.Read
public import proofs.«01_k».proof.Proof.Spec
public import Idealize.ShloMosaic.Lib.Pointwise

@[expose] public section

set_option maxRecDepth 16384

noncomputable section

/-! The reference's operations read at an index, head by head. -/

namespace Cert.ReferenceIdeal.At

open Cert.ReferenceIdeal Cert.ReferenceIdeal.Read Cert.MemGrad Idealize.ShloMosaic

variable (x0 : Mat 4096 13312) (x1 : Mat 256 1024) (x2 x3 : Mat 1 128) (x4 : Mat 4096 512) (x5 : Mat 4096 13312)

/-! ## The rows and their norms -/

theorem q_at (l : Fin 4096) (h : Fin 4) (d : Fin 128) :
    val_main_v5 (F := Ideal) x0 (ix3 l h d) = Qh x0 h l d := by
  pointwise [val_main_v5, val_main_v0]
  simp only [Qh, Nat.mul_comm]

theorem k_at (c : Fin 256) (h : Fin 4) (d : Fin 128) :
    val_main_v22 (F := Ideal) x1 (ix3 c h d) = Kh x1 h c d := by
  pointwise [val_main_v22, val_main_v1]
  simp only [Kh, Nat.mul_comm]

theorem v_at (c : Fin 256) (h : Fin 4) (d : Fin 128) :
    val_main_v39 (F := Ideal) x1 (ix3 c h d) = Vh x1 h c d := by
  pointwise [val_main_v39, val_main_v2]
  simp only [Vh, Nat.mul_comm]

theorem o_at (h : Fin 4) (d : Fin 128) (l : Fin 4096) :
    val_main_v75 (F := Ideal) x4 (ix3 h d l) = Oh x4 h l d := by
  pointwise [val_main_v75, val_main_v74]
  simp only [Oh, Nat.mul_comm]

theorem gq_at (d : Fin 128) : val_main_v3 (F := Ideal) x2 (ix1 d) = gain x2 d := by
  pointwise [val_main_v3]
  rfl

theorem gk_at (d : Fin 128) : val_main_v4 (F := Ideal) x3 (ix1 d) = gain x3 d := by
  pointwise [val_main_v4]
  rfl

/-- The mean square of a row, away from zero. -/
def ms (x : Row) : EReal := Ideal.div (∑ d, x d * x d) width + eps

theorem qms_at (l : Fin 4096) (h : Fin 4) (z : Fin 1) :
    val_main_v12 (F := Ideal) x0 (ix3 l h z) = ms (Qh x0 h l) := by
  pointwise [val_main_v12, val_main_v11, val_main_v10, val_main_v9, val_main_v8, val_main_cst_0, val_main_cst_1,
    val_main_v7, val_main_v6, val_main_cst, q_at]
  rfl

theorem kms_at (c : Fin 256) (h : Fin 4) (z : Fin 1) :
    val_main_v29 (F := Ideal) x1 (ix3 c h z) = ms (Kh x1 h c) := by
  pointwise [val_main_v29, val_main_v28, val_main_v27, val_main_v26, val_main_v25, val_main_cst_4, val_main_cst_5,
    val_main_v24, val_main_v23, val_main_cst_3, k_at]
  rfl

theorem qr_at (l : Fin 4096) (h : Fin 4) (z : Fin 1) :
    val_main_v13 (F := Ideal) x0 (ix3 l h z) = rinv (Qh x0 h l) := by
  pointwise [val_main_v13, qms_at]
  rfl

theorem kr_at (c : Fin 256) (h : Fin 4) (z : Fin 1) :
    val_main_v30 (F := Ideal) x1 (ix3 c h z) = rinv (Kh x1 h c) := by
  pointwise [val_main_v30, kms_at]
  rfl

/-- Half of one over the cube of the root mean square, with its sign. -/
def cub (x : Row) : EReal := Ideal.ofBits .f32 0xBF000000#32 * Ideal.div (rinv x) (ms x)

theorem qc_at (l : Fin 4096) (h : Fin 4) (z : Fin 1) :
    val_main_v16 (F := Ideal) x0 (ix3 l h z) = cub (Qh x0 h l) := by
  pointwise [val_main_v16, val_main_v15, val_main_v14, val_main_cst_2, qms_at, qr_at]
  rfl

theorem kc_at (c : Fin 256) (h : Fin 4) (z : Fin 1) :
    val_main_v33 (F := Ideal) x1 (ix3 c h z) = cub (Kh x1 h c) := by
  pointwise [val_main_v33, val_main_v32, val_main_v31, val_main_cst_6, kms_at, kr_at]
  rfl

theorem qhat_at (l : Fin 4096) (h : Fin 4) (d : Fin 128) :
    val_main_v18 (F := Ideal) x0 (ix3 l h d) = hat (Qh x0 h l) d := by
  pointwise [val_main_v18, val_main_v17, q_at, qr_at]
  rfl

theorem khat_at (c : Fin 256) (h : Fin 4) (d : Fin 128) :
    val_main_v35 (F := Ideal) x1 (ix3 c h d) = hat (Kh x1 h c) d := by
  pointwise [val_main_v35, val_main_v34, k_at, kr_at]
  rfl

theorem qn_at (l : Fin 4096) (h : Fin 4) (d : Fin 128) :
    val_main_v21 (F := Ideal) x0 x2 (ix3 l h d) = nrm (Qh x0 h l) (gain x2) d := by
  pointwise [val_main_v21, val_main_v20, val_main_v19, qhat_at, gq_at]
  rfl

theorem kn_at (c : Fin 256) (h : Fin 4) (d : Fin 128) :
    val_main_v38 (F := Ideal) x1 x3 (ix3 c h d) = nrm (Kh x1 h c) (gain x3) d := by
  pointwise [val_main_v38, val_main_v37, val_main_v36, khat_at, gk_at]
  rfl

/-! ## The softmax and its gradient -/

theorem score_at (h : Fin 4) (l : Fin 4096) (c : Fin 256) :
    val_main_v42 (F := Ideal) x0 x1 x2 x3 (ix3 h l c) = Sc x0 x1 x2 x3 h l c := by
  pointwise [val_main_v42, val_main_v41, val_main_cst_7, val_main_v40, qn_at, kn_at]
  rfl

theorem low_eq : low = ⊥ := by
  simp [low, Ideal.ofBits, Ideal.ieee]

/-- The reference's maximum of a row, over any scores. -/
theorem max_read (y : FVec Ideal S4x4096x256 .f32) (w : BitVec 32) (h : Fin 4) (l : Fin 4096) :
    Host.reduce FloatOps.maximumf y (constant (F := Ideal) S_ .f32 w)
        Cert.ReferenceIdeal.Gen.facts.reducesTo_S4x4096x256_S4x4096_d2 Cert.ReferenceIdeal.Gen.facts.h_S_ (ix2 h l)
      = Finset.univ.fold max (Ideal.ofBits .f32 w) fun c => y (ix3 h l c) := by
  pointwise

theorem max_at (h : Fin 4) (l : Fin 4096) :
    val_main_v43 (F := Ideal) x0 x1 x2 x3 (ix2 h l) = top (Sc x0 x1 x2 x3 h l) := by
  have e := max_read (val_main_v42 (F := Ideal) x0 x1 x2 x3) 0xFF800000#32 h l
  simp only [score_at] at e
  exact e

theorem top_at (h : Fin 4) (l : Fin 4096) :
    val_main_v50 (F := Ideal) x0 x1 x2 x3 (ix2 h l) = top (Sc x0 x1 x2 x3 h l) := by
  rw [val_main_v50_apply, max_at]
  have e : val_main_v49 (F := Ideal) (ix2 h l) = ⊥ := (val_main_v49_apply _).trans low_eq
  rw [e]
  exact max_eq_right bot_le

theorem num_at (h : Fin 4) (l : Fin 4096) (c : Fin 256) :
    val_main_v63 (F := Ideal) x0 x1 x2 x3 (ix3 h l c) = num (Sc x0 x1 x2 x3 h l) c := by
  pointwise [val_main_v63, val_main_v62, val_main_v61, val_main_v60, top_at, score_at]
  rfl

theorem den_at (h : Fin 4) (l : Fin 4096) (z : Fin 1) :
    val_main_v65 (F := Ideal) x0 x1 x2 x3 (ix3 h l z) = ∑ c, num (Sc x0 x1 x2 x3 h l) c := by
  pointwise [val_main_v65, val_main_v64, val_main_cst_16, num_at]

theorem prob_at (h : Fin 4) (l : Fin 4096) (c : Fin 256) :
    val_main_v67 (F := Ideal) x0 x1 x2 x3 (ix3 h l c) = prob (Sc x0 x1 x2 x3 h l) c := by
  pointwise [val_main_v67, val_main_v66, den_at, num_at]
  rfl

theorem dprob_at (h : Fin 4) (l : Fin 4096) (c : Fin 256) :
    val_main_v76 (F := Ideal) x1 x4 (ix3 h l c) = dprob (Vh x1 h) (Oh x4 h l) c := by
  pointwise [val_main_v76, o_at, v_at]
  rfl

/-- The gradient of the values. -/
theorem dv_at (c : Fin 256) (h : Fin 4) (d : Fin 128) :
    val_main_v78 (F := Ideal) x0 x1 x2 x3 x4 (ix3 c h d) = dVh x0 x1 x2 x3 x4 h c d := by
  pointwise [val_main_v78, val_main_v77, o_at, prob_at]
  exact Finset.sum_congr rfl fun l _ => mul_comm _ _

/-- The gradient of the scores as the reference forms it. -/
def rscore (s g : Fin 256 → EReal) (c : Fin 256) : EReal :=
  (Ideal.div (g c) (∑ c', num s c')
    + -(∑ c', g c' * Ideal.div 1 ((∑ i, num s i) * ∑ i, num s i) * num s c')) * num s c * scale

theorem one_eq : Ideal.ofBits .f32 0x3F800000#32 = 1 := by
  simp [Ideal.ofBits, Ideal.ieee, -EReal.coe_mul]
  norm_num

theorem dsum_at (h : Fin 4) (l : Fin 4096) (z : Fin 1) :
    val_main_v84 (F := Ideal) x0 x1 x2 x3 x4 (ix3 h l z)
      = -(∑ c', dprob (Vh x1 h) (Oh x4 h l) c'
        * Ideal.div 1 ((∑ i, num (Sc x0 x1 x2 x3 h l) i) * ∑ i, num (Sc x0 x1 x2 x3 h l) i)
        * num (Sc x0 x1 x2 x3 h l) c') := by
  pointwise [val_main_v84, val_main_v83, val_main_v82, val_main_cst_18, val_main_v81, val_main_v80, val_main_v79,
    val_main_v70, val_main_v69, val_main_cst_17, val_main_v68, den_at, num_at, dprob_at, one_eq]

theorem rscore_at (h : Fin 4) (l : Fin 4096) (c : Fin 256) :
    val_main_v92 (F := Ideal) x0 x1 x2 x3 x4 (ix3 h l c)
      = rscore (Sc x0 x1 x2 x3 h l) (dprob (Vh x1 h) (Oh x4 h l)) c := by
  pointwise [val_main_v92, val_main_v91, val_main_cst_20, val_main_v90, val_main_v89, val_main_v88, val_main_v87,
    val_main_cst_19, val_main_v86, val_main_v85, den_at, num_at, dprob_at, dsum_at]
  simp only [Fin.sum_univ_one]
  rfl

end Cert.ReferenceIdeal.At

end
-- ==== Proof.Finite.lean ====
module

public import proofs.«01_k».proof.Proof.Ref

@[expose] public section

noncomputable section

/-! At finite rows and gains the norms, the scores and the softmax are real numbers. -/

namespace Cert.MemGrad

open Idealize.ShloMosaic Cert.ReferenceIdeal.At

/-- Every element of a row is a real number. -/
def IsReal {n : ℕ} (x : Fin n → EReal) : Prop := ∃ f : Fin n → ℝ, ∀ d, x d = f d

theorem isReal_of {n : ℕ} {x : Fin n → EReal} (h : ∀ d, ∃ r : ℝ, x d = r) : IsReal x :=
  ⟨fun d => (h d).choose, fun d => (h d).choose_spec⟩

theorem width_eq : width = ((128 : ℝ) : EReal) := by
  simp [width, Ideal.ofBits, Ideal.ieee, -EReal.coe_mul]
  norm_num

theorem half_eq : Ideal.ofBits .f32 0xBF000000#32 = ((-(1 / 2) : ℝ) : EReal) := by
  simp [Ideal.ofBits, Ideal.ieee, -EReal.coe_mul]
  norm_num

theorem eps_eq : ∃ e : ℝ, 0 < e ∧ eps = (e : EReal) := by
  refine ⟨_, ?_, by simp [eps, Ideal.ofBits, Ideal.ieee, -EReal.coe_mul]; rfl⟩
  norm_num

theorem scale_eq : ∃ e : ℝ, scale = (e : EReal) := by
  refine ⟨_, by simp [scale, Ideal.ofBits, Ideal.ieee, -EReal.coe_mul]; rfl⟩

theorem coe_sum {n : ℕ} (f : Fin n → ℝ) : ∑ d, (f d : EReal) = ((∑ d, f d : ℝ) : EReal) := by
  induction n with
  | zero => simp
  | succ n ih => rw [Fin.sum_univ_succ, Fin.sum_univ_succ, ih, EReal.coe_add]

theorem ms_real {x : Row} (hx : IsReal x) :
    ∃ u : ℝ, 0 < u ∧ ms x = (u : EReal) ∧ rinv x = (((Real.sqrt u)⁻¹ : ℝ) : EReal) := by
  obtain ⟨f, hf⟩ := hx
  obtain ⟨e, he, hee⟩ := eps_eq
  have hs : ms x = (((∑ d, f d * f d) * (1 / 128) + e : ℝ) : EReal) := by
    unfold ms
    simp only [hf, ← EReal.coe_mul]
    rw [coe_sum, width_eq, hee, Ideal.div_coe (by norm_num), ← EReal.coe_mul, ← EReal.coe_add]
  have hp : 0 < (∑ d, f d * f d) * (1 / 128) + e := by
    have : 0 ≤ ∑ d, f d * f d := Finset.sum_nonneg fun d _ => mul_self_nonneg _
    positivity
  refine ⟨_, hp, hs, ?_⟩
  show Ideal.rsqrt (ms x) = _
  rw [hs, Ideal.rsqrt_coe]
  rw [if_neg (not_lt.2 hp.le), if_neg hp.ne']

theorem nrm_real {x g : Row} (hx : IsReal x) (hg : IsReal g) : IsReal (nrm x g) := by
  obtain ⟨u, -, -, hr⟩ := ms_real hx
  obtain ⟨f, hf⟩ := hx
  obtain ⟨k, hk⟩ := hg
  refine ⟨fun d => f d * (Real.sqrt u)⁻¹ * k d, fun d => ?_⟩
  rw [nrm, hr, hf, hk, ← EReal.coe_mul, ← EReal.coe_mul]

theorem score_real {gq gk : Row} {K : Fin 256 → Row} {q : Row} (hgq : IsReal gq) (hgk : IsReal gk) (hK : ∀ c, IsReal (K c))
    (hq : IsReal q) : IsReal (score gq gk K q) := by
  refine isReal_of fun c => ?_
  obtain ⟨a, ha⟩ := nrm_real hq hgq
  obtain ⟨b, hb⟩ := nrm_real (hK c) hgk
  obtain ⟨s, hs⟩ := scale_eq
  refine ⟨(∑ d, a d * b d) * s, ?_⟩
  simp only [score, ha, hb, hs, ← EReal.coe_mul]
  rw [coe_sum, ← EReal.coe_mul]

theorem top_real {s : Fin 256 → EReal} (hs : IsReal s) : ∃ t : ℝ, top s = (t : EReal) := by
  obtain ⟨f, hf⟩ := hs
  have h1 : top s ≠ ⊤ := by
    refine ne_of_lt ?_
    rw [top, Finset.fold_max_lt, low_eq]
    exact ⟨bot_lt_top, fun c _ => by rw [hf]; exact EReal.coe_lt_top _⟩
  have h2 : top s ≠ ⊥ := by
    refine ne_of_gt ?_
    rw [top, Finset.lt_fold_max]
    exact .inr ⟨0, Finset.mem_univ _, by rw [hf]; exact EReal.bot_lt_coe _⟩
  exact ⟨(top s).toReal, (EReal.coe_toReal h1 h2).symm⟩

theorem num_real {s : Fin 256 → EReal} (hs : IsReal s) : ∃ e : Fin 256 → ℝ, (∀ c, 0 < e c) ∧ ∀ c, num s c = (e c : EReal) := by
  obtain ⟨t, ht⟩ := top_real hs
  obtain ⟨f, hf⟩ := hs
  refine ⟨fun c => Real.exp (f c - t), fun c => Real.exp_pos _, fun c => ?_⟩
  rw [num, hf, ht, ← EReal.coe_sub]
  rfl

/-- The reference's gradient of the scores is the kernel's. -/
theorem rscore_eq {s : Fin 256 → EReal} (hs : IsReal s) (g : Fin 256 → EReal) (c : Fin 256) :
    rscore s g c = dscore s g c := by
  obtain ⟨e, he, hn⟩ := num_real hs
  have hl : 0 < ∑ c, e c := Finset.sum_pos (fun c _ => he c) ⟨0, Finset.mem_univ _⟩
  unfold rscore dscore prob
  simp only [hn, coe_sum]
  exact Cert.RealFacts.softmax_grad e (fun c => (he c).le) _ hl g scale c

/-- The gradient of a row under its norm, as the reference forms it. -/
def runnorm (x g y : Row) (d : Fin 128) : EReal :=
  y d * g d * rinv x + x d * Ideal.div ((∑ e, x e * (y e * g e)) * cub x) width
    + Ideal.div ((∑ e, x e * (y e * g e)) * cub x) width * x d

theorem runnorm_eq {x : Row} (hx : IsReal x) (g y : Row) (d : Fin 128) : runnorm x g y d = unnorm x g y d := by
  obtain ⟨u, hu, hm, hr⟩ := ms_real hx
  obtain ⟨f, hf⟩ := hx
  unfold runnorm unnorm hat cub
  simp only [hm, hr, hf, half_eq, width_eq]
  rw [Cert.RealFacts.norm_grad f _ u hu rfl (fun e => y e * g e) 128 (by norm_num) d, add_assoc,
    mul_comm (Ideal.div _ _) (f d : EReal)]

end Cert.MemGrad

end
-- ==== Proof.RefOut.lean ====
module

public import proofs.«01_k».proof.Proof.Finite

@[expose] public section

set_option maxRecDepth 16384

noncomputable section

/-! The reference's five results, at finite queries, keys and gains. -/

namespace Cert.ReferenceIdeal.At

open Cert.ReferenceIdeal Cert.ReferenceIdeal.Read Cert.MemGrad Idealize.ShloMosaic

/-- A sum over the first two of three axes. -/
theorem sum_two {n0 n1 n2 : ℕ} (h : (⟨3, ![n0, n1, n2]⟩ : Shape).ReducesTo [0, 1] ⟨1, ![n2]⟩)
    (v : (⟨3, ![n0, n1, n2]⟩ : Shape).Idx → EReal) (z : EReal) (d : Fin n2) :
    Ideal.hostReduceAdd h v z (ix1 d) = z + ∑ b : Fin n1, ∑ a : Fin n0, v (ix3 a b d) := by
  unfold Ideal.hostReduceAdd
  congr 1
  rw [← Fintype.sum_prod_type']
  refine Finset.sum_nbij' (fun i => (i 1, i 0)) (fun p => ix3 p.2 p.1 d) ?_ ?_ ?_ ?_ ?_
  · exact fun _ _ => Finset.mem_univ _
  · intro p _
    refine Finset.mem_filter.2 ⟨Finset.mem_univ _, ?_⟩
    funext b
    match b with
    | ⟨0, _⟩ => exact Fin.ext rfl
  · intro i hi
    have e : i 2 = d := Fin.ext (congrArg Fin.val (congrFun (Finset.mem_filter.1 hi).2 (0 : Fin 1)))
    exact (congrArg (ix3 (i 0) (i 1)) e.symm).trans (eq_ix3 (n0 := n0) (n1 := n1) (n2 := n2) i).symm
  · exact fun _ _ => rfl
  · intro i hi
    have e : i 2 = d := Fin.ext (congrArg Fin.val (congrFun (Finset.mem_filter.1 hi).2 (0 : Fin 1)))
    exact congrArg v (((congrArg (ix3 (i 0) (i 1)) e.symm).trans (eq_ix3 (n0 := n0) (n1 := n1) (n2 := n2) i).symm).symm)

/-- Columns replaced in place: the new ones inside, the old ones elsewhere. -/
theorem update_at {α : Type} (x : (⟨2, ![4096, 13312]⟩ : Shape).Idx → α) (u : (⟨2, ![4096, 512]⟩ : Shape).Idx → α)
    (start : Fin 2 → Int) (h : (⟨2, ![4096, 13312]⟩ : Shape).Slices (fun _ => 0) ⟨2, ![4096, 512]⟩)
    (h0 : start 0 = 0) (h1 : start 1 = 9728) (a : Fin 4096) (b : Fin 13312) :
    Host.dynamicUpdateSlice x u start h (ix2 a b)
      = if hb : 9728 ≤ b.val ∧ b.val < 10240 then u (ix2 a ⟨b.val - 9728, by omega⟩) else x (ix2 a b) := by
  have s0 : Host.clampedStart ⟨2, ![4096, 13312]⟩ ⟨2, ![4096, 512]⟩ h.1 start 0 = 0 := by
    simp [Host.clampedStart, h0]
  have s1 : Host.clampedStart ⟨2, ![4096, 13312]⟩ ⟨2, ![4096, 512]⟩ h.1 start 1 = 9728 := by
    simp [Host.clampedStart, h1]
  pointwise
  simp only [s0, s1, Nat.zero_le, true_and, Nat.sub_zero, Nat.zero_add, a.isLt, Nat.reduceAdd]

variable (x0 : Mat 4096 13312) (x1 : Mat 256 1024) (x2 x3 : Mat 1 128) (x4 : Mat 4096 512) (x5 : Mat 4096 13312)

/-- The queries, the keys and the gains are real numbers. -/
structure Reals : Prop where
  q : ∀ h l, IsReal (Qh x0 h l)
  k : ∀ h c, IsReal (Kh x1 h c)
  gq : IsReal (gain x2)
  gk : IsReal (gain x3)

variable {x0 x1 x2 x3}
variable (H : Reals x0 x1 x2 x3)
include H

theorem dscore_at (h : Fin 4) (l : Fin 4096) (c : Fin 256) :
    val_main_v92 (F := Ideal) x0 x1 x2 x3 x4 (ix3 h l c) = dSc x0 x1 x2 x3 x4 h l c :=
  (rscore_at x0 x1 x2 x3 x4 h l c).trans (rscore_eq (score_real H.gq H.gk (H.k h) (H.q h l)) _ c)

theorem dkn_at (c : Fin 256) (h : Fin 4) (d : Fin 128) :
    val_main_v94 (F := Ideal) x0 x1 x2 x3 x4 (ix3 c h d) = dKnh x0 x1 x2 x3 x4 h c d := by
  pointwise [val_main_v94, val_main_v93, qn_at]
  simp only [dscore_at x4 H]
  rfl

theorem dqn_at (l : Fin 4096) (h : Fin 4) (d : Fin 128) :
    val_main_v96 (F := Ideal) x0 x1 x2 x3 x4 (ix3 l h d) = dQnh x0 x1 x2 x3 x4 h l d := by
  pointwise [val_main_v96, val_main_v95, kn_at]
  simp only [dscore_at x4 H]
  rfl

theorem dk_at (c : Fin 256) (h : Fin 4) (d : Fin 128) :
    val_main_v117 (F := Ideal) x0 x1 x2 x3 x4 (ix3 c h d) = dKh x0 x1 x2 x3 x4 h c d := by
  refine Eq.trans ?_ (runnorm_eq (H.k h c) _ _ d)
  have e := dkn_at x4 H
  pointwise [val_main_v117, val_main_v116, val_main_v115, val_main_v114, val_main_v113, val_main_v112, val_main_cst_25,
    val_main_v111, val_main_v110, val_main_cst_24, val_main_v109, val_main_v108, val_main_v107, val_main_v106,
    val_main_v105, val_main_cst_23, val_main_v104, val_main_v102, val_main_v101, val_main_v36,
    k_at, kr_at, kc_at, gk_at]
  simp only [e, Fin.sum_univ_one]
  rfl

theorem dq_at (l : Fin 4096) (h : Fin 4) (d : Fin 128) :
    val_main_v138 (F := Ideal) x0 x1 x2 x3 x4 (ix3 l h d) = dQh x0 x1 x2 x3 x4 h l d := by
  refine Eq.trans ?_ (runnorm_eq (H.q h l) _ _ d)
  have e := dqn_at x4 H
  pointwise [val_main_v138, val_main_v137, val_main_v136, val_main_v135, val_main_v134, val_main_v133, val_main_cst_30,
    val_main_v132, val_main_v131, val_main_cst_29, val_main_v130, val_main_v129, val_main_v128, val_main_v127,
    val_main_v126, val_main_cst_28, val_main_v125, val_main_v123, val_main_v122, val_main_v19,
    q_at, qr_at, qc_at, gq_at]
  simp only [e, Fin.sum_univ_one]
  rfl

/-! ## The results -/

theorem dk_result : val_main_v118 (F := Ideal) x0 x1 x2 x3 x4 = R1 x0 x1 x2 x3 x4 := by
  funext j
  have e := dk_at x4 H
  obtain ⟨a, b, rfl⟩ : ∃ a b, j = ix2 (n0 := 256) (n1 := 512) a b := ⟨j 0, j 1, eq_ix2 (n0 := 256) (n1 := 512) j⟩
  pointwise [val_main_v118]
  simp only [e]
  rfl

theorem dv_result : val_main_v97 (F := Ideal) x0 x1 x2 x3 x4 = R2 x0 x1 x2 x3 x4 := by
  funext j
  obtain ⟨a, b, rfl⟩ : ∃ a b, j = ix2 (n0 := 256) (n1 := 512) a b := ⟨j 0, j 1, eq_ix2 (n0 := 256) (n1 := 512) j⟩
  pointwise [val_main_v97, dv_at]
  rfl

theorem dgq_result : val_main_v142 (F := Ideal) x0 x1 x2 x3 x4 = R3 x0 x1 x2 x3 x4 := by
  funext j
  have e := dqn_at x4 H
  obtain ⟨a, b, rfl⟩ : ∃ a b, j = ix2 (n0 := 1) (n1 := 128) a b := ⟨j 0, j 1, eq_ix2 (n0 := 1) (n1 := 128) j⟩
  have e1 : val_main_v120 (F := Ideal) x0 x1 x2 x3 x4 (ix1 b) = R3 x0 x1 x2 x3 x4 (ix2 a b) := by
    pointwise [val_main_v120, val_main_cst_26, sum_two, val_main_v119, qhat_at]
    simp only [e, mul_comm (hat _ _)]
    rfl
  rw [← e1]
  pointwise [val_main_v142, val_main_v124, val_main_cst_27, sum_two, val_main_v121]
  simp only [Fin.sum_univ_one]

theorem dgk_result : val_main_v143 (F := Ideal) x0 x1 x2 x3 x4 = R4 x0 x1 x2 x3 x4 := by
  funext j
  have e := dkn_at x4 H
  obtain ⟨a, b, rfl⟩ : ∃ a b, j = ix2 (n0 := 1) (n1 := 128) a b := ⟨j 0, j 1, eq_ix2 (n0 := 1) (n1 := 128) j⟩
  have e1 : val_main_v99 (F := Ideal) x0 x1 x2 x3 x4 (ix1 b) = R4 x0 x1 x2 x3 x4 (ix2 a b) := by
    pointwise [val_main_v99, val_main_cst_21, sum_two, val_main_v98, khat_at]
    simp only [e, mul_comm (hat _ _)]
    rfl
  rw [← e1]
  pointwise [val_main_v143, val_main_v103, val_main_cst_22, sum_two, val_main_v100]
  simp only [Fin.sum_univ_one]

theorem dq_result (a : Fin 4096) (b : Fin 512) :
    val_main_v140 (F := Ideal) x0 x1 x2 x3 x4 (ix2 a b) = dQh x0 x1 x2 x3 x4 (hd b) a (ln b) := by
  have e := dq_at x4 H
  pointwise [val_main_v140, val_main_v139]
  simp only [e]
  rfl

theorem dproj_result : val_main_v141 (F := Ideal) x0 x1 x2 x3 x4 x5 = R0 x0 x1 x2 x3 x4 x5 := by
  funext j
  obtain ⟨a, b, rfl⟩ : ∃ a b, j = ix2 (n0 := 4096) (n1 := 13312) a b := ⟨j 0, j 1, eq_ix2 (n0 := 4096) (n1 := 13312) j⟩
  refine (update_at _ _ _ _ rfl rfl a b).trans ?_
  simp only [dq_result x4 H]
  rfl

end Cert.ReferenceIdeal.At

end
-- ==== Proof.Points.lean ====
module

public import proofs.«01_k».proof.Proof.Gen.KernelIdeal.Frame
public import Idealize.ShloMosaic.Lib.Pipeline.Value
public import Idealize.ShloMosaic.Lib.Pipeline.ValueKit
public import Idealize.ShloMosaic.Lib.Tactic

@[expose] public section

set_option maxRecDepth 16384

noncomputable section

namespace Cert.KernelIdeal.Points

open Cert.KernelIdeal Cert.KernelIdeal.Gen Idealize.ShloMosaic Idealize.ShloMosaic.TcCoe Idealize.SL.Sem

variable {F : FTy → Type} [FloatOps F]

/-! ## One piece of a point: 256 rows of q and of the output's gradient against one head's keys and values -/

/-- The gradient of the piece's rows of q. -/
def pDq (gq gk : Vec F S1x128 .f32) (k v q d : Vec F S256x128 .f32) : FVec F S256x128 .bf16 :=
  k0_pay18 gq (k0_pay9 gk k) v (k0_pay10 q) (k0_pay11 q) (k0_pay13 gq gk k q) (k0_pay14 gq gk k q) d

/-- The piece's part of the gradient of the values. -/
def pDv (gq gk : Vec F S1x128 .f32) (k v q d : Vec F S256x128 .f32) : FVec F S256x128 .f32 :=
  k0_pay19 (k0_pay13 gq gk k q) (k0_pay14 gq gk k q) d

/-- The piece's part of the gradient of the normalized keys. -/
def pDkn (gq gk : Vec F S1x128 .f32) (k v q d : Vec F S256x128 .f32) : FVec F S256x128 .f32 :=
  k0_pay20 v (k0_pay12 gq q) (k0_pay13 gq gk k q) (k0_pay14 gq gk k q) d

/-- The piece's part of the gradient of q's gain. -/
def pDgq (gq gk : Vec F S1x128 .f32) (k v q d : Vec F S256x128 .f32) : FVec F S1x128 .f32 :=
  k0_pay21 (k0_pay9 gk k) v (k0_pay11 q) (k0_pay13 gq gk k q) (k0_pay14 gq gk k q) d

/-- The rows `[off, off + 256)` of a block of 1024 rows. -/
abbrev rows0 (x : Vec F S1024x128 .f32) : Vec F S256x128 .f32 := View.ld x (Rect.unit ![0, 0] ![256, 128] inb_S1024x128_S256x128_0_0)
abbrev rows1 (x : Vec F S1024x128 .f32) : Vec F S256x128 .f32 := View.ld x (Rect.unit ![256, 0] ![256, 128] inb_S1024x128_S256x128_256_0)
abbrev rows2 (x : Vec F S1024x128 .f32) : Vec F S256x128 .f32 := View.ld x (Rect.unit ![512, 0] ![256, 128] inb_S1024x128_S256x128_512_0)
abbrev rows3 (x : Vec F S1024x128 .f32) : Vec F S256x128 .f32 := View.ld x (Rect.unit ![768, 0] ![256, 128] inb_S1024x128_S256x128_768_0)

variable (gq gk : Vec F S1x128 .f32) (k v q d : Vec F S256x128 .f32)

theorem dv1 : k0_pay31 (k0_pay25 gq (k0_pay9 gk k) q) d = pDv gq gk k v q d := rfl
theorem dv2 : k0_pay43 (k0_pay37 gq (k0_pay9 gk k) q) (k0_pay38 gq (k0_pay9 gk k) q) d = pDv gq gk k v q d := rfl
theorem dv3 (a b e : FVec F S256x128 .f32) :
    k0_pay55 a b e (k0_pay50 gq (k0_pay9 gk k) q (k0_pay46 q) (FloatOps.ofBits .f32 897988541#32)) d
      = addf (addf (addf a b) e) (pDv gq gk k v q d) := rfl
theorem dkn1 : k0_pay32 (k0_pay24 gq q) (k0_pay26 gq (k0_pay9 gk k) v q d) = pDkn gq gk k v q d := rfl
theorem dkn2 : k0_pay44 v (k0_pay36 gq q) (k0_pay37 gq (k0_pay9 gk k) q) (k0_pay38 gq (k0_pay9 gk k) q) d = pDkn gq gk k v q d := rfl
theorem dkn3 (a b e : FVec F S256x128 .f32) :
    k0_pay56 a b e (k0_pay49 gq q (k0_pay46 q) (FloatOps.ofBits .f32 897988541#32))
        (k0_pay51 gq (k0_pay9 gk k) v q (k0_pay46 q) (FloatOps.ofBits .f32 897988541#32) d)
      = addf (addf (addf a b) e) (pDkn gq gk k v q d) := rfl
theorem dgq1 : k0_pay33 (k0_pay23 q) (k0_pay27 gq (k0_pay9 gk k) v q d) = pDgq gq gk k v q d := rfl
theorem dgq2 : k0_pay45 (k0_pay9 gk k) v (k0_pay35 q) (k0_pay37 gq (k0_pay9 gk k) q) (k0_pay38 gq (k0_pay9 gk k) q) d = pDgq gq gk k v q d := rfl
theorem dgq3 (a b e : FVec F S1x128 .f32) :
    k0_pay57 a b e (k0_pay48 q (k0_pay46 q) (FloatOps.ofBits .f32 897988541#32))
        (k0_pay52 gq (k0_pay9 gk k) v q (k0_pay46 q) (FloatOps.ofBits .f32 897988541#32) d)
      = addf (addf (addf a b) e) (pDgq gq gk k v q d) := rfl
theorem dq1 : k0_pay30 (k0_pay22 q) (k0_pay23 q) (k0_pay28 gq (k0_pay9 gk k) v q d) (k0_pay29 gq (k0_pay9 gk k) v q d) = pDq gq gk k v q d := rfl
theorem dq2 : k0_pay42 gq (k0_pay9 gk k) v (k0_pay34 q) (k0_pay35 q) (k0_pay37 gq (k0_pay9 gk k) q) (k0_pay38 gq (k0_pay9 gk k) q) d = pDq gq gk k v q d := rfl

/-! ## One point: its four pieces -/

variable (x0 x5 : Vec F S1024x128 .f32)

/-- The point's part of the gradient of the values: its pieces' parts, added in their order. -/
def ptDv : FVec F S256x128 .f32 :=
  addf (addf (addf (pDv gq gk k v (rows0 x0) (rows0 x5)) (pDv gq gk k v (rows1 x0) (rows1 x5))) (pDv gq gk k v (rows2 x0) (rows2 x5)))
    (pDv gq gk k v (rows3 x0) (rows3 x5))
/-- The point's part of the gradient of the normalized keys. -/
def ptDkn : FVec F S256x128 .f32 :=
  addf (addf (addf (pDkn gq gk k v (rows0 x0) (rows0 x5)) (pDkn gq gk k v (rows1 x0) (rows1 x5))) (pDkn gq gk k v (rows2 x0) (rows2 x5)))
    (pDkn gq gk k v (rows3 x0) (rows3 x5))
/-- The point's part of the gradient of q's gain. -/
def ptDgq : FVec F S1x128 .f32 :=
  addf (addf (addf (pDgq gq gk k v (rows0 x0) (rows0 x5)) (pDgq gq gk k v (rows1 x0) (rows1 x5))) (pDgq gq gk k v (rows2 x0) (rows2 x5)))
    (pDgq gq gk k v (rows3 x0) (rows3 x5))

theorem pay1_eq (x : FVec F S256x128 .f32) : k0_pay1 x = x := by unfold k0_pay1; exact shapeCast_self _ _
theorem pay2_eq (x y : FVec F S256x128 .f32) : k0_pay2 x y = addf y x := by unfold k0_pay2; dsimp only; rw [shapeCast_self]
theorem pay3_eq (x y : FVec F S256x128 .f32) : k0_pay3 x y = addf y x := by unfold k0_pay3; exact shapeCast_self _ _
theorem pay6_eq (x y : FVec F S256x128 .f32) (z : FVec F S1x128 .f32) : k0_pay6 x y z = addf z (k0_pay5 x y) := by
  unfold k0_pay6; dsimp only; rw [shapeCast_self]
theorem pay58_eq (a b e : FVec F S1x128 .f32) (x y : FVec F S256x128 .f32) (z : FVec F S1x128 .f32) :
    k0_pay58 a b e x y z = addf z (k0_pay57 a b e x y) := by
  unfold k0_pay58; dsimp only; rw [shapeCast_self]
theorem scratch_read (x : Vec F S256x128 .f32) : View.read (Elt F) (View.whole cc0_scratch0) ((Memref.isWhole_whole cc0_scratch0).unread x) = x :=
  (Memref.isWhole_whole cc0_scratch0).read_unread x

variable (m : (ℓ : Loc nD τ sig) → Buf (Elt F) ℓ)

abbrev tDv (c : Dev nD) (t : Fin cfg0.N) : FVec F S256x128 .f32 :=
  ptDv (iblk m c 3 t) (iblk m c 4 t) (iblk m c 1 t) (iblk m c 2 t) (iblk m c 0 t) (iblk m c 5 t)
abbrev tDkn (c : Dev nD) (t : Fin cfg0.N) : FVec F S256x128 .f32 :=
  ptDkn (iblk m c 3 t) (iblk m c 4 t) (iblk m c 1 t) (iblk m c 2 t) (iblk m c 0 t) (iblk m c 5 t)
abbrev tDgq (c : Dev nD) (t : Fin cfg0.N) : FVec F S1x128 .f32 :=
  ptDgq (iblk m c 3 t) (iblk m c 4 t) (iblk m c 1 t) (iblk m c 2 t) (iblk m c 0 t) (iblk m c 5 t)

theorem dv_first (c : Dev nD) (t : Fin cfg0.N) (h : t.val % 4 = 0) : (outsAt0 m c t.val t.isLt).2.2.1 = tDv m c t := by
  have hN : t.val < 16 := lt_of_lt_of_eq t.isLt N_0
  by_cases h0 : t.val = 0
  · rw [outsAt0_A m c t (by omega) (by omega) (by omega) (by omega) (by omega)]; frame_out
    all_goals first | rfl | (simp only [pay1_eq, pay2_eq, pay3_eq, pay6_eq, pay58_eq, scratch_read]; rfl)
  rw [outsAt0_D m c t (by omega) (by omega) (by omega) (by omega) (by omega)]; frame_out
  all_goals first | rfl | (simp only [pay1_eq, pay2_eq, pay3_eq, pay6_eq, pay58_eq, scratch_read]; rfl)
theorem dv_later (c : Dev nD) (t : Fin cfg0.N) (h : ¬t.val % 4 = 0) : (outsAt0 m c t.val t.isLt).2.2.1 = addf (outsAt0 m c (t.val - 1) (Nat.lt_of_le_of_lt (Nat.sub_le _ _) t.isLt)).2.2.1 (tDv m c t) := by
  have hN : t.val < 16 := lt_of_lt_of_eq t.isLt N_0
  by_cases h0 : t.val < 4 ∧ t.val % 4 = 3
  · rw [outsAt0_C m c t (by omega) (by omega) (by omega) (by omega) (by omega) (by omega) (by omega)]; frame_out
    all_goals first | rfl | (simp only [pay1_eq, pay2_eq, pay3_eq, pay6_eq, pay58_eq, scratch_read]; rfl)
  by_cases h1 : t.val % 4 = 3
  · rw [outsAt0_E m c t (by omega) (by omega) (by omega) (by omega) (by omega) (by omega) (by omega)]; frame_out
    all_goals first | rfl | (simp only [pay1_eq, pay2_eq, pay3_eq, pay6_eq, pay58_eq, scratch_read]; rfl)
  rw [outsAt0_B m c t (by omega) (by omega) (by omega) (by omega) (by omega)]; frame_out
  all_goals first | rfl | (simp only [pay1_eq, pay2_eq, pay3_eq, pay6_eq, pay58_eq, scratch_read]; rfl)
theorem dkn_first (c : Dev nD) (t : Fin cfg0.N) (h : t.val % 4 = 0) : (outsAt0 m c t.val t.isLt).2.2.2.2.2 = tDkn m c t := by
  have hN : t.val < 16 := lt_of_lt_of_eq t.isLt N_0
  by_cases h0 : t.val = 0
  · rw [outsAt0_A m c t (by omega) (by omega) (by omega) (by omega) (by omega)]; frame_out
    all_goals first | rfl | (simp only [pay1_eq, pay2_eq, pay3_eq, pay6_eq, pay58_eq, scratch_read]; rfl)
  rw [outsAt0_D m c t (by omega) (by omega) (by omega) (by omega) (by omega)]; frame_out
  all_goals first | rfl | (simp only [pay1_eq, pay2_eq, pay3_eq, pay6_eq, pay58_eq, scratch_read]; rfl)
theorem dkn_later (c : Dev nD) (t : Fin cfg0.N) (h : ¬t.val % 4 = 0) : (outsAt0 m c t.val t.isLt).2.2.2.2.2 = addf (outsAt0 m c (t.val - 1) (Nat.lt_of_le_of_lt (Nat.sub_le _ _) t.isLt)).2.2.2.2.2 (tDkn m c t) := by
  have hN : t.val < 16 := lt_of_lt_of_eq t.isLt N_0
  by_cases h0 : t.val < 4 ∧ t.val % 4 = 3
  · rw [outsAt0_C m c t (by omega) (by omega) (by omega) (by omega) (by omega) (by omega) (by omega)]; frame_out
    all_goals first | rfl | (simp only [pay1_eq, pay2_eq, pay3_eq, pay6_eq, pay58_eq, scratch_read]; rfl)
  by_cases h1 : t.val % 4 = 3
  · rw [outsAt0_E m c t (by omega) (by omega) (by omega) (by omega) (by omega) (by omega) (by omega)]; frame_out
    all_goals first | rfl | (simp only [pay1_eq, pay2_eq, pay3_eq, pay6_eq, pay58_eq, scratch_read]; rfl)
  rw [outsAt0_B m c t (by omega) (by omega) (by omega) (by omega) (by omega)]; frame_out
  all_goals first | rfl | (simp only [pay1_eq, pay2_eq, pay3_eq, pay6_eq, pay58_eq, scratch_read]; rfl)
theorem dgq_first (c : Dev nD) (t : Fin cfg0.N) (h : t.val = 0) : (outsAt0 m c t.val t.isLt).2.2.2.1 = tDgq m c t := by
  have hN : t.val < 16 := lt_of_lt_of_eq t.isLt N_0
  rw [outsAt0_A m c t (by omega) (by omega) (by omega) (by omega) (by omega)]; frame_out
  all_goals first | rfl | (simp only [pay1_eq, pay2_eq, pay3_eq, pay6_eq, pay58_eq, scratch_read]; rfl)
theorem dgq_later (c : Dev nD) (t : Fin cfg0.N) (h : ¬t.val = 0) : (outsAt0 m c t.val t.isLt).2.2.2.1 = addf (outsAt0 m c (t.val - 1) (Nat.lt_of_le_of_lt (Nat.sub_le _ _) t.isLt)).2.2.2.1 (tDgq m c t) := by
  have hN : t.val < 16 := lt_of_lt_of_eq t.isLt N_0
  by_cases h0 : t.val % 4 = 0
  · rw [outsAt0_D m c t (by omega) (by omega) (by omega) (by omega) (by omega)]; frame_out
    all_goals first | rfl | (simp only [pay1_eq, pay2_eq, pay3_eq, pay6_eq, pay58_eq, scratch_read]; rfl)
  by_cases h1 : t.val < 4 ∧ t.val % 4 = 3
  · rw [outsAt0_C m c t (by omega) (by omega) (by omega) (by omega) (by omega) (by omega) (by omega)]; frame_out
    all_goals first | rfl | (simp only [pay1_eq, pay2_eq, pay3_eq, pay6_eq, pay58_eq, scratch_read]; rfl)
  by_cases h2 : t.val % 4 = 3
  · rw [outsAt0_E m c t (by omega) (by omega) (by omega) (by omega) (by omega) (by omega) (by omega)]; frame_out
    all_goals first | rfl | (simp only [pay1_eq, pay2_eq, pay3_eq, pay6_eq, pay58_eq, scratch_read]; rfl)
  rw [outsAt0_B m c t (by omega) (by omega) (by omega) (by omega) (by omega)]; frame_out
  all_goals first | rfl | (simp only [pay1_eq, pay2_eq, pay3_eq, pay6_eq, pay58_eq, scratch_read]; rfl)
theorem dk_last (c : Dev nD) (t : Fin cfg0.N) (h : t.val % 4 = 3) : (outsAt0 m c t.val t.isLt).2.1 = k0_pay4 (iblk m c 4 t) (k0_pay7 (iblk m c 1 t)) (k0_pay8 (iblk m c 1 t)) (outsAt0 m c t.val t.isLt).2.2.2.2.2 := by
  have hN : t.val < 16 := lt_of_lt_of_eq t.isLt N_0
  by_cases h0 : t.val < 4
  · rw [outsAt0_C m c t (by omega) (by omega) (by omega) (by omega) (by omega) (by omega) (by omega)]; frame_out
    all_goals first | rfl | (simp only [pay1_eq, pay2_eq, pay3_eq, pay6_eq, pay58_eq, scratch_read]; rfl)
  rw [outsAt0_E m c t (by omega) (by omega) (by omega) (by omega) (by omega) (by omega) (by omega)]; frame_out
  all_goals first | rfl | (simp only [pay1_eq, pay2_eq, pay3_eq, pay6_eq, pay58_eq, scratch_read]; rfl)
theorem dgk_first (c : Dev nD) (t : Fin cfg0.N) (h : t.val = 3) : (outsAt0 m c t.val t.isLt).2.2.2.2.1 = k0_pay5 (k0_pay8 (iblk m c 1 t)) (outsAt0 m c t.val t.isLt).2.2.2.2.2 := by
  have hN : t.val < 16 := lt_of_lt_of_eq t.isLt N_0
  rw [outsAt0_C m c t (by omega) (by omega) (by omega) (by omega) (by omega) (by omega) (by omega)]; frame_out
  all_goals first | rfl | (simp only [pay1_eq, pay2_eq, pay3_eq, pay6_eq, pay58_eq, scratch_read]; rfl)
theorem dgk_last (c : Dev nD) (t : Fin cfg0.N) (h : t.val % 4 = 3) (h' : 4 ≤ t.val) : (outsAt0 m c t.val t.isLt).2.2.2.2.1 = addf (outsAt0 m c (t.val - 1) (Nat.lt_of_le_of_lt (Nat.sub_le _ _) t.isLt)).2.2.2.2.1 (k0_pay5 (k0_pay8 (iblk m c 1 t)) (outsAt0 m c t.val t.isLt).2.2.2.2.2) := by
  have hN : t.val < 16 := lt_of_lt_of_eq t.isLt N_0
  rw [outsAt0_E m c t (by omega) (by omega) (by omega) (by omega) (by omega) (by omega) (by omega)]; frame_out
  all_goals first | rfl | (simp only [pay1_eq, pay2_eq, pay3_eq, pay6_eq, pay58_eq, scratch_read])
theorem dgk_kept (c : Dev nD) (t : Fin cfg0.N) (h : ¬t.val % 4 = 3) (h' : 4 ≤ t.val) : (outsAt0 m c t.val t.isLt).2.2.2.2.1 = (outsAt0 m c (t.val - 1) (Nat.lt_of_le_of_lt (Nat.sub_le _ _) t.isLt)).2.2.2.2.1 := by
  have hN : t.val < 16 := lt_of_lt_of_eq t.isLt N_0
  by_cases h0 : t.val % 4 = 0
  · rw [outsAt0_D m c t (by omega) (by omega) (by omega) (by omega) (by omega)]; frame_out
    all_goals first | rfl | (simp only [pay1_eq, pay2_eq, pay3_eq, pay6_eq, pay58_eq, scratch_read]; rfl)
  rw [outsAt0_B m c t (by omega) (by omega) (by omega) (by omega) (by omega)]; frame_out
  all_goals first | rfl | (simp only [pay1_eq, pay2_eq, pay3_eq, pay6_eq, pay58_eq, scratch_read]; rfl)
theorem dq_all (c : Dev nD) (t : Fin cfg0.N)  : (outsAt0 m c t.val t.isLt).1 = View.canon (Val := Elt F) (s := S1024x128) (e := .bf16) [⟨Rect.unit ![768, 0] ![256, 128] inb_S1024x128_S256x128_768_0, pDq (iblk m c 3 t) (iblk m c 4 t) (iblk m c 1 t) (iblk m c 2 t) (rows3 (iblk m c 0 t)) (rows3 (iblk m c 5 t))⟩, ⟨Rect.unit ![512, 0] ![256, 128] inb_S1024x128_S256x128_512_0, pDq (iblk m c 3 t) (iblk m c 4 t) (iblk m c 1 t) (iblk m c 2 t) (rows2 (iblk m c 0 t)) (rows2 (iblk m c 5 t))⟩, ⟨Rect.unit ![256, 0] ![256, 128] inb_S1024x128_S256x128_256_0, pDq (iblk m c 3 t) (iblk m c 4 t) (iblk m c 1 t) (iblk m c 2 t) (rows1 (iblk m c 0 t)) (rows1 (iblk m c 5 t))⟩, ⟨Rect.unit ![0, 0] ![256, 128] inb_S1024x128_S256x128_0_0, pDq (iblk m c 3 t) (iblk m c 4 t) (iblk m c 1 t) (iblk m c 2 t) (rows0 (iblk m c 0 t)) (rows0 (iblk m c 5 t))⟩] := by
  have hN : t.val < 16 := lt_of_lt_of_eq t.isLt N_0
  by_cases h0 : t.val = 0
  · rw [outsAt0_A m c t (by omega) (by omega) (by omega) (by omega) (by omega)]; frame_out
    all_goals first | rfl | (simp only [pay1_eq, pay2_eq, pay3_eq, pay6_eq, pay58_eq, scratch_read]; rfl)
  by_cases h1 : t.val % 4 = 0
  · rw [outsAt0_D m c t (by omega) (by omega) (by omega) (by omega) (by omega)]; frame_out
    all_goals first | rfl | (simp only [pay1_eq, pay2_eq, pay3_eq, pay6_eq, pay58_eq, scratch_read]; rfl)
  by_cases h2 : t.val < 4 ∧ t.val % 4 = 3
  · rw [outsAt0_C m c t (by omega) (by omega) (by omega) (by omega) (by omega) (by omega) (by omega)]; frame_out
    all_goals first | rfl | (simp only [pay1_eq, pay2_eq, pay3_eq, pay6_eq, pay58_eq, scratch_read]; rfl)
  by_cases h3 : t.val % 4 = 3
  · rw [outsAt0_E m c t (by omega) (by omega) (by omega) (by omega) (by omega) (by omega) (by omega)]; frame_out
    all_goals first | rfl | (simp only [pay1_eq, pay2_eq, pay3_eq, pay6_eq, pay58_eq, scratch_read]; rfl)
  rw [outsAt0_B m c t (by omega) (by omega) (by omega) (by omega) (by omega)]; frame_out
  all_goals first | rfl | (simp only [pay1_eq, pay2_eq, pay3_eq, pay6_eq, pay58_eq, scratch_read]; rfl)
end Cert.KernelIdeal.Points
end
-- ==== Proof.Pay.lean ====
module

public import proofs.«01_k».proof.Proof.Spec
public import proofs.«01_k».proof.Proof.Points

@[expose] public section

set_option maxRecDepth 16384

noncomputable section

namespace Cert.KernelIdeal.Pay

open Cert.KernelIdeal Cert.KernelIdeal.Gen Cert.KernelIdeal.Points Cert.MemGrad Idealize.ShloMosaic

/-- Row `r` of a two-dimensional value. -/
def row {R : ℕ} (x : Vec Ideal ⟨2, ![R, 128]⟩ .f32) (r : Fin R) : Row := fun d => x (ix2 r d)

variable (gq gk : Vec Ideal S1x128 .f32) (k v q o : Vec Ideal S256x128 .f32)

theorem pay7_at (r : Fin 256) (z : Fin 1) : k0_pay7 (F := Ideal) k (ix2 r z) = rinv (row k r) := by
  pointwise [k0_pay7]; rfl
theorem pay8_at (r : Fin 256) (d : Fin 128) : k0_pay8 (F := Ideal) k (ix2 r d) = hat (row k r) d := by
  pointwise [k0_pay8, pay7_at]; rfl
theorem pay9_at (r : Fin 256) (d : Fin 128) : k0_pay9 (F := Ideal) gk k (ix2 r d) = nrm (row k r) (row gk 0) d := by
  pointwise [k0_pay9, pay8_at, pay7_at]; rfl
theorem pay10_at (r : Fin 256) (z : Fin 1) : k0_pay10 (F := Ideal) q (ix2 r z) = rinv (row q r) := by
  pointwise [k0_pay10]; rfl
theorem pay11_at (r : Fin 256) (d : Fin 128) : k0_pay11 (F := Ideal) q (ix2 r d) = hat (row q r) d := by
  pointwise [k0_pay11, pay10_at]; rfl
theorem pay12_at (r : Fin 256) (d : Fin 128) : k0_pay12 (F := Ideal) gq q (ix2 r d) = nrm (row q r) (row gq 0) d := by
  pointwise [k0_pay12, pay11_at, pay10_at]; rfl
theorem pay13_at (r c : Fin 256) : k0_pay13 (F := Ideal) gq gk k q (ix2 r c) = score (row gq 0) (row gk 0) (row k) (row q r) c := by
  pointwise [k0_pay13, pay12_at, pay9_at]; rfl
theorem pay14_at (r : Fin 256) : k0_pay14 (F := Ideal) gq gk k q (ix1 r) = top (score (row gq 0) (row gk 0) (row k) (row q r)) := by
  pointwise [k0_pay14, pay13_at]; rfl
theorem pay15_at (r c : Fin 256) : k0_pay15 (F := Ideal) (k0_pay13 gq gk k q) (k0_pay14 gq gk k q) (ix2 r c) = prob (score (row gq 0) (row gk 0) (row k) (row q r)) c := by
  pointwise [k0_pay15, pay13_at, pay14_at]; rfl
theorem pay16_at (r c : Fin 256) : k0_pay16 (F := Ideal) v (k0_pay13 gq gk k q) (k0_pay14 gq gk k q) o (ix2 r c)
    = dS (row gq 0) (row gk 0) (row k) (row v) (row q r) (row o r) c := by
  pointwise [k0_pay16, pay15_at]; rfl
theorem pay17_at (r : Fin 256) (d : Fin 128) : k0_pay17 (F := Ideal) (k0_pay9 gk k) v (k0_pay13 gq gk k q) (k0_pay14 gq gk k q) o (ix2 r d)
    = dQn (row gq 0) (row gk 0) (row k) (row v) (row q r) (row o r) d := by
  pointwise [k0_pay17, pay16_at, pay9_at]; rfl
theorem pDq_at (r : Fin 256) (d : Fin 128) : pDq (F := Ideal) gq gk k v q o (ix2 r d)
    = dQ (row gq 0) (row gk 0) (row k) (row v) (row q r) (row o r) d := by
  unfold pDq; pointwise [k0_pay18, pay17_at, pay10_at, pay11_at]; rfl
theorem pDv_at (c : Fin 256) (d : Fin 128) : pDv (F := Ideal) gq gk k v q o (ix2 c d)
    = ∑ r, prob (score (row gq 0) (row gk 0) (row k) (row q r)) c * row o r d := by
  unfold pDv; pointwise [k0_pay19, pay15_at]; rfl
theorem pDkn_at (c : Fin 256) (d : Fin 128) : pDkn (F := Ideal) gq gk k v q o (ix2 c d)
    = ∑ r, dS (row gq 0) (row gk 0) (row k) (row v) (row q r) (row o r) c * nrm (row q r) (row gq 0) d := by
  unfold pDkn; pointwise [k0_pay20, pay16_at, pay12_at]
theorem pDgq_at (z : Fin 1) (d : Fin 128) : pDgq (F := Ideal) gq gk k v q o (ix2 z d)
    = ∑ r, dQn (row gq 0) (row gk 0) (row k) (row v) (row q r) (row o r) d * hat (row q r) d := by
  unfold pDgq; pointwise [k0_pay21, pay17_at, pay11_at]

theorem pay4_at (y : Vec Ideal S256x128 .f32) (r : Fin 256) (d : Fin 128) :
    k0_pay4 (F := Ideal) gk (k0_pay7 k) (k0_pay8 k) y (ix2 r d) = unnorm (row k r) (row gk 0) (row y r) d := by
  pointwise [k0_pay4, pay7_at, pay8_at]; rfl
theorem pay5_at (y : Vec Ideal S256x128 .f32) (z : Fin 1) (d : Fin 128) :
    k0_pay5 (F := Ideal) (k0_pay8 k) y (ix2 z d) = ∑ c, row y c d * hat (row k c) d := by
  pointwise [k0_pay5, pay8_at]; rfl

/-! ## A point: the sums over its 1024 rows -/

/-- A sum over 1024 rows, taken 256 at a time. -/
theorem sum_four (f : Fin 1024 → EReal) : ∑ r, f r = ((∑ r : Fin 256, f ⟨r.val, by omega⟩ + ∑ r : Fin 256, f ⟨256 + r.val, by omega⟩)
    + ∑ r : Fin 256, f ⟨512 + r.val, by omega⟩) + ∑ r : Fin 256, f ⟨768 + r.val, by omega⟩ := by
  refine (Fin.sum_univ_add (a := 768) (b := 256) f).trans (congrArg₂ (· + ·) ?_ rfl)
  refine (Fin.sum_univ_add (a := 512) (b := 256) _).trans (congrArg₂ (· + ·) ?_ rfl)
  exact (Fin.sum_univ_add (a := 256) (b := 256) _).trans (congrArg₂ (· + ·) rfl rfl)

variable (x0 x5 : Vec Ideal S1024x128 .f32)

theorem rows0_el (x : Vec Ideal S1024x128 .f32) (r : Fin 256) (d : Fin 128) : row (rows0 x) r d = row x ⟨r.val, by omega⟩ d := by
  unfold row rows0; pointwise
theorem rows0_at (x : Vec Ideal S1024x128 .f32) (r : Fin 256) : row (rows0 x) r = row x ⟨r.val, by omega⟩ :=
  funext fun d => rows0_el x r d
theorem rows1_el (x : Vec Ideal S1024x128 .f32) (r : Fin 256) (d : Fin 128) : row (rows1 x) r d = row x ⟨256 + r.val, by omega⟩ d := by
  unfold row rows1; pointwise
theorem rows1_at (x : Vec Ideal S1024x128 .f32) (r : Fin 256) : row (rows1 x) r = row x ⟨256 + r.val, by omega⟩ :=
  funext fun d => rows1_el x r d
theorem rows2_el (x : Vec Ideal S1024x128 .f32) (r : Fin 256) (d : Fin 128) : row (rows2 x) r d = row x ⟨512 + r.val, by omega⟩ d := by
  unfold row rows2; pointwise
theorem rows2_at (x : Vec Ideal S1024x128 .f32) (r : Fin 256) : row (rows2 x) r = row x ⟨512 + r.val, by omega⟩ :=
  funext fun d => rows2_el x r d
theorem rows3_el (x : Vec Ideal S1024x128 .f32) (r : Fin 256) (d : Fin 128) : row (rows3 x) r d = row x ⟨768 + r.val, by omega⟩ d := by
  unfold row rows3; pointwise
theorem rows3_at (x : Vec Ideal S1024x128 .f32) (r : Fin 256) : row (rows3 x) r = row x ⟨768 + r.val, by omega⟩ :=
  funext fun d => rows3_el x r d

theorem ptDv_at (c : Fin 256) (d : Fin 128) : ptDv (F := Ideal) gq gk k v x0 x5 (ix2 c d)
    = ∑ r, prob (score (row gq 0) (row gk 0) (row k) (row x0 r)) c * row x5 r d := by
  rw [sum_four]
  unfold ptDv
  simp only [addf_apply, pDv_at, rows0_at, rows1_at, rows2_at, rows3_at]
  rfl
theorem ptDkn_at (c : Fin 256) (d : Fin 128) : ptDkn (F := Ideal) gq gk k v x0 x5 (ix2 c d)
    = ∑ r, dS (row gq 0) (row gk 0) (row k) (row v) (row x0 r) (row x5 r) c * nrm (row x0 r) (row gq 0) d := by
  rw [sum_four]
  unfold ptDkn
  simp only [addf_apply, pDkn_at, rows0_at, rows1_at, rows2_at, rows3_at]
  rfl
theorem ptDgq_at (z : Fin 1) (d : Fin 128) : ptDgq (F := Ideal) gq gk k v x0 x5 (ix2 z d)
    = ∑ r, dQn (row gq 0) (row gk 0) (row k) (row v) (row x0 r) (row x5 r) d * hat (row x0 r) d := by
  rw [sum_four]
  unfold ptDgq
  simp only [addf_apply, pDgq_at, rows0_at, rows1_at, rows2_at, rows3_at]
  rfl

end Cert.KernelIdeal.Pay

end
-- ==== Proof.Final.lean ====
module

public import proofs.«01_k».proof.Proof.Pay
public import proofs.«01_k».proof.Proof.Gen.KernelIdeal.Value

@[expose] public section

set_option maxRecDepth 16384

noncomputable section

namespace Cert.KernelIdeal.Final

open Cert.KernelIdeal Cert.KernelIdeal.Gen Cert.KernelIdeal.Points Cert.KernelIdeal.Pay Cert.MemGrad Idealize.ShloMosaic
open Idealize.ShloMosaic.TcCoe Idealize.SL.Sem
open Idealize.ShloMosaic.Pipeline (Dat)

variable (m : (ℓ : Loc nD τ sig) → Buf (Elt Ideal) ℓ) (c : Dev nD)

abbrev a0 : Mat 4096 13312 := m ((c : Thread nD τ).loc main_arg0)
abbrev a1 : Mat 256 1024 := m ((c : Thread nD τ).loc main_arg1)
abbrev a2 : Mat 1 128 := m ((c : Thread nD τ).loc main_arg2)
abbrev a3 : Mat 1 128 := m ((c : Thread nD τ).loc main_arg3)
abbrev a4 : Mat 4096 512 := m ((c : Thread nD τ).loc main_arg4)
abbrev a5 : Mat 4096 13312 := m ((c : Thread nD τ).loc main_arg5)

/-! ## The blocks of a point -/

theorem lt16 (t : Fin cfg0.N) : t.val < 16 := lt_of_lt_of_eq t.isLt N_0

/-- The head and the block of rows of a point. -/
def ph (t : Fin cfg0.N) : Fin 4 := ⟨t.val / 4, by have := lt16 t; omega⟩

theorem idx0 : ∀ t : Fin cfg0.N, win0_0.index t = ![t.val % 4, 76 + t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![0, 4 + t.val / 4] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val % 4, t.val / 4] := (by decide +kernel : ∀ t : Fin grid0.N, _)
theorem idx6 : ∀ t : Fin cfg0.N, win0_6.index t = ![t.val % 4, 76 + t.val / 4] := (by decide +kernel : ∀ t : Fin grid0.N, _)
theorem idx7 : ∀ t : Fin cfg0.N, win0_7.index t = ![0, t.val / 4] := (by decide +kernel : ∀ t : Fin grid0.N, _)
theorem idx8 : ∀ t : Fin cfg0.N, win0_8.index t = ![0, t.val / 4] := (by decide +kernel : ∀ t : Fin grid0.N, _)

theorem blk0 (t : Fin cfg0.N) (r : Fin 1024) : row (iblk m c 0 t) r = Qh (a0 m c) (ph t) ⟨t.val % 4 * 1024 + r.val, by omega⟩ := by
  funext d
  unfold row Qh ph
  blk_ext [iblk, V, idx0 t]
theorem blk1 (t : Fin cfg0.N) (r : Fin 256) : row (iblk m c 1 t) r = Kh (a1 m c) (ph t) r := by
  funext d
  unfold row Kh ph
  blk_ext [iblk, V, idx1 t]
theorem blk2 (t : Fin cfg0.N) (r : Fin 256) : row (iblk m c 2 t) r = Vh (a1 m c) (ph t) r := by
  funext d
  unfold row Vh ph
  blk_ext [iblk, V, idx2 t]
theorem blk3 (t : Fin cfg0.N) : row (iblk m c 3 t) (0 : Fin 1) = gain (a2 m c) := by
  funext d
  unfold row gain
  blk_ext [iblk, V, idx3 t]
theorem blk4 (t : Fin cfg0.N) : row (iblk m c 4 t) (0 : Fin 1) = gain (a3 m c) := by
  funext d
  unfold row gain
  blk_ext [iblk, V, idx4 t]
theorem blk5 (t : Fin cfg0.N) (r : Fin 1024) : row (iblk m c 5 t) r = Oh (a4 m c) (ph t) ⟨t.val % 4 * 1024 + r.val, by omega⟩ := by
  funext d
  unfold row Oh ph
  blk_ext [iblk, V, idx5 t]

theorem blk1' (t : Fin cfg0.N) : row (iblk m c 1 t) = Kh (a1 m c) (ph t) := funext fun r => blk1 m c t r
theorem blk2' (t : Fin cfg0.N) : row (iblk m c 2 t) = Vh (a1 m c) (ph t) := funext fun r => blk2 m c t r

theorem tDv_at (t : Fin cfg0.N) (k : Fin 256) (d : Fin 128) : tDv m c t (ix2 k d)
    = ∑ r : Fin 1024, prob (Sc (a0 m c) (a1 m c) (a2 m c) (a3 m c) (ph t) ⟨t.val % 4 * 1024 + r.val, by omega⟩) k * Oh (a4 m c) (ph t) ⟨t.val % 4 * 1024 + r.val, by omega⟩ d := by
  rw [tDv, ptDv_at]
  simp only [blk0, blk1', blk3, blk4, blk5]
  rfl
theorem tDkn_at (t : Fin cfg0.N) (k : Fin 256) (d : Fin 128) : tDkn m c t (ix2 k d)
    = ∑ r : Fin 1024, dSc (a0 m c) (a1 m c) (a2 m c) (a3 m c) (a4 m c) (ph t) ⟨t.val % 4 * 1024 + r.val, by omega⟩ k * nrm (Qh (a0 m c) (ph t) ⟨t.val % 4 * 1024 + r.val, by omega⟩) (gain (a2 m c)) d := by
  rw [tDkn, ptDkn_at]
  simp only [blk0, blk1', blk2', blk3, blk4, blk5]
  rfl
theorem tDgq_at (t : Fin cfg0.N) (z : Fin 1) (d : Fin 128) : tDgq m c t (ix2 z d)
    = ∑ r : Fin 1024, dQnh (a0 m c) (a1 m c) (a2 m c) (a3 m c) (a4 m c) (ph t) ⟨t.val % 4 * 1024 + r.val, by omega⟩ d * hat (Qh (a0 m c) (ph t) ⟨t.val % 4 * 1024 + r.val, by omega⟩) d := by
  rw [tDgq, ptDgq_at]
  simp only [blk0, blk1', blk2', blk3, blk4, blk5]
  rfl

/-! ## What the output blocks hold after the last point of a head, and after the last point -/

theorem dv_at (t : Fin cfg0.N) (h : t.val % 4 = 3) (k : Fin 256) (d : Fin 128) :
    (outsAt0 m c t.val t.isLt).2.2.1 (ix2 k d) = dVh (a0 m c) (a1 m c) (a2 m c) (a3 m c) (a4 m c) (ph t) k d := by
  have hs := Pipeline.eq_sum_fin_of_reset_step_apply_of_flush (N := cfg0.N) (fun n h => (outsAt0 m c n h).2.2.1) 4 (fun _ => 0) (fun t => tDv m c t)
    (fun t h i => by
      show (outsAt0 m c t.val t.isLt).2.2.1 i = _
      rw [dv_first m c t h]; exact (zero_add _).symm)
    (fun t h i => by
      show (outsAt0 m c t.val t.isLt).2.2.1 i = _
      rw [dv_later m c t h]; rfl) t h (ix2 k d)
  refine hs.trans ?_
  rw [zero_add]
  unfold dVh
  refine Eq.trans ?_ (Fin.sum_mul_add_fin (L := 4096) 4 1024 _)
  refine Finset.sum_congr rfl fun s _ => ?_
  rw [tDv_at]
  have e1 : ph ⟨4 * (t.val / 4) + s.val, Pipeline.run_point_lt_of_flush t h s⟩ = ph t := Fin.ext (by simp only [ph]; omega)
  have e2 : (4 * (t.val / 4) + s.val) % 4 = s.val := by omega
  simp only [e1, e2]

theorem dkn_at (t : Fin cfg0.N) (h : t.val % 4 = 3) (k : Fin 256) (d : Fin 128) :
    (outsAt0 m c t.val t.isLt).2.2.2.2.2 (ix2 k d) = dKnh (a0 m c) (a1 m c) (a2 m c) (a3 m c) (a4 m c) (ph t) k d := by
  have hs := Pipeline.eq_sum_fin_of_reset_step_apply_of_flush (N := cfg0.N) (fun n h => (outsAt0 m c n h).2.2.2.2.2) 4 (fun _ => 0) (fun t => tDkn m c t)
    (fun t h i => by
      show (outsAt0 m c t.val t.isLt).2.2.2.2.2 i = _
      rw [dkn_first m c t h]; exact (zero_add _).symm)
    (fun t h i => by
      show (outsAt0 m c t.val t.isLt).2.2.2.2.2 i = _
      rw [dkn_later m c t h]; rfl) t h (ix2 k d)
  refine hs.trans ?_
  rw [zero_add]
  unfold dKnh
  refine Eq.trans ?_ (Fin.sum_mul_add_fin (L := 4096) 4 1024 _)
  refine Finset.sum_congr rfl fun s _ => ?_
  rw [tDkn_at]
  have e1 : ph ⟨4 * (t.val / 4) + s.val, Pipeline.run_point_lt_of_flush t h s⟩ = ph t := Fin.ext (by simp only [ph]; omega)
  have e2 : (4 * (t.val / 4) + s.val) % 4 = s.val := by omega
  simp only [e1, e2]

theorem dgq_at (t : Fin cfg0.N) (h : t.val + 1 = cfg0.N) (z : Fin 1) (d : Fin 128) :
    (outsAt0 m c t.val t.isLt).2.2.2.1 (ix2 z d) = R3 (a0 m c) (a1 m c) (a2 m c) (a3 m c) (a4 m c) (ix2 z d) := by
  have hs := Pipeline.eq_sum_fin_of_reset_step_apply_last (N := cfg0.N) (fun n h => (outsAt0 m c n h).2.2.2.1) 16 (fun _ => 0) (fun t => tDgq m c t)
    (fun t h i => by
      show (outsAt0 m c t.val t.isLt).2.2.2.1 i = _
      rw [dgq_first m c t (by have := lt16 t; omega)]; exact (zero_add _).symm)
    (fun t h i => by
      show (outsAt0 m c t.val t.isLt).2.2.2.1 i = _
      rw [dgq_later m c t (by omega)]; rfl) (le_of_eq N_0) t h (ix2 z d)
  refine hs.trans ?_
  rw [zero_add]
  refine Eq.trans ?_ (Fin.sum_points_lanes_fin (N := cfg0.N) (n := 1024) 4 (fun (h : Fin 4) (l : Fin 4096) => dQnh (a0 m c) (a1 m c) (a2 m c) (a3 m c) (a4 m c) h l d * hat (Qh (a0 m c) h l) d) N_0)
  refine Finset.sum_congr rfl fun s _ => ?_
  rw [tDgq_at]
  rfl

theorem dk_at (t : Fin cfg0.N) (h : t.val % 4 = 3) (k : Fin 256) (d : Fin 128) :
    (outsAt0 m c t.val t.isLt).2.1 (ix2 k d) = dKh (a0 m c) (a1 m c) (a2 m c) (a3 m c) (a4 m c) (ph t) k d := by
  rw [dk_last m c t h, pay4_at, blk1, blk4]
  have e : row (outsAt0 m c t.val t.isLt).2.2.2.2.2 k = dKnh (a0 m c) (a1 m c) (a2 m c) (a3 m c) (a4 m c) (ph t) k :=
    funext fun d => dkn_at m c t h k d
  rw [e]; rfl

/-- The part of the gradient of the keys' gain that a head gives. -/
def gkPart (h : Fin 4) (d : Fin 128) : EReal :=
  ∑ k, dKnh (a0 m c) (a1 m c) (a2 m c) (a3 m c) (a4 m c) h k d * hat (Kh (a1 m c) h k) d

theorem part_at (t : Fin cfg0.N) (h : t.val % 4 = 3) (z : Fin 1) (d : Fin 128) :
    k0_pay5 (k0_pay8 (iblk m c 1 t)) (outsAt0 m c t.val t.isLt).2.2.2.2.2 (ix2 z d) = gkPart m c (ph t) d := by
  rw [pay5_at]
  have e (k : Fin 256) : row (outsAt0 m c t.val t.isLt).2.2.2.2.2 k = dKnh (a0 m c) (a1 m c) (a2 m c) (a3 m c) (a4 m c) (ph t) k :=
    funext fun d => dkn_at m c t h k d
  simp only [e, blk1]
  rfl

/-- Through the points of a head but its last, the gradient of the keys' gain stays what the head before left. -/
theorem dgk_held (n : ℕ) (h3 : n % 4 = 3) : ∀ k : ℕ, k < 4 → ∀ hn : n + k < cfg0.N,
    (outsAt0 m c (n + k) hn).2.2.2.2.1 = (outsAt0 m c n (by omega)).2.2.2.2.1
  | 0, _, _ => rfl
  | k + 1, hk, hn => (dgk_kept m c ⟨n + (k + 1), hn⟩ (by dsimp only; omega) (by dsimp only; omega)).trans
      (dgk_held n h3 k (by omega) (by omega))

theorem dgk_step (t : Fin cfg0.N) (h : t.val % 4 = 3) (h' : 4 ≤ t.val) (z : Fin 1) (d : Fin 128) :
    (outsAt0 m c t.val t.isLt).2.2.2.2.1 (ix2 z d)
      = (outsAt0 m c (t.val - 4) (by omega)).2.2.2.2.1 (ix2 z d) + gkPart m c (ph t) d := by
  rw [dgk_last m c t h h']
  have e := dgk_held m c (t.val - 4) (by omega) 3 (by omega) (by omega)
  have e' : t.val - 4 + 3 = t.val - 1 := by omega
  simp only [e'] at e
  refine (addf_apply _ _ _).trans ?_
  rw [e, part_at m c t h]
  rfl

theorem ph_of (t : Fin cfg0.N) (h : Fin 4) (e : t.val / 4 = h.val) : ph t = h := Fin.ext e

theorem dgk_key (t t' : Fin cfg0.N) (h : t.val % 4 = 3) (h' : t.val = t'.val + 4) (i : Fin 4) (e : t.val / 4 = i.val) (z : Fin 1) (d : Fin 128) :
    (outsAt0 m c t.val t.isLt).2.2.2.2.1 (ix2 z d) = (outsAt0 m c t'.val t'.isLt).2.2.2.2.1 (ix2 z d) + gkPart m c i d := by
  rw [dgk_step m c t h (by omega) z d, ph_of t i e]
  have e' : t.val - 4 = t'.val := by omega
  simp only [e']

theorem dgk_zero (t : Fin cfg0.N) (h : t.val = 3) (z : Fin 1) (d : Fin 128) :
    (outsAt0 m c t.val t.isLt).2.2.2.2.1 (ix2 z d) = gkPart m c 0 d := by
  rw [dgk_first m c t h, part_at m c t (by omega), ph_of t 0 (by rw [h]; rfl)]

theorem R4_at (z : Fin 1) (d : Fin 128) : R4 (a0 m c) (a1 m c) (a2 m c) (a3 m c) (a4 m c) (ix2 z d)
    = gkPart m c 0 d + gkPart m c 1 d + gkPart m c 2 d + gkPart m c 3 d :=
  Fin.sum_univ_four (fun h => gkPart m c h d)

theorem dgk_at (t t11 t7 t3 : Fin cfg0.N) (ht : t.val = 15) (h11 : t11.val = 11) (h7 : t7.val = 7) (h3 : t3.val = 3) (z : Fin 1) (d : Fin 128) :
    (outsAt0 m c t.val t.isLt).2.2.2.2.1 (ix2 z d) = R4 (a0 m c) (a1 m c) (a2 m c) (a3 m c) (a4 m c) (ix2 z d) := by
  rw [R4_at, dgk_key m c t t11 (by omega) (by omega) 3 (by rw [ht]; rfl), dgk_key m c t11 t7 (by omega) (by omega) 2 (by rw [h11]; rfl),
    dgk_key m c t7 t3 (by omega) (by omega) 1 (by rw [h7]; rfl), dgk_zero m c t3 h3]

end Cert.KernelIdeal.Final

end
-- ==== Proof.Arrays.lean ====
module

public import proofs.«01_k».proof.Proof.Final

@[expose] public section

set_option maxRecDepth 16384

noncomputable section

namespace Cert.KernelIdeal.Arrays

open Cert.KernelIdeal Cert.KernelIdeal.Gen Cert.KernelIdeal.Points Cert.KernelIdeal.Pay Cert.KernelIdeal.Final Cert.MemGrad
open Idealize.ShloMosaic Idealize.ShloMosaic.TcCoe Idealize.SL.Sem
open Idealize.ShloMosaic.Pipeline (Dat)

variable (m : (ℓ : Loc nD τ sig) → Buf (Elt Ideal) ℓ) (c : Dev nD)

theorem dq_piece (t : Fin cfg0.N) (n : ℕ) (hn : n < 1024) (q o : Vec Ideal S256x128 .f32) (a : Fin 256) (b : Fin 128)
    (hq : row q a = row (iblk m c 0 t) ⟨n, hn⟩) (ho : row o a = row (iblk m c 5 t) ⟨n, hn⟩) :
    pDq (iblk m c 3 t) (iblk m c 4 t) (iblk m c 1 t) (iblk m c 2 t) q o (ix2 a b)
      = dQh (a0 m c) (a1 m c) (a2 m c) (a3 m c) (a4 m c) (ph t) ⟨t.val % 4 * 1024 + n, by omega⟩ b := by
  rw [pDq_at, hq, ho, blk0, blk1', blk2', blk3, blk4, blk5]
  rfl

theorem dq_at (t : Fin cfg0.N) (y : S1024x128.Idx) (l : Fin 4096) (d : Fin 128) (hl : l.val = t.val % 4 * 1024 + (y 0).val) (hd : d.val = (y 1).val) :
    (outsAt0 m c t.val t.isLt).1 y = dQh (a0 m c) (a1 m c) (a2 m c) (a3 m c) (a4 m c) (ph t) l d := by
  rw [dq_all m c t]
  canon_tiles x h
  · refine (congrArg _ (eq_ix2 (n0 := 256) (n1 := 128) x)).trans ((dq_piece m c t (768 + (x 0).val) (by omega) _ _ (x 0) (x 1) (rows3_at _ (x 0)) (rows3_at _ (x 0))).trans ?_)
    congr 1 <;> exact Fin.ext (by dsimp only; omega)
  · refine (congrArg _ (eq_ix2 (n0 := 256) (n1 := 128) x)).trans ((dq_piece m c t (512 + (x 0).val) (by omega) _ _ (x 0) (x 1) (rows2_at _ (x 0)) (rows2_at _ (x 0))).trans ?_)
    congr 1 <;> exact Fin.ext (by dsimp only; omega)
  · refine (congrArg _ (eq_ix2 (n0 := 256) (n1 := 128) x)).trans ((dq_piece m c t (256 + (x 0).val) (by omega) _ _ (x 0) (x 1) (rows1_at _ (x 0)) (rows1_at _ (x 0))).trans ?_)
    congr 1 <;> exact Fin.ext (by dsimp only; omega)
  · refine (congrArg _ (eq_ix2 (n0 := 256) (n1 := 128) x)).trans ((dq_piece m c t (x 0).val (by omega) _ _ (x 0) (x 1) (rows0_at _ (x 0)) (rows0_at _ (x 0))).trans ?_)
    congr 1 <;> exact Fin.ext (by dsimp only; omega)

variable (A0 : Mat 4096 13312) (A1 : Mat 256 1024) (A2 A3 : Mat 1 128) (A4 : Mat 4096 512) (A5 : Mat 4096 13312)

theorem hd_of (n : Fin 512) (h : Fin 4) (d : Fin 128) (e : n.val = 128 * h.val + d.val) : hd n = h := Fin.ext (by simp only [hd]; omega)
theorem ln_of (n : Fin 512) (h : Fin 4) (d : Fin 128) (e : n.val = 128 * h.val + d.val) : ln n = d := Fin.ext (by simp only [ln]; omega)

theorem R1_of (j : (⟨2, ![256, 512]⟩ : Shape).Idx) (h : Fin 4) (k : Fin 256) (d : Fin 128) (e0 : (j 0).val = k.val) (e1 : (j 1).val = 128 * h.val + d.val) :
    R1 A0 A1 A2 A3 A4 j = dKh A0 A1 A2 A3 A4 h k d := by
  unfold R1
  rw [hd_of (j 1) h d e1, ln_of (j 1) h d e1, show j 0 = k from Fin.ext e0]
theorem R2_of (j : (⟨2, ![256, 512]⟩ : Shape).Idx) (h : Fin 4) (k : Fin 256) (d : Fin 128) (e0 : (j 0).val = k.val) (e1 : (j 1).val = 128 * h.val + d.val) :
    R2 A0 A1 A2 A3 A4 j = dVh A0 A1 A2 A3 A4 h k d := by
  unfold R2
  rw [hd_of (j 1) h d e1, ln_of (j 1) h d e1, show j 0 = k from Fin.ext e0]
theorem R0_of (j : (⟨2, ![4096, 13312]⟩ : Shape).Idx) (h : Fin 4) (l : Fin 4096) (d : Fin 128) (e0 : (j 0).val = l.val) (e1 : (j 1).val = 9728 + (128 * h.val + d.val)) :
    R0 A0 A1 A2 A3 A4 A5 j = dQh A0 A1 A2 A3 A4 h l d := by
  unfold R0
  rw [dif_pos (by omega), hd_of _ h d (by dsimp only; omega), ln_of _ h d (by dsimp only; omega), show j 0 = l from Fin.ext e0]
theorem R0_else (j : (⟨2, ![4096, 13312]⟩ : Shape).Idx) (e1 : ¬(9728 ≤ (j 1).val ∧ (j 1).val < 10240)) :
    R0 A0 A1 A2 A3 A4 A5 j = A5 j := by
  unfold R0
  rw [dif_neg e1]

theorem final7 : (dats m 0 c).arrAt 7 cfg0.N = R1 (a0 m c) (a1 m c) (a2 m c) (a3 m c) (a4 m c) := by
  refine (dats m 0 c).arrAt_eq_of_covers 7 _ (by decide +kernel) fun t hf y => ?_
  have h3 : t.val % 4 = 3 := (flush0_7 t).mp hf
  blk_simp
  rw [after0_7]
  refine Eq.trans ?_ (R1_of _ _ _ _ _ _ (ph t) (y 0) (y 1) ?_ ?_).symm
  · exact (congrArg _ (eq_ix2 (y : S256x128.Idx))).trans (dk_at m c t h3 (y 0) (y 1))
  · blk_simp [idx7 t]
  · blk_simp [idx7 t]; dsimp only [ph]; omega
theorem final8 : (dats m 0 c).arrAt 8 cfg0.N = R2 (a0 m c) (a1 m c) (a2 m c) (a3 m c) (a4 m c) := by
  refine (dats m 0 c).arrAt_eq_of_covers 8 _ (by decide +kernel) fun t hf y => ?_
  have h3 : t.val % 4 = 3 := (flush0_8 t).mp hf
  blk_simp
  rw [after0_8]
  refine Eq.trans ?_ (R2_of _ _ _ _ _ _ (ph t) (y 0) (y 1) ?_ ?_).symm
  · exact (congrArg _ (eq_ix2 (y : S256x128.Idx))).trans (dv_at m c t h3 (y 0) (y 1))
  · blk_simp [idx8 t]
  · blk_simp [idx8 t]; dsimp only [ph]; omega
theorem final9 : (dats m 0 c).arrAt 9 cfg0.N = R3 (a0 m c) (a1 m c) (a2 m c) (a3 m c) (a4 m c) := by
  refine (dats m 0 c).arrAt_eq_of_after_last 9 t0_15 (by decide +kernel) _ fun y => ?_
  blk_simp
  rw [after0_9]
  have e : y = ix2 (y 0) (y 1) := eq_ix2 (y : S1x128.Idx)
  rw [e]
  exact dgq_at m c t0_15 N_0.symm (y 0) (y 1)
theorem final10 : (dats m 0 c).arrAt 10 cfg0.N = R4 (a0 m c) (a1 m c) (a2 m c) (a3 m c) (a4 m c) := by
  refine (dats m 0 c).arrAt_eq_of_after_last 10 t0_15 (by decide +kernel) _ fun y => ?_
  blk_simp
  rw [after0_10]
  have e : y = ix2 (y 0) (y 1) := eq_ix2 (y : S1x128.Idx)
  rw [e]
  exact dgk_at m c t0_15 t0_11 t0_7 t0_3 rfl rfl rfl rfl (y 0) (y 1)

theorem final6 : (dats m 0 c).arrAt 6 cfg0.N = R0 (a0 m c) (a1 m c) (a2 m c) (a3 m c) (a4 m c) (a5 m c) := by
  funext j
  by_cases hj : 9728 ≤ (j 1).val ∧ (j 1).val < 10240
  · have hl : (j 0).val < 4096 := (j 0).isLt
    have hN : cfg0.N = 16 := N_0
    obtain ⟨t, ht⟩ : ∃ t : Fin cfg0.N, t.val = ((j 1).val - 9728) / 128 * 4 + (j 0).val / 1024 := ⟨⟨_, by omega⟩, rfl⟩
    obtain ⟨y, hy0, hy1⟩ : ∃ y : S1024x128.Idx, (y 0).val = (j 0).val % 1024 ∧ (y 1).val = ((j 1).val - 9728) % 128 :=
      ⟨ix2 (n0 := 1024) (n1 := 128) ⟨(j 0).val % 1024, by omega⟩ ⟨((j 1).val - 9728) % 128, by omega⟩, rfl, rfl⟩
    have hj' : ((cfg0.win 6).blk t).view.emb y = j := by
      blk_ext [idx6 t]
    have := (dats m 0 c).arrAt_emb_eq_flushed 6 Value.disjoint6 t (flush0_6 t) y
    rw [hj'] at this
    refine this.trans ?_
    rw [Value.flushed6]
    blk_simp
    show (outsAt0 m c t.val t.isLt).1 y = _
    rw [R0_of _ _ _ _ _ _ j (ph t) ⟨(j 0).val, hl⟩ ⟨((j 1).val - 9728) % 128, by omega⟩ rfl (by dsimp only [ph]; omega)]
    exact dq_at m c t y _ _ (by dsimp only; omega) hy1.symm
  · rw [Value.entry6 m c j ?_, R0_else _ _ _ _ _ _ j hj]
    · rfl
    · intro t _ hm
      mem_blk [idx6 t] at hm
      have := lt16 t
      omega

end Cert.KernelIdeal.Arrays

end
-- ==== Proof.Equal.lean ====
module

public import proofs.«01_k».proof.Defs
public import proofs.«01_k».proof.Proof.RefOut
public import proofs.«01_k».proof.Proof.Arrays
public import proofs.«01_k».proof.Proof.Gen.Kernel.Frame
public import proofs.«01_k».proof.Proof.Gen.KernelIdeal.Value

@[expose] public section

set_option maxRecDepth 16384

noncomputable section

/-! The kernel's five results are the reference's wherever the queries, the keys and the gains are finite. -/

namespace Cert.Equal

open Cert.MemGrad Cert.ReferenceIdeal.At Cert.KernelIdeal.Final Idealize.ShloMosaic Idealize.SL.Sem

instance preFacts : Cert.Pre_scores_finite.Facts where
  slices_S4096x13312_S4096x512_0_9728 := by decide
  slices_S256x1024_S256x512_0_0 := by decide
  bcast_S_S4096x512 := by decide
  bcast_S_S256x512 := by decide
  bcast_S_S1x128 := by decide

theorem top_word : Ideal.ofBits .f32 0x7F800000#32 = ⊤ := by
  simp [Ideal.ofBits, Ideal.ieee]

theorem real_of_bit {x : EReal} (h : BitVec.ofBool (decide (max x (-x) < Ideal.ofBits .f32 0x7F800000#32)) = 1#1) :
    ∃ r : ℝ, x = r := by
  rw [top_word] at h
  induction x using EReal.rec with
  | coe r => exact ⟨r, rfl⟩
  | top => simp at h
  | bot => simp at h

/-- The precondition at its arguments: the queries, the keys and the gains are real numbers. -/
theorem reals_of (x0 : Mat 4096 13312) (x1 : Mat 256 1024) (x2 x3 : Mat 1 128) (x4 : Mat 4096 512) (x5 : Mat 4096 13312)
    (h0 : (Cert.Pre_scores_finite.fn (F := Ideal) x0 x1 x2 x3 x4 x5).1 = fun _ => 1#1)
    (h1 : (Cert.Pre_scores_finite.fn (F := Ideal) x0 x1 x2 x3 x4 x5).2.1 = fun _ => 1#1)
    (h2 : (Cert.Pre_scores_finite.fn (F := Ideal) x0 x1 x2 x3 x4 x5).2.2.1 = fun _ => 1#1)
    (h3 : (Cert.Pre_scores_finite.fn (F := Ideal) x0 x1 x2 x3 x4 x5).2.2.2 = fun _ => 1#1) :
    Reals x0 x1 x2 x3 := by
  refine ⟨fun h l => isReal_of fun d => ?_, fun h c => isReal_of fun d => ?_, isReal_of fun d => ?_, isReal_of fun d => ?_⟩
  · have e := congrFun h0 (ix2 l ⟨128 * h.val + d.val, by omega⟩)
    simp only [Cert.Pre_scores_finite.fn] at e
    pointwise at e
    exact real_of_bit e
  · have e := congrFun h1 (ix2 c ⟨128 * h.val + d.val, by omega⟩)
    simp only [Cert.Pre_scores_finite.fn] at e
    pointwise at e
    exact real_of_bit e
  · have e := congrFun h2 (ix2 0 d)
    simp only [Cert.Pre_scores_finite.fn] at e
    pointwise at e
    exact real_of_bit e
  · have e := congrFun h3 (ix2 0 d)
    simp only [Cert.Pre_scores_finite.fn] at e
    pointwise at e
    exact real_of_bit e

section Claims

theorem frame_kernel : Cert.quiescent_Kernel := fun m g _ => Cert.Kernel.Gen.frame m g

theorem frame_ideal : Cert.quiescent_KernelIdeal := fun m g _ => Cert.KernelIdeal.Gen.frame m g

theorem frame_ideal_pre : Cert.quiescent_KernelIdeal_pre_scores_finite := fun m g _ => Cert.KernelIdeal.Gen.frame m g

theorem frame_reference : Cert.quiescent_ReferenceIdeal := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

theorem frame_reference_pre : Cert.quiescent_ReferenceIdeal_pre_scores_finite := fun m g _ => frame_reference m g trivial

theorem equal : Cert.algebraic_KernelIdeal_ReferenceIdeal_pre_scores_finite := by
  intro m g m' g' hp ha
  have H : ∀ c, Reals (a0 m c) (a1 m c) (a2 m c) (a3 m c) := fun c =>
    reals_of _ _ _ _ (a4 m c) (a5 m c) (hp c).1 (hp c).2.1 (hp c).2.2.1 (hp c).2.2.2
  refine ⟨fun c => R0 (a0 m c) (a1 m c) (a2 m c) (a3 m c) (a4 m c) (a5 m c),
    fun c => R1 (a0 m c) (a1 m c) (a2 m c) (a3 m c) (a4 m c), fun c => R2 (a0 m c) (a1 m c) (a2 m c) (a3 m c) (a4 m c),
    fun c => R3 (a0 m c) (a1 m c) (a2 m c) (a3 m c) (a4 m c), fun c => R4 (a0 m c) (a1 m c) (a2 m c) (a3 m c) (a4 m c), ?_, ?_⟩
  · refine (θ_run Cert.KernelIdeal.defs _ _).mono (fun r h c => ?_) (Cert.KernelIdeal.Value.run_blocks m g)
    obtain ⟨r0, r1, r2, r3, r4, rest⟩ := h c
    exact ⟨r0.trans (Cert.KernelIdeal.Arrays.final6 m c), r1.trans (Cert.KernelIdeal.Arrays.final7 m c),
      r2.trans (Cert.KernelIdeal.Arrays.final8 m c), r3.trans (Cert.KernelIdeal.Arrays.final9 m c),
      r4.trans (Cert.KernelIdeal.Arrays.final10 m c), rest⟩
  · refine (θ_run Cert.ReferenceIdeal.defs _ _).mono (fun r h c => ?_) (Cert.ReferenceIdeal.Value.run (F := Ideal) m' g')
    obtain ⟨r0, r1, r2, r3, r4, rest⟩ := h c
    obtain ⟨e0, e1, e2, e3, e4, e5⟩ := ha c
    rw [Cert.ReferenceIdeal.Read.val_main_v141_eq, e0, e1, e2, e3, e4, e5] at r0
    rw [Cert.ReferenceIdeal.Read.val_main_v118_eq, e0, e1, e2, e3, e4] at r1
    rw [Cert.ReferenceIdeal.Read.val_main_v97_eq, e0, e1, e2, e3, e4] at r2
    rw [Cert.ReferenceIdeal.Read.val_main_v142_eq, e0, e1, e2, e3, e4] at r3
    rw [Cert.ReferenceIdeal.Read.val_main_v143_eq, e0, e1, e2, e3, e4] at r4
    exact ⟨r0.trans (dproj_result (a4 m c) (a5 m c) (H c)), r1.trans (dk_result (a4 m c) (H c)),
      r2.trans (dv_result (a4 m c) (H c)), r3.trans (dgq_result (a4 m c) (H c)), r4.trans (dgk_result (a4 m c) (H c)), rest⟩

end Claims

end Cert.Equal

end
-- ==== Proof.ProjW.lean ====
module

public import proofs.«01_k».proof.Defs
public import proofs.«01_k».proof.Proof.Gen.KernelProjW.Frame
public import proofs.«01_k».proof.Proof.Gen.KernelProjWIdeal.Value
public import proofs.«01_k».proof.Proof.Gen.ReferenceProjWIdeal.Read
public import Idealize.ShloMosaic.Lib.Pipeline.ValueKit
public import Idealize.ShloMosaic.Lib.Pointwise
public import Idealize.ShloMosaic.Lib.Claim

@[expose] public section

set_option maxRecDepth 16384

noncomputable section

/-! The gradient of the input projection's weights: the kernel's blocks are the blocks of the reference's product. -/

namespace Cert.ProjW

open Cert.KernelProjWIdeal Cert.KernelProjWIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S4096x1024, .f32⟩ : BufTy).Contents (Elt Ideal) := m ((c : Thread nD τ).loc main_arg0)
abbrev a1 : (⟨S1x1024, .f32⟩ : BufTy).Contents (Elt Ideal) := m ((c : Thread nD τ).loc main_arg1)
abbrev a3 : (⟨S4096x13312, .bf16⟩ : BufTy).Contents (Elt Ideal) := m ((c : Thread nD τ).loc main_arg3)

abbrev act := Cert.ReferenceProjWIdeal.Read.val_main_v13 (F := Ideal) (a0 m c) (a1 m c)

/-- What the host hands the kernel: the normalized rows, transposed. -/
theorem entry : V m c main_v15 = (truncf .bf16 (transpose S1024x4096 [1, 0] (act m c : FVec Ideal S4096x1024 .f32)
    transposes_S4096x1024_S1024x4096_1_0) bitsLt_bf16_f32 : FVec Ideal S1024x4096 .bf16) := by
  unfold_abbrev_sides
  after_results
  rfl

theorem entry_at (i : Fin 1024) (l : Fin 4096) : V m c main_v15 (ix2 i l) = act m c (ix2 l i) := by
  rw [entry]
  pointwise

theorem lt16 (t : Fin cfg0.N) : t.val < 16 := lt_of_lt_of_eq t.isLt N_0
theorem idx0 : ∀ t : Fin cfg0.N, win0_0.index t = ![0, t.val % 2] := (by decide +kernel : ∀ t : Fin grid0.N, _)
theorem idx1 : ∀ t : Fin cfg0.N, win0_1.index t = ![t.val % 2, t.val / 2] := (by decide +kernel : ∀ t : Fin grid0.N, _)
theorem idx2 : ∀ t : Fin cfg0.N, win0_2.index t = ![t.val / 2, 0, 0] := (by decide +kernel : ∀ t : Fin grid0.N, _)

theorem blk0 (t : Fin cfg0.N) (i : Fin 1024) (k : Fin 2048) :
    iblk m c 0 t (ix2 i k) = act m c (ix2 ⟨t.val % 2 * 2048 + k.val, by omega⟩ i) := by
  refine Eq.trans ?_ (entry_at m c _ _)
  blk_ext [iblk, idx0 t]
theorem blk1 (t : Fin cfg0.N) (k : Fin 2048) (j : Fin 1664) :
    iblk m c 1 t (ix2 k j) = a3 m c (ix2 ⟨t.val % 2 * 2048 + k.val, by omega⟩ ⟨t.val / 2 * 1664 + j.val, by have := lt16 t; omega⟩) := by
  blk_ext [iblk, V, idx1 t]

theorem pay1_at (x : Vec Ideal S1024x2048 .bf16) (y : Vec Ideal S2048x1664 .bf16) (i : Fin 1024) (j : Fin 1664) :
    k0_pay1 x y (ix2 i j) = ∑ k : Fin 2048, x (ix2 i k) * y (ix2 k j) := by
  pointwise [k0_pay1]

theorem pay4_at (x : Vec Ideal S1024x2048 .bf16) (y : Vec Ideal S2048x1664 .bf16) (z : Vec Ideal S1024x1664 .f32) (u : Fin 1) (i : Fin 1024) (j : Fin 1664) :
    k0_pay4 x y z (ix3 u i j) = z (ix2 i j) + k0_pay1 x y (ix2 i j) := by
  pointwise [k0_pay4]

theorem part_at (t : Fin cfg0.N) (i : Fin 1024) (j : Fin 1664) : k0_pay1 (iblk m c 0 t) (iblk m c 1 t) (ix2 i j)
    = ∑ k : Fin 2048, act m c (ix2 ⟨t.val % 2 * 2048 + k.val, by omega⟩ i)
        * a3 m c (ix2 ⟨t.val % 2 * 2048 + k.val, by omega⟩ ⟨t.val / 2 * 1664 + j.val, by have := lt16 t; omega⟩) := by
  rw [pay1_at]
  exact Finset.sum_congr rfl fun k _ => by rw [blk0, blk1]

theorem pay2_eq (x : Vec Ideal S1024x2048 .bf16) (y : Vec Ideal S2048x1664 .bf16) : k0_pay2 x y = k0_pay1 x y := by
  unfold k0_pay2
  exact shapeCast_self _ _
theorem scratch_read (b : scM0_0.IsWhole) (z : Vec Ideal S1024x1664 .f32) :
    View.read (Elt Ideal) (View.whole cc0_scratch0) (b.unread z) = z := b.read_unread z

theorem first (t : Fin cfg0.N) (h : t.val % 2 = 0) : (outsAt0 m c t.val t.isLt).2 = k0_pay1 (iblk m c 0 t) (iblk m c 1 t) := by
  rw [outsAt0_A m c t (by omega) (by omega)]
  frame_out
  exact pay2_eq _ _
theorem last (t : Fin cfg0.N) (h : t.val % 2 = 1) : (outsAt0 m c t.val t.isLt).1
    = k0_pay4 (iblk m c 0 t) (iblk m c 1 t) (outsAt0 m c (t.val - 1) (Nat.lt_of_le_of_lt (Nat.sub_le _ _) t.isLt)).2 := by
  rw [outsAt0_B m c t (by omega) (by omega)]
  frame_out
  rw [scratch_read]

/-- The reference's result at an index. -/
theorem ref_at (x0 : (⟨S4096x1024, .f32⟩ : BufTy).Contents (Elt Ideal)) (x1 : (⟨S1x1024, .f32⟩ : BufTy).Contents (Elt Ideal))
    (x3 : (⟨S4096x13312, .bf16⟩ : BufTy).Contents (Elt Ideal)) (s : Fin 8) (i : Fin 1024) (j : Fin 1664) :
    Cert.ReferenceProjWIdeal.Read.val_main_v20 (F := Ideal) x0 x1 x3 (ix3 s i j)
      = ∑ l : Fin 4096, x3 (ix2 l ⟨s.val * 1664 + j.val, by omega⟩) * Cert.ReferenceProjWIdeal.Read.val_main_v13 (F := Ideal) x0 x1 (ix2 l i) := by
  pointwise [Cert.ReferenceProjWIdeal.Read.val_main_v20, Cert.ReferenceProjWIdeal.Read.val_main_v19, Cert.ReferenceProjWIdeal.Read.val_main_v18,
    Cert.ReferenceProjWIdeal.Read.val_main_v17, Cert.ReferenceProjWIdeal.Read.val_main_v16, Cert.ReferenceProjWIdeal.Read.val_main_v15]

abbrev R : (⟨S8x1024x1664, .bf16⟩ : BufTy).Contents (Elt Ideal) := Cert.ReferenceProjWIdeal.Read.val_main_v20 (F := Ideal) (a0 m c) (a1 m c) (a3 m c)

theorem out_at (t : Fin cfg0.N) (h : t.val % 2 = 1) (u : Fin 1) (i : Fin 1024) (j : Fin 1664) (s : Fin 8) (hs : s.val = t.val / 2) :
    (outsAt0 m c t.val t.isLt).1 (ix3 u i j) = R m c (ix3 s i j) := by
  rw [last m c t h]
  refine Eq.trans ?_ (ref_at _ _ _ s i j).symm
  refine Eq.trans ?_ (Fin.sum_mul_add_fin (L := 4096) 2 2048 _)
  refine Eq.trans ?_ (Fin.sum_univ_two _).symm
  have e := first m c ⟨t.val - 1, Nat.lt_of_le_of_lt (Nat.sub_le _ _) t.isLt⟩ (by dsimp only; omega)
  rw [pay4_at, part_at, e, part_at]
  have e1 : (t.val - 1) % 2 = 0 := by omega
  have e2 : (t.val - 1) / 2 = t.val / 2 := by omega
  simp only [e1, e2, h, hs]
  congr 1 <;> exact Finset.sum_congr rfl fun k _ => mul_comm _ _

theorem final2 : (dats m 0 c).arrAt 2 cfg0.N = R m c := by
  refine (dats m 0 c).arrAt_eq_of_covers 2 _ (by decide +kernel) fun t hf y => ?_
  have h1 : t.val % 2 = 1 := (flush0_2 t).mp hf
  blk_simp
  rw [after0_2]
  have hy : ((cfg0.win 2).blk t).view.emb y = ix3 (n0 := 8) (n1 := 1024) (n2 := 1664) ⟨t.val / 2, by have := lt16 t; omega⟩ (y 1) (y 2) := by
    blk_ext [idx2 t]
  rw [hy]
  exact (congrArg _ (eq_ix3 (y : S1x1024x1664.Idx))).trans (out_at m c t h1 (y 0) (y 1) (y 2) _ rfl)

theorem frame_kernel : Cert.quiescent_KernelProjW := fun m g _ => Cert.KernelProjW.Gen.frame m g

theorem frame_ideal : Cert.quiescent_KernelProjWIdeal := fun m g _ => Cert.KernelProjWIdeal.Gen.frame m g

theorem frame_reference : Cert.quiescent_ReferenceProjWIdeal := fun m g _ =>
  (θ_run Cert.ReferenceProjWIdeal.defs _ _).mono (fun r h => ⟨fun c => (h c).2, sem_eq_zero_of_no_sems (by decide) r.2⟩)
    (Cert.ReferenceProjWIdeal.Value.run (F := Ideal) m g)

theorem equal : Cert.algebraic_KernelProjWIdeal_ReferenceProjWIdeal := by
  intro m g m' g' hp ha
  refine ⟨fun c => R m c, ?_, ?_⟩
  · refine (θ_run Cert.KernelProjWIdeal.defs _ _).mono (fun r h c => ?_) (Cert.KernelProjWIdeal.Value.run_blocks m g)
    exact ⟨(h c).1.trans (final2 m c), (h c).2⟩
  · refine (θ_run Cert.ReferenceProjWIdeal.defs _ _).mono (fun r h c => ?_) (Cert.ReferenceProjWIdeal.Value.run (F := Ideal) m' g')
    obtain ⟨r0, rest⟩ := h c
    obtain ⟨e0, e1, e2, e3⟩ := ha c
    rw [Cert.ReferenceProjWIdeal.Read.val_main_v20_eq, e0, e1, e3] at r0
    exact ⟨r0, rest⟩

end Cert.ProjW

end
-- ==== Proof.NormGrad.lean ====
module

public import proofs.«01_k».proof.Proof.RealFacts
public import Idealize.ShloMosaic.Lib.Pointwise

@[expose] public section

set_option maxRecDepth 16384

noncomputable section

/-! The gradient through the root-mean-square norm over 1024 elements, at any extended reals: where an element of the
    row is infinite the reciprocal root is zero, and so is the gradient in both forms. -/

namespace Cert.NormGrad

open Idealize.ShloMosaic

/-- A row of 1024 elements. -/
abbrev Row := Fin 1024 → EReal

def width : EReal := Ideal.ofBits .f32 0x44800000#32
def eps : EReal := Ideal.ofBits .f32 0x358637BD#32
def half : EReal := Ideal.ofBits .f32 0xBF000000#32

theorem width_eq : width = ((1024 : ℝ) : EReal) := by
  simp [width, Ideal.ofBits, Ideal.ieee, -EReal.coe_mul]; norm_num
theorem half_eq : half = ((-(1 / 2) : ℝ) : EReal) := by
  simp [half, Ideal.ofBits, Ideal.ieee, -EReal.coe_mul]; norm_num
theorem eps_pos : ∃ e : ℝ, 0 < e ∧ eps = (e : EReal) := by
  refine ⟨_, ?_, by simp [eps, Ideal.ofBits, Ideal.ieee, -EReal.coe_mul]; rfl⟩
  norm_num

/-- The mean square of a row, with the norm's epsilon. -/
def msq (x : Row) : EReal := Ideal.div (∑ d, x d * x d) width + eps
/-- One over the root mean square of a row. -/
def rinv (x : Row) : EReal := Ideal.rsqrt (msq x)
/-- The row normalized, without its gain. -/
def hat (x : Row) (d : Fin 1024) : EReal := x d * rinv x
/-- The row normalized, with its gain. -/
def nrm (x g : Row) (d : Fin 1024) : EReal := x d * rinv x * g d
/-- The gradient of a row under its norm, from the gradient `u` of the normalized row without its gain. -/
def unnorm (x u : Row) (d : Fin 1024) : EReal :=
  rinv x * (u d - hat x d * Ideal.div (∑ e, u e * hat x e) width)
/-- What the mean square's gradient adds to each element, before the element. -/
def slope (x u : Row) : EReal := Ideal.div ((∑ e, x e * u e) * (half * Ideal.div (rinv x) (msq x))) width

theorem real_or_top (x : Row) : (∃ r : Fin 1024 → ℝ, x = fun d => (r d : EReal)) ∨ ∑ d, x d * x d = ⊤ := by
  by_cases h : ∀ d, ∃ r : ℝ, x d = r
  · choose r hr using h
    exact .inl ⟨r, funext hr⟩
  · push Not at h
    obtain ⟨d, hd⟩ := h
    right
    have hsq (y : EReal) : 0 ≤ y * y := by
      induction y using EReal.rec with
      | coe r => exact_mod_cast mul_self_nonneg r
      | top => simp
      | bot => simp
    have ht : x d * x d = ⊤ := by
      generalize hy : x d = y
      rw [hy] at hd
      induction y using EReal.rec with
      | coe r => exact absurd rfl (hd r)
      | top => simp
      | bot => simp
    refine top_le_iff.mp ?_
    rw [← ht]
    exact Finset.single_le_sum (f := fun d => x d * x d) (fun i _ => hsq (x i)) (Finset.mem_univ d)

theorem both (x u : Row) (d : Fin 1024) : unnorm x u d = u d * rinv x + x d * slope x u + slope x u * x d := by
  rcases real_or_top x with ⟨r, rfl⟩ | h
  · obtain ⟨e, he, hee⟩ := eps_pos
    have hq : msq (fun d => (r d : EReal)) = (((∑ d, r d * r d) * (1 / 1024) + e : ℝ) : EReal) := by
      unfold msq
      rw [width_eq, hee, Ideal.div_coe (by norm_num)]
      have : (∑ d, (r d : EReal) * (r d : EReal)) = ((∑ d, r d * r d : ℝ) : EReal) := by
        simp only [← EReal.coe_mul]
        exact (map_sum (⟨⟨Real.toEReal, EReal.coe_zero⟩, EReal.coe_add⟩ : ℝ →+ EReal) _ _).symm
      rw [this]
      norm_cast
    have hp : 0 < (∑ d, r d * r d) * (1 / 1024) + e :=
      add_pos_of_nonneg_of_pos (mul_nonneg (Finset.sum_nonneg fun d _ => mul_self_nonneg _) (by norm_num)) he
    have hr : rinv (fun d => (r d : EReal)) = (((Real.sqrt ((∑ d, r d * r d) * (1 / 1024) + e))⁻¹ : ℝ) : EReal) := by
      unfold rinv
      rw [hq, Ideal.rsqrt_coe, if_neg hp.not_gt, if_neg hp.ne']
    have := RealFacts.norm_grad r _ _ hp rfl u 1024 (by norm_num) d
    unfold unnorm slope hat
    rw [hr, hq, width_eq, half_eq, this, mul_comm (Ideal.div _ _) (r d : EReal), add_assoc]
  · have hv : msq x = ⊤ := by
      obtain ⟨e, he, hee⟩ := eps_pos
      unfold msq
      rw [h, width_eq, hee, Ideal.div_coe (by norm_num), EReal.top_mul_coe_of_pos (by norm_num)]
      exact EReal.top_add_coe e
    have hr : rinv x = 0 := by unfold rinv; rw [hv, Ideal.rsqrt_top]
    have hs : slope x u = 0 := by
      unfold slope
      rw [hr, hv, width_eq, Ideal.div_coe (by norm_num)]
      have : Ideal.div 0 ⊤ = 0 := by simp [Ideal.div]
      rw [this]; simp
    unfold unnorm
    rw [hr, hs]
    simp

end Cert.NormGrad

end
-- ==== Proof.ProjBottom.lean ====
module

public import proofs.«01_k».proof.Defs
public import proofs.«01_k».proof.Proof.Gen.KernelProjBottom.Frame
public import proofs.«01_k».proof.Proof.Gen.KernelProjBottomIdeal.Value
public import proofs.«01_k».proof.Proof.Gen.ReferenceProjBottomIdeal.Read
public import proofs.«01_k».proof.Proof.NormGrad
public import Idealize.ShloMosaic.Lib.Pipeline.ValueKit
public import Idealize.ShloMosaic.Lib.Pointwise
public import Idealize.ShloMosaic.Lib.Claim

@[expose] public section

set_option maxRecDepth 16384

noncomputable section

/-! The gradient of the input projection's input, rows from 1024 on: eight tiles of the product added up, the normalization backward, and the gain's gradient. -/

namespace Cert.ProjBottom

open Cert.KernelProjBottomIdeal Cert.KernelProjBottomIdeal.Gen Idealize.ShloMosaic Idealize.ShloMosaic.TcCoe Idealize.SL.Sem Cert.NormGrad
open Idealize.ShloMosaic.Pipeline (Dat)

/-! ## The reference's stages at an index -/

section
open Cert.ReferenceProjBottomIdeal.Read

variable (x0 : (⟨S4096x1024, .f32⟩ : BufTy).Contents (Elt Ideal)) (x1 : (⟨S1x1024, .f32⟩ : BufTy).Contents (Elt Ideal))
  (x2 : (⟨S1024x13312, .f32⟩ : BufTy).Contents (Elt Ideal)) (x3 : (⟨S4096x13312, .bf16⟩ : BufTy).Contents (Elt Ideal))
  (x4 x5 : (⟨S4096x1024, .f32⟩ : BufTy).Contents (Elt Ideal))

/-- Row `l` of these rows of a matrix. -/
abbrev low (l : Fin 3072) : Fin 4096 := ⟨1024 + l.val, by omega⟩
/-- Row `l` of the input. -/
abbrev X (l : Fin 3072) : Row := fun d => x0 (ix2 (low l) d)
/-- Row `l` of the gradient of the normalized input. -/
abbrev Y (l : Fin 3072) : Row := fun d => val_main_v23 (F := Ideal) x2 x3 (ix2 l d)
/-- The same before the gain. -/
abbrev U (l : Fin 3072) : Row := fun d => val_main_v28 (F := Ideal) x1 x2 x3 (ix2 l d)

theorem x_at (l : Fin 3072) (d : Fin 1024) : val_main_v0 (F := Ideal) x0 (ix2 l d) = X x0 l d := by
  pointwise [val_main_v0]

theorem y_at (l : Fin 3072) (d : Fin 1024) : val_main_v23 (F := Ideal) x2 x3 (ix2 l d)
    = ∑ q : Fin 13312, x3 (ix2 (low l) q) * x2 (ix2 d q) := by
  pointwise [val_main_v23, val_main_v20, val_main_v19]

theorem u_at (l : Fin 3072) (d : Fin 1024) : val_main_v28 (F := Ideal) x1 x2 x3 (ix2 l d)
    = val_main_v23 (F := Ideal) x2 x3 (ix2 l d) * x1 (ix2 0 d) := by
  pointwise [val_main_v28, val_main_v27, val_main_v15, val_main_v1]

theorem msq_at (l : Fin 3072) (z : Fin 1) : val_main_v8 (F := Ideal) x0 (ix2 l z) = msq (X x0 l) := by
  pointwise [val_main_v8, val_main_v7, val_main_v6, val_main_v5, val_main_v4, val_main_v3, val_main_v2, val_main_cst, val_main_cst_0, val_main_cst_1]
  simp only [x_at]
  rfl

theorem rinv_at (l : Fin 3072) (z : Fin 1) : val_main_v9 (F := Ideal) x0 (ix2 l z) = rinv (X x0 l) := by
  pointwise [val_main_v9]
  rw [msq_at]
  rfl

theorem hat_at (l : Fin 3072) (d : Fin 1024) : val_main_v14 (F := Ideal) x0 (ix2 l d) = hat (X x0 l) d := by
  pointwise [val_main_v14, val_main_v13]
  rw [rinv_at, x_at]
  rfl

theorem factor_at (l : Fin 3072) (z : Fin 1) : val_main_v12 (F := Ideal) x0 (ix2 l z) = half * Ideal.div (rinv (X x0 l)) (msq (X x0 l)) := by
  pointwise [val_main_v12, val_main_v11, val_main_v10, val_main_cst_2]
  rw [rinv_at, msq_at]
  rfl

theorem slope_at (l : Fin 3072) (d : Fin 1024) : val_main_v39 (F := Ideal) x0 x1 x2 x3 (ix2 l d) = slope (X x0 l) (U x1 x2 x3 l) := by
  pointwise [val_main_v39, val_main_v38, val_main_v37, val_main_v36, val_main_v35, val_main_v32, val_main_v31, val_main_v30, val_main_cst_5, val_main_cst_6, val_main_cst_7]
  simp only [Fin.sum_univ_one, x_at]
  rw [factor_at]
  rfl

theorem back_at (l : Fin 3072) (d : Fin 1024) : val_main_v43 (F := Ideal) x0 x1 x2 x3 (ix2 l d) = unnorm (X x0 l) (U x1 x2 x3 l) d := by
  rw [both]
  pointwise [val_main_v43, val_main_v42, val_main_v41, val_main_v40, val_main_v34, val_main_v33]
  rw [slope_at, rinv_at, x_at]

theorem dx_at (l : Fin 3072) (d : Fin 1024) : val_main_v45 (F := Ideal) x0 x1 x2 x3 x4 (ix2 l d) = x4 (ix2 (low l) d) + unnorm (X x0 l) (U x1 x2 x3 l) d := by
  pointwise [val_main_v45, val_main_v44]
  rw [back_at]

/-- An update that starts at row 1024 and reaches the end, at an index. -/
theorem update_at {α : Type} (x : (⟨2, ![4096, 1024]⟩ : Shape).Idx → α) (u : (⟨2, ![3072, 1024]⟩ : Shape).Idx → α)
    (start : Fin 2 → Int) (h : (⟨2, ![4096, 1024]⟩ : Shape).Slices (fun _ => 0) ⟨2, ![3072, 1024]⟩)
    (h0 : start 0 = 1024) (h1 : start 1 = 0) (a : Fin 4096) (b : Fin 1024) :
    Host.dynamicUpdateSlice x u start h (ix2 a b)
      = if ha : 1024 ≤ a.val then u (ix2 ⟨a.val - 1024, by omega⟩ b) else x (ix2 a b) := by
  have s0 : Host.clampedStart ⟨2, ![4096, 1024]⟩ ⟨2, ![3072, 1024]⟩ h.1 start 0 = 1024 := by
    simp [Host.clampedStart, h0]
  have s1 : Host.clampedStart ⟨2, ![4096, 1024]⟩ ⟨2, ![3072, 1024]⟩ h.1 start 1 = 0 := by
    simp [Host.clampedStart, h1]
  pointwise
  simp only [s0, s1, Nat.zero_le, true_and, Nat.sub_zero, Nat.zero_add, a.isLt, b.isLt, and_true, Nat.reduceAdd]

theorem out_low (l : Fin 3072) (d : Fin 1024) : val_main_v46 (F := Ideal) x0 x1 x2 x3 x4 x5 (ix2 (low l) d)
    = x4 (ix2 (low l) d) + unnorm (X x0 l) (U x1 x2 x3 l) d := by
  refine (update_at _ _ _ _ rfl rfl (low l) d).trans ?_
  rw [dif_pos (by dsimp only [low]; omega)]
  refine Eq.trans ?_ (dx_at x0 x1 x2 x3 x4 l d)
  have e : (⟨(low l).val - 1024, by have := l.isLt; dsimp only [low]; omega⟩ : Fin 3072) = l := Fin.ext (by dsimp only [low]; omega)
  rw [e]

theorem out_high (a : Fin 4096) (d : Fin 1024) (ha : a.val < 1024) : val_main_v46 (F := Ideal) x0 x1 x2 x3 x4 x5 (ix2 a d) = x5 (ix2 a d) := by
  refine (update_at _ _ _ _ rfl rfl a d).trans ?_
  rw [dif_neg (by omega)]

theorem gain_at (z : Fin 1) (d : Fin 1024) : val_main_v47 (F := Ideal) x0 x2 x3 (ix2 z d) = ∑ l : Fin 3072, hat (X x0 l) d * Y x2 x3 l d := by
  pointwise [val_main_v47, val_main_v29, val_main_v26, val_main_v25, val_main_v24, val_main_cst_3, val_main_cst_4]
  simp only [Fin.sum_univ_one]
  exact Finset.sum_congr rfl fun l _ => by rw [hat_at]

end

/-! ## The kernel's payloads at an index -/

theorem pay1_at (x : Vec Ideal S1024x1664 .bf16) (y : Vec Ideal S1x1024x1664 .bf16) (i j : Fin 1024) :
    k0_pay1 x y (ix2 i j) = ∑ k : Fin 1664, x (ix2 i k) * y (ix3 0 j k) := by
  pointwise [k0_pay1]

theorem pay2_eq (x : Vec Ideal S1024x1664 .bf16) (y : Vec Ideal S1x1024x1664 .bf16) : k0_pay2 x y = k0_pay1 x y := by
  unfold k0_pay2
  exact shapeCast_self _ _

theorem pay3_at (x : Vec Ideal S1024x1664 .bf16) (y : Vec Ideal S1x1024x1664 .bf16) (s : Vec Ideal S1024x1024 .f32) (i j : Fin 1024) :
    k0_pay3 x y s (ix2 i j) = s (ix2 i j) + k0_pay1 x y (ix2 i j) := by
  unfold k0_pay3
  exact congrFun (shapeCast_self _ _) _

theorem pay6_at (x : Vec Ideal S1024x1024 .f32) (i : Fin 1024) (z : Fin 1) : k0_pay6 x (ix2 i z) = rinv (fun d => x (ix2 i d)) := by
  pointwise [k0_pay6]
  rfl

theorem pay7_at (x : Vec Ideal S1024x1024 .f32) (i : Fin 1024) (d : Fin 1024) : k0_pay7 x (ix2 i d) = hat (fun d => x (ix2 i d)) d := by
  pointwise [k0_pay7]
  rw [pay6_at]
  rfl

theorem pay8_at (p : FVec Ideal S1024x1024 .f32) (s x : Vec Ideal S1024x1024 .f32) (g : Vec Ideal S1x1024 .f32) (dy : Vec Ideal S1024x1024 .f32) (i j : Fin 1024) :
    k0_pay8 p s x g dy (ix2 i j) = dy (ix2 i j) + unnorm (fun d => x (ix2 i d)) (fun d => (s (ix2 i d) + p (ix2 i d)) * g (ix2 0 d)) j := by
  pointwise [k0_pay8, k0_pay5]
  simp only [pay6_at, pay7_at]
  rfl

theorem pay9_at (p : FVec Ideal S1024x1024 .f32) (s x : Vec Ideal S1024x1024 .f32) (z : Fin 1) (d : Fin 1024) :
    k0_pay9 p s x (ix2 z d) = ∑ i : Fin 1024, (s (ix2 i d) + p (ix2 i d)) * hat (fun d => x (ix2 i d)) d := by
  pointwise [k0_pay9, k0_pay5]
  exact Finset.sum_congr rfl fun i _ => by rw [pay7_at]

theorem pay4_at (v w : FVec Ideal S1x1024 .f32) (z : Fin 1) (d : Fin 1024) : k0_pay4 v w (ix2 z d) = w (ix2 z d) + v (ix2 z d) := by
  pointwise [k0_pay4]

variable (m : (ℓ : Loc nD τ sig) → Buf (Elt Ideal) ℓ) (c : Dev nD)

abbrev a0 : (⟨S4096x1024, .f32⟩ : BufTy).Contents (Elt Ideal) := m ((c : Thread nD τ).loc main_arg0)
abbrev a1 : (⟨S1x1024, .f32⟩ : BufTy).Contents (Elt Ideal) := m ((c : Thread nD τ).loc main_arg1)
abbrev a2 : (⟨S1024x13312, .f32⟩ : BufTy).Contents (Elt Ideal) := m ((c : Thread nD τ).loc main_arg2)
abbrev a3 : (⟨S4096x13312, .bf16⟩ : BufTy).Contents (Elt Ideal) := m ((c : Thread nD τ).loc main_arg3)
abbrev a4 : (⟨S4096x1024, .f32⟩ : BufTy).Contents (Elt Ideal) := m ((c : Thread nD τ).loc main_arg4)
abbrev a5 : (⟨S4096x1024, .f32⟩ : BufTy).Contents (Elt Ideal) := m ((c : Thread nD τ).loc main_arg5)

/-! ## The blocks at a point -/

theorem lt24 (t : Fin cfg0.N) : t.val < 24 := lt_of_lt_of_eq t.isLt N_0
theorem idx0 : ∀ t : Fin cfg0.N, win0_0.index t = ![1 + t.val / 8, t.val % 8] := (by decide +kernel : ∀ t : Fin grid0.N, _)
theorem idx1 : ∀ t : Fin cfg0.N, win0_1.index t = ![t.val % 8, 0, 0] := (by decide +kernel : ∀ t : Fin grid0.N, _)
theorem idx2 : ∀ t : Fin cfg0.N, win0_2.index t = ![1 + t.val / 8, 0] := (by decide +kernel : ∀ t : Fin grid0.N, _)
theorem idx3 : ∀ t : Fin cfg0.N, win0_3.index t = ![1 + t.val / 8, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![1 + t.val / 8, 0] := (by decide +kernel : ∀ t : Fin grid0.N, _)
theorem idx6 : ∀ t : Fin cfg0.N, win0_6.index t = ![0, 0] := (by decide +kernel : ∀ t : Fin grid0.N, _)

/-- The row, counted from row 1024, that row `i` of a point's block is. -/
abbrev rw0 (t : Fin cfg0.N) (i : Fin 1024) : Fin 3072 := ⟨t.val / 8 * 1024 + i.val, by have := lt24 t; omega⟩

/-- What the host hands the kernel: the weights, stacked by groups of columns. -/
theorem entry : V m c main_v2 = (transpose S8x1024x1664 [1, 0, 2] (shapeCast S1024x8x1664 (truncf .bf16 (a2 m c : FVec Ideal S1024x13312 .f32) bitsLt_bf16_f32 : FVec Ideal S1024x13312 .bf16)
    shapeCasts_S1024x13312_S1024x8x1664) transposes_S1024x8x1664_S8x1024x1664_1_0_2 : FVec Ideal S8x1024x1664 .bf16) := by
  unfold_abbrev_sides
  after_results
  rfl

theorem entry_at (s : Fin 8) (d : Fin 1024) (k : Fin 1664) : V m c main_v2 (ix3 s d k) = a2 m c (ix2 d ⟨s.val * 1664 + k.val, by omega⟩) := by
  rw [entry]
  pointwise

theorem blk0 (t : Fin cfg0.N) (i : Fin 1024) (k : Fin 1664) :
    iblk m c 0 t (ix2 i k) = a3 m c (ix2 (low (rw0 t i)) ⟨t.val % 8 * 1664 + k.val, by omega⟩) := by
  blk_ext [iblk, V, idx0 t]
theorem blk1 (t : Fin cfg0.N) (u : Fin 1) (j : Fin 1024) (k : Fin 1664) :
    iblk m c 1 t (ix3 u j k) = a2 m c (ix2 j ⟨t.val % 8 * 1664 + k.val, by omega⟩) := by
  refine Eq.trans ?_ (entry_at m c ⟨t.val % 8, by omega⟩ j k)
  blk_ext [iblk, idx1 t]
theorem blk2 (t : Fin cfg0.N) (i : Fin 1024) (d : Fin 1024) : iblk m c 2 t (ix2 i d) = a0 m c (ix2 (low (rw0 t i)) d) := by
  blk_ext [iblk, V, idx2 t]
theorem blk3 (t : Fin cfg0.N) (i : Fin 1024) (d : Fin 1024) : iblk m c 3 t (ix2 i d) = a4 m c (ix2 (low (rw0 t i)) d) := by
  blk_ext [iblk, V, idx3 t]
theorem blk4 (t : Fin cfg0.N) (z : Fin 1) (d : Fin 1024) : iblk m c 4 t (ix2 z d) = a1 m c (ix2 z d) := by
  blk_ext [iblk, V, idx4 t]

/-- What tile `b` of the columns adds to the product at a row. -/
def tile (l : Fin 3072) (d : Fin 1024) (b : ℕ) : EReal :=
  ∑ k : Fin 1664, a3 m c (ix2 (low l) ⟨(b * 1664 + k.val) % 13312, by omega⟩) * a2 m c (ix2 d ⟨(b * 1664 + k.val) % 13312, by omega⟩)

theorem part_at (t : Fin cfg0.N) (i d : Fin 1024) : k0_pay1 (iblk m c 0 t) (iblk m c 1 t) (ix2 i d) = tile m c (rw0 t i) d (t.val % 8) := by
  rw [pay1_at]
  unfold tile
  refine Finset.sum_congr rfl fun k _ => ?_
  rw [blk0, blk1]
  have e : (t.val % 8 * 1664 + k.val) % 13312 = t.val % 8 * 1664 + k.val := by omega
  simp only [e]

/-! ## What a point leaves -/

theorem scratch_read (b : scM0_0.IsWhole) (z : Vec Ideal S1024x1024 .f32) :
    View.read (Elt Ideal) (View.whole cc0_scratch0) (b.unread z) = z := b.read_unread z

abbrev prev (t : Fin cfg0.N) := outsAt0 m c (t.val - 1) (Nat.lt_of_le_of_lt (Nat.sub_le _ _) t.isLt)

theorem first (t : Fin cfg0.N) (h : t.val % 8 = 0) : (outsAt0 m c t.val t.isLt).2.2 = k0_pay1 (iblk m c 0 t) (iblk m c 1 t) := by
  rw [outsAt0_A m c t (by omega) (by omega) (by omega)]
  frame_out
  exact pay2_eq _ _
theorem next (t : Fin cfg0.N) (h : 1 ≤ t.val % 8 ∧ t.val % 8 ≤ 6) : (outsAt0 m c t.val t.isLt).2.2
    = k0_pay3 (iblk m c 0 t) (iblk m c 1 t) (prev m c t).2.2 := by
  rw [outsAt0_B m c t (by omega) (by omega) (by omega)]
  frame_out
  rw [scratch_read]
theorem kept (t : Fin cfg0.N) (h : ¬t.val % 8 = 7) : (outsAt0 m c t.val t.isLt).2.1 = (prev m c t).2.1 := by
  by_cases h0 : t.val % 8 = 0
  · rw [outsAt0_A m c t (by omega) (by omega) (by omega)]
    frame_out
    rfl
  · rw [outsAt0_B m c t (by omega) (by omega) (by omega)]
    frame_out
    rfl

theorem last5 (t : Fin cfg0.N) (h : t.val % 8 = 7) : (outsAt0 m c t.val t.isLt).1
    = k0_pay8 (k0_pay1 (iblk m c 0 t) (iblk m c 1 t)) (prev m c t).2.2 (iblk m c 2 t) (iblk m c 4 t) (iblk m c 3 t) := by
  by_cases h3 : t.val < 8
  · rw [outsAt0_C m c t (by omega) (by omega) (by omega) h3 (by omega)]
    frame_out
    rw [scratch_read]
  · rw [outsAt0_D m c t (by omega) (by omega) (by omega) h3 (by omega)]
    frame_out
    rw [scratch_read]
theorem last6_first (t : Fin cfg0.N) (h : t.val % 8 = 7) (h3 : t.val < 8) : (outsAt0 m c t.val t.isLt).2.1
    = k0_pay9 (k0_pay1 (iblk m c 0 t) (iblk m c 1 t)) (prev m c t).2.2 (iblk m c 2 t) := by
  rw [outsAt0_C m c t (by omega) (by omega) (by omega) h3 (by omega)]
  frame_out
  rw [scratch_read]
theorem last6_later (t : Fin cfg0.N) (h : t.val % 8 = 7) (h3 : ¬t.val < 8) : (outsAt0 m c t.val t.isLt).2.1
    = k0_pay4 (k0_pay9 (k0_pay1 (iblk m c 0 t) (iblk m c 1 t)) (prev m c t).2.2 (iblk m c 2 t)) (prev m c t).2.1 := by
  rw [outsAt0_D m c t (by omega) (by omega) (by omega) h3 (by omega)]
  frame_out
  rw [scratch_read]

/-- After tile `k` the carried block holds the tiles up to it. -/
theorem tiles_run (i d : Fin 1024) (k : ℕ) (hk : k ≤ 6) : ∀ t : Fin cfg0.N, t.val % 8 = k →
    (outsAt0 m c t.val t.isLt).2.2 (ix2 i d) = ∑ b ∈ Finset.range (k + 1), tile m c (rw0 t i) d b := by
  induction k with
  | zero =>
    intro t ht
    rw [first m c t ht, part_at, Finset.sum_range_one, ht]
  | succ k ih =>
    intro t ht
    rw [next m c t (by omega), pay3_at, part_at, Finset.sum_range_succ, ht]
    have e := ih (by omega) ⟨t.val - 1, Nat.lt_of_le_of_lt (Nat.sub_le _ _) t.isLt⟩ (by dsimp only; omega)
    have e1 : rw0 ⟨t.val - 1, Nat.lt_of_le_of_lt (Nat.sub_le _ _) t.isLt⟩ i = rw0 t i := Fin.ext (by dsimp only [rw0]; omega)
    rw [e1] at e
    exact congrArg (· + _) e

/-- The eight tiles add up to the gradient of the normalized input. -/
theorem sum_at (t : Fin cfg0.N) (h : t.val % 8 = 7) (i : Fin 1024) (d : Fin 1024) :
    (prev m c t).2.2 (ix2 i d) + k0_pay1 (iblk m c 0 t) (iblk m c 1 t) (ix2 i d) = Y (a2 m c) (a3 m c) (rw0 t i) d := by
  have e := tiles_run m c i d 6 le_rfl ⟨t.val - 1, Nat.lt_of_le_of_lt (Nat.sub_le _ _) t.isLt⟩ (by dsimp only; omega)
  have e1 : rw0 ⟨t.val - 1, Nat.lt_of_le_of_lt (Nat.sub_le _ _) t.isLt⟩ i = rw0 t i := Fin.ext (by dsimp only [rw0]; omega)
  rw [e1] at e
  refine Eq.trans ?_ (y_at _ _ (rw0 t i) d).symm
  refine Eq.trans ?_ (Fin.sum_mul_add_fin (L := 13312) 8 1664 _)
  rw [part_at, h]
  refine (congrArg (· + _) e).trans ?_
  rw [← Finset.sum_range_succ, Finset.sum_range]
  refine Finset.sum_congr rfl fun b _ => Finset.sum_congr rfl fun k _ => ?_
  have e2 : (b.val * 1664 + k.val) % 13312 = b.val * 1664 + k.val := by have : b.val < 8 := b.isLt; omega
  simp only [e2]

theorem dx_block (t : Fin cfg0.N) (h : t.val % 8 = 7) (i : Fin 1024) (d : Fin 1024) :
    k0_pay8 (k0_pay1 (iblk m c 0 t) (iblk m c 1 t)) (prev m c t).2.2 (iblk m c 2 t) (iblk m c 4 t) (iblk m c 3 t) (ix2 i d)
      = a4 m c (ix2 (low (rw0 t i)) d) + unnorm (X (a0 m c) (rw0 t i)) (U (a1 m c) (a2 m c) (a3 m c) (rw0 t i)) d := by
  rw [pay8_at, blk3]
  simp only [sum_at m c t h, blk2, blk4]
  have e : U (a1 m c) (a2 m c) (a3 m c) (rw0 t i) = fun d => Y (a2 m c) (a3 m c) (rw0 t i) d * a1 m c (ix2 0 d) :=
    funext fun d => u_at _ _ _ _ d
  rw [e]

/-! ## The arrays -/

abbrev R5 : (⟨S4096x1024, .f32⟩ : BufTy).Contents (Elt Ideal) :=
  Cert.ReferenceProjBottomIdeal.Read.val_main_v46 (F := Ideal) (a0 m c) (a1 m c) (a2 m c) (a3 m c) (a4 m c) (a5 m c)
abbrev R6 : (⟨S1x1024, .f32⟩ : BufTy).Contents (Elt Ideal) :=
  Cert.ReferenceProjBottomIdeal.Read.val_main_v47 (F := Ideal) (a0 m c) (a2 m c) (a3 m c)

/-- The output array is entered holding the last argument. -/
theorem entry5 : (dats m 0 c).A 5 = a5 m c := by
  rw [A_eq]
  show V m c main_v3_0 = _
  unfold_abbrev_sides
  after_results
  rfl

theorem final5 : (dats m 0 c).arrAt 5 cfg0.N = R5 m c := by
  refine (dats m 0 c).arrAt_eq_of_coversWhere_of_agree 5 _ (fun β => 1 ≤ β (0 : Fin 2)) (by decide +kernel) (fun t hf y => ?_) (fun j hj => ?_)
  · have h1 : t.val % 8 = 7 := (flush0_5 t).mp hf
    blk_simp
    rw [after0_5]
    have hy : ((cfg0.win 5).blk t).view.emb y = ix2 (n0 := 4096) (n1 := 1024) ⟨1024 + (t.val / 8 * 1024 + (y 0).val), by have := lt24 t; have : (y 0).val < 1024 := (y 0).isLt; omega⟩ (y 1) := by
      blk_ext [idx5 t]
    rw [hy, last5 m c t h1]
    exact (congrArg _ (eq_ix2 (y : S1024x1024.Idx))).trans ((dx_block m c t h1 (y 0) (y 1)).trans (out_low _ _ _ _ _ _ (rw0 t (y 0)) (y 1)).symm)
  · rw [entry5]
    have hj0 : (j 0).val < 1024 := by
      have e := Pipeline.Window.cell_apply (cfg0.win 5) j (0 : Fin 2)
      have e2 : (cfg0.win 5).cell j (0 : Fin 2) = (j 0).val / 1024 := e
      rw [e2] at hj
      omega
    have hy : (cfg0.win 5).arr.view.emb j = ix2 (n0 := 4096) (n1 := 1024) (j 0) (j 1) := eq_ix2 (j : S4096x1024.Idx)
    rw [hy]
    exact (out_high _ _ _ _ _ _ (j 0) (j 1) hj0).symm

/-- What a block of rows adds to the gain's gradient. -/
def gpart (d : Fin 1024) (b : ℕ) : EReal :=
  ∑ i : Fin 1024, Y (a2 m c) (a3 m c) ⟨(b * 1024 + i.val) % 3072, by omega⟩ d * hat (X (a0 m c) ⟨(b * 1024 + i.val) % 3072, by omega⟩) d

theorem gpart_at (t : Fin cfg0.N) (h : t.val % 8 = 7) (z : Fin 1) (d : Fin 1024) :
    k0_pay9 (k0_pay1 (iblk m c 0 t) (iblk m c 1 t)) (prev m c t).2.2 (iblk m c 2 t) (ix2 z d) = gpart m c d (t.val / 8) := by
  rw [pay9_at]
  simp only [sum_at m c t h, blk2]
  unfold gpart
  refine Finset.sum_congr rfl fun i _ => ?_
  have e : rw0 t i = ⟨(t.val / 8 * 1024 + i.val) % 3072, by omega⟩ := Fin.ext (by have := lt24 t; dsimp only [rw0]; omega)
  rw [e]

/-- Between two blocks of rows the gain's gradient is kept. -/
theorem kept_run (k : ℕ) (hk : k ≤ 6) : ∀ t : Fin cfg0.N, t.val % 8 = k → 8 ≤ t.val →
    ∀ h', (outsAt0 m c t.val t.isLt).2.1 = (outsAt0 m c (t.val / 8 * 8 - 1) h').2.1 := by
  induction k with
  | zero =>
    intro t ht h8 h'
    rw [kept m c t (by omega)]
    have e : t.val - 1 = t.val / 8 * 8 - 1 := by omega
    dsimp only [prev]
    congr 2
    simp only [e]
  | succ k ih =>
    intro t ht h8 h'
    rw [kept m c t (by omega)]
    have e1 : (t.val - 1) / 8 * 8 - 1 = t.val / 8 * 8 - 1 := by omega
    have e := ih (by omega) ⟨t.val - 1, Nat.lt_of_le_of_lt (Nat.sub_le _ _) t.isLt⟩ (by dsimp only; omega) (by dsimp only; omega) (by dsimp only; rw [e1]; exact h')
    dsimp only at e
    simp only [e1] at e
    exact e

/-- After `k + 1` blocks of rows the gain's gradient holds their parts. -/
theorem gain_run (z : Fin 1) (d : Fin 1024) (k : ℕ) : ∀ t : Fin cfg0.N, t.val = 8 * k + 7 →
    (outsAt0 m c t.val t.isLt).2.1 (ix2 z d) = ∑ b ∈ Finset.range (k + 1), gpart m c d b := by
  induction k with
  | zero =>
    intro t ht
    rw [last6_first m c t (by omega) (by omega), gpart_at m c t (by omega), Finset.sum_range_one]
    exact congrArg _ (by omega)
  | succ k ih =>
    intro t ht
    rw [last6_later m c t (by omega) (by omega), pay4_at, gpart_at m c t (by omega), Finset.sum_range_succ]
    have e1 : (t.val - 1) / 8 * 8 - 1 < cfg0.N := by have := t.isLt; omega
    have e := kept_run m c 6 le_rfl ⟨t.val - 1, Nat.lt_of_le_of_lt (Nat.sub_le _ _) t.isLt⟩ (by dsimp only; omega) (by dsimp only; omega) e1
    have e2 := ih ⟨(t.val - 1) / 8 * 8 - 1, e1⟩ (by dsimp only; omega)
    have e3 : (prev m c t).2.1 (ix2 z d) = ∑ b ∈ Finset.range (k + 1), gpart m c d b := (congrFun e _).trans e2
    have e4 : t.val / 8 = k + 1 := by omega
    rw [e3, e4]

theorem gain_last (t : Fin cfg0.N) (h : t.val % 24 = 23) (z : Fin 1) (d : Fin 1024) :
    (outsAt0 m c t.val t.isLt).2.1 (ix2 z d) = R6 m c (ix2 z d) := by
  rw [gain_run m c z d 2 t (by have := lt24 t; omega), Finset.sum_range]
  refine Eq.trans ?_ (gain_at _ _ _ z d).symm
  refine Eq.trans ?_ (Fin.sum_mul_add_fin (L := 3072) 3 1024 _)
  refine Finset.sum_congr rfl fun b _ => Finset.sum_congr rfl fun i _ => ?_
  rw [mul_comm]
  have e : (b.val * 1024 + i.val) % 3072 = b.val * 1024 + i.val := by have : b.val < 3 := b.isLt; omega
  simp only [e]

theorem final6 : (dats m 0 c).arrAt 6 cfg0.N = R6 m c := by
  refine (dats m 0 c).arrAt_eq_of_covers 6 _ (by decide +kernel) fun t hf y => ?_
  have h1 : t.val % 24 = 23 := (flush0_6 t).mp hf
  blk_simp
  rw [after0_6]
  have hy : ((cfg0.win 6).blk t).view.emb y = ix2 (n0 := 1) (n1 := 1024) (y 0) (y 1) := by
    blk_ext [idx6 t]
  rw [hy]
  exact (congrArg _ (eq_ix2 (y : S1x1024.Idx))).trans (gain_last m c t h1 (y 0) (y 1))

theorem frame_kernel : Cert.quiescent_KernelProjBottom := fun m g _ => Cert.KernelProjBottom.Gen.frame m g

theorem frame_ideal : Cert.quiescent_KernelProjBottomIdeal := fun m g _ => Cert.KernelProjBottomIdeal.Gen.frame m g

theorem frame_reference : Cert.quiescent_ReferenceProjBottomIdeal := fun m g _ =>
  (θ_run Cert.ReferenceProjBottomIdeal.defs _ _).mono (fun r h => ⟨fun c => (h c).2.2, sem_eq_zero_of_no_sems (by decide) r.2⟩)
    (Cert.ReferenceProjBottomIdeal.Value.run (F := Ideal) m g)

theorem equal : Cert.algebraic_KernelProjBottomIdeal_ReferenceProjBottomIdeal := by
  intro m g m' g' hp ha
  refine ⟨fun c => R5 m c, fun c => R6 m c, ?_, ?_⟩
  · refine (θ_run Cert.KernelProjBottomIdeal.defs _ _).mono (fun r h c => ?_) (Cert.KernelProjBottomIdeal.Value.run_blocks m g)
    exact ⟨(h c).1.trans (final5 m c), (h c).2.1.trans (final6 m c), (h c).2.2⟩
  · refine (θ_run Cert.ReferenceProjBottomIdeal.defs _ _).mono (fun r h c => ?_) (Cert.ReferenceProjBottomIdeal.Value.run (F := Ideal) m' g')
    obtain ⟨r0, r1, rest⟩ := h c
    obtain ⟨e0, e1, e2, e3, e4, e5⟩ := ha c
    rw [Cert.ReferenceProjBottomIdeal.Read.val_main_v46_eq, e0, e1, e2, e3, e4, e5] at r0
    rw [e0, e2, e3] at r1
    exact ⟨r0, r1.trans (Cert.ReferenceProjBottomIdeal.Read.val_main_v47_eq _ _ _), rest⟩

end Cert.ProjBottom

end
-- ==== Proof.ProjTop.lean ====
module

public import proofs.«01_k».proof.Defs
public import proofs.«01_k».proof.Proof.Gen.KernelProjTop.Frame
public import proofs.«01_k».proof.Proof.Gen.KernelProjTopIdeal.Value
public import proofs.«01_k».proof.Proof.Gen.ReferenceProjTopIdeal.Read
public import proofs.«01_k».proof.Proof.NormGrad
public import Idealize.ShloMosaic.Lib.Pipeline.ValueKit
public import Idealize.ShloMosaic.Lib.Pointwise
public import Idealize.ShloMosaic.Lib.Claim

@[expose] public section

set_option maxRecDepth 16384

noncomputable section

/-! The gradient of the input projection's input, rows up to 1024: eight tiles of the product added up, the normalization backward, and the gain's gradient. -/

namespace Cert.ProjTop

open Cert.KernelProjTopIdeal Cert.KernelProjTopIdeal.Gen Idealize.ShloMosaic Idealize.ShloMosaic.TcCoe Idealize.SL.Sem Cert.NormGrad
open Idealize.ShloMosaic.Pipeline (Dat)

/-! ## The reference's stages at an index -/

section
open Cert.ReferenceProjTopIdeal.Read

variable (x0 : (⟨S4096x1024, .f32⟩ : BufTy).Contents (Elt Ideal)) (x1 : (⟨S1x1024, .f32⟩ : BufTy).Contents (Elt Ideal))
  (x2 : (⟨S1024x13312, .f32⟩ : BufTy).Contents (Elt Ideal)) (x3 : (⟨S4096x13312, .bf16⟩ : BufTy).Contents (Elt Ideal))
  (x4 : (⟨S4096x1024, .f32⟩ : BufTy).Contents (Elt Ideal))

/-- Row `l` of these rows of a matrix. -/
abbrev low (l : Fin 1024) : Fin 4096 := ⟨l.val, by omega⟩
/-- Row `l` of the input. -/
abbrev X (l : Fin 1024) : Row := fun d => x0 (ix2 (low l) d)
/-- Row `l` of the gradient of the normalized input. -/
abbrev Y (l : Fin 1024) : Row := fun d => val_main_v23 (F := Ideal) x2 x3 (ix2 l d)
/-- The same before the gain. -/
abbrev U (l : Fin 1024) : Row := fun d => val_main_v28 (F := Ideal) x1 x2 x3 (ix2 l d)

theorem x_at (l : Fin 1024) (d : Fin 1024) : val_main_v0 (F := Ideal) x0 (ix2 l d) = X x0 l d := by
  pointwise [val_main_v0]

theorem y_at (l : Fin 1024) (d : Fin 1024) : val_main_v23 (F := Ideal) x2 x3 (ix2 l d)
    = ∑ q : Fin 13312, x3 (ix2 (low l) q) * x2 (ix2 d q) := by
  pointwise [val_main_v23, val_main_v20, val_main_v19]

theorem u_at (l : Fin 1024) (d : Fin 1024) : val_main_v28 (F := Ideal) x1 x2 x3 (ix2 l d)
    = val_main_v23 (F := Ideal) x2 x3 (ix2 l d) * x1 (ix2 0 d) := by
  pointwise [val_main_v28, val_main_v27, val_main_v15, val_main_v1]

theorem msq_at (l : Fin 1024) (z : Fin 1) : val_main_v8 (F := Ideal) x0 (ix2 l z) = msq (X x0 l) := by
  pointwise [val_main_v8, val_main_v7, val_main_v6, val_main_v5, val_main_v4, val_main_v3, val_main_v2, val_main_cst, val_main_cst_0, val_main_cst_1]
  simp only [x_at]
  rfl

theorem rinv_at (l : Fin 1024) (z : Fin 1) : val_main_v9 (F := Ideal) x0 (ix2 l z) = rinv (X x0 l) := by
  pointwise [val_main_v9]
  rw [msq_at]
  rfl

theorem hat_at (l : Fin 1024) (d : Fin 1024) : val_main_v14 (F := Ideal) x0 (ix2 l d) = hat (X x0 l) d := by
  pointwise [val_main_v14, val_main_v13]
  rw [rinv_at, x_at]
  rfl

theorem factor_at (l : Fin 1024) (z : Fin 1) : val_main_v12 (F := Ideal) x0 (ix2 l z) = half * Ideal.div (rinv (X x0 l)) (msq (X x0 l)) := by
  pointwise [val_main_v12, val_main_v11, val_main_v10, val_main_cst_2]
  rw [rinv_at, msq_at]
  rfl

theorem slope_at (l : Fin 1024) (d : Fin 1024) : val_main_v39 (F := Ideal) x0 x1 x2 x3 (ix2 l d) = slope (X x0 l) (U x1 x2 x3 l) := by
  pointwise [val_main_v39, val_main_v38, val_main_v37, val_main_v36, val_main_v35, val_main_v32, val_main_v31, val_main_v30, val_main_cst_5, val_main_cst_6, val_main_cst_7]
  simp only [Fin.sum_univ_one, x_at]
  rw [factor_at]
  rfl

theorem back_at (l : Fin 1024) (d : Fin 1024) : val_main_v43 (F := Ideal) x0 x1 x2 x3 (ix2 l d) = unnorm (X x0 l) (U x1 x2 x3 l) d := by
  rw [both]
  pointwise [val_main_v43, val_main_v42, val_main_v41, val_main_v40, val_main_v34, val_main_v33]
  rw [slope_at, rinv_at, x_at]

theorem dx_at (l : Fin 1024) (d : Fin 1024) : val_main_v45 (F := Ideal) x0 x1 x2 x3 x4 (ix2 l d) = x4 (ix2 (low l) d) + unnorm (X x0 l) (U x1 x2 x3 l) d := by
  pointwise [val_main_v45, val_main_v44]
  rw [back_at]

theorem out_low (l d : Fin 1024) : val_main_v47 (F := Ideal) x0 x1 x2 x3 x4 (ix2 (low l) d)
    = x4 (ix2 (low l) d) + unnorm (X x0 l) (U x1 x2 x3 l) d := by
  refine Eq.trans ?_ (dx_at x0 x1 x2 x3 x4 l d)
  pointwise [val_main_v47]

theorem gain_at (z : Fin 1) (d : Fin 1024) : val_main_v48 (F := Ideal) x0 x2 x3 (ix2 z d) = ∑ l : Fin 1024, hat (X x0 l) d * Y x2 x3 l d := by
  pointwise [val_main_v48, val_main_v29, val_main_v26, val_main_v25, val_main_v24, val_main_cst_3, val_main_cst_4]
  simp only [Fin.sum_univ_one]
  exact Finset.sum_congr rfl fun l _ => by rw [hat_at]

end

/-! ## The kernel's payloads at an index -/

theorem pay1_at (x : Vec Ideal S1024x1664 .bf16) (y : Vec Ideal S1x1024x1664 .bf16) (i j : Fin 1024) :
    k0_pay1 x y (ix2 i j) = ∑ k : Fin 1664, x (ix2 i k) * y (ix3 0 j k) := by
  pointwise [k0_pay1]

theorem pay2_eq (x : Vec Ideal S1024x1664 .bf16) (y : Vec Ideal S1x1024x1664 .bf16) : k0_pay2 x y = k0_pay1 x y := by
  unfold k0_pay2
  exact shapeCast_self _ _

theorem pay3_at (x : Vec Ideal S1024x1664 .bf16) (y : Vec Ideal S1x1024x1664 .bf16) (s : Vec Ideal S1024x1024 .f32) (i j : Fin 1024) :
    k0_pay3 x y s (ix2 i j) = s (ix2 i j) + k0_pay1 x y (ix2 i j) := by
  unfold k0_pay3
  exact congrFun (shapeCast_self _ _) _

theorem pay6_at (x : Vec Ideal S1024x1024 .f32) (i : Fin 1024) (z : Fin 1) : k0_pay6 x (ix2 i z) = rinv (fun d => x (ix2 i d)) := by
  pointwise [k0_pay6]
  rfl

theorem pay7_at (x : Vec Ideal S1024x1024 .f32) (i : Fin 1024) (d : Fin 1024) : k0_pay7 x (ix2 i d) = hat (fun d => x (ix2 i d)) d := by
  pointwise [k0_pay7]
  rw [pay6_at]
  rfl

theorem pay8_at (p : FVec Ideal S1024x1024 .f32) (s x : Vec Ideal S1024x1024 .f32) (g : Vec Ideal S1x1024 .f32) (dy : Vec Ideal S1024x1024 .f32) (i j : Fin 1024) :
    k0_pay8 p s x g dy (ix2 i j) = dy (ix2 i j) + unnorm (fun d => x (ix2 i d)) (fun d => (s (ix2 i d) + p (ix2 i d)) * g (ix2 0 d)) j := by
  pointwise [k0_pay8, k0_pay5]
  simp only [pay6_at, pay7_at]
  rfl

theorem pay9_at (p : FVec Ideal S1024x1024 .f32) (s x : Vec Ideal S1024x1024 .f32) (z : Fin 1) (d : Fin 1024) :
    k0_pay9 p s x (ix2 z d) = ∑ i : Fin 1024, (s (ix2 i d) + p (ix2 i d)) * hat (fun d => x (ix2 i d)) d := by
  pointwise [k0_pay9, k0_pay5]
  exact Finset.sum_congr rfl fun i _ => by rw [pay7_at]

variable (m : (ℓ : Loc nD τ sig) → Buf (Elt Ideal) ℓ) (c : Dev nD)

abbrev a0 : (⟨S4096x1024, .f32⟩ : BufTy).Contents (Elt Ideal) := m ((c : Thread nD τ).loc main_arg0)
abbrev a1 : (⟨S1x1024, .f32⟩ : BufTy).Contents (Elt Ideal) := m ((c : Thread nD τ).loc main_arg1)
abbrev a2 : (⟨S1024x13312, .f32⟩ : BufTy).Contents (Elt Ideal) := m ((c : Thread nD τ).loc main_arg2)
abbrev a3 : (⟨S4096x13312, .bf16⟩ : BufTy).Contents (Elt Ideal) := m ((c : Thread nD τ).loc main_arg3)
abbrev a4 : (⟨S4096x1024, .f32⟩ : BufTy).Contents (Elt Ideal) := m ((c : Thread nD τ).loc main_arg4)

/-! ## The blocks at a point -/

theorem lt8 (t : Fin cfg0.N) : t.val < 8 := lt_of_lt_of_eq t.isLt N_0
theorem idx0 : ∀ t : Fin cfg0.N, win0_0.index t = ![0, t.val % 8] := (by decide +kernel : ∀ t : Fin grid0.N, _)
theorem idx1 : ∀ t : Fin cfg0.N, win0_1.index t = ![t.val % 8, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

/-- What the host hands the kernel: the weights, stacked by groups of columns. -/
theorem entry : V m c main_v2 = (transpose S8x1024x1664 [1, 0, 2] (shapeCast S1024x8x1664 (truncf .bf16 (a2 m c : FVec Ideal S1024x13312 .f32) bitsLt_bf16_f32 : FVec Ideal S1024x13312 .bf16)
    shapeCasts_S1024x13312_S1024x8x1664) transposes_S1024x8x1664_S8x1024x1664_1_0_2 : FVec Ideal S8x1024x1664 .bf16) := by
  unfold_abbrev_sides
  after_results
  rfl

theorem entry_at (s : Fin 8) (d : Fin 1024) (k : Fin 1664) : V m c main_v2 (ix3 s d k) = a2 m c (ix2 d ⟨s.val * 1664 + k.val, by omega⟩) := by
  rw [entry]
  pointwise

theorem blk0 (t : Fin cfg0.N) (i : Fin 1024) (k : Fin 1664) :
    iblk m c 0 t (ix2 i k) = a3 m c (ix2 (low i) ⟨t.val % 8 * 1664 + k.val, by omega⟩) := by
  blk_ext [iblk, V, idx0 t]
theorem blk1 (t : Fin cfg0.N) (u : Fin 1) (j : Fin 1024) (k : Fin 1664) :
    iblk m c 1 t (ix3 u j k) = a2 m c (ix2 j ⟨t.val % 8 * 1664 + k.val, by omega⟩) := by
  refine Eq.trans ?_ (entry_at m c ⟨t.val % 8, by omega⟩ j k)
  blk_ext [iblk, idx1 t]
theorem blk2 (t : Fin cfg0.N) (i : Fin 1024) (d : Fin 1024) : iblk m c 2 t (ix2 i d) = a0 m c (ix2 (low i) d) := by
  blk_ext [iblk, V, idx2 t]
theorem blk3 (t : Fin cfg0.N) (i : Fin 1024) (d : Fin 1024) : iblk m c 3 t (ix2 i d) = a4 m c (ix2 (low i) d) := by
  blk_ext [iblk, V, idx3 t]
theorem blk4 (t : Fin cfg0.N) (z : Fin 1) (d : Fin 1024) : iblk m c 4 t (ix2 z d) = a1 m c (ix2 z d) := by
  blk_ext [iblk, V, idx4 t]

/-- What tile `b` of the columns adds to the product at a row. -/
def tile (l : Fin 1024) (d : Fin 1024) (b : ℕ) : EReal :=
  ∑ k : Fin 1664, a3 m c (ix2 (low l) ⟨(b * 1664 + k.val) % 13312, by omega⟩) * a2 m c (ix2 d ⟨(b * 1664 + k.val) % 13312, by omega⟩)

theorem part_at (t : Fin cfg0.N) (i d : Fin 1024) : k0_pay1 (iblk m c 0 t) (iblk m c 1 t) (ix2 i d) = tile m c i d (t.val % 8) := by
  rw [pay1_at]
  unfold tile
  refine Finset.sum_congr rfl fun k _ => ?_
  rw [blk0, blk1]
  have e : (t.val % 8 * 1664 + k.val) % 13312 = t.val % 8 * 1664 + k.val := by omega
  simp only [e]

/-! ## What a point leaves -/

theorem scratch_read (b : scM0_0.IsWhole) (z : Vec Ideal S1024x1024 .f32) :
    View.read (Elt Ideal) (View.whole cc0_scratch0) (b.unread z) = z := b.read_unread z

abbrev prev (t : Fin cfg0.N) := outsAt0 m c (t.val - 1) (Nat.lt_of_le_of_lt (Nat.sub_le _ _) t.isLt)

theorem first (t : Fin cfg0.N) (h : t.val % 8 = 0) : (outsAt0 m c t.val t.isLt).2.2 = k0_pay1 (iblk m c 0 t) (iblk m c 1 t) := by
  rw [outsAt0_A m c t (by omega) (by omega) (by omega)]
  frame_out
  exact pay2_eq _ _
theorem next (t : Fin cfg0.N) (h : 1 ≤ t.val % 8 ∧ t.val % 8 ≤ 6) : (outsAt0 m c t.val t.isLt).2.2
    = k0_pay3 (iblk m c 0 t) (iblk m c 1 t) (prev m c t).2.2 := by
  rw [outsAt0_B m c t (by omega) (by omega) (by omega)]
  frame_out
  rw [scratch_read]
theorem last5 (t : Fin cfg0.N) (h : t.val % 8 = 7) : (outsAt0 m c t.val t.isLt).1
    = k0_pay8 (k0_pay1 (iblk m c 0 t) (iblk m c 1 t)) (prev m c t).2.2 (iblk m c 2 t) (iblk m c 4 t) (iblk m c 3 t) := by
  rw [outsAt0_C m c t (by omega) (by omega) (by omega)]
  frame_out
  rw [scratch_read]
theorem last6 (t : Fin cfg0.N) (h : t.val % 8 = 7) : (outsAt0 m c t.val t.isLt).2.1
    = k0_pay9 (k0_pay1 (iblk m c 0 t) (iblk m c 1 t)) (prev m c t).2.2 (iblk m c 2 t) := by
  rw [outsAt0_C m c t (by omega) (by omega) (by omega)]
  frame_out
  rw [scratch_read]

/-- After tile `k` the carried block holds the tiles up to it. -/
theorem tiles_run (i d : Fin 1024) (k : ℕ) (hk : k ≤ 6) : ∀ t : Fin cfg0.N, t.val % 8 = k →
    (outsAt0 m c t.val t.isLt).2.2 (ix2 i d) = ∑ b ∈ Finset.range (k + 1), tile m c i d b := by
  induction k with
  | zero =>
    intro t ht
    rw [first m c t ht, part_at, Finset.sum_range_one, ht]
  | succ k ih =>
    intro t ht
    rw [next m c t (by omega), pay3_at, part_at, Finset.sum_range_succ, ht]
    have e := ih (by omega) ⟨t.val - 1, Nat.lt_of_le_of_lt (Nat.sub_le _ _) t.isLt⟩ (by dsimp only; omega)
    exact congrArg (· + _) e

/-- The eight tiles add up to the gradient of the normalized input. -/
theorem sum_at (t : Fin cfg0.N) (h : t.val % 8 = 7) (i : Fin 1024) (d : Fin 1024) :
    (prev m c t).2.2 (ix2 i d) + k0_pay1 (iblk m c 0 t) (iblk m c 1 t) (ix2 i d) = Y (a2 m c) (a3 m c) i d := by
  have e := tiles_run m c i d 6 le_rfl ⟨t.val - 1, Nat.lt_of_le_of_lt (Nat.sub_le _ _) t.isLt⟩ (by dsimp only; omega)
  refine Eq.trans ?_ (y_at _ _ i d).symm
  refine Eq.trans ?_ (Fin.sum_mul_add_fin (L := 13312) 8 1664 _)
  rw [part_at, h]
  refine (congrArg (· + _) e).trans ?_
  rw [← Finset.sum_range_succ, Finset.sum_range]
  refine Finset.sum_congr rfl fun b _ => Finset.sum_congr rfl fun k _ => ?_
  have e2 : (b.val * 1664 + k.val) % 13312 = b.val * 1664 + k.val := by have : b.val < 8 := b.isLt; omega
  simp only [e2]

theorem dx_block (t : Fin cfg0.N) (h : t.val % 8 = 7) (i : Fin 1024) (d : Fin 1024) :
    k0_pay8 (k0_pay1 (iblk m c 0 t) (iblk m c 1 t)) (prev m c t).2.2 (iblk m c 2 t) (iblk m c 4 t) (iblk m c 3 t) (ix2 i d)
      = a4 m c (ix2 (low i) d) + unnorm (X (a0 m c) i) (U (a1 m c) (a2 m c) (a3 m c) i) d := by
  rw [pay8_at, blk3]
  simp only [sum_at m c t h, blk2, blk4]
  have e : U (a1 m c) (a2 m c) (a3 m c) i = fun d => Y (a2 m c) (a3 m c) i d * a1 m c (ix2 0 d) :=
    funext fun d => u_at _ _ _ _ d
  rw [e]

/-! ## The arrays -/

abbrev R5 : (⟨S4096x1024, .f32⟩ : BufTy).Contents (Elt Ideal) :=
  Cert.ReferenceProjTopIdeal.Read.val_main_v47 (F := Ideal) (a0 m c) (a1 m c) (a2 m c) (a3 m c) (a4 m c)
abbrev R6 : (⟨S1x1024, .f32⟩ : BufTy).Contents (Elt Ideal) :=
  Cert.ReferenceProjTopIdeal.Read.val_main_v48 (F := Ideal) (a0 m c) (a2 m c) (a3 m c)

theorem final5 (i : S4096x1024.Idx) (hi : (i 0).val < 1024) : (dats m 0 c).arrAt 5 cfg0.N i = R5 m c i := by
  refine ((dats m 0 c).arrAt_apply_of_coversWhere 5 (R5 m c) (P := fun i : S4096x1024.Idx => (i 0).val / 1024 < 1)
    (fun β => β (0 : Fin 2) < 1) (by decide +kernel) (fun t hf y => ?_) (fun j => Iff.rfl) i).trans (if_pos (by omega))
  have h1 : t.val % 8 = 7 := (flush0_5 t).mp hf
  blk_simp
  rw [after0_5]
  have hy : ((cfg0.win 5).blk t).view.emb y = ix2 (n0 := 4096) (n1 := 1024) ⟨(y 0).val, by have : (y 0).val < 1024 := (y 0).isLt; omega⟩ (y 1) := by
    blk_ext [idx5 t]
  rw [hy, last5 m c t h1]
  exact (congrArg _ (eq_ix2 (y : S1024x1024.Idx))).trans ((dx_block m c t h1 (y 0) (y 1)).trans (out_low _ _ _ _ _ (y 0) (y 1)).symm)

theorem gain_last (t : Fin cfg0.N) (h : t.val % 8 = 7) (z : Fin 1) (d : Fin 1024) :
    (outsAt0 m c t.val t.isLt).2.1 (ix2 z d) = R6 m c (ix2 z d) := by
  rw [last6 m c t h, pay9_at]
  simp only [sum_at m c t h, blk2]
  refine Eq.trans ?_ (gain_at _ _ _ z d).symm
  exact Finset.sum_congr rfl fun i _ => mul_comm _ _

theorem final6 : (dats m 0 c).arrAt 6 cfg0.N = R6 m c := by
  refine (dats m 0 c).arrAt_eq_of_covers 6 _ (by decide +kernel) fun t hf y => ?_
  have h1 : t.val % 8 = 7 := (flush0_6 t).mp hf
  blk_simp
  rw [after0_6]
  have hy : ((cfg0.win 6).blk t).view.emb y = ix2 (n0 := 1) (n1 := 1024) (y 0) (y 1) := by
    blk_ext [idx6 t]
  rw [hy]
  exact (congrArg _ (eq_ix2 (y : S1x1024.Idx))).trans (gain_last m c t h1 (y 0) (y 1))

/-! ## The rows the claim speaks of -/

instance onFacts : Cert.On_top_rows.Facts where
  bcast_S_S4096x1024 := by decide
  bcast_S_S1x1024 := by decide

theorem word_lt : ∀ a : Fin 4096, IntOp.cmpi .slt (BitVec.ofNat 32 a.val) 1024#32 = 1#1 → a.val < 1024 := by decide +kernel

theorem row_lt (x0 : FVec Ideal S4096x1024 .f32) (x1 : FVec Ideal S1x1024 .f32) (x2 : FVec Ideal S1024x13312 .f32) (x3 : FVec Ideal S4096x13312 .bf16)
    (x4 : FVec Ideal S4096x1024 .f32) (i : S4096x1024.Idx) (h : (Cert.On_top_rows.fn (F := Ideal) x0 x1 x2 x3 x4).1 i = 1#1) : (i 0).val < 1024 :=
  word_lt (i 0) h

theorem frame_kernel : Cert.quiescent_KernelProjTop := fun m g _ => Cert.KernelProjTop.Gen.frame m g

theorem frame_ideal : Cert.quiescent_KernelProjTopIdeal := fun m g _ => Cert.KernelProjTopIdeal.Gen.frame m g

theorem frame_reference : Cert.quiescent_ReferenceProjTopIdeal := fun m g _ =>
  (θ_run Cert.ReferenceProjTopIdeal.defs _ _).mono (fun r h => ⟨fun c => (h c).2.2, sem_eq_zero_of_no_sems (by decide) r.2⟩)
    (Cert.ReferenceProjTopIdeal.Value.run (F := Ideal) m g)

theorem equal : Cert.algebraic_KernelProjTopIdeal_ReferenceProjTopIdeal_on_top_rows := by
  intro m g m' g' hp ha
  refine ⟨fun c => R5 m c, fun c => R6 m c, ?_, ?_⟩
  · refine (θ_run Cert.KernelProjTopIdeal.defs _ _).mono (fun r h c => ?_) (Cert.KernelProjTopIdeal.Value.run_blocks m g)
    obtain ⟨r5, r6, rest⟩ := h c
    exact ⟨fun i hi => (congrFun r5 i).trans (final5 m c i (row_lt _ _ _ _ _ i hi)), fun i _ => congrFun (r6.trans (final6 m c)) i, rest⟩
  · refine (θ_run Cert.ReferenceProjTopIdeal.defs _ _).mono (fun r h c => ?_) (Cert.ReferenceProjTopIdeal.Value.run (F := Ideal) m' g')
    obtain ⟨r0, r1, rest⟩ := h c
    obtain ⟨e0, e1, e2, e3, e4⟩ := ha c
    rw [Cert.ReferenceProjTopIdeal.Read.val_main_v47_eq, e0, e1, e2, e3, e4] at r0
    rw [e0, e2, e3] at r1
    exact ⟨fun i _ => congrFun r0 i, fun i _ => congrFun (r1.trans (Cert.ReferenceProjTopIdeal.Read.val_main_v48_eq _ _ _)) i, rest⟩

end Cert.ProjTop

end
-- ==== Proof.Proj.lean ====
module

public import proofs.«01_k».proof.Defs
public import proofs.«01_k».proof.Proof.Gen.KernelProj.Frame
public import proofs.«01_k».proof.Proof.Gen.KernelProjIdeal.Value
public import proofs.«01_k».proof.Proof.Gen.ReferenceProjIdeal.Read
public import Idealize.ShloMosaic.Lib.Pipeline.ValueKit
public import Idealize.ShloMosaic.Lib.Pointwise
public import Idealize.ShloMosaic.Lib.Claim

@[expose] public section

set_option maxRecDepth 16384

noncomputable section

/-! The input projection: each tile of the result is one product. -/

namespace Cert.Proj

open Cert.KernelProjIdeal Cert.KernelProjIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S4096x1024, .f32⟩ : BufTy).Contents (Elt Ideal) := m ((c : Thread nD τ).loc main_arg0)
abbrev a1 : (⟨S1x1024, .f32⟩ : BufTy).Contents (Elt Ideal) := m ((c : Thread nD τ).loc main_arg1)
abbrev a2 : (⟨S1024x13312, .f32⟩ : BufTy).Contents (Elt Ideal) := m ((c : Thread nD τ).loc main_arg2)
/-- The normalized rows. -/
abbrev act := Cert.ReferenceProjIdeal.Read.val_main_v13 (F := Ideal) (a0 m c) (a1 m c)

theorem entry_h : V m c main_v14 = (truncf .bf16 (act m c : FVec Ideal S4096x1024 .f32) bitsLt_bf16_f32 : FVec Ideal S4096x1024 .bf16) := by
  unfold_abbrev_sides
  after_results
  rfl
theorem entry_w : V m c main_v17 = (transpose S8x1024x1664 [1, 0, 2] (shapeCast S1024x8x1664 (truncf .bf16 (a2 m c : FVec Ideal S1024x13312 .f32) bitsLt_bf16_f32 : FVec Ideal S1024x13312 .bf16)
    shapeCasts_S1024x13312_S1024x8x1664) transposes_S1024x8x1664_S8x1024x1664_1_0_2 : FVec Ideal S8x1024x1664 .bf16) := by
  unfold_abbrev_sides
  after_results
  rfl

theorem h_at (l : Fin 4096) (d : Fin 1024) : V m c main_v14 (ix2 l d) = act m c (ix2 l d) := by
  rw [entry_h]
  pointwise
theorem w_at (s : Fin 8) (d : Fin 1024) (k : Fin 1664) : V m c main_v17 (ix3 s d k) = a2 m c (ix2 d ⟨s.val * 1664 + k.val, by omega⟩) := by
  rw [entry_w]
  pointwise

theorem lt16 (t : Fin cfg0.N) : t.val < 16 := lt_of_lt_of_eq t.isLt N_0
theorem idx0 : ∀ t : Fin cfg0.N, win0_0.index t = ![t.val % 2, 0] := (by decide +kernel : ∀ t : Fin grid0.N, _)
theorem idx1 : ∀ t : Fin cfg0.N, win0_1.index t = ![t.val / 2, 0, 0] := (by decide +kernel : ∀ t : Fin grid0.N, _)
theorem idx2 : ∀ t : Fin cfg0.N, win0_2.index t = ![t.val % 2, t.val / 2] := (by decide +kernel : ∀ t : Fin grid0.N, _)

abbrev row (t : Fin cfg0.N) (i : Fin 2048) : Fin 4096 := ⟨t.val % 2 * 2048 + i.val, by omega⟩
abbrev col (t : Fin cfg0.N) (j : Fin 1664) : Fin 13312 := ⟨t.val / 2 * 1664 + j.val, by have := lt16 t; omega⟩

theorem blk0 (t : Fin cfg0.N) (i : Fin 2048) (d : Fin 1024) : iblk m c 0 t (ix2 i d) = act m c (ix2 (row t i) d) := by
  refine Eq.trans ?_ (h_at m c _ _)
  blk_ext [iblk, idx0 t]
theorem blk1 (t : Fin cfg0.N) (u : Fin 1) (d : Fin 1024) (j : Fin 1664) : iblk m c 1 t (ix3 u d j) = a2 m c (ix2 d (col t j)) := by
  refine Eq.trans ?_ (w_at m c ⟨t.val / 2, by have := lt16 t; omega⟩ d j)
  blk_ext [iblk, idx1 t]

theorem pay1_at (x : Vec Ideal S2048x1024 .bf16) (y : Vec Ideal S1x1024x1664 .bf16) (i : Fin 2048) (j : Fin 1664) :
    k0_pay1 x y (ix2 i j) = ∑ d : Fin 1024, x (ix2 i d) * y (ix3 0 d j) := by
  pointwise [k0_pay1]

theorem ref_at (x0 : (⟨S4096x1024, .f32⟩ : BufTy).Contents (Elt Ideal)) (x1 : (⟨S1x1024, .f32⟩ : BufTy).Contents (Elt Ideal))
    (x2 : (⟨S1024x13312, .f32⟩ : BufTy).Contents (Elt Ideal)) (l : Fin 4096) (q : Fin 13312) :
    Cert.ReferenceProjIdeal.Read.val_main_v14 (F := Ideal) x0 x1 x2 (ix2 l q)
      = ∑ d : Fin 1024, Cert.ReferenceProjIdeal.Read.val_main_v13 (F := Ideal) x0 x1 (ix2 l d) * x2 (ix2 d q) := by
  pointwise [Cert.ReferenceProjIdeal.Read.val_main_v14]

abbrev R : (⟨S4096x13312, .f32⟩ : BufTy).Contents (Elt Ideal) := Cert.ReferenceProjIdeal.Read.val_main_v14 (F := Ideal) (a0 m c) (a1 m c) (a2 m c)

theorem out_at (t : Fin cfg0.N) (i : Fin 2048) (j : Fin 1664) :
    out0_2 (iblk m c 0 t) (iblk m c 1 t) (ix2 i j) = R m c (ix2 (row t i) (col t j)) := by
  have e : out0_2 (iblk m c 0 t) (iblk m c 1 t) = k0_pay1 (iblk m c 0 t) (iblk m c 1 t) := by
    frame_out
  rw [e, pay1_at]
  refine Eq.trans ?_ (ref_at _ _ _ _ _).symm
  exact Finset.sum_congr rfl fun d _ => by rw [blk0, blk1]

theorem final2 : (dats m 0 c).arrAt 2 cfg0.N = R m c := by
  refine (dats m 0 c).arrAt_eq_of_covers 2 _ (by decide +kernel) fun t hf y => ?_
  blk_simp
  rw [after0_2]
  have hy : ((cfg0.win 2).blk t).view.emb y = ix2 (n0 := 4096) (n1 := 13312) (row t (y 0)) (col t (y 1)) := by
    blk_ext [idx2 t]
  rw [hy]
  exact (congrArg _ (eq_ix2 (y : S2048x1664.Idx))).trans (out_at m c t (y 0) (y 1))

theorem frame_kernel : Cert.quiescent_KernelProj := fun m g _ => Cert.KernelProj.Gen.frame m g

theorem frame_ideal : Cert.quiescent_KernelProjIdeal := fun m g _ => Cert.KernelProjIdeal.Gen.frame m g

theorem frame_reference : Cert.quiescent_ReferenceProjIdeal := fun m g _ =>
  (θ_run Cert.ReferenceProjIdeal.defs _ _).mono (fun r h => ⟨fun c => (h c).2, sem_eq_zero_of_no_sems (by decide) r.2⟩)
    (Cert.ReferenceProjIdeal.Value.run (F := Ideal) m g)

theorem equal : Cert.algebraic_KernelProjIdeal_ReferenceProjIdeal := by
  intro m g m' g' hp ha
  refine ⟨fun c => R m c, ?_, ?_⟩
  · refine (θ_run Cert.KernelProjIdeal.defs _ _).mono (fun r h c => ?_) (Cert.KernelProjIdeal.Value.run_blocks m g)
    exact ⟨(h c).1.trans (final2 m c), (h c).2⟩
  · refine (θ_run Cert.ReferenceProjIdeal.defs _ _).mono (fun r h c => ?_) (Cert.ReferenceProjIdeal.Value.run (F := Ideal) m' g')
    obtain ⟨r0, rest⟩ := h c
    obtain ⟨e0, e1, e2⟩ := ha c
    rw [Cert.ReferenceProjIdeal.Read.val_main_v14_eq, e0, e1, e2] at r0
    exact ⟨r0, rest⟩

end Cert.Proj

end
-- ==== Proof.FfnInAct.lean ====
module

public import proofs.«01_k».proof.Defs
public import proofs.«01_k».proof.Proof.Gen.KernelFfnInAct.Frame
public import proofs.«01_k».proof.Proof.Gen.KernelFfnInActIdeal.Value
public import proofs.«01_k».proof.Proof.Gen.ReferenceFfnInActIdeal.Read
public import proofs.«01_k».proof.Proof.NormGrad
public import Idealize.ShloMosaic.Lib.Pipeline.ValueKit
public import Idealize.ShloMosaic.Lib.Pointwise
public import Idealize.ShloMosaic.Lib.Claim

@[expose] public section

set_option maxRecDepth 16384

noncomputable section

/-! The gradient of the feed-forward block's input: the product's gradient back through the normalization, and the gain's gradient. -/

namespace Cert.FfnInAct

open Cert.KernelFfnInActIdeal Cert.KernelFfnInActIdeal.Gen Idealize.ShloMosaic Idealize.ShloMosaic.TcCoe Idealize.SL.Sem Cert.NormGrad
open Idealize.ShloMosaic.Pipeline (Dat)

/-! ## The reference's stages at an index -/

section
open Cert.ReferenceFfnInActIdeal.Read

variable (x0 : (⟨S4096x1024, .f32⟩ : BufTy).Contents (Elt Ideal)) (x1 : (⟨S1x1024, .f32⟩ : BufTy).Contents (Elt Ideal))
  (x2 : (⟨S1024x5632, .f32⟩ : BufTy).Contents (Elt Ideal)) (x3 : (⟨S2x4096x2816, .bf16⟩ : BufTy).Contents (Elt Ideal))
  (x4 : (⟨S4096x1024, .f32⟩ : BufTy).Contents (Elt Ideal))

/-- Row `l` of the block's input. -/
abbrev X (l : Fin 4096) : Row := fun d => x0 (ix2 l d)
/-- Row `l` of the gradient of the normalized input. -/
abbrev Y (l : Fin 4096) : Row := fun d => val_main_v29 (F := Ideal) x2 x3 (ix2 l d)
/-- The same before the gain. -/
abbrev U (l : Fin 4096) : Row := fun d => val_main_v34 (F := Ideal) x1 x2 x3 (ix2 l d)

/-- The two halves of the gradient of the product, side by side. -/
theorem cat_at (l : Fin 4096) (q : Fin 5632) :
    val_main_v26 (F := Ideal) x3 (ix2 l q) = x3 (ix3 ⟨q.val / 2816, by omega⟩ l ⟨q.val % 2816, by omega⟩) := by
  pointwise [val_main_v26, val_main_v2, val_main_v1, val_main_v0, val_main_v5, val_main_v4, val_main_v3]
  have hq := q.isLt
  split
  · have e1 : q.val / 2816 = 0 := by omega
    have e2 : q.val % 2816 = q.val := by omega
    simp only [e1, e2]
    rfl
  · have e1 : q.val / 2816 = 1 := by omega
    have e2 : q.val % 2816 = q.val - 2816 := by omega
    simp only [e1, e2]
    rfl

theorem y_at (l : Fin 4096) (d : Fin 1024) : val_main_v29 (F := Ideal) x2 x3 (ix2 l d)
    = ∑ q : Fin 5632, x3 (ix3 ⟨q.val / 2816, by omega⟩ l ⟨q.val % 2816, by omega⟩) * x2 (ix2 d q) := by
  pointwise [val_main_v29]
  exact Finset.sum_congr rfl fun q _ => by rw [cat_at]

theorem u_at (l : Fin 4096) (d : Fin 1024) : val_main_v34 (F := Ideal) x1 x2 x3 (ix2 l d)
    = val_main_v29 (F := Ideal) x2 x3 (ix2 l d) * x1 (ix2 0 d) := by
  pointwise [val_main_v34, val_main_v33, val_main_v20, val_main_v6]

theorem msq_at (l : Fin 4096) (z : Fin 1) : val_main_v13 (F := Ideal) x0 (ix2 l z) = msq (X x0 l) := by
  pointwise [val_main_v13, val_main_v12, val_main_v11, val_main_v10, val_main_v9, val_main_v8, val_main_v7, val_main_cst, val_main_cst_0, val_main_cst_1]
  rfl

theorem rinv_at (l : Fin 4096) (z : Fin 1) : val_main_v14 (F := Ideal) x0 (ix2 l z) = rinv (X x0 l) := by
  pointwise [val_main_v14]
  rw [msq_at]
  rfl

theorem hat_at (l : Fin 4096) (d : Fin 1024) : val_main_v19 (F := Ideal) x0 (ix2 l d) = hat (X x0 l) d := by
  pointwise [val_main_v19, val_main_v18]
  rw [rinv_at]
  rfl

theorem factor_at (l : Fin 4096) (z : Fin 1) : val_main_v17 (F := Ideal) x0 (ix2 l z) = half * Ideal.div (rinv (X x0 l)) (msq (X x0 l)) := by
  pointwise [val_main_v17, val_main_v16, val_main_v15, val_main_cst_2]
  rw [rinv_at, msq_at]
  rfl

theorem slope_at (l : Fin 4096) (d : Fin 1024) : val_main_v45 (F := Ideal) x0 x1 x2 x3 (ix2 l d) = slope (X x0 l) (U x1 x2 x3 l) := by
  pointwise [val_main_v45, val_main_v44, val_main_v43, val_main_v42, val_main_v41, val_main_v38, val_main_v37, val_main_v36, val_main_cst_5, val_main_cst_6, val_main_cst_7]
  simp only [Fin.sum_univ_one]
  rw [factor_at]
  rfl

theorem back_at (l : Fin 4096) (d : Fin 1024) : val_main_v49 (F := Ideal) x0 x1 x2 x3 (ix2 l d) = unnorm (X x0 l) (U x1 x2 x3 l) d := by
  rw [both]
  pointwise [val_main_v49, val_main_v48, val_main_v47, val_main_v46, val_main_v40, val_main_v39]
  rw [slope_at, rinv_at]

theorem dx_at (l : Fin 4096) (d : Fin 1024) : val_main_v50 (F := Ideal) x0 x1 x2 x3 x4 (ix2 l d) = x4 (ix2 l d) + unnorm (X x0 l) (U x1 x2 x3 l) d := by
  pointwise [val_main_v50]
  rw [back_at]

theorem dx_half_at (l : Fin 4096) (d : Fin 1024) : val_main_v52 (F := Ideal) x0 x1 x2 x3 x4 (ix2 l d) = x4 (ix2 l d) + unnorm (X x0 l) (U x1 x2 x3 l) d := by
  pointwise [val_main_v52, val_main_v51]
  rw [back_at]

theorem gain_at (z : Fin 1) (d : Fin 1024) : val_main_v53 (F := Ideal) x0 x2 x3 (ix2 z d) = ∑ l : Fin 4096, hat (X x0 l) d * Y x2 x3 l d := by
  pointwise [val_main_v53, val_main_v35, val_main_v32, val_main_v31, val_main_v30, val_main_cst_3, val_main_cst_4]
  simp only [Fin.sum_univ_one]
  exact Finset.sum_congr rfl fun l _ => by rw [hat_at]

end

/-! ## The kernel's payloads at an index -/

theorem pay1_at (x : Vec Ideal S1x512x2816 .bf16) (y : Vec Ideal S1024x2816 .bf16) (i : Fin 512) (j : Fin 1024) :
    k0_pay1 x y (ix2 i j) = ∑ k : Fin 2816, x (ix3 0 i k) * y (ix2 j k) := by
  pointwise [k0_pay1]

theorem pay2_eq (x : Vec Ideal S1x512x2816 .bf16) (y : Vec Ideal S1024x2816 .bf16) : k0_pay2 x y = k0_pay1 x y := by
  unfold k0_pay2
  exact shapeCast_self _ _

theorem pay6_at (x : Vec Ideal S512x1024 .f32) (i : Fin 512) (z : Fin 1) : k0_pay6 x (ix2 i z) = rinv (fun d => x (ix2 i d)) := by
  pointwise [k0_pay6]
  rfl

theorem pay7_at (x : Vec Ideal S512x1024 .f32) (i : Fin 512) (d : Fin 1024) : k0_pay7 x (ix2 i d) = hat (fun d => x (ix2 i d)) d := by
  pointwise [k0_pay7]
  rw [pay6_at]
  rfl

theorem pay8_at (p : FVec Ideal S512x1024 .f32) (s x : Vec Ideal S512x1024 .f32) (g : Vec Ideal S1x1024 .f32) (dy : Vec Ideal S512x1024 .f32) (i : Fin 512) (j : Fin 1024) :
    k0_pay8 p s x g dy (ix2 i j) = dy (ix2 i j) + unnorm (fun d => x (ix2 i d)) (fun d => (s (ix2 i d) + p (ix2 i d)) * g (ix2 0 d)) j := by
  pointwise [k0_pay8, k0_pay5]
  simp only [pay6_at, pay7_at]
  rfl

theorem pay9_at (p : FVec Ideal S512x1024 .f32) (s x : Vec Ideal S512x1024 .f32) (g : Vec Ideal S1x1024 .f32) (dy : Vec Ideal S512x1024 .f32) (i : Fin 512) (j : Fin 1024) :
    k0_pay9 p s x g dy (ix2 i j) = k0_pay8 p s x g dy (ix2 i j) := by
  pointwise [k0_pay9]

theorem pay10_at (p : FVec Ideal S512x1024 .f32) (s x : Vec Ideal S512x1024 .f32) (z : Fin 1) (d : Fin 1024) :
    k0_pay10 p s x (ix2 z d) = ∑ i : Fin 512, (s (ix2 i d) + p (ix2 i d)) * hat (fun d => x (ix2 i d)) d := by
  pointwise [k0_pay10, k0_pay5]
  exact Finset.sum_congr rfl fun i _ => by rw [pay7_at]

theorem pay4_at (v w : FVec Ideal S1x1024 .f32) (z : Fin 1) (d : Fin 1024) : k0_pay4 v w (ix2 z d) = w (ix2 z d) + v (ix2 z d) := by
  pointwise [k0_pay4]

variable (m : (ℓ : Loc nD τ sig) → Buf (Elt Ideal) ℓ) (c : Dev nD)

abbrev a0 : (⟨S4096x1024, .f32⟩ : BufTy).Contents (Elt Ideal) := m ((c : Thread nD τ).loc main_arg0)
abbrev a1 : (⟨S1x1024, .f32⟩ : BufTy).Contents (Elt Ideal) := m ((c : Thread nD τ).loc main_arg1)
abbrev a2 : (⟨S1024x5632, .f32⟩ : BufTy).Contents (Elt Ideal) := m ((c : Thread nD τ).loc main_arg2)
abbrev a3 : (⟨S2x4096x2816, .bf16⟩ : BufTy).Contents (Elt Ideal) := m ((c : Thread nD τ).loc main_arg3)
abbrev a4 : (⟨S4096x1024, .f32⟩ : BufTy).Contents (Elt Ideal) := m ((c : Thread nD τ).loc main_arg4)

/-! ## The blocks at a point -/

theorem lt16 (t : Fin cfg0.N) : t.val < 16 := lt_of_lt_of_eq t.isLt N_0
theorem idx0 : ∀ t : Fin cfg0.N, win0_0.index t = ![t.val % 2, t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, 0] := (by decide +kernel : ∀ t : Fin grid0.N, _)
theorem idx3 : ∀ t : Fin cfg0.N, win0_3.index t = ![t.val / 2, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 2, 0] := (by decide +kernel : ∀ t : Fin grid0.N, _)
theorem idx6 : ∀ t : Fin cfg0.N, win0_6.index t = ![t.val / 2, 0] := (by decide +kernel : ∀ t : Fin grid0.N, _)

/-- The row of the whole array that row `i` of a point's block is. -/
abbrev rw0 (t : Fin cfg0.N) (i : Fin 512) : Fin 4096 := ⟨t.val / 2 * 512 + i.val, by have := lt16 t; omega⟩

theorem entry : V m c main_v0 = (truncf .bf16 (a2 m c : FVec Ideal S1024x5632 .f32) bitsLt_bf16_f32 : FVec Ideal S1024x5632 .bf16) := by
  unfold_abbrev_sides
  after_results

theorem entry_at (d : Fin 1024) (q : Fin 5632) : V m c main_v0 (ix2 d q) = a2 m c (ix2 d q) := by
  rw [entry]
  pointwise

theorem blk0 (t : Fin cfg0.N) (u : Fin 1) (i : Fin 512) (k : Fin 2816) :
    iblk m c 0 t (ix3 u i k) = a3 m c (ix3 ⟨t.val % 2, by omega⟩ (rw0 t i) k) := by
  blk_ext [iblk, V, idx0 t]
theorem blk1 (t : Fin cfg0.N) (j : Fin 1024) (k : Fin 2816) :
    iblk m c 1 t (ix2 j k) = a2 m c (ix2 j ⟨t.val % 2 * 2816 + k.val, by omega⟩) := by
  refine Eq.trans ?_ (entry_at m c _ _)
  blk_ext [iblk, idx1 t]
theorem blk2 (t : Fin cfg0.N) (i : Fin 512) (d : Fin 1024) : iblk m c 2 t (ix2 i d) = a0 m c (ix2 (rw0 t i) d) := by
  blk_ext [iblk, V, idx2 t]
theorem blk3 (t : Fin cfg0.N) (i : Fin 512) (d : Fin 1024) : iblk m c 3 t (ix2 i d) = a4 m c (ix2 (rw0 t i) d) := by
  blk_ext [iblk, V, idx3 t]
theorem blk4 (t : Fin cfg0.N) (z : Fin 1) (d : Fin 1024) : iblk m c 4 t (ix2 z d) = a1 m c (ix2 z d) := by
  blk_ext [iblk, V, idx4 t]

theorem part_at (t : Fin cfg0.N) (i : Fin 512) (d : Fin 1024) : k0_pay1 (iblk m c 0 t) (iblk m c 1 t) (ix2 i d)
    = ∑ k : Fin 2816, a3 m c (ix3 ⟨t.val % 2, by omega⟩ (rw0 t i) k) * a2 m c (ix2 d ⟨t.val % 2 * 2816 + k.val, by omega⟩) := by
  rw [pay1_at]
  exact Finset.sum_congr rfl fun k _ => by rw [blk0, blk1]

/-! ## What a point leaves -/

theorem scratch_read (b : scM0_0.IsWhole) (z : Vec Ideal S512x1024 .f32) :
    View.read (Elt Ideal) (View.whole cc0_scratch0) (b.unread z) = z := b.read_unread z

abbrev prev (t : Fin cfg0.N) := outsAt0 m c (t.val - 1) (Nat.lt_of_le_of_lt (Nat.sub_le _ _) t.isLt)

theorem first (t : Fin cfg0.N) (h : t.val % 2 = 0) : (outsAt0 m c t.val t.isLt).2.2.2 = k0_pay1 (iblk m c 0 t) (iblk m c 1 t) := by
  rw [outsAt0_A m c t (by omega) (by omega)]
  frame_out
  exact pay2_eq _ _
theorem kept (t : Fin cfg0.N) (h : t.val % 2 = 0) : (outsAt0 m c t.val t.isLt).2.2.1 = (prev m c t).2.2.1 := by
  rw [outsAt0_A m c t (by omega) (by omega)]
  frame_out
  rfl

theorem last5 (t : Fin cfg0.N) (h : t.val % 2 = 1) : (outsAt0 m c t.val t.isLt).1
    = k0_pay8 (k0_pay1 (iblk m c 0 t) (iblk m c 1 t)) (prev m c t).2.2.2 (iblk m c 2 t) (iblk m c 4 t) (iblk m c 3 t) := by
  by_cases h3 : t.val < 2
  · rw [outsAt0_B m c t (by omega) (by omega) h3 (by omega)]
    frame_out
    rw [scratch_read]
  · rw [outsAt0_C m c t (by omega) (by omega) h3 (by omega)]
    frame_out
    rw [scratch_read]
theorem last6 (t : Fin cfg0.N) (h : t.val % 2 = 1) : (outsAt0 m c t.val t.isLt).2.1
    = k0_pay9 (k0_pay1 (iblk m c 0 t) (iblk m c 1 t)) (prev m c t).2.2.2 (iblk m c 2 t) (iblk m c 4 t) (iblk m c 3 t) := by
  by_cases h3 : t.val < 2
  · rw [outsAt0_B m c t (by omega) (by omega) h3 (by omega)]
    frame_out
    rw [scratch_read]
  · rw [outsAt0_C m c t (by omega) (by omega) h3 (by omega)]
    frame_out
    rw [scratch_read]
theorem last7_first (t : Fin cfg0.N) (h : t.val % 2 = 1) (h3 : t.val < 2) : (outsAt0 m c t.val t.isLt).2.2.1
    = k0_pay10 (k0_pay1 (iblk m c 0 t) (iblk m c 1 t)) (prev m c t).2.2.2 (iblk m c 2 t) := by
  rw [outsAt0_B m c t (by omega) (by omega) h3 (by omega)]
  frame_out
  rw [scratch_read]
theorem last7_later (t : Fin cfg0.N) (h : t.val % 2 = 1) (h3 : ¬t.val < 2) : (outsAt0 m c t.val t.isLt).2.2.1
    = k0_pay4 (k0_pay10 (k0_pay1 (iblk m c 0 t) (iblk m c 1 t)) (prev m c t).2.2.2 (iblk m c 2 t)) (prev m c t).2.2.1 := by
  rw [outsAt0_C m c t (by omega) (by omega) h3 (by omega)]
  frame_out
  rw [scratch_read]

/-- The two halves' products add up to the gradient of the normalized input. -/
theorem sum_at (t : Fin cfg0.N) (h : t.val % 2 = 1) (i : Fin 512) (d : Fin 1024) :
    (prev m c t).2.2.2 (ix2 i d) + k0_pay1 (iblk m c 0 t) (iblk m c 1 t) (ix2 i d) = Y (a2 m c) (a3 m c) (rw0 t i) d := by
  refine Eq.trans ?_ (y_at _ _ (rw0 t i) d).symm
  refine Eq.trans ?_ (Fin.sum_mul_add_fin (L := 5632) 2 2816 _)
  refine Eq.trans ?_ (Fin.sum_univ_two _).symm
  have e := first m c ⟨t.val - 1, Nat.lt_of_le_of_lt (Nat.sub_le _ _) t.isLt⟩ (by dsimp only; omega)
  dsimp only at e
  rw [e, part_at, part_at]
  have e1 : (t.val - 1) % 2 = 0 := by omega
  have e2 : (t.val - 1) / 2 = t.val / 2 := by omega
  have e3 : ∀ (s : Fin 2) (k : Fin 2816), (s.val * 2816 + k.val) / 2816 = s.val := fun s k => by omega
  have e4 : ∀ (s : Fin 2) (k : Fin 2816), (s.val * 2816 + k.val) % 2816 = k.val := fun s k => by omega
  simp only [rw0, e1, e2, e3, e4, h]
  rfl

theorem dx_block (t : Fin cfg0.N) (h : t.val % 2 = 1) (i : Fin 512) (d : Fin 1024) :
    k0_pay8 (k0_pay1 (iblk m c 0 t) (iblk m c 1 t)) (prev m c t).2.2.2 (iblk m c 2 t) (iblk m c 4 t) (iblk m c 3 t) (ix2 i d)
      = a4 m c (ix2 (rw0 t i) d) + unnorm (X (a0 m c) (rw0 t i)) (U (a1 m c) (a2 m c) (a3 m c) (rw0 t i)) d := by
  rw [pay8_at, blk3]
  simp only [sum_at m c t h, blk2, blk4]
  have e : U (a1 m c) (a2 m c) (a3 m c) (rw0 t i) = fun d => Y (a2 m c) (a3 m c) (rw0 t i) d * a1 m c (ix2 0 d) :=
    funext fun d => u_at _ _ _ _ d
  rw [e]

/-! ## The arrays -/

abbrev R5 : (⟨S4096x1024, .f32⟩ : BufTy).Contents (Elt Ideal) :=
  Cert.ReferenceFfnInActIdeal.Read.val_main_v50 (F := Ideal) (a0 m c) (a1 m c) (a2 m c) (a3 m c) (a4 m c)
abbrev R6 : (⟨S4096x1024, .bf16⟩ : BufTy).Contents (Elt Ideal) :=
  Cert.ReferenceFfnInActIdeal.Read.val_main_v52 (F := Ideal) (a0 m c) (a1 m c) (a2 m c) (a3 m c) (a4 m c)
abbrev R7 : (⟨S1x1024, .f32⟩ : BufTy).Contents (Elt Ideal) :=
  Cert.ReferenceFfnInActIdeal.Read.val_main_v53 (F := Ideal) (a0 m c) (a2 m c) (a3 m c)

theorem final5 : (dats m 0 c).arrAt 5 cfg0.N = R5 m c := by
  refine (dats m 0 c).arrAt_eq_of_covers 5 _ (by decide +kernel) fun t hf y => ?_
  have h1 : t.val % 2 = 1 := (flush0_5 t).mp hf
  blk_simp
  rw [after0_5]
  have hy : ((cfg0.win 5).blk t).view.emb y = ix2 (n0 := 4096) (n1 := 1024) ⟨t.val / 2 * 512 + (y 0).val, by have := lt16 t; have : (y 0).val < 512 := (y 0).isLt; omega⟩ (y 1) := by
    blk_ext [idx5 t]
  rw [hy, last5 m c t h1]
  exact (congrArg _ (eq_ix2 (y : S512x1024.Idx))).trans ((dx_block m c t h1 (y 0) (y 1)).trans (dx_at _ _ _ _ _ _ _).symm)

theorem final6 : (dats m 0 c).arrAt 6 cfg0.N = R6 m c := by
  refine (dats m 0 c).arrAt_eq_of_covers 6 _ (by decide +kernel) fun t hf y => ?_
  have h1 : t.val % 2 = 1 := (flush0_6 t).mp hf
  blk_simp
  rw [after0_6]
  have hy : ((cfg0.win 6).blk t).view.emb y = ix2 (n0 := 4096) (n1 := 1024) ⟨t.val / 2 * 512 + (y 0).val, by have := lt16 t; have : (y 0).val < 512 := (y 0).isLt; omega⟩ (y 1) := by
    blk_ext [idx6 t]
  rw [hy, last6 m c t h1]
  exact (congrArg _ (eq_ix2 (y : S512x1024.Idx))).trans ((pay9_at _ _ _ _ _ _ _).trans ((dx_block m c t h1 (y 0) (y 1)).trans (dx_half_at _ _ _ _ _ _ _).symm))

/-- What a block of rows adds to the gain's gradient. -/
def gpart (d : Fin 1024) (b : ℕ) : EReal :=
  ∑ i : Fin 512, Y (a2 m c) (a3 m c) ⟨(b * 512 + i.val) % 4096, by omega⟩ d * hat (X (a0 m c) ⟨(b * 512 + i.val) % 4096, by omega⟩) d

theorem gpart_at (t : Fin cfg0.N) (h : t.val % 2 = 1) (z : Fin 1) (d : Fin 1024) :
    k0_pay10 (k0_pay1 (iblk m c 0 t) (iblk m c 1 t)) (prev m c t).2.2.2 (iblk m c 2 t) (ix2 z d) = gpart m c d (t.val / 2) := by
  rw [pay10_at]
  simp only [sum_at m c t h, blk2]
  unfold gpart
  refine Finset.sum_congr rfl fun i _ => ?_
  have e : rw0 t i = ⟨(t.val / 2 * 512 + i.val) % 4096, by omega⟩ := Fin.ext (by have := lt16 t; dsimp only [rw0]; omega)
  rw [e]

/-- After `k + 1` blocks of rows the gain's gradient holds their parts. -/
theorem gain_run (z : Fin 1) (d : Fin 1024) (k : ℕ) : ∀ t : Fin cfg0.N, t.val = 2 * k + 1 →
    (outsAt0 m c t.val t.isLt).2.2.1 (ix2 z d) = ∑ b ∈ Finset.range (k + 1), gpart m c d b := by
  induction k with
  | zero =>
    intro t ht
    rw [last7_first m c t (by omega) (by omega), gpart_at m c t (by omega), Finset.sum_range_one]
    exact congrArg _ (by omega)
  | succ k ih =>
    intro t ht
    rw [last7_later m c t (by omega) (by omega), pay4_at, gpart_at m c t (by omega), Finset.sum_range_succ]
    have e := kept m c ⟨t.val - 1, Nat.lt_of_le_of_lt (Nat.sub_le _ _) t.isLt⟩ (by dsimp only; omega)
    have e2 := ih ⟨t.val - 1 - 1, Nat.lt_of_le_of_lt (Nat.sub_le _ _) (Nat.lt_of_le_of_lt (Nat.sub_le _ _) t.isLt)⟩ (by dsimp only; omega)
    have e3 : (prev m c t).2.2.1 (ix2 z d) = ∑ b ∈ Finset.range (k + 1), gpart m c d b := (congrFun e _).trans e2
    have e4 : t.val / 2 = k + 1 := by omega
    rw [e3, e4]

theorem gain_last (t : Fin cfg0.N) (h : t.val % 16 = 15) (z : Fin 1) (d : Fin 1024) :
    (outsAt0 m c t.val t.isLt).2.2.1 (ix2 z d) = R7 m c (ix2 z d) := by
  rw [gain_run m c z d 7 t (by have := lt16 t; omega), Finset.sum_range]
  refine Eq.trans ?_ (gain_at _ _ _ z d).symm
  refine Eq.trans ?_ (Fin.sum_mul_add_fin (L := 4096) 8 512 _)
  refine Finset.sum_congr rfl fun b _ => Finset.sum_congr rfl fun i _ => ?_
  rw [mul_comm]
  have e : (b.val * 512 + i.val) % 4096 = b.val * 512 + i.val := by have : b.val < 8 := b.isLt; omega
  simp only [e]

theorem idx7 : ∀ t : Fin cfg0.N, win0_7.index t = ![0, 0] := (by decide +kernel : ∀ t : Fin grid0.N, _)

theorem final7 : (dats m 0 c).arrAt 7 cfg0.N = R7 m c := by
  refine (dats m 0 c).arrAt_eq_of_covers 7 _ (by decide +kernel) fun t hf y => ?_
  have h1 : t.val % 16 = 15 := (flush0_7 t).mp hf
  blk_simp
  rw [after0_7]
  have hy : ((cfg0.win 7).blk t).view.emb y = ix2 (n0 := 1) (n1 := 1024) (y 0) (y 1) := by
    blk_ext [idx7 t]
  rw [hy]
  exact (congrArg _ (eq_ix2 (y : S1x1024.Idx))).trans (gain_last m c t h1 (y 0) (y 1))

theorem frame_kernel : Cert.quiescent_KernelFfnInAct := fun m g _ => Cert.KernelFfnInAct.Gen.frame m g

theorem frame_ideal : Cert.quiescent_KernelFfnInActIdeal := fun m g _ => Cert.KernelFfnInActIdeal.Gen.frame m g

theorem frame_reference : Cert.quiescent_ReferenceFfnInActIdeal := fun m g _ =>
  (θ_run Cert.ReferenceFfnInActIdeal.defs _ _).mono (fun r h => ⟨fun c => (h c).2.2.2, sem_eq_zero_of_no_sems (by decide) r.2⟩)
    (Cert.ReferenceFfnInActIdeal.Value.run (F := Ideal) m g)

theorem equal : Cert.algebraic_KernelFfnInActIdeal_ReferenceFfnInActIdeal := by
  intro m g m' g' hp ha
  refine ⟨fun c => R5 m c, fun c => R6 m c, fun c => R7 m c, ?_, ?_⟩
  · refine (θ_run Cert.KernelFfnInActIdeal.defs _ _).mono (fun r h c => ?_) (Cert.KernelFfnInActIdeal.Value.run_blocks m g)
    exact ⟨(h c).1.trans (final5 m c), (h c).2.1.trans (final6 m c), (h c).2.2.1.trans (final7 m c), (h c).2.2.2⟩
  · refine (θ_run Cert.ReferenceFfnInActIdeal.defs _ _).mono (fun r h c => ?_) (Cert.ReferenceFfnInActIdeal.Value.run (F := Ideal) m' g')
    obtain ⟨r0, r1, r2, rest⟩ := h c
    obtain ⟨e0, e1, e2, e3, e4⟩ := ha c
    rw [Cert.ReferenceFfnInActIdeal.Read.val_main_v50_eq, e0, e1, e2, e3, e4] at r0
    rw [Cert.ReferenceFfnInActIdeal.Read.val_main_v52_eq, e0, e1, e2, e3, e4] at r1
    rw [e0, e2, e3] at r2
    exact ⟨r0, r1, r2.trans (Cert.ReferenceFfnInActIdeal.Read.val_main_v53_eq _ _ _), rest⟩

end Cert.FfnInAct

end
-- ==== Proof.FfnInW.lean ====
module

public import proofs.«01_k».proof.Defs
public import proofs.«01_k».proof.Proof.Gen.KernelFfnInW.Frame
public import proofs.«01_k».proof.Proof.Gen.KernelFfnInWIdeal.Value
public import proofs.«01_k».proof.Proof.Gen.ReferenceFfnInWIdeal.Read
public import Idealize.ShloMosaic.Lib.Pipeline.ValueKit
public import Idealize.ShloMosaic.Lib.Pointwise
public import Idealize.ShloMosaic.Lib.Claim

@[expose] public section

set_option maxRecDepth 16384

noncomputable section

/-! The gradient of the up projection's weights: the kernel's blocks are the blocks of the reference's product. -/

namespace Cert.FfnInW

open Cert.KernelFfnInWIdeal Cert.KernelFfnInWIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S4096x1024, .f32⟩ : BufTy).Contents (Elt Ideal) := m ((c : Thread nD τ).loc main_arg0)
abbrev a1 : (⟨S1x1024, .f32⟩ : BufTy).Contents (Elt Ideal) := m ((c : Thread nD τ).loc main_arg1)
abbrev a3 : (⟨S2x4096x2816, .bf16⟩ : BufTy).Contents (Elt Ideal) := m ((c : Thread nD τ).loc main_arg3)

abbrev act := Cert.ReferenceFfnInWIdeal.Read.val_main_v19 (F := Ideal) (a0 m c) (a1 m c)

/-- What the host hands the kernel: the normalized rows, transposed. -/
theorem entry : V m c main_v15 = (truncf .bf16 (transpose S1024x4096 [1, 0] (act m c : FVec Ideal S4096x1024 .f32)
    transposes_S4096x1024_S1024x4096_1_0) bitsLt_bf16_f32 : FVec Ideal S1024x4096 .bf16) := by
  unfold_abbrev_sides
  after_results
  rfl

theorem entry_at (i : Fin 1024) (l : Fin 4096) : V m c main_v15 (ix2 i l) = act m c (ix2 l i) := by
  rw [entry]
  pointwise

theorem lt8 (t : Fin cfg0.N) : t.val < 8 := lt_of_lt_of_eq t.isLt N_0
theorem idx0 : ∀ t : Fin cfg0.N, win0_0.index t = ![0, t.val % 2] := (by decide +kernel : ∀ t : Fin grid0.N, _)
theorem idx1 : ∀ t : Fin cfg0.N, win0_1.index t = ![t.val / 4, t.val % 2, t.val / 2 % 2] := (by decide +kernel : ∀ t : Fin grid0.N, _)
theorem idx2 : ∀ t : Fin cfg0.N, win0_2.index t = ![0, t.val / 2] := (by decide +kernel : ∀ t : Fin grid0.N, _)

theorem blk0 (t : Fin cfg0.N) (i : Fin 1024) (k : Fin 2048) :
    iblk m c 0 t (ix2 i k) = act m c (ix2 ⟨t.val % 2 * 2048 + k.val, by omega⟩ i) := by
  refine Eq.trans ?_ (entry_at m c _ _)
  blk_ext [iblk, idx0 t]
theorem blk1 (t : Fin cfg0.N) (u : Fin 1) (k : Fin 2048) (j : Fin 1408) :
    iblk m c 1 t (ix3 u k j) = a3 m c (ix3 ⟨t.val / 4, by have := lt8 t; omega⟩ ⟨t.val % 2 * 2048 + k.val, by omega⟩ ⟨t.val / 2 % 2 * 1408 + j.val, by omega⟩) := by
  blk_ext [iblk, V, idx1 t]

/-- The two halves of the gradient of the product, side by side. -/
theorem cat_at (x3 : (⟨S2x4096x2816, .bf16⟩ : BufTy).Contents (Elt Ideal)) (l : Fin 4096) (q : Fin 5632) :
    Cert.ReferenceFfnInWIdeal.Read.val_main_v23 (F := Ideal) x3 (ix2 l q) = x3 (ix3 ⟨q.val / 2816, by omega⟩ l ⟨q.val % 2816, by omega⟩) := by
  pointwise [Cert.ReferenceFfnInWIdeal.Read.val_main_v23, Cert.ReferenceFfnInWIdeal.Read.val_main_v2, Cert.ReferenceFfnInWIdeal.Read.val_main_v1,
    Cert.ReferenceFfnInWIdeal.Read.val_main_v0, Cert.ReferenceFfnInWIdeal.Read.val_main_v5, Cert.ReferenceFfnInWIdeal.Read.val_main_v4, Cert.ReferenceFfnInWIdeal.Read.val_main_v3]
  have hq := q.isLt
  split
  · have e1 : q.val / 2816 = 0 := by omega
    have e2 : q.val % 2816 = q.val := by omega
    simp only [e1, e2]
    rfl
  · have e1 : q.val / 2816 = 1 := by omega
    have e2 : q.val % 2816 = q.val - 2816 := by omega
    simp only [e1, e2]
    rfl

theorem pay1_at (x : Vec Ideal S1024x2048 .bf16) (y : Vec Ideal S1x2048x1408 .bf16) (i : Fin 1024) (j : Fin 1408) :
    k0_pay1 x y (ix2 i j) = ∑ k : Fin 2048, x (ix2 i k) * y (ix3 0 k j) := by
  pointwise [k0_pay1]

theorem pay4_at (x : Vec Ideal S1024x2048 .bf16) (y : Vec Ideal S1x2048x1408 .bf16) (z : Vec Ideal S1024x1408 .f32) (i : Fin 1024) (j : Fin 1408) :
    k0_pay4 x y z (ix2 i j) = z (ix2 i j) + k0_pay1 x y (ix2 i j) := by
  pointwise [k0_pay4]

theorem part_at (t : Fin cfg0.N) (i : Fin 1024) (j : Fin 1408) : k0_pay1 (iblk m c 0 t) (iblk m c 1 t) (ix2 i j)
    = ∑ k : Fin 2048, act m c (ix2 ⟨t.val % 2 * 2048 + k.val, by omega⟩ i)
        * a3 m c (ix3 ⟨t.val / 4, by have := lt8 t; omega⟩ ⟨t.val % 2 * 2048 + k.val, by omega⟩ ⟨t.val / 2 % 2 * 1408 + j.val, by omega⟩) := by
  rw [pay1_at]
  exact Finset.sum_congr rfl fun k _ => by rw [blk0, blk1]

theorem pay2_eq (x : Vec Ideal S1024x2048 .bf16) (y : Vec Ideal S1x2048x1408 .bf16) : k0_pay2 x y = k0_pay1 x y := by
  unfold k0_pay2
  exact shapeCast_self _ _
theorem scratch_read (b : scM0_0.IsWhole) (z : Vec Ideal S1024x1408 .f32) :
    View.read (Elt Ideal) (View.whole cc0_scratch0) (b.unread z) = z := b.read_unread z

theorem first (t : Fin cfg0.N) (h : t.val % 2 = 0) : (outsAt0 m c t.val t.isLt).2 = k0_pay1 (iblk m c 0 t) (iblk m c 1 t) := by
  rw [outsAt0_A m c t (by omega) (by omega)]
  frame_out
  exact pay2_eq _ _
theorem last (t : Fin cfg0.N) (h : t.val % 2 = 1) : (outsAt0 m c t.val t.isLt).1
    = k0_pay4 (iblk m c 0 t) (iblk m c 1 t) (outsAt0 m c (t.val - 1) (Nat.lt_of_le_of_lt (Nat.sub_le _ _) t.isLt)).2 := by
  rw [outsAt0_B m c t (by omega) (by omega)]
  frame_out
  rw [scratch_read]

/-- The reference's result at an index. -/
theorem ref_at (x0 : (⟨S4096x1024, .f32⟩ : BufTy).Contents (Elt Ideal)) (x1 : (⟨S1x1024, .f32⟩ : BufTy).Contents (Elt Ideal))
    (x3 : (⟨S2x4096x2816, .bf16⟩ : BufTy).Contents (Elt Ideal)) (i : Fin 1024) (q : Fin 5632) :
    Cert.ReferenceFfnInWIdeal.Read.val_main_v26 (F := Ideal) x0 x1 x3 (ix2 i q)
      = ∑ l : Fin 4096, x3 (ix3 ⟨q.val / 2816, by omega⟩ l ⟨q.val % 2816, by omega⟩) * Cert.ReferenceFfnInWIdeal.Read.val_main_v19 (F := Ideal) x0 x1 (ix2 l i) := by
  pointwise [Cert.ReferenceFfnInWIdeal.Read.val_main_v26, Cert.ReferenceFfnInWIdeal.Read.val_main_v25, Cert.ReferenceFfnInWIdeal.Read.val_main_v24]
  exact Finset.sum_congr rfl fun l _ => by rw [cat_at]

abbrev R : (⟨S1024x5632, .bf16⟩ : BufTy).Contents (Elt Ideal) := Cert.ReferenceFfnInWIdeal.Read.val_main_v26 (F := Ideal) (a0 m c) (a1 m c) (a3 m c)

theorem out_at (t : Fin cfg0.N) (h : t.val % 2 = 1) (i : Fin 1024) (j : Fin 1408) (q : Fin 5632) (hq : q.val = t.val / 2 * 1408 + j.val) :
    (outsAt0 m c t.val t.isLt).1 (ix2 i j) = R m c (ix2 i q) := by
  rw [last m c t h]
  refine Eq.trans ?_ (ref_at _ _ _ i q).symm
  refine Eq.trans ?_ (Fin.sum_mul_add_fin (L := 4096) 2 2048 _)
  refine Eq.trans ?_ (Fin.sum_univ_two _).symm
  have e := first m c ⟨t.val - 1, Nat.lt_of_le_of_lt (Nat.sub_le _ _) t.isLt⟩ (by dsimp only; omega)
  rw [pay4_at, part_at, e, part_at]
  have e1 : (t.val - 1) % 2 = 0 := by omega
  have e2 : (t.val - 1) / 2 = t.val / 2 := by omega
  have e3 : (t.val - 1) / 4 = t.val / 4 := by omega
  have e4 : q.val / 2816 = t.val / 4 := by omega
  have e5 : q.val % 2816 = t.val / 2 % 2 * 1408 + j.val := by omega
  simp only [e1, e2, e3, e4, e5, h]
  congr 1 <;> exact Finset.sum_congr rfl fun k _ => mul_comm _ _

theorem final2 : (dats m 0 c).arrAt 2 cfg0.N = R m c := by
  refine (dats m 0 c).arrAt_eq_of_covers 2 _ (by decide +kernel) fun t hf y => ?_
  have h1 : t.val % 2 = 1 := (flush0_2 t).mp hf
  blk_simp
  rw [after0_2]
  have hy : ((cfg0.win 2).blk t).view.emb y = ix2 (n0 := 1024) (n1 := 5632) (y 0) ⟨t.val / 2 * 1408 + (y 1).val, by have := lt8 t; have : (y 1).val < 1408 := (y 1).isLt; omega⟩ := by
    blk_ext [idx2 t]
  rw [hy]
  exact (congrArg _ (eq_ix2 (y : S1024x1408.Idx))).trans (out_at m c t h1 (y 0) (y 1) _ rfl)

theorem frame_kernel : Cert.quiescent_KernelFfnInW := fun m g _ => Cert.KernelFfnInW.Gen.frame m g

theorem frame_ideal : Cert.quiescent_KernelFfnInWIdeal := fun m g _ => Cert.KernelFfnInWIdeal.Gen.frame m g

theorem frame_reference : Cert.quiescent_ReferenceFfnInWIdeal := fun m g _ =>
  (θ_run Cert.ReferenceFfnInWIdeal.defs _ _).mono (fun r h => ⟨fun c => (h c).2, sem_eq_zero_of_no_sems (by decide) r.2⟩)
    (Cert.ReferenceFfnInWIdeal.Value.run (F := Ideal) m g)

theorem equal : Cert.algebraic_KernelFfnInWIdeal_ReferenceFfnInWIdeal := by
  intro m g m' g' hp ha
  refine ⟨fun c => R m c, ?_, ?_⟩
  · refine (θ_run Cert.KernelFfnInWIdeal.defs _ _).mono (fun r h c => ?_) (Cert.KernelFfnInWIdeal.Value.run_blocks m g)
    exact ⟨(h c).1.trans (final2 m c), (h c).2⟩
  · refine (θ_run Cert.ReferenceFfnInWIdeal.defs _ _).mono (fun r h c => ?_) (Cert.ReferenceFfnInWIdeal.Value.run (F := Ideal) m' g')
    obtain ⟨r0, rest⟩ := h c
    obtain ⟨e0, e1, e2, e3⟩ := ha c
    rw [Cert.ReferenceFfnInWIdeal.Read.val_main_v26_eq, e0, e1, e3] at r0
    exact ⟨r0, rest⟩

end Cert.FfnInW

end
-- ==== Proof.Logistic.lean ====
module

public import Idealize.ShloMosaic.Lib.Pointwise

@[expose] public section

noncomputable section

/-! The logistic function written with the hyperbolic tangent and with the exponential, at any extended real. -/

namespace Cert.Logistic

open Idealize.ShloMosaic

def half : EReal := Ideal.ofBits .f32 0x3F000000#32

theorem half_eq : half = ((1 / 2 : ℝ) : EReal) := by
  simp [half, Ideal.ofBits, Ideal.ieee, -EReal.coe_mul]; norm_num
/-- The logistic function as the kernel writes it. -/
def viaTanh (x : EReal) : EReal := half * Ideal.tanh (half * x) + half
/-- The logistic function as the reference writes it. -/
def viaExp (x : EReal) : EReal := Ideal.div 1 (1 + Ideal.exp (-x))

theorem real (r : ℝ) : 1 / 2 * Real.tanh (1 / 2 * r) + 1 / 2 = 1 / (1 + Real.exp (-r)) := by
  have h : Real.exp (-r) = Real.exp (-(1 / 2 * r)) * Real.exp (-(1 / 2 * r)) := by
    rw [← Real.exp_add]; congr 1; ring
  have hp := Real.exp_pos (1 / 2 * r)
  have hn := Real.exp_pos (-(1 / 2 * r))
  have hm : Real.exp (1 / 2 * r) * Real.exp (-(1 / 2 * r)) = 1 := by
    rw [← Real.exp_add]; simp
  rw [Real.tanh_eq_sinh_div_cosh, Real.sinh_eq, Real.cosh_eq, h]
  generalize Real.exp (1 / 2 * r) = a at hp hm
  generalize Real.exp (-(1 / 2 * r)) = b at hn hm
  have hab : a + b ≠ 0 := by positivity
  have hb : 1 + b * b ≠ 0 := by positivity
  field_simp
  linear_combination (2 * b) * hm

theorem same (x : EReal) : viaTanh x = viaExp x := by
  unfold viaTanh viaExp
  rw [half_eq, ← EReal.coe_one]
  induction x using EReal.rec with
  | bot =>
    rw [EReal.coe_mul_bot_of_pos (by norm_num), Ideal.tanh_bot, EReal.neg_bot, Ideal.exp_top, EReal.coe_add_top]
    have e : Ideal.div ((1 : ℝ) : EReal) ⊤ = 0 := by simp [Ideal.div]
    rw [e]
    have : (-1 : EReal) = ((-1 : ℝ) : EReal) := by rw [EReal.coe_neg, EReal.coe_one]
    rw [this]
    norm_cast
    norm_num
  | top =>
    rw [EReal.coe_mul_top_of_pos (by norm_num), Ideal.tanh_top, EReal.neg_top, Ideal.exp_bot, add_zero, Ideal.div_coe (by norm_num)]
    norm_cast
    norm_num
  | coe r =>
    rw [← EReal.coe_mul, Ideal.tanh_coe, ← EReal.coe_neg, Ideal.exp_coe, ← EReal.coe_add, Ideal.div_coe (by positivity)]
    norm_cast
    rw [real]
    ring

end Cert.Logistic

end
-- ==== Proof.FfnIn.lean ====
module

public import proofs.«01_k».proof.Defs
public import proofs.«01_k».proof.Proof.Gen.KernelFfnIn.Frame
public import proofs.«01_k».proof.Proof.Gen.KernelFfnInIdeal.Value
public import proofs.«01_k».proof.Proof.Gen.ReferenceFfnInIdeal.Read
public import proofs.«01_k».proof.Proof.Logistic
public import Idealize.ShloMosaic.Lib.Pipeline.ValueKit
public import Idealize.ShloMosaic.Lib.Pointwise
public import Idealize.ShloMosaic.Lib.Claim

@[expose] public section

set_option maxRecDepth 16384

noncomputable section

/-! The feed-forward input projection with its gated activation, which is also written transposed. -/

namespace Cert.FfnIn

open Cert.KernelFfnInIdeal Cert.KernelFfnInIdeal.Gen Idealize.ShloMosaic Idealize.ShloMosaic.TcCoe Idealize.SL.Sem Cert.Logistic
open Idealize.ShloMosaic.Pipeline (Dat)

/-! ## The reference's stages at an index -/

section
open Cert.ReferenceFfnInIdeal.Read

variable (x0 : (⟨S4096x1024, .f32⟩ : BufTy).Contents (Elt Ideal)) (x1 : (⟨S1x1024, .f32⟩ : BufTy).Contents (Elt Ideal))
  (x2 : (⟨S1024x5632, .f32⟩ : BufTy).Contents (Elt Ideal))

/-- The gate's half of the product. -/
def gate (l : Fin 4096) (q : Fin 2816) : EReal := ∑ d : Fin 1024, val_main_v13 (F := Ideal) x0 x1 (ix2 l d) * x2 (ix2 d ⟨q.val, by omega⟩)
/-- The other half. -/
def up (l : Fin 4096) (q : Fin 2816) : EReal := ∑ d : Fin 1024, val_main_v13 (F := Ideal) x0 x1 (ix2 l d) * x2 (ix2 d ⟨2816 + q.val, by omega⟩)

theorem gate_at (l : Fin 4096) (q : Fin 2816) : val_main_v15 (F := Ideal) x0 x1 x2 (ix2 l q) = gate x0 x1 x2 l q := by
  unfold gate
  pointwise [val_main_v15, val_main_v14]
theorem up_at (l : Fin 4096) (q : Fin 2816) : val_main_v16 (F := Ideal) x0 x1 x2 (ix2 l q) = up x0 x1 x2 l q := by
  unfold up
  pointwise [val_main_v16, val_main_v14]
theorem silu_at (l : Fin 4096) (q : Fin 2816) :
    val_main_v17 (F := Ideal) x0 x1 x2 (ix2 l q) = gate x0 x1 x2 l q * viaExp (gate x0 x1 x2 l q) := by
  pointwise [val_main_v17, val_main_call0_v5, val_main_call0_v4, val_main_call0_v3, val_main_call0_v2, val_main_call0_v1, val_main_call0_v0,
    val_main_call0_cst, val_main_call0_cst_0]
  rw [gate_at]
  rfl
theorem prod_at (l : Fin 4096) (q : Fin 2816) : val_main_v18 (F := Ideal) x0 x1 x2 (ix2 l q)
    = gate x0 x1 x2 l q * viaExp (gate x0 x1 x2 l q) * up x0 x1 x2 l q := by
  pointwise [val_main_v18]
  rw [silu_at, up_at]
theorem ref3_at (l : Fin 4096) (q : Fin 2816) : val_main_v19 (F := Ideal) x0 x1 x2 (ix2 l q) = gate x0 x1 x2 l q := by
  pointwise [val_main_v19]
  exact gate_at _ _ _ _ _
theorem ref4_at (l : Fin 4096) (q : Fin 2816) : val_main_v20 (F := Ideal) x0 x1 x2 (ix2 l q) = up x0 x1 x2 l q := by
  pointwise [val_main_v20]
  exact up_at _ _ _ _ _
theorem ref5_at (l : Fin 4096) (q : Fin 2816) : val_main_v21 (F := Ideal) x0 x1 x2 (ix2 l q)
    = gate x0 x1 x2 l q * viaExp (gate x0 x1 x2 l q) * up x0 x1 x2 l q := by
  pointwise [val_main_v21]
  exact prod_at _ _ _ _ _
theorem ref6_at (l : Fin 4096) (q : Fin 2816) : val_main_v23 (F := Ideal) x0 x1 x2 (ix2 q l)
    = gate x0 x1 x2 l q * viaExp (gate x0 x1 x2 l q) * up x0 x1 x2 l q := by
  pointwise [val_main_v23, val_main_v22]
  exact prod_at _ _ _ _ _

end

/-! ## The kernel's payloads at an index -/

variable (x : Vec Ideal S1024x1024 .bf16) (y z : Vec Ideal S1024x1408 .bf16) (i : Fin 1024) (j : Fin 1408)

theorem pay2_at : k0_pay2 x y (ix2 i j) = ∑ d : Fin 1024, x (ix2 i d) * y (ix2 d j) := by
  pointwise [k0_pay2, k0_pay1]
theorem pay3_at : k0_pay3 x y (ix2 i j) = ∑ d : Fin 1024, x (ix2 i d) * y (ix2 d j) := by
  pointwise [k0_pay3, k0_pay1]
theorem pay4_at : k0_pay4 x y z (ix2 i j) = k0_pay2 x y (ix2 i j) * viaExp (k0_pay2 x y (ix2 i j)) * k0_pay3 x z (ix2 i j) := by
  rw [← same]
  pointwise [k0_pay4]
  rfl
theorem pay5_at : k0_pay5 x y (ix2 i j) = k0_pay2 x y (ix2 i j) := by
  pointwise [k0_pay5]
theorem pay6_at : k0_pay6 x y (ix2 i j) = k0_pay3 x y (ix2 i j) := by
  pointwise [k0_pay6]
theorem pay7_at : k0_pay7 x y z (ix2 i j) = k0_pay4 x y z (ix2 i j) := by
  pointwise [k0_pay7]
theorem pay8_at : k0_pay8 x y z (ix2 j i) = k0_pay4 x y z (ix2 i j) := by
  pointwise [k0_pay8]

variable (m : (ℓ : Loc nD τ sig) → Buf (Elt Ideal) ℓ) (c : Dev nD)

abbrev a0 : (⟨S4096x1024, .f32⟩ : BufTy).Contents (Elt Ideal) := m ((c : Thread nD τ).loc main_arg0)
abbrev a1 : (⟨S1x1024, .f32⟩ : BufTy).Contents (Elt Ideal) := m ((c : Thread nD τ).loc main_arg1)
abbrev a2 : (⟨S1024x5632, .f32⟩ : BufTy).Contents (Elt Ideal) := m ((c : Thread nD τ).loc main_arg2)
/-- The normalized rows. -/
abbrev act := Cert.ReferenceFfnInIdeal.Read.val_main_v13 (F := Ideal) (a0 m c) (a1 m c)

theorem entry_h : V m c main_v14 = (truncf .bf16 (act m c : FVec Ideal S4096x1024 .f32) bitsLt_bf16_f32 : FVec Ideal S4096x1024 .bf16) := by
  unfold_abbrev_sides
  after_results
  rfl
theorem entry_w : V m c main_v15 = (truncf .bf16 (a2 m c : FVec Ideal S1024x5632 .f32) bitsLt_bf16_f32 : FVec Ideal S1024x5632 .bf16) := by
  unfold_abbrev_sides
  after_results
theorem h_at (l : Fin 4096) (d : Fin 1024) : V m c main_v14 (ix2 l d) = act m c (ix2 l d) := by
  rw [entry_h]
  pointwise
theorem w_at (d : Fin 1024) (q : Fin 5632) : V m c main_v15 (ix2 d q) = a2 m c (ix2 d q) := by
  rw [entry_w]
  pointwise

/-! ## The blocks at a point -/

theorem lt8 (t : Fin cfg0.N) : t.val < 8 := lt_of_lt_of_eq t.isLt N_0
theorem idx0 : ∀ t : Fin cfg0.N, win0_0.index t = ![t.val % 4, 0] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![0, 2 + t.val / 4] := (by decide +kernel : ∀ t : Fin grid0.N, _)
theorem idx3 : ∀ t : Fin cfg0.N, win0_3.index t = ![t.val % 4, t.val / 4] := (by decide +kernel : ∀ t : Fin grid0.N, _)
theorem idx4 : ∀ t : Fin cfg0.N, win0_4.index t = ![t.val % 4, t.val / 4] := (by decide +kernel : ∀ t : Fin grid0.N, _)
theorem idx5 : ∀ t : Fin cfg0.N, win0_5.index t = ![t.val % 4, t.val / 4] := (by decide +kernel : ∀ t : Fin grid0.N, _)
theorem idx6 : ∀ t : Fin cfg0.N, win0_6.index t = ![t.val / 4, t.val % 4] := (by decide +kernel : ∀ t : Fin grid0.N, _)

abbrev row (t : Fin cfg0.N) (i : Fin 1024) : Fin 4096 := ⟨t.val % 4 * 1024 + i.val, by omega⟩
abbrev col (t : Fin cfg0.N) (j : Fin 1408) : Fin 2816 := ⟨t.val / 4 * 1408 + j.val, by have := lt8 t; omega⟩

theorem blk0 (t : Fin cfg0.N) (i d : Fin 1024) : iblk m c 0 t (ix2 i d) = act m c (ix2 (row t i) d) := by
  refine Eq.trans ?_ (h_at m c _ _)
  blk_ext [iblk, idx0 t]
theorem blk1 (t : Fin cfg0.N) (d : Fin 1024) (j : Fin 1408) : iblk m c 1 t (ix2 d j) = a2 m c (ix2 d ⟨(col t j).val, by omega⟩) := by
  refine Eq.trans ?_ (w_at m c _ _)
  blk_ext [iblk, idx1 t]
theorem blk2 (t : Fin cfg0.N) (d : Fin 1024) (j : Fin 1408) : iblk m c 2 t (ix2 d j) = a2 m c (ix2 d ⟨2816 + (col t j).val, by omega⟩) := by
  refine Eq.trans ?_ (w_at m c _ _)
  blk_ext [iblk, idx2 t]

theorem gate_blk (t : Fin cfg0.N) (i : Fin 1024) (j : Fin 1408) :
    k0_pay2 (iblk m c 0 t) (iblk m c 1 t) (ix2 i j) = gate (a0 m c) (a1 m c) (a2 m c) (row t i) (col t j) := by
  rw [pay2_at]
  unfold gate
  exact Finset.sum_congr rfl fun d _ => by rw [blk0, blk1]
theorem up_blk (t : Fin cfg0.N) (i : Fin 1024) (j : Fin 1408) :
    k0_pay3 (iblk m c 0 t) (iblk m c 2 t) (ix2 i j) = up (a0 m c) (a1 m c) (a2 m c) (row t i) (col t j) := by
  rw [pay3_at]
  unfold up
  exact Finset.sum_congr rfl fun d _ => by rw [blk0, blk2]

/-! ## The arrays -/

abbrev R3 : (⟨S4096x2816, .bf16⟩ : BufTy).Contents (Elt Ideal) := Cert.ReferenceFfnInIdeal.Read.val_main_v19 (F := Ideal) (a0 m c) (a1 m c) (a2 m c)
abbrev R4 : (⟨S4096x2816, .bf16⟩ : BufTy).Contents (Elt Ideal) := Cert.ReferenceFfnInIdeal.Read.val_main_v20 (F := Ideal) (a0 m c) (a1 m c) (a2 m c)
abbrev R5 : (⟨S4096x2816, .bf16⟩ : BufTy).Contents (Elt Ideal) := Cert.ReferenceFfnInIdeal.Read.val_main_v21 (F := Ideal) (a0 m c) (a1 m c) (a2 m c)
abbrev R6 : (⟨S2816x4096, .bf16⟩ : BufTy).Contents (Elt Ideal) := Cert.ReferenceFfnInIdeal.Read.val_main_v23 (F := Ideal) (a0 m c) (a1 m c) (a2 m c)

theorem out3 (t : Fin cfg0.N) : out0_3 (iblk m c 0 t) (iblk m c 1 t) (iblk m c 2 t) = k0_pay5 (iblk m c 0 t) (iblk m c 1 t) := by
  frame_out
theorem out4 (t : Fin cfg0.N) : out0_4 (iblk m c 0 t) (iblk m c 1 t) (iblk m c 2 t) = k0_pay6 (iblk m c 0 t) (iblk m c 2 t) := by
  frame_out
theorem out5 (t : Fin cfg0.N) : out0_5 (iblk m c 0 t) (iblk m c 1 t) (iblk m c 2 t) = k0_pay7 (iblk m c 0 t) (iblk m c 1 t) (iblk m c 2 t) := by
  frame_out
theorem out6 (t : Fin cfg0.N) : out0_6 (iblk m c 0 t) (iblk m c 1 t) (iblk m c 2 t) = k0_pay8 (iblk m c 0 t) (iblk m c 1 t) (iblk m c 2 t) := by
  frame_out

theorem final3 : (dats m 0 c).arrAt 3 cfg0.N = R3 m c := by
  refine (dats m 0 c).arrAt_eq_of_covers 3 _ (by decide +kernel) fun t hf y => ?_
  blk_simp
  rw [after0_3, out3]
  have hy : ((cfg0.win 3).blk t).view.emb y = ix2 (n0 := 4096) (n1 := 2816) (row t (y 0)) (col t (y 1)) := by
    blk_ext [idx3 t]
  rw [hy]
  refine ((congrArg _ (eq_ix2 (y : S1024x1408.Idx))).trans ?_).trans (ref3_at _ _ _ (row t (y 0)) (col t (y 1))).symm
  exact (pay5_at _ _ (y 0) (y 1)).trans (gate_blk m c t (y 0) (y 1))

theorem final4 : (dats m 0 c).arrAt 4 cfg0.N = R4 m c := by
  refine (dats m 0 c).arrAt_eq_of_covers 4 _ (by decide +kernel) fun t hf y => ?_
  blk_simp
  rw [after0_4, out4]
  have hy : ((cfg0.win 4).blk t).view.emb y = ix2 (n0 := 4096) (n1 := 2816) (row t (y 0)) (col t (y 1)) := by
    blk_ext [idx4 t]
  rw [hy]
  refine ((congrArg _ (eq_ix2 (y : S1024x1408.Idx))).trans ?_).trans (ref4_at _ _ _ (row t (y 0)) (col t (y 1))).symm
  exact (pay6_at _ _ (y 0) (y 1)).trans (up_blk m c t (y 0) (y 1))

theorem prod_blk (t : Fin cfg0.N) (i : Fin 1024) (j : Fin 1408) : k0_pay4 (iblk m c 0 t) (iblk m c 1 t) (iblk m c 2 t) (ix2 i j)
    = gate (a0 m c) (a1 m c) (a2 m c) (row t i) (col t j) * viaExp (gate (a0 m c) (a1 m c) (a2 m c) (row t i) (col t j))
      * up (a0 m c) (a1 m c) (a2 m c) (row t i) (col t j) := by
  rw [pay4_at, gate_blk, up_blk]

theorem final5 : (dats m 0 c).arrAt 5 cfg0.N = R5 m c := by
  refine (dats m 0 c).arrAt_eq_of_covers 5 _ (by decide +kernel) fun t hf y => ?_
  blk_simp
  rw [after0_5, out5]
  have hy : ((cfg0.win 5).blk t).view.emb y = ix2 (n0 := 4096) (n1 := 2816) (row t (y 0)) (col t (y 1)) := by
    blk_ext [idx5 t]
  rw [hy]
  refine ((congrArg _ (eq_ix2 (y : S1024x1408.Idx))).trans ?_).trans (ref5_at _ _ _ (row t (y 0)) (col t (y 1))).symm
  exact (pay7_at _ _ _ (y 0) (y 1)).trans (prod_blk m c t (y 0) (y 1))

theorem final6 : (dats m 0 c).arrAt 6 cfg0.N = R6 m c := by
  refine (dats m 0 c).arrAt_eq_of_covers 6 _ (by decide +kernel) fun t hf y => ?_
  blk_simp
  rw [after0_6, out6]
  have hy : ((cfg0.win 6).blk t).view.emb y = ix2 (n0 := 2816) (n1 := 4096) (col t (y 0)) (row t (y 1)) := by
    blk_ext [idx6 t]
  rw [hy]
  refine ((congrArg _ (eq_ix2 (y : S1408x1024.Idx))).trans ?_).trans (ref6_at _ _ _ (row t (y 1)) (col t (y 0))).symm
  exact (pay8_at _ _ _ (y 1) (y 0)).trans (prod_blk m c t (y 1) (y 0))

theorem frame_kernel : Cert.quiescent_KernelFfnIn := fun m g _ => Cert.KernelFfnIn.Gen.frame m g

theorem frame_ideal : Cert.quiescent_KernelFfnInIdeal := fun m g _ => Cert.KernelFfnInIdeal.Gen.frame m g

theorem frame_reference : Cert.quiescent_ReferenceFfnInIdeal := fun m g _ =>
  (θ_run Cert.ReferenceFfnInIdeal.defs _ _).mono (fun r h => ⟨fun c => (h c).2.2.2.2, sem_eq_zero_of_no_sems (by decide) r.2⟩)
    (Cert.ReferenceFfnInIdeal.Value.run (F := Ideal) m g)

theorem equal : Cert.algebraic_KernelFfnInIdeal_ReferenceFfnInIdeal := by
  intro m g m' g' hp ha
  refine ⟨fun c => R3 m c, fun c => R4 m c, fun c => R5 m c, fun c => R6 m c, ?_, ?_⟩
  · refine (θ_run Cert.KernelFfnInIdeal.defs _ _).mono (fun r h c => ?_) (Cert.KernelFfnInIdeal.Value.run_blocks m g)
    obtain ⟨r3, r4, r5, r6, rest⟩ := h c
    exact ⟨r3.trans (final3 m c), r4.trans (final4 m c), r5.trans (final5 m c), r6.trans (final6 m c), rest⟩
  · refine (θ_run Cert.ReferenceFfnInIdeal.defs _ _).mono (fun r h c => ?_) (Cert.ReferenceFfnInIdeal.Value.run (F := Ideal) m' g')
    obtain ⟨r3, r4, r5, r6, rest⟩ := h c
    obtain ⟨e0, e1, e2⟩ := ha c
    rw [e0, e1, e2] at r3 r4 r5 r6
    exact ⟨r3.trans (Cert.ReferenceFfnInIdeal.Read.val_main_v19_eq _ _ _), r4.trans (Cert.ReferenceFfnInIdeal.Read.val_main_v20_eq _ _ _), r5.trans (Cert.ReferenceFfnInIdeal.Read.val_main_v21_eq _ _ _),
      r6.trans (Cert.ReferenceFfnInIdeal.Read.val_main_v23_eq _ _ _), rest⟩

end Cert.FfnIn

end
-- ==== Proof.FfnOutW.lean ====
module

public import proofs.«01_k».proof.Defs
public import proofs.«01_k».proof.Proof.Gen.KernelFfnOutW.Frame
public import proofs.«01_k».proof.Proof.Gen.KernelFfnOutWIdeal.Value
public import proofs.«01_k».proof.Proof.Gen.ReferenceFfnOutWIdeal.Read
public import Idealize.ShloMosaic.Lib.Pipeline.ValueKit
public import Idealize.ShloMosaic.Lib.Pointwise
public import Idealize.ShloMosaic.Lib.Claim

@[expose] public section

set_option maxRecDepth 16384

noncomputable section

/-! The gradient of the down projection's weights: the kernel's blocks are the blocks of the reference's product. -/

namespace Cert.FfnOutW

open Cert.KernelFfnOutWIdeal Cert.KernelFfnOutWIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S4096x2816, .bf16⟩ : BufTy).Contents (Elt Ideal) := m ((c : Thread nD τ).loc main_arg0)
abbrev a1 : (⟨S4096x2816, .bf16⟩ : BufTy).Contents (Elt Ideal) := m ((c : Thread nD τ).loc main_arg1)
abbrev a3 : (⟨S4096x1024, .bf16⟩ : BufTy).Contents (Elt Ideal) := m ((c : Thread nD τ).loc main_arg3)

abbrev act := Cert.ReferenceFfnOutWIdeal.Read.val_main_v3 (F := Ideal) (a0 m c) (a1 m c)

/-- What the host hands the kernel: the activation, transposed. -/
theorem entry : V m c main_v5 = (truncf .bf16 (transpose S2816x4096 [1, 0] (act m c : FVec Ideal S4096x2816 .f32)
    transposes_S4096x2816_S2816x4096_1_0) bitsLt_bf16_f32 : FVec Ideal S2816x4096 .bf16) := by
  unfold_abbrev_sides
  after_results
  rfl

theorem entry_at (i : Fin 2816) (l : Fin 4096) : V m c main_v5 (ix2 i l) = act m c (ix2 l i) := by
  rw [entry]
  pointwise

theorem lt4 (t : Fin cfg0.N) : t.val < 4 := lt_of_lt_of_eq t.isLt N_0
theorem idx0 : ∀ t : Fin cfg0.N, win0_0.index t = ![t.val / 2, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)

theorem blk0 (t : Fin cfg0.N) (i : Fin 1408) (k : Fin 2048) :
    iblk m c 0 t (ix2 i k) = act m c (ix2 ⟨t.val % 2 * 2048 + k.val, by omega⟩ ⟨t.val / 2 * 1408 + i.val, by have := lt4 t; omega⟩) := by
  refine Eq.trans ?_ (entry_at m c _ _)
  blk_ext [iblk, idx0 t]
theorem blk1 (t : Fin cfg0.N) (k : Fin 2048) (j : Fin 1024) :
    iblk m c 1 t (ix2 k j) = a3 m c (ix2 ⟨t.val % 2 * 2048 + k.val, by omega⟩ j) := by
  blk_ext [iblk, V, idx1 t]

theorem pay1_at (x : Vec Ideal S1408x2048 .bf16) (y : Vec Ideal S2048x1024 .bf16) (i : Fin 1408) (j : Fin 1024) :
    k0_pay1 x y (ix2 i j) = ∑ k : Fin 2048, x (ix2 i k) * y (ix2 k j) := by
  pointwise [k0_pay1]

theorem part_at (t : Fin cfg0.N) (i : Fin 1408) (j : Fin 1024) : k0_pay1 (iblk m c 0 t) (iblk m c 1 t) (ix2 i j)
    = ∑ k : Fin 2048, act m c (ix2 ⟨t.val % 2 * 2048 + k.val, by omega⟩ ⟨t.val / 2 * 1408 + i.val, by have := lt4 t; omega⟩)
        * a3 m c (ix2 ⟨t.val % 2 * 2048 + k.val, by omega⟩ j) := by
  rw [pay1_at]
  exact Finset.sum_congr rfl fun k _ => by rw [blk0, blk1]

theorem pay2_eq (x : Vec Ideal S1408x2048 .bf16) (y : Vec Ideal S2048x1024 .bf16) : k0_pay2 x y = k0_pay1 x y := by
  unfold k0_pay2
  exact shapeCast_self _ _
theorem scratch_read (b : scM0_0.IsWhole) (z : Vec Ideal S1408x1024 .f32) :
    View.read (Elt Ideal) (View.whole cc0_scratch0) (b.unread z) = z := b.read_unread z

theorem first (t : Fin cfg0.N) (h : t.val % 2 = 0) : (outsAt0 m c t.val t.isLt).2 = k0_pay1 (iblk m c 0 t) (iblk m c 1 t) := by
  rw [outsAt0_A m c t (by omega) (by omega)]
  frame_out
  exact pay2_eq _ _
theorem last (t : Fin cfg0.N) (h : t.val % 2 = 1) : (outsAt0 m c t.val t.isLt).1
    = truncf .bf16 (addf (outsAt0 m c (t.val - 1) (Nat.lt_of_le_of_lt (Nat.sub_le _ _) t.isLt)).2 (k0_pay1 (iblk m c 0 t) (iblk m c 1 t))) bitsLt_bf16_f32 := by
  rw [outsAt0_B m c t (by omega) (by omega)]
  frame_out
  rw [scratch_read]
  rfl

/-- The reference's result at an index. -/
theorem ref_at (x0 x1 : (⟨S4096x2816, .bf16⟩ : BufTy).Contents (Elt Ideal)) (x3 : (⟨S4096x1024, .bf16⟩ : BufTy).Contents (Elt Ideal)) (i : Fin 2816) (j : Fin 1024) :
    Cert.ReferenceFfnOutWIdeal.Read.val_main_v8 (F := Ideal) x0 x1 x3 (ix2 i j)
      = ∑ l : Fin 4096, x3 (ix2 l j) * Cert.ReferenceFfnOutWIdeal.Read.val_main_v3 (F := Ideal) x0 x1 (ix2 l i) := by
  pointwise [Cert.ReferenceFfnOutWIdeal.Read.val_main_v8, Cert.ReferenceFfnOutWIdeal.Read.val_main_v7,
    Cert.ReferenceFfnOutWIdeal.Read.val_main_v6, Cert.ReferenceFfnOutWIdeal.Read.val_main_v5]

abbrev R : (⟨S2816x1024, .bf16⟩ : BufTy).Contents (Elt Ideal) := Cert.ReferenceFfnOutWIdeal.Read.val_main_v8 (F := Ideal) (a0 m c) (a1 m c) (a3 m c)

theorem out_at (t : Fin cfg0.N) (h : t.val % 2 = 1) (i : Fin 1408) (j : Fin 1024) (i' : Fin 2816) (hi : i'.val = t.val / 2 * 1408 + i.val) :
    (outsAt0 m c t.val t.isLt).1 (ix2 i j) = R m c (ix2 i' j) := by
  rw [last m c t h]
  refine Eq.trans ?_ (ref_at _ _ _ i' j).symm
  refine Eq.trans ?_ (Fin.sum_mul_add_fin (L := 4096) 2 2048 _)
  refine Eq.trans ?_ (Fin.sum_univ_two _).symm
  have e := first m c ⟨t.val - 1, Nat.lt_of_le_of_lt (Nat.sub_le _ _) t.isLt⟩ (by dsimp only; omega)
  show (outsAt0 m c (t.val - 1) _).2 (ix2 i j) + k0_pay1 (F := Ideal) _ _ (ix2 i j) = _
  rw [e, part_at, part_at]
  have e1 : (t.val - 1) % 2 = 0 := by omega
  have e2 : (t.val - 1) / 2 = t.val / 2 := by omega
  simp only [e1, e2, h, ← hi]
  congr 1 <;> exact Finset.sum_congr rfl fun k _ => mul_comm _ _

theorem final2 : (dats m 0 c).arrAt 2 cfg0.N = R m c := by
  refine (dats m 0 c).arrAt_eq_of_covers 2 _ (by decide +kernel) fun t hf y => ?_
  have h1 : t.val % 2 = 1 := (flush0_2 t).mp hf
  blk_simp
  rw [after0_2]
  have hy : ((cfg0.win 2).blk t).view.emb y = ix2 (n0 := 2816) (n1 := 1024) ⟨t.val / 2 * 1408 + (y 0).val, by have := lt4 t; have : (y 0).val < 1408 := (y 0).isLt; omega⟩ (y 1) := by
    blk_ext [idx2 t]
  rw [hy]
  exact (congrArg _ (eq_ix2 (y : S1408x1024.Idx))).trans (out_at m c t h1 (y 0) (y 1) _ rfl)

theorem frame_kernel : Cert.quiescent_KernelFfnOutW := fun m g _ => Cert.KernelFfnOutW.Gen.frame m g

theorem frame_ideal : Cert.quiescent_KernelFfnOutWIdeal := fun m g _ => Cert.KernelFfnOutWIdeal.Gen.frame m g

theorem frame_reference : Cert.quiescent_ReferenceFfnOutWIdeal := fun m g _ =>
  (θ_run Cert.ReferenceFfnOutWIdeal.defs _ _).mono (fun r h => ⟨fun c => (h c).2, sem_eq_zero_of_no_sems (by decide) r.2⟩)
    (Cert.ReferenceFfnOutWIdeal.Value.run (F := Ideal) m g)

theorem equal : Cert.algebraic_KernelFfnOutWIdeal_ReferenceFfnOutWIdeal := by
  intro m g m' g' hp ha
  refine ⟨fun c => R m c, ?_, ?_⟩
  · refine (θ_run Cert.KernelFfnOutWIdeal.defs _ _).mono (fun r h c => ?_) (Cert.KernelFfnOutWIdeal.Value.run_blocks m g)
    exact ⟨(h c).1.trans (final2 m c), (h c).2⟩
  · refine (θ_run Cert.ReferenceFfnOutWIdeal.defs _ _).mono (fun r h c => ?_) (Cert.ReferenceFfnOutWIdeal.Value.run (F := Ideal) m' g')
    obtain ⟨r0, rest⟩ := h c
    obtain ⟨e0, e1, e2, e3⟩ := ha c
    rw [Cert.ReferenceFfnOutWIdeal.Read.val_main_v8_eq, e0, e1, e3] at r0
    exact ⟨r0, rest⟩

end Cert.FfnOutW

end
-- ==== Proof.OutW.lean ====
module

public import proofs.«01_k».proof.Defs
public import proofs.«01_k».proof.Proof.Gen.KernelOutW.Frame
public import proofs.«01_k».proof.Proof.Gen.KernelOutWIdeal.Value
public import proofs.«01_k».proof.Proof.Gen.ReferenceOutWIdeal.Read
public import Idealize.ShloMosaic.Lib.Pipeline.ValueKit
public import Idealize.ShloMosaic.Lib.Pointwise
public import Idealize.ShloMosaic.Lib.Claim

@[expose] public section

set_option maxRecDepth 16384

noncomputable section

/-! The output projection's weight gradient: two halves of the rows, accumulated. -/

namespace Cert.OutW

open Cert.KernelOutWIdeal Cert.KernelOutWIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S4096x1024, .bf16⟩ : BufTy).Contents (Elt Ideal) := m ((c : Thread nD τ).loc main_arg0)
abbrev a2 : (⟨S4096x1024, .bf16⟩ : BufTy).Contents (Elt Ideal) := m ((c : Thread nD τ).loc main_arg2)

theorem idx0 : ∀ t : Fin cfg0.N, win0_0.index t = ![t.val % 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)

theorem blk0 (t : Fin cfg0.N) (k : Fin 2048) (i : Fin 1024) : iblk m c 0 t (ix2 k i) = a0 m c (ix2 ⟨t.val % 2 * 2048 + k.val, by omega⟩ i) := by
  blk_ext [iblk, V, idx0 t]
theorem blk1 (t : Fin cfg0.N) (k : Fin 2048) (j : Fin 1024) : iblk m c 1 t (ix2 k j) = a2 m c (ix2 ⟨t.val % 2 * 2048 + k.val, by omega⟩ j) := by
  blk_ext [iblk, V, idx1 t]

theorem pay1_at (x y : Vec Ideal S2048x1024 .bf16) (i j : Fin 1024) : k0_pay1 x y (ix2 i j) = ∑ k : Fin 2048, x (ix2 k i) * y (ix2 k j) := by
  pointwise [k0_pay1]

theorem pay4_at (x y : Vec Ideal S2048x1024 .bf16) (z : Vec Ideal S1024x1024 .f32) (i j : Fin 1024) :
    k0_pay4 x y z (ix2 i j) = z (ix2 i j) + k0_pay1 x y (ix2 i j) := by
  pointwise [k0_pay4]

theorem part_at (t : Fin cfg0.N) (i j : Fin 1024) : k0_pay1 (iblk m c 0 t) (iblk m c 1 t) (ix2 i j)
    = ∑ k : Fin 2048, a0 m c (ix2 ⟨t.val % 2 * 2048 + k.val, by omega⟩ i) * a2 m c (ix2 ⟨t.val % 2 * 2048 + k.val, by omega⟩ j) := by
  rw [pay1_at]
  exact Finset.sum_congr rfl fun k _ => by rw [blk0, blk1]

theorem pay2_eq (x y : Vec Ideal S2048x1024 .bf16) : k0_pay2 x y = k0_pay1 x y := by
  unfold k0_pay2
  exact shapeCast_self _ _
theorem scratch_read (b : scM0_0.IsWhole) (z : Vec Ideal S1024x1024 .f32) :
    View.read (Elt Ideal) (View.whole cc0_scratch0) (b.unread z) = z := b.read_unread z

theorem first (t : Fin cfg0.N) (h : t.val % 2 = 0) : (outsAt0 m c t.val t.isLt).2 = k0_pay1 (iblk m c 0 t) (iblk m c 1 t) := by
  rw [outsAt0_A m c t (by omega) (by omega)]
  frame_out
  exact pay2_eq _ _
theorem last (t : Fin cfg0.N) (h : t.val % 2 = 1) : (outsAt0 m c t.val t.isLt).1
    = k0_pay4 (iblk m c 0 t) (iblk m c 1 t) (outsAt0 m c (t.val - 1) (Nat.lt_of_le_of_lt (Nat.sub_le _ _) t.isLt)).2 := by
  rw [outsAt0_B m c t (by omega) (by omega)]
  frame_out
  rw [scratch_read]

theorem ref_at (x0 x2 : (⟨S4096x1024, .bf16⟩ : BufTy).Contents (Elt Ideal)) (i j : Fin 1024) :
    Cert.ReferenceOutWIdeal.Read.val_main_v5 (F := Ideal) x0 x2 (ix2 i j) = ∑ l : Fin 4096, x2 (ix2 l j) * x0 (ix2 l i) := by
  pointwise [Cert.ReferenceOutWIdeal.Read.val_main_v5, Cert.ReferenceOutWIdeal.Read.val_main_v4, Cert.ReferenceOutWIdeal.Read.val_main_v3,
    Cert.ReferenceOutWIdeal.Read.val_main_v2, Cert.ReferenceOutWIdeal.Read.val_main_v0]

abbrev R : (⟨S1024x1024, .bf16⟩ : BufTy).Contents (Elt Ideal) := Cert.ReferenceOutWIdeal.Read.val_main_v5 (F := Ideal) (a0 m c) (a2 m c)

theorem out_at (t : Fin cfg0.N) (h : t.val % 2 = 1) (i j : Fin 1024) : (outsAt0 m c t.val t.isLt).1 (ix2 i j) = R m c (ix2 i j) := by
  rw [last m c t h]
  refine Eq.trans ?_ (ref_at _ _ i j).symm
  refine Eq.trans ?_ (Fin.sum_mul_add_fin (L := 4096) 2 2048 _)
  refine Eq.trans ?_ (Fin.sum_univ_two _).symm
  have e := first m c ⟨t.val - 1, Nat.lt_of_le_of_lt (Nat.sub_le _ _) t.isLt⟩ (by dsimp only; omega)
  rw [pay4_at, part_at, e, part_at]
  have e1 : (t.val - 1) % 2 = 0 := by omega
  simp only [e1, h]
  congr 1 <;> exact Finset.sum_congr rfl fun k _ => mul_comm _ _

theorem final2 : (dats m 0 c).arrAt 2 cfg0.N = R m c := by
  refine (dats m 0 c).arrAt_eq_of_covers 2 _ (by decide +kernel) fun t hf y => ?_
  have h1 : t.val % 2 = 1 := (flush0_2 t).mp hf
  blk_simp
  rw [after0_2]
  have hy : ((cfg0.win 2).blk t).view.emb y = ix2 (n0 := 1024) (n1 := 1024) (y 0) (y 1) := by
    blk_ext [idx2 t]
  rw [hy]
  exact (congrArg _ (eq_ix2 (y : S1024x1024.Idx))).trans (out_at m c t h1 (y 0) (y 1))

theorem frame_kernel : Cert.quiescent_KernelOutW := fun m g _ => Cert.KernelOutW.Gen.frame m g

theorem frame_ideal : Cert.quiescent_KernelOutWIdeal := fun m g _ => Cert.KernelOutWIdeal.Gen.frame m g

theorem frame_reference : Cert.quiescent_ReferenceOutWIdeal := fun m g _ =>
  (θ_run Cert.ReferenceOutWIdeal.defs _ _).mono (fun r h => ⟨fun c => (h c).2, sem_eq_zero_of_no_sems (by decide) r.2⟩)
    (Cert.ReferenceOutWIdeal.Value.run (F := Ideal) m g)

theorem equal : Cert.algebraic_KernelOutWIdeal_ReferenceOutWIdeal := by
  intro m g m' g' hp ha
  refine ⟨fun c => R m c, ?_, ?_⟩
  · refine (θ_run Cert.KernelOutWIdeal.defs _ _).mono (fun r h c => ?_) (Cert.KernelOutWIdeal.Value.run_blocks m g)
    exact ⟨(h c).1.trans (final2 m c), (h c).2⟩
  · refine (θ_run Cert.ReferenceOutWIdeal.defs _ _).mono (fun r h c => ?_) (Cert.ReferenceOutWIdeal.Value.run (F := Ideal) m' g')
    obtain ⟨r0, rest⟩ := h c
    obtain ⟨e0, e1, e2⟩ := ha c
    rw [e0, e2] at r0
    exact ⟨r0.trans (Cert.ReferenceOutWIdeal.Read.val_main_v5_eq _ _), rest⟩

end Cert.OutW

end
-- ==== Proof.ProjHgW.lean ====
module

public import proofs.«01_k».proof.Defs
public import proofs.«01_k».proof.Proof.Gen.KernelProjHgW.Frame
public import proofs.«01_k».proof.Proof.Gen.KernelProjHgWIdeal.Value
public import proofs.«01_k».proof.Proof.Gen.ReferenceProjHgWIdeal.Read
public import Idealize.ShloMosaic.Lib.Pipeline.ValueKit
public import Idealize.ShloMosaic.Lib.Pointwise
public import Idealize.ShloMosaic.Lib.Claim

@[expose] public section

set_option maxRecDepth 16384

noncomputable section

/-! The gradient of the recurrence's projection weight: two halves of the rows, accumulated. -/

namespace Cert.ProjHgW

open Cert.KernelProjHgWIdeal Cert.KernelProjHgWIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S4096x1024, .bf16⟩ : BufTy).Contents (Elt Ideal) := m ((c : Thread nD τ).loc main_arg0)
abbrev a2 : (⟨S4096x1024, .bf16⟩ : BufTy).Contents (Elt Ideal) := m ((c : Thread nD τ).loc main_arg2)

theorem idx0 : ∀ t : Fin cfg0.N, win0_0.index t = ![t.val % 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)

theorem blk0 (t : Fin cfg0.N) (k : Fin 2048) (i : Fin 1024) : iblk m c 0 t (ix2 k i) = a0 m c (ix2 ⟨t.val % 2 * 2048 + k.val, by omega⟩ i) := by
  blk_ext [iblk, V, idx0 t]
theorem blk1 (t : Fin cfg0.N) (k : Fin 2048) (j : Fin 1024) : iblk m c 1 t (ix2 k j) = a2 m c (ix2 ⟨t.val % 2 * 2048 + k.val, by omega⟩ j) := by
  blk_ext [iblk, V, idx1 t]

theorem pay1_at (x y : Vec Ideal S2048x1024 .bf16) (i j : Fin 1024) : k0_pay1 x y (ix2 i j) = ∑ k : Fin 2048, x (ix2 k i) * y (ix2 k j) := by
  pointwise [k0_pay1]

theorem pay4_at (x y : Vec Ideal S2048x1024 .bf16) (z : Vec Ideal S1024x1024 .f32) (i j : Fin 1024) :
    k0_pay4 x y z (ix2 i j) = z (ix2 i j) + k0_pay1 x y (ix2 i j) := by
  pointwise [k0_pay4]

theorem part_at (t : Fin cfg0.N) (i j : Fin 1024) : k0_pay1 (iblk m c 0 t) (iblk m c 1 t) (ix2 i j)
    = ∑ k : Fin 2048, a0 m c (ix2 ⟨t.val % 2 * 2048 + k.val, by omega⟩ i) * a2 m c (ix2 ⟨t.val % 2 * 2048 + k.val, by omega⟩ j) := by
  rw [pay1_at]
  exact Finset.sum_congr rfl fun k _ => by rw [blk0, blk1]

theorem pay2_eq (x y : Vec Ideal S2048x1024 .bf16) : k0_pay2 x y = k0_pay1 x y := by
  unfold k0_pay2
  exact shapeCast_self _ _
theorem scratch_read (b : scM0_0.IsWhole) (z : Vec Ideal S1024x1024 .f32) :
    View.read (Elt Ideal) (View.whole cc0_scratch0) (b.unread z) = z := b.read_unread z

theorem first (t : Fin cfg0.N) (h : t.val % 2 = 0) : (outsAt0 m c t.val t.isLt).2 = k0_pay1 (iblk m c 0 t) (iblk m c 1 t) := by
  rw [outsAt0_A m c t (by omega) (by omega)]
  frame_out
  exact pay2_eq _ _
theorem last (t : Fin cfg0.N) (h : t.val % 2 = 1) : (outsAt0 m c t.val t.isLt).1
    = k0_pay4 (iblk m c 0 t) (iblk m c 1 t) (outsAt0 m c (t.val - 1) (Nat.lt_of_le_of_lt (Nat.sub_le _ _) t.isLt)).2 := by
  rw [outsAt0_B m c t (by omega) (by omega)]
  frame_out
  rw [scratch_read]

theorem ref_at (x0 x2 : (⟨S4096x1024, .bf16⟩ : BufTy).Contents (Elt Ideal)) (i j : Fin 1024) :
    Cert.ReferenceProjHgWIdeal.Read.val_main_v5 (F := Ideal) x0 x2 (ix2 i j) = ∑ l : Fin 4096, x2 (ix2 l j) * x0 (ix2 l i) := by
  pointwise [Cert.ReferenceProjHgWIdeal.Read.val_main_v5, Cert.ReferenceProjHgWIdeal.Read.val_main_v4, Cert.ReferenceProjHgWIdeal.Read.val_main_v3,
    Cert.ReferenceProjHgWIdeal.Read.val_main_v2, Cert.ReferenceProjHgWIdeal.Read.val_main_v0]

abbrev R : (⟨S1024x1024, .bf16⟩ : BufTy).Contents (Elt Ideal) := Cert.ReferenceProjHgWIdeal.Read.val_main_v5 (F := Ideal) (a0 m c) (a2 m c)

theorem out_at (t : Fin cfg0.N) (h : t.val % 2 = 1) (i j : Fin 1024) : (outsAt0 m c t.val t.isLt).1 (ix2 i j) = R m c (ix2 i j) := by
  rw [last m c t h]
  refine Eq.trans ?_ (ref_at _ _ i j).symm
  refine Eq.trans ?_ (Fin.sum_mul_add_fin (L := 4096) 2 2048 _)
  refine Eq.trans ?_ (Fin.sum_univ_two _).symm
  have e := first m c ⟨t.val - 1, Nat.lt_of_le_of_lt (Nat.sub_le _ _) t.isLt⟩ (by dsimp only; omega)
  rw [pay4_at, part_at, e, part_at]
  have e1 : (t.val - 1) % 2 = 0 := by omega
  simp only [e1, h]
  congr 1 <;> exact Finset.sum_congr rfl fun k _ => mul_comm _ _

theorem final2 : (dats m 0 c).arrAt 2 cfg0.N = R m c := by
  refine (dats m 0 c).arrAt_eq_of_covers 2 _ (by decide +kernel) fun t hf y => ?_
  have h1 : t.val % 2 = 1 := (flush0_2 t).mp hf
  blk_simp
  rw [after0_2]
  have hy : ((cfg0.win 2).blk t).view.emb y = ix2 (n0 := 1024) (n1 := 1024) (y 0) (y 1) := by
    blk_ext [idx2 t]
  rw [hy]
  exact (congrArg _ (eq_ix2 (y : S1024x1024.Idx))).trans (out_at m c t h1 (y 0) (y 1))

theorem frame_kernel : Cert.quiescent_KernelProjHgW := fun m g _ => Cert.KernelProjHgW.Gen.frame m g

theorem frame_ideal : Cert.quiescent_KernelProjHgWIdeal := fun m g _ => Cert.KernelProjHgWIdeal.Gen.frame m g

theorem frame_reference : Cert.quiescent_ReferenceProjHgWIdeal := fun m g _ =>
  (θ_run Cert.ReferenceProjHgWIdeal.defs _ _).mono (fun r h => ⟨fun c => (h c).2, sem_eq_zero_of_no_sems (by decide) r.2⟩)
    (Cert.ReferenceProjHgWIdeal.Value.run (F := Ideal) m g)

theorem equal : Cert.algebraic_KernelProjHgWIdeal_ReferenceProjHgWIdeal := by
  intro m g m' g' hp ha
  refine ⟨fun c => R m c, ?_, ?_⟩
  · refine (θ_run Cert.KernelProjHgWIdeal.defs _ _).mono (fun r h c => ?_) (Cert.KernelProjHgWIdeal.Value.run_blocks m g)
    exact ⟨(h c).1.trans (final2 m c), (h c).2⟩
  · refine (θ_run Cert.ReferenceProjHgWIdeal.defs _ _).mono (fun r h c => ?_) (Cert.ReferenceProjHgWIdeal.Value.run (F := Ideal) m' g')
    obtain ⟨r0, rest⟩ := h c
    obtain ⟨e0, e1, e2⟩ := ha c
    rw [e0, e2] at r0
    exact ⟨r0.trans (Cert.ReferenceProjHgWIdeal.Read.val_main_v5_eq _ _), rest⟩

end Cert.ProjHgW

end
-- ==== Proof.ProjDaW.lean ====
module

public import proofs.«01_k».proof.Defs
public import proofs.«01_k».proof.Proof.Gen.KernelProjDaW.Frame
public import proofs.«01_k».proof.Proof.Gen.KernelProjDaWIdeal.Value
public import proofs.«01_k».proof.Proof.Gen.ReferenceProjDaWIdeal.Read
public import Idealize.ShloMosaic.Lib.Pipeline.ValueKit
public import Idealize.ShloMosaic.Lib.Pointwise
public import Idealize.ShloMosaic.Lib.Claim

@[expose] public section

set_option maxRecDepth 16384

noncomputable section

/-! The gradient of the dilated attention's projection weight: two halves of the rows, accumulated. -/

namespace Cert.ProjDaW

open Cert.KernelProjDaWIdeal Cert.KernelProjDaWIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S4096x512, .bf16⟩ : BufTy).Contents (Elt Ideal) := m ((c : Thread nD τ).loc main_arg0)
abbrev a2 : (⟨S4096x1024, .bf16⟩ : BufTy).Contents (Elt Ideal) := m ((c : Thread nD τ).loc main_arg2)

theorem idx0 : ∀ t : Fin cfg0.N, win0_0.index t = ![t.val % 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)

theorem blk0 (t : Fin cfg0.N) (k : Fin 2048) (i : Fin 512) : iblk m c 0 t (ix2 k i) = a0 m c (ix2 ⟨t.val % 2 * 2048 + k.val, by omega⟩ i) := by
  blk_ext [iblk, V, idx0 t]
theorem blk1 (t : Fin cfg0.N) (k : Fin 2048) (j : Fin 1024) : iblk m c 1 t (ix2 k j) = a2 m c (ix2 ⟨t.val % 2 * 2048 + k.val, by omega⟩ j) := by
  blk_ext [iblk, V, idx1 t]

theorem pay1_at (x : Vec Ideal S2048x512 .bf16) (y : Vec Ideal S2048x1024 .bf16) (i : Fin 512) (j : Fin 1024) : k0_pay1 x y (ix2 i j) = ∑ k : Fin 2048, x (ix2 k i) * y (ix2 k j) := by
  pointwise [k0_pay1]

theorem pay4_at (x : Vec Ideal S2048x512 .bf16) (y : Vec Ideal S2048x1024 .bf16) (z : Vec Ideal S512x1024 .f32) (i : Fin 512) (j : Fin 1024) :
    k0_pay4 x y z (ix2 i j) = z (ix2 i j) + k0_pay1 x y (ix2 i j) := by
  pointwise [k0_pay4]

theorem part_at (t : Fin cfg0.N) (i : Fin 512) (j : Fin 1024) : k0_pay1 (iblk m c 0 t) (iblk m c 1 t) (ix2 i j)
    = ∑ k : Fin 2048, a0 m c (ix2 ⟨t.val % 2 * 2048 + k.val, by omega⟩ i) * a2 m c (ix2 ⟨t.val % 2 * 2048 + k.val, by omega⟩ j) := by
  rw [pay1_at]
  exact Finset.sum_congr rfl fun k _ => by rw [blk0, blk1]

theorem pay2_eq (x : Vec Ideal S2048x512 .bf16) (y : Vec Ideal S2048x1024 .bf16) : k0_pay2 x y = k0_pay1 x y := by
  unfold k0_pay2
  exact shapeCast_self _ _
theorem scratch_read (b : scM0_0.IsWhole) (z : Vec Ideal S512x1024 .f32) :
    View.read (Elt Ideal) (View.whole cc0_scratch0) (b.unread z) = z := b.read_unread z

theorem first (t : Fin cfg0.N) (h : t.val % 2 = 0) : (outsAt0 m c t.val t.isLt).2 = k0_pay1 (iblk m c 0 t) (iblk m c 1 t) := by
  rw [outsAt0_A m c t (by omega) (by omega)]
  frame_out
  exact pay2_eq _ _
theorem last (t : Fin cfg0.N) (h : t.val % 2 = 1) : (outsAt0 m c t.val t.isLt).1
    = k0_pay4 (iblk m c 0 t) (iblk m c 1 t) (outsAt0 m c (t.val - 1) (Nat.lt_of_le_of_lt (Nat.sub_le _ _) t.isLt)).2 := by
  rw [outsAt0_B m c t (by omega) (by omega)]
  frame_out
  rw [scratch_read]

theorem ref_at (x0 : (⟨S4096x512, .bf16⟩ : BufTy).Contents (Elt Ideal)) (x2 : (⟨S4096x1024, .bf16⟩ : BufTy).Contents (Elt Ideal)) (i : Fin 512) (j : Fin 1024) :
    Cert.ReferenceProjDaWIdeal.Read.val_main_v5 (F := Ideal) x0 x2 (ix2 i j) = ∑ l : Fin 4096, x2 (ix2 l j) * x0 (ix2 l i) := by
  pointwise [Cert.ReferenceProjDaWIdeal.Read.val_main_v5, Cert.ReferenceProjDaWIdeal.Read.val_main_v4, Cert.ReferenceProjDaWIdeal.Read.val_main_v3,
    Cert.ReferenceProjDaWIdeal.Read.val_main_v2, Cert.ReferenceProjDaWIdeal.Read.val_main_v0]

abbrev R : (⟨S512x1024, .bf16⟩ : BufTy).Contents (Elt Ideal) := Cert.ReferenceProjDaWIdeal.Read.val_main_v5 (F := Ideal) (a0 m c) (a2 m c)

theorem out_at (t : Fin cfg0.N) (h : t.val % 2 = 1) (i : Fin 512) (j : Fin 1024) : (outsAt0 m c t.val t.isLt).1 (ix2 i j) = R m c (ix2 i j) := by
  rw [last m c t h]
  refine Eq.trans ?_ (ref_at _ _ i j).symm
  refine Eq.trans ?_ (Fin.sum_mul_add_fin (L := 4096) 2 2048 _)
  refine Eq.trans ?_ (Fin.sum_univ_two _).symm
  have e := first m c ⟨t.val - 1, Nat.lt_of_le_of_lt (Nat.sub_le _ _) t.isLt⟩ (by dsimp only; omega)
  rw [pay4_at, part_at, e, part_at]
  have e1 : (t.val - 1) % 2 = 0 := by omega
  simp only [e1, h]
  congr 1 <;> exact Finset.sum_congr rfl fun k _ => mul_comm _ _

theorem final2 : (dats m 0 c).arrAt 2 cfg0.N = R m c := by
  refine (dats m 0 c).arrAt_eq_of_covers 2 _ (by decide +kernel) fun t hf y => ?_
  have h1 : t.val % 2 = 1 := (flush0_2 t).mp hf
  blk_simp
  rw [after0_2]
  have hy : ((cfg0.win 2).blk t).view.emb y = ix2 (n0 := 512) (n1 := 1024) (y 0) (y 1) := by
    blk_ext [idx2 t]
  rw [hy]
  exact (congrArg _ (eq_ix2 (y : S512x1024.Idx))).trans (out_at m c t h1 (y 0) (y 1))

theorem frame_kernel : Cert.quiescent_KernelProjDaW := fun m g _ => Cert.KernelProjDaW.Gen.frame m g

theorem frame_ideal : Cert.quiescent_KernelProjDaWIdeal := fun m g _ => Cert.KernelProjDaWIdeal.Gen.frame m g

theorem frame_reference : Cert.quiescent_ReferenceProjDaWIdeal := fun m g _ =>
  (θ_run Cert.ReferenceProjDaWIdeal.defs _ _).mono (fun r h => ⟨fun c => (h c).2, sem_eq_zero_of_no_sems (by decide) r.2⟩)
    (Cert.ReferenceProjDaWIdeal.Value.run (F := Ideal) m g)

theorem equal : Cert.algebraic_KernelProjDaWIdeal_ReferenceProjDaWIdeal := by
  intro m g m' g' hp ha
  refine ⟨fun c => R m c, ?_, ?_⟩
  · refine (θ_run Cert.KernelProjDaWIdeal.defs _ _).mono (fun r h c => ?_) (Cert.KernelProjDaWIdeal.Value.run_blocks m g)
    exact ⟨(h c).1.trans (final2 m c), (h c).2⟩
  · refine (θ_run Cert.ReferenceProjDaWIdeal.defs _ _).mono (fun r h c => ?_) (Cert.ReferenceProjDaWIdeal.Value.run (F := Ideal) m' g')
    obtain ⟨r0, rest⟩ := h c
    obtain ⟨e0, e1, e2⟩ := ha c
    rw [e0, e2] at r0
    exact ⟨r0.trans (Cert.ReferenceProjDaWIdeal.Read.val_main_v5_eq _ _), rest⟩

end Cert.ProjDaW

end
-- ==== Proof.ProjMemW.lean ====
module

public import proofs.«01_k».proof.Defs
public import proofs.«01_k».proof.Proof.Gen.KernelProjMemW.Frame
public import proofs.«01_k».proof.Proof.Gen.KernelProjMemWIdeal.Value
public import proofs.«01_k».proof.Proof.Gen.ReferenceProjMemWIdeal.Read
public import Idealize.ShloMosaic.Lib.Pipeline.ValueKit
public import Idealize.ShloMosaic.Lib.Pointwise
public import Idealize.ShloMosaic.Lib.Claim

@[expose] public section

set_option maxRecDepth 16384

noncomputable section

/-! The gradient of the memory attention's projection weight: two halves of the rows, accumulated. -/

namespace Cert.ProjMemW

open Cert.KernelProjMemWIdeal Cert.KernelProjMemWIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S4096x512, .bf16⟩ : BufTy).Contents (Elt Ideal) := m ((c : Thread nD τ).loc main_arg0)
abbrev a2 : (⟨S4096x1024, .bf16⟩ : BufTy).Contents (Elt Ideal) := m ((c : Thread nD τ).loc main_arg2)

theorem idx0 : ∀ t : Fin cfg0.N, win0_0.index t = ![t.val % 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![0, 0] := (by decide +kernel : ∀ t : Fin grid0.N, _)

theorem blk0 (t : Fin cfg0.N) (k : Fin 2048) (i : Fin 512) : iblk m c 0 t (ix2 k i) = a0 m c (ix2 ⟨t.val % 2 * 2048 + k.val, by omega⟩ i) := by
  blk_ext [iblk, V, idx0 t]
theorem blk1 (t : Fin cfg0.N) (k : Fin 2048) (j : Fin 1024) : iblk m c 1 t (ix2 k j) = a2 m c (ix2 ⟨t.val % 2 * 2048 + k.val, by omega⟩ j) := by
  blk_ext [iblk, V, idx1 t]

theorem pay1_at (x : Vec Ideal S2048x512 .bf16) (y : Vec Ideal S2048x1024 .bf16) (i : Fin 512) (j : Fin 1024) : k0_pay1 x y (ix2 i j) = ∑ k : Fin 2048, x (ix2 k i) * y (ix2 k j) := by
  pointwise [k0_pay1]

theorem pay4_at (x : Vec Ideal S2048x512 .bf16) (y : Vec Ideal S2048x1024 .bf16) (z : Vec Ideal S512x1024 .f32) (i : Fin 512) (j : Fin 1024) :
    k0_pay4 x y z (ix2 i j) = z (ix2 i j) + k0_pay1 x y (ix2 i j) := by
  pointwise [k0_pay4]

theorem part_at (t : Fin cfg0.N) (i : Fin 512) (j : Fin 1024) : k0_pay1 (iblk m c 0 t) (iblk m c 1 t) (ix2 i j)
    = ∑ k : Fin 2048, a0 m c (ix2 ⟨t.val % 2 * 2048 + k.val, by omega⟩ i) * a2 m c (ix2 ⟨t.val % 2 * 2048 + k.val, by omega⟩ j) := by
  rw [pay1_at]
  exact Finset.sum_congr rfl fun k _ => by rw [blk0, blk1]

theorem pay2_eq (x : Vec Ideal S2048x512 .bf16) (y : Vec Ideal S2048x1024 .bf16) : k0_pay2 x y = k0_pay1 x y := by
  unfold k0_pay2
  exact shapeCast_self _ _
theorem scratch_read (b : scM0_0.IsWhole) (z : Vec Ideal S512x1024 .f32) :
    View.read (Elt Ideal) (View.whole cc0_scratch0) (b.unread z) = z := b.read_unread z

theorem first (t : Fin cfg0.N) (h : t.val % 2 = 0) : (outsAt0 m c t.val t.isLt).2 = k0_pay1 (iblk m c 0 t) (iblk m c 1 t) := by
  rw [outsAt0_A m c t (by omega) (by omega)]
  frame_out
  exact pay2_eq _ _
theorem last (t : Fin cfg0.N) (h : t.val % 2 = 1) : (outsAt0 m c t.val t.isLt).1
    = k0_pay4 (iblk m c 0 t) (iblk m c 1 t) (outsAt0 m c (t.val - 1) (Nat.lt_of_le_of_lt (Nat.sub_le _ _) t.isLt)).2 := by
  rw [outsAt0_B m c t (by omega) (by omega)]
  frame_out
  rw [scratch_read]

theorem ref_at (x0 : (⟨S4096x512, .bf16⟩ : BufTy).Contents (Elt Ideal)) (x2 : (⟨S4096x1024, .bf16⟩ : BufTy).Contents (Elt Ideal)) (i : Fin 512) (j : Fin 1024) :
    Cert.ReferenceProjMemWIdeal.Read.val_main_v5 (F := Ideal) x0 x2 (ix2 i j) = ∑ l : Fin 4096, x2 (ix2 l j) * x0 (ix2 l i) := by
  pointwise [Cert.ReferenceProjMemWIdeal.Read.val_main_v5, Cert.ReferenceProjMemWIdeal.Read.val_main_v4, Cert.ReferenceProjMemWIdeal.Read.val_main_v3,
    Cert.ReferenceProjMemWIdeal.Read.val_main_v2, Cert.ReferenceProjMemWIdeal.Read.val_main_v0]

abbrev R : (⟨S512x1024, .bf16⟩ : BufTy).Contents (Elt Ideal) := Cert.ReferenceProjMemWIdeal.Read.val_main_v5 (F := Ideal) (a0 m c) (a2 m c)

theorem out_at (t : Fin cfg0.N) (h : t.val % 2 = 1) (i : Fin 512) (j : Fin 1024) : (outsAt0 m c t.val t.isLt).1 (ix2 i j) = R m c (ix2 i j) := by
  rw [last m c t h]
  refine Eq.trans ?_ (ref_at _ _ i j).symm
  refine Eq.trans ?_ (Fin.sum_mul_add_fin (L := 4096) 2 2048 _)
  refine Eq.trans ?_ (Fin.sum_univ_two _).symm
  have e := first m c ⟨t.val - 1, Nat.lt_of_le_of_lt (Nat.sub_le _ _) t.isLt⟩ (by dsimp only; omega)
  rw [pay4_at, part_at, e, part_at]
  have e1 : (t.val - 1) % 2 = 0 := by omega
  simp only [e1, h]
  congr 1 <;> exact Finset.sum_congr rfl fun k _ => mul_comm _ _

theorem final2 : (dats m 0 c).arrAt 2 cfg0.N = R m c := by
  refine (dats m 0 c).arrAt_eq_of_covers 2 _ (by decide +kernel) fun t hf y => ?_
  have h1 : t.val % 2 = 1 := (flush0_2 t).mp hf
  blk_simp
  rw [after0_2]
  have hy : ((cfg0.win 2).blk t).view.emb y = ix2 (n0 := 512) (n1 := 1024) (y 0) (y 1) := by
    blk_ext [idx2 t]
  rw [hy]
  exact (congrArg _ (eq_ix2 (y : S512x1024.Idx))).trans (out_at m c t h1 (y 0) (y 1))

theorem frame_kernel : Cert.quiescent_KernelProjMemW := fun m g _ => Cert.KernelProjMemW.Gen.frame m g

theorem frame_ideal : Cert.quiescent_KernelProjMemWIdeal := fun m g _ => Cert.KernelProjMemWIdeal.Gen.frame m g

theorem frame_reference : Cert.quiescent_ReferenceProjMemWIdeal := fun m g _ =>
  (θ_run Cert.ReferenceProjMemWIdeal.defs _ _).mono (fun r h => ⟨fun c => (h c).2, sem_eq_zero_of_no_sems (by decide) r.2⟩)
    (Cert.ReferenceProjMemWIdeal.Value.run (F := Ideal) m g)

theorem equal : Cert.algebraic_KernelProjMemWIdeal_ReferenceProjMemWIdeal := by
  intro m g m' g' hp ha
  refine ⟨fun c => R m c, ?_, ?_⟩
  · refine (θ_run Cert.KernelProjMemWIdeal.defs _ _).mono (fun r h c => ?_) (Cert.KernelProjMemWIdeal.Value.run_blocks m g)
    exact ⟨(h c).1.trans (final2 m c), (h c).2⟩
  · refine (θ_run Cert.ReferenceProjMemWIdeal.defs _ _).mono (fun r h c => ?_) (Cert.ReferenceProjMemWIdeal.Value.run (F := Ideal) m' g')
    obtain ⟨r0, rest⟩ := h c
    obtain ⟨e0, e1, e2⟩ := ha c
    rw [e0, e2] at r0
    exact ⟨r0.trans (Cert.ReferenceProjMemWIdeal.Read.val_main_v5_eq _ _), rest⟩

end Cert.ProjMemW

end
-- ==== Proof.MemKvW.lean ====
module

public import proofs.«01_k».proof.Defs
public import proofs.«01_k».proof.Proof.Gen.KernelMemKvW.Frame
public import proofs.«01_k».proof.Proof.Gen.KernelMemKvWIdeal.Value
public import proofs.«01_k».proof.Proof.Gen.ReferenceMemKvWIdeal.Read
public import Idealize.ShloMosaic.Lib.Pipeline.ValueKit
public import Idealize.ShloMosaic.Lib.Pointwise
public import Idealize.ShloMosaic.Lib.Claim

@[expose] public section

set_option maxRecDepth 16384

noncomputable section

/-! The gradient of the weight that makes the memory's keys and values. -/

namespace Cert.MemKvW

open Cert.KernelMemKvWIdeal Cert.KernelMemKvWIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S256x1024, .bf16⟩ : BufTy).Contents (Elt Ideal) := m ((c : Thread nD τ).loc main_arg0)
abbrev a2 : (⟨S256x1024, .bf16⟩ : BufTy).Contents (Elt Ideal) := m ((c : Thread nD τ).loc main_arg2)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

theorem blk0 (t : Fin cfg0.N) (k : Fin 256) (i : Fin 1024) : iblk m c 0 t (ix2 k i) = a0 m c (ix2 k i) := by
  blk_ext [iblk, V, idx0 t]
theorem blk1 (t : Fin cfg0.N) (k : Fin 256) (j : Fin 1024) : iblk m c 1 t (ix2 k j) = a2 m c (ix2 k j) := by
  blk_ext [iblk, V, idx1 t]

theorem pay1_at (x y : Vec Ideal S256x1024 .bf16) (i j : Fin 1024) : k0_pay1 x y (ix2 i j) = ∑ k : Fin 256, x (ix2 k i) * y (ix2 k j) := by
  pointwise [k0_pay1]

theorem ref_at (x0 x2 : (⟨S256x1024, .bf16⟩ : BufTy).Contents (Elt Ideal)) (i j : Fin 1024) :
    Cert.ReferenceMemKvWIdeal.Read.val_main_v5 (F := Ideal) x0 x2 (ix2 i j) = ∑ l : Fin 256, x2 (ix2 l j) * x0 (ix2 l i) := by
  pointwise [Cert.ReferenceMemKvWIdeal.Read.val_main_v5, Cert.ReferenceMemKvWIdeal.Read.val_main_v4, Cert.ReferenceMemKvWIdeal.Read.val_main_v3,
    Cert.ReferenceMemKvWIdeal.Read.val_main_v2, Cert.ReferenceMemKvWIdeal.Read.val_main_v0]

abbrev R : (⟨S1024x1024, .bf16⟩ : BufTy).Contents (Elt Ideal) := Cert.ReferenceMemKvWIdeal.Read.val_main_v5 (F := Ideal) (a0 m c) (a2 m c)

theorem out2 (t : Fin cfg0.N) : out0_2 (iblk m c 0 t) (iblk m c 1 t) = k0_pay1 (iblk m c 0 t) (iblk m c 1 t) := by
  frame_out

theorem out_at (t : Fin cfg0.N) (i j : Fin 1024) : k0_pay1 (iblk m c 0 t) (iblk m c 1 t) (ix2 i j) = R m c (ix2 i j) := by
  rw [pay1_at]
  refine Eq.trans ?_ (ref_at _ _ i j).symm
  exact Finset.sum_congr rfl fun k _ => by rw [blk0, blk1, mul_comm]

theorem final2 : (dats m 0 c).arrAt 2 cfg0.N = R m c := by
  refine (dats m 0 c).arrAt_eq_of_covers 2 _ (by decide +kernel) fun t hf y => ?_
  blk_simp
  rw [after0_2, out2]
  have hy : ((cfg0.win 2).blk t).view.emb y = ix2 (n0 := 1024) (n1 := 1024) (y 0) (y 1) := by
    blk_ext [idx2 t]
  rw [hy]
  exact (congrArg _ (eq_ix2 (y : S1024x1024.Idx))).trans (out_at m c t (y 0) (y 1))
theorem frame_kernel : Cert.quiescent_KernelMemKvW := fun m g _ => Cert.KernelMemKvW.Gen.frame m g

theorem frame_ideal : Cert.quiescent_KernelMemKvWIdeal := fun m g _ => Cert.KernelMemKvWIdeal.Gen.frame m g

theorem frame_reference : Cert.quiescent_ReferenceMemKvWIdeal := fun m g _ =>
  (θ_run Cert.ReferenceMemKvWIdeal.defs _ _).mono (fun r h => ⟨fun c => (h c).2, sem_eq_zero_of_no_sems (by decide) r.2⟩)
    (Cert.ReferenceMemKvWIdeal.Value.run (F := Ideal) m g)

theorem equal : Cert.algebraic_KernelMemKvWIdeal_ReferenceMemKvWIdeal := by
  intro m g m' g' hp ha
  refine ⟨fun c => R m c, ?_, ?_⟩
  · refine (θ_run Cert.KernelMemKvWIdeal.defs _ _).mono (fun r h c => ?_) (Cert.KernelMemKvWIdeal.Value.run_blocks m g)
    exact ⟨(h c).1.trans (final2 m c), (h c).2⟩
  · refine (θ_run Cert.ReferenceMemKvWIdeal.defs _ _).mono (fun r h c => ?_) (Cert.ReferenceMemKvWIdeal.Value.run (F := Ideal) m' g')
    obtain ⟨r0, rest⟩ := h c
    obtain ⟨e0, e1, e2⟩ := ha c
    rw [e0, e2] at r0
    exact ⟨r0.trans (Cert.ReferenceMemKvWIdeal.Read.val_main_v5_eq _ _), rest⟩

end Cert.MemKvW

end
-- ==== Proof.MemKvAct.lean ====
module

public import proofs.«01_k».proof.Defs
public import proofs.«01_k».proof.Proof.Gen.KernelMemKvAct.Frame
public import proofs.«01_k».proof.Proof.Gen.KernelMemKvActIdeal.Value
public import proofs.«01_k».proof.Proof.Gen.ReferenceMemKvActIdeal.Read
public import Idealize.ShloMosaic.Lib.Pipeline.ValueKit
public import Idealize.ShloMosaic.Lib.Pointwise
public import Idealize.ShloMosaic.Lib.Claim

@[expose] public section

set_option maxRecDepth 16384

noncomputable section

/-! The gradient of the normalized memory under the weight that makes its keys and values. -/

namespace Cert.MemKvAct

open Cert.KernelMemKvActIdeal Cert.KernelMemKvActIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a1 : (⟨S1024x1024, .f32⟩ : BufTy).Contents (Elt Ideal) := m ((c : Thread nD τ).loc main_arg1)
abbrev a2 : (⟨S256x1024, .bf16⟩ : BufTy).Contents (Elt Ideal) := m ((c : Thread nD τ).loc main_arg2)

theorem entry_w : V m c main_v0 = (truncf .bf16 (a1 m c : FVec Ideal S1024x1024 .f32) bitsLt_bf16_f32 : FVec Ideal S1024x1024 .bf16) := by
  unfold_abbrev_sides
  after_results
theorem w_at (d q : Fin 1024) : V m c main_v0 (ix2 d q) = a1 m c (ix2 d q) := by
  rw [entry_w]
  pointwise

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

theorem blk0 (t : Fin cfg0.N) (i : Fin 256) (k : Fin 1024) : iblk m c 0 t (ix2 i k) = a2 m c (ix2 i k) := by
  blk_ext [iblk, V, idx0 t]
theorem blk1 (t : Fin cfg0.N) (j k : Fin 1024) : iblk m c 1 t (ix2 j k) = a1 m c (ix2 j k) := by
  refine Eq.trans ?_ (w_at m c _ _)
  blk_ext [iblk, idx1 t]

theorem pay1_at (x : Vec Ideal S256x1024 .bf16) (y : Vec Ideal S1024x1024 .bf16) (i : Fin 256) (j : Fin 1024) :
    k0_pay1 x y (ix2 i j) = ∑ k : Fin 1024, x (ix2 i k) * y (ix2 j k) := by
  pointwise [k0_pay1]

theorem ref_at (x1 : (⟨S1024x1024, .f32⟩ : BufTy).Contents (Elt Ideal)) (x2 : (⟨S256x1024, .bf16⟩ : BufTy).Contents (Elt Ideal)) (i : Fin 256) (j : Fin 1024) :
    Cert.ReferenceMemKvActIdeal.Read.val_main_v3 (F := Ideal) x1 x2 (ix2 i j) = ∑ k : Fin 1024, x2 (ix2 i k) * x1 (ix2 j k) := by
  pointwise [Cert.ReferenceMemKvActIdeal.Read.val_main_v3, Cert.ReferenceMemKvActIdeal.Read.val_main_v2]

abbrev R : (⟨S256x1024, .f32⟩ : BufTy).Contents (Elt Ideal) := Cert.ReferenceMemKvActIdeal.Read.val_main_v3 (F := Ideal) (a1 m c) (a2 m c)

theorem out2 (t : Fin cfg0.N) : out0_2 (iblk m c 0 t) (iblk m c 1 t) = k0_pay1 (iblk m c 0 t) (iblk m c 1 t) := by
  frame_out

theorem out_at (t : Fin cfg0.N) (i : Fin 256) (j : Fin 1024) : k0_pay1 (iblk m c 0 t) (iblk m c 1 t) (ix2 i j) = R m c (ix2 i j) := by
  rw [pay1_at]
  refine Eq.trans ?_ (ref_at _ _ i j).symm
  exact Finset.sum_congr rfl fun k _ => by rw [blk0, blk1]

theorem final2 : (dats m 0 c).arrAt 2 cfg0.N = R m c := by
  refine (dats m 0 c).arrAt_eq_of_covers 2 _ (by decide +kernel) fun t hf y => ?_
  blk_simp
  rw [after0_2, out2]
  have hy : ((cfg0.win 2).blk t).view.emb y = ix2 (n0 := 256) (n1 := 1024) (y 0) (y 1) := by
    blk_ext [idx2 t]
  rw [hy]
  exact (congrArg _ (eq_ix2 (y : S256x1024.Idx))).trans (out_at m c t (y 0) (y 1))
theorem frame_kernel : Cert.quiescent_KernelMemKvAct := fun m g _ => Cert.KernelMemKvAct.Gen.frame m g

theorem frame_ideal : Cert.quiescent_KernelMemKvActIdeal := fun m g _ => Cert.KernelMemKvActIdeal.Gen.frame m g

theorem frame_reference : Cert.quiescent_ReferenceMemKvActIdeal := fun m g _ =>
  (θ_run Cert.ReferenceMemKvActIdeal.defs _ _).mono (fun r h => ⟨fun c => (h c).2, sem_eq_zero_of_no_sems (by decide) r.2⟩)
    (Cert.ReferenceMemKvActIdeal.Value.run (F := Ideal) m g)

theorem equal : Cert.algebraic_KernelMemKvActIdeal_ReferenceMemKvActIdeal := by
  intro m g m' g' hp ha
  refine ⟨fun c => R m c, ?_, ?_⟩
  · refine (θ_run Cert.KernelMemKvActIdeal.defs _ _).mono (fun r h c => ?_) (Cert.KernelMemKvActIdeal.Value.run_blocks m g)
    exact ⟨(h c).1.trans (final2 m c), (h c).2⟩
  · refine (θ_run Cert.ReferenceMemKvActIdeal.defs _ _).mono (fun r h c => ?_) (Cert.ReferenceMemKvActIdeal.Value.run (F := Ideal) m' g')
    obtain ⟨r0, rest⟩ := h c
    obtain ⟨e0, e1, e2⟩ := ha c
    rw [e1, e2] at r0
    exact ⟨r0.trans (Cert.ReferenceMemKvActIdeal.Read.val_main_v3_eq _ _), rest⟩

end Cert.MemKvAct

end
-- ==== Proof.NormMem.lean ====
module

public import proofs.«01_k».proof.Defs
public import proofs.«01_k».proof.Proof.Gen.KernelNormMem.Frame
public import proofs.«01_k».proof.Proof.Gen.KernelNormMemIdeal.Value
public import proofs.«01_k».proof.Proof.Gen.ReferenceNormMemIdeal.Read
public import proofs.«01_k».proof.Proof.NormGrad
public import Idealize.ShloMosaic.Lib.Pipeline.ValueKit
public import Idealize.ShloMosaic.Lib.Pointwise
public import Idealize.ShloMosaic.Lib.Claim

@[expose] public section

set_option maxRecDepth 16384

noncomputable section

/-! The gradient of the memory norm's gain. -/

namespace Cert.NormMem

open Cert.KernelNormMemIdeal Cert.KernelNormMemIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S256x1024, .f32⟩ : BufTy).Contents (Elt Ideal) := m ((c : Thread nD τ).loc main_arg0)
abbrev a2 : (⟨S256x1024, .f32⟩ : BufTy).Contents (Elt Ideal) := m ((c : Thread nD τ).loc main_arg2)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

theorem blk0 (t : Fin cfg0.N) (l : Fin 256) (d : Fin 1024) : iblk m c 0 t (ix2 l d) = a0 m c (ix2 l d) := by
  blk_ext [iblk, V, idx0 t]
theorem blk1 (t : Fin cfg0.N) (l : Fin 256) (d : Fin 1024) : iblk m c 1 t (ix2 l d) = a2 m c (ix2 l d) := by
  blk_ext [iblk, V, idx1 t]

/-- The gain's gradient at a column. -/
def dgain (x u : Fin 256 → Fin 1024 → EReal) (d : Fin 1024) : EReal := ∑ l, u l d * x l d * NormGrad.rinv (x l)

theorem pay1_at (x y : Vec Ideal S256x1024 .f32) (j : Fin 1024) :
    k0_pay1 x y (ix2 0 j) = dgain (fun l d => x (ix2 l d)) (fun l d => y (ix2 l d)) j := by
  pointwise [k0_pay1]
  rfl

open Cert.ReferenceNormMemIdeal.Read in
theorem rinv_at (x0 : (⟨S256x1024, .f32⟩ : BufTy).Contents (Elt Ideal)) (l : Fin 256) :
    val_main_v8 (F := Ideal) x0 (ix2 l 0) = NormGrad.rinv (fun d => x0 (ix2 l d)) := by
  pointwise [val_main_v8, val_main_v7, val_main_v6, val_main_v5, val_main_v4, val_main_v3, val_main_v2, val_main_v1, val_main_cst, val_main_cst_0, val_main_cst_1]
  rfl

open Cert.ReferenceNormMemIdeal.Read in
theorem ref_at (x0 x2 : (⟨S256x1024, .f32⟩ : BufTy).Contents (Elt Ideal)) (j : Fin 1024) :
    val_main_v18 (F := Ideal) x0 x2 (ix2 0 j) = dgain (fun l d => x0 (ix2 l d)) (fun l d => x2 (ix2 l d)) j := by
  pointwise [val_main_v18, val_main_v17, val_main_v16, val_main_v15, val_main_v14, val_main_v10, val_main_v9, val_main_cst_2, val_main_cst_3]
  simp only [Fin.sum_univ_one]
  exact Finset.sum_congr rfl fun l _ => by rw [rinv_at]; exact (mul_comm _ _).trans (mul_assoc _ _ _).symm

abbrev R : (⟨S1x1024, .f32⟩ : BufTy).Contents (Elt Ideal) := Cert.ReferenceNormMemIdeal.Read.val_main_v18 (F := Ideal) (a0 m c) (a2 m c)

theorem out2 (t : Fin cfg0.N) : out0_2 (iblk m c 0 t) (iblk m c 1 t) = k0_pay1 (iblk m c 0 t) (iblk m c 1 t) := by
  frame_out

theorem out_at (t : Fin cfg0.N) (j : Fin 1024) : k0_pay1 (iblk m c 0 t) (iblk m c 1 t) (ix2 0 j) = R m c (ix2 0 j) := by
  rw [pay1_at]
  refine Eq.trans ?_ (ref_at _ _ j).symm
  simp only [blk0, blk1]

theorem final2 : (dats m 0 c).arrAt 2 cfg0.N = R m c := by
  refine (dats m 0 c).arrAt_eq_of_covers 2 _ (by decide +kernel) fun t hf y => ?_
  blk_simp
  rw [after0_2, out2]
  have hy : ((cfg0.win 2).blk t).view.emb y = ix2 (n0 := 1) (n1 := 1024) 0 (y 1) := by
    blk_ext [idx2 t]
  rw [hy]
  refine (congrArg _ ?_).trans (out_at m c t (y 1))
  exact (eq_ix2 (y : S1x1024.Idx)).trans (congrArg (fun a : Fin 1 => (ix2 a (y 1) : S1x1024.Idx)) (Subsingleton.elim _ _))
theorem frame_kernel : Cert.quiescent_KernelNormMem := fun m g _ => Cert.KernelNormMem.Gen.frame m g

theorem frame_ideal : Cert.quiescent_KernelNormMemIdeal := fun m g _ => Cert.KernelNormMemIdeal.Gen.frame m g

theorem frame_reference : Cert.quiescent_ReferenceNormMemIdeal := fun m g _ =>
  (θ_run Cert.ReferenceNormMemIdeal.defs _ _).mono (fun r h => ⟨fun c => (h c).2, sem_eq_zero_of_no_sems (by decide) r.2⟩)
    (Cert.ReferenceNormMemIdeal.Value.run (F := Ideal) m g)

theorem equal : Cert.algebraic_KernelNormMemIdeal_ReferenceNormMemIdeal := by
  intro m g m' g' hp ha
  refine ⟨fun c => R m c, ?_, ?_⟩
  · refine (θ_run Cert.KernelNormMemIdeal.defs _ _).mono (fun r h c => ?_) (Cert.KernelNormMemIdeal.Value.run_blocks m g)
    exact ⟨(h c).1.trans (final2 m c), (h c).2⟩
  · refine (θ_run Cert.ReferenceNormMemIdeal.defs _ _).mono (fun r h c => ?_) (Cert.ReferenceNormMemIdeal.Value.run (F := Ideal) m' g')
    obtain ⟨r0, rest⟩ := h c
    obtain ⟨e0, e1, e2⟩ := ha c
    rw [e0, e2] at r0
    exact ⟨r0.trans (Cert.ReferenceNormMemIdeal.Read.val_main_v18_eq _ _), rest⟩

end Cert.NormMem

end
-- ==== Proof.AdamwWIn.lean ====
module

public import proofs.«01_k».proof.Defs
public import proofs.«01_k».proof.Proof.Gen.KernelAdamwWIn.Frame
public import proofs.«01_k».proof.Proof.Gen.KernelAdamwWInIdeal.Value
public import proofs.«01_k».proof.Proof.Gen.ReferenceAdamwWInIdeal.Read
public import Idealize.ShloMosaic.Lib.Pipeline.ValueKit
public import Idealize.ShloMosaic.Lib.Pointwise
public import Idealize.ShloMosaic.Lib.Claim

@[expose] public section

set_option maxRecDepth 16384

noncomputable section

/-! One weight's update from the parts of its gradient: w_in's rows. -/

namespace Cert.AdamwWIn

open Cert.KernelAdamwWInIdeal Cert.KernelAdamwWInIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S1024x1664, .f32⟩ : BufTy).Contents (Elt Ideal) := m ((c : Thread nD τ).loc main_arg0)
abbrev a1 : (⟨S3x1024x1664, .bf16⟩ : BufTy).Contents (Elt Ideal) := m ((c : Thread nD τ).loc main_arg1)
abbrev a2 : (⟨S1024x1664, .f32⟩ : BufTy).Contents (Elt Ideal) := m ((c : Thread nD τ).loc main_arg2)
abbrev a3 : (⟨S1024x1664, .f32⟩ : BufTy).Contents (Elt Ideal) := m ((c : Thread nD τ).loc main_arg3)
abbrev a4 : (⟨S1024x1664, .f32⟩ : BufTy).Contents (Elt Ideal) := m ((c : Thread nD τ).loc main_arg4)

/-! ## The blocks at a point -/

theorem lt (t : Fin cfg0.N) : t.val < 8 := lt_of_lt_of_eq t.isLt N_0
theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

abbrev row (t : Fin cfg0.N) (i : Fin 128) : Fin 1024 := ⟨t.val * 128 + i.val, by have := lt t; omega⟩

theorem blk0 (t : Fin cfg0.N) (i : Fin 128) (j : Fin 1664) : iblk m c 0 t (ix2 i j) = a0 m c (ix2 (row t i) j) := by
  blk_ext [iblk, V, idx0 t]
theorem blk1 (t : Fin cfg0.N) (s : Fin 3) (i : Fin 128) (j : Fin 1664) : iblk m c 1 t (ix3 s i j) = a1 m c (ix3 s (row t i) j) := by
  blk_ext [iblk, V, idx1 t]
theorem blk2 (t : Fin cfg0.N) (i : Fin 128) (j : Fin 1664) : iblk m c 2 t (ix2 i j) = a2 m c (ix2 (row t i) j) := by
  blk_ext [iblk, V, idx2 t]
theorem blk3 (t : Fin cfg0.N) (i : Fin 128) (j : Fin 1664) : iblk m c 3 t (ix2 i j) = a3 m c (ix2 (row t i) j) := by
  blk_ext [iblk, V, idx3 t]
theorem blk4 (t : Fin cfg0.N) (i : Fin 128) (j : Fin 1664) : iblk m c 4 t (ix2 i j) = a4 m c (ix2 (row t i) j) := by
  blk_ext [iblk, V, idx4 t]

/-! ## The gradient and the update, element by element -/

open Cert.ReferenceAdamwWInIdeal.Read

section
variable (o : Vec Ideal S128x1664 .f32) (p q r : Vec Ideal S1x128x1664 .bf16) (w u v : Vec Ideal S128x1664 .f32)
  (x0 : (⟨S1024x1664, .f32⟩ : BufTy).Contents (Elt Ideal)) (x1 : (⟨S3x1024x1664, .bf16⟩ : BufTy).Contents (Elt Ideal))
  (x2 x3 x4 : (⟨S1024x1664, .f32⟩ : BufTy).Contents (Elt Ideal)) (i : Fin 128) (l : Fin 1024) (j : Fin 1664)

theorem sum_at : k0_pay2 o p q r (ix2 i j) = o (ix2 i j) + p (ix3 0 i j) + q (ix3 0 i j) + r (ix3 0 i j) := by
  pointwise [k0_pay2]
theorem ref_sum_at : val_main_v2 (F := Ideal) x0 x1 (ix2 l j) = x0 (ix2 l j) + x1 (ix3 0 l j) + x1 (ix3 1 l j) + x1 (ix3 2 l j) := by
  pointwise [val_main_v2, val_main_v1, val_main_v0, val_main_cst]
  rw [Fin.sum_univ_three]
  simp only [add_assoc]

theorem mean (hg : k0_pay2 o p q r (ix2 i j) = val_main_v2 (F := Ideal) x0 x1 (ix2 l j)) (hu : u (ix2 i j) = x3 (ix2 l j)) :
    k0_pay3 o p q r u (ix2 i j) = val_main_v7 (F := Ideal) x0 x1 x3 (ix2 l j) := by
  pointwise [k0_pay3, val_main_v7, val_main_v6, val_main_v5, val_main_v4, val_main_v3, val_main_cst_0, val_main_cst_1]
  rw [hg, hu]
theorem square (hg : k0_pay2 o p q r (ix2 i j) = val_main_v2 (F := Ideal) x0 x1 (ix2 l j)) (hv : v (ix2 i j) = x4 (ix2 l j)) :
    k0_pay4 o p q r v (ix2 i j) = val_main_v13 (F := Ideal) x0 x1 x4 (ix2 l j) := by
  pointwise [k0_pay4, val_main_v13, val_main_v12, val_main_v11, val_main_v10, val_main_v9, val_main_v8, val_main_cst_2, val_main_cst_3]
  rw [hg, hv]
theorem delta (hg : k0_pay2 o p q r (ix2 i j) = val_main_v2 (F := Ideal) x0 x1 (ix2 l j)) (hw : w (ix2 i j) = x2 (ix2 l j))
    (hu : u (ix2 i j) = x3 (ix2 l j)) (hv : v (ix2 i j) = x4 (ix2 l j)) :
    k0_pay1 w (k0_pay5 o p q r u) (k0_pay6 o p q r v) (ix2 i j) = val_main_v26 (F := Ideal) x0 x1 x2 x3 x4 (ix2 l j) := by
  have hm := mean o p q r u x0 x1 x3 i l j hg hu
  have hs := square o p q r v x0 x1 x4 i l j hg hv
  pointwise [k0_pay1, k0_pay5, k0_pay6, val_main_v26, val_main_v25, val_main_v24, val_main_v23, val_main_v22, val_main_v21, val_main_v20,
    val_main_v19, val_main_v18, val_main_v17, val_main_v16, val_main_v15, val_main_v14, val_main_cst_4, val_main_cst_5, val_main_cst_6,
    val_main_cst_7, val_main_cst_8]
  rw [hm, hs, hw]
end

/-! ## The arrays -/

abbrev R5 : (⟨S1024x1664, .f32⟩ : BufTy).Contents (Elt Ideal) := val_main_v2 (F := Ideal) (a0 m c) (a1 m c)
abbrev R6 : (⟨S1024x1664, .f32⟩ : BufTy).Contents (Elt Ideal) := val_main_v26 (F := Ideal) (a0 m c) (a1 m c) (a2 m c) (a3 m c) (a4 m c)
abbrev R7 : (⟨S1024x1664, .f32⟩ : BufTy).Contents (Elt Ideal) := val_main_v7 (F := Ideal) (a0 m c) (a1 m c) (a3 m c)
abbrev R8 : (⟨S1024x1664, .f32⟩ : BufTy).Contents (Elt Ideal) := val_main_v13 (F := Ideal) (a0 m c) (a1 m c) (a4 m c)

/-- The parts received from the other chips, at a point. -/
abbrev part0 (t : Fin cfg0.N) : Vec Ideal S1x128x1664 .bf16 := View.ld (iblk m c 1 t) r0_1
abbrev part1 (t : Fin cfg0.N) : Vec Ideal S1x128x1664 .bf16 := View.ld (iblk m c 1 t) r0_2
abbrev part2 (t : Fin cfg0.N) : Vec Ideal S1x128x1664 .bf16 := View.ld (iblk m c 1 t) r0_3

theorem part0_at (t : Fin cfg0.N) (i : Fin 128) (j : Fin 1664) : part0 m c t (ix3 0 i j) = a1 m c (ix3 0 (row t i) j) := by
  refine Eq.trans ?_ (blk1 m c t 0 i j)
  exact View.ld_unit_apply_of _ _ _ _ _ _ (by intro a; fin_cases a <;> simp)
theorem part1_at (t : Fin cfg0.N) (i : Fin 128) (j : Fin 1664) : part1 m c t (ix3 0 i j) = a1 m c (ix3 1 (row t i) j) := by
  refine Eq.trans ?_ (blk1 m c t 1 i j)
  exact View.ld_unit_apply_of _ _ _ _ _ _ (by intro a; fin_cases a <;> simp)
theorem part2_at (t : Fin cfg0.N) (i : Fin 128) (j : Fin 1664) : part2 m c t (ix3 0 i j) = a1 m c (ix3 2 (row t i) j) := by
  refine Eq.trans ?_ (blk1 m c t 2 i j)
  exact View.ld_unit_apply_of _ _ _ _ _ _ (by intro a; fin_cases a <;> simp)

theorem sum_blk (t : Fin cfg0.N) (i : Fin 128) (j : Fin 1664) :
    k0_pay2 (iblk m c 0 t) (part0 m c t) (part1 m c t) (part2 m c t) (ix2 i j) = R5 m c (ix2 (row t i) j) := by
  rw [sum_at, part0_at, part1_at, part2_at, blk0]
  exact (ref_sum_at _ _ _ _).symm

theorem out5 (t : Fin cfg0.N) : out0_5 (iblk m c 0 t) (iblk m c 1 t) (iblk m c 2 t) (iblk m c 3 t) (iblk m c 4 t)
    = k0_pay2 (iblk m c 0 t) (part0 m c t) (part1 m c t) (part2 m c t) := by
  frame_out
  rfl
theorem out6 (t : Fin cfg0.N) : out0_6 (iblk m c 0 t) (iblk m c 1 t) (iblk m c 2 t) (iblk m c 3 t) (iblk m c 4 t)
    = k0_pay1 (iblk m c 2 t) (k0_pay5 (iblk m c 0 t) (part0 m c t) (part1 m c t) (part2 m c t) (iblk m c 3 t))
      (k0_pay6 (iblk m c 0 t) (part0 m c t) (part1 m c t) (part2 m c t) (iblk m c 4 t)) := by
  frame_out
  rfl
theorem out7 (t : Fin cfg0.N) : out0_7 (iblk m c 0 t) (iblk m c 1 t) (iblk m c 2 t) (iblk m c 3 t) (iblk m c 4 t)
    = k0_pay3 (iblk m c 0 t) (part0 m c t) (part1 m c t) (part2 m c t) (iblk m c 3 t) := by
  frame_out
  rfl
theorem out8 (t : Fin cfg0.N) : out0_8 (iblk m c 0 t) (iblk m c 1 t) (iblk m c 2 t) (iblk m c 3 t) (iblk m c 4 t)
    = k0_pay4 (iblk m c 0 t) (part0 m c t) (part1 m c t) (part2 m c t) (iblk m c 4 t) := by
  frame_out
  rfl

theorem final5 : (dats m 0 c).arrAt 5 cfg0.N = R5 m c := by
  refine (dats m 0 c).arrAt_eq_of_covers 5 _ (by decide +kernel) fun t hf y => ?_
  blk_simp
  rw [after0_5, out5]
  have hy : ((cfg0.win 5).blk t).view.emb y = ix2 (n0 := 1024) (n1 := 1664) (row t (y 0)) (y 1) := by
    blk_ext [idx5 t]
  rw [hy]
  exact (congrArg _ (eq_ix2 (y : S128x1664.Idx))).trans (sum_blk m c t (y 0) (y 1))

theorem final6 : (dats m 0 c).arrAt 6 cfg0.N = R6 m c := by
  refine (dats m 0 c).arrAt_eq_of_covers 6 _ (by decide +kernel) fun t hf y => ?_
  blk_simp
  rw [after0_6, out6]
  have hy : ((cfg0.win 6).blk t).view.emb y = ix2 (n0 := 1024) (n1 := 1664) (row t (y 0)) (y 1) := by
    blk_ext [idx6 t]
  rw [hy]
  exact (congrArg _ (eq_ix2 (y : S128x1664.Idx))).trans (delta _ _ _ _ _ _ _ _ _ _ _ _ (y 0) (row t (y 0)) (y 1) (sum_blk m c t _ _) (blk2 m c t _ _) (blk3 m c t _ _) (blk4 m c t _ _))

theorem final7 : (dats m 0 c).arrAt 7 cfg0.N = R7 m c := by
  refine (dats m 0 c).arrAt_eq_of_covers 7 _ (by decide +kernel) fun t hf y => ?_
  blk_simp
  rw [after0_7, out7]
  have hy : ((cfg0.win 7).blk t).view.emb y = ix2 (n0 := 1024) (n1 := 1664) (row t (y 0)) (y 1) := by
    blk_ext [idx7 t]
  rw [hy]
  exact (congrArg _ (eq_ix2 (y : S128x1664.Idx))).trans (mean _ _ _ _ _ _ _ _ (y 0) (row t (y 0)) (y 1) (sum_blk m c t _ _) (blk3 m c t _ _))

theorem final8 : (dats m 0 c).arrAt 8 cfg0.N = R8 m c := by
  refine (dats m 0 c).arrAt_eq_of_covers 8 _ (by decide +kernel) fun t hf y => ?_
  blk_simp
  rw [after0_8, out8]
  have hy : ((cfg0.win 8).blk t).view.emb y = ix2 (n0 := 1024) (n1 := 1664) (row t (y 0)) (y 1) := by
    blk_ext [idx8 t]
  rw [hy]
  exact (congrArg _ (eq_ix2 (y : S128x1664.Idx))).trans (square _ _ _ _ _ _ _ _ (y 0) (row t (y 0)) (y 1) (sum_blk m c t _ _) (blk4 m c t _ _))

theorem frame_kernel : Cert.quiescent_KernelAdamwWIn := fun m g _ => Cert.KernelAdamwWIn.Gen.frame m g

theorem frame_ideal : Cert.quiescent_KernelAdamwWInIdeal := fun m g _ => Cert.KernelAdamwWInIdeal.Gen.frame m g

theorem frame_reference : Cert.quiescent_ReferenceAdamwWInIdeal := fun m g _ =>
  (θ_run Cert.ReferenceAdamwWInIdeal.defs _ _).mono (fun r h => ⟨fun c => (h c).2.2.2.2, sem_eq_zero_of_no_sems (by decide) r.2⟩)
    (Cert.ReferenceAdamwWInIdeal.Value.run (F := Ideal) m g)

theorem equal : Cert.algebraic_KernelAdamwWInIdeal_ReferenceAdamwWInIdeal := by
  intro m g m' g' hp ha
  refine ⟨fun c => R5 m c, fun c => R6 m c, fun c => R7 m c, fun c => R8 m c, ?_, ?_⟩
  · refine (θ_run Cert.KernelAdamwWInIdeal.defs _ _).mono (fun r h c => ?_) (Cert.KernelAdamwWInIdeal.Value.run_blocks m g)
    obtain ⟨r5, r6, r7, r8, rest⟩ := h c
    exact ⟨r5.trans (final5 m c), r6.trans (final6 m c), r7.trans (final7 m c), r8.trans (final8 m c), rest⟩
  · refine (θ_run Cert.ReferenceAdamwWInIdeal.defs _ _).mono (fun r h c => ?_) (Cert.ReferenceAdamwWInIdeal.Value.run (F := Ideal) m' g')
    obtain ⟨r5, r6, r7, r8, rest⟩ := h c
    obtain ⟨e0, e1, e2, e3, e4⟩ := ha c
    rw [e0, e1] at r5
    rw [e0, e1, e2, e3, e4] at r6
    rw [e0, e1, e3] at r7
    rw [e0, e1, e4] at r8
    exact ⟨r5.trans (val_main_v2_eq _ _), r6.trans (val_main_v26_eq _ _ _ _ _), r7.trans (val_main_v7_eq _ _ _), r8.trans (val_main_v13_eq _ _ _), rest⟩

end Cert.AdamwWIn

end
-- ==== Proof.AdamwSquare.lean ====
module

public import proofs.«01_k».proof.Defs
public import proofs.«01_k».proof.Proof.Gen.KernelAdamwSquare.Frame
public import proofs.«01_k».proof.Proof.Gen.KernelAdamwSquareIdeal.Value
public import proofs.«01_k».proof.Proof.Gen.ReferenceAdamwSquareIdeal.Read
public import Idealize.ShloMosaic.Lib.Pipeline.ValueKit
public import Idealize.ShloMosaic.Lib.Pointwise
public import Idealize.ShloMosaic.Lib.Claim

@[expose] public section

set_option maxRecDepth 16384

noncomputable section

/-! One weight's update from the parts of its gradient: w_out's rows, and those of the two weights of the same shape. -/

namespace Cert.AdamwSquare

open Cert.KernelAdamwSquareIdeal Cert.KernelAdamwSquareIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S128x1024, .f32⟩ : BufTy).Contents (Elt Ideal) := m ((c : Thread nD τ).loc main_arg0)
abbrev a1 : (⟨S3x128x1024, .bf16⟩ : BufTy).Contents (Elt Ideal) := m ((c : Thread nD τ).loc main_arg1)
abbrev a2 : (⟨S128x1024, .f32⟩ : BufTy).Contents (Elt Ideal) := m ((c : Thread nD τ).loc main_arg2)
abbrev a3 : (⟨S128x1024, .f32⟩ : BufTy).Contents (Elt Ideal) := m ((c : Thread nD τ).loc main_arg3)
abbrev a4 : (⟨S128x1024, .f32⟩ : BufTy).Contents (Elt Ideal) := m ((c : Thread nD τ).loc main_arg4)

/-! ## The blocks at a point -/

theorem lt (t : Fin cfg0.N) : t.val < 1 := lt_of_lt_of_eq t.isLt N_0
theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

abbrev row (t : Fin cfg0.N) (i : Fin 128) : Fin 128 := ⟨t.val * 128 + i.val, by have := lt t; omega⟩

theorem blk0 (t : Fin cfg0.N) (i : Fin 128) (j : Fin 1024) : iblk m c 0 t (ix2 i j) = a0 m c (ix2 (row t i) j) := by
  blk_ext [iblk, V, idx0 t]
theorem blk1 (t : Fin cfg0.N) (s : Fin 3) (i : Fin 128) (j : Fin 1024) : iblk m c 1 t (ix3 s i j) = a1 m c (ix3 s (row t i) j) := by
  blk_ext [iblk, V, idx1 t]
theorem blk2 (t : Fin cfg0.N) (i : Fin 128) (j : Fin 1024) : iblk m c 2 t (ix2 i j) = a2 m c (ix2 (row t i) j) := by
  blk_ext [iblk, V, idx2 t]
theorem blk3 (t : Fin cfg0.N) (i : Fin 128) (j : Fin 1024) : iblk m c 3 t (ix2 i j) = a3 m c (ix2 (row t i) j) := by
  blk_ext [iblk, V, idx3 t]
theorem blk4 (t : Fin cfg0.N) (i : Fin 128) (j : Fin 1024) : iblk m c 4 t (ix2 i j) = a4 m c (ix2 (row t i) j) := by
  blk_ext [iblk, V, idx4 t]

/-! ## The gradient and the update, element by element -/

open Cert.ReferenceAdamwSquareIdeal.Read

section
variable (o : Vec Ideal S128x1024 .f32) (p q r : Vec Ideal S1x128x1024 .bf16) (w u v : Vec Ideal S128x1024 .f32)
  (x0 : (⟨S128x1024, .f32⟩ : BufTy).Contents (Elt Ideal)) (x1 : (⟨S3x128x1024, .bf16⟩ : BufTy).Contents (Elt Ideal))
  (x2 x3 x4 : (⟨S128x1024, .f32⟩ : BufTy).Contents (Elt Ideal)) (i : Fin 128) (l : Fin 128) (j : Fin 1024)

theorem sum_at : k0_pay2 o p q r (ix2 i j) = o (ix2 i j) + p (ix3 0 i j) + q (ix3 0 i j) + r (ix3 0 i j) := by
  pointwise [k0_pay2]
theorem ref_sum_at : val_main_v2 (F := Ideal) x0 x1 (ix2 l j) = x0 (ix2 l j) + x1 (ix3 0 l j) + x1 (ix3 1 l j) + x1 (ix3 2 l j) := by
  pointwise [val_main_v2, val_main_v1, val_main_v0, val_main_cst]
  rw [Fin.sum_univ_three]
  simp only [add_assoc]

theorem mean (hg : k0_pay2 o p q r (ix2 i j) = val_main_v2 (F := Ideal) x0 x1 (ix2 l j)) (hu : u (ix2 i j) = x3 (ix2 l j)) :
    k0_pay3 o p q r u (ix2 i j) = val_main_v7 (F := Ideal) x0 x1 x3 (ix2 l j) := by
  pointwise [k0_pay3, val_main_v7, val_main_v6, val_main_v5, val_main_v4, val_main_v3, val_main_cst_0, val_main_cst_1]
  rw [hg, hu]
theorem square (hg : k0_pay2 o p q r (ix2 i j) = val_main_v2 (F := Ideal) x0 x1 (ix2 l j)) (hv : v (ix2 i j) = x4 (ix2 l j)) :
    k0_pay4 o p q r v (ix2 i j) = val_main_v13 (F := Ideal) x0 x1 x4 (ix2 l j) := by
  pointwise [k0_pay4, val_main_v13, val_main_v12, val_main_v11, val_main_v10, val_main_v9, val_main_v8, val_main_cst_2, val_main_cst_3]
  rw [hg, hv]
theorem delta (hg : k0_pay2 o p q r (ix2 i j) = val_main_v2 (F := Ideal) x0 x1 (ix2 l j)) (hw : w (ix2 i j) = x2 (ix2 l j))
    (hu : u (ix2 i j) = x3 (ix2 l j)) (hv : v (ix2 i j) = x4 (ix2 l j)) :
    k0_pay1 w (k0_pay5 o p q r u) (k0_pay6 o p q r v) (ix2 i j) = val_main_v26 (F := Ideal) x0 x1 x2 x3 x4 (ix2 l j) := by
  have hm := mean o p q r u x0 x1 x3 i l j hg hu
  have hs := square o p q r v x0 x1 x4 i l j hg hv
  pointwise [k0_pay1, k0_pay5, k0_pay6, val_main_v26, val_main_v25, val_main_v24, val_main_v23, val_main_v22, val_main_v21, val_main_v20,
    val_main_v19, val_main_v18, val_main_v17, val_main_v16, val_main_v15, val_main_v14, val_main_cst_4, val_main_cst_5, val_main_cst_6,
    val_main_cst_7, val_main_cst_8]
  rw [hm, hs, hw]
end

/-! ## The arrays -/

abbrev R5 : (⟨S128x1024, .f32⟩ : BufTy).Contents (Elt Ideal) := val_main_v2 (F := Ideal) (a0 m c) (a1 m c)
abbrev R6 : (⟨S128x1024, .f32⟩ : BufTy).Contents (Elt Ideal) := val_main_v26 (F := Ideal) (a0 m c) (a1 m c) (a2 m c) (a3 m c) (a4 m c)
abbrev R7 : (⟨S128x1024, .f32⟩ : BufTy).Contents (Elt Ideal) := val_main_v7 (F := Ideal) (a0 m c) (a1 m c) (a3 m c)
abbrev R8 : (⟨S128x1024, .f32⟩ : BufTy).Contents (Elt Ideal) := val_main_v13 (F := Ideal) (a0 m c) (a1 m c) (a4 m c)

/-- The parts received from the other chips, at a point. -/
abbrev part0 (t : Fin cfg0.N) : Vec Ideal S1x128x1024 .bf16 := View.ld (iblk m c 1 t) r0_1
abbrev part1 (t : Fin cfg0.N) : Vec Ideal S1x128x1024 .bf16 := View.ld (iblk m c 1 t) r0_2
abbrev part2 (t : Fin cfg0.N) : Vec Ideal S1x128x1024 .bf16 := View.ld (iblk m c 1 t) r0_3

theorem part0_at (t : Fin cfg0.N) (i : Fin 128) (j : Fin 1024) : part0 m c t (ix3 0 i j) = a1 m c (ix3 0 (row t i) j) := by
  refine Eq.trans ?_ (blk1 m c t 0 i j)
  exact View.ld_unit_apply_of _ _ _ _ _ _ (by intro a; fin_cases a <;> simp)
theorem part1_at (t : Fin cfg0.N) (i : Fin 128) (j : Fin 1024) : part1 m c t (ix3 0 i j) = a1 m c (ix3 1 (row t i) j) := by
  refine Eq.trans ?_ (blk1 m c t 1 i j)
  exact View.ld_unit_apply_of _ _ _ _ _ _ (by intro a; fin_cases a <;> simp)
theorem part2_at (t : Fin cfg0.N) (i : Fin 128) (j : Fin 1024) : part2 m c t (ix3 0 i j) = a1 m c (ix3 2 (row t i) j) := by
  refine Eq.trans ?_ (blk1 m c t 2 i j)
  exact View.ld_unit_apply_of _ _ _ _ _ _ (by intro a; fin_cases a <;> simp)

theorem sum_blk (t : Fin cfg0.N) (i : Fin 128) (j : Fin 1024) :
    k0_pay2 (iblk m c 0 t) (part0 m c t) (part1 m c t) (part2 m c t) (ix2 i j) = R5 m c (ix2 (row t i) j) := by
  rw [sum_at, part0_at, part1_at, part2_at, blk0]
  exact (ref_sum_at _ _ _ _).symm

theorem out5 (t : Fin cfg0.N) : out0_5 (iblk m c 0 t) (iblk m c 1 t) (iblk m c 2 t) (iblk m c 3 t) (iblk m c 4 t)
    = k0_pay2 (iblk m c 0 t) (part0 m c t) (part1 m c t) (part2 m c t) := by
  frame_out
  rfl
theorem out6 (t : Fin cfg0.N) : out0_6 (iblk m c 0 t) (iblk m c 1 t) (iblk m c 2 t) (iblk m c 3 t) (iblk m c 4 t)
    = k0_pay1 (iblk m c 2 t) (k0_pay5 (iblk m c 0 t) (part0 m c t) (part1 m c t) (part2 m c t) (iblk m c 3 t))
      (k0_pay6 (iblk m c 0 t) (part0 m c t) (part1 m c t) (part2 m c t) (iblk m c 4 t)) := by
  frame_out
  rfl
theorem out7 (t : Fin cfg0.N) : out0_7 (iblk m c 0 t) (iblk m c 1 t) (iblk m c 2 t) (iblk m c 3 t) (iblk m c 4 t)
    = k0_pay3 (iblk m c 0 t) (part0 m c t) (part1 m c t) (part2 m c t) (iblk m c 3 t) := by
  frame_out
  rfl
theorem out8 (t : Fin cfg0.N) : out0_8 (iblk m c 0 t) (iblk m c 1 t) (iblk m c 2 t) (iblk m c 3 t) (iblk m c 4 t)
    = k0_pay4 (iblk m c 0 t) (part0 m c t) (part1 m c t) (part2 m c t) (iblk m c 4 t) := by
  frame_out
  rfl

theorem final5 : (dats m 0 c).arrAt 5 cfg0.N = R5 m c := by
  refine (dats m 0 c).arrAt_eq_of_covers 5 _ (by decide +kernel) fun t hf y => ?_
  blk_simp
  rw [after0_5, out5]
  have hy : ((cfg0.win 5).blk t).view.emb y = ix2 (n0 := 128) (n1 := 1024) (row t (y 0)) (y 1) := by
    blk_ext [idx5 t]
  rw [hy]
  exact (congrArg _ (eq_ix2 (y : S128x1024.Idx))).trans (sum_blk m c t (y 0) (y 1))

theorem final6 : (dats m 0 c).arrAt 6 cfg0.N = R6 m c := by
  refine (dats m 0 c).arrAt_eq_of_covers 6 _ (by decide +kernel) fun t hf y => ?_
  blk_simp
  rw [after0_6, out6]
  have hy : ((cfg0.win 6).blk t).view.emb y = ix2 (n0 := 128) (n1 := 1024) (row t (y 0)) (y 1) := by
    blk_ext [idx6 t]
  rw [hy]
  exact (congrArg _ (eq_ix2 (y : S128x1024.Idx))).trans (delta _ _ _ _ _ _ _ _ _ _ _ _ (y 0) (row t (y 0)) (y 1) (sum_blk m c t _ _) (blk2 m c t _ _) (blk3 m c t _ _) (blk4 m c t _ _))

theorem final7 : (dats m 0 c).arrAt 7 cfg0.N = R7 m c := by
  refine (dats m 0 c).arrAt_eq_of_covers 7 _ (by decide +kernel) fun t hf y => ?_
  blk_simp
  rw [after0_7, out7]
  have hy : ((cfg0.win 7).blk t).view.emb y = ix2 (n0 := 128) (n1 := 1024) (row t (y 0)) (y 1) := by
    blk_ext [idx7 t]
  rw [hy]
  exact (congrArg _ (eq_ix2 (y : S128x1024.Idx))).trans (mean _ _ _ _ _ _ _ _ (y 0) (row t (y 0)) (y 1) (sum_blk m c t _ _) (blk3 m c t _ _))

theorem final8 : (dats m 0 c).arrAt 8 cfg0.N = R8 m c := by
  refine (dats m 0 c).arrAt_eq_of_covers 8 _ (by decide +kernel) fun t hf y => ?_
  blk_simp
  rw [after0_8, out8]
  have hy : ((cfg0.win 8).blk t).view.emb y = ix2 (n0 := 128) (n1 := 1024) (row t (y 0)) (y 1) := by
    blk_ext [idx8 t]
  rw [hy]
  exact (congrArg _ (eq_ix2 (y : S128x1024.Idx))).trans (square _ _ _ _ _ _ _ _ (y 0) (row t (y 0)) (y 1) (sum_blk m c t _ _) (blk4 m c t _ _))

theorem frame_kernel : Cert.quiescent_KernelAdamwSquare := fun m g _ => Cert.KernelAdamwSquare.Gen.frame m g

theorem frame_ideal : Cert.quiescent_KernelAdamwSquareIdeal := fun m g _ => Cert.KernelAdamwSquareIdeal.Gen.frame m g

theorem frame_reference : Cert.quiescent_ReferenceAdamwSquareIdeal := fun m g _ =>
  (θ_run Cert.ReferenceAdamwSquareIdeal.defs _ _).mono (fun r h => ⟨fun c => (h c).2.2.2.2, sem_eq_zero_of_no_sems (by decide) r.2⟩)
    (Cert.ReferenceAdamwSquareIdeal.Value.run (F := Ideal) m g)

theorem equal : Cert.algebraic_KernelAdamwSquareIdeal_ReferenceAdamwSquareIdeal := by
  intro m g m' g' hp ha
  refine ⟨fun c => R5 m c, fun c => R6 m c, fun c => R7 m c, fun c => R8 m c, ?_, ?_⟩
  · refine (θ_run Cert.KernelAdamwSquareIdeal.defs _ _).mono (fun r h c => ?_) (Cert.KernelAdamwSquareIdeal.Value.run_blocks m g)
    obtain ⟨r5, r6, r7, r8, rest⟩ := h c
    exact ⟨r5.trans (final5 m c), r6.trans (final6 m c), r7.trans (final7 m c), r8.trans (final8 m c), rest⟩
  · refine (θ_run Cert.ReferenceAdamwSquareIdeal.defs _ _).mono (fun r h c => ?_) (Cert.ReferenceAdamwSquareIdeal.Value.run (F := Ideal) m' g')
    obtain ⟨r5, r6, r7, r8, rest⟩ := h c
    obtain ⟨e0, e1, e2, e3, e4⟩ := ha c
    rw [e0, e1] at r5
    rw [e0, e1, e2, e3, e4] at r6
    rw [e0, e1, e3] at r7
    rw [e0, e1, e4] at r8
    exact ⟨r5.trans (val_main_v2_eq _ _), r6.trans (val_main_v26_eq _ _ _ _ _), r7.trans (val_main_v7_eq _ _ _), r8.trans (val_main_v13_eq _ _ _), rest⟩

end Cert.AdamwSquare

end
-- ==== Proof.AdamwBranch.lean ====
module

public import proofs.«01_k».proof.Defs
public import proofs.«01_k».proof.Proof.Gen.KernelAdamwBranch.Frame
public import proofs.«01_k».proof.Proof.Gen.KernelAdamwBranchIdeal.Value
public import proofs.«01_k».proof.Proof.Gen.ReferenceAdamwBranchIdeal.Read
public import Idealize.ShloMosaic.Lib.Pipeline.ValueKit
public import Idealize.ShloMosaic.Lib.Pointwise
public import Idealize.ShloMosaic.Lib.Claim

@[expose] public section

set_option maxRecDepth 16384

noncomputable section

/-! One weight's update from the parts of its gradient: w_proj_da's rows, and those of w_proj_mem, of the same shape. -/

namespace Cert.AdamwBranch

open Cert.KernelAdamwBranchIdeal Cert.KernelAdamwBranchIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S512x128, .f32⟩ : BufTy).Contents (Elt Ideal) := m ((c : Thread nD τ).loc main_arg0)
abbrev a1 : (⟨S3x512x128, .bf16⟩ : BufTy).Contents (Elt Ideal) := m ((c : Thread nD τ).loc main_arg1)
abbrev a2 : (⟨S512x128, .f32⟩ : BufTy).Contents (Elt Ideal) := m ((c : Thread nD τ).loc main_arg2)
abbrev a3 : (⟨S512x128, .f32⟩ : BufTy).Contents (Elt Ideal) := m ((c : Thread nD τ).loc main_arg3)
abbrev a4 : (⟨S512x128, .f32⟩ : BufTy).Contents (Elt Ideal) := m ((c : Thread nD τ).loc main_arg4)

/-! ## The blocks at a point -/

theorem lt (t : Fin cfg0.N) : t.val < 1 := lt_of_lt_of_eq t.isLt N_0
theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

abbrev row (t : Fin cfg0.N) (i : Fin 512) : Fin 512 := ⟨t.val * 512 + i.val, by have := lt t; omega⟩

theorem blk0 (t : Fin cfg0.N) (i : Fin 512) (j : Fin 128) : iblk m c 0 t (ix2 i j) = a0 m c (ix2 (row t i) j) := by
  blk_ext [iblk, V, idx0 t]
theorem blk1 (t : Fin cfg0.N) (s : Fin 3) (i : Fin 512) (j : Fin 128) : iblk m c 1 t (ix3 s i j) = a1 m c (ix3 s (row t i) j) := by
  blk_ext [iblk, V, idx1 t]
theorem blk2 (t : Fin cfg0.N) (i : Fin 512) (j : Fin 128) : iblk m c 2 t (ix2 i j) = a2 m c (ix2 (row t i) j) := by
  blk_ext [iblk, V, idx2 t]
theorem blk3 (t : Fin cfg0.N) (i : Fin 512) (j : Fin 128) : iblk m c 3 t (ix2 i j) = a3 m c (ix2 (row t i) j) := by
  blk_ext [iblk, V, idx3 t]
theorem blk4 (t : Fin cfg0.N) (i : Fin 512) (j : Fin 128) : iblk m c 4 t (ix2 i j) = a4 m c (ix2 (row t i) j) := by
  blk_ext [iblk, V, idx4 t]

/-! ## The gradient and the update, element by element -/

open Cert.ReferenceAdamwBranchIdeal.Read

section
variable (o : Vec Ideal S512x128 .f32) (p q r : Vec Ideal S1x512x128 .bf16) (w u v : Vec Ideal S512x128 .f32)
  (x0 : (⟨S512x128, .f32⟩ : BufTy).Contents (Elt Ideal)) (x1 : (⟨S3x512x128, .bf16⟩ : BufTy).Contents (Elt Ideal))
  (x2 x3 x4 : (⟨S512x128, .f32⟩ : BufTy).Contents (Elt Ideal)) (i : Fin 512) (l : Fin 512) (j : Fin 128)

theorem sum_at : k0_pay2 o p q r (ix2 i j) = o (ix2 i j) + p (ix3 0 i j) + q (ix3 0 i j) + r (ix3 0 i j) := by
  pointwise [k0_pay2]
theorem ref_sum_at : val_main_v2 (F := Ideal) x0 x1 (ix2 l j) = x0 (ix2 l j) + x1 (ix3 0 l j) + x1 (ix3 1 l j) + x1 (ix3 2 l j) := by
  pointwise [val_main_v2, val_main_v1, val_main_v0, val_main_cst]
  rw [Fin.sum_univ_three]
  simp only [add_assoc]

theorem mean (hg : k0_pay2 o p q r (ix2 i j) = val_main_v2 (F := Ideal) x0 x1 (ix2 l j)) (hu : u (ix2 i j) = x3 (ix2 l j)) :
    k0_pay3 o p q r u (ix2 i j) = val_main_v7 (F := Ideal) x0 x1 x3 (ix2 l j) := by
  pointwise [k0_pay3, val_main_v7, val_main_v6, val_main_v5, val_main_v4, val_main_v3, val_main_cst_0, val_main_cst_1]
  rw [hg, hu]
theorem square (hg : k0_pay2 o p q r (ix2 i j) = val_main_v2 (F := Ideal) x0 x1 (ix2 l j)) (hv : v (ix2 i j) = x4 (ix2 l j)) :
    k0_pay4 o p q r v (ix2 i j) = val_main_v13 (F := Ideal) x0 x1 x4 (ix2 l j) := by
  pointwise [k0_pay4, val_main_v13, val_main_v12, val_main_v11, val_main_v10, val_main_v9, val_main_v8, val_main_cst_2, val_main_cst_3]
  rw [hg, hv]
theorem delta (hg : k0_pay2 o p q r (ix2 i j) = val_main_v2 (F := Ideal) x0 x1 (ix2 l j)) (hw : w (ix2 i j) = x2 (ix2 l j))
    (hu : u (ix2 i j) = x3 (ix2 l j)) (hv : v (ix2 i j) = x4 (ix2 l j)) :
    k0_pay1 w (k0_pay5 o p q r u) (k0_pay6 o p q r v) (ix2 i j) = val_main_v26 (F := Ideal) x0 x1 x2 x3 x4 (ix2 l j) := by
  have hm := mean o p q r u x0 x1 x3 i l j hg hu
  have hs := square o p q r v x0 x1 x4 i l j hg hv
  pointwise [k0_pay1, k0_pay5, k0_pay6, val_main_v26, val_main_v25, val_main_v24, val_main_v23, val_main_v22, val_main_v21, val_main_v20,
    val_main_v19, val_main_v18, val_main_v17, val_main_v16, val_main_v15, val_main_v14, val_main_cst_4, val_main_cst_5, val_main_cst_6,
    val_main_cst_7, val_main_cst_8]
  rw [hm, hs, hw]
end

/-! ## The arrays -/

abbrev R5 : (⟨S512x128, .f32⟩ : BufTy).Contents (Elt Ideal) := val_main_v2 (F := Ideal) (a0 m c) (a1 m c)
abbrev R6 : (⟨S512x128, .f32⟩ : BufTy).Contents (Elt Ideal) := val_main_v26 (F := Ideal) (a0 m c) (a1 m c) (a2 m c) (a3 m c) (a4 m c)
abbrev R7 : (⟨S512x128, .f32⟩ : BufTy).Contents (Elt Ideal) := val_main_v7 (F := Ideal) (a0 m c) (a1 m c) (a3 m c)
abbrev R8 : (⟨S512x128, .f32⟩ : BufTy).Contents (Elt Ideal) := val_main_v13 (F := Ideal) (a0 m c) (a1 m c) (a4 m c)

/-- The parts received from the other chips, at a point. -/
abbrev part0 (t : Fin cfg0.N) : Vec Ideal S1x512x128 .bf16 := View.ld (iblk m c 1 t) r0_1
abbrev part1 (t : Fin cfg0.N) : Vec Ideal S1x512x128 .bf16 := View.ld (iblk m c 1 t) r0_2
abbrev part2 (t : Fin cfg0.N) : Vec Ideal S1x512x128 .bf16 := View.ld (iblk m c 1 t) r0_3

theorem part0_at (t : Fin cfg0.N) (i : Fin 512) (j : Fin 128) : part0 m c t (ix3 0 i j) = a1 m c (ix3 0 (row t i) j) := by
  refine Eq.trans ?_ (blk1 m c t 0 i j)
  exact View.ld_unit_apply_of _ _ _ _ _ _ (by intro a; fin_cases a <;> simp)
theorem part1_at (t : Fin cfg0.N) (i : Fin 512) (j : Fin 128) : part1 m c t (ix3 0 i j) = a1 m c (ix3 1 (row t i) j) := by
  refine Eq.trans ?_ (blk1 m c t 1 i j)
  exact View.ld_unit_apply_of _ _ _ _ _ _ (by intro a; fin_cases a <;> simp)
theorem part2_at (t : Fin cfg0.N) (i : Fin 512) (j : Fin 128) : part2 m c t (ix3 0 i j) = a1 m c (ix3 2 (row t i) j) := by
  refine Eq.trans ?_ (blk1 m c t 2 i j)
  exact View.ld_unit_apply_of _ _ _ _ _ _ (by intro a; fin_cases a <;> simp)

theorem sum_blk (t : Fin cfg0.N) (i : Fin 512) (j : Fin 128) :
    k0_pay2 (iblk m c 0 t) (part0 m c t) (part1 m c t) (part2 m c t) (ix2 i j) = R5 m c (ix2 (row t i) j) := by
  rw [sum_at, part0_at, part1_at, part2_at, blk0]
  exact (ref_sum_at _ _ _ _).symm

theorem out5 (t : Fin cfg0.N) : out0_5 (iblk m c 0 t) (iblk m c 1 t) (iblk m c 2 t) (iblk m c 3 t) (iblk m c 4 t)
    = k0_pay2 (iblk m c 0 t) (part0 m c t) (part1 m c t) (part2 m c t) := by
  frame_out
  rfl
theorem out6 (t : Fin cfg0.N) : out0_6 (iblk m c 0 t) (iblk m c 1 t) (iblk m c 2 t) (iblk m c 3 t) (iblk m c 4 t)
    = k0_pay1 (iblk m c 2 t) (k0_pay5 (iblk m c 0 t) (part0 m c t) (part1 m c t) (part2 m c t) (iblk m c 3 t))
      (k0_pay6 (iblk m c 0 t) (part0 m c t) (part1 m c t) (part2 m c t) (iblk m c 4 t)) := by
  frame_out
  rfl
theorem out7 (t : Fin cfg0.N) : out0_7 (iblk m c 0 t) (iblk m c 1 t) (iblk m c 2 t) (iblk m c 3 t) (iblk m c 4 t)
    = k0_pay3 (iblk m c 0 t) (part0 m c t) (part1 m c t) (part2 m c t) (iblk m c 3 t) := by
  frame_out
  rfl
theorem out8 (t : Fin cfg0.N) : out0_8 (iblk m c 0 t) (iblk m c 1 t) (iblk m c 2 t) (iblk m c 3 t) (iblk m c 4 t)
    = k0_pay4 (iblk m c 0 t) (part0 m c t) (part1 m c t) (part2 m c t) (iblk m c 4 t) := by
  frame_out
  rfl

theorem final5 : (dats m 0 c).arrAt 5 cfg0.N = R5 m c := by
  refine (dats m 0 c).arrAt_eq_of_covers 5 _ (by decide +kernel) fun t hf y => ?_
  blk_simp
  rw [after0_5, out5]
  have hy : ((cfg0.win 5).blk t).view.emb y = ix2 (n0 := 512) (n1 := 128) (row t (y 0)) (y 1) := by
    blk_ext [idx5 t]
  rw [hy]
  exact (congrArg _ (eq_ix2 (y : S512x128.Idx))).trans (sum_blk m c t (y 0) (y 1))

theorem final6 : (dats m 0 c).arrAt 6 cfg0.N = R6 m c := by
  refine (dats m 0 c).arrAt_eq_of_covers 6 _ (by decide +kernel) fun t hf y => ?_
  blk_simp
  rw [after0_6, out6]
  have hy : ((cfg0.win 6).blk t).view.emb y = ix2 (n0 := 512) (n1 := 128) (row t (y 0)) (y 1) := by
    blk_ext [idx6 t]
  rw [hy]
  exact (congrArg _ (eq_ix2 (y : S512x128.Idx))).trans (delta _ _ _ _ _ _ _ _ _ _ _ _ (y 0) (row t (y 0)) (y 1) (sum_blk m c t _ _) (blk2 m c t _ _) (blk3 m c t _ _) (blk4 m c t _ _))

theorem final7 : (dats m 0 c).arrAt 7 cfg0.N = R7 m c := by
  refine (dats m 0 c).arrAt_eq_of_covers 7 _ (by decide +kernel) fun t hf y => ?_
  blk_simp
  rw [after0_7, out7]
  have hy : ((cfg0.win 7).blk t).view.emb y = ix2 (n0 := 512) (n1 := 128) (row t (y 0)) (y 1) := by
    blk_ext [idx7 t]
  rw [hy]
  exact (congrArg _ (eq_ix2 (y : S512x128.Idx))).trans (mean _ _ _ _ _ _ _ _ (y 0) (row t (y 0)) (y 1) (sum_blk m c t _ _) (blk3 m c t _ _))

theorem final8 : (dats m 0 c).arrAt 8 cfg0.N = R8 m c := by
  refine (dats m 0 c).arrAt_eq_of_covers 8 _ (by decide +kernel) fun t hf y => ?_
  blk_simp
  rw [after0_8, out8]
  have hy : ((cfg0.win 8).blk t).view.emb y = ix2 (n0 := 512) (n1 := 128) (row t (y 0)) (y 1) := by
    blk_ext [idx8 t]
  rw [hy]
  exact (congrArg _ (eq_ix2 (y : S512x128.Idx))).trans (square _ _ _ _ _ _ _ _ (y 0) (row t (y 0)) (y 1) (sum_blk m c t _ _) (blk4 m c t _ _))

theorem frame_kernel : Cert.quiescent_KernelAdamwBranch := fun m g _ => Cert.KernelAdamwBranch.Gen.frame m g

theorem frame_ideal : Cert.quiescent_KernelAdamwBranchIdeal := fun m g _ => Cert.KernelAdamwBranchIdeal.Gen.frame m g

theorem frame_reference : Cert.quiescent_ReferenceAdamwBranchIdeal := fun m g _ =>
  (θ_run Cert.ReferenceAdamwBranchIdeal.defs _ _).mono (fun r h => ⟨fun c => (h c).2.2.2.2, sem_eq_zero_of_no_sems (by decide) r.2⟩)
    (Cert.ReferenceAdamwBranchIdeal.Value.run (F := Ideal) m g)

theorem equal : Cert.algebraic_KernelAdamwBranchIdeal_ReferenceAdamwBranchIdeal := by
  intro m g m' g' hp ha
  refine ⟨fun c => R5 m c, fun c => R6 m c, fun c => R7 m c, fun c => R8 m c, ?_, ?_⟩
  · refine (θ_run Cert.KernelAdamwBranchIdeal.defs _ _).mono (fun r h c => ?_) (Cert.KernelAdamwBranchIdeal.Value.run_blocks m g)
    obtain ⟨r5, r6, r7, r8, rest⟩ := h c
    exact ⟨r5.trans (final5 m c), r6.trans (final6 m c), r7.trans (final7 m c), r8.trans (final8 m c), rest⟩
  · refine (θ_run Cert.ReferenceAdamwBranchIdeal.defs _ _).mono (fun r h c => ?_) (Cert.ReferenceAdamwBranchIdeal.Value.run (F := Ideal) m' g')
    obtain ⟨r5, r6, r7, r8, rest⟩ := h c
    obtain ⟨e0, e1, e2, e3, e4⟩ := ha c
    rw [e0, e1] at r5
    rw [e0, e1, e2, e3, e4] at r6
    rw [e0, e1, e3] at r7
    rw [e0, e1, e4] at r8
    exact ⟨r5.trans (val_main_v2_eq _ _), r6.trans (val_main_v26_eq _ _ _ _ _), r7.trans (val_main_v7_eq _ _ _), r8.trans (val_main_v13_eq _ _ _), rest⟩

end Cert.AdamwBranch

end
-- ==== Proof.AdamwFfnIn.lean ====
module

public import proofs.«01_k».proof.Defs
public import proofs.«01_k».proof.Proof.Gen.KernelAdamwFfnIn.Frame
public import proofs.«01_k».proof.Proof.Gen.KernelAdamwFfnInIdeal.Value
public import proofs.«01_k».proof.Proof.Gen.ReferenceAdamwFfnInIdeal.Read
public import Idealize.ShloMosaic.Lib.Pipeline.ValueKit
public import Idealize.ShloMosaic.Lib.Pointwise
public import Idealize.ShloMosaic.Lib.Claim

@[expose] public section

set_option maxRecDepth 16384

noncomputable section

/-! One weight's update from the parts of its gradient: w_ffn_in's rows. -/

namespace Cert.AdamwFfnIn

open Cert.KernelAdamwFfnInIdeal Cert.KernelAdamwFfnInIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S1024x704, .f32⟩ : BufTy).Contents (Elt Ideal) := m ((c : Thread nD τ).loc main_arg0)
abbrev a1 : (⟨S3x1024x704, .bf16⟩ : BufTy).Contents (Elt Ideal) := m ((c : Thread nD τ).loc main_arg1)
abbrev a2 : (⟨S1024x704, .f32⟩ : BufTy).Contents (Elt Ideal) := m ((c : Thread nD τ).loc main_arg2)
abbrev a3 : (⟨S1024x704, .f32⟩ : BufTy).Contents (Elt Ideal) := m ((c : Thread nD τ).loc main_arg3)
abbrev a4 : (⟨S1024x704, .f32⟩ : BufTy).Contents (Elt Ideal) := m ((c : Thread nD τ).loc main_arg4)

/-! ## The blocks at a point -/

theorem lt (t : Fin cfg0.N) : t.val < 8 := lt_of_lt_of_eq t.isLt N_0
theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

abbrev row (t : Fin cfg0.N) (i : Fin 128) : Fin 1024 := ⟨t.val * 128 + i.val, by have := lt t; omega⟩

theorem blk0 (t : Fin cfg0.N) (i : Fin 128) (j : Fin 704) : iblk m c 0 t (ix2 i j) = a0 m c (ix2 (row t i) j) := by
  blk_ext [iblk, V, idx0 t]
theorem blk1 (t : Fin cfg0.N) (s : Fin 3) (i : Fin 128) (j : Fin 704) : iblk m c 1 t (ix3 s i j) = a1 m c (ix3 s (row t i) j) := by
  blk_ext [iblk, V, idx1 t]
theorem blk2 (t : Fin cfg0.N) (i : Fin 128) (j : Fin 704) : iblk m c 2 t (ix2 i j) = a2 m c (ix2 (row t i) j) := by
  blk_ext [iblk, V, idx2 t]
theorem blk3 (t : Fin cfg0.N) (i : Fin 128) (j : Fin 704) : iblk m c 3 t (ix2 i j) = a3 m c (ix2 (row t i) j) := by
  blk_ext [iblk, V, idx3 t]
theorem blk4 (t : Fin cfg0.N) (i : Fin 128) (j : Fin 704) : iblk m c 4 t (ix2 i j) = a4 m c (ix2 (row t i) j) := by
  blk_ext [iblk, V, idx4 t]

/-! ## The gradient and the update, element by element -/

open Cert.ReferenceAdamwFfnInIdeal.Read

section
variable (o : Vec Ideal S128x704 .f32) (p q r : Vec Ideal S1x128x704 .bf16) (w u v : Vec Ideal S128x704 .f32)
  (x0 : (⟨S1024x704, .f32⟩ : BufTy).Contents (Elt Ideal)) (x1 : (⟨S3x1024x704, .bf16⟩ : BufTy).Contents (Elt Ideal))
  (x2 x3 x4 : (⟨S1024x704, .f32⟩ : BufTy).Contents (Elt Ideal)) (i : Fin 128) (l : Fin 1024) (j : Fin 704)

theorem sum_at : k0_pay2 o p q r (ix2 i j) = o (ix2 i j) + p (ix3 0 i j) + q (ix3 0 i j) + r (ix3 0 i j) := by
  pointwise [k0_pay2]
theorem ref_sum_at : val_main_v2 (F := Ideal) x0 x1 (ix2 l j) = x0 (ix2 l j) + x1 (ix3 0 l j) + x1 (ix3 1 l j) + x1 (ix3 2 l j) := by
  pointwise [val_main_v2, val_main_v1, val_main_v0, val_main_cst]
  rw [Fin.sum_univ_three]
  simp only [add_assoc]

theorem mean (hg : k0_pay2 o p q r (ix2 i j) = val_main_v2 (F := Ideal) x0 x1 (ix2 l j)) (hu : u (ix2 i j) = x3 (ix2 l j)) :
    k0_pay3 o p q r u (ix2 i j) = val_main_v7 (F := Ideal) x0 x1 x3 (ix2 l j) := by
  pointwise [k0_pay3, val_main_v7, val_main_v6, val_main_v5, val_main_v4, val_main_v3, val_main_cst_0, val_main_cst_1]
  rw [hg, hu]
theorem square (hg : k0_pay2 o p q r (ix2 i j) = val_main_v2 (F := Ideal) x0 x1 (ix2 l j)) (hv : v (ix2 i j) = x4 (ix2 l j)) :
    k0_pay4 o p q r v (ix2 i j) = val_main_v13 (F := Ideal) x0 x1 x4 (ix2 l j) := by
  pointwise [k0_pay4, val_main_v13, val_main_v12, val_main_v11, val_main_v10, val_main_v9, val_main_v8, val_main_cst_2, val_main_cst_3]
  rw [hg, hv]
theorem delta (hg : k0_pay2 o p q r (ix2 i j) = val_main_v2 (F := Ideal) x0 x1 (ix2 l j)) (hw : w (ix2 i j) = x2 (ix2 l j))
    (hu : u (ix2 i j) = x3 (ix2 l j)) (hv : v (ix2 i j) = x4 (ix2 l j)) :
    k0_pay1 w (k0_pay5 o p q r u) (k0_pay6 o p q r v) (ix2 i j) = val_main_v26 (F := Ideal) x0 x1 x2 x3 x4 (ix2 l j) := by
  have hm := mean o p q r u x0 x1 x3 i l j hg hu
  have hs := square o p q r v x0 x1 x4 i l j hg hv
  pointwise [k0_pay1, k0_pay5, k0_pay6, val_main_v26, val_main_v25, val_main_v24, val_main_v23, val_main_v22, val_main_v21, val_main_v20,
    val_main_v19, val_main_v18, val_main_v17, val_main_v16, val_main_v15, val_main_v14, val_main_cst_4, val_main_cst_5, val_main_cst_6,
    val_main_cst_7, val_main_cst_8]
  rw [hm, hs, hw]
end

/-! ## The arrays -/

abbrev R5 : (⟨S1024x704, .f32⟩ : BufTy).Contents (Elt Ideal) := val_main_v2 (F := Ideal) (a0 m c) (a1 m c)
abbrev R6 : (⟨S1024x704, .f32⟩ : BufTy).Contents (Elt Ideal) := val_main_v26 (F := Ideal) (a0 m c) (a1 m c) (a2 m c) (a3 m c) (a4 m c)
abbrev R7 : (⟨S1024x704, .f32⟩ : BufTy).Contents (Elt Ideal) := val_main_v7 (F := Ideal) (a0 m c) (a1 m c) (a3 m c)
abbrev R8 : (⟨S1024x704, .f32⟩ : BufTy).Contents (Elt Ideal) := val_main_v13 (F := Ideal) (a0 m c) (a1 m c) (a4 m c)

/-- The parts received from the other chips, at a point. -/
abbrev part0 (t : Fin cfg0.N) : Vec Ideal S1x128x704 .bf16 := View.ld (iblk m c 1 t) r0_1
abbrev part1 (t : Fin cfg0.N) : Vec Ideal S1x128x704 .bf16 := View.ld (iblk m c 1 t) r0_2
abbrev part2 (t : Fin cfg0.N) : Vec Ideal S1x128x704 .bf16 := View.ld (iblk m c 1 t) r0_3

theorem part0_at (t : Fin cfg0.N) (i : Fin 128) (j : Fin 704) : part0 m c t (ix3 0 i j) = a1 m c (ix3 0 (row t i) j) := by
  refine Eq.trans ?_ (blk1 m c t 0 i j)
  exact View.ld_unit_apply_of _ _ _ _ _ _ (by intro a; fin_cases a <;> simp)
theorem part1_at (t : Fin cfg0.N) (i : Fin 128) (j : Fin 704) : part1 m c t (ix3 0 i j) = a1 m c (ix3 1 (row t i) j) := by
  refine Eq.trans ?_ (blk1 m c t 1 i j)
  exact View.ld_unit_apply_of _ _ _ _ _ _ (by intro a; fin_cases a <;> simp)
theorem part2_at (t : Fin cfg0.N) (i : Fin 128) (j : Fin 704) : part2 m c t (ix3 0 i j) = a1 m c (ix3 2 (row t i) j) := by
  refine Eq.trans ?_ (blk1 m c t 2 i j)
  exact View.ld_unit_apply_of _ _ _ _ _ _ (by intro a; fin_cases a <;> simp)

theorem sum_blk (t : Fin cfg0.N) (i : Fin 128) (j : Fin 704) :
    k0_pay2 (iblk m c 0 t) (part0 m c t) (part1 m c t) (part2 m c t) (ix2 i j) = R5 m c (ix2 (row t i) j) := by
  rw [sum_at, part0_at, part1_at, part2_at, blk0]
  exact (ref_sum_at _ _ _ _).symm

theorem out5 (t : Fin cfg0.N) : out0_5 (iblk m c 0 t) (iblk m c 1 t) (iblk m c 2 t) (iblk m c 3 t) (iblk m c 4 t)
    = k0_pay2 (iblk m c 0 t) (part0 m c t) (part1 m c t) (part2 m c t) := by
  frame_out
  rfl
theorem out6 (t : Fin cfg0.N) : out0_6 (iblk m c 0 t) (iblk m c 1 t) (iblk m c 2 t) (iblk m c 3 t) (iblk m c 4 t)
    = k0_pay1 (iblk m c 2 t) (k0_pay5 (iblk m c 0 t) (part0 m c t) (part1 m c t) (part2 m c t) (iblk m c 3 t))
      (k0_pay6 (iblk m c 0 t) (part0 m c t) (part1 m c t) (part2 m c t) (iblk m c 4 t)) := by
  frame_out
  rfl
theorem out7 (t : Fin cfg0.N) : out0_7 (iblk m c 0 t) (iblk m c 1 t) (iblk m c 2 t) (iblk m c 3 t) (iblk m c 4 t)
    = k0_pay3 (iblk m c 0 t) (part0 m c t) (part1 m c t) (part2 m c t) (iblk m c 3 t) := by
  frame_out
  rfl
theorem out8 (t : Fin cfg0.N) : out0_8 (iblk m c 0 t) (iblk m c 1 t) (iblk m c 2 t) (iblk m c 3 t) (iblk m c 4 t)
    = k0_pay4 (iblk m c 0 t) (part0 m c t) (part1 m c t) (part2 m c t) (iblk m c 4 t) := by
  frame_out
  rfl

theorem final5 : (dats m 0 c).arrAt 5 cfg0.N = R5 m c := by
  refine (dats m 0 c).arrAt_eq_of_covers 5 _ (by decide +kernel) fun t hf y => ?_
  blk_simp
  rw [after0_5, out5]
  have hy : ((cfg0.win 5).blk t).view.emb y = ix2 (n0 := 1024) (n1 := 704) (row t (y 0)) (y 1) := by
    blk_ext [idx5 t]
  rw [hy]
  exact (congrArg _ (eq_ix2 (y : S128x704.Idx))).trans (sum_blk m c t (y 0) (y 1))

theorem final6 : (dats m 0 c).arrAt 6 cfg0.N = R6 m c := by
  refine (dats m 0 c).arrAt_eq_of_covers 6 _ (by decide +kernel) fun t hf y => ?_
  blk_simp
  rw [after0_6, out6]
  have hy : ((cfg0.win 6).blk t).view.emb y = ix2 (n0 := 1024) (n1 := 704) (row t (y 0)) (y 1) := by
    blk_ext [idx6 t]
  rw [hy]
  exact (congrArg _ (eq_ix2 (y : S128x704.Idx))).trans (delta _ _ _ _ _ _ _ _ _ _ _ _ (y 0) (row t (y 0)) (y 1) (sum_blk m c t _ _) (blk2 m c t _ _) (blk3 m c t _ _) (blk4 m c t _ _))

theorem final7 : (dats m 0 c).arrAt 7 cfg0.N = R7 m c := by
  refine (dats m 0 c).arrAt_eq_of_covers 7 _ (by decide +kernel) fun t hf y => ?_
  blk_simp
  rw [after0_7, out7]
  have hy : ((cfg0.win 7).blk t).view.emb y = ix2 (n0 := 1024) (n1 := 704) (row t (y 0)) (y 1) := by
    blk_ext [idx7 t]
  rw [hy]
  exact (congrArg _ (eq_ix2 (y : S128x704.Idx))).trans (mean _ _ _ _ _ _ _ _ (y 0) (row t (y 0)) (y 1) (sum_blk m c t _ _) (blk3 m c t _ _))

theorem final8 : (dats m 0 c).arrAt 8 cfg0.N = R8 m c := by
  refine (dats m 0 c).arrAt_eq_of_covers 8 _ (by decide +kernel) fun t hf y => ?_
  blk_simp
  rw [after0_8, out8]
  have hy : ((cfg0.win 8).blk t).view.emb y = ix2 (n0 := 1024) (n1 := 704) (row t (y 0)) (y 1) := by
    blk_ext [idx8 t]
  rw [hy]
  exact (congrArg _ (eq_ix2 (y : S128x704.Idx))).trans (square _ _ _ _ _ _ _ _ (y 0) (row t (y 0)) (y 1) (sum_blk m c t _ _) (blk4 m c t _ _))

theorem frame_kernel : Cert.quiescent_KernelAdamwFfnIn := fun m g _ => Cert.KernelAdamwFfnIn.Gen.frame m g

theorem frame_ideal : Cert.quiescent_KernelAdamwFfnInIdeal := fun m g _ => Cert.KernelAdamwFfnInIdeal.Gen.frame m g

theorem frame_reference : Cert.quiescent_ReferenceAdamwFfnInIdeal := fun m g _ =>
  (θ_run Cert.ReferenceAdamwFfnInIdeal.defs _ _).mono (fun r h => ⟨fun c => (h c).2.2.2.2, sem_eq_zero_of_no_sems (by decide) r.2⟩)
    (Cert.ReferenceAdamwFfnInIdeal.Value.run (F := Ideal) m g)

theorem equal : Cert.algebraic_KernelAdamwFfnInIdeal_ReferenceAdamwFfnInIdeal := by
  intro m g m' g' hp ha
  refine ⟨fun c => R5 m c, fun c => R6 m c, fun c => R7 m c, fun c => R8 m c, ?_, ?_⟩
  · refine (θ_run Cert.KernelAdamwFfnInIdeal.defs _ _).mono (fun r h c => ?_) (Cert.KernelAdamwFfnInIdeal.Value.run_blocks m g)
    obtain ⟨r5, r6, r7, r8, rest⟩ := h c
    exact ⟨r5.trans (final5 m c), r6.trans (final6 m c), r7.trans (final7 m c), r8.trans (final8 m c), rest⟩
  · refine (θ_run Cert.ReferenceAdamwFfnInIdeal.defs _ _).mono (fun r h c => ?_) (Cert.ReferenceAdamwFfnInIdeal.Value.run (F := Ideal) m' g')
    obtain ⟨r5, r6, r7, r8, rest⟩ := h c
    obtain ⟨e0, e1, e2, e3, e4⟩ := ha c
    rw [e0, e1] at r5
    rw [e0, e1, e2, e3, e4] at r6
    rw [e0, e1, e3] at r7
    rw [e0, e1, e4] at r8
    exact ⟨r5.trans (val_main_v2_eq _ _), r6.trans (val_main_v26_eq _ _ _ _ _), r7.trans (val_main_v7_eq _ _ _), r8.trans (val_main_v13_eq _ _ _), rest⟩

end Cert.AdamwFfnIn

end
-- ==== Proof.AdamwFfnOut.lean ====
module

public import proofs.«01_k».proof.Defs
public import proofs.«01_k».proof.Proof.Gen.KernelAdamwFfnOut.Frame
public import proofs.«01_k».proof.Proof.Gen.KernelAdamwFfnOutIdeal.Value
public import proofs.«01_k».proof.Proof.Gen.ReferenceAdamwFfnOutIdeal.Read
public import Idealize.ShloMosaic.Lib.Pipeline.ValueKit
public import Idealize.ShloMosaic.Lib.Pointwise
public import Idealize.ShloMosaic.Lib.Claim

@[expose] public section

set_option maxRecDepth 16384

noncomputable section

/-! One weight's update from the parts of its gradient: w_ffn_out's rows. -/

namespace Cert.AdamwFfnOut

open Cert.KernelAdamwFfnOutIdeal Cert.KernelAdamwFfnOutIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S352x1024, .f32⟩ : BufTy).Contents (Elt Ideal) := m ((c : Thread nD τ).loc main_arg0)
abbrev a1 : (⟨S3x352x1024, .bf16⟩ : BufTy).Contents (Elt Ideal) := m ((c : Thread nD τ).loc main_arg1)
abbrev a2 : (⟨S352x1024, .f32⟩ : BufTy).Contents (Elt Ideal) := m ((c : Thread nD τ).loc main_arg2)
abbrev a3 : (⟨S352x1024, .f32⟩ : BufTy).Contents (Elt Ideal) := m ((c : Thread nD τ).loc main_arg3)
abbrev a4 : (⟨S352x1024, .f32⟩ : BufTy).Contents (Elt Ideal) := m ((c : Thread nD τ).loc main_arg4)

/-! ## The blocks at a point -/

theorem lt (t : Fin cfg0.N) : t.val < 1 := lt_of_lt_of_eq t.isLt N_0
theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

abbrev row (t : Fin cfg0.N) (i : Fin 352) : Fin 352 := ⟨t.val * 352 + i.val, by have := lt t; omega⟩

theorem blk0 (t : Fin cfg0.N) (i : Fin 352) (j : Fin 1024) : iblk m c 0 t (ix2 i j) = a0 m c (ix2 (row t i) j) := by
  blk_ext [iblk, V, idx0 t]
theorem blk1 (t : Fin cfg0.N) (s : Fin 3) (i : Fin 352) (j : Fin 1024) : iblk m c 1 t (ix3 s i j) = a1 m c (ix3 s (row t i) j) := by
  blk_ext [iblk, V, idx1 t]
theorem blk2 (t : Fin cfg0.N) (i : Fin 352) (j : Fin 1024) : iblk m c 2 t (ix2 i j) = a2 m c (ix2 (row t i) j) := by
  blk_ext [iblk, V, idx2 t]
theorem blk3 (t : Fin cfg0.N) (i : Fin 352) (j : Fin 1024) : iblk m c 3 t (ix2 i j) = a3 m c (ix2 (row t i) j) := by
  blk_ext [iblk, V, idx3 t]
theorem blk4 (t : Fin cfg0.N) (i : Fin 352) (j : Fin 1024) : iblk m c 4 t (ix2 i j) = a4 m c (ix2 (row t i) j) := by
  blk_ext [iblk, V, idx4 t]

/-! ## The gradient and the update, element by element -/

open Cert.ReferenceAdamwFfnOutIdeal.Read

section
variable (o : Vec Ideal S352x1024 .f32) (p q r : Vec Ideal S1x352x1024 .bf16) (w u v : Vec Ideal S352x1024 .f32)
  (x0 : (⟨S352x1024, .f32⟩ : BufTy).Contents (Elt Ideal)) (x1 : (⟨S3x352x1024, .bf16⟩ : BufTy).Contents (Elt Ideal))
  (x2 x3 x4 : (⟨S352x1024, .f32⟩ : BufTy).Contents (Elt Ideal)) (i : Fin 352) (l : Fin 352) (j : Fin 1024)

theorem sum_at : k0_pay2 o p q r (ix2 i j) = o (ix2 i j) + p (ix3 0 i j) + q (ix3 0 i j) + r (ix3 0 i j) := by
  pointwise [k0_pay2]
theorem ref_sum_at : val_main_v2 (F := Ideal) x0 x1 (ix2 l j) = x0 (ix2 l j) + x1 (ix3 0 l j) + x1 (ix3 1 l j) + x1 (ix3 2 l j) := by
  pointwise [val_main_v2, val_main_v1, val_main_v0, val_main_cst]
  rw [Fin.sum_univ_three]
  simp only [add_assoc]

theorem mean (hg : k0_pay2 o p q r (ix2 i j) = val_main_v2 (F := Ideal) x0 x1 (ix2 l j)) (hu : u (ix2 i j) = x3 (ix2 l j)) :
    k0_pay3 o p q r u (ix2 i j) = val_main_v7 (F := Ideal) x0 x1 x3 (ix2 l j) := by
  pointwise [k0_pay3, val_main_v7, val_main_v6, val_main_v5, val_main_v4, val_main_v3, val_main_cst_0, val_main_cst_1]
  rw [hg, hu]
theorem square (hg : k0_pay2 o p q r (ix2 i j) = val_main_v2 (F := Ideal) x0 x1 (ix2 l j)) (hv : v (ix2 i j) = x4 (ix2 l j)) :
    k0_pay4 o p q r v (ix2 i j) = val_main_v13 (F := Ideal) x0 x1 x4 (ix2 l j) := by
  pointwise [k0_pay4, val_main_v13, val_main_v12, val_main_v11, val_main_v10, val_main_v9, val_main_v8, val_main_cst_2, val_main_cst_3]
  rw [hg, hv]
theorem delta (hg : k0_pay2 o p q r (ix2 i j) = val_main_v2 (F := Ideal) x0 x1 (ix2 l j)) (hw : w (ix2 i j) = x2 (ix2 l j))
    (hu : u (ix2 i j) = x3 (ix2 l j)) (hv : v (ix2 i j) = x4 (ix2 l j)) :
    k0_pay1 w (k0_pay5 o p q r u) (k0_pay6 o p q r v) (ix2 i j) = val_main_v26 (F := Ideal) x0 x1 x2 x3 x4 (ix2 l j) := by
  have hm := mean o p q r u x0 x1 x3 i l j hg hu
  have hs := square o p q r v x0 x1 x4 i l j hg hv
  pointwise [k0_pay1, k0_pay5, k0_pay6, val_main_v26, val_main_v25, val_main_v24, val_main_v23, val_main_v22, val_main_v21, val_main_v20,
    val_main_v19, val_main_v18, val_main_v17, val_main_v16, val_main_v15, val_main_v14, val_main_cst_4, val_main_cst_5, val_main_cst_6,
    val_main_cst_7, val_main_cst_8]
  rw [hm, hs, hw]
end

/-! ## The arrays -/

abbrev R5 : (⟨S352x1024, .f32⟩ : BufTy).Contents (Elt Ideal) := val_main_v2 (F := Ideal) (a0 m c) (a1 m c)
abbrev R6 : (⟨S352x1024, .f32⟩ : BufTy).Contents (Elt Ideal) := val_main_v26 (F := Ideal) (a0 m c) (a1 m c) (a2 m c) (a3 m c) (a4 m c)
abbrev R7 : (⟨S352x1024, .f32⟩ : BufTy).Contents (Elt Ideal) := val_main_v7 (F := Ideal) (a0 m c) (a1 m c) (a3 m c)
abbrev R8 : (⟨S352x1024, .f32⟩ : BufTy).Contents (Elt Ideal) := val_main_v13 (F := Ideal) (a0 m c) (a1 m c) (a4 m c)

/-- The parts received from the other chips, at a point. -/
abbrev part0 (t : Fin cfg0.N) : Vec Ideal S1x352x1024 .bf16 := View.ld (iblk m c 1 t) r0_1
abbrev part1 (t : Fin cfg0.N) : Vec Ideal S1x352x1024 .bf16 := View.ld (iblk m c 1 t) r0_2
abbrev part2 (t : Fin cfg0.N) : Vec Ideal S1x352x1024 .bf16 := View.ld (iblk m c 1 t) r0_3

theorem part0_at (t : Fin cfg0.N) (i : Fin 352) (j : Fin 1024) : part0 m c t (ix3 0 i j) = a1 m c (ix3 0 (row t i) j) := by
  refine Eq.trans ?_ (blk1 m c t 0 i j)
  exact View.ld_unit_apply_of _ _ _ _ _ _ (by intro a; fin_cases a <;> simp)
theorem part1_at (t : Fin cfg0.N) (i : Fin 352) (j : Fin 1024) : part1 m c t (ix3 0 i j) = a1 m c (ix3 1 (row t i) j) := by
  refine Eq.trans ?_ (blk1 m c t 1 i j)
  exact View.ld_unit_apply_of _ _ _ _ _ _ (by intro a; fin_cases a <;> simp)
theorem part2_at (t : Fin cfg0.N) (i : Fin 352) (j : Fin 1024) : part2 m c t (ix3 0 i j) = a1 m c (ix3 2 (row t i) j) := by
  refine Eq.trans ?_ (blk1 m c t 2 i j)
  exact View.ld_unit_apply_of _ _ _ _ _ _ (by intro a; fin_cases a <;> simp)

theorem sum_blk (t : Fin cfg0.N) (i : Fin 352) (j : Fin 1024) :
    k0_pay2 (iblk m c 0 t) (part0 m c t) (part1 m c t) (part2 m c t) (ix2 i j) = R5 m c (ix2 (row t i) j) := by
  rw [sum_at, part0_at, part1_at, part2_at, blk0]
  exact (ref_sum_at _ _ _ _).symm

theorem out5 (t : Fin cfg0.N) : out0_5 (iblk m c 0 t) (iblk m c 1 t) (iblk m c 2 t) (iblk m c 3 t) (iblk m c 4 t)
    = k0_pay2 (iblk m c 0 t) (part0 m c t) (part1 m c t) (part2 m c t) := by
  frame_out
  rfl
theorem out6 (t : Fin cfg0.N) : out0_6 (iblk m c 0 t) (iblk m c 1 t) (iblk m c 2 t) (iblk m c 3 t) (iblk m c 4 t)
    = k0_pay1 (iblk m c 2 t) (k0_pay5 (iblk m c 0 t) (part0 m c t) (part1 m c t) (part2 m c t) (iblk m c 3 t))
      (k0_pay6 (iblk m c 0 t) (part0 m c t) (part1 m c t) (part2 m c t) (iblk m c 4 t)) := by
  frame_out
  rfl
theorem out7 (t : Fin cfg0.N) : out0_7 (iblk m c 0 t) (iblk m c 1 t) (iblk m c 2 t) (iblk m c 3 t) (iblk m c 4 t)
    = k0_pay3 (iblk m c 0 t) (part0 m c t) (part1 m c t) (part2 m c t) (iblk m c 3 t) := by
  frame_out
  rfl
theorem out8 (t : Fin cfg0.N) : out0_8 (iblk m c 0 t) (iblk m c 1 t) (iblk m c 2 t) (iblk m c 3 t) (iblk m c 4 t)
    = k0_pay4 (iblk m c 0 t) (part0 m c t) (part1 m c t) (part2 m c t) (iblk m c 4 t) := by
  frame_out
  rfl

theorem final5 : (dats m 0 c).arrAt 5 cfg0.N = R5 m c := by
  refine (dats m 0 c).arrAt_eq_of_covers 5 _ (by decide +kernel) fun t hf y => ?_
  blk_simp
  rw [after0_5, out5]
  have hy : ((cfg0.win 5).blk t).view.emb y = ix2 (n0 := 352) (n1 := 1024) (row t (y 0)) (y 1) := by
    blk_ext [idx5 t]
  rw [hy]
  exact (congrArg _ (eq_ix2 (y : S352x1024.Idx))).trans (sum_blk m c t (y 0) (y 1))

theorem final6 : (dats m 0 c).arrAt 6 cfg0.N = R6 m c := by
  refine (dats m 0 c).arrAt_eq_of_covers 6 _ (by decide +kernel) fun t hf y => ?_
  blk_simp
  rw [after0_6, out6]
  have hy : ((cfg0.win 6).blk t).view.emb y = ix2 (n0 := 352) (n1 := 1024) (row t (y 0)) (y 1) := by
    blk_ext [idx6 t]
  rw [hy]
  exact (congrArg _ (eq_ix2 (y : S352x1024.Idx))).trans (delta _ _ _ _ _ _ _ _ _ _ _ _ (y 0) (row t (y 0)) (y 1) (sum_blk m c t _ _) (blk2 m c t _ _) (blk3 m c t _ _) (blk4 m c t _ _))

theorem final7 : (dats m 0 c).arrAt 7 cfg0.N = R7 m c := by
  refine (dats m 0 c).arrAt_eq_of_covers 7 _ (by decide +kernel) fun t hf y => ?_
  blk_simp
  rw [after0_7, out7]
  have hy : ((cfg0.win 7).blk t).view.emb y = ix2 (n0 := 352) (n1 := 1024) (row t (y 0)) (y 1) := by
    blk_ext [idx7 t]
  rw [hy]
  exact (congrArg _ (eq_ix2 (y : S352x1024.Idx))).trans (mean _ _ _ _ _ _ _ _ (y 0) (row t (y 0)) (y 1) (sum_blk m c t _ _) (blk3 m c t _ _))

theorem final8 : (dats m 0 c).arrAt 8 cfg0.N = R8 m c := by
  refine (dats m 0 c).arrAt_eq_of_covers 8 _ (by decide +kernel) fun t hf y => ?_
  blk_simp
  rw [after0_8, out8]
  have hy : ((cfg0.win 8).blk t).view.emb y = ix2 (n0 := 352) (n1 := 1024) (row t (y 0)) (y 1) := by
    blk_ext [idx8 t]
  rw [hy]
  exact (congrArg _ (eq_ix2 (y : S352x1024.Idx))).trans (square _ _ _ _ _ _ _ _ (y 0) (row t (y 0)) (y 1) (sum_blk m c t _ _) (blk4 m c t _ _))

theorem frame_kernel : Cert.quiescent_KernelAdamwFfnOut := fun m g _ => Cert.KernelAdamwFfnOut.Gen.frame m g

theorem frame_ideal : Cert.quiescent_KernelAdamwFfnOutIdeal := fun m g _ => Cert.KernelAdamwFfnOutIdeal.Gen.frame m g

theorem frame_reference : Cert.quiescent_ReferenceAdamwFfnOutIdeal := fun m g _ =>
  (θ_run Cert.ReferenceAdamwFfnOutIdeal.defs _ _).mono (fun r h => ⟨fun c => (h c).2.2.2.2, sem_eq_zero_of_no_sems (by decide) r.2⟩)
    (Cert.ReferenceAdamwFfnOutIdeal.Value.run (F := Ideal) m g)

theorem equal : Cert.algebraic_KernelAdamwFfnOutIdeal_ReferenceAdamwFfnOutIdeal := by
  intro m g m' g' hp ha
  refine ⟨fun c => R5 m c, fun c => R6 m c, fun c => R7 m c, fun c => R8 m c, ?_, ?_⟩
  · refine (θ_run Cert.KernelAdamwFfnOutIdeal.defs _ _).mono (fun r h c => ?_) (Cert.KernelAdamwFfnOutIdeal.Value.run_blocks m g)
    obtain ⟨r5, r6, r7, r8, rest⟩ := h c
    exact ⟨r5.trans (final5 m c), r6.trans (final6 m c), r7.trans (final7 m c), r8.trans (final8 m c), rest⟩
  · refine (θ_run Cert.ReferenceAdamwFfnOutIdeal.defs _ _).mono (fun r h c => ?_) (Cert.ReferenceAdamwFfnOutIdeal.Value.run (F := Ideal) m' g')
    obtain ⟨r5, r6, r7, r8, rest⟩ := h c
    obtain ⟨e0, e1, e2, e3, e4⟩ := ha c
    rw [e0, e1] at r5
    rw [e0, e1, e2, e3, e4] at r6
    rw [e0, e1, e3] at r7
    rw [e0, e1, e4] at r8
    exact ⟨r5.trans (val_main_v2_eq _ _), r6.trans (val_main_v26_eq _ _ _ _ _), r7.trans (val_main_v7_eq _ _ _), r8.trans (val_main_v13_eq _ _ _), rest⟩

end Cert.AdamwFfnOut

end
-- ==== Proof.FfnOut.lean ====
module

public import proofs.«01_k».proof.Defs
public import proofs.«01_k».proof.Proof.Gen.KernelFfnOut.Frame
public import proofs.«01_k».proof.Proof.Gen.KernelFfnOutIdeal.Value
public import proofs.«01_k».proof.Proof.Gen.ReferenceFfnOutIdeal.Read
public import proofs.«01_k».proof.Proof.RealFacts
public import Idealize.ShloMosaic.Lib.Pipeline.ValueKit
public import Idealize.ShloMosaic.Lib.Pointwise
public import Idealize.ShloMosaic.Lib.Claim

@[expose] public section

set_option maxRecDepth 16384

noncomputable section

/-! The down projection with the residual, the loss and the loss's gradient. The kernel keeps the sums of the squared errors
    of every column from point to point, and adds them up and scales the total at the last point; the reference takes the mean
    of every row and adds the means. -/

namespace Cert.FfnOut

open Cert.KernelFfnOutIdeal Cert.KernelFfnOutIdeal.Gen Idealize.ShloMosaic Idealize.ShloMosaic.TcCoe Idealize.SL.Sem
open Idealize.ShloMosaic.Pipeline (Dat)

/-! ## The reference's values at an index -/

section
open Cert.ReferenceFfnOutIdeal.Read

variable (x0 x1 : (⟨S4096x2816, .bf16⟩ : BufTy).Contents (Elt Ideal)) (x2 : (⟨S2816x1024, .f32⟩ : BufTy).Contents (Elt Ideal))
  (x3 x4 : (⟨S4096x1024, .f32⟩ : BufTy).Contents (Elt Ideal))

/-- The error at an index. -/
def err (l : Fin 4096) (j : Fin 1024) : EReal :=
  x3 (ix2 l j) + ∑ k : Fin 2816, val_main_v3 (F := Ideal) x0 x1 (ix2 l k) * x2 (ix2 k j) - x4 (ix2 l j)

theorem err_at (l : Fin 4096) (j : Fin 1024) : val_main_v6 (F := Ideal) x0 x1 x2 x3 x4 (ix2 l j) = err x0 x1 x2 x3 x4 l j := by
  unfold err
  pointwise [val_main_v6, val_main_v5, val_main_v4]

def c1024 : EReal := Ideal.ofBits .f32 0x44800000#32
def c2 : EReal := Ideal.ofBits .f32 0x40000000#32
def inv1024 : EReal := Ideal.ofBits .f32 0x3A800000#32
def inv2048 : EReal := Ideal.ofBits .f32 0x3A000000#32
def half : EReal := Ideal.ofBits .f32 0x3F000000#32

theorem c1024_eq : c1024 = ((1024 : ℝ) : EReal) := by
  simp [c1024, Ideal.ofBits, Ideal.ieee, -EReal.coe_mul]; norm_num
theorem c2_eq : c2 = ((2 : ℝ) : EReal) := by
  simp [c2, Ideal.ofBits, Ideal.ieee, -EReal.coe_mul]; norm_num
theorem half_eq : half = ((1 / 2 : ℝ) : EReal) := by
  simp [half, Ideal.ofBits, Ideal.ieee, -EReal.coe_mul]; norm_num
theorem inv1024_eq : inv1024 = ((1 / 1024 : ℝ) : EReal) := by
  simp [inv1024, Ideal.ofBits, Ideal.ieee, -EReal.coe_mul]; norm_num
theorem inv2048_eq : inv2048 = ((1 / 2048 : ℝ) : EReal) := by
  simp [inv2048, Ideal.ofBits, Ideal.ieee, -EReal.coe_mul]; norm_num

theorem dy_at (l : Fin 4096) (j : Fin 1024) :
    val_main_v20 (F := Ideal) x0 x1 x2 x3 x4 (ix2 l j) = err x0 x1 x2 x3 x4 l j * inv1024 := by
  have e : val_main_v20 (F := Ideal) x0 x1 x2 x3 x4 (ix2 l j) = Ideal.div (half * 1) c1024 * (c2 * err x0 x1 x2 x3 x4 l j) := by
    rw [← err_at]
    pointwise [val_main_v20, val_main_v19, val_main_v18, val_main_v17, val_main_v16, val_main_v15, val_main_v9, val_main_v8,
      val_main_cst, val_main_cst_4, val_main_cst_5, val_main_cst_6]
    rfl
  rw [e, half_eq, c1024_eq, c2_eq, inv1024_eq, mul_one, Ideal.div_coe (by norm_num), ← mul_assoc, ← EReal.coe_mul, mul_comm]
  congr 1
  rw [← EReal.coe_mul]
  norm_num

/-- The loss: half the sum of the rows' means of the squared error. -/
theorem loss_at (q : Fin 128) : val_main_v22 (F := Ideal) x0 x1 x2 x3 x4 (ix2 0 q)
    = half * ∑ l, Ideal.div (∑ j, err x0 x1 x2 x3 x4 l j * err x0 x1 x2 x3 x4 l j) c1024 := by
  simp only [← err_at]
  pointwise [val_main_v22, val_main_v14, val_main_v13, val_main_v12, val_main_v11, val_main_v10, val_main_v7,
    val_main_cst_0, val_main_cst_1, val_main_cst_2, val_main_cst_3]
  rfl

/-- The same from the sum over all the elements. -/
theorem loss_eq (f : Fin 4096 → Fin 1024 → EReal) : half * ∑ l, Ideal.div (∑ j, f l j) c1024 = (∑ j, ∑ l, f l j) * inv2048 := by
  rw [Finset.sum_comm, half_eq, c1024_eq, inv2048_eq]
  simp only [fun x => (Ideal.div_coe (y := 1024) (by norm_num) x).trans (mul_comm _ _)]
  rw [← RealFacts.mul_sum _ _ (by norm_num), ← mul_assoc, ← EReal.coe_mul, mul_comm]
  congr 2
  norm_num

end

/-! ## The kernel's blocks -/

variable (m : (ℓ : Loc nD τ sig) → Buf (Elt Ideal) ℓ) (c : Dev nD)

abbrev a0 : (⟨S4096x2816, .bf16⟩ : BufTy).Contents (Elt Ideal) := m ((c : Thread nD τ).loc main_arg0)
abbrev a1 : (⟨S4096x2816, .bf16⟩ : BufTy).Contents (Elt Ideal) := m ((c : Thread nD τ).loc main_arg1)
abbrev a2 : (⟨S2816x1024, .f32⟩ : BufTy).Contents (Elt Ideal) := m ((c : Thread nD τ).loc main_arg2)
abbrev a3 : (⟨S4096x1024, .f32⟩ : BufTy).Contents (Elt Ideal) := m ((c : Thread nD τ).loc main_arg3)
abbrev a4 : (⟨S4096x1024, .f32⟩ : BufTy).Contents (Elt Ideal) := m ((c : Thread nD τ).loc main_arg4)
abbrev act := Cert.ReferenceFfnOutIdeal.Read.val_main_v3 (F := Ideal) (a0 m c) (a1 m c)
abbrev er := err (a0 m c) (a1 m c) (a2 m c) (a3 m c) (a4 m c)

theorem entry4 : V m c main_v4 = (truncf .bf16 (act m c : FVec Ideal S4096x2816 .f32) bitsLt_bf16_f32 : FVec Ideal S4096x2816 .bf16) := by
  unfold_abbrev_sides
  simp only [hostOps0, hostOps0_1, hostOps0_2, List.flatten_cons, List.flatten_nil, List.cons_append, List.nil_append, List.append_nil]
  after_results
  rfl
theorem entry5 : V m c main_v5 = (truncf .bf16 (a2 m c : FVec Ideal S2816x1024 .f32) bitsLt_bf16_f32 : FVec Ideal S2816x1024 .bf16) := by
  unfold_abbrev_sides
  simp only [hostOps0, hostOps0_1, hostOps0_2, List.flatten_cons, List.flatten_nil, List.cons_append, List.nil_append, List.append_nil]
  after_results
theorem entry4_at (l : Fin 4096) (i : Fin 2816) : V m c main_v4 (ix2 l i) = act m c (ix2 l i) := by
  rw [entry4]
  rfl
theorem entry5_at (i : Fin 2816) (j : Fin 1024) : V m c main_v5 (ix2 i j) = a2 m c (ix2 i j) := by
  rw [entry5]
  rfl

theorem lt8 (t : Fin cfg0.N) : t.val < 8 := lt_of_lt_of_eq t.isLt N_0
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)

/-- The row of the arrays that a block's row is. -/
abbrev row (t : Fin cfg0.N) (i : Fin 512) : Fin 4096 := ⟨t.val * 512 + i.val, by have := lt8 t; omega⟩

theorem blk0 (t : Fin cfg0.N) (i : Fin 512) (j : Fin 1024) : iblk m c 0 t (ix2 i j) = a3 m c (ix2 (row t i) j) := by
  blk_ext [iblk, V, idx0 t]
theorem blk1 (t : Fin cfg0.N) (i : Fin 512) (k : Fin 2816) : iblk m c 1 t (ix2 i k) = act m c (ix2 (row t i) k) := by
  refine Eq.trans ?_ (entry4_at m c _ _)
  blk_ext [iblk, idx1 t]
theorem blk2 (t : Fin cfg0.N) (k : Fin 2816) (j : Fin 1024) : iblk m c 2 t (ix2 k j) = a2 m c (ix2 k j) := by
  refine Eq.trans ?_ (entry5_at m c _ _)
  blk_ext [iblk, idx2 t]
theorem blk3 (t : Fin cfg0.N) (i : Fin 512) (j : Fin 1024) : iblk m c 3 t (ix2 i j) = a4 m c (ix2 (row t i) j) := by
  blk_ext [iblk, V, idx3 t]

/-! ## The payloads at an index -/

section
variable (x : Vec Ideal S512x1024 .f32) (a : Vec Ideal S512x2816 .bf16) (w : Vec Ideal S2816x1024 .bf16) (y : Vec Ideal S512x1024 .f32)

theorem pay1_at (i : Fin 512) (j : Fin 1024) :
    k0_pay1 x a w y (ix2 i j) = x (ix2 i j) + ∑ k : Fin 2816, a (ix2 i k) * w (ix2 k j) - y (ix2 i j) := by
  pointwise [k0_pay1]
theorem pay2_at (i : Fin 512) (j : Fin 1024) : k0_pay2 x a w y (ix2 i j) = k0_pay1 x a w y (ix2 i j) * inv1024 := by
  pointwise [k0_pay2]
  rfl
theorem pay3_at (i : Fin 512) (j : Fin 1024) : k0_pay3 x a w y (ix2 i j) = k0_pay2 x a w y (ix2 i j) := by
  pointwise [k0_pay3]
theorem pay4_at (j : Fin 1024) :
    k0_pay4 x a w y (ix2 0 j) = ∑ i : Fin 512, k0_pay1 x a w y (ix2 i j) * k0_pay1 x a w y (ix2 i j) := by
  pointwise [k0_pay4]
theorem pay5_eq : k0_pay5 x a w y = k0_pay4 x a w y := by
  unfold k0_pay5
  exact shapeCast_self _ _
theorem pay6_eq (s : Vec Ideal S1x1024 .f32) : k0_pay6 x a w y s = addf s (k0_pay4 x a w y) := by
  unfold k0_pay6
  exact shapeCast_self _ _
theorem pay7_at (s : Vec Ideal S1x1024 .f32) (q : Fin 128) : k0_pay7 s (ix2 0 q) = (∑ j : Fin 1024, s (ix2 0 j)) * inv2048 := by
  pointwise [k0_pay7]
  rfl
end

abbrev e1 (t : Fin cfg0.N) := k0_pay1 (iblk m c 0 t) (iblk m c 1 t) (iblk m c 2 t) (iblk m c 3 t)
abbrev e2 (t : Fin cfg0.N) := k0_pay2 (iblk m c 0 t) (iblk m c 1 t) (iblk m c 2 t) (iblk m c 3 t)
abbrev e3 (t : Fin cfg0.N) := k0_pay3 (iblk m c 0 t) (iblk m c 1 t) (iblk m c 2 t) (iblk m c 3 t)
abbrev e4 (t : Fin cfg0.N) := k0_pay4 (iblk m c 0 t) (iblk m c 1 t) (iblk m c 2 t) (iblk m c 3 t)

theorem e1_at (t : Fin cfg0.N) (i : Fin 512) (j : Fin 1024) : e1 m c t (ix2 i j) = er m c (row t i) j := by
  refine (pay1_at _ _ _ _ i j).trans ?_
  rw [blk0, blk3]
  refine congrArg (fun z => a3 m c (ix2 (row t i) j) + z - a4 m c (ix2 (row t i) j)) ?_
  exact Finset.sum_congr rfl fun k _ => by rw [blk1, blk2]
theorem e4_at (t : Fin cfg0.N) (j : Fin 1024) :
    e4 m c t (ix2 0 j) = ∑ i : Fin 512, er m c (row t i) j * er m c (row t i) j := by
  refine (pay4_at _ _ _ _ j).trans ?_
  exact Finset.sum_congr rfl fun i _ => congrArg₂ (· * ·) (e1_at m c t i j) (e1_at m c t i j)

/-! ## The three cases of a grid point -/

theorem scratch_read (b : scM0_0.IsWhole) (z : Vec Ideal S1x1024 .f32) :
    View.read (Elt Ideal) (View.whole cc0_scratch0) (b.unread z) = z := b.read_unread z

abbrev before (t : Fin cfg0.N) := (outsAt0 m c (t.val - 1) (Nat.lt_of_le_of_lt (Nat.sub_le _ _) t.isLt)).2.2.2

theorem dyA (t : Fin cfg0.N) (h : t.val = 0) : (outsAt0 m c t.val t.isLt).1 = e2 m c t := by
  rw [outsAt0_A m c t (by omega) (by omega) (by omega)]
  frame_out
theorem dyB (t : Fin cfg0.N) (h : t.val ≠ 0) (h' : t.val ≠ 7) : (outsAt0 m c t.val t.isLt).1 = e2 m c t := by
  have := lt8 t
  rw [outsAt0_B m c t (by omega) (by omega) (by omega)]
  frame_out
theorem dyC (t : Fin cfg0.N) (h : t.val = 7) : (outsAt0 m c t.val t.isLt).1 = e2 m c t := by
  rw [outsAt0_C m c t (by omega) (by omega) (by omega)]
  frame_out
theorem dybA (t : Fin cfg0.N) (h : t.val = 0) : (outsAt0 m c t.val t.isLt).2.1 = e3 m c t := by
  rw [outsAt0_A m c t (by omega) (by omega) (by omega)]
  frame_out
theorem dybB (t : Fin cfg0.N) (h : t.val ≠ 0) (h' : t.val ≠ 7) : (outsAt0 m c t.val t.isLt).2.1 = e3 m c t := by
  have := lt8 t
  rw [outsAt0_B m c t (by omega) (by omega) (by omega)]
  frame_out
theorem dybC (t : Fin cfg0.N) (h : t.val = 7) : (outsAt0 m c t.val t.isLt).2.1 = e3 m c t := by
  rw [outsAt0_C m c t (by omega) (by omega) (by omega)]
  frame_out
theorem scA (t : Fin cfg0.N) (h : t.val = 0) : (outsAt0 m c t.val t.isLt).2.2.2 = e4 m c t := by
  rw [outsAt0_A m c t (by omega) (by omega) (by omega)]
  frame_out
  exact pay5_eq _ _ _ _
theorem scB (t : Fin cfg0.N) (h : t.val ≠ 0) (h' : t.val ≠ 7) :
    (outsAt0 m c t.val t.isLt).2.2.2 = addf (before m c t) (e4 m c t) := by
  have := lt8 t
  rw [outsAt0_B m c t (by omega) (by omega) (by omega)]
  frame_out
  rw [scratch_read]
  exact pay6_eq _ _ _ _ _
theorem lossC (t : Fin cfg0.N) (h : t.val = 7) :
    (outsAt0 m c t.val t.isLt).2.2.1 = k0_pay7 (addf (before m c t) (e4 m c t)) := by
  rw [outsAt0_C m c t (by omega) (by omega) (by omega)]
  frame_out
  rw [scratch_read]
  exact congrArg _ (pay6_eq _ _ _ _ _)

theorem dy (t : Fin cfg0.N) : (outsAt0 m c t.val t.isLt).1 = e2 m c t := by
  by_cases h : t.val = 0
  · exact dyA m c t h
  · by_cases h' : t.val = 7
    · exact dyC m c t h'
    · exact dyB m c t h h'
theorem dyb (t : Fin cfg0.N) : (outsAt0 m c t.val t.isLt).2.1 = e3 m c t := by
  by_cases h : t.val = 0
  · exact dybA m c t h
  · by_cases h' : t.val = 7
    · exact dybC m c t h'
    · exact dybB m c t h h'

/-- What the scratch holds after a point that is not the last: the sums over the rows so far. -/
theorem sc_at : ∀ (n : ℕ) (h : n < cfg0.N), n < 7 → ∀ j : Fin 1024, (outsAt0 m c n h).2.2.2 (ix2 0 j)
    = ∑ t : Fin (n + 1), e4 m c ⟨t.val, by have := t.isLt; omega⟩ (ix2 0 j)
  | 0, h, _, j => by
    rw [Fin.sum_univ_one]
    exact congrFun (scA m c ⟨0, h⟩ rfl) _
  | n + 1, h, h7, j => by
    rw [Fin.sum_univ_castSucc]
    refine (congrFun (scB m c ⟨n + 1, h⟩ (Nat.succ_ne_zero n) (by dsimp only; omega)) _).trans ?_
    refine congrArg (· + e4 m c ⟨n + 1, h⟩ (ix2 0 j)) ?_
    exact sc_at n (by omega) (by omega) j

theorem loss_out (t : Fin cfg0.N) (h : t.val = 7) (q : Fin 128) : (outsAt0 m c t.val t.isLt).2.2.1 (ix2 0 q)
    = (∑ j, ∑ l, er m c l j * er m c l j) * inv2048 := by
  rw [lossC m c t h, pay7_at]
  congr 1
  refine Finset.sum_congr rfl fun j _ => ?_
  refine Eq.trans ?_ (Fin.sum_mul_add_fin (L := 4096) 8 512 _)
  refine Eq.trans ?_ (Fin.sum_univ_castSucc _).symm
  have e := sc_at m c (t.val - 1) (Nat.lt_of_le_of_lt (Nat.sub_le _ _) t.isLt) (by omega) j
  show before m c t (ix2 0 j) + e4 m c t (ix2 0 j) = _
  obtain ⟨n, hn⟩ := t
  subst h
  exact congrArg₂ (· + ·) (e.trans (Finset.sum_congr rfl fun t _ => e4_at m c _ _)) (e4_at m c _ j)

/-! ## The whole arrays -/

abbrev R0 : (⟨S4096x1024, .f32⟩ : BufTy).Contents (Elt Ideal) := Cert.ReferenceFfnOutIdeal.Read.val_main_v20 (F := Ideal) (a0 m c) (a1 m c) (a2 m c) (a3 m c) (a4 m c)
abbrev R1 : (⟨S4096x1024, .bf16⟩ : BufTy).Contents (Elt Ideal) := Cert.ReferenceFfnOutIdeal.Read.val_main_v21 (F := Ideal) (a0 m c) (a1 m c) (a2 m c) (a3 m c) (a4 m c)
abbrev R2 : (⟨S1x128, .f32⟩ : BufTy).Contents (Elt Ideal) := Cert.ReferenceFfnOutIdeal.Read.val_main_v22 (F := Ideal) (a0 m c) (a1 m c) (a2 m c) (a3 m c) (a4 m c)

theorem dy_out (t : Fin cfg0.N) (i : Fin 512) (j : Fin 1024) : e2 m c t (ix2 i j) = R0 m c (ix2 (row t i) j) := by
  refine (pay2_at _ _ _ _ i j).trans ?_
  refine (congrArg (· * inv1024) (e1_at m c t i j)).trans ?_
  exact (dy_at _ _ _ _ _ _ _).symm
theorem dyb_out (t : Fin cfg0.N) (i : Fin 512) (j : Fin 1024) : e3 m c t (ix2 i j) = R1 m c (ix2 (row t i) j) := by
  refine (pay3_at _ _ _ _ i j).trans ?_
  refine (dy_out m c t i j).trans ?_
  pointwise [Cert.ReferenceFfnOutIdeal.Read.val_main_v21]

theorem final4 : (dats m 0 c).arrAt 4 cfg0.N = R0 m c := by
  refine (dats m 0 c).arrAt_eq_of_covers 4 _ (by decide +kernel) fun t hf y => ?_
  blk_simp
  rw [after0_4, dy]
  have hy : ((cfg0.win 4).blk t).view.emb y = ix2 (n0 := 4096) (n1 := 1024) (row t (y 0)) (y 1) := by
    blk_ext [idx4 t]
  rw [hy]
  exact (congrArg _ (eq_ix2 (y : S512x1024.Idx))).trans (dy_out m c t (y 0) (y 1))
theorem final5 : (dats m 0 c).arrAt 5 cfg0.N = R1 m c := by
  refine (dats m 0 c).arrAt_eq_of_covers 5 _ (by decide +kernel) fun t hf y => ?_
  blk_simp
  rw [after0_5, dyb]
  have hy : ((cfg0.win 5).blk t).view.emb y = ix2 (n0 := 4096) (n1 := 1024) (row t (y 0)) (y 1) := by
    blk_ext [idx5 t]
  rw [hy]
  exact (congrArg _ (eq_ix2 (y : S512x1024.Idx))).trans (dyb_out m c t (y 0) (y 1))
theorem final6 : (dats m 0 c).arrAt 6 cfg0.N = R2 m c := by
  refine (dats m 0 c).arrAt_eq_of_covers 6 _ (by decide +kernel) fun t hf y => ?_
  have h7 : t.val = 7 := by have := (flush0_6 t).mp hf; have := lt8 t; omega
  blk_simp
  rw [after0_6]
  have hy : ((cfg0.win 6).blk t).view.emb y = ix2 (n0 := 1) (n1 := 128) 0 (y 1) := by
    blk_ext [idx6 t]
  rw [hy]
  refine (congrArg _ ?_).trans ((loss_out m c t h7 (y 1)).trans ((loss_eq _).symm.trans (loss_at _ _ _ _ _ (y 1)).symm))
  exact (eq_ix2 (y : S1x128.Idx)).trans (congrArg (fun a : Fin 1 => (ix2 a (y 1) : S1x128.Idx)) (Subsingleton.elim _ _))

theorem frame_kernel : Cert.quiescent_KernelFfnOut := fun m g _ => Cert.KernelFfnOut.Gen.frame m g

theorem frame_ideal : Cert.quiescent_KernelFfnOutIdeal := fun m g _ => Cert.KernelFfnOutIdeal.Gen.frame m g

theorem frame_reference : Cert.quiescent_ReferenceFfnOutIdeal := fun m g _ =>
  (θ_run Cert.ReferenceFfnOutIdeal.defs _ _).mono (fun r h => ⟨fun c => (h c).2.2.2, sem_eq_zero_of_no_sems (by decide) r.2⟩)
    (Cert.ReferenceFfnOutIdeal.Value.run (F := Ideal) m g)

theorem equal : Cert.algebraic_KernelFfnOutIdeal_ReferenceFfnOutIdeal := by
  intro m g m' g' hp ha
  refine ⟨fun c => R0 m c, fun c => R1 m c, fun c => R2 m c, ?_, ?_⟩
  · refine (θ_run Cert.KernelFfnOutIdeal.defs _ _).mono (fun r h c => ?_) (Cert.KernelFfnOutIdeal.Value.run_blocks m g)
    obtain ⟨h0, h1, h2, rest⟩ := h c
    exact ⟨h0.trans (final4 m c), h1.trans (final5 m c), h2.trans (final6 m c), rest⟩
  · refine (θ_run Cert.ReferenceFfnOutIdeal.defs _ _).mono (fun r h c => ?_) (Cert.ReferenceFfnOutIdeal.Value.run (F := Ideal) m' g')
    obtain ⟨r0, r1, r2, rest⟩ := h c
    obtain ⟨e0, e1, e2, e3, e4⟩ := ha c
    rw [e0, e1, e2, e3, e4] at r0 r1 r2
    exact ⟨r0.trans (Cert.ReferenceFfnOutIdeal.Read.val_main_v20_eq _ _ _ _ _), r1.trans (Cert.ReferenceFfnOutIdeal.Read.val_main_v21_eq _ _ _ _ _),
      r2.trans (Cert.ReferenceFfnOutIdeal.Read.val_main_v22_eq _ _ _ _ _), rest⟩

end Cert.FfnOut

end
-- ==== Proof.FfnOutAct.lean ====
module

public import proofs.«01_k».proof.Defs
public import proofs.«01_k».proof.Proof.Gen.KernelFfnOutAct.Frame
public import proofs.«01_k».proof.Proof.Gen.KernelFfnOutActIdeal.Value
public import proofs.«01_k».proof.Proof.Gen.ReferenceFfnOutActIdeal.Read
public import proofs.«01_k».proof.Proof.Equal
public import proofs.«01_k».proof.Proof.Finite
public import proofs.«01_k».proof.Proof.Logistic
public import Idealize.ShloMosaic.Lib.Pipeline.ValueKit
public import Idealize.ShloMosaic.Lib.Pointwise
public import Idealize.ShloMosaic.Lib.Claim

@[expose] public section

set_option maxRecDepth 16384

noncomputable section

/-! The gradient of the gated product's two factors. The kernel writes silu's slope with one factor taken out, the reference as
    a sum of two terms; the two agree where the gradient that multiplies them is a real number. -/

namespace Cert.FfnOutAct

open Cert.KernelFfnOutActIdeal Cert.KernelFfnOutActIdeal.Gen Idealize.ShloMosaic Idealize.ShloMosaic.TcCoe Idealize.SL.Sem Cert.Logistic
open Idealize.ShloMosaic.Pipeline (Dat)

instance preFacts : Cert.Pre_gates_finite.Facts where
  bitsLt_bf16_f32 := by decide
  bcast_S_S4096x2816 := by decide
  bcast_S_S2816x1024 := by decide
  bcast_S_S4096x1024 := by decide

/-! ## The slope of silu -/

theorem exp_top : viaExp ⊤ = 1 := by
  rw [← same, viaTanh, half_eq, EReal.coe_mul_top_of_pos (by norm_num), Ideal.tanh_top, mul_one, ← EReal.coe_add, ← EReal.coe_one]
  norm_num
theorem exp_bot : viaExp ⊥ = 0 := by
  rw [← same, viaTanh, half_eq, EReal.coe_mul_bot_of_pos (by norm_num), Ideal.tanh_bot, ← EReal.coe_one, ← EReal.coe_neg, ← EReal.coe_mul, ← EReal.coe_add, ← EReal.coe_zero]
  norm_num
theorem exp_coe (r : ℝ) : ∃ s : ℝ, viaExp r = s := by
  refine ⟨1 / 2 * Real.tanh (1 / 2 * r) + 1 / 2, ?_⟩
  rw [← same, viaTanh, half_eq, ← EReal.coe_mul, Ideal.tanh_coe, ← EReal.coe_mul, ← EReal.coe_add]

/-- The two ways to write the gradient through silu. -/
theorem slope (r : ℝ) (a : EReal) : (r : EReal) * (viaExp a + a * viaExp a * (1 - viaExp a))
    = r * viaExp a + a * r * (viaExp a * (1 - viaExp a)) := by
  induction a using EReal.rec with
  | top =>
    have h : (1 : EReal) - 1 = 0 := by rw [← EReal.coe_one, ← EReal.coe_sub, sub_self, EReal.coe_zero]
    rw [exp_top, h, mul_zero, mul_zero, mul_zero, add_zero, mul_one, add_zero]
  | bot => simp only [exp_bot, mul_zero, zero_mul, add_zero]
  | coe x =>
    obtain ⟨s, hs⟩ := exp_coe x
    rw [hs, ← EReal.coe_one]
    norm_cast
    ring

/-! ## The reference's values at an index -/

section
open Cert.ReferenceFfnOutActIdeal.Read

variable (x0 x1 : (⟨S4096x2816, .bf16⟩ : BufTy).Contents (Elt Ideal)) (x2 : (⟨S2816x1024, .f32⟩ : BufTy).Contents (Elt Ideal))
  (x3 : (⟨S4096x1024, .bf16⟩ : BufTy).Contents (Elt Ideal))

/-- The gradient of the gated product. -/
def grad (l : Fin 4096) (q : Fin 2816) : EReal := ∑ j : Fin 1024, x3 (ix2 l j) * x2 (ix2 q j)

theorem grad_at (l : Fin 4096) (q : Fin 2816) : val_main_v8 (F := Ideal) x2 x3 (ix2 l q) = grad x2 x3 l q := by
  unfold grad
  pointwise [val_main_v8, val_main_v5]

theorem s_at (l : Fin 4096) (q : Fin 2816) : val_main_v2_2 (F := Ideal) x0 (ix2 l q) = viaExp (x0 (ix2 l q)) := by
  pointwise [val_main_v2_2, val_main_call0_v4, val_main_call0_v3, val_main_call0_v2, val_main_call0_v1, val_main_call0_v0, val_main_v0,
    val_main_call0_cst, val_main_call0_cst_0]
  rfl

theorem low_at (l : Fin 4096) (q : Fin 2816) : val_main_v15 (F := Ideal) x0 x1 x2 x3 (ix3 0 l q)
    = grad x2 x3 l q * x1 (ix2 l q) * viaExp (x0 (ix2 l q))
      + x0 (ix2 l q) * (grad x2 x3 l q * x1 (ix2 l q)) * (viaExp (x0 (ix2 l q)) * (1 - viaExp (x0 (ix2 l q)))) := by
  simp only [← s_at, ← grad_at]
  pointwise [val_main_v15, val_main_v14, val_main_v12, val_main_v11, val_main_v10, val_main_call1_v2, val_main_call1_v1, val_main_call1_v0,
    val_main_v1, val_main_v0, val_main_v2_1, val_main_call0_v7, val_main_call0_v6, val_main_call0_cst_1]
theorem high_at (l : Fin 4096) (q : Fin 2816) : val_main_v15 (F := Ideal) x0 x1 x2 x3 (ix3 1 l q)
    = x0 (ix2 l q) * viaExp (x0 (ix2 l q)) * grad x2 x3 l q := by
  simp only [← s_at, ← grad_at]
  pointwise [val_main_v15, val_main_v14, val_main_v13, val_main_v9, val_main_v2_0, val_main_v0]

/-- The precondition at its arguments: the gradient that reaches silu is a real number. -/
theorem real_of (h0 : (Cert.Pre_gates_finite.fn (F := Ideal) x0 x1 x2 x3).1 = fun _ => 1#1)
    (h1 : (Cert.Pre_gates_finite.fn (F := Ideal) x0 x1 x2 x3).2.1 = fun _ => 1#1)
    (h2 : (Cert.Pre_gates_finite.fn (F := Ideal) x0 x1 x2 x3).2.2 = fun _ => 1#1) (l : Fin 4096) (q : Fin 2816) :
    ∃ r : ℝ, grad x2 x3 l q * x1 (ix2 l q) = r := by
  have hb : ∃ r : ℝ, x1 (ix2 l q) = r := by
    have e := congrFun h0 (ix2 l q)
    simp only [Cert.Pre_gates_finite.fn] at e
    pointwise at e
    exact Cert.Equal.real_of_bit e
  have hw : ∀ j : Fin 1024, ∃ r : ℝ, x2 (ix2 q j) = r := fun j => by
    have e := congrFun h1 (ix2 q j)
    simp only [Cert.Pre_gates_finite.fn] at e
    pointwise at e
    exact Cert.Equal.real_of_bit e
  have hd : ∀ j : Fin 1024, ∃ r : ℝ, x3 (ix2 l j) = r := fun j => by
    have e := congrFun h2 (ix2 l j)
    simp only [Cert.Pre_gates_finite.fn] at e
    pointwise at e
    exact Cert.Equal.real_of_bit e
  choose w hw using hw
  choose d hd using hd
  obtain ⟨b, hb⟩ := hb
  refine ⟨(∑ j, d j * w j) * b, ?_⟩
  rw [grad, hb]
  simp only [hw, hd, ← EReal.coe_mul]
  rw [Cert.MemGrad.coe_sum, ← EReal.coe_mul]

end

/-! ## The kernel's payloads at an index -/

section
variable (x : Vec Ideal S1024x1024 .bf16) (w : Vec Ideal S1408x1024 .bf16) (a b : Vec Ideal S1024x1408 .bf16) (i : Fin 1024) (j : Fin 1408)

theorem pay1_at : k0_pay1 x w (ix2 i j) = ∑ k : Fin 1024, x (ix2 i k) * w (ix2 j k) := by
  pointwise [k0_pay1]
theorem pay3_at : k0_pay3 a (ix2 i j) = viaExp (a (ix2 i j)) := by
  rw [← same]
  pointwise [k0_pay3, k0_pay2]
  rfl
theorem pay5_at : k0_pay5 x w a b (ix3 0 i j)
    = k0_pay1 x w (ix2 i j) * b (ix2 i j) * (viaExp (a (ix2 i j)) + a (ix2 i j) * viaExp (a (ix2 i j)) * (1 - viaExp (a (ix2 i j)))) := by
  simp only [← pay3_at]
  pointwise [k0_pay5, k0_pay4, k0_pay2]
theorem pay6_at : k0_pay6 x w a (ix3 0 i j) = k0_pay1 x w (ix2 i j) * (a (ix2 i j) * viaExp (a (ix2 i j))) := by
  simp only [← pay3_at]
  pointwise [k0_pay6, k0_pay4, k0_pay2]
end

/-! ## The kernel's blocks -/

variable (m : (ℓ : Loc nD τ sig) → Buf (Elt Ideal) ℓ) (c : Dev nD)

abbrev a0 : (⟨S4096x2816, .bf16⟩ : BufTy).Contents (Elt Ideal) := m ((c : Thread nD τ).loc main_arg0)
abbrev a1 : (⟨S4096x2816, .bf16⟩ : BufTy).Contents (Elt Ideal) := m ((c : Thread nD τ).loc main_arg1)
abbrev a2 : (⟨S2816x1024, .f32⟩ : BufTy).Contents (Elt Ideal) := m ((c : Thread nD τ).loc main_arg2)
abbrev a3 : (⟨S4096x1024, .bf16⟩ : BufTy).Contents (Elt Ideal) := m ((c : Thread nD τ).loc main_arg3)

theorem entry : V m c main_v0 = (truncf .bf16 (a2 m c : FVec Ideal S2816x1024 .f32) bitsLt_bf16_f32 : FVec Ideal S2816x1024 .bf16) := by
  unfold_abbrev_sides
  after_results
theorem entry_at (i : Fin 2816) (j : Fin 1024) : V m c main_v0 (ix2 i j) = a2 m c (ix2 i j) := by
  rw [entry]
  rfl

theorem lt8 (t : Fin cfg0.N) : t.val < 8 := lt_of_lt_of_eq t.isLt N_0
theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![t.val / 2, t.val % 2] := (by decide +kernel : ∀ t : Fin grid0.N, _)
theorem idx4 : ∀ t : Fin cfg0.N, win0_4.index t = ![0, t.val / 2, t.val % 2] := (by decide +kernel : ∀ t : Fin grid0.N, _)

abbrev row (t : Fin cfg0.N) (i : Fin 1024) : Fin 4096 := ⟨t.val / 2 * 1024 + i.val, by have := lt8 t; omega⟩
abbrev col (t : Fin cfg0.N) (j : Fin 1408) : Fin 2816 := ⟨t.val % 2 * 1408 + j.val, by omega⟩

theorem blk0 (t : Fin cfg0.N) (i k : Fin 1024) : iblk m c 0 t (ix2 i k) = a3 m c (ix2 (row t i) k) := by
  blk_ext [iblk, V, idx0 t]
theorem blk1 (t : Fin cfg0.N) (j : Fin 1408) (k : Fin 1024) : iblk m c 1 t (ix2 j k) = a2 m c (ix2 (col t j) k) := by
  refine Eq.trans ?_ (entry_at m c _ _)
  blk_ext [iblk, idx1 t]
theorem blk2 (t : Fin cfg0.N) (i : Fin 1024) (j : Fin 1408) : iblk m c 2 t (ix2 i j) = a0 m c (ix2 (row t i) (col t j)) := by
  blk_ext [iblk, V, idx2 t]
theorem blk3 (t : Fin cfg0.N) (i : Fin 1024) (j : Fin 1408) : iblk m c 3 t (ix2 i j) = a1 m c (ix2 (row t i) (col t j)) := by
  blk_ext [iblk, V, idx3 t]

theorem grad_block (t : Fin cfg0.N) (i : Fin 1024) (j : Fin 1408) :
    k0_pay1 (iblk m c 0 t) (iblk m c 1 t) (ix2 i j) = grad (a2 m c) (a3 m c) (row t i) (col t j) := by
  refine (pay1_at _ _ i j).trans ?_
  exact Finset.sum_congr rfl fun k _ => by rw [blk0, blk1]

abbrev R : (⟨S2x4096x2816, .bf16⟩ : BufTy).Contents (Elt Ideal) :=
  Cert.ReferenceFfnOutActIdeal.Read.val_main_v15 (F := Ideal) (a0 m c) (a1 m c) (a2 m c) (a3 m c)

theorem low_block (H : ∀ l q, ∃ r : ℝ, grad (a2 m c) (a3 m c) l q * a1 m c (ix2 l q) = r) (t : Fin cfg0.N) (i : Fin 1024) (j : Fin 1408) :
    k0_pay5 (iblk m c 0 t) (iblk m c 1 t) (iblk m c 2 t) (iblk m c 3 t) (ix3 0 i j) = R m c (ix3 0 (row t i) (col t j)) := by
  refine (pay5_at _ _ _ _ i j).trans ?_
  refine Eq.trans ?_ (low_at _ _ _ _ _ _).symm
  rw [grad_block, blk2, blk3]
  obtain ⟨r, hr⟩ := H (row t i) (col t j)
  rw [hr]
  exact slope r _
theorem high_block (t : Fin cfg0.N) (i : Fin 1024) (j : Fin 1408) :
    k0_pay6 (iblk m c 0 t) (iblk m c 1 t) (iblk m c 2 t) (ix3 0 i j) = R m c (ix3 1 (row t i) (col t j)) := by
  refine (pay6_at _ _ _ i j).trans ?_
  refine Eq.trans ?_ (high_at _ _ _ _ _ _).symm
  rw [grad_block, blk2]
  exact mul_comm _ _

theorem out4 (t : Fin cfg0.N) : out0_4 (iblk m c 0 t) (iblk m c 1 t) (iblk m c 2 t) (iblk m c 3 t)
    = View.canon (Val := Elt Ideal) (s := S2x1024x1408) (e := .bf16)
      [⟨Rect.unit ![1, 0, 0] ![1, 1024, 1408] inb_S2x1024x1408_S1x1024x1408_1_0_0, k0_pay6 (iblk m c 0 t) (iblk m c 1 t) (iblk m c 2 t)⟩,
       ⟨Rect.unit ![0, 0, 0] ![1, 1024, 1408] inb_S2x1024x1408_S1x1024x1408_0_0_0, k0_pay5 (iblk m c 0 t) (iblk m c 1 t) (iblk m c 2 t) (iblk m c 3 t)⟩] := by
  frame_out

theorem eq_unit (x : S1x1024x1408.Idx) : x = ix3 0 (x 1) (x 2) :=
  (eq_ix3 (x : S1x1024x1408.Idx)).trans (congrArg (fun a : Fin 1 => (ix3 a (x 1) (x 2) : S1x1024x1408.Idx)) (Subsingleton.elim _ _))

theorem R_of (t : Fin cfg0.N) {u u' : Fin 2} {i i' : Fin 1024} {j j' : Fin 1408} (h0 : u = u') (h1 : i = i') (h2 : j = j') :
    R m c (ix3 u (row t i) (col t j)) = R m c (ix3 u' (row t i') (col t j')) := by
  rw [h0, h1, h2]

theorem out_at (H : ∀ l q, ∃ r : ℝ, grad (a2 m c) (a3 m c) l q * a1 m c (ix2 l q) = r) (t : Fin cfg0.N) (y : S2x1024x1408.Idx) :
    out0_4 (iblk m c 0 t) (iblk m c 1 t) (iblk m c 2 t) (iblk m c 3 t) y = R m c (ix3 (y 0) (row t (y 1)) (col t (y 2))) := by
  rw [out4]
  canon_tiles x h
  · refine (congrArg _ (eq_unit x)).trans ((high_block m c t (x 1) (x 2)).trans ?_)
    exact R_of m c t (Fin.ext (by show 1 = (y 0).val; omega)) (Fin.ext h1.symm) (Fin.ext h2.symm)
  · refine (congrArg _ (eq_unit x)).trans ((low_block m c H t (x 1) (x 2)).trans ?_)
    exact R_of m c t (Fin.ext (by show 0 = (y 0).val; omega)) (Fin.ext h1.symm) (Fin.ext h2.symm)

theorem final4 (H : ∀ l q, ∃ r : ℝ, grad (a2 m c) (a3 m c) l q * a1 m c (ix2 l q) = r) : (dats m 0 c).arrAt 4 cfg0.N = R m c := by
  refine (dats m 0 c).arrAt_eq_of_covers 4 _ (by decide +kernel) fun t hf y => ?_
  blk_simp
  rw [after0_4]
  have hy : ((cfg0.win 4).blk t).view.emb y = ix3 (n0 := 2) (n1 := 4096) (n2 := 2816) (y 0) (row t (y 1)) (col t (y 2)) := by
    blk_ext [idx4 t]
  rw [hy]
  exact out_at m c H t y

theorem frame_kernel : Cert.quiescent_KernelFfnOutAct := fun m g _ => Cert.KernelFfnOutAct.Gen.frame m g

theorem frame_ideal : Cert.quiescent_KernelFfnOutActIdeal := fun m g _ => Cert.KernelFfnOutActIdeal.Gen.frame m g

theorem frame_ideal_pre : Cert.quiescent_KernelFfnOutActIdeal_pre_gates_finite := fun m g _ => Cert.KernelFfnOutActIdeal.Gen.frame m g

theorem frame_reference : Cert.quiescent_ReferenceFfnOutActIdeal := fun m g _ =>
  (θ_run Cert.ReferenceFfnOutActIdeal.defs _ _).mono (fun r h => ⟨fun c => (h c).2, sem_eq_zero_of_no_sems (by decide) r.2⟩)
    (Cert.ReferenceFfnOutActIdeal.Value.run (F := Ideal) m g)

theorem frame_reference_pre : Cert.quiescent_ReferenceFfnOutActIdeal_pre_gates_finite := fun m g _ => frame_reference m g trivial

theorem equal : Cert.algebraic_KernelFfnOutActIdeal_ReferenceFfnOutActIdeal_pre_gates_finite := by
  intro m g m' g' hp ha
  refine ⟨fun c => R m c, ?_, ?_⟩
  · refine (θ_run Cert.KernelFfnOutActIdeal.defs _ _).mono (fun r h c => ?_) (Cert.KernelFfnOutActIdeal.Value.run_blocks m g)
    exact ⟨(h c).1.trans (final4 m c (real_of (a0 m c) _ _ _ (hp c).1 (hp c).2.1 (hp c).2.2)), (h c).2⟩
  · refine (θ_run Cert.ReferenceFfnOutActIdeal.defs _ _).mono (fun r h c => ?_) (Cert.ReferenceFfnOutActIdeal.Value.run (F := Ideal) m' g')
    obtain ⟨r0, rest⟩ := h c
    obtain ⟨e0, e1, e2, e3⟩ := ha c
    rw [e0, e1, e2, e3] at r0
    exact ⟨r0.trans (Cert.ReferenceFfnOutActIdeal.Read.val_main_v15_eq _ _ _ _), rest⟩

end Cert.FfnOutAct

end
-- ==== Proof.NormMix.lean ====
module

public import proofs.«01_k».proof.Defs
public import proofs.«01_k».proof.Proof.Gen.KernelNormMix.Frame
public import proofs.«01_k».proof.Proof.Gen.KernelNormMixIdeal.Value
public import proofs.«01_k».proof.Proof.Gen.ReferenceNormMixIdeal.Read
public import proofs.«01_k».proof.Proof.NormGrad
public import Idealize.ShloMosaic.Lib.Pipeline.ValueKit
public import Idealize.ShloMosaic.Lib.Pointwise
public import Idealize.ShloMosaic.Lib.Claim

@[expose] public section

set_option maxRecDepth 16384

noncomputable section

/-! The rows of the block normalized, and the same written transposed. -/

namespace Cert.NormMix

open Cert.KernelNormMixIdeal Cert.KernelNormMixIdeal.Gen Idealize.ShloMosaic Idealize.ShloMosaic.TcCoe Idealize.SL.Sem Cert.NormGrad
open Idealize.ShloMosaic.Pipeline (Dat)

variable (m : (ℓ : Loc nD τ sig) → Buf (Elt Ideal) ℓ) (c : Dev nD)

abbrev a0 : (⟨S4096x1024, .f32⟩ : BufTy).Contents (Elt Ideal) := m ((c : Thread nD τ).loc main_arg0)
abbrev a1 : (⟨S1x1024, .f32⟩ : BufTy).Contents (Elt Ideal) := m ((c : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, t.val] := (by decide +kernel : ∀ t : Fin grid0.N, _)

theorem lt8 (t : Fin cfg0.N) : t.val < 8 := lt_of_lt_of_eq t.isLt N_0
abbrev row (t : Fin cfg0.N) (i : Fin 512) : Fin 4096 := ⟨t.val * 512 + i.val, by have := lt8 t; omega⟩

theorem blk0 (t : Fin cfg0.N) (i : Fin 512) (d : Fin 1024) : iblk m c 0 t (ix2 i d) = a0 m c (ix2 (row t i) d) := by
  blk_ext [iblk, V, idx0 t]
theorem blk1 (t : Fin cfg0.N) (u : Fin 1) (d : Fin 1024) : iblk m c 1 t (ix2 u d) = a1 m c (ix2 u d) := by
  blk_ext [iblk, V, idx1 t]

section
variable (x : Vec Ideal S512x1024 .f32) (g : Vec Ideal S1x1024 .f32) (i : Fin 512) (j : Fin 1024)

theorem pay1_at : k0_pay1 x g (ix2 i j) = nrm (fun d => x (ix2 i d)) (fun d => g (ix2 0 d)) j := by
  pointwise [k0_pay1]
  rfl
theorem pay2_at : k0_pay2 x g (ix2 i j) = nrm (fun d => x (ix2 i d)) (fun d => g (ix2 0 d)) j := by
  pointwise [k0_pay2]
  exact pay1_at x g i j
theorem pay3_at : k0_pay3 x g (ix2 j i) = nrm (fun d => x (ix2 i d)) (fun d => g (ix2 0 d)) j := by
  pointwise [k0_pay3]
  exact pay1_at x g i j
end

section
open Cert.ReferenceNormMixIdeal.Read
variable (x0 : (⟨S4096x1024, .f32⟩ : BufTy).Contents (Elt Ideal)) (x1 : (⟨S1x1024, .f32⟩ : BufTy).Contents (Elt Ideal)) (l : Fin 4096) (q : Fin 1024)

theorem rinv_at : val_main_v8 (F := Ideal) x0 (ix2 l 0) = rinv (fun d => x0 (ix2 l d)) := by
  pointwise [val_main_v8, val_main_v7, val_main_v6, val_main_v5, val_main_v4, val_main_v3, val_main_v2, val_main_v1, val_main_cst, val_main_cst_0, val_main_cst_1]
  rfl
theorem norm_at : val_main_v13 (F := Ideal) x0 x1 (ix2 l q) = nrm (fun d => x0 (ix2 l d)) (fun d => x1 (ix2 0 d)) q := by
  pointwise [val_main_v13, val_main_v12, val_main_v11, val_main_v10, val_main_v9, val_main_v0]
  rw [rinv_at]
  rfl
theorem ref2_at : val_main_v14 (F := Ideal) x0 x1 (ix2 l q) = nrm (fun d => x0 (ix2 l d)) (fun d => x1 (ix2 0 d)) q := by
  pointwise [val_main_v14]
  exact norm_at x0 x1 l q
theorem ref3_at : val_main_v16 (F := Ideal) x0 x1 (ix2 q l) = nrm (fun d => x0 (ix2 l d)) (fun d => x1 (ix2 0 d)) q := by
  pointwise [val_main_v16, val_main_v15]
  exact norm_at x0 x1 l q
end

abbrev R2 : (⟨S4096x1024, .bf16⟩ : BufTy).Contents (Elt Ideal) := Cert.ReferenceNormMixIdeal.Read.val_main_v14 (F := Ideal) (a0 m c) (a1 m c)
abbrev R3 : (⟨S1024x4096, .bf16⟩ : BufTy).Contents (Elt Ideal) := Cert.ReferenceNormMixIdeal.Read.val_main_v16 (F := Ideal) (a0 m c) (a1 m c)

theorem out2 (t : Fin cfg0.N) : out0_2 (iblk m c 0 t) (iblk m c 1 t) = k0_pay2 (iblk m c 0 t) (iblk m c 1 t) := by
  frame_out
theorem out3 (t : Fin cfg0.N) : out0_3 (iblk m c 0 t) (iblk m c 1 t) = k0_pay3 (iblk m c 0 t) (iblk m c 1 t) := by
  frame_out

theorem nrm_blk (t : Fin cfg0.N) (i : Fin 512) (j : Fin 1024) : nrm (fun d => iblk m c 0 t (ix2 i d)) (fun d => iblk m c 1 t (ix2 0 d)) j
    = nrm (fun d => a0 m c (ix2 (row t i) d)) (fun d => a1 m c (ix2 0 d)) j := by
  simp only [blk0, blk1]

theorem final2 : (dats m 0 c).arrAt 2 cfg0.N = R2 m c := by
  refine (dats m 0 c).arrAt_eq_of_covers 2 _ (by decide +kernel) fun t hf y => ?_
  blk_simp
  rw [after0_2, out2]
  have hy : ((cfg0.win 2).blk t).view.emb y = ix2 (n0 := 4096) (n1 := 1024) (row t (y 0)) (y 1) := by
    blk_ext [idx2 t]
  rw [hy]
  refine ((congrArg _ (eq_ix2 (y : S512x1024.Idx))).trans ?_).trans (ref2_at _ _ (row t (y 0)) (y 1)).symm
  exact (pay2_at _ _ (y 0) (y 1)).trans (nrm_blk m c t (y 0) (y 1))

theorem final3 : (dats m 0 c).arrAt 3 cfg0.N = R3 m c := by
  refine (dats m 0 c).arrAt_eq_of_covers 3 _ (by decide +kernel) fun t hf y => ?_
  blk_simp
  rw [after0_3, out3]
  have hy : ((cfg0.win 3).blk t).view.emb y = ix2 (n0 := 1024) (n1 := 4096) (y 0) (row t (y 1)) := by
    blk_ext [idx3 t]
  rw [hy]
  refine ((congrArg _ (eq_ix2 (y : S1024x512.Idx))).trans ?_).trans (ref3_at _ _ (row t (y 1)) (y 0)).symm
  exact (pay3_at _ _ (y 1) (y 0)).trans (nrm_blk m c t (y 1) (y 0))

theorem frame_kernel : Cert.quiescent_KernelNormMix := fun m g _ => Cert.KernelNormMix.Gen.frame m g

theorem frame_ideal : Cert.quiescent_KernelNormMixIdeal := fun m g _ => Cert.KernelNormMixIdeal.Gen.frame m g

theorem frame_reference : Cert.quiescent_ReferenceNormMixIdeal := fun m g _ =>
  (θ_run Cert.ReferenceNormMixIdeal.defs _ _).mono (fun r h => ⟨fun c => (h c).2.2, sem_eq_zero_of_no_sems (by decide) r.2⟩)
    (Cert.ReferenceNormMixIdeal.Value.run (F := Ideal) m g)

theorem equal : Cert.algebraic_KernelNormMixIdeal_ReferenceNormMixIdeal := by
  intro m g m' g' hp ha
  refine ⟨fun c => R2 m c, fun c => R3 m c, ?_, ?_⟩
  · refine (θ_run Cert.KernelNormMixIdeal.defs _ _).mono (fun r h c => ?_) (Cert.KernelNormMixIdeal.Value.run_blocks m g)
    obtain ⟨r2, r3, rest⟩ := h c
    exact ⟨r2.trans (final2 m c), r3.trans (final3 m c), rest⟩
  · refine (θ_run Cert.ReferenceNormMixIdeal.defs _ _).mono (fun r h c => ?_) (Cert.ReferenceNormMixIdeal.Value.run (F := Ideal) m' g')
    obtain ⟨r2, r3, rest⟩ := h c
    obtain ⟨e0, e1⟩ := ha c
    rw [e0, e1] at r2
    rw [e0, e1] at r3
    exact ⟨r2.trans (Cert.ReferenceNormMixIdeal.Read.val_main_v14_eq _ _), r3.trans (Cert.ReferenceNormMixIdeal.Read.val_main_v16_eq _ _), rest⟩

end Cert.NormMix

end
-- ==== Proof.NormMemFwd.lean ====
module

public import proofs.«01_k».proof.Defs
public import proofs.«01_k».proof.Proof.Gen.KernelNormMemFwd.Frame
public import proofs.«01_k».proof.Proof.Gen.KernelNormMemFwdIdeal.Value
public import proofs.«01_k».proof.Proof.Gen.ReferenceNormMemFwdIdeal.Read
public import proofs.«01_k».proof.Proof.NormGrad
public import Idealize.ShloMosaic.Lib.Pipeline.ValueKit
public import Idealize.ShloMosaic.Lib.Pointwise
public import Idealize.ShloMosaic.Lib.Claim

@[expose] public section

set_option maxRecDepth 16384

noncomputable section

/-! The rows of the memory normalized. -/

namespace Cert.NormMemFwd

open Cert.KernelNormMemFwdIdeal Cert.KernelNormMemFwdIdeal.Gen Idealize.ShloMosaic Idealize.ShloMosaic.TcCoe Idealize.SL.Sem Cert.NormGrad
open Idealize.ShloMosaic.Pipeline (Dat)

variable (m : (ℓ : Loc nD τ sig) → Buf (Elt Ideal) ℓ) (c : Dev nD)

abbrev a0 : (⟨S256x1024, .f32⟩ : BufTy).Contents (Elt Ideal) := m ((c : Thread nD τ).loc main_arg0)
abbrev a1 : (⟨S1x1024, .f32⟩ : BufTy).Contents (Elt Ideal) := m ((c : Thread nD τ).loc main_arg1)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

theorem blk0 (t : Fin cfg0.N) (i : Fin 256) (d : Fin 1024) : iblk m c 0 t (ix2 i d) = a0 m c (ix2 i d) := by
  blk_ext [iblk, V, idx0 t]
theorem blk1 (t : Fin cfg0.N) (u : Fin 1) (d : Fin 1024) : iblk m c 1 t (ix2 u d) = a1 m c (ix2 u d) := by
  blk_ext [iblk, V, idx1 t]

section
variable (x : Vec Ideal S256x1024 .f32) (g : Vec Ideal S1x1024 .f32) (i : Fin 256) (j : Fin 1024)

theorem pay1_at : k0_pay1 x g (ix2 i j) = nrm (fun d => x (ix2 i d)) (fun d => g (ix2 0 d)) j := by
  pointwise [k0_pay1]
  rfl
end

section
open Cert.ReferenceNormMemFwdIdeal.Read
variable (x0 : (⟨S256x1024, .f32⟩ : BufTy).Contents (Elt Ideal)) (x1 : (⟨S1x1024, .f32⟩ : BufTy).Contents (Elt Ideal)) (l : Fin 256) (q : Fin 1024)

theorem rinv_at : val_main_v8 (F := Ideal) x0 (ix2 l 0) = rinv (fun d => x0 (ix2 l d)) := by
  pointwise [val_main_v8, val_main_v7, val_main_v6, val_main_v5, val_main_v4, val_main_v3, val_main_v2, val_main_v1, val_main_cst, val_main_cst_0, val_main_cst_1]
  rfl
theorem norm_at : val_main_v13 (F := Ideal) x0 x1 (ix2 l q) = nrm (fun d => x0 (ix2 l d)) (fun d => x1 (ix2 0 d)) q := by
  pointwise [val_main_v13, val_main_v12, val_main_v11, val_main_v10, val_main_v9, val_main_v0]
  rw [rinv_at]
  rfl
theorem ref2_at : val_main_v14 (F := Ideal) x0 x1 (ix2 l q) = nrm (fun d => x0 (ix2 l d)) (fun d => x1 (ix2 0 d)) q := by
  pointwise [val_main_v14]
  exact norm_at x0 x1 l q
end

abbrev R2 : (⟨S256x1024, .bf16⟩ : BufTy).Contents (Elt Ideal) := Cert.ReferenceNormMemFwdIdeal.Read.val_main_v14 (F := Ideal) (a0 m c) (a1 m c)

theorem out2 (t : Fin cfg0.N) : out0_2 (iblk m c 0 t) (iblk m c 1 t) = k0_pay1 (iblk m c 0 t) (iblk m c 1 t) := by
  frame_out

theorem nrm_blk (t : Fin cfg0.N) (i : Fin 256) (j : Fin 1024) : nrm (fun d => iblk m c 0 t (ix2 i d)) (fun d => iblk m c 1 t (ix2 0 d)) j
    = nrm (fun d => a0 m c (ix2 i d)) (fun d => a1 m c (ix2 0 d)) j := by
  simp only [blk0, blk1]

theorem final2 : (dats m 0 c).arrAt 2 cfg0.N = R2 m c := by
  refine (dats m 0 c).arrAt_eq_of_covers 2 _ (by decide +kernel) fun t hf y => ?_
  blk_simp
  rw [after0_2, out2]
  have hy : ((cfg0.win 2).blk t).view.emb y = ix2 (n0 := 256) (n1 := 1024) (y 0) (y 1) := by
    blk_ext [idx2 t]
  rw [hy]
  refine ((congrArg _ (eq_ix2 (y : S256x1024.Idx))).trans ?_).trans (ref2_at _ _ (y 0) (y 1)).symm
  exact (pay1_at _ _ (y 0) (y 1)).trans (nrm_blk m c t (y 0) (y 1))

theorem frame_kernel : Cert.quiescent_KernelNormMemFwd := fun m g _ => Cert.KernelNormMemFwd.Gen.frame m g

theorem frame_ideal : Cert.quiescent_KernelNormMemFwdIdeal := fun m g _ => Cert.KernelNormMemFwdIdeal.Gen.frame m g

theorem frame_reference : Cert.quiescent_ReferenceNormMemFwdIdeal := fun m g _ =>
  (θ_run Cert.ReferenceNormMemFwdIdeal.defs _ _).mono (fun r h => ⟨fun c => (h c).2, sem_eq_zero_of_no_sems (by decide) r.2⟩)
    (Cert.ReferenceNormMemFwdIdeal.Value.run (F := Ideal) m g)

theorem equal : Cert.algebraic_KernelNormMemFwdIdeal_ReferenceNormMemFwdIdeal := by
  intro m g m' g' hp ha
  refine ⟨fun c => R2 m c, ?_, ?_⟩
  · refine (θ_run Cert.KernelNormMemFwdIdeal.defs _ _).mono (fun r h c => ?_) (Cert.KernelNormMemFwdIdeal.Value.run_blocks m g)
    obtain ⟨r2, rest⟩ := h c
    exact ⟨r2.trans (final2 m c), rest⟩
  · refine (θ_run Cert.ReferenceNormMemFwdIdeal.defs _ _).mono (fun r h c => ?_) (Cert.ReferenceNormMemFwdIdeal.Value.run (F := Ideal) m' g')
    obtain ⟨r2, rest⟩ := h c
    obtain ⟨e0, e1⟩ := ha c
    rw [e0, e1] at r2
    exact ⟨r2.trans (Cert.ReferenceNormMemFwdIdeal.Read.val_main_v14_eq _ _), rest⟩

end Cert.NormMemFwd

end
-- ==== Proof.MemKv.lean ====
module

public import proofs.«01_k».proof.Defs
public import proofs.«01_k».proof.Proof.Gen.KernelMemKv.Frame
public import proofs.«01_k».proof.Proof.Gen.KernelMemKvIdeal.Value
public import proofs.«01_k».proof.Proof.Gen.ReferenceMemKvIdeal.Read
public import Idealize.ShloMosaic.Lib.Pipeline.ValueKit
public import Idealize.ShloMosaic.Lib.Pointwise
public import Idealize.ShloMosaic.Lib.Claim

@[expose] public section

set_option maxRecDepth 16384

noncomputable section

/-! The memory's keys and values: one product. -/

namespace Cert.MemKv

open Cert.KernelMemKvIdeal Cert.KernelMemKvIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev a0 : (⟨S256x1024, .bf16⟩ : BufTy).Contents (Elt Ideal) := m ((c : Thread nD τ).loc main_arg0)
abbrev a1 : (⟨S1024x1024, .f32⟩ : BufTy).Contents (Elt Ideal) := m ((c : Thread nD τ).loc main_arg1)

theorem entry_w : V m c main_v0 = (truncf .bf16 (a1 m c : FVec Ideal S1024x1024 .f32) bitsLt_bf16_f32 : FVec Ideal S1024x1024 .bf16) := by
  unfold_abbrev_sides
  after_results
theorem w_at (d q : Fin 1024) : V m c main_v0 (ix2 d q) = a1 m c (ix2 d q) := by
  rw [entry_w]
  pointwise

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

theorem blk0 (t : Fin cfg0.N) (i : Fin 256) (d : Fin 1024) : iblk m c 0 t (ix2 i d) = a0 m c (ix2 i d) := by
  blk_ext [iblk, V, idx0 t]
theorem blk1 (t : Fin cfg0.N) (d j : Fin 1024) : iblk m c 1 t (ix2 d j) = a1 m c (ix2 d j) := by
  refine Eq.trans ?_ (w_at m c _ _)
  blk_ext [iblk, idx1 t]

/-- An element of the product. -/
def prodAt (x : S256x1024.Idx → EReal) (y : S1024x1024.Idx → EReal) (i : Fin 256) (j : Fin 1024) : EReal := ∑ d : Fin 1024, x (ix2 i d) * y (ix2 d j)

theorem pay1_at (x : Vec Ideal S256x1024 .bf16) (y : Vec Ideal S1024x1024 .bf16) (i : Fin 256) (j : Fin 1024) :
    k0_pay1 x y (ix2 i j) = prodAt x y i j := by
  unfold prodAt
  pointwise [k0_pay1]

open Cert.ReferenceMemKvIdeal.Read in
theorem ref_at (x0 : (⟨S256x1024, .bf16⟩ : BufTy).Contents (Elt Ideal)) (x1 : (⟨S1024x1024, .f32⟩ : BufTy).Contents (Elt Ideal))
    (l : Fin 256) (q : Fin 1024) : val_main_v1 (F := Ideal) x0 x1 (ix2 l q) = prodAt x0 x1 l q := by
  unfold prodAt
  pointwise [val_main_v1, val_main_v0]

abbrev R2 : (⟨S256x1024, .f32⟩ : BufTy).Contents (Elt Ideal) := Cert.ReferenceMemKvIdeal.Read.val_main_v1 (F := Ideal) (a0 m c) (a1 m c)

theorem dot_blk (t : Fin cfg0.N) (i : Fin 256) (j : Fin 1024) :
    prodAt (iblk m c 0 t) (iblk m c 1 t) i j = prodAt (a0 m c) (a1 m c) i j :=
  Finset.sum_congr rfl fun d _ => by rw [blk0, blk1]
theorem out2 (t : Fin cfg0.N) : out0_2 (iblk m c 0 t) (iblk m c 1 t) = k0_pay1 (iblk m c 0 t) (iblk m c 1 t) := by
  frame_out

theorem final2 : (dats m 0 c).arrAt 2 cfg0.N = R2 m c := by
  refine (dats m 0 c).arrAt_eq_of_covers 2 _ (by decide +kernel) fun t hf y => ?_
  blk_simp
  rw [after0_2, out2]
  have hy : ((cfg0.win 2).blk t).view.emb y = ix2 (n0 := 256) (n1 := 1024) (y 0) (y 1) := by
    blk_ext [idx2 t]
  rw [hy]
  refine ((congrArg _ (eq_ix2 (y : S256x1024.Idx))).trans ?_).trans (ref_at _ _ (y 0) (y 1)).symm
  exact (pay1_at _ _ (y 0) (y 1)).trans (dot_blk m c t (y 0) (y 1))

theorem frame_kernel : Cert.quiescent_KernelMemKv := fun m g _ => Cert.KernelMemKv.Gen.frame m g

theorem frame_ideal : Cert.quiescent_KernelMemKvIdeal := fun m g _ => Cert.KernelMemKvIdeal.Gen.frame m g

theorem frame_reference : Cert.quiescent_ReferenceMemKvIdeal := fun m g _ =>
  (θ_run Cert.ReferenceMemKvIdeal.defs _ _).mono (fun r h => ⟨fun c => (h c).2, sem_eq_zero_of_no_sems (by decide) r.2⟩)
    (Cert.ReferenceMemKvIdeal.Value.run (F := Ideal) m g)

theorem equal : Cert.algebraic_KernelMemKvIdeal_ReferenceMemKvIdeal := by
  intro m g m' g' hp ha
  refine ⟨fun c => R2 m c, ?_, ?_⟩
  · refine (θ_run Cert.KernelMemKvIdeal.defs _ _).mono (fun r h c => ?_) (Cert.KernelMemKvIdeal.Value.run_blocks m g)
    obtain ⟨r2, rest⟩ := h c
    exact ⟨r2.trans (final2 m c), rest⟩
  · refine (θ_run Cert.ReferenceMemKvIdeal.defs _ _).mono (fun r h c => ?_) (Cert.ReferenceMemKvIdeal.Value.run (F := Ideal) m' g')
    obtain ⟨r2, rest⟩ := h c
    obtain ⟨e0, e1⟩ := ha c
    rw [e0, e1] at r2
    exact ⟨r2.trans (Cert.ReferenceMemKvIdeal.Read.val_main_v1_eq _ _), rest⟩

end Cert.MemKv

end
-- ==== Proof.Merge.lean ====
module

public import proofs.«01_k».proof.Defs
public import proofs.«01_k».proof.Proof.Gen.KernelMerge.Frame
public import proofs.«01_k».proof.Proof.Gen.KernelMergeIdeal.Value
public import proofs.«01_k».proof.Proof.Gen.ReferenceMergeIdeal.Read
public import proofs.«01_k».proof.Proof.Logistic
public import Idealize.ShloMosaic.Lib.Pipeline.ValueKit
public import Idealize.ShloMosaic.Lib.Pointwise
public import Idealize.ShloMosaic.Lib.Claim

@[expose] public section

set_option maxRecDepth 16384

noncomputable section

/-! The three branches, projected, each times its gate, and their sum. -/

namespace Cert.Merge

open Cert.KernelMergeIdeal Cert.KernelMergeIdeal.Gen Idealize.ShloMosaic Idealize.ShloMosaic.TcCoe Idealize.SL.Sem Cert.Logistic
open Idealize.ShloMosaic.Pipeline (Dat)

variable (m : (ℓ : Loc nD τ sig) → Buf (Elt Ideal) ℓ) (c : Dev nD)

abbrev a0 : (⟨S4096x13312, .f32⟩ : BufTy).Contents (Elt Ideal) := m ((c : Thread nD τ).loc main_arg0)
abbrev a1 : (⟨S4096x1024, .bf16⟩ : BufTy).Contents (Elt Ideal) := m ((c : Thread nD τ).loc main_arg1)
abbrev a2 : (⟨S4096x512, .bf16⟩ : BufTy).Contents (Elt Ideal) := m ((c : Thread nD τ).loc main_arg2)
abbrev a3 : (⟨S4096x512, .bf16⟩ : BufTy).Contents (Elt Ideal) := m ((c : Thread nD τ).loc main_arg3)
abbrev a4 : (⟨S1024x1024, .f32⟩ : BufTy).Contents (Elt Ideal) := m ((c : Thread nD τ).loc main_arg4)
abbrev a5 : (⟨S512x1024, .f32⟩ : BufTy).Contents (Elt Ideal) := m ((c : Thread nD τ).loc main_arg5)
abbrev a6 : (⟨S512x1024, .f32⟩ : BufTy).Contents (Elt Ideal) := m ((c : Thread nD τ).loc main_arg6)

theorem entry_w0 : V m c main_v0 = (truncf .bf16 (a4 m c : FVec Ideal S1024x1024 .f32) bitsLt_bf16_f32 : FVec Ideal S1024x1024 .bf16) := by
  unfold_abbrev_sides
  after_results
theorem w0_at (d : Fin 1024) (q : Fin 1024) : V m c main_v0 (ix2 d q) = a4 m c (ix2 d q) := by
  rw [entry_w0]
  pointwise
theorem entry_w1 : V m c main_v1 = (truncf .bf16 (a5 m c : FVec Ideal S512x1024 .f32) bitsLt_bf16_f32 : FVec Ideal S512x1024 .bf16) := by
  unfold_abbrev_sides
  after_results
theorem w1_at (d : Fin 512) (q : Fin 1024) : V m c main_v1 (ix2 d q) = a5 m c (ix2 d q) := by
  rw [entry_w1]
  pointwise
theorem entry_w2 : V m c main_v2 = (truncf .bf16 (a6 m c : FVec Ideal S512x1024 .f32) bitsLt_bf16_f32 : FVec Ideal S512x1024 .bf16) := by
  unfold_abbrev_sides
  after_results
theorem w2_at (d : Fin 512) (q : Fin 1024) : V m c main_v2 (ix2 d q) = a6 m c (ix2 d q) := by
  rw [entry_w2]
  pointwise

theorem idx0 : ∀ t : Fin cfg0.N, win0_0.index t = ![t.val, 10] := (by decide +kernel : ∀ t : Fin grid0.N, _)
theorem idx1 : ∀ t : Fin cfg0.N, win0_1.index t = ![t.val, 11] := (by decide +kernel : ∀ t : Fin grid0.N, _)
theorem idx2 : ∀ t : Fin cfg0.N, win0_2.index t = ![t.val, 12] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)

theorem lt8 (t : Fin cfg0.N) : t.val < 8 := lt_of_lt_of_eq t.isLt N_0
abbrev row (t : Fin cfg0.N) (i : Fin 512) : Fin 4096 := ⟨t.val * 512 + i.val, by have := lt8 t; omega⟩

theorem blk0 (t : Fin cfg0.N) (i : Fin 512) (j : Fin 1024) : iblk m c 0 t (ix2 i j) = a0 m c (ix2 (row t i) ⟨10240 + j.val, by omega⟩) := by
  blk_ext [iblk, V, idx0 t]
theorem blk1 (t : Fin cfg0.N) (i : Fin 512) (j : Fin 1024) : iblk m c 1 t (ix2 i j) = a0 m c (ix2 (row t i) ⟨11264 + j.val, by omega⟩) := by
  blk_ext [iblk, V, idx1 t]
theorem blk2 (t : Fin cfg0.N) (i : Fin 512) (j : Fin 1024) : iblk m c 2 t (ix2 i j) = a0 m c (ix2 (row t i) ⟨12288 + j.val, by omega⟩) := by
  blk_ext [iblk, V, idx2 t]
theorem blk3 (t : Fin cfg0.N) (i : Fin 512) (d : Fin 1024) : iblk m c 3 t (ix2 i d) = a1 m c (ix2 (row t i) d) := by
  blk_ext [iblk, V, idx3 t]
theorem blk4 (t : Fin cfg0.N) (i : Fin 512) (d : Fin 512) : iblk m c 4 t (ix2 i d) = a2 m c (ix2 (row t i) d) := by
  blk_ext [iblk, V, idx4 t]
theorem blk5 (t : Fin cfg0.N) (i : Fin 512) (d : Fin 512) : iblk m c 5 t (ix2 i d) = a3 m c (ix2 (row t i) d) := by
  blk_ext [iblk, V, idx5 t]
theorem blk6 (t : Fin cfg0.N) (d : Fin 1024) (j : Fin 1024) : iblk m c 6 t (ix2 d j) = a4 m c (ix2 d j) := by
  refine Eq.trans ?_ (w0_at m c _ _)
  blk_ext [iblk, idx6 t]
theorem blk7 (t : Fin cfg0.N) (d : Fin 512) (j : Fin 1024) : iblk m c 7 t (ix2 d j) = a5 m c (ix2 d j) := by
  refine Eq.trans ?_ (w1_at m c _ _)
  blk_ext [iblk, idx7 t]
theorem blk8 (t : Fin cfg0.N) (d : Fin 512) (j : Fin 1024) : iblk m c 8 t (ix2 d j) = a6 m c (ix2 d j) := by
  refine Eq.trans ?_ (w2_at m c _ _)
  blk_ext [iblk, idx8 t]

/-- An element of a product. -/
def dotAt {n p q : Nat} (x : (⟨2, ![p, n]⟩ : Shape).Idx → EReal) (y : (⟨2, ![n, q]⟩ : Shape).Idx → EReal) (i : Fin p) (j : Fin q) : EReal :=
  ∑ d : Fin n, x (ix2 i d) * y (ix2 d j)
/-- The sum of three values, each times its gate. -/
def gated (g0 g1 g2 u0 u1 u2 : EReal) : EReal := viaExp g0 * u0 + viaExp g1 * u1 + viaExp g2 * u2

section
variable (g0 g1 g2 : Vec Ideal S512x1024 .f32) (x0 : Vec Ideal S512x1024 .bf16) (x1 x2 : Vec Ideal S512x512 .bf16)
  (y0 : Vec Ideal S1024x1024 .bf16) (y1 y2 : Vec Ideal S512x1024 .bf16) (i : Fin 512) (j : Fin 1024)

theorem pay4_at : k0_pay4 x0 y0 (ix2 i j) = dotAt x0 y0 i j := by
  unfold dotAt
  pointwise [k0_pay4]
theorem pay6_at : k0_pay6 x1 y1 (ix2 i j) = dotAt x1 y1 i j := by
  unfold dotAt
  pointwise [k0_pay6]
theorem pay1_at : k0_pay1 x2 y2 (ix2 i j) = dotAt x2 y2 i j := by
  unfold dotAt
  pointwise [k0_pay1]
theorem pay5_at : k0_pay5 x0 y0 (ix2 i j) = dotAt x0 y0 i j := by
  pointwise [k0_pay5]
  exact pay4_at x0 y0 i j
theorem pay7_at : k0_pay7 x1 y1 (ix2 i j) = dotAt x1 y1 i j := by
  pointwise [k0_pay7]
  exact pay6_at x1 y1 i j
theorem pay2_at : k0_pay2 x2 y2 (ix2 i j) = dotAt x2 y2 i j := by
  pointwise [k0_pay2]
  exact pay1_at x2 y2 i j
theorem pay8_at : k0_pay8 x0 y0 g0 x1 y1 g1 (ix2 i j) = viaExp (g0 (ix2 i j)) * dotAt x0 y0 i j + viaExp (g1 (ix2 i j)) * dotAt x1 y1 i j := by
  rw [← same, ← same, ← pay4_at, ← pay6_at]
  pointwise [k0_pay8]
  rfl
theorem pay3_at : k0_pay3 (k0_pay8 x0 y0 g0 x1 y1 g1) x2 y2 g2 (ix2 i j)
    = gated (g0 (ix2 i j)) (g1 (ix2 i j)) (g2 (ix2 i j)) (dotAt x0 y0 i j) (dotAt x1 y1 i j) (dotAt x2 y2 i j) := by
  unfold gated
  rw [← pay8_at, ← same (g2 _), ← pay1_at]
  pointwise [k0_pay3]
  rfl
end

section
open Cert.ReferenceMergeIdeal.Read
variable (x0 : (⟨S4096x13312, .f32⟩ : BufTy).Contents (Elt Ideal)) (x1 : (⟨S4096x1024, .bf16⟩ : BufTy).Contents (Elt Ideal))
  (x2 x3 : (⟨S4096x512, .bf16⟩ : BufTy).Contents (Elt Ideal)) (x4 : (⟨S1024x1024, .f32⟩ : BufTy).Contents (Elt Ideal))
  (x5 x6 : (⟨S512x1024, .f32⟩ : BufTy).Contents (Elt Ideal)) (l : Fin 4096) (q : Fin 1024)

theorem gate0_at : val_main_v15 (F := Ideal) x0 (ix2 l q) = viaExp (x0 (ix2 l ⟨10240 + q.val, by omega⟩)) := by
  pointwise [val_main_v15, val_main_v14, val_main_v13, val_main_v12, val_main_v11, val_main_v10, val_main_v1, val_main_v0, val_main_cst, val_main_cst_0]
  rfl
theorem dot0_at : val_main_v5 (F := Ideal) x1 x4 (ix2 l q) = dotAt x1 x4 l q := by
  unfold dotAt
  pointwise [val_main_v5, val_main_v4]
theorem ref10_at : val_main_v34 (F := Ideal) x1 x4 (ix2 l q) = dotAt x1 x4 l q := by
  pointwise [val_main_v34]
  exact dot0_at x1 x4 l q
theorem gate1_at : val_main_v22 (F := Ideal) x0 (ix2 l q) = viaExp (x0 (ix2 l ⟨11264 + q.val, by omega⟩)) := by
  pointwise [val_main_v22, val_main_v21, val_main_v20, val_main_v19, val_main_v18, val_main_v17, val_main_v2, val_main_v0, val_main_cst_1, val_main_cst_2]
  have e : (⟨10240 + (1024 + q.val), by omega⟩ : Fin 13312) = ⟨11264 + q.val, by omega⟩ :=
    Fin.ext (by show 10240 + (1024 + q.val) = 11264 + q.val; omega)
  rw [e]
  rfl
theorem dot1_at : val_main_v7 (F := Ideal) x2 x5 (ix2 l q) = dotAt x2 x5 l q := by
  unfold dotAt
  pointwise [val_main_v7, val_main_v6]
theorem ref11_at : val_main_v35 (F := Ideal) x2 x5 (ix2 l q) = dotAt x2 x5 l q := by
  pointwise [val_main_v35]
  exact dot1_at x2 x5 l q
theorem gate2_at : val_main_v30 (F := Ideal) x0 (ix2 l q) = viaExp (x0 (ix2 l ⟨12288 + q.val, by omega⟩)) := by
  pointwise [val_main_v30, val_main_v29, val_main_v28, val_main_v27, val_main_v26, val_main_v25, val_main_v3, val_main_v0, val_main_cst_3, val_main_cst_4]
  have e : (⟨10240 + (2048 + q.val), by omega⟩ : Fin 13312) = ⟨12288 + q.val, by omega⟩ :=
    Fin.ext (by show 10240 + (2048 + q.val) = 12288 + q.val; omega)
  rw [e]
  rfl
theorem dot2_at : val_main_v9 (F := Ideal) x3 x6 (ix2 l q) = dotAt x3 x6 l q := by
  unfold dotAt
  pointwise [val_main_v9, val_main_v8]
theorem ref12_at : val_main_v36 (F := Ideal) x3 x6 (ix2 l q) = dotAt x3 x6 l q := by
  pointwise [val_main_v36]
  exact dot2_at x3 x6 l q
theorem ref9_at : val_main_v33 (F := Ideal) x0 x1 x2 x3 x4 x5 x6 (ix2 l q)
    = gated (x0 (ix2 l ⟨10240 + q.val, by omega⟩)) (x0 (ix2 l ⟨11264 + q.val, by omega⟩)) (x0 (ix2 l ⟨12288 + q.val, by omega⟩))
        (dotAt x1 x4 l q) (dotAt x2 x5 l q) (dotAt x3 x6 l q) := by
  pointwise [val_main_v33, val_main_v32, val_main_v31, val_main_v24, val_main_v23, val_main_v16]
  rw [gate0_at, gate1_at, gate2_at, dot0_at, dot1_at, dot2_at]
  rfl
end

abbrev R9 : (⟨S4096x1024, .bf16⟩ : BufTy).Contents (Elt Ideal) := Cert.ReferenceMergeIdeal.Read.val_main_v33 (F := Ideal) (a0 m c) (a1 m c) (a2 m c) (a3 m c) (a4 m c) (a5 m c) (a6 m c)
abbrev R10 : (⟨S4096x1024, .bf16⟩ : BufTy).Contents (Elt Ideal) := Cert.ReferenceMergeIdeal.Read.val_main_v34 (F := Ideal) (a1 m c) (a4 m c)
abbrev R11 : (⟨S4096x1024, .bf16⟩ : BufTy).Contents (Elt Ideal) := Cert.ReferenceMergeIdeal.Read.val_main_v35 (F := Ideal) (a2 m c) (a5 m c)
abbrev R12 : (⟨S4096x1024, .bf16⟩ : BufTy).Contents (Elt Ideal) := Cert.ReferenceMergeIdeal.Read.val_main_v36 (F := Ideal) (a3 m c) (a6 m c)

theorem out9 (t : Fin cfg0.N) : out0_9 (iblk m c 0 t) (iblk m c 1 t) (iblk m c 2 t) (iblk m c 3 t) (iblk m c 4 t) (iblk m c 5 t) (iblk m c 6 t) (iblk m c 7 t) (iblk m c 8 t)
    = k0_pay3 (k0_pay8 (iblk m c 3 t) (iblk m c 6 t) (iblk m c 0 t) (iblk m c 4 t) (iblk m c 7 t) (iblk m c 1 t)) (iblk m c 5 t) (iblk m c 8 t) (iblk m c 2 t) := by
  frame_out
theorem out10 (t : Fin cfg0.N) : out0_10 (iblk m c 0 t) (iblk m c 1 t) (iblk m c 2 t) (iblk m c 3 t) (iblk m c 4 t) (iblk m c 5 t) (iblk m c 6 t) (iblk m c 7 t) (iblk m c 8 t) = k0_pay5 (iblk m c 3 t) (iblk m c 6 t) := by
  frame_out
theorem out11 (t : Fin cfg0.N) : out0_11 (iblk m c 0 t) (iblk m c 1 t) (iblk m c 2 t) (iblk m c 3 t) (iblk m c 4 t) (iblk m c 5 t) (iblk m c 6 t) (iblk m c 7 t) (iblk m c 8 t) = k0_pay7 (iblk m c 4 t) (iblk m c 7 t) := by
  frame_out
theorem out12 (t : Fin cfg0.N) : out0_12 (iblk m c 0 t) (iblk m c 1 t) (iblk m c 2 t) (iblk m c 3 t) (iblk m c 4 t) (iblk m c 5 t) (iblk m c 6 t) (iblk m c 7 t) (iblk m c 8 t) = k0_pay2 (iblk m c 5 t) (iblk m c 8 t) := by
  frame_out

theorem dot_blk0 (t : Fin cfg0.N) (i : Fin 512) (j : Fin 1024) : dotAt (iblk m c 3 t) (iblk m c 6 t) i j = dotAt (a1 m c) (a4 m c) (row t i) j := by
  unfold dotAt
  exact Finset.sum_congr rfl fun d _ => by rw [blk3, blk6]
theorem dot_blk1 (t : Fin cfg0.N) (i : Fin 512) (j : Fin 1024) : dotAt (iblk m c 4 t) (iblk m c 7 t) i j = dotAt (a2 m c) (a5 m c) (row t i) j := by
  unfold dotAt
  exact Finset.sum_congr rfl fun d _ => by rw [blk4, blk7]
theorem dot_blk2 (t : Fin cfg0.N) (i : Fin 512) (j : Fin 1024) : dotAt (iblk m c 5 t) (iblk m c 8 t) i j = dotAt (a3 m c) (a6 m c) (row t i) j := by
  unfold dotAt
  exact Finset.sum_congr rfl fun d _ => by rw [blk5, blk8]
theorem gated_blk (t : Fin cfg0.N) (i : Fin 512) (j : Fin 1024) :
    gated (iblk m c 0 t (ix2 i j)) (iblk m c 1 t (ix2 i j)) (iblk m c 2 t (ix2 i j)) (dotAt (iblk m c 3 t) (iblk m c 6 t) i j)
        (dotAt (iblk m c 4 t) (iblk m c 7 t) i j) (dotAt (iblk m c 5 t) (iblk m c 8 t) i j)
      = gated (a0 m c (ix2 (row t i) ⟨10240 + j.val, by omega⟩)) (a0 m c (ix2 (row t i) ⟨11264 + j.val, by omega⟩))
          (a0 m c (ix2 (row t i) ⟨12288 + j.val, by omega⟩)) (dotAt (a1 m c) (a4 m c) (row t i) j)
          (dotAt (a2 m c) (a5 m c) (row t i) j) (dotAt (a3 m c) (a6 m c) (row t i) j) := by
  rw [dot_blk0, dot_blk1, dot_blk2, blk0, blk1, blk2]

theorem final9 : (dats m 0 c).arrAt 9 cfg0.N = R9 m c := by
  refine (dats m 0 c).arrAt_eq_of_covers 9 _ (by decide +kernel) fun t hf y => ?_
  blk_simp
  rw [after0_9, out9]
  have hy : ((cfg0.win 9).blk t).view.emb y = ix2 (n0 := 4096) (n1 := 1024) (row t (y 0)) (y 1) := by
    blk_ext [idx9 t]
  rw [hy]
  refine ((congrArg _ (eq_ix2 (y : S512x1024.Idx))).trans ?_).trans (ref9_at _ _ _ _ _ _ _ (row t (y 0)) (y 1)).symm
  exact (pay3_at _ _ _ _ _ _ _ _ _ (y 0) (y 1)).trans (gated_blk m c t (y 0) (y 1))

theorem final10 : (dats m 0 c).arrAt 10 cfg0.N = R10 m c := by
  refine (dats m 0 c).arrAt_eq_of_covers 10 _ (by decide +kernel) fun t hf y => ?_
  blk_simp
  rw [after0_10, out10]
  have hy : ((cfg0.win 10).blk t).view.emb y = ix2 (n0 := 4096) (n1 := 1024) (row t (y 0)) (y 1) := by
    blk_ext [idx10 t]
  rw [hy]
  refine ((congrArg _ (eq_ix2 (y : S512x1024.Idx))).trans ?_).trans (ref10_at _ _ (row t (y 0)) (y 1)).symm
  exact (pay5_at _ _ (y 0) (y 1)).trans (dot_blk0 m c t (y 0) (y 1))

theorem final11 : (dats m 0 c).arrAt 11 cfg0.N = R11 m c := by
  refine (dats m 0 c).arrAt_eq_of_covers 11 _ (by decide +kernel) fun t hf y => ?_
  blk_simp
  rw [after0_11, out11]
  have hy : ((cfg0.win 11).blk t).view.emb y = ix2 (n0 := 4096) (n1 := 1024) (row t (y 0)) (y 1) := by
    blk_ext [idx11 t]
  rw [hy]
  refine ((congrArg _ (eq_ix2 (y : S512x1024.Idx))).trans ?_).trans (ref11_at _ _ (row t (y 0)) (y 1)).symm
  exact (pay7_at _ _ (y 0) (y 1)).trans (dot_blk1 m c t (y 0) (y 1))

theorem final12 : (dats m 0 c).arrAt 12 cfg0.N = R12 m c := by
  refine (dats m 0 c).arrAt_eq_of_covers 12 _ (by decide +kernel) fun t hf y => ?_
  blk_simp
  rw [after0_12, out12]
  have hy : ((cfg0.win 12).blk t).view.emb y = ix2 (n0 := 4096) (n1 := 1024) (row t (y 0)) (y 1) := by
    blk_ext [idx12 t]
  rw [hy]
  refine ((congrArg _ (eq_ix2 (y : S512x1024.Idx))).trans ?_).trans (ref12_at _ _ (row t (y 0)) (y 1)).symm
  exact (pay2_at _ _ (y 0) (y 1)).trans (dot_blk2 m c t (y 0) (y 1))

theorem frame_kernel : Cert.quiescent_KernelMerge := fun m g _ => Cert.KernelMerge.Gen.frame m g

theorem frame_ideal : Cert.quiescent_KernelMergeIdeal := fun m g _ => Cert.KernelMergeIdeal.Gen.frame m g

theorem frame_reference : Cert.quiescent_ReferenceMergeIdeal := fun m g _ =>
  (θ_run Cert.ReferenceMergeIdeal.defs _ _).mono (fun r h => ⟨fun c => (h c).2.2.2.2, sem_eq_zero_of_no_sems (by decide) r.2⟩)
    (Cert.ReferenceMergeIdeal.Value.run (F := Ideal) m g)

theorem equal : Cert.algebraic_KernelMergeIdeal_ReferenceMergeIdeal := by
  intro m g m' g' hp ha
  refine ⟨fun c => R9 m c, fun c => R10 m c, fun c => R11 m c, fun c => R12 m c, ?_, ?_⟩
  · refine (θ_run Cert.KernelMergeIdeal.defs _ _).mono (fun r h c => ?_) (Cert.KernelMergeIdeal.Value.run_blocks m g)
    obtain ⟨r9, r10, r11, r12, rest⟩ := h c
    exact ⟨r9.trans (final9 m c), r10.trans (final10 m c), r11.trans (final11 m c), r12.trans (final12 m c), rest⟩
  · refine (θ_run Cert.ReferenceMergeIdeal.defs _ _).mono (fun r h c => ?_) (Cert.ReferenceMergeIdeal.Value.run (F := Ideal) m' g')
    obtain ⟨r9, r10, r11, r12, rest⟩ := h c
    obtain ⟨e0, e1, e2, e3, e4, e5, e6⟩ := ha c
    rw [e0, e1, e2, e3, e4, e5, e6] at r9
    rw [e1, e4] at r10
    rw [e2, e5] at r11
    rw [e3, e6] at r12
    exact ⟨r9.trans (Cert.ReferenceMergeIdeal.Read.val_main_v33_eq _ _ _ _ _ _ _), r10.trans (Cert.ReferenceMergeIdeal.Read.val_main_v34_eq _ _), r11.trans (Cert.ReferenceMergeIdeal.Read.val_main_v35_eq _ _), r12.trans (Cert.ReferenceMergeIdeal.Read.val_main_v36_eq _ _), rest⟩

end Cert.Merge

end
-- ==== Proof.OutNorm.lean ====
module

public import proofs.«01_k».proof.Defs
public import proofs.«01_k».proof.Proof.Gen.KernelOutNorm.Frame
public import proofs.«01_k».proof.Proof.Gen.KernelOutNormIdeal.Value
public import proofs.«01_k».proof.Proof.Gen.ReferenceOutNormIdeal.Read
public import proofs.«01_k».proof.Proof.NormGrad
public import Idealize.ShloMosaic.Lib.Pipeline.ValueKit
public import Idealize.ShloMosaic.Lib.Pointwise
public import Idealize.ShloMosaic.Lib.Claim

@[expose] public section

set_option maxRecDepth 16384

noncomputable section

/-! The output projection with its residual, then the rows normalized for the feed-forward block, which are also written transposed. -/

namespace Cert.OutNorm

open Cert.KernelOutNormIdeal Cert.KernelOutNormIdeal.Gen Idealize.ShloMosaic Idealize.ShloMosaic.TcCoe Idealize.SL.Sem Cert.NormGrad
open Idealize.ShloMosaic.Pipeline (Dat)

variable (m : (ℓ : Loc nD τ sig) → Buf (Elt Ideal) ℓ) (c : Dev nD)

abbrev a0 : (⟨S4096x1024, .f32⟩ : BufTy).Contents (Elt Ideal) := m ((c : Thread nD τ).loc main_arg0)
abbrev a1 : (⟨S4096x1024, .bf16⟩ : BufTy).Contents (Elt Ideal) := m ((c : Thread nD τ).loc main_arg1)
abbrev a2 : (⟨S1024x1024, .f32⟩ : BufTy).Contents (Elt Ideal) := m ((c : Thread nD τ).loc main_arg2)
abbrev a3 : (⟨S1x1024, .f32⟩ : BufTy).Contents (Elt Ideal) := m ((c : Thread nD τ).loc main_arg3)

theorem entry_w : V m c main_v0 = (truncf .bf16 (a2 m c : FVec Ideal S1024x1024 .f32) bitsLt_bf16_f32 : FVec Ideal S1024x1024 .bf16) := by
  unfold_abbrev_sides
  after_results
theorem w_at (d q : Fin 1024) : V m c main_v0 (ix2 d q) = a2 m c (ix2 d q) := by
  rw [entry_w]
  pointwise

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, t.val] := (by decide +kernel : ∀ t : Fin grid0.N, _)

theorem lt8 (t : Fin cfg0.N) : t.val < 8 := lt_of_lt_of_eq t.isLt N_0
abbrev row (t : Fin cfg0.N) (i : Fin 512) : Fin 4096 := ⟨t.val * 512 + i.val, by have := lt8 t; omega⟩

theorem blk0 (t : Fin cfg0.N) (i : Fin 512) (d : Fin 1024) : iblk m c 0 t (ix2 i d) = a0 m c (ix2 (row t i) d) := by
  blk_ext [iblk, V, idx0 t]
theorem blk1 (t : Fin cfg0.N) (i : Fin 512) (d : Fin 1024) : iblk m c 1 t (ix2 i d) = a1 m c (ix2 (row t i) d) := by
  blk_ext [iblk, V, idx1 t]
theorem blk2 (t : Fin cfg0.N) (d j : Fin 1024) : iblk m c 2 t (ix2 d j) = a2 m c (ix2 d j) := by
  refine Eq.trans ?_ (w_at m c _ _)
  blk_ext [iblk, idx2 t]
theorem blk3 (t : Fin cfg0.N) (u : Fin 1) (d : Fin 1024) : iblk m c 3 t (ix2 u d) = a3 m c (ix2 u d) := by
  blk_ext [iblk, V, idx3 t]

/-- A row of the residual stream after the product. -/
def sums (x y : Row) (w : Fin 1024 → Fin 1024 → EReal) (q : Fin 1024) : EReal := x q + ∑ d : Fin 1024, y d * w d q

section
variable (x : Vec Ideal S512x1024 .f32) (y : Vec Ideal S512x1024 .bf16) (w : Vec Ideal S1024x1024 .bf16) (g : Vec Ideal S1x1024 .f32)
  (i : Fin 512) (j : Fin 1024)

theorem pay1_at : k0_pay1 x y w (ix2 i j) = sums (fun d => x (ix2 i d)) (fun d => y (ix2 i d)) (fun d q => w (ix2 d q)) j := by
  pointwise [k0_pay1]
  rfl
theorem pay2_at : k0_pay2 x y w g (ix2 i j) = nrm (sums (fun d => x (ix2 i d)) (fun d => y (ix2 i d)) (fun d q => w (ix2 d q))) (fun d => g (ix2 0 d)) j := by
  have e : (fun q => k0_pay1 x y w (ix2 i q)) = sums (fun d => x (ix2 i d)) (fun d => y (ix2 i d)) (fun d q => w (ix2 d q)) :=
    funext fun q => pay1_at x y w i q
  rw [← e]
  pointwise [k0_pay2]
  rfl
theorem pay3_at : k0_pay3 x y w g (ix2 i j) = nrm (sums (fun d => x (ix2 i d)) (fun d => y (ix2 i d)) (fun d q => w (ix2 d q))) (fun d => g (ix2 0 d)) j := by
  pointwise [k0_pay3]
  exact pay2_at x y w g i j
theorem pay4_at : k0_pay4 x y w g (ix2 j i) = nrm (sums (fun d => x (ix2 i d)) (fun d => y (ix2 i d)) (fun d q => w (ix2 d q))) (fun d => g (ix2 0 d)) j := by
  pointwise [k0_pay4]
  exact pay2_at x y w g i j
end

section
open Cert.ReferenceOutNormIdeal.Read
variable (x0 : (⟨S4096x1024, .f32⟩ : BufTy).Contents (Elt Ideal)) (x1 : (⟨S4096x1024, .bf16⟩ : BufTy).Contents (Elt Ideal))
  (x2 : (⟨S1024x1024, .f32⟩ : BufTy).Contents (Elt Ideal)) (x3 : (⟨S1x1024, .f32⟩ : BufTy).Contents (Elt Ideal)) (l : Fin 4096) (q : Fin 1024)

/-- A row of the reference's residual stream. -/
abbrev stream : Row := sums (fun d => x0 (ix2 l d)) (fun d => x1 (ix2 l d)) (fun d q => x2 (ix2 d q))

theorem ref4_at : val_main_v2 (F := Ideal) x0 x1 x2 (ix2 l q) = stream x0 x1 x2 l q := by
  pointwise [val_main_v2, val_main_v1, val_main_v0]
  rfl
theorem rinv_at : val_main_v11 (F := Ideal) x0 x1 x2 (ix2 l 0) = rinv (stream x0 x1 x2 l) := by
  have e : (fun q => val_main_v2 (F := Ideal) x0 x1 x2 (ix2 l q)) = stream x0 x1 x2 l := funext fun q => ref4_at x0 x1 x2 l q
  rw [← e]
  pointwise [val_main_v11, val_main_v10, val_main_v9, val_main_v8, val_main_v7, val_main_v6, val_main_v5, val_main_v4, val_main_cst, val_main_cst_0, val_main_cst_1]
  rfl
theorem norm_at : val_main_v16 (F := Ideal) x0 x1 x2 x3 (ix2 l q) = nrm (stream x0 x1 x2 l) (fun d => x3 (ix2 0 d)) q := by
  pointwise [val_main_v16, val_main_v15, val_main_v14, val_main_v13, val_main_v12, val_main_v3]
  rw [rinv_at, ref4_at]
  rfl
theorem ref5_at : val_main_v17 (F := Ideal) x0 x1 x2 x3 (ix2 l q) = nrm (stream x0 x1 x2 l) (fun d => x3 (ix2 0 d)) q := by
  pointwise [val_main_v17]
  exact norm_at x0 x1 x2 x3 l q
theorem ref6_at : val_main_v19 (F := Ideal) x0 x1 x2 x3 (ix2 q l) = nrm (stream x0 x1 x2 l) (fun d => x3 (ix2 0 d)) q := by
  pointwise [val_main_v19, val_main_v18]
  exact norm_at x0 x1 x2 x3 l q
end

abbrev R4 : (⟨S4096x1024, .f32⟩ : BufTy).Contents (Elt Ideal) := Cert.ReferenceOutNormIdeal.Read.val_main_v2 (F := Ideal) (a0 m c) (a1 m c) (a2 m c)
abbrev R5 : (⟨S4096x1024, .bf16⟩ : BufTy).Contents (Elt Ideal) := Cert.ReferenceOutNormIdeal.Read.val_main_v17 (F := Ideal) (a0 m c) (a1 m c) (a2 m c) (a3 m c)
abbrev R6 : (⟨S1024x4096, .bf16⟩ : BufTy).Contents (Elt Ideal) := Cert.ReferenceOutNormIdeal.Read.val_main_v19 (F := Ideal) (a0 m c) (a1 m c) (a2 m c) (a3 m c)

theorem out4 (t : Fin cfg0.N) : out0_4 (iblk m c 0 t) (iblk m c 1 t) (iblk m c 2 t) (iblk m c 3 t) = k0_pay1 (iblk m c 0 t) (iblk m c 1 t) (iblk m c 2 t) := by
  frame_out
theorem out5 (t : Fin cfg0.N) : out0_5 (iblk m c 0 t) (iblk m c 1 t) (iblk m c 2 t) (iblk m c 3 t) = k0_pay3 (iblk m c 0 t) (iblk m c 1 t) (iblk m c 2 t) (iblk m c 3 t) := by
  frame_out
theorem out6 (t : Fin cfg0.N) : out0_6 (iblk m c 0 t) (iblk m c 1 t) (iblk m c 2 t) (iblk m c 3 t) = k0_pay4 (iblk m c 0 t) (iblk m c 1 t) (iblk m c 2 t) (iblk m c 3 t) := by
  frame_out

theorem sums_blk (t : Fin cfg0.N) (i : Fin 512) : sums (fun d => iblk m c 0 t (ix2 i d)) (fun d => iblk m c 1 t (ix2 i d)) (fun d q => iblk m c 2 t (ix2 d q))
    = stream (a0 m c) (a1 m c) (a2 m c) (row t i) := by
  simp only [blk0, blk1, blk2]
theorem nrm_blk (t : Fin cfg0.N) (i : Fin 512) (j : Fin 1024) :
    nrm (sums (fun d => iblk m c 0 t (ix2 i d)) (fun d => iblk m c 1 t (ix2 i d)) (fun d q => iblk m c 2 t (ix2 d q))) (fun d => iblk m c 3 t (ix2 0 d)) j
      = nrm (stream (a0 m c) (a1 m c) (a2 m c) (row t i)) (fun d => a3 m c (ix2 0 d)) j := by
  rw [sums_blk]
  simp only [blk3]

theorem final4 : (dats m 0 c).arrAt 4 cfg0.N = R4 m c := by
  refine (dats m 0 c).arrAt_eq_of_covers 4 _ (by decide +kernel) fun t hf y => ?_
  blk_simp
  rw [after0_4, out4]
  have hy : ((cfg0.win 4).blk t).view.emb y = ix2 (n0 := 4096) (n1 := 1024) (row t (y 0)) (y 1) := by
    blk_ext [idx4 t]
  rw [hy]
  refine ((congrArg _ (eq_ix2 (y : S512x1024.Idx))).trans ?_).trans (ref4_at _ _ _ (row t (y 0)) (y 1)).symm
  exact (pay1_at _ _ _ (y 0) (y 1)).trans (congrFun (sums_blk m c t (y 0)) (y 1))

theorem final5 : (dats m 0 c).arrAt 5 cfg0.N = R5 m c := by
  refine (dats m 0 c).arrAt_eq_of_covers 5 _ (by decide +kernel) fun t hf y => ?_
  blk_simp
  rw [after0_5, out5]
  have hy : ((cfg0.win 5).blk t).view.emb y = ix2 (n0 := 4096) (n1 := 1024) (row t (y 0)) (y 1) := by
    blk_ext [idx5 t]
  rw [hy]
  refine ((congrArg _ (eq_ix2 (y : S512x1024.Idx))).trans ?_).trans (ref5_at _ _ _ _ (row t (y 0)) (y 1)).symm
  exact (pay3_at _ _ _ _ (y 0) (y 1)).trans (nrm_blk m c t (y 0) (y 1))

theorem final6 : (dats m 0 c).arrAt 6 cfg0.N = R6 m c := by
  refine (dats m 0 c).arrAt_eq_of_covers 6 _ (by decide +kernel) fun t hf y => ?_
  blk_simp
  rw [after0_6, out6]
  have hy : ((cfg0.win 6).blk t).view.emb y = ix2 (n0 := 1024) (n1 := 4096) (y 0) (row t (y 1)) := by
    blk_ext [idx6 t]
  rw [hy]
  refine ((congrArg _ (eq_ix2 (y : S1024x512.Idx))).trans ?_).trans (ref6_at _ _ _ _ (row t (y 1)) (y 0)).symm
  exact (pay4_at _ _ _ _ (y 1) (y 0)).trans (nrm_blk m c t (y 1) (y 0))

theorem frame_kernel : Cert.quiescent_KernelOutNorm := fun m g _ => Cert.KernelOutNorm.Gen.frame m g

theorem frame_ideal : Cert.quiescent_KernelOutNormIdeal := fun m g _ => Cert.KernelOutNormIdeal.Gen.frame m g

theorem frame_reference : Cert.quiescent_ReferenceOutNormIdeal := fun m g _ =>
  (θ_run Cert.ReferenceOutNormIdeal.defs _ _).mono (fun r h => ⟨fun c => (h c).2.2.2, sem_eq_zero_of_no_sems (by decide) r.2⟩)
    (Cert.ReferenceOutNormIdeal.Value.run (F := Ideal) m g)

theorem equal : Cert.algebraic_KernelOutNormIdeal_ReferenceOutNormIdeal := by
  intro m g m' g' hp ha
  refine ⟨fun c => R4 m c, fun c => R5 m c, fun c => R6 m c, ?_, ?_⟩
  · refine (θ_run Cert.KernelOutNormIdeal.defs _ _).mono (fun r h c => ?_) (Cert.KernelOutNormIdeal.Value.run_blocks m g)
    obtain ⟨r4, r5, r6, rest⟩ := h c
    exact ⟨r4.trans (final4 m c), r5.trans (final5 m c), r6.trans (final6 m c), rest⟩
  · refine (θ_run Cert.ReferenceOutNormIdeal.defs _ _).mono (fun r h c => ?_) (Cert.ReferenceOutNormIdeal.Value.run (F := Ideal) m' g')
    obtain ⟨r4, r5, r6, rest⟩ := h c
    obtain ⟨e0, e1, e2, e3⟩ := ha c
    rw [e0, e1, e2] at r4
    rw [e0, e1, e2, e3] at r5
    rw [e0, e1, e2, e3] at r6
    exact ⟨r4.trans (Cert.ReferenceOutNormIdeal.Read.val_main_v2_eq _ _ _), r5.trans (Cert.ReferenceOutNormIdeal.Read.val_main_v17_eq _ _ _ _), r6.trans (Cert.ReferenceOutNormIdeal.Read.val_main_v19_eq _ _ _ _), rest⟩

end Cert.OutNorm

end
-- ==== Proof.MemFwd.lean ====
module

public import proofs.«01_k».proof.Defs
public import proofs.«01_k».proof.Proof.Gen.KernelMemFwd.Frame
public import proofs.«01_k».proof.Proof.Gen.KernelMemFwdIdeal.Value
public import proofs.«01_k».proof.Proof.Gen.ReferenceMemFwdIdeal.Read
public import proofs.«01_k».proof.Proof.Spec
public import Idealize.ShloMosaic.Lib.Pipeline.ValueKit
public import Idealize.ShloMosaic.Lib.Pointwise
public import Idealize.ShloMosaic.Lib.Claim

@[expose] public section

set_option maxRecDepth 16384

noncomputable section

/-! The memory cross-attention: every row's softmax over the 256 memory tokens, times the values. -/

namespace Cert.MemFwd

open Cert.KernelMemFwdIdeal Cert.KernelMemFwdIdeal.Gen Idealize.ShloMosaic Idealize.ShloMosaic.TcCoe Idealize.SL.Sem Cert.MemGrad
open Idealize.ShloMosaic.Pipeline (Dat)

/-- The attention of one row with scores `s` over the values `V`. -/
def att (s : Fin 256 → EReal) (V : Fin 256 → Row) (d : Fin 128) : EReal := ∑ c, prob s c * V c d

/-- Row `r` of a two-dimensional value. -/
def row {R : ℕ} (x : Vec Ideal ⟨2, ![R, 128]⟩ .f32) (r : Fin R) : Row := fun d => x (ix2 r d)

/-! ## The values that the body computes -/

section
variable (gq gk : Vec Ideal S1x128 .f32) (k v q kn : Vec Ideal S256x128 .f32) (e : FVec Ideal S256x256 .f32)

/-- The scores of row `r` against rows that are normalized already. -/
def against (r c : Fin 256) : EReal := (∑ d, nrm (row q r) (row gq 0) d * kn (ix2 c d)) * scale

theorem kn_at (r : Fin 256) (d : Fin 128) : k0_pay5 (F := Ideal) k gk (ix2 r d) = nrm (row k r) (row gk 0) d := by
  pointwise [k0_pay5]; rfl
theorem against_kn (r : Fin 256) : against gq q (k0_pay5 (F := Ideal) k gk) r = score (row gq 0) (row gk 0) (row k) (row q r) := by
  funext c
  unfold against score
  simp only [kn_at]
theorem pay6_at (r c : Fin 256) : k0_pay6 (F := Ideal) k gk gq q (ix2 r c) = num (score (row gq 0) (row gk 0) (row k) (row q r)) c := by
  pointwise [k0_pay6, kn_at]; rfl
theorem pay11_at (r c : Fin 256) : k0_pay11 (F := Ideal) kn gq q (ix2 r c) = num (against gq q kn r) c := by
  pointwise [k0_pay11]; rfl
theorem pay7_at (r : Fin 256) (d : Fin 128) : k0_pay7 (F := Ideal) v e (ix2 r d)
    = ∑ c, Ideal.div (e (ix2 r c)) (∑ c', e (ix2 r c')) * row v c d := by
  pointwise [k0_pay7]; rfl
theorem pay4_at (r : Fin 256) (d : Fin 128) : k0_pay4 (F := Ideal) v e (ix2 r d)
    = ∑ c, Ideal.div (e (ix2 r c)) (∑ c', e (ix2 r c')) * row v c d := by
  pointwise [k0_pay4]; rfl
theorem pay8_at (r : Fin 256) (d : Fin 128) : k0_pay8 (F := Ideal) kn v gq q (ix2 r d) = att (against gq q kn r) (row v) d := by
  pointwise [k0_pay8]; rfl
theorem pay10_at (r : Fin 256) (d : Fin 128) :
    k0_pay10 (F := Ideal) kn v gq q (k0_pay9 q) (Scalar.ofBits .f32 0x358637BD#32) (ix2 r d) = att (against gq q kn r) (row v) d := by
  pointwise [k0_pay10, k0_pay9]; rfl

/-- The four pieces of a block, all the same function of their rows. -/
def piece (r : Fin 256) (d : Fin 128) : EReal := att (score (row gq 0) (row gk 0) (row k) (row q r)) (row v) d

theorem piece0_at (r : Fin 256) (d : Fin 128) : k0_pay1 (F := Ideal) (k0_pay7 v (k0_pay6 k gk gq q)) (ix2 r d) = piece gq gk k v q r d := by
  refine (show _ = k0_pay7 (F := Ideal) v (k0_pay6 k gk gq q) (ix2 r d) by pointwise [k0_pay1]).trans ?_
  rw [pay7_at]
  simp only [pay6_at]
  rfl
theorem piece1_at (r : Fin 256) (d : Fin 128) : k0_pay2 (F := Ideal) (k0_pay8 (k0_pay5 k gk) v gq q) (ix2 r d) = piece gq gk k v q r d := by
  refine (show _ = k0_pay8 (F := Ideal) (k0_pay5 k gk) v gq q (ix2 r d) by pointwise [k0_pay2]).trans ?_
  rw [pay8_at, against_kn]
  rfl
theorem piece2_at (r : Fin 256) (d : Fin 128) :
    k0_pay3 (F := Ideal) (k0_pay10 (k0_pay5 k gk) v gq q (k0_pay9 q) (Scalar.ofBits .f32 0x358637BD#32)) (ix2 r d) = piece gq gk k v q r d := by
  refine (show _ = k0_pay10 (F := Ideal) (k0_pay5 k gk) v gq q (k0_pay9 q) (Scalar.ofBits .f32 0x358637BD#32) (ix2 r d) by
    pointwise [k0_pay3]).trans ?_
  rw [pay10_at, against_kn]
  rfl
theorem piece3_at (r : Fin 256) (d : Fin 128) : k0_pay4 (F := Ideal) v (k0_pay11 (k0_pay5 k gk) gq q) (ix2 r d) = piece gq gk k v q r d := by
  rw [pay4_at]
  simp only [pay11_at, against_kn]
  rfl
end

/-! ## The blocks -/

variable (m : (ℓ : Loc nD τ sig) → Buf (Elt Ideal) ℓ) (c : Dev nD)

abbrev a0 : Mat 4096 13312 := m ((c : Thread nD τ).loc main_arg0)
abbrev a1 : Mat 256 1024 := m ((c : Thread nD τ).loc main_arg1)
abbrev a2 : Mat 1 128 := m ((c : Thread nD τ).loc main_arg2)
abbrev a3 : Mat 1 128 := m ((c : Thread nD τ).loc main_arg3)

theorem lt16 (t : Fin cfg0.N) : t.val < 16 := lt_of_lt_of_eq t.isLt N_0
/-- The head of a point. -/
def ph (t : Fin cfg0.N) : Fin 4 := ⟨t.val / 4, by have := lt16 t; omega⟩

theorem idx0 : ∀ t : Fin cfg0.N, win0_0.index t = ![t.val % 4, 76 + t.val / 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![0, 4 + t.val / 4] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val % 4, t.val / 4] := (by decide +kernel : ∀ t : Fin grid0.N, _)

theorem blk0 (t : Fin cfg0.N) (r : Fin 1024) : row (iblk m c 0 t) r = Qh (a0 m c) (ph t) ⟨t.val % 4 * 1024 + r.val, by omega⟩ := by
  funext d
  unfold row Qh ph
  blk_ext [iblk, V, idx0 t]
theorem blk1 (t : Fin cfg0.N) : row (iblk m c 1 t) = Kh (a1 m c) (ph t) := by
  funext r d
  unfold row Kh ph
  blk_ext [iblk, V, idx1 t]
theorem blk2 (t : Fin cfg0.N) : row (iblk m c 2 t) = Vh (a1 m c) (ph t) := by
  funext r d
  unfold row Vh ph
  blk_ext [iblk, V, idx2 t]
theorem blk3 (t : Fin cfg0.N) : row (iblk m c 3 t) (0 : Fin 1) = gain (a2 m c) := by
  funext d
  unfold row gain
  blk_ext [iblk, V, idx3 t]
theorem blk4 (t : Fin cfg0.N) : row (iblk m c 4 t) (0 : Fin 1) = gain (a3 m c) := by
  funext d
  unfold row gain
  blk_ext [iblk, V, idx4 t]

/-- The result: row `l` of head `h`. -/
def O (A0 : Mat 4096 13312) (A1 : Mat 256 1024) (A2 A3 : Mat 1 128) (h : Fin 4) (l : Fin 4096) : Row :=
  att (Sc A0 A1 A2 A3 h l) (Vh A1 h)

theorem piece_blk (t : Fin cfg0.N) (n : ℕ) (hn : n < 1024) (q : Vec Ideal S256x128 .f32) (a : Fin 256) (b : Fin 128)
    (hq : row q a = row (iblk m c 0 t) ⟨n, hn⟩) :
    piece (iblk m c 3 t) (iblk m c 4 t) (iblk m c 1 t) (iblk m c 2 t) q a b
      = O (a0 m c) (a1 m c) (a2 m c) (a3 m c) (ph t) ⟨t.val % 4 * 1024 + n, by omega⟩ b := by
  unfold piece
  rw [hq, blk0, blk1, blk2, blk3, blk4]
  rfl

section
variable (x : Vec Ideal S1024x128 .f32) (r : Fin 256)
theorem rows0_el (d : Fin 128) : row (View.ld x r0_2) r d = row x ⟨r.val, by omega⟩ d := by
  unfold row; pointwise
theorem rows1_el (d : Fin 128) : row (View.ld x r0_3) r d = row x ⟨256 + r.val, by omega⟩ d := by
  unfold row; pointwise
theorem rows2_el (d : Fin 128) : row (View.ld x r0_4) r d = row x ⟨512 + r.val, by omega⟩ d := by
  unfold row; pointwise
theorem rows3_el (d : Fin 128) : row (View.ld x r0_5) r d = row x ⟨768 + r.val, by omega⟩ d := by
  unfold row; pointwise
end

/-- The normalized keys, read through the whole block. -/
theorem keys_eq (x0 : Vec Ideal S1024x128 .f32) (x1 x2 : Vec Ideal S256x128 .f32) (x3 x4 : Vec Ideal S1x128 .f32) :
    k0_pay12 (F := Ideal) x0 x1 x2 x3 x4 = k0_pay5 x1 x4 := by
  unfold k0_pay12
  rw [View.ld_unit_zero (by funext b; match b with | ⟨0, _⟩ => rfl | ⟨1, _⟩ => rfl),
    View.ld_unit_zero (by funext b; match b with | ⟨0, _⟩ => rfl | ⟨1, _⟩ => rfl)]

theorem out_at (t : Fin cfg0.N) (y : S1024x128.Idx) (l : Fin 4096) (d : Fin 128) (hl : l.val = t.val % 4 * 1024 + (y 0).val)
    (hd : d.val = (y 1).val) :
    out0_5 (iblk m c 0 t) (iblk m c 1 t) (iblk m c 2 t) (iblk m c 3 t) (iblk m c 4 t) y
      = O (a0 m c) (a1 m c) (a2 m c) (a3 m c) (ph t) l d := by
  frame_out
  simp only [keys_eq]
  canon_tiles x h
  · refine (congrArg _ (eq_ix2 (n0 := 256) (n1 := 128) x)).trans ((piece3_at _ _ _ _ _ (x 0) (x 1)).trans
      ((piece_blk m c t (768 + (x 0).val) (by omega) _ (x 0) (x 1) (funext fun d => rows3_el _ (x 0) d)).trans ?_))
    congr 1 <;> exact Fin.ext (by dsimp only; omega)
  · refine (congrArg _ (eq_ix2 (n0 := 256) (n1 := 128) x)).trans ((piece2_at _ _ _ _ _ (x 0) (x 1)).trans
      ((piece_blk m c t (512 + (x 0).val) (by omega) _ (x 0) (x 1) (funext fun d => rows2_el _ (x 0) d)).trans ?_))
    congr 1 <;> exact Fin.ext (by dsimp only; omega)
  · refine (congrArg _ (eq_ix2 (n0 := 256) (n1 := 128) x)).trans ((piece1_at _ _ _ _ _ (x 0) (x 1)).trans
      ((piece_blk m c t (256 + (x 0).val) (by omega) _ (x 0) (x 1) (funext fun d => rows1_el _ (x 0) d)).trans ?_))
    congr 1 <;> exact Fin.ext (by dsimp only; omega)
  · refine (congrArg _ (eq_ix2 (n0 := 256) (n1 := 128) x)).trans ((piece0_at _ _ _ _ _ (x 0) (x 1)).trans
      ((piece_blk m c t (x 0).val (by omega) _ (x 0) (x 1) (funext fun d => rows0_el _ (x 0) d)).trans ?_))
    congr 1 <;> exact Fin.ext (by dsimp only; omega)

/-! ## The reference -/

namespace Ref
open Cert.ReferenceMemFwdIdeal.Read
variable (x0 : Mat 4096 13312) (x1 : Mat 256 1024) (x2 x3 : Mat 1 128)

theorem q_at (l : Fin 4096) (h : Fin 4) (d : Fin 128) : val_main_v5 (F := Ideal) x0 (ix3 l h d) = Qh x0 h l d := by
  pointwise [val_main_v5, val_main_v2]
  simp only [Qh, Nat.mul_comm]
theorem k_at (c : Fin 256) (h : Fin 4) (d : Fin 128) : val_main_v19 (F := Ideal) x1 (ix3 c h d) = Kh x1 h c d := by
  pointwise [val_main_v19, val_main_v0]
  simp only [Kh, Nat.mul_comm]
theorem v_at (c : Fin 256) (h : Fin 4) (d : Fin 128) : val_main_v33 (F := Ideal) x1 (ix3 c h d) = Vh x1 h c d := by
  pointwise [val_main_v33, val_main_v1]
  simp only [Vh, Nat.mul_comm]
theorem gq_at (d : Fin 128) : val_main_v3 (F := Ideal) x2 (ix1 d) = gain x2 d := by
  pointwise [val_main_v3]
  rfl
theorem gk_at (d : Fin 128) : val_main_v4 (F := Ideal) x3 (ix1 d) = gain x3 d := by
  pointwise [val_main_v4]
  rfl
theorem qr_at (l : Fin 4096) (h : Fin 4) (z : Fin 1) : val_main_v13 (F := Ideal) x0 (ix3 l h z) = rinv (Qh x0 h l) := by
  pointwise [val_main_v13, val_main_v12, val_main_v11, val_main_v10, val_main_v9, val_main_v8, val_main_cst_0, val_main_cst_1,
    val_main_v7, val_main_v6, val_main_cst, q_at]
  rfl
theorem kr_at (c : Fin 256) (h : Fin 4) (z : Fin 1) : val_main_v27 (F := Ideal) x1 (ix3 c h z) = rinv (Kh x1 h c) := by
  pointwise [val_main_v27, val_main_v26, val_main_v25, val_main_v24, val_main_v23, val_main_v22, val_main_cst_3, val_main_cst_4,
    val_main_v21, val_main_v20, val_main_cst_2, k_at]
  rfl
theorem qn_at (l : Fin 4096) (h : Fin 4) (d : Fin 128) : val_main_v18 (F := Ideal) x0 x2 (ix3 l h d) = nrm (Qh x0 h l) (gain x2) d := by
  pointwise [val_main_v18, val_main_v17, val_main_v16, val_main_v15, val_main_v14, q_at, qr_at, gq_at]
  rfl
theorem kn_at (c : Fin 256) (h : Fin 4) (d : Fin 128) : val_main_v32 (F := Ideal) x1 x3 (ix3 c h d) = nrm (Kh x1 h c) (gain x3) d := by
  pointwise [val_main_v32, val_main_v31, val_main_v30, val_main_v29, val_main_v28, k_at, kr_at, gk_at]
  rfl
theorem score_at (h : Fin 4) (l : Fin 4096) (c : Fin 256) : val_main_v36 (F := Ideal) x0 x1 x2 x3 (ix3 h l c) = Sc x0 x1 x2 x3 h l c := by
  pointwise [val_main_v36, val_main_v35, val_main_cst_5, val_main_v34, qn_at, kn_at]
  rfl
theorem low_eq : low = ⊥ := by
  simp [low, Ideal.ofBits, Ideal.ieee]
/-- The maximum of every row of some scores. -/
theorem max_read (y : FVec Ideal Cert.ReferenceMemFwdIdeal.S4x4096x256 .f32) (w : BitVec 32) (h : Fin 4) (l : Fin 4096) :
    Host.reduce FloatOps.maximumf y (constant (F := Ideal) Cert.ReferenceMemFwdIdeal.S_ .f32 w)
        Cert.ReferenceMemFwdIdeal.Gen.facts.reducesTo_S4x4096x256_S4x4096_d2 Cert.ReferenceMemFwdIdeal.Gen.facts.h_S_ (ix2 h l)
      = Finset.univ.fold max (Ideal.ofBits .f32 w) fun c => y (ix3 h l c) := by
  pointwise
theorem max_at (h : Fin 4) (l : Fin 4096) : val_main_v37 (F := Ideal) x0 x1 x2 x3 (ix2 h l) = top (Sc x0 x1 x2 x3 h l) := by
  have e := max_read (val_main_v36 (F := Ideal) x0 x1 x2 x3) 0xFF800000#32 h l
  simp only [score_at] at e
  exact e
theorem top_at (h : Fin 4) (l : Fin 4096) : val_main_v39 (F := Ideal) x0 x1 x2 x3 (ix2 h l) = top (Sc x0 x1 x2 x3 h l) := by
  rw [val_main_v39_apply, max_at]
  have e : val_main_v38 (F := Ideal) (ix2 h l) = ⊥ := (val_main_v38_apply _).trans low_eq
  rw [e]
  exact max_eq_right bot_le
theorem num_at (h : Fin 4) (l : Fin 4096) (c : Fin 256) : val_main_v43 (F := Ideal) x0 x1 x2 x3 (ix3 h l c) = num (Sc x0 x1 x2 x3 h l) c := by
  pointwise [val_main_v43, val_main_v42, val_main_v41, val_main_v40, top_at, score_at]
  rfl
theorem prob_at (h : Fin 4) (l : Fin 4096) (c : Fin 256) : val_main_v47 (F := Ideal) x0 x1 x2 x3 (ix3 h l c) = prob (Sc x0 x1 x2 x3 h l) c := by
  pointwise [val_main_v47, val_main_v46, val_main_v45, val_main_v44, val_main_cst_8, num_at]
  rfl
theorem o_at (l : Fin 4096) (h : Fin 4) (d : Fin 128) : val_main_v49 (F := Ideal) x0 x1 x2 x3 (ix3 l h d) = O x0 x1 x2 x3 h l d := by
  pointwise [val_main_v49, val_main_v48, v_at, prob_at]
  exact Finset.sum_congr rfl fun c _ => mul_comm _ _
theorem result_at (l : Fin 4096) (n : Fin 512) : val_main_v51 (F := Ideal) x0 x1 x2 x3 (ix2 l n) = O x0 x1 x2 x3 (hd n) l (ln n) := by
  pointwise [val_main_v51, val_main_v50, o_at]
  rfl
end Ref

abbrev R : (⟨S4096x512, .bf16⟩ : BufTy).Contents (Elt Ideal) :=
  Cert.ReferenceMemFwdIdeal.Read.val_main_v51 (F := Ideal) (a0 m c) (a1 m c) (a2 m c) (a3 m c)

theorem R_of (j : (⟨2, ![4096, 512]⟩ : Shape).Idx) (h : Fin 4) (l : Fin 4096) (d : Fin 128) (e0 : (j 0).val = l.val)
    (e1 : (j 1).val = 128 * h.val + d.val) : R m c j = O (a0 m c) (a1 m c) (a2 m c) (a3 m c) h l d := by
  refine (congrArg (R m c) (eq_ix2 (n0 := 4096) (n1 := 512) j)).trans ((Ref.result_at _ _ _ _ (j 0) (j 1)).trans ?_)
  rw [show hd (j 1) = h from Fin.ext (by simp only [hd]; omega), show ln (j 1) = d from Fin.ext (by simp only [ln]; omega),
    show j 0 = l from Fin.ext e0]

theorem final5 : (dats m 0 c).arrAt 5 cfg0.N = R m c := by
  refine (dats m 0 c).arrAt_eq_of_covers 5 _ (by decide +kernel) fun t hf y => ?_
  blk_simp
  rw [after0_5]
  have hy0 : (y 0).val < 1024 := (y 0).isLt
  have hy1 : (y 1).val < 128 := (y 1).isLt
  refine Eq.trans ?_ (R_of m c _ (ph t) ⟨t.val % 4 * 1024 + (y 0).val, by omega⟩ ⟨(y 1).val, hy1⟩ ?_ ?_).symm
  · exact out_at m c t y _ _ rfl rfl
  · blk_simp [idx5 t]
  · blk_simp [idx5 t]; dsimp only [ph]; omega

theorem frame_kernel : Cert.quiescent_KernelMemFwd := fun m g _ => Cert.KernelMemFwd.Gen.frame m g

theorem frame_ideal : Cert.quiescent_KernelMemFwdIdeal := fun m g _ => Cert.KernelMemFwdIdeal.Gen.frame m g

theorem frame_reference : Cert.quiescent_ReferenceMemFwdIdeal := fun m g _ =>
  (θ_run Cert.ReferenceMemFwdIdeal.defs _ _).mono (fun r h => ⟨fun c => (h c).2, sem_eq_zero_of_no_sems (by decide) r.2⟩)
    (Cert.ReferenceMemFwdIdeal.Value.run (F := Ideal) m g)

theorem equal : Cert.algebraic_KernelMemFwdIdeal_ReferenceMemFwdIdeal := by
  intro m g m' g' hp ha
  refine ⟨fun c => R m c, ?_, ?_⟩
  · refine (θ_run Cert.KernelMemFwdIdeal.defs _ _).mono (fun r h c => ?_) (Cert.KernelMemFwdIdeal.Value.run_blocks m g)
    obtain ⟨r5, rest⟩ := h c
    exact ⟨r5.trans (final5 m c), rest⟩
  · refine (θ_run Cert.ReferenceMemFwdIdeal.defs _ _).mono (fun r h c => ?_) (Cert.ReferenceMemFwdIdeal.Value.run (F := Ideal) m' g')
    obtain ⟨r5, rest⟩ := h c
    obtain ⟨e0, e1, e2, e3⟩ := ha c
    rw [Cert.ReferenceMemFwdIdeal.Read.val_main_v51_eq, e0, e1, e2, e3] at r5
    exact ⟨r5, rest⟩

end Cert.MemFwd

end
-- ==== Proof.lean ====
module

public import proofs.«01_k».proof.Defs
public import proofs.«01_k».proof.Proof.Equal
public import proofs.«01_k».proof.Proof.ProjW
public import proofs.«01_k».proof.Proof.ProjBottom
public import proofs.«01_k».proof.Proof.ProjTop
public import proofs.«01_k».proof.Proof.Proj
public import proofs.«01_k».proof.Proof.FfnInAct
public import proofs.«01_k».proof.Proof.FfnInW
public import proofs.«01_k».proof.Proof.FfnIn
public import proofs.«01_k».proof.Proof.FfnOutW
public import proofs.«01_k».proof.Proof.OutW
public import proofs.«01_k».proof.Proof.ProjHgW
public import proofs.«01_k».proof.Proof.ProjDaW
public import proofs.«01_k».proof.Proof.ProjMemW
public import proofs.«01_k».proof.Proof.MemKvW
public import proofs.«01_k».proof.Proof.MemKvAct
public import proofs.«01_k».proof.Proof.NormMem
public import proofs.«01_k».proof.Proof.AdamwWIn
public import proofs.«01_k».proof.Proof.AdamwSquare
public import proofs.«01_k».proof.Proof.AdamwBranch
public import proofs.«01_k».proof.Proof.AdamwFfnIn
public import proofs.«01_k».proof.Proof.AdamwFfnOut
public import proofs.«01_k».proof.Proof.FfnOut
public import proofs.«01_k».proof.Proof.FfnOutAct
public import proofs.«01_k».proof.Proof.NormMix
public import proofs.«01_k».proof.Proof.NormMemFwd
public import proofs.«01_k».proof.Proof.MemKv
public import proofs.«01_k».proof.Proof.Merge
public import proofs.«01_k».proof.Proof.OutNorm
public import proofs.«01_k».proof.Proof.MemFwd
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.KernelProjW.Gen.facts,
    Cert.KernelProjWIdeal.Gen.facts, Cert.ReferenceProjWIdeal.Gen.facts, Cert.KernelProjBottom.Gen.facts,
    Cert.KernelProjBottomIdeal.Gen.facts, Cert.ReferenceProjBottomIdeal.Gen.facts, Cert.KernelProjTop.Gen.facts,
    Cert.KernelProjTopIdeal.Gen.facts, Cert.ReferenceProjTopIdeal.Gen.facts, Cert.KernelProj.Gen.facts, Cert.KernelProjIdeal.Gen.facts,
    Cert.ReferenceProjIdeal.Gen.facts, Cert.KernelFfnInAct.Gen.facts, Cert.KernelFfnInActIdeal.Gen.facts,
    Cert.ReferenceFfnInActIdeal.Gen.facts, Cert.KernelFfnInW.Gen.facts, Cert.KernelFfnInWIdeal.Gen.facts,
    Cert.ReferenceFfnInWIdeal.Gen.facts, Cert.KernelFfnIn.Gen.facts, Cert.KernelFfnInIdeal.Gen.facts, Cert.ReferenceFfnInIdeal.Gen.facts,
    Cert.KernelFfnOutW.Gen.facts, Cert.KernelFfnOutWIdeal.Gen.facts, Cert.ReferenceFfnOutWIdeal.Gen.facts, Cert.KernelOutW.Gen.facts,
    Cert.KernelOutWIdeal.Gen.facts, Cert.ReferenceOutWIdeal.Gen.facts, Cert.KernelProjHgW.Gen.facts, Cert.KernelProjHgWIdeal.Gen.facts,
    Cert.ReferenceProjHgWIdeal.Gen.facts, Cert.KernelProjDaW.Gen.facts, Cert.KernelProjDaWIdeal.Gen.facts,
    Cert.ReferenceProjDaWIdeal.Gen.facts, Cert.KernelProjMemW.Gen.facts, Cert.KernelProjMemWIdeal.Gen.facts,
    Cert.ReferenceProjMemWIdeal.Gen.facts, Cert.KernelMemKvW.Gen.facts, Cert.KernelMemKvWIdeal.Gen.facts,
    Cert.ReferenceMemKvWIdeal.Gen.facts, Cert.KernelMemKvAct.Gen.facts, Cert.KernelMemKvActIdeal.Gen.facts,
    Cert.ReferenceMemKvActIdeal.Gen.facts, Cert.KernelNormMem.Gen.facts, Cert.KernelNormMemIdeal.Gen.facts,
    Cert.ReferenceNormMemIdeal.Gen.facts, Cert.KernelAdamwWIn.Gen.facts, Cert.KernelAdamwWInIdeal.Gen.facts,
    Cert.ReferenceAdamwWInIdeal.Gen.facts, Cert.KernelAdamwSquare.Gen.facts, Cert.KernelAdamwSquareIdeal.Gen.facts,
    Cert.ReferenceAdamwSquareIdeal.Gen.facts, Cert.KernelAdamwBranch.Gen.facts, Cert.KernelAdamwBranchIdeal.Gen.facts,
    Cert.ReferenceAdamwBranchIdeal.Gen.facts, Cert.KernelAdamwFfnIn.Gen.facts, Cert.KernelAdamwFfnInIdeal.Gen.facts,
    Cert.ReferenceAdamwFfnInIdeal.Gen.facts, Cert.KernelAdamwFfnOut.Gen.facts, Cert.KernelAdamwFfnOutIdeal.Gen.facts,
    Cert.ReferenceAdamwFfnOutIdeal.Gen.facts, Cert.KernelFfnOut.Gen.facts, Cert.KernelFfnOutIdeal.Gen.facts,
    Cert.ReferenceFfnOutIdeal.Gen.facts, Cert.KernelFfnOutAct.Gen.facts, Cert.KernelFfnOutActIdeal.Gen.facts,
    Cert.ReferenceFfnOutActIdeal.Gen.facts, Cert.KernelNormMix.Gen.facts, Cert.KernelNormMixIdeal.Gen.facts,
    Cert.ReferenceNormMixIdeal.Gen.facts, Cert.KernelNormMemFwd.Gen.facts, Cert.KernelNormMemFwdIdeal.Gen.facts,
    Cert.ReferenceNormMemFwdIdeal.Gen.facts, Cert.KernelMemKv.Gen.facts, Cert.KernelMemKvIdeal.Gen.facts,
    Cert.ReferenceMemKvIdeal.Gen.facts, Cert.KernelMerge.Gen.facts, Cert.KernelMergeIdeal.Gen.facts, Cert.ReferenceMergeIdeal.Gen.facts,
    Cert.KernelOutNorm.Gen.facts, Cert.KernelOutNormIdeal.Gen.facts, Cert.ReferenceOutNormIdeal.Gen.facts, Cert.KernelMemFwd.Gen.facts,
    Cert.KernelMemFwdIdeal.Gen.facts, Cert.ReferenceMemFwdIdeal.Gen.facts, Cert.Equal.preFacts, Cert.FfnOutAct.preFacts,
    Cert.ProjTop.onFacts, Cert.Equal.frame_kernel, Cert.Equal.frame_ideal, Cert.Equal.frame_ideal_pre, Cert.Equal.frame_reference,
    Cert.Equal.frame_reference_pre, Cert.ProjW.frame_kernel, Cert.ProjW.frame_ideal, Cert.ProjW.frame_reference,
    Cert.ProjBottom.frame_kernel, Cert.ProjBottom.frame_ideal, Cert.ProjBottom.frame_reference, Cert.ProjTop.frame_kernel,
    Cert.ProjTop.frame_ideal, Cert.ProjTop.frame_reference, Cert.Proj.frame_kernel, Cert.Proj.frame_ideal, Cert.Proj.frame_reference,
    Cert.FfnInAct.frame_kernel, Cert.FfnInAct.frame_ideal, Cert.FfnInAct.frame_reference, Cert.FfnInW.frame_kernel, Cert.FfnInW.frame_ideal,
    Cert.FfnInW.frame_reference, Cert.FfnIn.frame_kernel, Cert.FfnIn.frame_ideal, Cert.FfnIn.frame_reference, Cert.FfnOutW.frame_kernel,
    Cert.FfnOutW.frame_ideal, Cert.FfnOutW.frame_reference, Cert.OutW.frame_kernel, Cert.OutW.frame_ideal, Cert.OutW.frame_reference,
    Cert.ProjHgW.frame_kernel, Cert.ProjHgW.frame_ideal, Cert.ProjHgW.frame_reference, Cert.ProjDaW.frame_kernel, Cert.ProjDaW.frame_ideal,
    Cert.ProjDaW.frame_reference, Cert.ProjMemW.frame_kernel, Cert.ProjMemW.frame_ideal, Cert.ProjMemW.frame_reference,
    Cert.MemKvW.frame_kernel, Cert.MemKvW.frame_ideal, Cert.MemKvW.frame_reference, Cert.MemKvAct.frame_kernel, Cert.MemKvAct.frame_ideal,
    Cert.MemKvAct.frame_reference, Cert.NormMem.frame_kernel, Cert.NormMem.frame_ideal, Cert.NormMem.frame_reference,
    Cert.AdamwWIn.frame_kernel, Cert.AdamwWIn.frame_ideal, Cert.AdamwWIn.frame_reference, Cert.AdamwSquare.frame_kernel,
    Cert.AdamwSquare.frame_ideal, Cert.AdamwSquare.frame_reference, Cert.AdamwBranch.frame_kernel, Cert.AdamwBranch.frame_ideal,
    Cert.AdamwBranch.frame_reference, Cert.AdamwFfnIn.frame_kernel, Cert.AdamwFfnIn.frame_ideal, Cert.AdamwFfnIn.frame_reference,
    Cert.AdamwFfnOut.frame_kernel, Cert.AdamwFfnOut.frame_ideal, Cert.AdamwFfnOut.frame_reference, Cert.FfnOut.frame_kernel,
    Cert.FfnOut.frame_ideal, Cert.FfnOut.frame_reference, Cert.FfnOutAct.frame_kernel, Cert.FfnOutAct.frame_ideal,
    Cert.FfnOutAct.frame_ideal_pre, Cert.FfnOutAct.frame_reference, Cert.FfnOutAct.frame_reference_pre, Cert.NormMix.frame_kernel,
    Cert.NormMix.frame_ideal, Cert.NormMix.frame_reference, Cert.NormMemFwd.frame_kernel, Cert.NormMemFwd.frame_ideal,
    Cert.NormMemFwd.frame_reference, Cert.MemKv.frame_kernel, Cert.MemKv.frame_ideal, Cert.MemKv.frame_reference, Cert.Merge.frame_kernel,
    Cert.Merge.frame_ideal, Cert.Merge.frame_reference, Cert.OutNorm.frame_kernel, Cert.OutNorm.frame_ideal, Cert.OutNorm.frame_reference,
    Cert.MemFwd.frame_kernel, Cert.MemFwd.frame_ideal, Cert.MemFwd.frame_reference, trivial, Cert.Equal.equal, trivial, Cert.ProjW.equal,
    trivial, Cert.ProjBottom.equal, trivial, Cert.ProjTop.equal, trivial, Cert.Proj.equal, trivial, Cert.FfnInAct.equal, trivial,
    Cert.FfnInW.equal, trivial, Cert.FfnIn.equal, trivial, Cert.FfnOutW.equal, trivial, Cert.OutW.equal, trivial, Cert.ProjHgW.equal,
    trivial, Cert.ProjDaW.equal, trivial, Cert.ProjMemW.equal, trivial, Cert.MemKvW.equal, trivial, Cert.MemKvAct.equal, trivial,
    Cert.NormMem.equal, trivial, Cert.AdamwWIn.equal, trivial, Cert.AdamwSquare.equal, trivial, Cert.AdamwBranch.equal, trivial,
    Cert.AdamwFfnIn.equal, trivial, Cert.AdamwFfnOut.equal, trivial, Cert.FfnOut.equal, trivial, Cert.FfnOutAct.equal, trivial,
    Cert.NormMix.equal, trivial, Cert.NormMemFwd.equal, trivial, Cert.MemKv.equal, trivial, Cert.Merge.equal, trivial, Cert.OutNorm.equal,
    trivial, Cert.MemFwd.equal⟩

end Cert.Proof

end
